-- ==== Defs.lean ====
def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_KernelInIdeal_finite_in [hPre_finite_in : Cert.Pre_finite_in.Facts] (m : (ℓ : Loc Cert.KernelInIdeal.nD Cert.KernelInIdeal.τ Cert.KernelInIdeal.sig) → Buf (Elt Ideal) ℓ) : Prop :=
  ∀ c : Dev Cert.KernelInIdeal.nD,
    (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4))).1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4))).2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4))).2.2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4))).2.2.2 = (fun _ => 1#1)

def Pre_ReferenceInIdeal (m : (ℓ : Loc Cert.ReferenceInIdeal.nD Cert.ReferenceInIdeal.τ Cert.ReferenceInIdeal.sig) → Buf (Elt Ideal) ℓ) : Prop :=
  True

def Pre_ReferenceInIdeal_finite_in [hPre_finite_in : Cert.Pre_finite_in.Facts] (m : (ℓ : Loc Cert.ReferenceInIdeal.nD Cert.ReferenceInIdeal.τ Cert.ReferenceInIdeal.sig) → Buf (Elt Ideal) ℓ) : Prop :=
  ∀ c : Dev Cert.ReferenceInIdeal.nD,
    (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4))).1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4))).2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4))).2.2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4))).2.2.2 = (fun _ => 1#1)

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_KernelGateIdeal_finite_gate [hPre_finite_gate : Cert.Pre_finite_gate.Facts] (m : (ℓ : Loc Cert.KernelGateIdeal.nD Cert.KernelGateIdeal.τ Cert.KernelGateIdeal.sig) → Buf (Elt Ideal) ℓ) : Prop :=
  ∀ c : Dev Cert.KernelGateIdeal.nD,
    (Cert.Pre_finite_gate.fn (F := Ideal) (m ((c.tc : Thread Cert.KernelGateIdeal.nD Cert.KernelGateIdeal.τ).loc Cert.KernelGateIdeal.main_arg0)) (m ((c.tc : Thread Cert.KernelGateIdeal.nD Cert.KernelGateIdeal.τ).loc Cert.KernelGateIdeal.main_arg1)) (m ((c.tc : Thread Cert.KernelGateIdeal.nD Cert.KernelGateIdeal.τ).loc Cert.KernelGateIdeal.main_arg2))).1 = (fun _ => 1#1)
    ∧ (Cert.Pre_finite_gate.fn (F := Ideal) (m ((c.tc : Thread Cert.KernelGateIdeal.nD Cert.KernelGateIdeal.τ).loc Cert.KernelGateIdeal.main_arg0)) (m ((c.tc : Thread Cert.KernelGateIdeal.nD Cert.KernelGateIdeal.τ).loc Cert.KernelGateIdeal.main_arg1)) (m ((c.tc : Thread Cert.KernelGateIdeal.nD Cert.KernelGateIdeal.τ).loc Cert.KernelGateIdeal.main_arg2))).2.1 = (fun _ => 1#1)
    ∧ (Cert.Pre_finite_gate.fn (F := Ideal) (m ((c.tc : Thread Cert.KernelGateIdeal.nD Cert.KernelGateIdeal.τ).loc Cert.KernelGateIdeal.main_arg0)) (m ((c.tc : Thread Cert.KernelGateIdeal.nD Cert.KernelGateIdeal.τ).loc Cert.KernelGateIdeal.main_arg1)) (m ((c.tc : Thread Cert.KernelGateIdeal.nD Cert.KernelGateIdeal.τ).loc Cert.KernelGateIdeal.main_arg2))).2.2 = (fun _ => 1#1)

def Pre_ReferenceGateIdeal (m : (ℓ : Loc Cert.ReferenceGateIdeal.nD Cert.ReferenceGateIdeal.τ Cert.ReferenceGateIdeal.sig) → Buf (Elt Ideal) ℓ) : Prop :=
  True

def Pre_ReferenceGateIdeal_finite_gate [hPre_finite_gate : Cert.Pre_finite_gate.Facts] (m : (ℓ : Loc Cert.ReferenceGateIdeal.nD Cert.ReferenceGateIdeal.τ Cert.ReferenceGateIdeal.sig) → Buf (Elt Ideal) ℓ) : Prop :=
  ∀ c : Dev Cert.ReferenceGateIdeal.nD,
    (Cert.Pre_finite_gate.fn (F := Ideal) (m ((c.tc : Thread Cert.ReferenceGateIdeal.nD Cert.ReferenceGateIdeal.τ).loc Cert.ReferenceGateIdeal.main_arg0)) (m ((c.tc : Thread Cert.ReferenceGateIdeal.nD Cert.ReferenceGateIdeal.τ).loc Cert.ReferenceGateIdeal.main_arg1)) (m ((c.tc : Thread Cert.ReferenceGateIdeal.nD Cert.ReferenceGateIdeal.τ).loc Cert.ReferenceGateIdeal.main_arg2))).1 = (fun _ => 1#1)
    ∧ (Cert.Pre_finite_gate.fn (F := Ideal) (m ((c.tc : Thread Cert.ReferenceGateIdeal.nD Cert.ReferenceGateIdeal.τ).loc Cert.ReferenceGateIdeal.main_arg0)) (m ((c.tc : Thread Cert.ReferenceGateIdeal.nD Cert.ReferenceGateIdeal.τ).loc Cert.ReferenceGateIdeal.main_arg1)) (m ((c.tc : Thread Cert.ReferenceGateIdeal.nD Cert.ReferenceGateIdeal.τ).loc Cert.ReferenceGateIdeal.main_arg2))).2.1 = (fun _ => 1#1)
    ∧ (Cert.Pre_finite_gate.fn (F := Ideal) (m ((c.tc : Thread Cert.ReferenceGateIdeal.nD Cert.ReferenceGateIdeal.τ).loc Cert.ReferenceGateIdeal.main_arg0)) (m ((c.tc : Thread Cert.ReferenceGateIdeal.nD Cert.ReferenceGateIdeal.τ).loc Cert.ReferenceGateIdeal.main_arg1)) (m ((c.tc : Thread Cert.ReferenceGateIdeal.nD Cert.ReferenceGateIdeal.τ).loc Cert.ReferenceGateIdeal.main_arg2))).2.2 = (fun _ => 1#1)

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_KernelMidIdeal_finite_mid [hPre_finite_mid : Cert.Pre_finite_mid.Facts] (m : (ℓ : Loc Cert.KernelMidIdeal.nD Cert.KernelMidIdeal.τ Cert.KernelMidIdeal.sig) → Buf (Elt Ideal) ℓ) : Prop :=
  ∀ c : Dev Cert.KernelMidIdeal.nD,
    (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8))).1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8))).2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8))).2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8))).2.2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8))).2.2.2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8))).2.2.2.2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8))).2.2.2.2.2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8))).2.2.2.2.2.2.2.1 = (fun _ => 1#1)
    ∧ (Cert.Pre_finite_mid.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2)) (m ((c.tc : Thread Cert.KernelMidIdeal.nD Cert.KernelMidIdeal.τ).loc Cert.KernelMidIdeal.main_arg3)) (m ((c.tc : Thread Cert.KernelMidIdeal.nD Cert.KernelMidIdeal.τ).loc Cert.KernelMidIdeal.main_arg4)) (m ((c.tc : Thread Cert.KernelMidIdeal.nD Cert.KernelMidIdeal.τ).loc Cert.KernelMidIdeal.main_arg5)) (m ((c.tc : Thread Cert.KernelMidIdeal.nD Cert.KernelMidIdeal.τ).loc Cert.KernelMidIdeal.main_arg6)) (m ((c.tc : Thread Cert.KernelMidIdeal.nD Cert.KernelMidIdeal.τ).loc Cert.KernelMidIdeal.main_arg7)) (m ((c.tc : Thread Cert.KernelMidIdeal.nD Cert.KernelMidIdeal.τ).loc Cert.KernelMidIdeal.main_arg8))).2.2.2.2.2.2.2.2 = (fun _ => 1#1)

def Pre_ReferenceMidIdeal (m : (ℓ : Loc Cert.ReferenceMidIdeal.nD Cert.ReferenceMidIdeal.τ Cert.ReferenceMidIdeal.sig) → Buf (Elt Ideal) ℓ) : Prop :=
  True

def Pre_ReferenceMidIdeal_finite_mid [hPre_finite_mid : Cert.Pre_finite_mid.Facts] (m : (ℓ : Loc Cert.ReferenceMidIdeal.nD Cert.ReferenceMidIdeal.τ Cert.ReferenceMidIdeal.sig) → Buf (Elt Ideal) ℓ) : Prop :=
  ∀ c : Dev Cert.ReferenceMidIdeal.nD,
    (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8))).1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8))).2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8))).2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8))).2.2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8))).2.2.2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8))).2.2.2.2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8))).2.2.2.2.2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8))).2.2.2.2.2.2.2.1 = (fun _ => 1#1)
    ∧ (Cert.Pre_finite_mid.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2)) (m ((c.tc : Thread Cert.ReferenceMidIdeal.nD Cert.ReferenceMidIdeal.τ).loc Cert.ReferenceMidIdeal.main_arg3)) (m ((c.tc : Thread Cert.ReferenceMidIdeal.nD Cert.ReferenceMidIdeal.τ).loc Cert.ReferenceMidIdeal.main_arg4)) (m ((c.tc : Thread Cert.ReferenceMidIdeal.nD Cert.ReferenceMidIdeal.τ).loc Cert.ReferenceMidIdeal.main_arg5)) (m ((c.tc : Thread Cert.ReferenceMidIdeal.nD Cert.ReferenceMidIdeal.τ).loc Cert.ReferenceMidIdeal.main_arg6)) (m ((c.tc : Thread Cert.ReferenceMidIdeal.nD Cert.ReferenceMidIdeal.τ).loc Cert.ReferenceMidIdeal.main_arg7)) (m ((c.tc : Thread Cert.ReferenceMidIdeal.nD Cert.ReferenceMidIdeal.τ).loc Cert.ReferenceMidIdeal.main_arg8))).2.2.2.2.2.2.2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))).2.2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))).2.2.2.2 = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))).1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))).2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))).2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))).2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))).2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))).2.2.2.2.2 = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))).1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))).2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))).2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))).2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))).2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))).2.2.2.2.2 = (fun _ => 1#1)

def Pre_KernelFox (m : (ℓ : Loc Cert.KernelFox.nD Cert.KernelFox.τ Cert.KernelFox.sig) → Buf (Elt Bits) ℓ) : Prop :=
  True

def Pre_KernelFoxIdeal (m : (ℓ : Loc Cert.KernelFoxIdeal.nD Cert.KernelFoxIdeal.τ Cert.KernelFoxIdeal.sig) → Buf (Elt Ideal) ℓ) : Prop :=
  True

def Pre_KernelFmid (m : (ℓ : Loc Cert.KernelFmid.nD Cert.KernelFmid.τ Cert.KernelFmid.sig) → Buf (Elt Bits) ℓ) : Prop :=
  True

def Pre_KernelFmidIdeal (m : (ℓ : Loc Cert.KernelFmidIdeal.nD Cert.KernelFmidIdeal.τ Cert.KernelFmidIdeal.sig) → Buf (Elt Ideal) ℓ) : Prop :=
  True

def Pre_ReferenceFmidIdeal (m : (ℓ : Loc Cert.ReferenceFmidIdeal.nD Cert.ReferenceFmidIdeal.τ Cert.ReferenceFmidIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelFin (m : (ℓ : Loc Cert.KernelFin.nD Cert.KernelFin.τ Cert.KernelFin.sig) → Buf (Elt Bits) ℓ) : Prop :=
  True

def Pre_KernelFinIdeal (m : (ℓ : Loc Cert.KernelFinIdeal.nD Cert.KernelFinIdeal.τ Cert.KernelFinIdeal.sig) → Buf (Elt Ideal) ℓ) : Prop :=
  True

def Pre_KernelFinIdeal_finite_fin [hPre_finite_fin : Cert.Pre_finite_fin.Facts] (m : (ℓ : Loc Cert.KernelFinIdeal.nD Cert.KernelFinIdeal.τ Cert.KernelFinIdeal.sig) → Buf (Elt Ideal) ℓ) : Prop :=
  ∀ c : Dev Cert.KernelFinIdeal.nD,
    (Cert.Pre_finite_fin.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3))).1 = (fun _ => 1#1)
    ∧ (Cert.Pre_finite_fin.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3))).2.1 = (fun _ => 1#1)
    ∧ (Cert.Pre_finite_fin.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3))).2.2.1 = (fun _ => 1#1)
    ∧ (Cert.Pre_finite_fin.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3))).2.2.2 = (fun _ => 1#1)

def Pre_ReferenceFinIdeal (m : (ℓ : Loc Cert.ReferenceFinIdeal.nD Cert.ReferenceFinIdeal.τ Cert.ReferenceFinIdeal.sig) → Buf (Elt Ideal) ℓ) : Prop :=
  True

def Pre_ReferenceFinIdeal_finite_fin [hPre_finite_fin : Cert.Pre_finite_fin.Facts] (m : (ℓ : Loc Cert.ReferenceFinIdeal.nD Cert.ReferenceFinIdeal.τ Cert.ReferenceFinIdeal.sig) → Buf (Elt Ideal) ℓ) : Prop :=
  ∀ c : Dev Cert.ReferenceFinIdeal.nD,
    (Cert.Pre_finite_fin.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3))).1 = (fun _ => 1#1)
    ∧ (Cert.Pre_finite_fin.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3))).2.1 = (fun _ => 1#1)
    ∧ (Cert.Pre_finite_fin.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3))).2.2.1 = (fun _ => 1#1)
    ∧ (Cert.Pre_finite_fin.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3))).2.2.2 = (fun _ => 1#1)

def Pre_KernelCfwd (m : (ℓ : Loc Cert.KernelCfwd.nD Cert.KernelCfwd.τ Cert.KernelCfwd.sig) → Buf (Elt Bits) ℓ) : Prop :=
  True

def Pre_KernelCfwdIdeal (m : (ℓ : Loc Cert.KernelCfwdIdeal.nD Cert.KernelCfwdIdeal.τ Cert.KernelCfwdIdeal.sig) → Buf (Elt Ideal) ℓ) : Prop :=
  True

def Pre_ReferenceCfwdIdeal (m : (ℓ : Loc Cert.ReferenceCfwdIdeal.nD Cert.ReferenceCfwdIdeal.τ Cert.ReferenceCfwdIdeal.sig) → Buf (Elt Ideal) ℓ) : Prop :=
  True

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2)
      ∧ r.2.mem ((c.tc : Thread Cert.KernelMem.nD Cert.KernelMem.τ).loc Cert.KernelMem.main_arg3) = m ((c.tc : Thread Cert.KernelMem.nD Cert.KernelMem.τ).loc Cert.KernelMem.main_arg3)
      ∧ r.2.mem ((c.tc : Thread Cert.KernelMem.nD Cert.KernelMem.τ).loc Cert.KernelMem.main_arg4) = m ((c.tc : Thread Cert.KernelMem.nD Cert.KernelMem.τ).loc Cert.KernelMem.main_arg4))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
      ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3)
      ∧ r.2.mem ((c.tc : Thread Cert.KernelMemIdeal.nD Cert.KernelMemIdeal.τ).loc Cert.KernelMemIdeal.main_arg4) = m ((c.tc : Thread Cert.KernelMemIdeal.nD Cert.KernelMemIdeal.τ).loc Cert.KernelMemIdeal.main_arg4))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2)
      ∧ r.2.mem ((c.tc : Thread Cert.ReferenceMemIdeal.nD Cert.ReferenceMemIdeal.τ).loc Cert.ReferenceMemIdeal.main_arg3) = m ((c.tc : Thread Cert.ReferenceMemIdeal.nD Cert.ReferenceMemIdeal.τ).loc Cert.ReferenceMemIdeal.main_arg3)
      ∧ r.2.mem ((c.tc : Thread Cert.ReferenceMemIdeal.nD Cert.ReferenceMemIdeal.τ).loc Cert.ReferenceMemIdeal.main_arg4) = m ((c.tc : Thread Cert.ReferenceMemIdeal.nD Cert.ReferenceMemIdeal.τ).loc Cert.ReferenceMemIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_KernelInIdeal_pre_finite_in [hKernelInIdeal : Cert.KernelInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal_finite_in m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_ReferenceInIdeal_pre_finite_in [hReferenceInIdeal : Cert.ReferenceInIdeal.Facts] [hPre_finite_in : Cert.Pre_finite_in.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal_finite_in m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_KernelGateIdeal_pre_finite_gate [hKernelGateIdeal : Cert.KernelGateIdeal.Facts] [hPre_finite_gate : Cert.Pre_finite_gate.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal_finite_gate m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_ReferenceGateIdeal_pre_finite_gate [hReferenceGateIdeal : Cert.ReferenceGateIdeal.Facts] [hPre_finite_gate : Cert.Pre_finite_gate.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal_finite_gate m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5)
      ∧ r.2.mem ((c.tc : Thread Cert.KernelMid.nD Cert.KernelMid.τ).loc Cert.KernelMid.main_arg6) = m ((c.tc : Thread Cert.KernelMid.nD Cert.KernelMid.τ).loc Cert.KernelMid.main_arg6)
      ∧ r.2.mem ((c.tc : Thread Cert.KernelMid.nD Cert.KernelMid.τ).loc Cert.KernelMid.main_arg7) = m ((c.tc : Thread Cert.KernelMid.nD Cert.KernelMid.τ).loc Cert.KernelMid.main_arg7)
      ∧ r.2.mem ((c.tc : Thread Cert.KernelMid.nD Cert.KernelMid.τ).loc Cert.KernelMid.main_arg8) = m ((c.tc : Thread Cert.KernelMid.nD Cert.KernelMid.τ).loc Cert.KernelMid.main_arg8))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
      ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7)
      ∧ r.2.mem ((c.tc : Thread Cert.KernelMidIdeal.nD Cert.KernelMidIdeal.τ).loc Cert.KernelMidIdeal.main_arg8) = m ((c.tc : Thread Cert.KernelMidIdeal.nD Cert.KernelMidIdeal.τ).loc Cert.KernelMidIdeal.main_arg8))
      ∧ r.2.sem = fun _ => 0)

def quiescent_KernelMidIdeal_pre_finite_mid [hKernelMidIdeal : Cert.KernelMidIdeal.Facts] [hPre_finite_mid : Cert.Pre_finite_mid.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal_finite_mid m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
      ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7)
      ∧ r.2.mem ((c.tc : Thread Cert.KernelMidIdeal.nD Cert.KernelMidIdeal.τ).loc Cert.KernelMidIdeal.main_arg8) = m ((c.tc : Thread Cert.KernelMidIdeal.nD Cert.KernelMidIdeal.τ).loc Cert.KernelMidIdeal.main_arg8))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6)
      ∧ r.2.mem ((c.tc : Thread Cert.ReferenceMidIdeal.nD Cert.ReferenceMidIdeal.τ).loc Cert.ReferenceMidIdeal.main_arg7) = m ((c.tc : Thread Cert.ReferenceMidIdeal.nD Cert.ReferenceMidIdeal.τ).loc Cert.ReferenceMidIdeal.main_arg7)
      ∧ r.2.mem ((c.tc : Thread Cert.ReferenceMidIdeal.nD Cert.ReferenceMidIdeal.τ).loc Cert.ReferenceMidIdeal.main_arg8) = m ((c.tc : Thread Cert.ReferenceMidIdeal.nD Cert.ReferenceMidIdeal.τ).loc Cert.ReferenceMidIdeal.main_arg8))
      ∧ r.2.sem = fun _ => 0)

def quiescent_ReferenceMidIdeal_pre_finite_mid [hReferenceMidIdeal : Cert.ReferenceMidIdeal.Facts] [hPre_finite_mid : Cert.Pre_finite_mid.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal_finite_mid m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6)
      ∧ r.2.mem ((c.tc : Thread Cert.ReferenceMidIdeal.nD Cert.ReferenceMidIdeal.τ).loc Cert.ReferenceMidIdeal.main_arg7) = m ((c.tc : Thread Cert.ReferenceMidIdeal.nD Cert.ReferenceMidIdeal.τ).loc Cert.ReferenceMidIdeal.main_arg7)
      ∧ r.2.mem ((c.tc : Thread Cert.ReferenceMidIdeal.nD Cert.ReferenceMidIdeal.τ).loc Cert.ReferenceMidIdeal.main_arg8) = m ((c.tc : Thread Cert.ReferenceMidIdeal.nD Cert.ReferenceMidIdeal.τ).loc Cert.ReferenceMidIdeal.main_arg8))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4)
      ∧ r.2.mem ((c.tc : Thread Cert.KernelLoss.nD Cert.KernelLoss.τ).loc Cert.KernelLoss.main_arg5) = m ((c.tc : Thread Cert.KernelLoss.nD Cert.KernelLoss.τ).loc Cert.KernelLoss.main_arg5))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5))
      ∧ r.2.sem = fun _ => 0)

def quiescent_KernelFox [hKernelFox : Cert.KernelFox.Facts] : Prop :=
  ∀ (m : (ℓ : Loc Cert.KernelFox.nD Cert.KernelFox.τ Cert.KernelFox.sig) → Buf (Elt Bits) ℓ) (g : Dev Cert.KernelFox.nD → PrngReg), Pre_KernelFox m →
    θ_run (Cert.KernelFox.defs (F := Bits)) (onTc (τ := Cert.KernelFox.τ) (Cert.KernelFox.main (F := Bits))) ⟨m, fun _ => 0, g⟩ (fun r => (∀ c : Dev Cert.KernelFox.nD,
      r.2.mem ((c.tc : Thread Cert.KernelFox.nD Cert.KernelFox.τ).loc Cert.KernelFox.main_arg0) = m ((c.tc : Thread Cert.KernelFox.nD Cert.KernelFox.τ).loc Cert.KernelFox.main_arg0)
      ∧ r.2.mem ((c.tc : Thread Cert.KernelFox.nD Cert.KernelFox.τ).loc Cert.KernelFox.main_arg1) = m ((c.tc : Thread Cert.KernelFox.nD Cert.KernelFox.τ).loc Cert.KernelFox.main_arg1)
      ∧ r.2.mem ((c.tc : Thread Cert.KernelFox.nD Cert.KernelFox.τ).loc Cert.KernelFox.main_arg2) = m ((c.tc : Thread Cert.KernelFox.nD Cert.KernelFox.τ).loc Cert.KernelFox.main_arg2)
      ∧ r.2.mem ((c.tc : Thread Cert.KernelFox.nD Cert.KernelFox.τ).loc Cert.KernelFox.main_arg3) = m ((c.tc : Thread Cert.KernelFox.nD Cert.KernelFox.τ).loc Cert.KernelFox.main_arg3)
      ∧ r.2.mem ((c.tc : Thread Cert.KernelFox.nD Cert.KernelFox.τ).loc Cert.KernelFox.main_arg4) = m ((c.tc : Thread Cert.KernelFox.nD Cert.KernelFox.τ).loc Cert.KernelFox.main_arg4))
      ∧ r.2.sem = fun _ => 0)

def quiescent_KernelFoxIdeal [hKernelFoxIdeal : Cert.KernelFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
      ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
      ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4))
      ∧ r.2.sem = fun _ => 0)

def quiescent_KernelFmid [hKernelFmid : Cert.KernelFmid.Facts] : Prop :=
  ∀ (m : (ℓ : Loc Cert.KernelFmid.nD Cert.KernelFmid.τ Cert.KernelFmid.sig) → Buf (Elt Bits) ℓ) (g : Dev Cert.KernelFmid.nD → PrngReg), Pre_KernelFmid m →
    θ_run (Cert.KernelFmid.defs (F := Bits)) (onTc (τ := Cert.KernelFmid.τ) (Cert.KernelFmid.main (F := Bits))) ⟨m, fun _ => 0, g⟩ (fun r => (∀ c : Dev Cert.KernelFmid.nD,
      r.2.mem ((c.tc : Thread Cert.KernelFmid.nD Cert.KernelFmid.τ).loc Cert.KernelFmid.main_arg0) = m ((c.tc : Thread Cert.KernelFmid.nD Cert.KernelFmid.τ).loc Cert.KernelFmid.main_arg0)
      ∧ r.2.mem ((c.tc : Thread Cert.KernelFmid.nD Cert.KernelFmid.τ).loc Cert.KernelFmid.main_arg1) = m ((c.tc : Thread Cert.KernelFmid.nD Cert.KernelFmid.τ).loc Cert.KernelFmid.main_arg1)
      ∧ r.2.mem ((c.tc : Thread Cert.KernelFmid.nD Cert.KernelFmid.τ).loc Cert.KernelFmid.main_arg2) = m ((c.tc : Thread Cert.KernelFmid.nD Cert.KernelFmid.τ).loc Cert.KernelFmid.main_arg2)
      ∧ r.2.mem ((c.tc : Thread Cert.KernelFmid.nD Cert.KernelFmid.τ).loc Cert.KernelFmid.main_arg3) = m ((c.tc : Thread Cert.KernelFmid.nD Cert.KernelFmid.τ).loc Cert.KernelFmid.main_arg3)
      ∧ r.2.mem ((c.tc : Thread Cert.KernelFmid.nD Cert.KernelFmid.τ).loc Cert.KernelFmid.main_arg4) = m ((c.tc : Thread Cert.KernelFmid.nD Cert.KernelFmid.τ).loc Cert.KernelFmid.main_arg4)
      ∧ r.2.mem ((c.tc : Thread Cert.KernelFmid.nD Cert.KernelFmid.τ).loc Cert.KernelFmid.main_arg5) = m ((c.tc : Thread Cert.KernelFmid.nD Cert.KernelFmid.τ).loc Cert.KernelFmid.main_arg5)
      ∧ r.2.mem ((c.tc : Thread Cert.KernelFmid.nD Cert.KernelFmid.τ).loc Cert.KernelFmid.main_arg6) = m ((c.tc : Thread Cert.KernelFmid.nD Cert.KernelFmid.τ).loc Cert.KernelFmid.main_arg6)
      ∧ r.2.mem ((c.tc : Thread Cert.KernelFmid.nD Cert.KernelFmid.τ).loc Cert.KernelFmid.main_arg7) = m ((c.tc : Thread Cert.KernelFmid.nD Cert.KernelFmid.τ).loc Cert.KernelFmid.main_arg7)
      ∧ r.2.mem ((c.tc : Thread Cert.KernelFmid.nD Cert.KernelFmid.τ).loc Cert.KernelFmid.main_arg8) = m ((c.tc : Thread Cert.KernelFmid.nD Cert.KernelFmid.τ).loc Cert.KernelFmid.main_arg8))
      ∧ r.2.sem = fun _ => 0)

def quiescent_KernelFmidIdeal [hKernelFmidIdeal : Cert.KernelFmidIdeal.Facts] : Prop :=
  ∀ (m : (ℓ : Loc Cert.KernelFmidIdeal.nD Cert.KernelFmidIdeal.τ Cert.KernelFmidIdeal.sig) → Buf (Elt Ideal) ℓ) (g : Dev Cert.KernelFmidIdeal.nD → PrngReg), Pre_KernelFmidIdeal m →
    θ_run (Cert.KernelFmidIdeal.defs (F := Ideal)) (onTc (τ := Cert.KernelFmidIdeal.τ) (Cert.KernelFmidIdeal.main (F := Ideal))) ⟨m, fun _ => 0, g⟩ (fun r => (∀ c : Dev Cert.KernelFmidIdeal.nD,
      r.2.mem ((c.tc : Thread Cert.KernelFmidIdeal.nD Cert.KernelFmidIdeal.τ).loc Cert.KernelFmidIdeal.main_arg0) = m ((c.tc : Thread Cert.KernelFmidIdeal.nD Cert.KernelFmidIdeal.τ).loc Cert.KernelFmidIdeal.main_arg0)
      ∧ r.2.mem ((c.tc : Thread Cert.KernelFmidIdeal.nD Cert.KernelFmidIdeal.τ).loc Cert.KernelFmidIdeal.main_arg1) = m ((c.tc : Thread Cert.KernelFmidIdeal.nD Cert.KernelFmidIdeal.τ).loc Cert.KernelFmidIdeal.main_arg1)
      ∧ r.2.mem ((c.tc : Thread Cert.KernelFmidIdeal.nD Cert.KernelFmidIdeal.τ).loc Cert.KernelFmidIdeal.main_arg2) = m ((c.tc : Thread Cert.KernelFmidIdeal.nD Cert.KernelFmidIdeal.τ).loc Cert.KernelFmidIdeal.main_arg2)
      ∧ r.2.mem ((c.tc : Thread Cert.KernelFmidIdeal.nD Cert.KernelFmidIdeal.τ).loc Cert.KernelFmidIdeal.main_arg3) = m ((c.tc : Thread Cert.KernelFmidIdeal.nD Cert.KernelFmidIdeal.τ).loc Cert.KernelFmidIdeal.main_arg3)
      ∧ r.2.mem ((c.tc : Thread Cert.KernelFmidIdeal.nD Cert.KernelFmidIdeal.τ).loc Cert.KernelFmidIdeal.main_arg4) = m ((c.tc : Thread Cert.KernelFmidIdeal.nD Cert.KernelFmidIdeal.τ).loc Cert.KernelFmidIdeal.main_arg4)
      ∧ r.2.mem ((c.tc : Thread Cert.KernelFmidIdeal.nD Cert.KernelFmidIdeal.τ).loc Cert.KernelFmidIdeal.main_arg5) = m ((c.tc : Thread Cert.KernelFmidIdeal.nD Cert.KernelFmidIdeal.τ).loc Cert.KernelFmidIdeal.main_arg5)
      ∧ r.2.mem ((c.tc : Thread Cert.KernelFmidIdeal.nD Cert.KernelFmidIdeal.τ).loc Cert.KernelFmidIdeal.main_arg6) = m ((c.tc : Thread Cert.KernelFmidIdeal.nD Cert.KernelFmidIdeal.τ).loc Cert.KernelFmidIdeal.main_arg6)
      ∧ r.2.mem ((c.tc : Thread Cert.KernelFmidIdeal.nD Cert.KernelFmidIdeal.τ).loc Cert.KernelFmidIdeal.main_arg7) = m ((c.tc : Thread Cert.KernelFmidIdeal.nD Cert.KernelFmidIdeal.τ).loc Cert.KernelFmidIdeal.main_arg7)
      ∧ r.2.mem ((c.tc : Thread Cert.KernelFmidIdeal.nD Cert.KernelFmidIdeal.τ).loc Cert.KernelFmidIdeal.main_arg8) = m ((c.tc : Thread Cert.KernelFmidIdeal.nD Cert.KernelFmidIdeal.τ).loc Cert.KernelFmidIdeal.main_arg8))
      ∧ r.2.sem = fun _ => 0)

def quiescent_ReferenceFmidIdeal [hReferenceFmidIdeal : Cert.ReferenceFmidIdeal.Facts] : Prop :=
  ∀ (m : (ℓ : Loc Cert.ReferenceFmidIdeal.nD Cert.ReferenceFmidIdeal.τ Cert.ReferenceFmidIdeal.sig) → Buf (Elt Ideal) ℓ) (g : Dev Cert.ReferenceFmidIdeal.nD → PrngReg), Pre_ReferenceFmidIdeal m →
    θ_run (Cert.ReferenceFmidIdeal.defs (F := Ideal)) (onTc (τ := Cert.ReferenceFmidIdeal.τ) (Cert.ReferenceFmidIdeal.main (F := Ideal))) ⟨m, fun _ => 0, g⟩ (fun r => (∀ c : Dev Cert.ReferenceFmidIdeal.nD,
      r.2.mem ((c.tc : Thread Cert.ReferenceFmidIdeal.nD Cert.ReferenceFmidIdeal.τ).loc Cert.ReferenceFmidIdeal.main_arg0) = m ((c.tc : Thread Cert.ReferenceFmidIdeal.nD Cert.ReferenceFmidIdeal.τ).loc Cert.ReferenceFmidIdeal.main_arg0)
      ∧ r.2.mem ((c.tc : Thread Cert.ReferenceFmidIdeal.nD Cert.ReferenceFmidIdeal.τ).loc Cert.ReferenceFmidIdeal.main_arg1) = m ((c.tc : Thread Cert.ReferenceFmidIdeal.nD Cert.ReferenceFmidIdeal.τ).loc Cert.ReferenceFmidIdeal.main_arg1)
      ∧ r.2.mem ((c.tc : Thread Cert.ReferenceFmidIdeal.nD Cert.ReferenceFmidIdeal.τ).loc Cert.ReferenceFmidIdeal.main_arg2) = m ((c.tc : Thread Cert.ReferenceFmidIdeal.nD Cert.ReferenceFmidIdeal.τ).loc Cert.ReferenceFmidIdeal.main_arg2)
      ∧ r.2.mem ((c.tc : Thread Cert.ReferenceFmidIdeal.nD Cert.ReferenceFmidIdeal.τ).loc Cert.ReferenceFmidIdeal.main_arg3) = m ((c.tc : Thread Cert.ReferenceFmidIdeal.nD Cert.ReferenceFmidIdeal.τ).loc Cert.ReferenceFmidIdeal.main_arg3)
      ∧ r.2.mem ((c.tc : Thread Cert.ReferenceFmidIdeal.nD Cert.ReferenceFmidIdeal.τ).loc Cert.ReferenceFmidIdeal.main_arg4) = m ((c.tc : Thread Cert.ReferenceFmidIdeal.nD Cert.ReferenceFmidIdeal.τ).loc Cert.ReferenceFmidIdeal.main_arg4)
      ∧ r.2.mem ((c.tc : Thread Cert.ReferenceFmidIdeal.nD Cert.ReferenceFmidIdeal.τ).loc Cert.ReferenceFmidIdeal.main_arg5) = m ((c.tc : Thread Cert.ReferenceFmidIdeal.nD Cert.ReferenceFmidIdeal.τ).loc Cert.ReferenceFmidIdeal.main_arg5)
      ∧ r.2.mem ((c.tc : Thread Cert.ReferenceFmidIdeal.nD Cert.ReferenceFmidIdeal.τ).loc Cert.ReferenceFmidIdeal.main_arg6) = m ((c.tc : Thread Cert.ReferenceFmidIdeal.nD Cert.ReferenceFmidIdeal.τ).loc Cert.ReferenceFmidIdeal.main_arg6)
      ∧ r.2.mem ((c.tc : Thread Cert.ReferenceFmidIdeal.nD Cert.ReferenceFmidIdeal.τ).loc Cert.ReferenceFmidIdeal.main_arg7) = m ((c.tc : Thread Cert.ReferenceFmidIdeal.nD Cert.ReferenceFmidIdeal.τ).loc Cert.ReferenceFmidIdeal.main_arg7)
      ∧ r.2.mem ((c.tc : Thread Cert.ReferenceFmidIdeal.nD Cert.ReferenceFmidIdeal.τ).loc Cert.ReferenceFmidIdeal.main_arg8) = m ((c.tc : Thread Cert.ReferenceFmidIdeal.nD Cert.ReferenceFmidIdeal.τ).loc Cert.ReferenceFmidIdeal.main_arg8))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2))
      ∧ r.2.sem = fun _ => 0)

def quiescent_KernelFin [hKernelFin : Cert.KernelFin.Facts] : Prop :=
  ∀ (m : (ℓ : Loc Cert.KernelFin.nD Cert.KernelFin.τ Cert.KernelFin.sig) → Buf (Elt Bits) ℓ) (g : Dev Cert.KernelFin.nD → PrngReg), Pre_KernelFin m →
    θ_run (Cert.KernelFin.defs (F := Bits)) (onTc (τ := Cert.KernelFin.τ) (Cert.KernelFin.main (F := Bits))) ⟨m, fun _ => 0, g⟩ (fun r => (∀ c : Dev Cert.KernelFin.nD,
      r.2.mem ((c.tc : Thread Cert.KernelFin.nD Cert.KernelFin.τ).loc Cert.KernelFin.main_arg0) = m ((c.tc : Thread Cert.KernelFin.nD Cert.KernelFin.τ).loc Cert.KernelFin.main_arg0)
      ∧ r.2.mem ((c.tc : Thread Cert.KernelFin.nD Cert.KernelFin.τ).loc Cert.KernelFin.main_arg1) = m ((c.tc : Thread Cert.KernelFin.nD Cert.KernelFin.τ).loc Cert.KernelFin.main_arg1)
      ∧ r.2.mem ((c.tc : Thread Cert.KernelFin.nD Cert.KernelFin.τ).loc Cert.KernelFin.main_arg2) = m ((c.tc : Thread Cert.KernelFin.nD Cert.KernelFin.τ).loc Cert.KernelFin.main_arg2)
      ∧ r.2.mem ((c.tc : Thread Cert.KernelFin.nD Cert.KernelFin.τ).loc Cert.KernelFin.main_arg3) = m ((c.tc : Thread Cert.KernelFin.nD Cert.KernelFin.τ).loc Cert.KernelFin.main_arg3))
      ∧ r.2.sem = fun _ => 0)

def quiescent_KernelFinIdeal [hKernelFinIdeal : Cert.KernelFinIdeal.Facts] : Prop :=
  ∀ (m : (ℓ : Loc Cert.KernelFinIdeal.nD Cert.KernelFinIdeal.τ Cert.KernelFinIdeal.sig) → Buf (Elt Ideal) ℓ) (g : Dev Cert.KernelFinIdeal.nD → PrngReg), Pre_KernelFinIdeal m →
    θ_run (Cert.KernelFinIdeal.defs (F := Ideal)) (onTc (τ := Cert.KernelFinIdeal.τ) (Cert.KernelFinIdeal.main (F := Ideal))) ⟨m, fun _ => 0, g⟩ (fun r => (∀ c : Dev Cert.KernelFinIdeal.nD,
      r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
      ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1)
      ∧ r.2.mem ((c.tc : Thread Cert.KernelFinIdeal.nD Cert.KernelFinIdeal.τ).loc Cert.KernelFinIdeal.main_arg2) = m ((c.tc : Thread Cert.KernelFinIdeal.nD Cert.KernelFinIdeal.τ).loc Cert.KernelFinIdeal.main_arg2)
      ∧ r.2.mem ((c.tc : Thread Cert.KernelFinIdeal.nD Cert.KernelFinIdeal.τ).loc Cert.KernelFinIdeal.main_arg3) = m ((c.tc : Thread Cert.KernelFinIdeal.nD Cert.KernelFinIdeal.τ).loc Cert.KernelFinIdeal.main_arg3))
      ∧ r.2.sem = fun _ => 0)

def quiescent_KernelFinIdeal_pre_finite_fin [hKernelFinIdeal : Cert.KernelFinIdeal.Facts] [hPre_finite_fin : Cert.Pre_finite_fin.Facts] : Prop :=
  ∀ (m : (ℓ : Loc Cert.KernelFinIdeal.nD Cert.KernelFinIdeal.τ Cert.KernelFinIdeal.sig) → Buf (Elt Ideal) ℓ) (g : Dev Cert.KernelFinIdeal.nD → PrngReg), Pre_KernelFinIdeal_finite_fin m →
    θ_run (Cert.KernelFinIdeal.defs (F := Ideal)) (onTc (τ := Cert.KernelFinIdeal.τ) (Cert.KernelFinIdeal.main (F := Ideal))) ⟨m, fun _ => 0, g⟩ (fun r => (∀ c : Dev Cert.KernelFinIdeal.nD,
      r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
      ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1)
      ∧ r.2.mem ((c.tc : Thread Cert.KernelFinIdeal.nD Cert.KernelFinIdeal.τ).loc Cert.KernelFinIdeal.main_arg2) = m ((c.tc : Thread Cert.KernelFinIdeal.nD Cert.KernelFinIdeal.τ).loc Cert.KernelFinIdeal.main_arg2)
      ∧ r.2.mem ((c.tc : Thread Cert.KernelFinIdeal.nD Cert.KernelFinIdeal.τ).loc Cert.KernelFinIdeal.main_arg3) = m ((c.tc : Thread Cert.KernelFinIdeal.nD Cert.KernelFinIdeal.τ).loc Cert.KernelFinIdeal.main_arg3))
      ∧ r.2.sem = fun _ => 0)

def quiescent_ReferenceFinIdeal [hReferenceFinIdeal : Cert.ReferenceFinIdeal.Facts] : Prop :=
  ∀ (m : (ℓ : Loc Cert.ReferenceFinIdeal.nD Cert.ReferenceFinIdeal.τ Cert.ReferenceFinIdeal.sig) → Buf (Elt Ideal) ℓ) (g : Dev Cert.ReferenceFinIdeal.nD → PrngReg), Pre_ReferenceFinIdeal m →
    θ_run (Cert.ReferenceFinIdeal.defs (F := Ideal)) (onTc (τ := Cert.ReferenceFinIdeal.τ) (Cert.ReferenceFinIdeal.main (F := Ideal))) ⟨m, fun _ => 0, g⟩ (fun r => (∀ c : Dev Cert.ReferenceFinIdeal.nD,
      r.2.mem ((c.tc : Thread Cert.ReferenceFinIdeal.nD Cert.ReferenceFinIdeal.τ).loc Cert.ReferenceFinIdeal.main_arg0) = m ((c.tc : Thread Cert.ReferenceFinIdeal.nD Cert.ReferenceFinIdeal.τ).loc Cert.ReferenceFinIdeal.main_arg0)
      ∧ r.2.mem ((c.tc : Thread Cert.ReferenceFinIdeal.nD Cert.ReferenceFinIdeal.τ).loc Cert.ReferenceFinIdeal.main_arg1) = m ((c.tc : Thread Cert.ReferenceFinIdeal.nD Cert.ReferenceFinIdeal.τ).loc Cert.ReferenceFinIdeal.main_arg1)
      ∧ r.2.mem ((c.tc : Thread Cert.ReferenceFinIdeal.nD Cert.ReferenceFinIdeal.τ).loc Cert.ReferenceFinIdeal.main_arg2) = m ((c.tc : Thread Cert.ReferenceFinIdeal.nD Cert.ReferenceFinIdeal.τ).loc Cert.ReferenceFinIdeal.main_arg2)
      ∧ r.2.mem ((c.tc : Thread Cert.ReferenceFinIdeal.nD Cert.ReferenceFinIdeal.τ).loc Cert.ReferenceFinIdeal.main_arg3) = m ((c.tc : Thread Cert.ReferenceFinIdeal.nD Cert.ReferenceFinIdeal.τ).loc Cert.ReferenceFinIdeal.main_arg3))
      ∧ r.2.sem = fun _ => 0)

def quiescent_ReferenceFinIdeal_pre_finite_fin [hReferenceFinIdeal : Cert.ReferenceFinIdeal.Facts] [hPre_finite_fin : Cert.Pre_finite_fin.Facts] : Prop :=
  ∀ (m : (ℓ : Loc Cert.ReferenceFinIdeal.nD Cert.ReferenceFinIdeal.τ Cert.ReferenceFinIdeal.sig) → Buf (Elt Ideal) ℓ) (g : Dev Cert.ReferenceFinIdeal.nD → PrngReg), Pre_ReferenceFinIdeal_finite_fin m →
    θ_run (Cert.ReferenceFinIdeal.defs (F := Ideal)) (onTc (τ := Cert.ReferenceFinIdeal.τ) (Cert.ReferenceFinIdeal.main (F := Ideal))) ⟨m, fun _ => 0, g⟩ (fun r => (∀ c : Dev Cert.ReferenceFinIdeal.nD,
      r.2.mem ((c.tc : Thread Cert.ReferenceFinIdeal.nD Cert.ReferenceFinIdeal.τ).loc Cert.ReferenceFinIdeal.main_arg0) = m ((c.tc : Thread Cert.ReferenceFinIdeal.nD Cert.ReferenceFinIdeal.τ).loc Cert.ReferenceFinIdeal.main_arg0)
      ∧ r.2.mem ((c.tc : Thread Cert.ReferenceFinIdeal.nD Cert.ReferenceFinIdeal.τ).loc Cert.ReferenceFinIdeal.main_arg1) = m ((c.tc : Thread Cert.ReferenceFinIdeal.nD Cert.ReferenceFinIdeal.τ).loc Cert.ReferenceFinIdeal.main_arg1)
      ∧ r.2.mem ((c.tc : Thread Cert.ReferenceFinIdeal.nD Cert.ReferenceFinIdeal.τ).loc Cert.ReferenceFinIdeal.main_arg2) = m ((c.tc : Thread Cert.ReferenceFinIdeal.nD Cert.ReferenceFinIdeal.τ).loc Cert.ReferenceFinIdeal.main_arg2)
      ∧ r.2.mem ((c.tc : Thread Cert.ReferenceFinIdeal.nD Cert.ReferenceFinIdeal.τ).loc Cert.ReferenceFinIdeal.main_arg3) = m ((c.tc : Thread Cert.ReferenceFinIdeal.nD Cert.ReferenceFinIdeal.τ).loc Cert.ReferenceFinIdeal.main_arg3))
      ∧ r.2.sem = fun _ => 0)

def quiescent_KernelCfwd [hKernelCfwd : Cert.KernelCfwd.Facts] : Prop :=
  ∀ (m : (ℓ : Loc Cert.KernelCfwd.nD Cert.KernelCfwd.τ Cert.KernelCfwd.sig) → Buf (Elt Bits) ℓ) (g : Dev Cert.KernelCfwd.nD → PrngReg), Pre_KernelCfwd m →
    θ_run (Cert.KernelCfwd.defs (F := Bits)) (onTc (τ := Cert.KernelCfwd.τ) (Cert.KernelCfwd.main (F := Bits))) ⟨m, fun _ => 0, g⟩ (fun r => (∀ c : Dev Cert.KernelCfwd.nD,
      r.2.mem ((c.tc : Thread Cert.KernelCfwd.nD Cert.KernelCfwd.τ).loc Cert.KernelCfwd.main_arg0) = m ((c.tc : Thread Cert.KernelCfwd.nD Cert.KernelCfwd.τ).loc Cert.KernelCfwd.main_arg0)
      ∧ r.2.mem ((c.tc : Thread Cert.KernelCfwd.nD Cert.KernelCfwd.τ).loc Cert.KernelCfwd.main_arg1) = m ((c.tc : Thread Cert.KernelCfwd.nD Cert.KernelCfwd.τ).loc Cert.KernelCfwd.main_arg1)
      ∧ r.2.mem ((c.tc : Thread Cert.KernelCfwd.nD Cert.KernelCfwd.τ).loc Cert.KernelCfwd.main_arg2) = m ((c.tc : Thread Cert.KernelCfwd.nD Cert.KernelCfwd.τ).loc Cert.KernelCfwd.main_arg2)
      ∧ r.2.mem ((c.tc : Thread Cert.KernelCfwd.nD Cert.KernelCfwd.τ).loc Cert.KernelCfwd.main_arg3) = m ((c.tc : Thread Cert.KernelCfwd.nD Cert.KernelCfwd.τ).loc Cert.KernelCfwd.main_arg3)
      ∧ r.2.mem ((c.tc : Thread Cert.KernelCfwd.nD Cert.KernelCfwd.τ).loc Cert.KernelCfwd.main_arg4) = m ((c.tc : Thread Cert.KernelCfwd.nD Cert.KernelCfwd.τ).loc Cert.KernelCfwd.main_arg4)
      ∧ r.2.mem ((c.tc : Thread Cert.KernelCfwd.nD Cert.KernelCfwd.τ).loc Cert.KernelCfwd.main_arg5) = m ((c.tc : Thread Cert.KernelCfwd.nD Cert.KernelCfwd.τ).loc Cert.KernelCfwd.main_arg5))
      ∧ r.2.sem = fun _ => 0)

def quiescent_KernelCfwdIdeal [hKernelCfwdIdeal : Cert.KernelCfwdIdeal.Facts] : Prop :=
  ∀ (m : (ℓ : Loc Cert.KernelCfwdIdeal.nD Cert.KernelCfwdIdeal.τ Cert.KernelCfwdIdeal.sig) → Buf (Elt Ideal) ℓ) (g : Dev Cert.KernelCfwdIdeal.nD → PrngReg), Pre_KernelCfwdIdeal m →
    θ_run (Cert.KernelCfwdIdeal.defs (F := Ideal)) (onTc (τ := Cert.KernelCfwdIdeal.τ) (Cert.KernelCfwdIdeal.main (F := Ideal))) ⟨m, fun _ => 0, g⟩ (fun r => (∀ c : Dev Cert.KernelCfwdIdeal.nD,
      r.2.mem ((c.tc : Thread Cert.KernelCfwdIdeal.nD Cert.KernelCfwdIdeal.τ).loc Cert.KernelCfwdIdeal.main_arg0) = m ((c.tc : Thread Cert.KernelCfwdIdeal.nD Cert.KernelCfwdIdeal.τ).loc Cert.KernelCfwdIdeal.main_arg0)
      ∧ r.2.mem ((c.tc : Thread Cert.KernelCfwdIdeal.nD Cert.KernelCfwdIdeal.τ).loc Cert.KernelCfwdIdeal.main_arg1) = m ((c.tc : Thread Cert.KernelCfwdIdeal.nD Cert.KernelCfwdIdeal.τ).loc Cert.KernelCfwdIdeal.main_arg1)
      ∧ r.2.mem ((c.tc : Thread Cert.KernelCfwdIdeal.nD Cert.KernelCfwdIdeal.τ).loc Cert.KernelCfwdIdeal.main_arg2) = m ((c.tc : Thread Cert.KernelCfwdIdeal.nD Cert.KernelCfwdIdeal.τ).loc Cert.KernelCfwdIdeal.main_arg2)
      ∧ r.2.mem ((c.tc : Thread Cert.KernelCfwdIdeal.nD Cert.KernelCfwdIdeal.τ).loc Cert.KernelCfwdIdeal.main_arg3) = m ((c.tc : Thread Cert.KernelCfwdIdeal.nD Cert.KernelCfwdIdeal.τ).loc Cert.KernelCfwdIdeal.main_arg3)
      ∧ r.2.mem ((c.tc : Thread Cert.KernelCfwdIdeal.nD Cert.KernelCfwdIdeal.τ).loc Cert.KernelCfwdIdeal.main_arg4) = m ((c.tc : Thread Cert.KernelCfwdIdeal.nD Cert.KernelCfwdIdeal.τ).loc Cert.KernelCfwdIdeal.main_arg4)
      ∧ r.2.mem ((c.tc : Thread Cert.KernelCfwdIdeal.nD Cert.KernelCfwdIdeal.τ).loc Cert.KernelCfwdIdeal.main_arg5) = m ((c.tc : Thread Cert.KernelCfwdIdeal.nD Cert.KernelCfwdIdeal.τ).loc Cert.KernelCfwdIdeal.main_arg5))
      ∧ r.2.sem = fun _ => 0)

def quiescent_ReferenceCfwdIdeal [hReferenceCfwdIdeal : Cert.ReferenceCfwdIdeal.Facts] : Prop :=
  ∀ (m : (ℓ : Loc Cert.ReferenceCfwdIdeal.nD Cert.ReferenceCfwdIdeal.τ Cert.ReferenceCfwdIdeal.sig) → Buf (Elt Ideal) ℓ) (g : Dev Cert.ReferenceCfwdIdeal.nD → PrngReg), Pre_ReferenceCfwdIdeal m →
    θ_run (Cert.ReferenceCfwdIdeal.defs (F := Ideal)) (onTc (τ := Cert.ReferenceCfwdIdeal.τ) (Cert.ReferenceCfwdIdeal.main (F := Ideal))) ⟨m, fun _ => 0, g⟩ (fun r => (∀ c : Dev Cert.ReferenceCfwdIdeal.nD,
      r.2.mem ((c.tc : Thread Cert.ReferenceCfwdIdeal.nD Cert.ReferenceCfwdIdeal.τ).loc Cert.ReferenceCfwdIdeal.main_arg0) = m ((c.tc : Thread Cert.ReferenceCfwdIdeal.nD Cert.ReferenceCfwdIdeal.τ).loc Cert.ReferenceCfwdIdeal.main_arg0)
      ∧ r.2.mem ((c.tc : Thread Cert.ReferenceCfwdIdeal.nD Cert.ReferenceCfwdIdeal.τ).loc Cert.ReferenceCfwdIdeal.main_arg1) = m ((c.tc : Thread Cert.ReferenceCfwdIdeal.nD Cert.ReferenceCfwdIdeal.τ).loc Cert.ReferenceCfwdIdeal.main_arg1)
      ∧ r.2.mem ((c.tc : Thread Cert.ReferenceCfwdIdeal.nD Cert.ReferenceCfwdIdeal.τ).loc Cert.ReferenceCfwdIdeal.main_arg2) = m ((c.tc : Thread Cert.ReferenceCfwdIdeal.nD Cert.ReferenceCfwdIdeal.τ).loc Cert.ReferenceCfwdIdeal.main_arg2)
      ∧ r.2.mem ((c.tc : Thread Cert.ReferenceCfwdIdeal.nD Cert.ReferenceCfwdIdeal.τ).loc Cert.ReferenceCfwdIdeal.main_arg3) = m ((c.tc : Thread Cert.ReferenceCfwdIdeal.nD Cert.ReferenceCfwdIdeal.τ).loc Cert.ReferenceCfwdIdeal.main_arg3)
      ∧ r.2.mem ((c.tc : Thread Cert.ReferenceCfwdIdeal.nD Cert.ReferenceCfwdIdeal.τ).loc Cert.ReferenceCfwdIdeal.main_arg4) = m ((c.tc : Thread Cert.ReferenceCfwdIdeal.nD Cert.ReferenceCfwdIdeal.τ).loc Cert.ReferenceCfwdIdeal.main_arg4)
      ∧ r.2.mem ((c.tc : Thread Cert.ReferenceCfwdIdeal.nD Cert.ReferenceCfwdIdeal.τ).loc Cert.ReferenceCfwdIdeal.main_arg5) = m ((c.tc : Thread Cert.ReferenceCfwdIdeal.nD Cert.ReferenceCfwdIdeal.τ).loc Cert.ReferenceCfwdIdeal.main_arg5))
      ∧ r.2.sem = fun _ => 0)

def preserves_KernelMem_KernelMemIdeal : Prop :=
  True

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)
      ∧ m' ((c.tc : Thread Cert.ReferenceMemIdeal.nD Cert.ReferenceMemIdeal.τ).loc Cert.ReferenceMemIdeal.main_arg3) = m ((c.tc : Thread Cert.KernelMemIdeal.nD Cert.KernelMemIdeal.τ).loc Cert.KernelMemIdeal.main_arg3)
      ∧ m' ((c.tc : Thread Cert.ReferenceMemIdeal.nD Cert.ReferenceMemIdeal.τ).loc Cert.ReferenceMemIdeal.main_arg4) = m ((c.tc : Thread Cert.KernelMemIdeal.nD Cert.KernelMemIdeal.τ).loc Cert.KernelMemIdeal.main_arg4)) →
    ∃ (v0 : (c : Dev Cert.KernelMemIdeal.nD) → Buf (Elt Ideal) ((c.tc : Thread Cert.KernelMemIdeal.nD Cert.KernelMemIdeal.τ).loc Cert.KernelMemIdeal.main_v8_0)) (v1 : (c : Dev Cert.KernelMemIdeal.nD) → Buf (Elt Ideal) ((c.tc : Thread Cert.KernelMemIdeal.nD Cert.KernelMemIdeal.τ).loc Cert.KernelMemIdeal.main_v8_1)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v8_0) = v0 c
          ∧ r.2.mem ((c.tc : Thread Cert.KernelMemIdeal.nD Cert.KernelMemIdeal.τ).loc Cert.KernelMemIdeal.main_v8_1) = v1 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
          ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3)
          ∧ r.2.mem ((c.tc : Thread Cert.KernelMemIdeal.nD Cert.KernelMemIdeal.τ).loc Cert.KernelMemIdeal.main_arg4) = m ((c.tc : Thread Cert.KernelMemIdeal.nD Cert.KernelMemIdeal.τ).loc Cert.KernelMemIdeal.main_arg4))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v41) = v0 c
          ∧ r.2.mem ((c.tc : Thread Cert.ReferenceMemIdeal.nD Cert.ReferenceMemIdeal.τ).loc Cert.ReferenceMemIdeal.main_v42) = v1 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2)
          ∧ r.2.mem ((c.tc : Thread Cert.ReferenceMemIdeal.nD Cert.ReferenceMemIdeal.τ).loc Cert.ReferenceMemIdeal.main_arg3) = m' ((c.tc : Thread Cert.ReferenceMemIdeal.nD Cert.ReferenceMemIdeal.τ).loc Cert.ReferenceMemIdeal.main_arg3)
          ∧ r.2.mem ((c.tc : Thread Cert.ReferenceMemIdeal.nD Cert.ReferenceMemIdeal.τ).loc Cert.ReferenceMemIdeal.main_arg4) = m' ((c.tc : Thread Cert.ReferenceMemIdeal.nD Cert.ReferenceMemIdeal.τ).loc Cert.ReferenceMemIdeal.main_arg4))

def preserves_KernelIn_KernelInIdeal : Prop :=
  True

def algebraic_KernelInIdeal_ReferenceInIdeal_pre_finite_in [hKernelInIdeal : Cert.KernelInIdeal.Facts] [hReferenceInIdeal : Cert.ReferenceInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal_finite_in m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v10_0)) (v1 : (c : Dev Cert.KernelInIdeal.nD) → Buf (Elt Ideal) ((c.tc : Thread Cert.KernelInIdeal.nD Cert.KernelInIdeal.τ).loc Cert.KernelInIdeal.main_v10_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v10_0) = v0 c
          ∧ r.2.mem ((c.tc : Thread Cert.KernelInIdeal.nD Cert.KernelInIdeal.τ).loc Cert.KernelInIdeal.main_v10_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v42) = v0 c
          ∧ r.2.mem ((c.tc : Thread Cert.ReferenceInIdeal.nD Cert.ReferenceInIdeal.τ).loc Cert.ReferenceInIdeal.main_v41) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def preserves_KernelGate_KernelGateIdeal : Prop :=
  True

def algebraic_KernelGateIdeal_ReferenceGateIdeal_pre_finite_gate [hKernelGateIdeal : Cert.KernelGateIdeal.Facts] [hReferenceGateIdeal : Cert.ReferenceGateIdeal.Facts] [hPre_finite_gate : Cert.Pre_finite_gate.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal_finite_gate m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v7_0)) (v1 : (c : Dev Cert.KernelGateIdeal.nD) → Buf (Elt Ideal) ((c.tc : Thread Cert.KernelGateIdeal.nD Cert.KernelGateIdeal.τ).loc Cert.KernelGateIdeal.main_v7_1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v7_0) = v0 c
          ∧ r.2.mem ((c.tc : Thread Cert.KernelGateIdeal.nD Cert.KernelGateIdeal.τ).loc Cert.KernelGateIdeal.main_v7_1) = v1 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v14) = v0 c
          ∧ r.2.mem ((c.tc : Thread Cert.ReferenceGateIdeal.nD Cert.ReferenceGateIdeal.τ).loc Cert.ReferenceGateIdeal.main_v15) = v1 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2))

def preserves_KernelMid_KernelMidIdeal : Prop :=
  True

def algebraic_KernelMidIdeal_ReferenceMidIdeal_pre_finite_mid [hKernelMidIdeal : Cert.KernelMidIdeal.Facts] [hReferenceMidIdeal : Cert.ReferenceMidIdeal.Facts] [hPre_finite_mid : Cert.Pre_finite_mid.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal_finite_mid m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)
      ∧ m' ((c.tc : Thread Cert.ReferenceMidIdeal.nD Cert.ReferenceMidIdeal.τ).loc Cert.ReferenceMidIdeal.main_arg5) = m ((c.tc : Thread Cert.KernelMidIdeal.nD Cert.KernelMidIdeal.τ).loc Cert.KernelMidIdeal.main_arg5)
      ∧ m' ((c.tc : Thread Cert.ReferenceMidIdeal.nD Cert.ReferenceMidIdeal.τ).loc Cert.ReferenceMidIdeal.main_arg6) = m ((c.tc : Thread Cert.KernelMidIdeal.nD Cert.KernelMidIdeal.τ).loc Cert.KernelMidIdeal.main_arg6)
      ∧ m' ((c.tc : Thread Cert.ReferenceMidIdeal.nD Cert.ReferenceMidIdeal.τ).loc Cert.ReferenceMidIdeal.main_arg7) = m ((c.tc : Thread Cert.KernelMidIdeal.nD Cert.KernelMidIdeal.τ).loc Cert.KernelMidIdeal.main_arg7)
      ∧ m' ((c.tc : Thread Cert.ReferenceMidIdeal.nD Cert.ReferenceMidIdeal.τ).loc Cert.ReferenceMidIdeal.main_arg8) = m ((c.tc : Thread Cert.KernelMidIdeal.nD Cert.KernelMidIdeal.τ).loc Cert.KernelMidIdeal.main_arg8)) →
    ∃ (v0 : (c : Dev Cert.KernelMidIdeal.nD) → Buf (Elt Ideal) ((c.tc : Thread Cert.KernelMidIdeal.nD Cert.KernelMidIdeal.τ).loc Cert.KernelMidIdeal.main_v31_0)) (v1 : (c : Dev Cert.KernelMidIdeal.nD) → Buf (Elt Ideal) ((c.tc : Thread Cert.KernelMidIdeal.nD Cert.KernelMidIdeal.τ).loc Cert.KernelMidIdeal.main_v31_1)) (v2 : (c : Dev Cert.KernelMidIdeal.nD) → Buf (Elt Ideal) ((c.tc : Thread Cert.KernelMidIdeal.nD Cert.KernelMidIdeal.τ).loc Cert.KernelMidIdeal.main_v31_2)) (v3 : (c : Dev Cert.KernelMidIdeal.nD) → Buf (Elt Ideal) ((c.tc : Thread Cert.KernelMidIdeal.nD Cert.KernelMidIdeal.τ).loc Cert.KernelMidIdeal.main_v31_3)) (v4 : (c : Dev Cert.KernelMidIdeal.nD) → Buf (Elt Ideal) ((c.tc : Thread Cert.KernelMidIdeal.nD Cert.KernelMidIdeal.τ).loc Cert.KernelMidIdeal.main_v31_4)) (v5 : (c : Dev Cert.KernelMidIdeal.nD) → Buf (Elt Ideal) ((c.tc : Thread Cert.KernelMidIdeal.nD Cert.KernelMidIdeal.τ).loc Cert.KernelMidIdeal.main_v31_5)) (v6 : (c : Dev Cert.KernelMidIdeal.nD) → Buf (Elt Ideal) ((c.tc : Thread Cert.KernelMidIdeal.nD Cert.KernelMidIdeal.τ).loc Cert.KernelMidIdeal.main_v31_6)) (v7 : (c : Dev Cert.KernelMidIdeal.nD) → Buf (Elt Ideal) ((c.tc : Thread Cert.KernelMidIdeal.nD Cert.KernelMidIdeal.τ).loc Cert.KernelMidIdeal.main_v31_7)) (v8 : (c : Dev Cert.KernelMidIdeal.nD) → Buf (Elt Ideal) ((c.tc : Thread Cert.KernelMidIdeal.nD Cert.KernelMidIdeal.τ).loc Cert.KernelMidIdeal.main_v31_8)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v31_0) = v0 c
          ∧ r.2.mem ((c.tc : Thread Cert.KernelMidIdeal.nD Cert.KernelMidIdeal.τ).loc Cert.KernelMidIdeal.main_v31_1) = v1 c
          ∧ r.2.mem ((c.tc : Thread Cert.KernelMidIdeal.nD Cert.KernelMidIdeal.τ).loc Cert.KernelMidIdeal.main_v31_2) = v2 c
          ∧ r.2.mem ((c.tc : Thread Cert.KernelMidIdeal.nD Cert.KernelMidIdeal.τ).loc Cert.KernelMidIdeal.main_v31_3) = v3 c
          ∧ r.2.mem ((c.tc : Thread Cert.KernelMidIdeal.nD Cert.KernelMidIdeal.τ).loc Cert.KernelMidIdeal.main_v31_4) = v4 c
          ∧ r.2.mem ((c.tc : Thread Cert.KernelMidIdeal.nD Cert.KernelMidIdeal.τ).loc Cert.KernelMidIdeal.main_v31_5) = v5 c
          ∧ r.2.mem ((c.tc : Thread Cert.KernelMidIdeal.nD Cert.KernelMidIdeal.τ).loc Cert.KernelMidIdeal.main_v31_6) = v6 c
          ∧ r.2.mem ((c.tc : Thread Cert.KernelMidIdeal.nD Cert.KernelMidIdeal.τ).loc Cert.KernelMidIdeal.main_v31_7) = v7 c
          ∧ r.2.mem ((c.tc : Thread Cert.KernelMidIdeal.nD Cert.KernelMidIdeal.τ).loc Cert.KernelMidIdeal.main_v31_8) = v8 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
          ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
          ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7)
          ∧ r.2.mem ((c.tc : Thread Cert.KernelMidIdeal.nD Cert.KernelMidIdeal.τ).loc Cert.KernelMidIdeal.main_arg8) = m ((c.tc : Thread Cert.KernelMidIdeal.nD Cert.KernelMidIdeal.τ).loc Cert.KernelMidIdeal.main_arg8))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v120) = v0 c
          ∧ r.2.mem ((c.tc : Thread Cert.ReferenceMidIdeal.nD Cert.ReferenceMidIdeal.τ).loc Cert.ReferenceMidIdeal.main_v122) = v1 c
          ∧ r.2.mem ((c.tc : Thread Cert.ReferenceMidIdeal.nD Cert.ReferenceMidIdeal.τ).loc Cert.ReferenceMidIdeal.main_v111) = v2 c
          ∧ r.2.mem ((c.tc : Thread Cert.ReferenceMidIdeal.nD Cert.ReferenceMidIdeal.τ).loc Cert.ReferenceMidIdeal.main_v123) = v3 c
          ∧ r.2.mem ((c.tc : Thread Cert.ReferenceMidIdeal.nD Cert.ReferenceMidIdeal.τ).loc Cert.ReferenceMidIdeal.main_v126) = v4 c
          ∧ r.2.mem ((c.tc : Thread Cert.ReferenceMidIdeal.nD Cert.ReferenceMidIdeal.τ).loc Cert.ReferenceMidIdeal.main_v127) = v5 c
          ∧ r.2.mem ((c.tc : Thread Cert.ReferenceMidIdeal.nD Cert.ReferenceMidIdeal.τ).loc Cert.ReferenceMidIdeal.main_v128) = v6 c
          ∧ r.2.mem ((c.tc : Thread Cert.ReferenceMidIdeal.nD Cert.ReferenceMidIdeal.τ).loc Cert.ReferenceMidIdeal.main_v106) = v7 c
          ∧ r.2.mem ((c.tc : Thread Cert.ReferenceMidIdeal.nD Cert.ReferenceMidIdeal.τ).loc Cert.ReferenceMidIdeal.main_v129) = v8 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5)
          ∧ r.2.mem ((c.tc : Thread Cert.ReferenceMidIdeal.nD Cert.ReferenceMidIdeal.τ).loc Cert.ReferenceMidIdeal.main_arg6) = m' ((c.tc : Thread Cert.ReferenceMidIdeal.nD Cert.ReferenceMidIdeal.τ).loc Cert.ReferenceMidIdeal.main_arg6)
          ∧ r.2.mem ((c.tc : Thread Cert.ReferenceMidIdeal.nD Cert.ReferenceMidIdeal.τ).loc Cert.ReferenceMidIdeal.main_arg7) = m' ((c.tc : Thread Cert.ReferenceMidIdeal.nD Cert.ReferenceMidIdeal.τ).loc Cert.ReferenceMidIdeal.main_arg7)
          ∧ r.2.mem ((c.tc : Thread Cert.ReferenceMidIdeal.nD Cert.ReferenceMidIdeal.τ).loc Cert.ReferenceMidIdeal.main_arg8) = m' ((c.tc : Thread Cert.ReferenceMidIdeal.nD Cert.ReferenceMidIdeal.τ).loc Cert.ReferenceMidIdeal.main_arg8))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v25_0)) (v1 : (c : Dev Cert.KernelFfnIdeal.nD) → Buf (Elt Ideal) ((c.tc : Thread Cert.KernelFfnIdeal.nD Cert.KernelFfnIdeal.τ).loc Cert.KernelFfnIdeal.main_v25_1)) (v2 : (c : Dev Cert.KernelFfnIdeal.nD) → Buf (Elt Ideal) ((c.tc : Thread Cert.KernelFfnIdeal.nD Cert.KernelFfnIdeal.τ).loc Cert.KernelFfnIdeal.main_v25_2)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v25_0) = v0 c
          ∧ r.2.mem ((c.tc : Thread Cert.KernelFfnIdeal.nD Cert.KernelFfnIdeal.τ).loc Cert.KernelFfnIdeal.main_v25_1) = v1 c
          ∧ r.2.mem ((c.tc : Thread Cert.KernelFfnIdeal.nD Cert.KernelFfnIdeal.τ).loc Cert.KernelFfnIdeal.main_v25_2) = v2 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v55) = v0 c
          ∧ r.2.mem ((c.tc : Thread Cert.ReferenceFfnIdeal.nD Cert.ReferenceFfnIdeal.τ).loc Cert.ReferenceFfnIdeal.main_v57) = v1 c
          ∧ r.2.mem ((c.tc : Thread Cert.ReferenceFfnIdeal.nD Cert.ReferenceFfnIdeal.τ).loc Cert.ReferenceFfnIdeal.main_v53) = v2 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)
      ∧ m' ((c.tc : Thread Cert.ReferenceLossIdeal.nD Cert.ReferenceLossIdeal.τ).loc Cert.ReferenceLossIdeal.main_arg5) = m ((c.tc : Thread Cert.KernelLossIdeal.nD Cert.KernelLossIdeal.τ).loc Cert.KernelLossIdeal.main_arg5)) →
    ∃ (v0 : (c : Dev Cert.KernelLossIdeal.nD) → Buf (Elt Ideal) ((c.tc : Thread Cert.KernelLossIdeal.nD Cert.KernelLossIdeal.τ).loc Cert.KernelLossIdeal.main_v9_0)) (v1 : (c : Dev Cert.KernelLossIdeal.nD) → Buf (Elt Ideal) ((c.tc : Thread Cert.KernelLossIdeal.nD Cert.KernelLossIdeal.τ).loc Cert.KernelLossIdeal.main_v9_1)) (v2 : (c : Dev Cert.KernelLossIdeal.nD) → Buf (Elt Ideal) ((c.tc : Thread Cert.KernelLossIdeal.nD Cert.KernelLossIdeal.τ).loc Cert.KernelLossIdeal.main_v9_2)) (v3 : (c : Dev Cert.KernelLossIdeal.nD) → Buf (Elt Ideal) ((c.tc : Thread Cert.KernelLossIdeal.nD Cert.KernelLossIdeal.τ).loc Cert.KernelLossIdeal.main_v9_3)) (v4 : (c : Dev Cert.KernelLossIdeal.nD) → Buf (Elt Ideal) ((c.tc : Thread Cert.KernelLossIdeal.nD Cert.KernelLossIdeal.τ).loc Cert.KernelLossIdeal.main_v9_4)) (v5 : (c : Dev Cert.KernelLossIdeal.nD) → Buf (Elt Ideal) ((c.tc : Thread Cert.KernelLossIdeal.nD Cert.KernelLossIdeal.τ).loc Cert.KernelLossIdeal.main_v9_5)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v9_0) = v0 c
          ∧ r.2.mem ((c.tc : Thread Cert.KernelLossIdeal.nD Cert.KernelLossIdeal.τ).loc Cert.KernelLossIdeal.main_v9_1) = v1 c
          ∧ r.2.mem ((c.tc : Thread Cert.KernelLossIdeal.nD Cert.KernelLossIdeal.τ).loc Cert.KernelLossIdeal.main_v9_2) = v2 c
          ∧ r.2.mem ((c.tc : Thread Cert.KernelLossIdeal.nD Cert.KernelLossIdeal.τ).loc Cert.KernelLossIdeal.main_v9_3) = v3 c
          ∧ r.2.mem ((c.tc : Thread Cert.KernelLossIdeal.nD Cert.KernelLossIdeal.τ).loc Cert.KernelLossIdeal.main_v9_4) = v4 c
          ∧ r.2.mem ((c.tc : Thread Cert.KernelLossIdeal.nD Cert.KernelLossIdeal.τ).loc Cert.KernelLossIdeal.main_v9_5) = v5 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
          ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v75) = v0 c
          ∧ r.2.mem ((c.tc : Thread Cert.ReferenceLossIdeal.nD Cert.ReferenceLossIdeal.τ).loc Cert.ReferenceLossIdeal.main_v76) = v1 c
          ∧ r.2.mem ((c.tc : Thread Cert.ReferenceLossIdeal.nD Cert.ReferenceLossIdeal.τ).loc Cert.ReferenceLossIdeal.main_v78) = v2 c
          ∧ r.2.mem ((c.tc : Thread Cert.ReferenceLossIdeal.nD Cert.ReferenceLossIdeal.τ).loc Cert.ReferenceLossIdeal.main_v79) = v3 c
          ∧ r.2.mem ((c.tc : Thread Cert.ReferenceLossIdeal.nD Cert.ReferenceLossIdeal.τ).loc Cert.ReferenceLossIdeal.main_v81) = v4 c
          ∧ r.2.mem ((c.tc : Thread Cert.ReferenceLossIdeal.nD Cert.ReferenceLossIdeal.τ).loc Cert.ReferenceLossIdeal.main_v82) = v5 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5))

def preserves_KernelFox_KernelFoxIdeal : Prop :=
  True

def preserves_KernelFmid_KernelFmidIdeal : Prop :=
  True

def algebraic_KernelFmidIdeal_ReferenceFmidIdeal [hKernelFmidIdeal : Cert.KernelFmidIdeal.Facts] [hReferenceFmidIdeal : Cert.ReferenceFmidIdeal.Facts] : Prop :=
  ∀ (m : (ℓ : Loc Cert.KernelFmidIdeal.nD Cert.KernelFmidIdeal.τ Cert.KernelFmidIdeal.sig) → Buf (Elt Ideal) ℓ) (g : Dev Cert.KernelFmidIdeal.nD → PrngReg)
    (m' : (ℓ : Loc Cert.ReferenceFmidIdeal.nD Cert.ReferenceFmidIdeal.τ Cert.ReferenceFmidIdeal.sig) → Buf (Elt Ideal) ℓ) (g' : Dev Cert.ReferenceFmidIdeal.nD → PrngReg), Pre_KernelFmidIdeal m →
    (∀ c : Dev Cert.KernelFmidIdeal.nD,
      m' ((c.tc : Thread Cert.ReferenceFmidIdeal.nD Cert.ReferenceFmidIdeal.τ).loc Cert.ReferenceFmidIdeal.main_arg0) = m ((c.tc : Thread Cert.KernelFmidIdeal.nD Cert.KernelFmidIdeal.τ).loc Cert.KernelFmidIdeal.main_arg0)
      ∧ m' ((c.tc : Thread Cert.ReferenceFmidIdeal.nD Cert.ReferenceFmidIdeal.τ).loc Cert.ReferenceFmidIdeal.main_arg1) = m ((c.tc : Thread Cert.KernelFmidIdeal.nD Cert.KernelFmidIdeal.τ).loc Cert.KernelFmidIdeal.main_arg1)
      ∧ m' ((c.tc : Thread Cert.ReferenceFmidIdeal.nD Cert.ReferenceFmidIdeal.τ).loc Cert.ReferenceFmidIdeal.main_arg2) = m ((c.tc : Thread Cert.KernelFmidIdeal.nD Cert.KernelFmidIdeal.τ).loc Cert.KernelFmidIdeal.main_arg2)
      ∧ m' ((c.tc : Thread Cert.ReferenceFmidIdeal.nD Cert.ReferenceFmidIdeal.τ).loc Cert.ReferenceFmidIdeal.main_arg3) = m ((c.tc : Thread Cert.KernelFmidIdeal.nD Cert.KernelFmidIdeal.τ).loc Cert.KernelFmidIdeal.main_arg3)
      ∧ m' ((c.tc : Thread Cert.ReferenceFmidIdeal.nD Cert.ReferenceFmidIdeal.τ).loc Cert.ReferenceFmidIdeal.main_arg4) = m ((c.tc : Thread Cert.KernelFmidIdeal.nD Cert.KernelFmidIdeal.τ).loc Cert.KernelFmidIdeal.main_arg4)
      ∧ m' ((c.tc : Thread Cert.ReferenceFmidIdeal.nD Cert.ReferenceFmidIdeal.τ).loc Cert.ReferenceFmidIdeal.main_arg5) = m ((c.tc : Thread Cert.KernelFmidIdeal.nD Cert.KernelFmidIdeal.τ).loc Cert.KernelFmidIdeal.main_arg5)
      ∧ m' ((c.tc : Thread Cert.ReferenceFmidIdeal.nD Cert.ReferenceFmidIdeal.τ).loc Cert.ReferenceFmidIdeal.main_arg6) = m ((c.tc : Thread Cert.KernelFmidIdeal.nD Cert.KernelFmidIdeal.τ).loc Cert.KernelFmidIdeal.main_arg6)
      ∧ m' ((c.tc : Thread Cert.ReferenceFmidIdeal.nD Cert.ReferenceFmidIdeal.τ).loc Cert.ReferenceFmidIdeal.main_arg7) = m ((c.tc : Thread Cert.KernelFmidIdeal.nD Cert.KernelFmidIdeal.τ).loc Cert.KernelFmidIdeal.main_arg7)
      ∧ m' ((c.tc : Thread Cert.ReferenceFmidIdeal.nD Cert.ReferenceFmidIdeal.τ).loc Cert.ReferenceFmidIdeal.main_arg8) = m ((c.tc : Thread Cert.KernelFmidIdeal.nD Cert.KernelFmidIdeal.τ).loc Cert.KernelFmidIdeal.main_arg8)) →
    ∃ (v0 : (c : Dev Cert.KernelFmidIdeal.nD) → Buf (Elt Ideal) ((c.tc : Thread Cert.KernelFmidIdeal.nD Cert.KernelFmidIdeal.τ).loc Cert.KernelFmidIdeal.main_v14_0)) (v1 : (c : Dev Cert.KernelFmidIdeal.nD) → Buf (Elt Ideal) ((c.tc : Thread Cert.KernelFmidIdeal.nD Cert.KernelFmidIdeal.τ).loc Cert.KernelFmidIdeal.main_v14_1)) (v2 : (c : Dev Cert.KernelFmidIdeal.nD) → Buf (Elt Ideal) ((c.tc : Thread Cert.KernelFmidIdeal.nD Cert.KernelFmidIdeal.τ).loc Cert.KernelFmidIdeal.main_v14_2)) (v3 : (c : Dev Cert.KernelFmidIdeal.nD) → Buf (Elt Ideal) ((c.tc : Thread Cert.KernelFmidIdeal.nD Cert.KernelFmidIdeal.τ).loc Cert.KernelFmidIdeal.main_v14_3)) (v4 : (c : Dev Cert.KernelFmidIdeal.nD) → Buf (Elt Ideal) ((c.tc : Thread Cert.KernelFmidIdeal.nD Cert.KernelFmidIdeal.τ).loc Cert.KernelFmidIdeal.main_v14_4)) (v5 : (c : Dev Cert.KernelFmidIdeal.nD) → Buf (Elt Ideal) ((c.tc : Thread Cert.KernelFmidIdeal.nD Cert.KernelFmidIdeal.τ).loc Cert.KernelFmidIdeal.main_v14_5)),
      θ_run (Cert.KernelFmidIdeal.defs (F := Ideal)) (onTc (τ := Cert.KernelFmidIdeal.τ) (Cert.KernelFmidIdeal.main (F := Ideal))) ⟨m, fun _ => 0, g⟩ (fun r => ∀ c : Dev Cert.KernelFmidIdeal.nD,
          r.2.mem ((c.tc : Thread Cert.KernelFmidIdeal.nD Cert.KernelFmidIdeal.τ).loc Cert.KernelFmidIdeal.main_v14_0) = v0 c
          ∧ r.2.mem ((c.tc : Thread Cert.KernelFmidIdeal.nD Cert.KernelFmidIdeal.τ).loc Cert.KernelFmidIdeal.main_v14_1) = v1 c
          ∧ r.2.mem ((c.tc : Thread Cert.KernelFmidIdeal.nD Cert.KernelFmidIdeal.τ).loc Cert.KernelFmidIdeal.main_v14_2) = v2 c
          ∧ r.2.mem ((c.tc : Thread Cert.KernelFmidIdeal.nD Cert.KernelFmidIdeal.τ).loc Cert.KernelFmidIdeal.main_v14_3) = v3 c
          ∧ r.2.mem ((c.tc : Thread Cert.KernelFmidIdeal.nD Cert.KernelFmidIdeal.τ).loc Cert.KernelFmidIdeal.main_v14_4) = v4 c
          ∧ r.2.mem ((c.tc : Thread Cert.KernelFmidIdeal.nD Cert.KernelFmidIdeal.τ).loc Cert.KernelFmidIdeal.main_v14_5) = v5 c
          ∧ r.2.mem ((c.tc : Thread Cert.KernelFmidIdeal.nD Cert.KernelFmidIdeal.τ).loc Cert.KernelFmidIdeal.main_arg0) = m ((c.tc : Thread Cert.KernelFmidIdeal.nD Cert.KernelFmidIdeal.τ).loc Cert.KernelFmidIdeal.main_arg0)
          ∧ r.2.mem ((c.tc : Thread Cert.KernelFmidIdeal.nD Cert.KernelFmidIdeal.τ).loc Cert.KernelFmidIdeal.main_arg1) = m ((c.tc : Thread Cert.KernelFmidIdeal.nD Cert.KernelFmidIdeal.τ).loc Cert.KernelFmidIdeal.main_arg1)
          ∧ r.2.mem ((c.tc : Thread Cert.KernelFmidIdeal.nD Cert.KernelFmidIdeal.τ).loc Cert.KernelFmidIdeal.main_arg2) = m ((c.tc : Thread Cert.KernelFmidIdeal.nD Cert.KernelFmidIdeal.τ).loc Cert.KernelFmidIdeal.main_arg2)
          ∧ r.2.mem ((c.tc : Thread Cert.KernelFmidIdeal.nD Cert.KernelFmidIdeal.τ).loc Cert.KernelFmidIdeal.main_arg3) = m ((c.tc : Thread Cert.KernelFmidIdeal.nD Cert.KernelFmidIdeal.τ).loc Cert.KernelFmidIdeal.main_arg3)
          ∧ r.2.mem ((c.tc : Thread Cert.KernelFmidIdeal.nD Cert.KernelFmidIdeal.τ).loc Cert.KernelFmidIdeal.main_arg4) = m ((c.tc : Thread Cert.KernelFmidIdeal.nD Cert.KernelFmidIdeal.τ).loc Cert.KernelFmidIdeal.main_arg4)
          ∧ r.2.mem ((c.tc : Thread Cert.KernelFmidIdeal.nD Cert.KernelFmidIdeal.τ).loc Cert.KernelFmidIdeal.main_arg5) = m ((c.tc : Thread Cert.KernelFmidIdeal.nD Cert.KernelFmidIdeal.τ).loc Cert.KernelFmidIdeal.main_arg5)
          ∧ r.2.mem ((c.tc : Thread Cert.KernelFmidIdeal.nD Cert.KernelFmidIdeal.τ).loc Cert.KernelFmidIdeal.main_arg6) = m ((c.tc : Thread Cert.KernelFmidIdeal.nD Cert.KernelFmidIdeal.τ).loc Cert.KernelFmidIdeal.main_arg6)
          ∧ r.2.mem ((c.tc : Thread Cert.KernelFmidIdeal.nD Cert.KernelFmidIdeal.τ).loc Cert.KernelFmidIdeal.main_arg7) = m ((c.tc : Thread Cert.KernelFmidIdeal.nD Cert.KernelFmidIdeal.τ).loc Cert.KernelFmidIdeal.main_arg7)
          ∧ r.2.mem ((c.tc : Thread Cert.KernelFmidIdeal.nD Cert.KernelFmidIdeal.τ).loc Cert.KernelFmidIdeal.main_arg8) = m ((c.tc : Thread Cert.KernelFmidIdeal.nD Cert.KernelFmidIdeal.τ).loc Cert.KernelFmidIdeal.main_arg8))
      ∧ θ_run (Cert.ReferenceFmidIdeal.defs (F := Ideal)) (onTc (τ := Cert.ReferenceFmidIdeal.τ) (Cert.ReferenceFmidIdeal.main (F := Ideal))) ⟨m', fun _ => 0, g'⟩ (fun r => ∀ c : Dev Cert.ReferenceFmidIdeal.nD,
          r.2.mem ((c.tc : Thread Cert.ReferenceFmidIdeal.nD Cert.ReferenceFmidIdeal.τ).loc Cert.ReferenceFmidIdeal.main_v43) = v0 c
          ∧ r.2.mem ((c.tc : Thread Cert.ReferenceFmidIdeal.nD Cert.ReferenceFmidIdeal.τ).loc Cert.ReferenceFmidIdeal.main_v45) = v1 c
          ∧ r.2.mem ((c.tc : Thread Cert.ReferenceFmidIdeal.nD Cert.ReferenceFmidIdeal.τ).loc Cert.ReferenceFmidIdeal.main_v47) = v2 c
          ∧ r.2.mem ((c.tc : Thread Cert.ReferenceFmidIdeal.nD Cert.ReferenceFmidIdeal.τ).loc Cert.ReferenceFmidIdeal.main_v49) = v3 c
          ∧ r.2.mem ((c.tc : Thread Cert.ReferenceFmidIdeal.nD Cert.ReferenceFmidIdeal.τ).loc Cert.ReferenceFmidIdeal.main_v50) = v4 c
          ∧ r.2.mem ((c.tc : Thread Cert.ReferenceFmidIdeal.nD Cert.ReferenceFmidIdeal.τ).loc Cert.ReferenceFmidIdeal.main_v52) = v5 c
          ∧ r.2.mem ((c.tc : Thread Cert.ReferenceFmidIdeal.nD Cert.ReferenceFmidIdeal.τ).loc Cert.ReferenceFmidIdeal.main_arg0) = m' ((c.tc : Thread Cert.ReferenceFmidIdeal.nD Cert.ReferenceFmidIdeal.τ).loc Cert.ReferenceFmidIdeal.main_arg0)
          ∧ r.2.mem ((c.tc : Thread Cert.ReferenceFmidIdeal.nD Cert.ReferenceFmidIdeal.τ).loc Cert.ReferenceFmidIdeal.main_arg1) = m' ((c.tc : Thread Cert.ReferenceFmidIdeal.nD Cert.ReferenceFmidIdeal.τ).loc Cert.ReferenceFmidIdeal.main_arg1)
          ∧ r.2.mem ((c.tc : Thread Cert.ReferenceFmidIdeal.nD Cert.ReferenceFmidIdeal.τ).loc Cert.ReferenceFmidIdeal.main_arg2) = m' ((c.tc : Thread Cert.ReferenceFmidIdeal.nD Cert.ReferenceFmidIdeal.τ).loc Cert.ReferenceFmidIdeal.main_arg2)
          ∧ r.2.mem ((c.tc : Thread Cert.ReferenceFmidIdeal.nD Cert.ReferenceFmidIdeal.τ).loc Cert.ReferenceFmidIdeal.main_arg3) = m' ((c.tc : Thread Cert.ReferenceFmidIdeal.nD Cert.ReferenceFmidIdeal.τ).loc Cert.ReferenceFmidIdeal.main_arg3)
          ∧ r.2.mem ((c.tc : Thread Cert.ReferenceFmidIdeal.nD Cert.ReferenceFmidIdeal.τ).loc Cert.ReferenceFmidIdeal.main_arg4) = m' ((c.tc : Thread Cert.ReferenceFmidIdeal.nD Cert.ReferenceFmidIdeal.τ).loc Cert.ReferenceFmidIdeal.main_arg4)
          ∧ r.2.mem ((c.tc : Thread Cert.ReferenceFmidIdeal.nD Cert.ReferenceFmidIdeal.τ).loc Cert.ReferenceFmidIdeal.main_arg5) = m' ((c.tc : Thread Cert.ReferenceFmidIdeal.nD Cert.ReferenceFmidIdeal.τ).loc Cert.ReferenceFmidIdeal.main_arg5)
          ∧ r.2.mem ((c.tc : Thread Cert.ReferenceFmidIdeal.nD Cert.ReferenceFmidIdeal.τ).loc Cert.ReferenceFmidIdeal.main_arg6) = m' ((c.tc : Thread Cert.ReferenceFmidIdeal.nD Cert.ReferenceFmidIdeal.τ).loc Cert.ReferenceFmidIdeal.main_arg6)
          ∧ r.2.mem ((c.tc : Thread Cert.ReferenceFmidIdeal.nD Cert.ReferenceFmidIdeal.τ).loc Cert.ReferenceFmidIdeal.main_arg7) = m' ((c.tc : Thread Cert.ReferenceFmidIdeal.nD Cert.ReferenceFmidIdeal.τ).loc Cert.ReferenceFmidIdeal.main_arg7)
          ∧ r.2.mem ((c.tc : Thread Cert.ReferenceFmidIdeal.nD Cert.ReferenceFmidIdeal.τ).loc Cert.ReferenceFmidIdeal.main_arg8) = m' ((c.tc : Thread Cert.ReferenceFmidIdeal.nD Cert.ReferenceFmidIdeal.τ).loc Cert.ReferenceFmidIdeal.main_arg8))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)) →
    ∃ (v0 : (c : Dev Cert.KernelKvIdeal.nD) → Buf (Elt Ideal) ((c.tc : Thread Cert.KernelKvIdeal.nD Cert.KernelKvIdeal.τ).loc Cert.KernelKvIdeal.main_v6_0)) (v1 : (c : Dev Cert.KernelKvIdeal.nD) → Buf (Elt Ideal) ((c.tc : Thread Cert.KernelKvIdeal.nD Cert.KernelKvIdeal.τ).loc Cert.KernelKvIdeal.main_v6_1)) (v2 : (c : Dev Cert.KernelKvIdeal.nD) → Buf (Elt Ideal) ((c.tc : Thread Cert.KernelKvIdeal.nD Cert.KernelKvIdeal.τ).loc Cert.KernelKvIdeal.main_v6_2)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v6_0) = v0 c
          ∧ r.2.mem ((c.tc : Thread Cert.KernelKvIdeal.nD Cert.KernelKvIdeal.τ).loc Cert.KernelKvIdeal.main_v6_1) = v1 c
          ∧ r.2.mem ((c.tc : Thread Cert.KernelKvIdeal.nD Cert.KernelKvIdeal.τ).loc Cert.KernelKvIdeal.main_v6_2) = v2 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v16) = v0 c
          ∧ r.2.mem ((c.tc : Thread Cert.ReferenceKvIdeal.nD Cert.ReferenceKvIdeal.τ).loc Cert.ReferenceKvIdeal.main_v19) = v1 c
          ∧ r.2.mem ((c.tc : Thread Cert.ReferenceKvIdeal.nD Cert.ReferenceKvIdeal.τ).loc Cert.ReferenceKvIdeal.main_v22) = v2 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2))

def preserves_KernelFin_KernelFinIdeal : Prop :=
  True

def algebraic_KernelFinIdeal_ReferenceFinIdeal_pre_finite_fin [hKernelFinIdeal : Cert.KernelFinIdeal.Facts] [hReferenceFinIdeal : Cert.ReferenceFinIdeal.Facts] [hPre_finite_fin : Cert.Pre_finite_fin.Facts] : Prop :=
  ∀ (m : (ℓ : Loc Cert.KernelFinIdeal.nD Cert.KernelFinIdeal.τ Cert.KernelFinIdeal.sig) → Buf (Elt Ideal) ℓ) (g : Dev Cert.KernelFinIdeal.nD → PrngReg)
    (m' : (ℓ : Loc Cert.ReferenceFinIdeal.nD Cert.ReferenceFinIdeal.τ Cert.ReferenceFinIdeal.sig) → Buf (Elt Ideal) ℓ) (g' : Dev Cert.ReferenceFinIdeal.nD → PrngReg), Pre_KernelFinIdeal_finite_fin m →
    (∀ c : Dev Cert.KernelFinIdeal.nD,
      m' ((c.tc : Thread Cert.ReferenceFinIdeal.nD Cert.ReferenceFinIdeal.τ).loc Cert.ReferenceFinIdeal.main_arg0) = m ((c.tc : Thread Cert.KernelFinIdeal.nD Cert.KernelFinIdeal.τ).loc Cert.KernelFinIdeal.main_arg0)
      ∧ m' ((c.tc : Thread Cert.ReferenceFinIdeal.nD Cert.ReferenceFinIdeal.τ).loc Cert.ReferenceFinIdeal.main_arg1) = m ((c.tc : Thread Cert.KernelFinIdeal.nD Cert.KernelFinIdeal.τ).loc Cert.KernelFinIdeal.main_arg1)
      ∧ m' ((c.tc : Thread Cert.ReferenceFinIdeal.nD Cert.ReferenceFinIdeal.τ).loc Cert.ReferenceFinIdeal.main_arg2) = m ((c.tc : Thread Cert.KernelFinIdeal.nD Cert.KernelFinIdeal.τ).loc Cert.KernelFinIdeal.main_arg2)
      ∧ m' ((c.tc : Thread Cert.ReferenceFinIdeal.nD Cert.ReferenceFinIdeal.τ).loc Cert.ReferenceFinIdeal.main_arg3) = m ((c.tc : Thread Cert.KernelFinIdeal.nD Cert.KernelFinIdeal.τ).loc Cert.KernelFinIdeal.main_arg3)) →
    ∃ (v0 : (c : Dev Cert.KernelFinIdeal.nD) → Buf (Elt Ideal) ((c.tc : Thread Cert.KernelFinIdeal.nD Cert.KernelFinIdeal.τ).loc Cert.KernelFinIdeal.main_v7_0)) (v1 : (c : Dev Cert.KernelFinIdeal.nD) → Buf (Elt Ideal) ((c.tc : Thread Cert.KernelFinIdeal.nD Cert.KernelFinIdeal.τ).loc Cert.KernelFinIdeal.main_v7_1)) (v2 : (c : Dev Cert.KernelFinIdeal.nD) → Buf (Elt Ideal) ((c.tc : Thread Cert.KernelFinIdeal.nD Cert.KernelFinIdeal.τ).loc Cert.KernelFinIdeal.main_v7_2)) (v3 : (c : Dev Cert.KernelFinIdeal.nD) → Buf (Elt Ideal) ((c.tc : Thread Cert.KernelFinIdeal.nD Cert.KernelFinIdeal.τ).loc Cert.KernelFinIdeal.main_v7_3)) (v4 : (c : Dev Cert.KernelFinIdeal.nD) → Buf (Elt Ideal) ((c.tc : Thread Cert.KernelFinIdeal.nD Cert.KernelFinIdeal.τ).loc Cert.KernelFinIdeal.main_v7_4)) (v5 : (c : Dev Cert.KernelFinIdeal.nD) → Buf (Elt Ideal) ((c.tc : Thread Cert.KernelFinIdeal.nD Cert.KernelFinIdeal.τ).loc Cert.KernelFinIdeal.main_v7_5)) (v6 : (c : Dev Cert.KernelFinIdeal.nD) → Buf (Elt Ideal) ((c.tc : Thread Cert.KernelFinIdeal.nD Cert.KernelFinIdeal.τ).loc Cert.KernelFinIdeal.main_v7_6)) (v7 : (c : Dev Cert.KernelFinIdeal.nD) → Buf (Elt Ideal) ((c.tc : Thread Cert.KernelFinIdeal.nD Cert.KernelFinIdeal.τ).loc Cert.KernelFinIdeal.main_v7_7)) (v8 : (c : Dev Cert.KernelFinIdeal.nD) → Buf (Elt Ideal) ((c.tc : Thread Cert.KernelFinIdeal.nD Cert.KernelFinIdeal.τ).loc Cert.KernelFinIdeal.main_v7_8)) (v9 : (c : Dev Cert.KernelFinIdeal.nD) → Buf (Elt Ideal) ((c.tc : Thread Cert.KernelFinIdeal.nD Cert.KernelFinIdeal.τ).loc Cert.KernelFinIdeal.main_v7_11)),
      θ_run (Cert.KernelFinIdeal.defs (F := Ideal)) (onTc (τ := Cert.KernelFinIdeal.τ) (Cert.KernelFinIdeal.main (F := Ideal))) ⟨m, fun _ => 0, g⟩ (fun r => ∀ c : Dev Cert.KernelFinIdeal.nD,
          r.2.mem ((c.tc : Thread Cert.KernelFinIdeal.nD Cert.KernelFinIdeal.τ).loc Cert.KernelFinIdeal.main_v7_0) = v0 c
          ∧ r.2.mem ((c.tc : Thread Cert.KernelFinIdeal.nD Cert.KernelFinIdeal.τ).loc Cert.KernelFinIdeal.main_v7_1) = v1 c
          ∧ r.2.mem ((c.tc : Thread Cert.KernelFinIdeal.nD Cert.KernelFinIdeal.τ).loc Cert.KernelFinIdeal.main_v7_2) = v2 c
          ∧ r.2.mem ((c.tc : Thread Cert.KernelFinIdeal.nD Cert.KernelFinIdeal.τ).loc Cert.KernelFinIdeal.main_v7_3) = v3 c
          ∧ r.2.mem ((c.tc : Thread Cert.KernelFinIdeal.nD Cert.KernelFinIdeal.τ).loc Cert.KernelFinIdeal.main_v7_4) = v4 c
          ∧ r.2.mem ((c.tc : Thread Cert.KernelFinIdeal.nD Cert.KernelFinIdeal.τ).loc Cert.KernelFinIdeal.main_v7_5) = v5 c
          ∧ r.2.mem ((c.tc : Thread Cert.KernelFinIdeal.nD Cert.KernelFinIdeal.τ).loc Cert.KernelFinIdeal.main_v7_6) = v6 c
          ∧ r.2.mem ((c.tc : Thread Cert.KernelFinIdeal.nD Cert.KernelFinIdeal.τ).loc Cert.KernelFinIdeal.main_v7_7) = v7 c
          ∧ r.2.mem ((c.tc : Thread Cert.KernelFinIdeal.nD Cert.KernelFinIdeal.τ).loc Cert.KernelFinIdeal.main_v7_8) = v8 c
          ∧ r.2.mem ((c.tc : Thread Cert.KernelFinIdeal.nD Cert.KernelFinIdeal.τ).loc Cert.KernelFinIdeal.main_v7_11) = v9 c
          ∧ r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
          ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1)
          ∧ r.2.mem ((c.tc : Thread Cert.KernelFinIdeal.nD Cert.KernelFinIdeal.τ).loc Cert.KernelFinIdeal.main_arg2) = m ((c.tc : Thread Cert.KernelFinIdeal.nD Cert.KernelFinIdeal.τ).loc Cert.KernelFinIdeal.main_arg2)
          ∧ r.2.mem ((c.tc : Thread Cert.KernelFinIdeal.nD Cert.KernelFinIdeal.τ).loc Cert.KernelFinIdeal.main_arg3) = m ((c.tc : Thread Cert.KernelFinIdeal.nD Cert.KernelFinIdeal.τ).loc Cert.KernelFinIdeal.main_arg3))
      ∧ θ_run (Cert.ReferenceFinIdeal.defs (F := Ideal)) (onTc (τ := Cert.ReferenceFinIdeal.τ) (Cert.ReferenceFinIdeal.main (F := Ideal))) ⟨m', fun _ => 0, g'⟩ (fun r => ∀ c : Dev Cert.ReferenceFinIdeal.nD,
          r.2.mem ((c.tc : Thread Cert.ReferenceFinIdeal.nD Cert.ReferenceFinIdeal.τ).loc Cert.ReferenceFinIdeal.main_v29) = v0 c
          ∧ r.2.mem ((c.tc : Thread Cert.ReferenceFinIdeal.nD Cert.ReferenceFinIdeal.τ).loc Cert.ReferenceFinIdeal.main_v30) = v1 c
          ∧ r.2.mem ((c.tc : Thread Cert.ReferenceFinIdeal.nD Cert.ReferenceFinIdeal.τ).loc Cert.ReferenceFinIdeal.main_v31) = v2 c
          ∧ r.2.mem ((c.tc : Thread Cert.ReferenceFinIdeal.nD Cert.ReferenceFinIdeal.τ).loc Cert.ReferenceFinIdeal.main_v33) = v3 c
          ∧ r.2.mem ((c.tc : Thread Cert.ReferenceFinIdeal.nD Cert.ReferenceFinIdeal.τ).loc Cert.ReferenceFinIdeal.main_v35) = v4 c
          ∧ r.2.mem ((c.tc : Thread Cert.ReferenceFinIdeal.nD Cert.ReferenceFinIdeal.τ).loc Cert.ReferenceFinIdeal.main_v37) = v5 c
          ∧ r.2.mem ((c.tc : Thread Cert.ReferenceFinIdeal.nD Cert.ReferenceFinIdeal.τ).loc Cert.ReferenceFinIdeal.main_v39) = v6 c
          ∧ r.2.mem ((c.tc : Thread Cert.ReferenceFinIdeal.nD Cert.ReferenceFinIdeal.τ).loc Cert.ReferenceFinIdeal.main_v41) = v7 c
          ∧ r.2.mem ((c.tc : Thread Cert.ReferenceFinIdeal.nD Cert.ReferenceFinIdeal.τ).loc Cert.ReferenceFinIdeal.main_v44) = v8 c
          ∧ r.2.mem ((c.tc : Thread Cert.ReferenceFinIdeal.nD Cert.ReferenceFinIdeal.τ).loc Cert.ReferenceFinIdeal.main_v47) = v9 c
          ∧ r.2.mem ((c.tc : Thread Cert.ReferenceFinIdeal.nD Cert.ReferenceFinIdeal.τ).loc Cert.ReferenceFinIdeal.main_arg0) = m' ((c.tc : Thread Cert.ReferenceFinIdeal.nD Cert.ReferenceFinIdeal.τ).loc Cert.ReferenceFinIdeal.main_arg0)
          ∧ r.2.mem ((c.tc : Thread Cert.ReferenceFinIdeal.nD Cert.ReferenceFinIdeal.τ).loc Cert.ReferenceFinIdeal.main_arg1) = m' ((c.tc : Thread Cert.ReferenceFinIdeal.nD Cert.ReferenceFinIdeal.τ).loc Cert.ReferenceFinIdeal.main_arg1)
          ∧ r.2.mem ((c.tc : Thread Cert.ReferenceFinIdeal.nD Cert.ReferenceFinIdeal.τ).loc Cert.ReferenceFinIdeal.main_arg2) = m' ((c.tc : Thread Cert.ReferenceFinIdeal.nD Cert.ReferenceFinIdeal.τ).loc Cert.ReferenceFinIdeal.main_arg2)
          ∧ r.2.mem ((c.tc : Thread Cert.ReferenceFinIdeal.nD Cert.ReferenceFinIdeal.τ).loc Cert.ReferenceFinIdeal.main_arg3) = m' ((c.tc : Thread Cert.ReferenceFinIdeal.nD Cert.ReferenceFinIdeal.τ).loc Cert.ReferenceFinIdeal.main_arg3))

def preserves_KernelCfwd_KernelCfwdIdeal : Prop :=
  True

def algebraic_KernelCfwdIdeal_ReferenceCfwdIdeal [hKernelCfwdIdeal : Cert.KernelCfwdIdeal.Facts] [hReferenceCfwdIdeal : Cert.ReferenceCfwdIdeal.Facts] : Prop :=
  ∀ (m : (ℓ : Loc Cert.KernelCfwdIdeal.nD Cert.KernelCfwdIdeal.τ Cert.KernelCfwdIdeal.sig) → Buf (Elt Ideal) ℓ) (g : Dev Cert.KernelCfwdIdeal.nD → PrngReg)
    (m' : (ℓ : Loc Cert.ReferenceCfwdIdeal.nD Cert.ReferenceCfwdIdeal.τ Cert.ReferenceCfwdIdeal.sig) → Buf (Elt Ideal) ℓ) (g' : Dev Cert.ReferenceCfwdIdeal.nD → PrngReg), Pre_KernelCfwdIdeal m →
    (∀ c : Dev Cert.KernelCfwdIdeal.nD,
      m' ((c.tc : Thread Cert.ReferenceCfwdIdeal.nD Cert.ReferenceCfwdIdeal.τ).loc Cert.ReferenceCfwdIdeal.main_arg0) = m ((c.tc : Thread Cert.KernelCfwdIdeal.nD Cert.KernelCfwdIdeal.τ).loc Cert.KernelCfwdIdeal.main_arg0)
      ∧ m' ((c.tc : Thread Cert.ReferenceCfwdIdeal.nD Cert.ReferenceCfwdIdeal.τ).loc Cert.ReferenceCfwdIdeal.main_arg1) = m ((c.tc : Thread Cert.KernelCfwdIdeal.nD Cert.KernelCfwdIdeal.τ).loc Cert.KernelCfwdIdeal.main_arg1)
      ∧ m' ((c.tc : Thread Cert.ReferenceCfwdIdeal.nD Cert.ReferenceCfwdIdeal.τ).loc Cert.ReferenceCfwdIdeal.main_arg2) = m ((c.tc : Thread Cert.KernelCfwdIdeal.nD Cert.KernelCfwdIdeal.τ).loc Cert.KernelCfwdIdeal.main_arg2)
      ∧ m' ((c.tc : Thread Cert.ReferenceCfwdIdeal.nD Cert.ReferenceCfwdIdeal.τ).loc Cert.ReferenceCfwdIdeal.main_arg3) = m ((c.tc : Thread Cert.KernelCfwdIdeal.nD Cert.KernelCfwdIdeal.τ).loc Cert.KernelCfwdIdeal.main_arg3)
      ∧ m' ((c.tc : Thread Cert.ReferenceCfwdIdeal.nD Cert.ReferenceCfwdIdeal.τ).loc Cert.ReferenceCfwdIdeal.main_arg4) = m ((c.tc : Thread Cert.KernelCfwdIdeal.nD Cert.KernelCfwdIdeal.τ).loc Cert.KernelCfwdIdeal.main_arg4)
      ∧ m' ((c.tc : Thread Cert.ReferenceCfwdIdeal.nD Cert.ReferenceCfwdIdeal.τ).loc Cert.ReferenceCfwdIdeal.main_arg5) = m ((c.tc : Thread Cert.KernelCfwdIdeal.nD Cert.KernelCfwdIdeal.τ).loc Cert.KernelCfwdIdeal.main_arg5)) →
    ∃ (v0 : (c : Dev Cert.KernelCfwdIdeal.nD) → Buf (Elt Ideal) ((c.tc : Thread Cert.KernelCfwdIdeal.nD Cert.KernelCfwdIdeal.τ).loc Cert.KernelCfwdIdeal.main_v4_0)) (v1 : (c : Dev Cert.KernelCfwdIdeal.nD) → Buf (Elt Ideal) ((c.tc : Thread Cert.KernelCfwdIdeal.nD Cert.KernelCfwdIdeal.τ).loc Cert.KernelCfwdIdeal.main_v4_1)),
      θ_run (Cert.KernelCfwdIdeal.defs (F := Ideal)) (onTc (τ := Cert.KernelCfwdIdeal.τ) (Cert.KernelCfwdIdeal.main (F := Ideal))) ⟨m, fun _ => 0, g⟩ (fun r => ∀ c : Dev Cert.KernelCfwdIdeal.nD,
          r.2.mem ((c.tc : Thread Cert.KernelCfwdIdeal.nD Cert.KernelCfwdIdeal.τ).loc Cert.KernelCfwdIdeal.main_v4_0) = v0 c
          ∧ r.2.mem ((c.tc : Thread Cert.KernelCfwdIdeal.nD Cert.KernelCfwdIdeal.τ).loc Cert.KernelCfwdIdeal.main_v4_1) = v1 c
          ∧ r.2.mem ((c.tc : Thread Cert.KernelCfwdIdeal.nD Cert.KernelCfwdIdeal.τ).loc Cert.KernelCfwdIdeal.main_arg0) = m ((c.tc : Thread Cert.KernelCfwdIdeal.nD Cert.KernelCfwdIdeal.τ).loc Cert.KernelCfwdIdeal.main_arg0)
          ∧ r.2.mem ((c.tc : Thread Cert.KernelCfwdIdeal.nD Cert.KernelCfwdIdeal.τ).loc Cert.KernelCfwdIdeal.main_arg1) = m ((c.tc : Thread Cert.KernelCfwdIdeal.nD Cert.KernelCfwdIdeal.τ).loc Cert.KernelCfwdIdeal.main_arg1)
          ∧ r.2.mem ((c.tc : Thread Cert.KernelCfwdIdeal.nD Cert.KernelCfwdIdeal.τ).loc Cert.KernelCfwdIdeal.main_arg2) = m ((c.tc : Thread Cert.KernelCfwdIdeal.nD Cert.KernelCfwdIdeal.τ).loc Cert.KernelCfwdIdeal.main_arg2)
          ∧ r.2.mem ((c.tc : Thread Cert.KernelCfwdIdeal.nD Cert.KernelCfwdIdeal.τ).loc Cert.KernelCfwdIdeal.main_arg3) = m ((c.tc : Thread Cert.KernelCfwdIdeal.nD Cert.KernelCfwdIdeal.τ).loc Cert.KernelCfwdIdeal.main_arg3)
          ∧ r.2.mem ((c.tc : Thread Cert.KernelCfwdIdeal.nD Cert.KernelCfwdIdeal.τ).loc Cert.KernelCfwdIdeal.main_arg4) = m ((c.tc : Thread Cert.KernelCfwdIdeal.nD Cert.KernelCfwdIdeal.τ).loc Cert.KernelCfwdIdeal.main_arg4)
          ∧ r.2.mem ((c.tc : Thread Cert.KernelCfwdIdeal.nD Cert.KernelCfwdIdeal.τ).loc Cert.KernelCfwdIdeal.main_arg5) = m ((c.tc : Thread Cert.KernelCfwdIdeal.nD Cert.KernelCfwdIdeal.τ).loc Cert.KernelCfwdIdeal.main_arg5))
      ∧ θ_run (Cert.ReferenceCfwdIdeal.defs (F := Ideal)) (onTc (τ := Cert.ReferenceCfwdIdeal.τ) (Cert.ReferenceCfwdIdeal.main (F := Ideal))) ⟨m', fun _ => 0, g'⟩ (fun r => ∀ c : Dev Cert.ReferenceCfwdIdeal.nD,
          r.2.mem ((c.tc : Thread Cert.ReferenceCfwdIdeal.nD Cert.ReferenceCfwdIdeal.τ).loc Cert.ReferenceCfwdIdeal.main_v52) = v0 c
          ∧ r.2.mem ((c.tc : Thread Cert.ReferenceCfwdIdeal.nD Cert.ReferenceCfwdIdeal.τ).loc Cert.ReferenceCfwdIdeal.main_v54) = v1 c
          ∧ r.2.mem ((c.tc : Thread Cert.ReferenceCfwdIdeal.nD Cert.ReferenceCfwdIdeal.τ).loc Cert.ReferenceCfwdIdeal.main_arg0) = m' ((c.tc : Thread Cert.ReferenceCfwdIdeal.nD Cert.ReferenceCfwdIdeal.τ).loc Cert.ReferenceCfwdIdeal.main_arg0)
          ∧ r.2.mem ((c.tc : Thread Cert.ReferenceCfwdIdeal.nD Cert.ReferenceCfwdIdeal.τ).loc Cert.ReferenceCfwdIdeal.main_arg1) = m' ((c.tc : Thread Cert.ReferenceCfwdIdeal.nD Cert.ReferenceCfwdIdeal.τ).loc Cert.ReferenceCfwdIdeal.main_arg1)
          ∧ r.2.mem ((c.tc : Thread Cert.ReferenceCfwdIdeal.nD Cert.ReferenceCfwdIdeal.τ).loc Cert.ReferenceCfwdIdeal.main_arg2) = m' ((c.tc : Thread Cert.ReferenceCfwdIdeal.nD Cert.ReferenceCfwdIdeal.τ).loc Cert.ReferenceCfwdIdeal.main_arg2)
          ∧ r.2.mem ((c.tc : Thread Cert.ReferenceCfwdIdeal.nD Cert.ReferenceCfwdIdeal.τ).loc Cert.ReferenceCfwdIdeal.main_arg3) = m' ((c.tc : Thread Cert.ReferenceCfwdIdeal.nD Cert.ReferenceCfwdIdeal.τ).loc Cert.ReferenceCfwdIdeal.main_arg3)
          ∧ r.2.mem ((c.tc : Thread Cert.ReferenceCfwdIdeal.nD Cert.ReferenceCfwdIdeal.τ).loc Cert.ReferenceCfwdIdeal.main_arg4) = m' ((c.tc : Thread Cert.ReferenceCfwdIdeal.nD Cert.ReferenceCfwdIdeal.τ).loc Cert.ReferenceCfwdIdeal.main_arg4)
          ∧ r.2.mem ((c.tc : Thread Cert.ReferenceCfwdIdeal.nD Cert.ReferenceCfwdIdeal.τ).loc Cert.ReferenceCfwdIdeal.main_arg5) = m' ((c.tc : Thread Cert.ReferenceCfwdIdeal.nD Cert.ReferenceCfwdIdeal.τ).loc Cert.ReferenceCfwdIdeal.main_arg5))

def Claim : Prop :=
  ∃ (hKernelMem : Cert.KernelMem.Facts) (hKernelMemIdeal : Cert.KernelMemIdeal.Facts) (hReferenceMemIdeal : Cert.ReferenceMemIdeal.Facts) (hKernelIn : Cert.KernelIn.Facts) (hKernelInIdeal : Cert.KernelInIdeal.Facts) (hReferenceInIdeal : Cert.ReferenceInIdeal.Facts) (hKernelGate : Cert.KernelGate.Facts) (hKernelGateIdeal : Cert.KernelGateIdeal.Facts) (hReferenceGateIdeal : Cert.ReferenceGateIdeal.Facts) (hKernelMid : Cert.KernelMid.Facts) (hKernelMidIdeal : Cert.KernelMidIdeal.Facts) (hReferenceMidIdeal : Cert.ReferenceMidIdeal.Facts) (hKernelFfn : Cert.KernelFfn.Facts) (hKernelFfnIdeal : Cert.KernelFfnIdeal.Facts) (hReferenceFfnIdeal : Cert.ReferenceFfnIdeal.Facts) (hKernelLoss : Cert.KernelLoss.Facts) (hKernelLossIdeal : Cert.KernelLossIdeal.Facts) (hReferenceLossIdeal : Cert.ReferenceLossIdeal.Facts) (hKernelFox : Cert.KernelFox.Facts) (hKernelFoxIdeal : Cert.KernelFoxIdeal.Facts) (hKernelFmid : Cert.KernelFmid.Facts) (hKernelFmidIdeal : Cert.KernelFmidIdeal.Facts) (hReferenceFmidIdeal : Cert.ReferenceFmidIdeal.Facts) (hKernelKv : Cert.KernelKv.Facts) (hKernelKvIdeal : Cert.KernelKvIdeal.Facts) (hReferenceKvIdeal : Cert.ReferenceKvIdeal.Facts) (hKernelFin : Cert.KernelFin.Facts) (hKernelFinIdeal : Cert.KernelFinIdeal.Facts) (hReferenceFinIdeal : Cert.ReferenceFinIdeal.Facts) (hKernelCfwd : Cert.KernelCfwd.Facts) (hKernelCfwdIdeal : Cert.KernelCfwdIdeal.Facts) (hReferenceCfwdIdeal : Cert.ReferenceCfwdIdeal.Facts) (hPre_finite_in : Cert.Pre_finite_in.Facts) (hPre_finite_gate : Cert.Pre_finite_gate.Facts) (hPre_finite_mid : Cert.Pre_finite_mid.Facts) (hPre_finite_ffn : Cert.Pre_finite_ffn.Facts) (hPre_finite_loss : Cert.Pre_finite_loss.Facts) (hPre_finite_fin : Cert.Pre_finite_fin.Facts),
    quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelIn (hKernelIn := hKernelIn)
    ∧ quiescent_KernelInIdeal (hKernelInIdeal := hKernelInIdeal)
    ∧ quiescent_KernelInIdeal_pre_finite_in (hKernelInIdeal := hKernelInIdeal) (hPre_finite_in := hPre_finite_in)
    ∧ quiescent_ReferenceInIdeal (hReferenceInIdeal := hReferenceInIdeal)
    ∧ quiescent_ReferenceInIdeal_pre_finite_in (hReferenceInIdeal := hReferenceInIdeal) (hPre_finite_in := hPre_finite_in)
    ∧ quiescent_KernelGate (hKernelGate := hKernelGate)
    ∧ quiescent_KernelGateIdeal (hKernelGateIdeal := hKernelGateIdeal)
    ∧ quiescent_KernelGateIdeal_pre_finite_gate (hKernelGateIdeal := hKernelGateIdeal) (hPre_finite_gate := hPre_finite_gate)
    ∧ quiescent_ReferenceGateIdeal (hReferenceGateIdeal := hReferenceGateIdeal)
    ∧ quiescent_ReferenceGateIdeal_pre_finite_gate (hReferenceGateIdeal := hReferenceGateIdeal) (hPre_finite_gate := hPre_finite_gate)
    ∧ quiescent_KernelMid (hKernelMid := hKernelMid)
    ∧ quiescent_KernelMidIdeal (hKernelMidIdeal := hKernelMidIdeal)
    ∧ quiescent_KernelMidIdeal_pre_finite_mid (hKernelMidIdeal := hKernelMidIdeal) (hPre_finite_mid := hPre_finite_mid)
    ∧ quiescent_ReferenceMidIdeal (hReferenceMidIdeal := hReferenceMidIdeal)
    ∧ quiescent_ReferenceMidIdeal_pre_finite_mid (hReferenceMidIdeal := hReferenceMidIdeal) (hPre_finite_mid := hPre_finite_mid)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelFox (hKernelFox := hKernelFox)
    ∧ quiescent_KernelFoxIdeal (hKernelFoxIdeal := hKernelFoxIdeal)
    ∧ quiescent_KernelFmid (hKernelFmid := hKernelFmid)
    ∧ quiescent_KernelFmidIdeal (hKernelFmidIdeal := hKernelFmidIdeal)
    ∧ quiescent_ReferenceFmidIdeal (hReferenceFmidIdeal := hReferenceFmidIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelFin (hKernelFin := hKernelFin)
    ∧ quiescent_KernelFinIdeal (hKernelFinIdeal := hKernelFinIdeal)
    ∧ quiescent_KernelFinIdeal_pre_finite_fin (hKernelFinIdeal := hKernelFinIdeal) (hPre_finite_fin := hPre_finite_fin)
    ∧ quiescent_ReferenceFinIdeal (hReferenceFinIdeal := hReferenceFinIdeal)
    ∧ quiescent_ReferenceFinIdeal_pre_finite_fin (hReferenceFinIdeal := hReferenceFinIdeal) (hPre_finite_fin := hPre_finite_fin)
    ∧ quiescent_KernelCfwd (hKernelCfwd := hKernelCfwd)
    ∧ quiescent_KernelCfwdIdeal (hKernelCfwdIdeal := hKernelCfwdIdeal)
    ∧ quiescent_ReferenceCfwdIdeal (hReferenceCfwdIdeal := hReferenceCfwdIdeal)
    ∧ preserves_KernelMem_KernelMemIdeal
    ∧ algebraic_KernelMemIdeal_ReferenceMemIdeal (hKernelMemIdeal := hKernelMemIdeal) (hReferenceMemIdeal := hReferenceMemIdeal)
    ∧ preserves_KernelIn_KernelInIdeal
    ∧ algebraic_KernelInIdeal_ReferenceInIdeal_pre_finite_in (hKernelInIdeal := hKernelInIdeal) (hReferenceInIdeal := hReferenceInIdeal) (hPre_finite_in := hPre_finite_in)
    ∧ preserves_KernelGate_KernelGateIdeal
    ∧ algebraic_KernelGateIdeal_ReferenceGateIdeal_pre_finite_gate (hKernelGateIdeal := hKernelGateIdeal) (hReferenceGateIdeal := hReferenceGateIdeal) (hPre_finite_gate := hPre_finite_gate)
    ∧ preserves_KernelMid_KernelMidIdeal
    ∧ algebraic_KernelMidIdeal_ReferenceMidIdeal_pre_finite_mid (hKernelMidIdeal := hKernelMidIdeal) (hReferenceMidIdeal := hReferenceMidIdeal) (hPre_finite_mid := hPre_finite_mid)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelFox_KernelFoxIdeal
    ∧ preserves_KernelFmid_KernelFmidIdeal
    ∧ algebraic_KernelFmidIdeal_ReferenceFmidIdeal (hKernelFmidIdeal := hKernelFmidIdeal) (hReferenceFmidIdeal := hReferenceFmidIdeal)
    ∧ preserves_KernelKv_KernelKvIdeal
    ∧ algebraic_KernelKvIdeal_ReferenceKvIdeal (hKernelKvIdeal := hKernelKvIdeal) (hReferenceKvIdeal := hReferenceKvIdeal)
    ∧ preserves_KernelFin_KernelFinIdeal
    ∧ algebraic_KernelFinIdeal_ReferenceFinIdeal_pre_finite_fin (hKernelFinIdeal := hKernelFinIdeal) (hReferenceFinIdeal := hReferenceFinIdeal) (hPre_finite_fin := hPre_finite_fin)
    ∧ preserves_KernelCfwd_KernelCfwdIdeal
    ∧ algebraic_KernelCfwdIdeal_ReferenceCfwdIdeal (hKernelCfwdIdeal := hKernelCfwdIdeal) (hReferenceCfwdIdeal := hReferenceCfwdIdeal)
-- ==== Pre_finite_ffn.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn {F : FTy → Type} [FloatOps F] (main_arg0 : FVec F S2x2048x1024 .f32) (main_arg1 : FVec F S1x1024 .f32) (main_arg2 : FVec F S1x1024x5632 .f32) (main_arg3 : FVec F S1x2816x1024 .f32) (main_arg4 : FVec F S2x2048x1024 .f32) : IVec S2x2048x1024 1 × IVec S1x1024 1 × IVec S1x1024x5632 1 × IVec S1x2816x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x2816x1024 .f32 := Host.absf main_arg3
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_v12 : FVec F S2x2048x1024 .f32 := Host.absf main_arg4
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  (main_v2, main_v5, main_v8, main_v11, main_v14)
-- ==== Pre_finite_fin.lean ====
abbrev S2x2048x1024 : Shape := ⟨3, ![2, 2048, 1024]⟩
abbrev S1x1024 : Shape := ⟨2, ![1, 1024]⟩
abbrev S1x1024x2568 : Shape := ⟨3, ![1, 1024, 2568]⟩
abbrev S1x8 : Shape := ⟨2, ![1, 8]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1x1024x2568 : S_.BroadcastsInDim S1x1024x2568 (![] : Fin 0 → Fin S1x1024x2568.rank)
  bcast_S_S1x8 : S_.BroadcastsInDim S1x8 (![] : Fin 0 → Fin S1x8.rank)

variable [Facts]

def fn {F : FTy → Type} [FloatOps F] (main_arg0 : FVec F S2x2048x1024 .f32) (main_arg1 : FVec F S1x1024 .f32) (main_arg2 : FVec F S1x1024x2568 .f32) (main_arg3 : FVec F S1x8 .f32) : IVec S2x2048x1024 1 × IVec S1x1024 1 × IVec S1x1024x2568 1 × IVec S1x8 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2568 .f32 := Host.absf main_arg2
  let main_cst_1 : FVec F S_ .f32 := constant S_ .f32 0x7F800000#32
  let main_v7 : FVec F S1x1024x2568 .f32 := broadcastInDim S1x1024x2568 ![] bcast_S_S1x1024x2568 main_cst_1
  let main_v8 : IVec S1x1024x2568 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  (main_v2, main_v5, main_v8, main_v11)
-- ==== Pre_finite_gate.lean ====
abbrev S2x2048x8 : Shape := ⟨3, ![2, 2048, 8]⟩
abbrev S1x8 : Shape := ⟨2, ![1, 8]⟩
abbrev S_ : Shape := ⟨0, ![]⟩

class Facts : Prop where
  bcast_S_S2x2048x8 : S_.BroadcastsInDim S2x2048x8 (![] : Fin 0 → Fin S2x2048x8.rank)
  bcast_S_S1x8 : S_.BroadcastsInDim S1x8 (![] : Fin 0 → Fin S1x8.rank)

variable [Facts]

def fn {F : FTy → Type} [FloatOps F] (main_arg0 : FVec F S2x2048x8 .f32) (main_arg1 : FVec F S1x8 .f32) (main_arg2 : FVec F S2x2048x8 .f32) : IVec S2x2048x8 1 × IVec S1x8 1 × IVec S2x2048x8 1 :=
  let main_v0 : FVec F S2x2048x8 .f32 := Host.absf main_arg0
  let main_cst : FVec F S_ .f32 := constant S_ .f32 0x7F800000#32
  let main_v1 : FVec F S2x2048x8 .f32 := broadcastInDim S2x2048x8 ![] bcast_S_S2x2048x8 main_cst
  let main_v2 : IVec S2x2048x8 1 := cmpf .olt main_v0 main_v1
  let main_v3 : FVec F S1x8 .f32 := Host.absf main_arg1
  let main_cst_0 : FVec F S_ .f32 := constant S_ .f32 0x7F800000#32
  let main_v4 : FVec F S1x8 .f32 := broadcastInDim S1x8 ![] bcast_S_S1x8 main_cst_0
  let main_v5 : IVec S1x8 1 := cmpf .olt main_v3 main_v4
  let main_v6 : FVec F S2x2048x8 .f32 := Host.absf main_arg2
  let main_cst_1 : FVec F S_ .f32 := constant S_ .f32 0x7F800000#32
  let main_v7 : FVec F S2x2048x8 .f32 := broadcastInDim S2x2048x8 ![] bcast_S_S2x2048x8 main_cst_1
  let main_v8 : IVec S2x2048x8 1 := cmpf .olt main_v6 main_v7
  (main_v2, main_v5, main_v8)
-- ==== Pre_finite_in.lean ====
abbrev S2x2048x1024 : Shape := ⟨3, ![2, 2048, 1024]⟩
abbrev S1x1024 : Shape := ⟨2, ![1, 1024]⟩
abbrev S1x1024x2568 : Shape := ⟨3, ![1, 1024, 2568]⟩
abbrev S2x2048x2568 : Shape := ⟨3, ![2, 2048, 2568]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1x1024x2568 : S_.BroadcastsInDim S1x1024x2568 (![] : Fin 0 → Fin S1x1024x2568.rank)
  bcast_S_S2x2048x2568 : S_.BroadcastsInDim S2x2048x2568 (![] : Fin 0 → Fin S2x2048x2568.rank)

variable [Facts]

def fn {F : FTy → Type} [FloatOps F] (main_arg0 : FVec F S2x2048x1024 .f32) (main_arg1 : FVec F S1x1024 .f32) (main_arg2 : FVec F S1x1024x2568 .f32) (main_arg3 : FVec F S2x2048x2568 .f32) (main_arg4 : FVec F S2x2048x1024 .f32) : IVec S2x2048x1024 1 × IVec S1x1024 1 × IVec S1x1024x2568 1 × IVec S2x2048x2568 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2568 .f32 := Host.absf main_arg2
  let main_cst_1 : FVec F S_ .f32 := constant S_ .f32 0x7F800000#32
  let main_v7 : FVec F S1x1024x2568 .f32 := broadcastInDim S1x1024x2568 ![] bcast_S_S1x1024x2568 main_cst_1
  let main_v8 : IVec S1x1024x2568 1 := cmpf .olt main_v6 main_v7
  let main_v9 : FVec F S2x2048x2568 .f32 := Host.absf main_arg3
  let main_cst_2 : FVec F S_ .f32 := constant S_ .f32 0x7F800000#32
  let main_v10 : FVec F S2x2048x2568 .f32 := broadcastInDim S2x2048x2568 ![] bcast_S_S2x2048x2568 main_cst_2
  let main_v11 : IVec S2x2048x2568 1 := cmpf .olt main_v9 main_v10
  (main_v2, main_v5, main_v8, main_v11)
-- ==== Pre_finite_loss.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)
  bcast_S_S1024 : S_.BroadcastsInDim S1024 (![] : Fin 0 → Fin S1024.rank)

variable [Facts]

def fn {F : FTy → Type} [FloatOps F] (main_arg0 : FVec F S2x2048x1024 .f32) (main_arg1 : FVec F S2x2048x1024 .f32) (main_arg2 : FVec F S1x1024 .f32) (main_arg3 : FVec F S1x1024x5632 .f32) (main_arg4 : FVec F S1x2816x1024 .f32) (main_arg5 : FVec F S1024 .f32) : IVec S2x2048x1024 1 × IVec S2x2048x1024 1 × IVec S1x1024 1 × IVec S1x1024x5632 1 × IVec S1x2816x1024 1 × IVec S1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x1024 .f32 := Host.absf main_arg1
  let main_cst_0 : FVec F S_ .f32 := constant S_ .f32 0x7F800000#32
  let main_v4 : FVec F S2x2048x1024 .f32 := broadcastInDim S2x2048x1024 ![] bcast_S_S2x2048x1024 main_cst_0
  let main_v5 : IVec S2x2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x5632 .f32 := Host.absf main_arg3
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_mid.lean ====
abbrev S2x2048x1024 : Shape := ⟨3, ![2, 2048, 1024]⟩
abbrev S1x1024 : Shape := ⟨2, ![1, 1024]⟩
abbrev S1x1024x1024 : Shape := ⟨3, ![1, 1024, 1024]⟩
abbrev S2x256x1024 : Shape := ⟨3, ![2, 256, 1024]⟩
abbrev S2x2048x512 : Shape := ⟨3, ![2, 2048, 512]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S2x256x1024 : S_.BroadcastsInDim S2x256x1024 (![] : Fin 0 → Fin S2x256x1024.rank)
  bcast_S_S2x2048x512 : S_.BroadcastsInDim S2x2048x512 (![] : Fin 0 → Fin S2x2048x512.rank)

variable [Facts]

def fn_part1 {F : FTy → Type} [FloatOps F] (main_arg6 : FVec F S1x1024x1024 .f32) (main_arg7 : FVec F S2x2048x512 .f32) (main_arg8 : FVec F S2x2048x1024 .f32) (main_v2 : IVec S2x2048x1024 1) (main_v5 : IVec S1x1024 1) (main_v8 : IVec S1x1024x1024 1) (main_v11 : IVec S2x256x1024 1) (main_v14 : IVec S2x256x1024 1) (main_v17 : IVec S1x1024x1024 1) : IVec S2x2048x1024 1 × IVec S1x1024 1 × IVec S1x1024x1024 1 × IVec S2x256x1024 1 × IVec S2x256x1024 1 × IVec S1x1024x1024 1 × IVec S1x1024x1024 1 × IVec S2x2048x512 1 × IVec S2x2048x1024 1 :=
  let main_v18 : FVec F S1x1024x1024 .f32 := Host.absf main_arg6
  let main_cst_5 : FVec F S_ .f32 := constant S_ .f32 0x7F800000#32
  let main_v19 : FVec F S1x1024x1024 .f32 := broadcastInDim S1x1024x1024 ![] bcast_S_S1x1024x1024 main_cst_5
  let main_v20 : IVec S1x1024x1024 1 := cmpf .olt main_v18 main_v19
  let main_v21 : FVec F S2x2048x512 .f32 := Host.absf main_arg7
  let main_cst_6 : FVec F S_ .f32 := constant S_ .f32 0x7F800000#32
  let main_v22 : FVec F S2x2048x512 .f32 := broadcastInDim S2x2048x512 ![] bcast_S_S2x2048x512 main_cst_6
  let main_v23 : IVec S2x2048x512 1 := cmpf .olt main_v21 main_v22
  let main_v24 : FVec F S2x2048x1024 .f32 := Host.absf main_arg8
  let main_cst_7 : FVec F S_ .f32 := constant S_ .f32 0x7F800000#32
  let main_v25 : FVec F S2x2048x1024 .f32 := broadcastInDim S2x2048x1024 ![] bcast_S_S2x2048x1024 main_cst_7
  let main_v26 : IVec S2x2048x1024 1 := cmpf .olt main_v24 main_v25
  (main_v2, main_v5, main_v8, main_v11, main_v14, main_v17, main_v20, main_v23, main_v26)

def fn {F : FTy → Type} [FloatOps F] (main_arg0 : FVec F S2x2048x1024 .f32) (main_arg1 : FVec F S1x1024 .f32) (main_arg2 : FVec F S1x1024x1024 .f32) (main_arg3 : FVec F S2x256x1024 .f32) (main_arg4 : FVec F S2x256x1024 .f32) (main_arg5 : FVec F S1x1024x1024 .f32) (main_arg6 : FVec F S1x1024x1024 .f32) (main_arg7 : FVec F S2x2048x512 .f32) (main_arg8 : FVec F S2x2048x1024 .f32) : IVec S2x2048x1024 1 × IVec S1x1024 1 × IVec S1x1024x1024 1 × IVec S2x256x1024 1 × IVec S2x256x1024 1 × IVec S1x1024x1024 1 × IVec S1x1024x1024 1 × IVec S2x2048x512 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1024 .f32 := Host.absf main_arg2
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S2x256x1024 .f32 := Host.absf main_arg3
  let main_cst_2 : FVec F S_ .f32 := constant S_ .f32 0x7F800000#32
  let main_v10 : FVec F S2x256x1024 .f32 := broadcastInDim S2x256x1024 ![] bcast_S_S2x256x1024 main_cst_2
  let main_v11 : IVec S2x256x1024 1 := cmpf .olt main_v9 main_v10
  let main_v12 : FVec F S2x256x1024 .f32 := Host.absf main_arg4
  let main_cst_3 : FVec F S_ .f32 := constant S_ .f32 0x7F800000#32
  let main_v13 : FVec F S2x256x1024 .f32 := broadcastInDim S2x256x1024 ![] bcast_S_S2x256x1024 main_cst_3
  let main_v14 : IVec S2x256x1024 1 := cmpf .olt main_v12 main_v13
  let main_v15 : FVec F S1x1024x1024 .f32 := Host.absf main_arg5
  let main_cst_4 : FVec F S_ .f32 := constant S_ .f32 0x7F800000#32
  let main_v16 : FVec F S1x1024x1024 .f32 := broadcastInDim S1x1024x1024 ![] bcast_S_S1x1024x1024 main_cst_4
  let main_v17 : IVec S1x1024x1024 1 := cmpf .olt main_v15 main_v16
  fn_part1 (F := F) main_arg6 main_arg7 main_arg8 main_v2 main_v5 main_v8 main_v11 main_v14 main_v17
-- ==== KernelMem.lean ====
abbrev S2x256x1024 : Shape := ⟨3, ![2, 256, 1024]⟩
abbrev S1024 : Shape := ⟨1, ![1024]⟩
abbrev S1x1024x2048 : Shape := ⟨3, ![1, 1024, 2048]⟩
abbrev S512x1024 : Shape := ⟨2, ![512, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S1x1024 : Shape := ⟨2, ![1, 1024]⟩
abbrev S512x2048 : Shape := ⟨2, ![512, 2048]⟩
abbrev S256x1024 : Shape := ⟨2, ![256, 1024]⟩
abbrev S256x2048 : Shape := ⟨2, ![256, 2048]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩

abbrev nBuf : Space → Nat
  | .hbm => 15
  | .vmem => 11
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1x1024x2048, .f32⟩
  | .hbm, ⟨3, _⟩ => ⟨S2x256x1024, .f32⟩
  | .hbm, ⟨4, _⟩ => ⟨S2x256x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S4x1024x512, .bf16⟩
  | .hbm, ⟨12, _⟩ => ⟨S1x1024, .f32⟩
  | .hbm, ⟨13, _⟩ => ⟨S512x2048, .bf16⟩
  | .hbm, ⟨14, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x1024x512, .bf16⟩
  | .local _ .vmem, ⟨7, _⟩ => ⟨S1x1024, .f32⟩
  | .local _ .vmem, ⟨8, _⟩ => ⟨S256x2048, .bf16⟩
  | .local _ .vmem, ⟨9, _⟩ => ⟨S256x2048, .bf16⟩
  | .local _ .vmem, ⟨10, _⟩ => ⟨S1x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceMemIdeal.lean ====
abbrev S2x256x1024 : Shape := ⟨3, ![2, 256, 1024]⟩
abbrev S1024 : Shape := ⟨1, ![1024]⟩
abbrev S1x1024x2048 : Shape := ⟨3, ![1, 1024, 2048]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x2048 : Shape := ⟨2, ![1024, 2048]⟩
abbrev S2x256x2048 : Shape := ⟨3, ![2, 256, 2048]⟩
abbrev S512x2048 : Shape := ⟨2, ![512, 2048]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1x1024x2048, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S1024x2048, .f32⟩
  | .hbm, ⟨22, _⟩ => ⟨S2x256x2048, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x2048, .f32⟩
  | .hbm, ⟨27, _⟩ => ⟨S_, .f32⟩
  | .hbm, ⟨28, _⟩ => ⟨S2x256x2048, .f32⟩
  | .hbm, ⟨29, _⟩ => ⟨S2x256x2048, .f32⟩
  | .hbm, ⟨30, _⟩ => ⟨S2x256x1024, .f32⟩
  | .hbm, ⟨31, _⟩ => ⟨S_, .f32⟩
  | .hbm, ⟨32, _⟩ => ⟨S2x256, .f32⟩
  | .hbm, ⟨33, _⟩ => ⟨S2x256x1, .f32⟩
  | .hbm, ⟨34, _⟩ => ⟨S_, .f32⟩
  | .hbm, ⟨35, _⟩ => ⟨S2x256x1, .f32⟩
  | .hbm, ⟨36, _⟩ => ⟨S2x256x1, .f32⟩
  | .hbm, ⟨37, _⟩ => ⟨S_, .f32⟩
  | .hbm, ⟨38, _⟩ => ⟨S2x256x1, .f32⟩
  | .hbm, ⟨39, _⟩ => ⟨S2x256x1, .f32⟩
  | .hbm, ⟨40, _⟩ => ⟨S2x256x1, .f32⟩
  | .hbm, ⟨41, _⟩ => ⟨S2x256x1024, .f32⟩
  | .hbm, ⟨42, _⟩ => ⟨S2x256x1024, .f32⟩
  | .hbm, ⟨43, _⟩ => ⟨S1x1x1024, .f32⟩
  | .hbm, ⟨44, _⟩ => ⟨S2x256x1024, .f32⟩
  | .hbm, ⟨45, _⟩ => ⟨S2x256x1024, .f32⟩
  | .hbm, ⟨46, _⟩ => ⟨S1024x2048, .f32⟩
  | .hbm, ⟨47, _⟩ => ⟨S2x256x2048, .f32⟩
  | .hbm, ⟨48, _⟩ => ⟨S2x256x1024, .f32⟩
  | .hbm, ⟨49, _⟩ => ⟨S2x256x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S_, .f32⟩
  | .hbm, ⟨54, _⟩ => ⟨S1024, .f32⟩
  | .hbm, ⟨55, _⟩ => ⟨S512x2048, .f32⟩
  | .hbm, ⟨56, _⟩ => ⟨S512x2048, .bf16⟩
  | .hbm, ⟨57, _⟩ => ⟨S1x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== KernelIn.lean ====
abbrev S2x2048x1024 : Shape := ⟨3, ![2, 2048, 1024]⟩
abbrev S1x1024 : Shape := ⟨2, ![1, 1024]⟩
abbrev S1x1024x2568 : Shape := ⟨3, ![1, 1024, 2568]⟩
abbrev S2x2048x2568 : Shape := ⟨3, ![2, 2048, 2568]⟩
abbrev S1024x2568 : Shape := ⟨2, ![1024, 2568]⟩
abbrev S2568x1024 : Shape := ⟨2, ![2568, 1024]⟩
abbrev S8x1024 : Shape := ⟨2, ![8, 1024]⟩
abbrev S_ : Shape := ⟨0, ![]⟩
abbrev S128x1024 : Shape := ⟨2, ![128, 1024]⟩
abbrev S4096x2568 : Shape := ⟨2, ![4096, 2568]⟩
abbrev S4096x2688 : Shape := ⟨2, ![4096, 2688]⟩
abbrev S4096x1024 : Shape := ⟨2, ![4096, 1024]⟩
abbrev S512x2688 : Shape := ⟨2, ![512, 2688]⟩
abbrev S512x1024 : Shape := ⟨2, ![512, 1024]⟩
abbrev S512x2560 : Shape := ⟨2, ![512, 2560]⟩
abbrev S2560x1024 : Shape := ⟨2, ![2560, 1024]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 21
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2568, .f32⟩
  | .hbm, ⟨3, _⟩ => ⟨S2x2048x2568, .f32⟩
  | .hbm, ⟨4, _⟩ => ⟨S2x2048x1024, .f32⟩
  | .hbm, ⟨5, _⟩ => ⟨S1024x2568, .f32⟩
  | .hbm, ⟨6, _⟩ => ⟨S2568x1024, .f32⟩
  | .hbm, ⟨7, _⟩ => ⟨S2568x1024, .bf16⟩
  | .hbm, ⟨8, _⟩ => ⟨S8x1024, .bf16⟩
  | .hbm, ⟨9, _⟩ => ⟨S_, .i32⟩
  | .hbm, ⟨10, _⟩ => ⟨S_, .bf16⟩
  | .hbm, ⟨11, _⟩ => ⟨S128x1024, .bf16⟩
  | .hbm, ⟨12, _⟩ => ⟨S4096x2568, .f32⟩
  | .hbm, ⟨13, _⟩ => ⟨S_, .i32⟩
  | .hbm, ⟨14, _⟩ => ⟨S_, .f32⟩
  | .hbm, ⟨15, _⟩ => ⟨S4096x2688, .f32⟩
  | .hbm, ⟨16, _⟩ => ⟨S4096x2688, .bf16⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .local _ .vmem, ⟨0, _⟩ => ⟨S512x2688, .bf16⟩
  | .local _ .vmem, ⟨1, _⟩ => ⟨S512x2688, .bf16⟩
  | .local _ .vmem, ⟨2, _⟩ => ⟨S2568x1024, .bf16⟩
  | .local _ .vmem, ⟨3, _⟩ => ⟨S128x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2568x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceInIdeal.lean ====
abbrev S2x2048x1024 : Shape := ⟨3, ![2, 2048, 1024]⟩
abbrev S1x1024 : Shape := ⟨2, ![1, 1024]⟩
abbrev S1x1024x2568 : Shape := ⟨3, ![1, 1024, 2568]⟩
abbrev S2x2048x2568 : Shape := ⟨3, ![2, 2048, 2568]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2568 : Shape := ⟨2, ![1024, 2568]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2568, .f32⟩
  | .hbm, ⟨3, _⟩ => ⟨S2x2048x2568, .f32⟩
  | .hbm, ⟨4, _⟩ => ⟨S2x2048x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x2568, .f32⟩
  | .hbm, ⟨27, _⟩ => ⟨S2x2048x2568, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S1x1024, .f32⟩
  | .hbm, ⟨56, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== KernelGate.lean ====
abbrev S2x2048x8 : Shape := ⟨3, ![2, 2048, 8]⟩
abbrev S1x8 : Shape := ⟨2, ![1, 8]⟩
abbrev S4096x8 : Shape := ⟨2, ![4096, 8]⟩
abbrev S_ : Shape := ⟨0, ![]⟩
abbrev S4096x128 : Shape := ⟨2, ![4096, 128]⟩
abbrev S1x128 : Shape := ⟨2, ![1, 128]⟩
abbrev S512x128 : Shape := ⟨2, ![512, 128]⟩
abbrev S8x128 : Shape := ⟨2, ![8, 128]⟩
abbrev S512x512 : Shape := ⟨2, ![512, 512]⟩
abbrev S128 : Shape := ⟨1, ![128]⟩

abbrev nBuf : Space → Nat
  | .hbm => 18
  | .vmem => 8
  | .smem => 0
  | _ => 0

abbrev bufTy : (tb : Table) → Fin (tcTables nBuf tb) → BufTy
  | .hbm, ⟨0, _⟩ => ⟨S2x2048x8, .f32⟩
  | .hbm, ⟨1, _⟩ => ⟨S1x8, .f32⟩
  | .hbm, ⟨2, _⟩ => ⟨S2x2048x8, .f32⟩
  | .hbm, ⟨3, _⟩ => ⟨S4096x8, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S4096x128, .f32⟩
  | .hbm, ⟨11, _⟩ => ⟨S4096x128, .f32⟩
  | .hbm, ⟨12, _⟩ => ⟨S4096x8, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4096x128, .bf16⟩
  | .hbm, ⟨17, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .bf16⟩
  | .local _ .vmem, ⟨5, _⟩ => ⟨S512x128, .bf16⟩
  | .local _ .vmem, ⟨6, _⟩ => ⟨S1x128, .f32⟩
  | .local _ .vmem, ⟨7, _⟩ => ⟨S8x128, .f32⟩
  | _, _ => ⟨S2x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceGateIdeal.lean ====
abbrev S2x2048x8 : Shape := ⟨3, ![2, 2048, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩
abbrev S4096x8 : Shape := ⟨2, ![4096, 8]⟩
abbrev S4096x128 : Shape := ⟨2, ![4096, 128]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S2x2048x8, .f32⟩
  | .hbm, ⟨1, _⟩ => ⟨S1x8, .f32⟩
  | .hbm, ⟨2, _⟩ => ⟨S2x2048x8, .f32⟩
  | .hbm, ⟨3, _⟩ => ⟨S8, .f32⟩
  | .hbm, ⟨4, _⟩ => ⟨S1x1x8, .f32⟩
  | .hbm, ⟨5, _⟩ => ⟨S2x2048x8, .f32⟩
  | .hbm, ⟨6, _⟩ => ⟨S2x2048x8, .f32⟩
  | .hbm, ⟨7, _⟩ => ⟨S2x2048x8, .f32⟩
  | .hbm, ⟨8, _⟩ => ⟨S_, .f32⟩
  | .hbm, ⟨9, _⟩ => ⟨S2x2048x8, .f32⟩
  | .hbm, ⟨10, _⟩ => ⟨S2x2048x8, .f32⟩
  | .hbm, ⟨11, _⟩ => ⟨S2x2048x8, .f32⟩
  | .hbm, ⟨12, _⟩ => ⟨S2x2048x8, .f32⟩
  | .hbm, ⟨13, _⟩ => ⟨S2x2048x8, .i1⟩
  | .hbm, ⟨14, _⟩ => ⟨S2x2048x8, .f32⟩
  | .hbm, ⟨15, _⟩ => ⟨S2x2048x8, .f32⟩
  | .hbm, ⟨16, _⟩ => ⟨S2x2048x8, .f32⟩
  | .hbm, ⟨17, _⟩ => ⟨S2x2048x8, .f32⟩
  | .hbm, ⟨18, _⟩ => ⟨S2x2048x8, .f32⟩
  | .hbm, ⟨19, _⟩ => ⟨S2x2048x8, .f32⟩
  | .hbm, ⟨20, _⟩ => ⟨S2x2048x8, .f32⟩
  | .hbm, ⟨21, _⟩ => ⟨S2x2048x8, .f32⟩
  | .hbm, ⟨22, _⟩ => ⟨S_, .f32⟩
  | .hbm, ⟨23, _⟩ => ⟨S2x2048x8, .f32⟩
  | .hbm, ⟨24, _⟩ => ⟨S2x2048x8, .i1⟩
  | .hbm, ⟨25, _⟩ => ⟨S_, .f32⟩
  | .hbm, ⟨26, _⟩ => ⟨S2x2048x8, .f32⟩
  | .hbm, ⟨27, _⟩ => ⟨S2x2048x8, .f32⟩
  | .hbm, ⟨28, _⟩ => ⟨S_, .f32⟩
  | .hbm, ⟨29, _⟩ => ⟨S2x2048x8, .f32⟩
  | .hbm, ⟨30, _⟩ => ⟨S2x2048x8, .i1⟩
  | .hbm, ⟨31, _⟩ => ⟨S_, .f32⟩
  | .hbm, ⟨32, _⟩ => ⟨S2x2048x8, .f32⟩
  | .hbm, ⟨33, _⟩ => ⟨S2x2048x8, .f32⟩
  | .hbm, ⟨34, _⟩ => ⟨S2x2048x8, .f32⟩
  | .hbm, ⟨35, _⟩ => ⟨S2x2048x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x2048x8, .f32⟩
  | .hbm, ⟨44, _⟩ => ⟨S2x2048x8, .i1⟩
  | .hbm, ⟨45, _⟩ => ⟨S_, .f32⟩
  | .hbm, ⟨46, _⟩ => ⟨S2x2048x8, .f32⟩
  | .hbm, ⟨47, _⟩ => ⟨S2x2048x8, .f32⟩
  | .hbm, ⟨48, _⟩ => ⟨S2x2048x8, .f32⟩
  | .hbm, ⟨49, _⟩ => ⟨S2x2048x8, .f32⟩
  | .hbm, ⟨50, _⟩ => ⟨S2x2048x8, .f32⟩
  | .hbm, ⟨51, _⟩ => ⟨S_, .f32⟩
  | .hbm, ⟨52, _⟩ => ⟨S2x2048x8, .f32⟩
  | .hbm, ⟨53, _⟩ => ⟨S2x2048x8, .f32⟩
  | .hbm, ⟨54, _⟩ => ⟨S2x2048x8, .f32⟩
  | .hbm, ⟨55, _⟩ => ⟨S_, .f32⟩
  | .hbm, ⟨56, _⟩ => ⟨S_, .f32⟩
  | .hbm, ⟨57, _⟩ => ⟨S2x2048x8, .f32⟩
  | .hbm, ⟨58, _⟩ => ⟨S_, .f32⟩
  | .hbm, ⟨59, _⟩ => ⟨S_, .f32⟩
  | .hbm, ⟨60, _⟩ => ⟨S2x2048x8, .f32⟩
  | .hbm, ⟨61, _⟩ => ⟨S2x2048x8, .f32⟩
  | .hbm, ⟨62, _⟩ => ⟨S2x2048x8, .f32⟩
  | .hbm, ⟨63, _⟩ => ⟨S2x2048x8, .f32⟩
  | .hbm, ⟨64, _⟩ => ⟨S_, .f32⟩
  | .hbm, ⟨65, _⟩ => ⟨S8, .f32⟩
  | .hbm, ⟨66, _⟩ => ⟨S1x1x8, .f32⟩
  | .hbm, ⟨67, _⟩ => ⟨S_, .f32⟩
  | .hbm, ⟨68, _⟩ => ⟨S8, .f32⟩
  | .hbm, ⟨69, _⟩ => ⟨S1x8, .f32⟩
  | .hbm, ⟨70, _⟩ => ⟨S4096x8, .f32⟩
  | .hbm, ⟨71, _⟩ => ⟨S_, .i32⟩
  | .hbm, ⟨72, _⟩ => ⟨S_, .f32⟩
  | .hbm, ⟨73, _⟩ => ⟨S4096x128, .f32⟩
  | .hbm, ⟨74, _⟩ => ⟨S4096x128, .bf16⟩
  | .hbm, ⟨75, _⟩ => ⟨S_, .i32⟩
  | .hbm, ⟨76, _⟩ => ⟨S_, .f32⟩
  | .hbm, ⟨77, _⟩ => ⟨S1x128, .f32⟩
  | _, _ => ⟨S2x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_call2_call0_cst : Ref sig .tc := ⟨.hbm, 58, rfl⟩
abbrev main_call2_call0_v0 : Ref sig .tc := ⟨.hbm, 59, rfl⟩
abbrev main_v6 : Ref sig .tc := ⟨.hbm, 60, rfl⟩
abbrev main_call3_v0 : Ref sig .tc := ⟨.hbm, 61, rfl⟩
abbrev main_call3_v1 : Ref sig .tc := ⟨.hbm, 62, rfl⟩
abbrev main_v7 : Ref sig .tc := ⟨.hbm, 63, rfl⟩
abbrev main_cst : Ref sig .tc := ⟨.hbm, 64, rfl⟩
abbrev main_v8 : Ref sig .tc := ⟨.hbm, 65, rfl⟩
abbrev main_v9 : Ref sig .tc := ⟨.hbm, 66, rfl⟩
abbrev main_cst_0 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_c : Ref sig .tc := ⟨.hbm, 71, rfl⟩
abbrev main_call4_v0 : Ref sig .tc := ⟨.hbm, 72, rfl⟩
abbrev main_v13 : Ref sig .tc := ⟨.hbm, 73, rfl⟩
abbrev main_v14 : Ref sig .tc := ⟨.hbm, 74, rfl⟩
abbrev main_c_1 : Ref sig .tc := ⟨.hbm, 75, rfl⟩
abbrev main_call5_v0 : Ref sig .tc := ⟨.hbm, 76, rfl⟩
abbrev main_v15 : Ref sig .tc := ⟨.hbm, 77, rfl⟩

abbrev nD : Nat := 1
abbrev τ : Topo := Topo.v7x

variable {F : FTy → Type} [FloatOps F]
-- ==== KernelMid.lean ====
abbrev S2x2048x1024 : Shape := ⟨3, ![2, 2048, 1024]⟩
abbrev S1x1024 : Shape := ⟨2, ![1, 1024]⟩
abbrev S1x1024x1024 : Shape := ⟨3, ![1, 1024, 1024]⟩
abbrev S2x256x1024 : Shape := ⟨3, ![2, 256, 1024]⟩
abbrev S2x2048x512 : Shape := ⟨3, ![2, 2048, 512]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x1024 : Shape := ⟨2, ![1024, 1024]⟩
abbrev S4096x1024 : Shape := ⟨2, ![4096, 1024]⟩
abbrev S512x1024 : Shape := ⟨2, ![512, 1024]⟩
abbrev S4096x512 : Shape := ⟨2, ![4096, 512]⟩
abbrev S2x8x512x256 : Shape := ⟨4, ![2, 8, 512, 256]⟩
abbrev S256x1024 : Shape := ⟨2, ![256, 1024]⟩
abbrev S512x512 : Shape := ⟨2, ![512, 512]⟩
abbrev S1x2x512x256 : Shape := ⟨4, ![1, 2, 512, 256]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S256x512 : Shape := ⟨2, ![256, 512]⟩
abbrev S1x1x512x256 : Shape := ⟨4, ![1, 1, 512, 256]⟩

abbrev nBuf : Space → Nat
  | .hbm => 52
  | .vmem => 33
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x1024, .f32⟩
  | .hbm, ⟨3, _⟩ => ⟨S2x256x1024, .f32⟩
  | .hbm, ⟨4, _⟩ => ⟨S2x256x1024, .f32⟩
  | .hbm, ⟨5, _⟩ => ⟨S1x1024x1024, .f32⟩
  | .hbm, ⟨6, _⟩ => ⟨S1x1024x1024, .f32⟩
  | .hbm, ⟨7, _⟩ => ⟨S2x2048x512, .f32⟩
  | .hbm, ⟨8, _⟩ => ⟨S2x2048x1024, .f32⟩
  | .hbm, ⟨9, _⟩ => ⟨S1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x1024, .f32⟩
  | .hbm, ⟨27, _⟩ => ⟨S2x2048x1024, .f32⟩
  | .hbm, ⟨28, _⟩ => ⟨S4096x1024, .f32⟩
  | .hbm, ⟨29, _⟩ => ⟨S4096x1024, .bf16⟩
  | .hbm, ⟨30, _⟩ => ⟨S4096x1024, .f32⟩
  | .hbm, ⟨31, _⟩ => ⟨S4096x1024, .f32⟩
  | .hbm, ⟨32, _⟩ => ⟨S512x1024, .f32⟩
  | .hbm, ⟨33, _⟩ => ⟨S512x1024, .bf16⟩
  | .hbm, ⟨34, _⟩ => ⟨S512x1024, .f32⟩
  | .hbm, ⟨35, _⟩ => ⟨S512x1024, .bf16⟩
  | .hbm, ⟨36, _⟩ => ⟨S4096x512, .f32⟩
  | .hbm, ⟨37, _⟩ => ⟨S1024x1024, .f32⟩
  | .hbm, ⟨38, _⟩ => ⟨S1024x1024, .bf16⟩
  | .hbm, ⟨39, _⟩ => ⟨S1024x1024, .f32⟩
  | .hbm, ⟨40, _⟩ => ⟨S1024x1024, .bf16⟩
  | .hbm, ⟨41, _⟩ => ⟨S1024x1024, .f32⟩
  | .hbm, ⟨42, _⟩ => ⟨S1024x1024, .bf16⟩
  | .hbm, ⟨43, _⟩ => ⟨S4096x1024, .f32⟩
  | .hbm, ⟨44, _⟩ => ⟨S4096x1024, .bf16⟩
  | .hbm, ⟨45, _⟩ => ⟨S4096x512, .f32⟩
  | .hbm, ⟨46, _⟩ => ⟨S4096x512, .bf16⟩
  | .hbm, ⟨47, _⟩ => ⟨S4096x512, .f32⟩
  | .hbm, ⟨48, _⟩ => ⟨S512x1024, .f32⟩
  | .hbm, ⟨49, _⟩ => ⟨S512x1024, .f32⟩
  | .hbm, ⟨50, _⟩ => ⟨S1x1024, .f32⟩
  | .hbm, ⟨51, _⟩ => ⟨S2x8x512x256, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S512x512, .f32⟩
  | .local _ .vmem, ⟨11, _⟩ => ⟨S512x512, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x512, .f32⟩
  | .local _ .vmem, ⟨21, _⟩ => ⟨S512x512, .f32⟩
  | .local _ .vmem, ⟨22, _⟩ => ⟨S512x512, .bf16⟩
  | .local _ .vmem, ⟨23, _⟩ => ⟨S512x512, .bf16⟩
  | .local _ .vmem, ⟨24, _⟩ => ⟨S512x512, .f32⟩
  | .local _ .vmem, ⟨25, _⟩ => ⟨S512x512, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S1x1024, .f32⟩
  | .local _ .vmem, ⟨31, _⟩ => ⟨S1x2x512x256, .bf16⟩
  | .local _ .vmem, ⟨32, _⟩ => ⟨S1x2x512x256, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev main_v31_4 : Ref sig .tc := ⟨.hbm, 47, rfl⟩
abbrev main_v31_5 : Ref sig .tc := ⟨.hbm, 48, rfl⟩
abbrev main_v31_6 : Ref sig .tc := ⟨.hbm, 49, rfl⟩
abbrev main_v31_7 : Ref sig .tc := ⟨.hbm, 50, rfl⟩
abbrev main_v31_8 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x2x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ReferenceMidIdeal.lean ====
abbrev S2x2048x1024 : Shape := ⟨3, ![2, 2048, 1024]⟩
abbrev S1x1024 : Shape := ⟨2, ![1, 1024]⟩
abbrev S1x1024x1024 : Shape := ⟨3, ![1, 1024, 1024]⟩
abbrev S2x256x1024 : Shape := ⟨3, ![2, 256, 1024]⟩
abbrev S2x2048x512 : Shape := ⟨3, ![2, 2048, 512]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x1024 : Shape := ⟨2, ![1024, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩
abbrev S4096x512 : Shape := ⟨2, ![4096, 512]⟩
abbrev S4096x8x64 : Shape := ⟨3, ![4096, 8, 64]⟩
abbrev S4096x8 : Shape := ⟨2, ![4096, 8]⟩
abbrev S2x8x256x512 : Shape := ⟨4, ![2, 8, 256, 512]⟩
abbrev S2x8x512x256 : Shape := ⟨4, ![2, 8, 512, 256]⟩
abbrev S4096x1024 : Shape := ⟨2, ![4096, 1024]⟩
abbrev S4096x8x1 : Shape := ⟨3, ![4096, 8, 1]⟩
abbrev S512x1024 : Shape := ⟨2, ![512, 1024]⟩

abbrev nBuf : Space → Nat
  | .hbm => 163
  | .vmem => 0
  | .smem => 0
  | _ => 0

abbrev hbmTy0_0 (i : Nat) : BufTy := match i % 128 with
  | 0 => ⟨S2x2048x1024, .f32⟩
  | 1 => ⟨S1x1024, .f32⟩
  | 2 => ⟨S1x1024x1024, .f32⟩
  | 3 => ⟨S2x256x1024, .f32⟩
  | 4 => ⟨S2x256x1024, .f32⟩
  | 5 => ⟨S1x1024x1024, .f32⟩
  | 6 => ⟨S1x1024x1024, .f32⟩
  | 7 => ⟨S2x2048x512, .f32⟩
  | 8 => ⟨S2x2048x1024, .f32⟩
  | 9 => ⟨S1024, .f32⟩
  | 10 => ⟨S2x2048x1024, .f32⟩
  | 11 => ⟨S_, .f32⟩
  | 12 => ⟨S2x2048, .f32⟩
  | 13 => ⟨S2x2048x1, .f32⟩
  | 14 => ⟨S_, .f32⟩
  | 15 => ⟨S2x2048x1, .f32⟩
  | 16 => ⟨S2x2048x1, .f32⟩
  | 17 => ⟨S_, .f32⟩
  | 18 => ⟨S2x2048x1, .f32⟩
  | 19 => ⟨S2x2048x1, .f32⟩
  | 20 => ⟨S2x2048x1, .f32⟩
  | 21 => ⟨S2x2048x1, .f32⟩
  | 22 => ⟨S_, .f32⟩
  | 23 => ⟨S2x2048x1, .f32⟩
  | 24 => ⟨S2x2048x1, .f32⟩
  | 25 => ⟨S2x2048x1024, .f32⟩
  | 26 => ⟨S2x2048x1024, .f32⟩
  | 27 => ⟨S1x1x1024, .f32⟩
  | 28 => ⟨S2x2048x1024, .f32⟩
  | 29 => ⟨S2x2048x1024, .f32⟩
  | 30 => ⟨S1024x1024, .f32⟩
  | 31 => ⟨S2x2048x1024, .f32⟩
  | 32 => ⟨S2x2048x4x256, .f32⟩
  | 33 => ⟨S2x256x4x256, .f32⟩
  | 34 => ⟨S2x256x4x256, .f32⟩
  | 35 => ⟨S2x4x2048x256, .f32⟩
  | 36 => ⟨S_, .f32⟩
  | 37 => ⟨S2x4x2048x256, .f32⟩
  | 38 => ⟨S2x4x2048x256, .f32⟩
  | 39 => ⟨S_, .f32⟩
  | 40 => ⟨S2x4x2048, .f32⟩
  | 41 => ⟨S2x4x2048x1, .f32⟩
  | 42 => ⟨S2x4x2048x256, .f32⟩
  | 43 => ⟨S2x4x2048x256, .i1⟩
  | 44 => ⟨S2x4x2048x256, .f32⟩
  | 45 => ⟨S_, .f32⟩
  | 46 => ⟨S2x4x2048, .f32⟩
  | 47 => ⟨S_, .f32⟩
  | 48 => ⟨S2x4x2048, .f32⟩
  | 49 => ⟨S2x4x2048, .f32⟩
  | 50 => ⟨S_, .f32⟩
  | 51 => ⟨S2x4x2048, .f32⟩
  | 52 => ⟨S2x4x2048, .i1⟩
  | 53 => ⟨S_, .f32⟩
  | 54 => ⟨S2x4x2048, .f32⟩
  | 55 => ⟨S2x4x2048, .i1⟩
  | 56 => ⟨S_, .f32⟩
  | 57 => ⟨S2x4x2048, .f32⟩
  | 58 => ⟨S_, .f32⟩
  | 59 => ⟨S2x4x2048, .f32⟩
  | 60 => ⟨S_, .f32⟩
  | 61 => ⟨S2x4x2048, .f32⟩
  | 62 => ⟨S2x4x2048, .f32⟩
  | 63 => ⟨S2x4x2048, .f32⟩
  | 64 => ⟨S2x4x2048x1, .f32⟩
  | 65 => ⟨S2x4x2048x256, .f32⟩
  | 66 => ⟨S2x4x2048x256, .f32⟩
  | 67 => ⟨S2x4x2048x256, .f32⟩
  | 68 => ⟨S_, .f32⟩
  | 69 => ⟨S2x4x2048, .f32⟩
  | 70 => ⟨S2x4x2048x1, .f32⟩
  | 71 => ⟨S2x4x2048x256, .f32⟩
  | 72 => ⟨S2x4x2048x256, .f32⟩
  | 73 => ⟨S2x4x2048x1, .f32⟩
  | 74 => ⟨S_, .f32⟩
  | 75 => ⟨S2x4x2048x1, .f32⟩
  | 76 => ⟨S2x4x2048x1, .f32⟩
  | 77 => ⟨S2x4x256x2048, .f32⟩
  | 78 => ⟨S2x2048x4x256, .f32⟩
  | 79 => ⟨S2x2048x1024, .f32⟩
  | 80 => ⟨S1024x1024, .f32⟩
  | 81 => ⟨S2x2048x1024, .f32⟩
  | 82 => ⟨S2x2048x1024, .f32⟩
  | 83 => ⟨S2x2048x4x256, .f32⟩
  | 84 => ⟨S2x4x256x2048, .f32⟩
  | 85 => ⟨S2x4x2048x256, .f32⟩
  | 86 => ⟨S2x4x256x256, .f32⟩
  | 87 => ⟨S2x256x4x256, .f32⟩
  | 88 => ⟨S2x4x2048x256, .f32⟩
  | 89 => ⟨S2x4x2048x256, .f32⟩
  | 90 => ⟨S2x4x2048x256, .f32⟩
  | 91 => ⟨S_, .f32⟩
  | 92 => ⟨S2x4x2048, .f32⟩
  | 93 => ⟨S2x4x2048x1, .f32⟩
  | 94 => ⟨S2x4x2048x1, .f32⟩
  | 95 => ⟨S2x4x2048x256, .f32⟩
  | 96 => ⟨S2x4x2048x256, .f32⟩
  | 97 => ⟨S_, .f32⟩
  | 98 => ⟨S2x4x2048, .f32⟩
  | 99 => ⟨S2x4x2048x256, .f32⟩
  | 100 => ⟨S2x4x2048x256, .f32⟩
  | 101 => ⟨S2x4x2048x256, .f32⟩
  | 102 => ⟨S_, .f32⟩
  | 103 => ⟨S2x4x2048x256, .f32⟩
  | 104 => ⟨S2x4x2048x256, .f32⟩
  | 105 => ⟨S2x4x256x256, .f32⟩
  | 106 => ⟨S2x256x4x256, .f32⟩
  | 107 => ⟨S2x4x2048x256, .f32⟩
  | 108 => ⟨S2x2048x4x256, .f32⟩
  | 109 => ⟨S2x256x1024, .f32⟩
  | 110 => ⟨S2x256x1024, .f32⟩
  | 111 => ⟨S2x2048x1024, .f32⟩
  | 112 => ⟨S2x2048x1024, .f32⟩
  | 113 => ⟨S2x2048x1024, .f32⟩
  | 114 => ⟨S_, .f32⟩
  | 115 => ⟨S1024, .f32⟩
  | 116 => ⟨S1x1x1024, .f32⟩
  | 117 => ⟨S2x2048x1024, .f32⟩
  | 118 => ⟨S2x2048x1024, .f32⟩
  | 119 => ⟨S_, .f32⟩
  | 120 => ⟨S1024, .f32⟩
  | 121 => ⟨S2x2048x1024, .f32⟩
  | 122 => ⟨S_, .f32⟩
  | 123 => ⟨S2x2048, .f32⟩
  | 124 => ⟨S2x2048x1, .f32⟩
  | 125 => ⟨S2x2048x1024, .f32⟩
  | 126 => ⟨S2x2048x1024, .f32⟩
  | 127 => ⟨S2x2048x1, .f32⟩
  | _ => ⟨S2x2048x1024, .f32⟩

abbrev hbmTy0_1 (i : Nat) : BufTy := match i % 128 with
  | 0 => ⟨S_, .f32⟩
  | 1 => ⟨S2x2048x1, .f32⟩
  | 2 => ⟨S2x2048x1, .f32⟩
  | 3 => ⟨S_, .f32⟩
  | 4 => ⟨S2x2048, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x2048x1024, .f32⟩
  | 10 => ⟨S1x1024, .f32⟩
  | 11 => ⟨S2x2048x1024, .f32⟩
  | 12 => ⟨S1024x1024, .f32⟩
  | 13 => ⟨S2x2048x1024, .f32⟩
  | 14 => ⟨S2x2048x512, .f32⟩
  | 15 => ⟨S4096x512, .f32⟩
  | 16 => ⟨S2x2048x512, .f32⟩
  | 17 => ⟨S4096x512, .f32⟩
  | 18 => ⟨S4096x512, .f32⟩
  | 19 => ⟨S4096x512, .f32⟩
  | 20 => ⟨S4096x8x64, .f32⟩
  | 21 => ⟨S_, .f32⟩
  | 22 => ⟨S4096x8, .f32⟩
  | 23 => ⟨S2x8x256x512, .f32⟩
  | 24 => ⟨S2x8x512x256, .f32⟩
  | 25 => ⟨S4096x1024, .f32⟩
  | 26 => ⟨S4096x1024, .f32⟩
  | 27 => ⟨S4096x1024, .bf16⟩
  | 28 => ⟨S4096x512, .bf16⟩
  | 29 => ⟨S4096x8x1, .f32⟩
  | 30 => ⟨S4096x8x64, .f32⟩
  | 31 => ⟨S4096x512, .f32⟩
  | 32 => ⟨S512x1024, .f32⟩
  | 33 => ⟨S512x1024, .f32⟩
  | 34 => ⟨S2x8x512x256, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_16 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_18 : Ref sig .tc := ⟨.hbm, 119, rfl⟩
abbrev main_v91 : Ref sig .tc := ⟨.hbm, 120, rfl⟩
abbrev main_v92 : Ref sig .tc := ⟨.hbm, 121, rfl⟩
abbrev main_cst_19 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_20 : Ref sig .tc := ⟨.hbm, 128, rfl⟩
abbrev main_v98 : Ref sig .tc := ⟨.hbm, 129, rfl⟩
abbrev main_v99 : Ref sig .tc := ⟨.hbm, 130, rfl⟩
abbrev main_cst_21 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_22 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩

abbrev nD : Nat := 1
abbrev τ : Topo := Topo.v7x

variable {F : FTy → Type} [FloatOps F]
-- ==== KernelFfn.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x2048x5632 : Shape := ⟨3, ![2, 2048, 5632]⟩
abbrev S4096x1024 : Shape := ⟨2, ![4096, 1024]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S256x1024 : Shape := ⟨2, ![256, 1024]⟩
abbrev S256x5632 : Shape := ⟨2, ![256, 5632]⟩
abbrev S1024x2816 : Shape := ⟨2, ![1024, 2816]⟩
abbrev S4 : Shape := ⟨1, ![4]⟩
abbrev S1 : Shape := ⟨1, ![1]⟩
abbrev S1024x1408 : Shape := ⟨2, ![1024, 1408]⟩
abbrev S1x1024x1408 : Shape := ⟨3, ![1, 1024, 1408]⟩
abbrev S256x2816 : Shape := ⟨2, ![256, 2816]⟩
abbrev S256 : Shape := ⟨1, ![256]⟩
abbrev S256x1 : Shape := ⟨2, ![256, 1]⟩

abbrev nBuf : Space → Nat
  | .hbm => 36
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S2x2048x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S1024x5632, .f32⟩
  | .hbm, ⟨23, _⟩ => ⟨S2x2048x5632, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S1024x5632, .f32⟩
  | .hbm, ⟨28, _⟩ => ⟨S1024x4x1408, .f32⟩
  | .hbm, ⟨29, _⟩ => ⟨S4x1024x1408, .f32⟩
  | .hbm, ⟨30, _⟩ => ⟨S4x1024x1408, .bf16⟩
  | .hbm, ⟨31, _⟩ => ⟨S2816x1024, .f32⟩
  | .hbm, ⟨32, _⟩ => ⟨S2816x1024, .bf16⟩
  | .hbm, ⟨33, _⟩ => ⟨S4096x5632, .bf16⟩
  | .hbm, ⟨34, _⟩ => ⟨S4096x1024, .f32⟩
  | .hbm, ⟨35, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .f32⟩
  | .local _ .vmem, ⟨3, _⟩ => ⟨S256x5632, .f32⟩
  | .local _ .vmem, ⟨4, _⟩ => ⟨S256x1024, .f32⟩
  | .local _ .vmem, ⟨5, _⟩ => ⟨S256x1024, .f32⟩
  | .local _ .vmem, ⟨6, _⟩ => ⟨S2816x1024, .bf16⟩
  | .local _ .vmem, ⟨7, _⟩ => ⟨S1x1024, .f32⟩
  | .local _ .vmem, ⟨8, _⟩ => ⟨S256x5632, .bf16⟩
  | .local _ .vmem, ⟨9, _⟩ => ⟨S256x5632, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceFfnIdeal.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x2048x5632 : Shape := ⟨3, ![2, 2048, 5632]⟩
abbrev S2x2048x2816 : Shape := ⟨3, ![2, 2048, 2816]⟩
abbrev S2816x1024 : Shape := ⟨2, ![2816, 1024]⟩
abbrev S4096x5632 : Shape := ⟨2, ![4096, 5632]⟩
abbrev S4096x1024 : Shape := ⟨2, ![4096, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S2x2048x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x5632, .f32⟩
  | .hbm, ⟨27, _⟩ => ⟨S2x2048x5632, .f32⟩
  | .hbm, ⟨28, _⟩ => ⟨S2x2048x2816, .f32⟩
  | .hbm, ⟨29, _⟩ => ⟨S2x2048x2816, .f32⟩
  | .hbm, ⟨30, _⟩ => ⟨S2x2048x2816, .f32⟩
  | .hbm, ⟨31, _⟩ => ⟨S_, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S_, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2816x1024, .f32⟩
  | .hbm, ⟨45, _⟩ => ⟨S2x2048x1024, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S_, .f32⟩
  | .hbm, ⟨50, _⟩ => ⟨S2x2048x5632, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S_, .f32⟩
  | .hbm, ⟨56, _⟩ => ⟨S2x2048x5632, .f32⟩
  | .hbm, ⟨57, _⟩ => ⟨S2x2048x5632, .f32⟩
  | .hbm, ⟨58, _⟩ => ⟨S2x2048x1024, .f32⟩
  | .hbm, ⟨59, _⟩ => ⟨S2x2048x1024, .f32⟩
  | .hbm, ⟨60, _⟩ => ⟨S_, .f32⟩
  | .hbm, ⟨61, _⟩ => ⟨S1024, .f32⟩
  | .hbm, ⟨62, _⟩ => ⟨S1x1x1024, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S1024, .f32⟩
  | .hbm, ⟨67, _⟩ => ⟨S2x2048x1024, .f32⟩
  | .hbm, ⟨68, _⟩ => ⟨S_, .f32⟩
  | .hbm, ⟨69, _⟩ => ⟨S2x2048, .f32⟩
  | .hbm, ⟨70, _⟩ => ⟨S2x2048x1, .f32⟩
  | .hbm, ⟨71, _⟩ => ⟨S2x2048x1024, .f32⟩
  | .hbm, ⟨72, _⟩ => ⟨S2x2048x1024, .f32⟩
  | .hbm, ⟨73, _⟩ => ⟨S2x2048x1, .f32⟩
  | .hbm, ⟨74, _⟩ => ⟨S_, .f32⟩
  | .hbm, ⟨75, _⟩ => ⟨S2x2048x1, .f32⟩
  | .hbm, ⟨76, _⟩ => ⟨S2x2048x1, .f32⟩
  | .hbm, ⟨77, _⟩ => ⟨S_, .f32⟩
  | .hbm, ⟨78, _⟩ => ⟨S2x2048, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S1x1024, .f32⟩
  | .hbm, ⟨85, _⟩ => ⟨S4096x5632, .f32⟩
  | .hbm, ⟨86, _⟩ => ⟨S4096x5632, .bf16⟩
  | .hbm, ⟨87, _⟩ => ⟨S2x2048x1024, .f32⟩
  | .hbm, ⟨88, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩

abbrev nD : Nat := 1
abbrev τ : Topo := Topo.v7x

variable {F : FTy → Type} [FloatOps F]
-- ==== KernelLoss.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S4096x5632 : Shape := ⟨2, ![4096, 5632]⟩
abbrev S4096x2816 : Shape := ⟨2, ![4096, 2816]⟩
abbrev S1x128 : Shape := ⟨2, ![1, 128]⟩
abbrev S256x1024 : Shape := ⟨2, ![256, 1024]⟩
abbrev S256x5632 : Shape := ⟨2, ![256, 5632]⟩
abbrev S256x2816 : Shape := ⟨2, ![256, 2816]⟩
abbrev S1024x2816 : Shape := ⟨2, ![1024, 2816]⟩
abbrev S4 : Shape := ⟨1, ![4]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩

abbrev nBuf : Space → Nat
  | .hbm => 21
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | .hbm, ⟨12, _⟩ => ⟨S2816x1024, .f32⟩
  | .hbm, ⟨13, _⟩ => ⟨S2816x1024, .bf16⟩
  | .hbm, ⟨14, _⟩ => ⟨S1x1024, .f32⟩
  | .hbm, ⟨15, _⟩ => ⟨S4096x1024, .bf16⟩
  | .hbm, ⟨16, _⟩ => ⟨S4096x5632, .f32⟩
  | .hbm, ⟨17, _⟩ => ⟨S4096x2816, .bf16⟩
  | .hbm, ⟨18, _⟩ => ⟨S4096x1024, .f32⟩
  | .hbm, ⟨19, _⟩ => ⟨S1x128, .f32⟩
  | .hbm, ⟨20, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x5632, .f32⟩
  | .local _ .vmem, ⟨10, _⟩ => ⟨S256x5632, .f32⟩
  | .local _ .vmem, ⟨11, _⟩ => ⟨S256x2816, .bf16⟩
  | .local _ .vmem, ⟨12, _⟩ => ⟨S256x2816, .bf16⟩
  | .local _ .vmem, ⟨13, _⟩ => ⟨S256x1024, .f32⟩
  | .local _ .vmem, ⟨14, _⟩ => ⟨S256x1024, .f32⟩
  | .local _ .vmem, ⟨15, _⟩ => ⟨S1x128, .f32⟩
  | .local _ .vmem, ⟨16, _⟩ => ⟨S1x1024, .f32⟩
  | .local _ .vmem, ⟨17, _⟩ => ⟨S1024x2816, .bf16⟩
  | .local _ .vmem, ⟨18, _⟩ => ⟨S1024x2816, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceLossIdeal.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x2048x5632 : Shape := ⟨3, ![2, 2048, 5632]⟩
abbrev S2x2048x2816 : Shape := ⟨3, ![2, 2048, 2816]⟩
abbrev S2816x1024 : Shape := ⟨2, ![2816, 1024]⟩
abbrev S4096x1024 : Shape := ⟨2, ![4096, 1024]⟩
abbrev S4096x5632 : Shape := ⟨2, ![4096, 5632]⟩
abbrev S4096x2816 : Shape := ⟨2, ![4096, 2816]⟩
abbrev S1x1 : Shape := ⟨2, ![1, 1]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S1024x5632, .f32⟩
  | .hbm, ⟨24, _⟩ => ⟨S2x2048x5632, .f32⟩
  | .hbm, ⟨25, _⟩ => ⟨S2x2048x2816, .f32⟩
  | .hbm, ⟨26, _⟩ => ⟨S2x2048x2816, .f32⟩
  | .hbm, ⟨27, _⟩ => ⟨S2x2048x2816, .f32⟩
  | .hbm, ⟨28, _⟩ => ⟨S_, .f32⟩
  | .hbm, ⟨29, _⟩ => ⟨S2x2048x2816, .f32⟩
  | .hbm, ⟨30, _⟩ => ⟨S2x2048x2816, .f32⟩
  | .hbm, ⟨31, _⟩ => ⟨S_, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2816x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S2x2048, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S_, .f32⟩
  | .hbm, ⟨48, _⟩ => ⟨S2x2048x1, .f32⟩
  | .hbm, ⟨49, _⟩ => ⟨S2x2048x1, .f32⟩
  | .hbm, ⟨50, _⟩ => ⟨S2x2048x1, .f32⟩
  | .hbm, ⟨51, _⟩ => ⟨S2x2048x1, .f32⟩
  | .hbm, ⟨52, _⟩ => ⟨S_, .f32⟩
  | .hbm, ⟨53, _⟩ => ⟨S2x2048x1, .f32⟩
  | .hbm, ⟨54, _⟩ => ⟨S2x2048x1, .f32⟩
  | .hbm, ⟨55, _⟩ => ⟨S2x2048x1024, .f32⟩
  | .hbm, ⟨56, _⟩ => ⟨S2x2048x1024, .f32⟩
  | .hbm, ⟨57, _⟩ => ⟨S1x1x1024, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S2x2048, .f32⟩
  | .hbm, ⟨67, _⟩ => ⟨S_, .f32⟩
  | .hbm, ⟨68, _⟩ => ⟨S2x2048, .f32⟩
  | .hbm, ⟨69, _⟩ => ⟨S2x2048, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S2x2048, .f32⟩
  | .hbm, ⟨78, _⟩ => ⟨S_, .f32⟩
  | .hbm, ⟨79, _⟩ => ⟨S2x2048, .f32⟩
  | .hbm, ⟨80, _⟩ => ⟨S2x2048, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S_, .f32⟩
  | .hbm, ⟨85, _⟩ => ⟨S1024, .f32⟩
  | .hbm, ⟨86, _⟩ => ⟨S1x1x1024, .f32⟩
  | .hbm, ⟨87, _⟩ => ⟨S2x2048x1024, .f32⟩
  | .hbm, ⟨88, _⟩ => ⟨S2x2048x1024, .f32⟩
  | .hbm, ⟨89, _⟩ => ⟨S_, .f32⟩
  | .hbm, ⟨90, _⟩ => ⟨S1024, .f32⟩
  | .hbm, ⟨91, _⟩ => ⟨S2x2048x1024, .f32⟩
  | .hbm, ⟨92, _⟩ => ⟨S_, .f32⟩
  | .hbm, ⟨93, _⟩ => ⟨S2x2048, .f32⟩
  | .hbm, ⟨94, _⟩ => ⟨S2x2048x1, .f32⟩
  | .hbm, ⟨95, _⟩ => ⟨S2x2048x1024, .f32⟩
  | .hbm, ⟨96, _⟩ => ⟨S2x2048x1024, .f32⟩
  | .hbm, ⟨97, _⟩ => ⟨S2x2048x1, .f32⟩
  | .hbm, ⟨98, _⟩ => ⟨S_, .f32⟩
  | .hbm, ⟨99, _⟩ => ⟨S2x2048x1, .f32⟩
  | .hbm, ⟨100, _⟩ => ⟨S2x2048x1, .f32⟩
  | .hbm, ⟨101, _⟩ => ⟨S_, .f32⟩
  | .hbm, ⟨102, _⟩ => ⟨S2x2048, .f32⟩
  | .hbm, ⟨103, _⟩ => ⟨S2x2048x1024, .f32⟩
  | .hbm, ⟨104, _⟩ => ⟨S2x2048x1024, .f32⟩
  | .hbm, ⟨105, _⟩ => ⟨S2x2048x1024, .f32⟩
  | .hbm, ⟨106, _⟩ => ⟨S2x2048x1024, .f32⟩
  | .hbm, ⟨107, _⟩ => ⟨S2x2048x1024, .f32⟩
  | .hbm, ⟨108, _⟩ => ⟨S4096x1024, .f32⟩
  | .hbm, ⟨109, _⟩ => ⟨S4096x1024, .bf16⟩
  | .hbm, ⟨110, _⟩ => ⟨S4096x5632, .f32⟩
  | .hbm, ⟨111, _⟩ => ⟨S4096x2816, .f32⟩
  | .hbm, ⟨112, _⟩ => ⟨S4096x2816, .bf16⟩
  | .hbm, ⟨113, _⟩ => ⟨S4096x1024, .f32⟩
  | .hbm, ⟨114, _⟩ => ⟨S1x1, .f32⟩
  | .hbm, ⟨115, _⟩ => ⟨S1x128, .f32⟩
  | .hbm, ⟨116, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_cst_11 : Ref sig .tc := ⟨.hbm, 74, rfl⟩
abbrev main_cst_12 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_v59 : Ref sig .tc := ⟨.hbm, 90, rfl⟩
abbrev main_v60 : Ref sig .tc := ⟨.hbm, 91, rfl⟩
abbrev main_cst_16 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_17 : Ref sig .tc := ⟨.hbm, 98, rfl⟩
abbrev main_v66 : Ref sig .tc := ⟨.hbm, 99, rfl⟩
abbrev main_v67 : Ref sig .tc := ⟨.hbm, 100, rfl⟩
abbrev main_cst_18 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩

abbrev nD : Nat := 1
abbrev τ : Topo := Topo.v7x

variable {F : FTy → Type} [FloatOps F]
-- ==== KernelFox.lean ====
abbrev S2x2048x8x64 : Shape := ⟨4, ![2, 2048, 8, 64]⟩
abbrev S2x2048x8 : Shape := ⟨3, ![2, 2048, 8]⟩
abbrev S_ : Shape := ⟨0, ![]⟩
abbrev S2x8x2048x2048 : Shape := ⟨4, ![2, 8, 2048, 2048]⟩
abbrev S2x8x2048 : Shape := ⟨3, ![2, 8, 2048]⟩
abbrev S2x8x2048x1 : Shape := ⟨4, ![2, 8, 2048, 1]⟩
abbrev S2x8x1x2048 : Shape := ⟨4, ![2, 8, 1, 2048]⟩
abbrev S2048x2048 : Shape := ⟨2, ![2048, 2048]⟩
abbrev S1x1x2048x2048 : Shape := ⟨4, ![1, 1, 2048, 2048]⟩
abbrev S2x8x64x2048 : Shape := ⟨4, ![2, 8, 64, 2048]⟩
abbrev S2x2048x8x1 : Shape := ⟨4, ![2, 2048, 8, 1]⟩
abbrev S4096x512 : Shape := ⟨2, ![4096, 512]⟩
abbrev S2x4x2x2048 : Shape := ⟨4, ![2, 4, 2, 2048]⟩
abbrev S2x4x8x2048 : Shape := ⟨4, ![2, 4, 8, 2048]⟩
abbrev S2x8x256x512 : Shape := ⟨4, ![2, 8, 256, 512]⟩
abbrev S2x8x512x256 : Shape := ⟨4, ![2, 8, 512, 256]⟩
abbrev S2048x128 : Shape := ⟨2, ![2048, 128]⟩
abbrev S256x128 : Shape := ⟨2, ![256, 128]⟩
abbrev S1x1x8x2048 : Shape := ⟨4, ![1, 1, 8, 2048]⟩
abbrev S1x8x128x256 : Shape := ⟨4, ![1, 8, 128, 256]⟩
abbrev S1x1x8x256 : Shape := ⟨4, ![1, 1, 8, 256]⟩
abbrev S2x2048x1 : Shape := ⟨3, ![2, 2048, 1]⟩
abbrev S2x256x256 : Shape := ⟨3, ![2, 256, 256]⟩
abbrev S128x256 : Shape := ⟨2, ![128, 256]⟩
abbrev S2x8x256 : Shape := ⟨3, ![2, 8, 256]⟩
abbrev S1x1x1x256 : Shape := ⟨4, ![1, 1, 1, 256]⟩
abbrev S1x256 : Shape := ⟨2, ![1, 256]⟩
abbrev S256x256 : Shape := ⟨2, ![256, 256]⟩
abbrev S1x256x256 : Shape := ⟨3, ![1, 256, 256]⟩
abbrev S256x1 : Shape := ⟨2, ![256, 1]⟩
abbrev S1x1x256 : Shape := ⟨3, ![1, 1, 256]⟩
abbrev S256 : Shape := ⟨1, ![256]⟩
abbrev S1x256x1 : Shape := ⟨3, ![1, 256, 1]⟩
abbrev S64x256 : Shape := ⟨2, ![64, 256]⟩
abbrev S1x1x64x256 : Shape := ⟨4, ![1, 1, 64, 256]⟩
abbrev S8x256 : Shape := ⟨2, ![8, 256]⟩
abbrev S1x2048x1 : Shape := ⟨3, ![1, 2048, 1]⟩
abbrev S2048x1 : Shape := ⟨2, ![2048, 1]⟩

abbrev nBuf : Space → Nat
  | .hbm => 80
  | .vmem => 37
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2x2048x8, .f32⟩
  | .hbm, ⟨4, _⟩ => ⟨S2x2048x8x64, .f32⟩
  | .hbm, ⟨5, _⟩ => ⟨S_, .f32⟩
  | .hbm, ⟨6, _⟩ => ⟨S_, .f32⟩
  | .hbm, ⟨7, _⟩ => ⟨S2x2048x8, .f32⟩
  | .hbm, ⟨8, _⟩ => ⟨S2x8x2048x2048, .f32⟩
  | .hbm, ⟨9, _⟩ => ⟨S_, .f32⟩
  | .hbm, ⟨10, _⟩ => ⟨S2x8x2048x2048, .f32⟩
  | .hbm, ⟨11, _⟩ => ⟨S2x8x2048x2048, .f32⟩
  | .hbm, ⟨12, _⟩ => ⟨S2x8x2048, .f32⟩
  | .hbm, ⟨13, _⟩ => ⟨S2x8x2048x1, .f32⟩
  | .hbm, ⟨14, _⟩ => ⟨S2x8x2048, .f32⟩
  | .hbm, ⟨15, _⟩ => ⟨S2x8x1x2048, .f32⟩
  | .hbm, ⟨16, _⟩ => ⟨S2x8x2048x2048, .f32⟩
  | .hbm, ⟨17, _⟩ => ⟨S2x8x2048x2048, .f32⟩
  | .hbm, ⟨18, _⟩ => ⟨S2x8x2048x2048, .f32⟩
  | .hbm, ⟨19, _⟩ => ⟨S2x8x2048x2048, .f32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x1x2048x2048, .i1⟩
  | .hbm, ⟨24, _⟩ => ⟨S_, .f32⟩
  | .hbm, ⟨25, _⟩ => ⟨S_, .f32⟩
  | .hbm, ⟨26, _⟩ => ⟨S2x8x2048x2048, .i1⟩
  | .hbm, ⟨27, _⟩ => ⟨S2x8x2048x2048, .f32⟩
  | .hbm, ⟨28, _⟩ => ⟨S2x8x2048x2048, .f32⟩
  | .hbm, ⟨29, _⟩ => ⟨S_, .f32⟩
  | .hbm, ⟨30, _⟩ => ⟨S2x8x2048, .f32⟩
  | .hbm, ⟨31, _⟩ => ⟨S2x8x2048x1, .f32⟩
  | .hbm, ⟨32, _⟩ => ⟨S2x8x2048x2048, .f32⟩
  | .hbm, ⟨33, _⟩ => ⟨S2x8x2048x2048, .f32⟩
  | .hbm, ⟨34, _⟩ => ⟨S2x8x2048x2048, .f32⟩
  | .hbm, ⟨35, _⟩ => ⟨S_, .f32⟩
  | .hbm, ⟨36, _⟩ => ⟨S2x8x2048, .f32⟩
  | .hbm, ⟨37, _⟩ => ⟨S2x8x2048x1, .f32⟩
  | .hbm, ⟨38, _⟩ => ⟨S2x8x2048x2048, .f32⟩
  | .hbm, ⟨39, _⟩ => ⟨S2x8x2048x2048, .f32⟩
  | .hbm, ⟨40, _⟩ => ⟨S2x8x64x2048, .f32⟩
  | .hbm, ⟨41, _⟩ => ⟨S2x2048x8x64, .f32⟩
  | .hbm, ⟨42, _⟩ => ⟨S2x8x2048x1, .f32⟩
  | .hbm, ⟨43, _⟩ => ⟨S2x8x2048x1, .f32⟩
  | .hbm, ⟨44, _⟩ => ⟨S2x8x2048, .f32⟩
  | .hbm, ⟨45, _⟩ => ⟨S2x2048x8, .f32⟩
  | .hbm, ⟨46, _⟩ => ⟨S2x2048x8, .f32⟩
  | .hbm, ⟨47, _⟩ => ⟨S2x2048x8x1, .f32⟩
  | .hbm, ⟨48, _⟩ => ⟨S2x2048x8x64, .f32⟩
  | .hbm, ⟨49, _⟩ => ⟨S4096x512, .f32⟩
  | .hbm, ⟨50, _⟩ => ⟨S2x2048x8x64, .f32⟩
  | .hbm, ⟨51, _⟩ => ⟨S_, .f32⟩
  | .hbm, ⟨52, _⟩ => ⟨S2x2048x8, .f32⟩
  | .hbm, ⟨53, _⟩ => ⟨S2x2048x8x1, .f32⟩
  | .hbm, ⟨54, _⟩ => ⟨S2x2048x8x64, .f32⟩
  | .hbm, ⟨55, _⟩ => ⟨S4096x512, .f32⟩
  | .hbm, ⟨56, _⟩ => ⟨S2x8x2048, .f32⟩
  | .hbm, ⟨57, _⟩ => ⟨S2x4x2x2048, .f32⟩
  | .hbm, ⟨58, _⟩ => ⟨S_, .i32⟩
  | .hbm, ⟨59, _⟩ => ⟨S_, .f32⟩
  | .hbm, ⟨60, _⟩ => ⟨S2x4x8x2048, .f32⟩
  | .hbm, ⟨61, _⟩ => ⟨S4096x512, .f32⟩
  | .hbm, ⟨62, _⟩ => ⟨S4096x512, .bf16⟩
  | .hbm, ⟨63, _⟩ => ⟨S4096x512, .f32⟩
  | .hbm, ⟨64, _⟩ => ⟨S4096x512, .bf16⟩
  | .hbm, ⟨65, _⟩ => ⟨S4096x512, .f32⟩
  | .hbm, ⟨66, _⟩ => ⟨S4096x512, .bf16⟩
  | .hbm, ⟨67, _⟩ => ⟨S4096x512, .f32⟩
  | .hbm, ⟨68, _⟩ => ⟨S4096x512, .bf16⟩
  | .hbm, ⟨69, _⟩ => ⟨S2x8x256x512, .f32⟩
  | .hbm, ⟨70, _⟩ => ⟨S2x8x512x256, .f32⟩
  | .hbm, ⟨71, _⟩ => ⟨S2x8x512x256, .bf16⟩
  | .hbm, ⟨72, _⟩ => ⟨S2x8x256x512, .f32⟩
  | .hbm, ⟨73, _⟩ => ⟨S2x8x512x256, .f32⟩
  | .hbm, ⟨74, _⟩ => ⟨S2x8x512x256, .bf16⟩
  | .hbm, ⟨75, _⟩ => ⟨S4096x512, .bf16⟩
  | .hbm, ⟨76, _⟩ => ⟨S4096x512, .bf16⟩
  | .hbm, ⟨77, _⟩ => ⟨S4096x512, .bf16⟩
  | .hbm, ⟨78, _⟩ => ⟨S2x4x8x2048, .f32⟩
  | .hbm, ⟨79, _⟩ => ⟨S4096x512, .f32⟩
  | .local _ .vmem, ⟨0, _⟩ => ⟨S2048x128, .bf16⟩
  | .local _ .vmem, ⟨1, _⟩ => ⟨S2048x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S1x1x8x2048, .f32⟩
  | .local _ .vmem, ⟨13, _⟩ => ⟨S1x1x8x2048, .f32⟩
  | .local _ .vmem, ⟨14, _⟩ => ⟨S1x8x128x256, .bf16⟩
  | .local _ .vmem, ⟨15, _⟩ => ⟨S1x8x128x256, .bf16⟩
  | .local _ .vmem, ⟨16, _⟩ => ⟨S1x8x128x256, .bf16⟩
  | .local _ .vmem, ⟨17, _⟩ => ⟨S1x8x128x256, .bf16⟩
  | .local _ .vmem, ⟨18, _⟩ => ⟨S2048x128, .bf16⟩
  | .local _ .vmem, ⟨19, _⟩ => ⟨S2048x128, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S1x1x8x256, .f32⟩
  | .local _ .vmem, ⟨25, _⟩ => ⟨S1x1x8x256, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2x2048x1, .f32⟩
  | .local _ .vmem, ⟨30, _⟩ => ⟨S2x256x256, .f32⟩
  | .local _ .vmem, ⟨31, _⟩ => ⟨S2x256x256, .f32⟩
  | .local _ .vmem, ⟨32, _⟩ => ⟨S2x256x256, .f32⟩
  | .local _ .vmem, ⟨33, _⟩ => ⟨S2x256x256, .f32⟩
  | .local _ .vmem, ⟨34, _⟩ => ⟨S128x256, .f32⟩
  | .local _ .vmem, ⟨35, _⟩ => ⟨S128x256, .f32⟩
  | .local _ .vmem, ⟨36, _⟩ => ⟨S2x8x256, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_call2_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58_0 : Ref sig .tc := ⟨.hbm, 75, rfl⟩
abbrev main_v58_1 : Ref sig .tc := ⟨.hbm, 76, rfl⟩
abbrev main_v58_2 : Ref sig .tc := ⟨.hbm, 77, rfl⟩
abbrev main_v58_3 : Ref sig .tc := ⟨.hbm, 78, rfl⟩
abbrev main_v58_4 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c256_i32 : BitVec 32 := 256#32
  let v29 : BitVec 32 := Scalar.muli arg2 c256_i32
  v29
def k0_off1 (i : grid0.Coords) : Fin 4 → Nat :=
  let c0_15 : Index := 0#32
  let c0_16 : Index := 0#32
  let c0_17 : Index := 0#32
  let arg2 : BitVec 32 := BitVec.ofNat 32 (i 2).val
  let c256_i32 : BitVec 32 := 256#32
  let v29 : BitVec 32 := Scalar.muli arg2 c256_i32
  let v30 : BitVec 32 := v29
  let v31 : Index := Scalar.indexCast v30
  ![0, 0, 0, v31.toNat]
def k0_off2 (i : grid0.Coords) : Fin 4 → Nat :=
  let c0_18 : Index := 0#32
  let c0_19 : Index := 0#32
  let c1 : Index := 1#32
  let arg2 : BitVec 32 := BitVec.ofNat 32 (i 2).val
  let c256_i32 : BitVec 32 := 256#32
  let v29 : BitVec 32 := Scalar.muli arg2 c256_i32
  let v30 : BitVec 32 := v29
  let v34 : Index := Scalar.indexCast v30
  ![0, 0, 1, v34.toNat]
def k0_mult2 (i : grid0.Coords) : BitVec 32 :=
  let c7_i32 : BitVec 32 := 7#32
  let arg2 : BitVec 32 := BitVec.ofNat 32 (i 2).val
  let v39 : BitVec 32 := Scalar.subi c7_i32 arg2
  let c0_i32_20 : BitVec 32 := 0#32
  let v40 : BitVec 1 := Scalar.cmpi .sgt v39 c0_i32_20
  let c1_i32 : BitVec 32 := 1#32
  let v41 : BitVec 32 := Scalar.addi arg2 c1_i32
  let c0_i32_21 : BitVec 32 := 0#32
  let v42 : BitVec 32 := Scalar.addi v41 c0_i32_21
  let v43 : BitVec 32 := Scalar.select v40 v42 arg2
  let c256_i32_22 : BitVec 32 := 256#32
  let v44 : BitVec 32 := Scalar.muli v43 c256_i32_22
  v44
def k0_off3 (i : grid0.Coords) : Fin 2 → Nat :=
  let c7_i32 : BitVec 32 := 7#32
  let arg2 : BitVec 32 := BitVec.ofNat 32 (i 2).val
  let v39 : BitVec 32 := Scalar.subi c7_i32 arg2
  let c0_i32_20 : BitVec 32 := 0#32
  let v40 : BitVec 1 := Scalar.cmpi .sgt v39 c0_i32_20
  let c1_i32 : BitVec 32 := 1#32
  let v41 : BitVec 32 := Scalar.addi arg2 c1_i32
  let c0_i32_21 : BitVec 32 := 0#32
  let v42 : BitVec 32 := Scalar.addi v41 c0_i32_21
  let v43 : BitVec 32 := Scalar.select v40 v42 arg2
  let c256_i32_22 : BitVec 32 := 256#32
  let v44 : BitVec 32 := Scalar.muli v43 c256_i32_22
  let v45 : BitVec 32 := v44
  let v46 : Index := Scalar.indexCast v45
  let c0_23 : Index := 0#32
  ![v46.toNat, 0]
@[reducible] def k0_t1_loop (i : grid0.Coords) : Scf.Loop 32 :=
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_50 : BitVec 32 := 1#32
  ⟨c0_i32_48, v89, c1_i32_50⟩
def k0_mult3 (i : grid0.Coords) (k0_t1 : Fin (k0_t1_loop i).trips) : BitVec 32 :=
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c1_i32_95 : BitVec 32 := 1#32
  let v153 : BitVec 32 := Scalar.addi v152 c1_i32_95
  let c7_i32 : BitVec 32 := 7#32
  let arg2 : BitVec 32 := BitVec.ofNat 32 (i 2).val
  let v39 : BitVec 32 := Scalar.subi c7_i32 arg2
  let v154 : BitVec 1 := Scalar.cmpi .slt v153 v39
  let c1_i32_96 : BitVec 32 := 1#32
  let v155 : BitVec 32 := Scalar.addi arg2 c1_i32_96
  let v156 : BitVec 32 := Scalar.addi v155 v153
  let v157 : BitVec 32 := Scalar.select v154 v156 arg2
  let c256_i32_97 : BitVec 32 := 256#32
  let v158 : BitVec 32 := Scalar.muli v157 c256_i32_97
  v158
def k0_off4 (i : grid0.Coords) (k0_t1 : Fin (k0_t1_loop i).trips) (c1_i32_95 : BitVec 32) : Fin 2 → Nat :=
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let v153 : BitVec 32 := Scalar.addi v152 c1_i32_95
  let c7_i32 : BitVec 32 := 7#32
  let arg2 : BitVec 32 := BitVec.ofNat 32 (i 2).val
  let v39 : BitVec 32 := Scalar.subi c7_i32 arg2
  let v154 : BitVec 1 := Scalar.cmpi .slt v153 v39
  let c1_i32_96 : BitVec 32 := 1#32
  let v155 : BitVec 32 := Scalar.addi arg2 c1_i32_96
  let v156 : BitVec 32 := Scalar.addi v155 v153
  let v157 : BitVec 32 := Scalar.select v154 v156 arg2
  let c256_i32_97 : BitVec 32 := 256#32
  let v158 : BitVec 32 := Scalar.muli v157 c256_i32_97
  let v159 : BitVec 32 := v158
  let v160 : Index := Scalar.indexCast v159
  let c0_98 : Index := 0#32
  ![v160.toNat, 0]
def k0_mult4 (i : grid0.Coords) (k0_t1 : Fin (k0_t1_loop i).trips) : BitVec 32 :=
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c7_i32 : BitVec 32 := 7#32
  let arg2 : BitVec 32 := BitVec.ofNat 32 (i 2).val
  let v39 : BitVec 32 := Scalar.subi c7_i32 arg2
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  v186
def k0_off5 (i : grid0.Coords) (k0_t1 : Fin (k0_t1_loop i).trips) : Fin 2 → Nat :=
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c7_i32 : BitVec 32 := 7#32
  let arg2 : BitVec 32 := BitVec.ofNat 32 (i 2).val
  let v39 : BitVec 32 := Scalar.subi c7_i32 arg2
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  let v187 : BitVec 32 := v186
  let v188 : Index := Scalar.indexCast v187
  let c0_118 : Index := 0#32
  ![v188.toNat, 0]
def k0_off6 (i : grid0.Coords) (k0_t1 : Fin (k0_t1_loop i).trips) : Fin 3 → Nat :=
  let c0_133 : Index := 0#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c7_i32 : BitVec 32 := 7#32
  let arg2 : BitVec 32 := BitVec.ofNat 32 (i 2).val
  let v39 : BitVec 32 := Scalar.subi c7_i32 arg2
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  let v187 : BitVec 32 := v186
  let v220 : Index := Scalar.indexCast v187
  let c0_134 : Index := 0#32
  ![0, v220.toNat, 0]
def k0_off7 (i : grid0.Coords) (k0_t1 : Fin (k0_t1_loop i).trips) : Fin 4 → Nat :=
  let c0_140 : Index := 0#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c7_i32 : BitVec 32 := 7#32
  let arg2 : BitVec 32 := BitVec.ofNat 32 (i 2).val
  let v39 : BitVec 32 := Scalar.subi c7_i32 arg2
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let v233 : Index := Scalar.indexCast v185
  let c0_141 : Index := 0#32
  let c0_142 : Index := 0#32
  ![0, v233.toNat, 0, 0]
def k0_off8 (i : grid0.Coords) (k0_t1 : Fin (k0_t1_loop i).trips) : Fin 3 → Nat :=
  let c1_170 : Index := 1#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c7_i32 : BitVec 32 := 7#32
  let arg2 : BitVec 32 := BitVec.ofNat 32 (i 2).val
  let v39 : BitVec 32 := Scalar.subi c7_i32 arg2
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  let v187 : BitVec 32 := v186
  let v284 : Index := Scalar.indexCast v187
  let c0_171 : Index := 0#32
  ![1, v284.toNat, 0]
def k0_off9 (i : grid0.Coords) (k0_t1 : Fin (k0_t1_loop i).trips) : Fin 4 → Nat :=
  let c0_176 : Index := 0#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c7_i32 : BitVec 32 := 7#32
  let arg2 : BitVec 32 := BitVec.ofNat 32 (i 2).val
  let v39 : BitVec 32 := Scalar.subi c7_i32 arg2
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let v297 : Index := Scalar.indexCast v185
  let c64_177 : Index := 64#32
  let c0_178 : Index := 0#32
  ![0, v297.toNat, 64, 0]
def k0_mult5 (i : grid0.Coords) (k0_t1 : Fin (k0_t1_loop i).trips) : BitVec 32 :=
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c2_i32_193 : BitVec 32 := 2#32
  let v322 : BitVec 32 := Scalar.addi v152 c2_i32_193
  let c7_i32 : BitVec 32 := 7#32
  let arg2 : BitVec 32 := BitVec.ofNat 32 (i 2).val
  let v39 : BitVec 32 := Scalar.subi c7_i32 arg2
  let v323 : BitVec 1 := Scalar.cmpi .slt v322 v39
  let c1_i32_194 : BitVec 32 := 1#32
  let v324 : BitVec 32 := Scalar.addi arg2 c1_i32_194
  let v325 : BitVec 32 := Scalar.addi v324 v322
  let v326 : BitVec 32 := Scalar.select v323 v325 arg2
  let c256_i32_195 : BitVec 32 := 256#32
  let v327 : BitVec 32 := Scalar.muli v326 c256_i32_195
  v327
def k0_mult6 (i : grid0.Coords) (k0_t1 : Fin (k0_t1_loop i).trips) : BitVec 32 :=
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c1_i32_214 : BitVec 32 := 1#32
  let v351 : BitVec 32 := Scalar.addi v152 c1_i32_214
  let c7_i32 : BitVec 32 := 7#32
  let arg2 : BitVec 32 := BitVec.ofNat 32 (i 2).val
  let v39 : BitVec 32 := Scalar.subi c7_i32 arg2
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let c256_i32_216 : BitVec 32 := 256#32
  let v356 : BitVec 32 := Scalar.muli v355 c256_i32_216
  v356
def k0_off10 (i : grid0.Coords) (k0_t1 : Fin (k0_t1_loop i).trips) : Fin 3 → Nat :=
  let c0_232 : Index := 0#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c1_i32_214 : BitVec 32 := 1#32
  let v351 : BitVec 32 := Scalar.addi v152 c1_i32_214
  let c7_i32 : BitVec 32 := 7#32
  let arg2 : BitVec 32 := BitVec.ofNat 32 (i 2).val
  let v39 : BitVec 32 := Scalar.subi c7_i32 arg2
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let c256_i32_216 : BitVec 32 := 256#32
  let v356 : BitVec 32 := Scalar.muli v355 c256_i32_216
  let v357 : BitVec 32 := v356
  let v390 : Index := Scalar.indexCast v357
  let c0_233 : Index := 0#32
  ![0, v390.toNat, 0]
def k0_off11 (i : grid0.Coords) (k0_t1 : Fin (k0_t1_loop i).trips) : Fin 4 → Nat :=
  let c0_239 : Index := 0#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c1_i32_214 : BitVec 32 := 1#32
  let v351 : BitVec 32 := Scalar.addi v152 c1_i32_214
  let c7_i32 : BitVec 32 := 7#32
  let arg2 : BitVec 32 := BitVec.ofNat 32 (i 2).val
  let v39 : BitVec 32 := Scalar.subi c7_i32 arg2
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let v403 : Index := Scalar.indexCast v355
  let c0_240 : Index := 0#32
  let c0_241 : Index := 0#32
  ![0, v403.toNat, 0, 0]
def k0_off12 (i : grid0.Coords) (k0_t1 : Fin (k0_t1_loop i).trips) : Fin 3 → Nat :=
  let c1_269 : Index := 1#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c1_i32_214 : BitVec 32 := 1#32
  let v351 : BitVec 32 := Scalar.addi v152 c1_i32_214
  let c7_i32 : BitVec 32 := 7#32
  let arg2 : BitVec 32 := BitVec.ofNat 32 (i 2).val
  let v39 : BitVec 32 := Scalar.subi c7_i32 arg2
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let c256_i32_216 : BitVec 32 := 256#32
  let v356 : BitVec 32 := Scalar.muli v355 c256_i32_216
  let v357 : BitVec 32 := v356
  let v454 : Index := Scalar.indexCast v357
  let c0_270 : Index := 0#32
  ![1, v454.toNat, 0]
def k0_off13 (i : grid0.Coords) (k0_t1 : Fin (k0_t1_loop i).trips) : Fin 4 → Nat :=
  let c0_276 : Index := 0#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c1_i32_214 : BitVec 32 := 1#32
  let v351 : BitVec 32 := Scalar.addi v152 c1_i32_214
  let c7_i32 : BitVec 32 := 7#32
  let arg2 : BitVec 32 := BitVec.ofNat 32 (i 2).val
  let v39 : BitVec 32 := Scalar.subi c7_i32 arg2
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let v467 : Index := Scalar.indexCast v355
  let c64_277 : Index := 64#32
  let c0_278 : Index := 0#32
  ![0, v467.toNat, 64, 0]
@[reducible] def k0_t2_loop (i : grid0.Coords) : Scf.Loop 32 :=
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let v86 : BitVec 32 := Scalar.addi c0_i32_48 v85
  let c1_i32_51 : BitVec 32 := 1#32
  ⟨v89, v86, c1_i32_51⟩
def k0_mult7 (i : grid0.Coords) (k0_t2 : Fin (k0_t2_loop i).trips) : BitVec 32 :=
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c1_i32_95 : BitVec 32 := 1#32
  let v153 : BitVec 32 := Scalar.addi v152 c1_i32_95
  let v154 : BitVec 1 := Scalar.cmpi .slt v153 v39
  let c1_i32_96 : BitVec 32 := 1#32
  let v155 : BitVec 32 := Scalar.addi arg2 c1_i32_96
  let v156 : BitVec 32 := Scalar.addi v155 v153
  let v157 : BitVec 32 := Scalar.select v154 v156 arg2
  let c256_i32_97 : BitVec 32 := 256#32
  let v158 : BitVec 32 := Scalar.muli v157 c256_i32_97
  v158
def k0_off14 (i : grid0.Coords) (k0_t2 : Fin (k0_t2_loop i).trips) (c1_i32_95 : BitVec 32) : Fin 2 → Nat :=
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v153 : BitVec 32 := Scalar.addi v152 c1_i32_95
  let v154 : BitVec 1 := Scalar.cmpi .slt v153 v39
  let c1_i32_96 : BitVec 32 := 1#32
  let v155 : BitVec 32 := Scalar.addi arg2 c1_i32_96
  let v156 : BitVec 32 := Scalar.addi v155 v153
  let v157 : BitVec 32 := Scalar.select v154 v156 arg2
  let c256_i32_97 : BitVec 32 := 256#32
  let v158 : BitVec 32 := Scalar.muli v157 c256_i32_97
  let v159 : BitVec 32 := v158
  let v160 : Index := Scalar.indexCast v159
  let c0_98 : Index := 0#32
  ![v160.toNat, 0]
def k0_mult8 (i : grid0.Coords) (k0_t2 : Fin (k0_t2_loop i).trips) : BitVec 32 :=
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  v186
def k0_off15 (i : grid0.Coords) (k0_t2 : Fin (k0_t2_loop i).trips) : Fin 2 → Nat :=
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  let v187 : BitVec 32 := v186
  let v188 : Index := Scalar.indexCast v187
  let c0_118 : Index := 0#32
  ![v188.toNat, 0]
def k0_off16 (i : grid0.Coords) (k0_t2 : Fin (k0_t2_loop i).trips) : Fin 3 → Nat :=
  let c0_133 : Index := 0#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  let v187 : BitVec 32 := v186
  let v220 : Index := Scalar.indexCast v187
  let c0_134 : Index := 0#32
  ![0, v220.toNat, 0]
def k0_off17 (i : grid0.Coords) (k0_t2 : Fin (k0_t2_loop i).trips) : Fin 4 → Nat :=
  let c0_140 : Index := 0#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let v233 : Index := Scalar.indexCast v185
  let c0_141 : Index := 0#32
  let c0_142 : Index := 0#32
  ![0, v233.toNat, 0, 0]
def k0_off18 (i : grid0.Coords) (k0_t2 : Fin (k0_t2_loop i).trips) : Fin 3 → Nat :=
  let c1_170 : Index := 1#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  let v187 : BitVec 32 := v186
  let v284 : Index := Scalar.indexCast v187
  let c0_171 : Index := 0#32
  ![1, v284.toNat, 0]
def k0_off19 (i : grid0.Coords) (k0_t2 : Fin (k0_t2_loop i).trips) : Fin 4 → Nat :=
  let c0_176 : Index := 0#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let v297 : Index := Scalar.indexCast v185
  let c64_177 : Index := 64#32
  let c0_178 : Index := 0#32
  ![0, v297.toNat, 64, 0]
def k0_mult9 (i : grid0.Coords) (k0_t2 : Fin (k0_t2_loop i).trips) : BitVec 32 :=
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c2_i32_193 : BitVec 32 := 2#32
  let v322 : BitVec 32 := Scalar.addi v152 c2_i32_193
  let v323 : BitVec 1 := Scalar.cmpi .slt v322 v39
  let c1_i32_194 : BitVec 32 := 1#32
  let v324 : BitVec 32 := Scalar.addi arg2 c1_i32_194
  let v325 : BitVec 32 := Scalar.addi v324 v322
  let v326 : BitVec 32 := Scalar.select v323 v325 arg2
  let c256_i32_195 : BitVec 32 := 256#32
  let v327 : BitVec 32 := Scalar.muli v326 c256_i32_195
  v327
def k0_mult10 (i : grid0.Coords) (k0_t2 : Fin (k0_t2_loop i).trips) : BitVec 32 :=
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c1_i32_214 : BitVec 32 := 1#32
  let v351 : BitVec 32 := Scalar.addi v152 c1_i32_214
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let c256_i32_216 : BitVec 32 := 256#32
  let v356 : BitVec 32 := Scalar.muli v355 c256_i32_216
  v356
def k0_off20 (i : grid0.Coords) (k0_t2 : Fin (k0_t2_loop i).trips) : Fin 3 → Nat :=
  let c0_232 : Index := 0#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c1_i32_214 : BitVec 32 := 1#32
  let v351 : BitVec 32 := Scalar.addi v152 c1_i32_214
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let c256_i32_216 : BitVec 32 := 256#32
  let v356 : BitVec 32 := Scalar.muli v355 c256_i32_216
  let v357 : BitVec 32 := v356
  let v390 : Index := Scalar.indexCast v357
  let c0_233 : Index := 0#32
  ![0, v390.toNat, 0]
def k0_off21 (i : grid0.Coords) (k0_t2 : Fin (k0_t2_loop i).trips) : Fin 4 → Nat :=
  let c0_239 : Index := 0#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c1_i32_214 : BitVec 32 := 1#32
  let v351 : BitVec 32 := Scalar.addi v152 c1_i32_214
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let v403 : Index := Scalar.indexCast v355
  let c0_240 : Index := 0#32
  let c0_241 : Index := 0#32
  ![0, v403.toNat, 0, 0]
def k0_off22 (i : grid0.Coords) (k0_t2 : Fin (k0_t2_loop i).trips) : Fin 3 → Nat :=
  let c1_269 : Index := 1#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c1_i32_214 : BitVec 32 := 1#32
  let v351 : BitVec 32 := Scalar.addi v152 c1_i32_214
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let c256_i32_216 : BitVec 32 := 256#32
  let v356 : BitVec 32 := Scalar.muli v355 c256_i32_216
  let v357 : BitVec 32 := v356
  let v454 : Index := Scalar.indexCast v357
  let c0_270 : Index := 0#32
  ![1, v454.toNat, 0]
def k0_off23 (i : grid0.Coords) (k0_t2 : Fin (k0_t2_loop i).trips) : Fin 4 → Nat :=
  let c0_276 : Index := 0#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c1_i32_214 : BitVec 32 := 1#32
  let v351 : BitVec 32 := Scalar.addi v152 c1_i32_214
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let v467 : Index := Scalar.indexCast v355
  let c64_277 : Index := 64#32
  let c0_278 : Index := 0#32
  ![0, v467.toNat, 64, 0]
def k0_cond2 (i : grid0.Coords) : BitVec 1 :=
  let c7_i32 : BitVec 32 := 7#32
  let arg2 : BitVec 32 := BitVec.ofNat 32 (i 2).val
  let v39 : BitVec 32 := Scalar.subi c7_i32 arg2
  let c2_i32_52 : BitVec 32 := 2#32
  let c0_i32_53 : BitVec 32 := 0#32
  let v90 : BitVec 1 := Scalar.cmpi .eq c2_i32_52 c0_i32_53
  let c1_i32_54 : BitVec 32 := 1#32
  let v91 : BitVec 32 := Scalar.select v90 c1_i32_54 c2_i32_52
  let v92 : BitVec 32 := Scalar.remsi v39 v91
  let c0_i32_56 : BitVec 32 := 0#32
  let v94 : BitVec 1 := Scalar.cmpi .slt v92 c0_i32_56
  let c0_i32_57 : BitVec 32 := 0#32
  let v95 : BitVec 1 := Scalar.cmpi .slt v91 c0_i32_57
  let v96 : BitVec 1 := Scalar.xori v94 v95
  let c0_i32_55 : BitVec 32 := 0#32
  let v93 : BitVec 1 := Scalar.cmpi .ne v92 c0_i32_55
  let v97 : BitVec 1 := Scalar.andi v96 v93
  let v98 : BitVec 32 := Scalar.addi v92 v91
  let v99 : BitVec 32 := Scalar.select v97 v98 v92
  let c0_i32_58 : BitVec 32 := 0#32
  let v100 : BitVec 1 := Scalar.cmpi .eq v99 c0_i32_58
  let v101 : BitVec 32 := Scalar.extui v100
  let c0_i32_59 : BitVec 32 := 0#32
  let v102 : BitVec 1 := Scalar.cmpi .ne v101 c0_i32_59
  v102

def k0_mult11 (i : grid0.Coords) : BitVec 32 :=
  let arg2 : BitVec 32 := BitVec.ofNat 32 (i 2).val
  let c256_i32_94 : BitVec 32 := 256#32
  let v152 : BitVec 32 := Scalar.muli arg2 c256_i32_94
  v152
def k0_off24 (i : grid0.Coords) : Fin 2 → Nat :=
  let arg2 : BitVec 32 := BitVec.ofNat 32 (i 2).val
  let c256_i32_94 : BitVec 32 := 256#32
  let v152 : BitVec 32 := Scalar.muli arg2 c256_i32_94
  let v153 : BitVec 32 := v152
  let v154 : Index := Scalar.indexCast v153
  let c0_95 : Index := 0#32
  ![v154.toNat, 0]
def k0_off25 (i : grid0.Coords) : Fin 3 → Nat :=
  let c0_111 : Index := 0#32
  let arg2 : BitVec 32 := BitVec.ofNat 32 (i 2).val
  let c256_i32_94 : BitVec 32 := 256#32
  let v152 : BitVec 32 := Scalar.muli arg2 c256_i32_94
  let v153 : BitVec 32 := v152
  let v189 : Index := Scalar.indexCast v153
  let c0_112 : Index := 0#32
  ![0, v189.toNat, 0]
def k0_off26 (i : grid0.Coords) : Fin 4 → Nat :=
  let c0_118 : Index := 0#32
  let arg2 : BitVec 32 := BitVec.ofNat 32 (i 2).val
  let v202 : Index := Scalar.indexCast arg2
  let c0_119 : Index := 0#32
  let c0_120 : Index := 0#32
  ![0, v202.toNat, 0, 0]
def k0_off27 (i : grid0.Coords) : Fin 3 → Nat :=
  let c1_149 : Index := 1#32
  let arg2 : BitVec 32 := BitVec.ofNat 32 (i 2).val
  let c256_i32_94 : BitVec 32 := 256#32
  let v152 : BitVec 32 := Scalar.muli arg2 c256_i32_94
  let v153 : BitVec 32 := v152
  let v256 : Index := Scalar.indexCast v153
  let c0_150 : Index := 0#32
  ![1, v256.toNat, 0]
def k0_off28 (i : grid0.Coords) : Fin 4 → Nat :=
  let c0_155 : Index := 0#32
  let arg2 : BitVec 32 := BitVec.ofNat 32 (i 2).val
  let v269 : Index := Scalar.indexCast arg2
  let c64_156 : Index := 64#32
  let c0_157 : Index := 0#32
  ![0, v269.toNat, 64, 0]
def k0_cond3 (i : grid0.Coords) : BitVec 1 :=
  let c7_i32 : BitVec 32 := 7#32
  let arg2 : BitVec 32 := BitVec.ofNat 32 (i 2).val
  let v39 : BitVec 32 := Scalar.subi c7_i32 arg2
  let c2_i32_60 : BitVec 32 := 2#32
  let c0_i32_61 : BitVec 32 := 0#32
  let v103 : BitVec 1 := Scalar.cmpi .eq c2_i32_60 c0_i32_61
  let c1_i32_62 : BitVec 32 := 1#32
  let v104 : BitVec 32 := Scalar.select v103 c1_i32_62 c2_i32_60
  let v105 : BitVec 32 := Scalar.remsi v39 v104
  let c0_i32_64 : BitVec 32 := 0#32
  let v107 : BitVec 1 := Scalar.cmpi .slt v105 c0_i32_64
  let c0_i32_65 : BitVec 32 := 0#32
  let v108 : BitVec 1 := Scalar.cmpi .slt v104 c0_i32_65
  let v109 : BitVec 1 := Scalar.xori v107 v108
  let c0_i32_63 : BitVec 32 := 0#32
  let v106 : BitVec 1 := Scalar.cmpi .ne v105 c0_i32_63
  let v110 : BitVec 1 := Scalar.andi v109 v106
  let v111 : BitVec 32 := Scalar.addi v105 v104
  let v112 : BitVec 32 := Scalar.select v110 v111 v105
  let c1_i32_66 : BitVec 32 := 1#32
  let v113 : BitVec 1 := Scalar.cmpi .eq v112 c1_i32_66
  let v114 : BitVec 32 := Scalar.extui v113
  let c0_i32_67 : BitVec 32 := 0#32
  let v115 : BitVec 1 := Scalar.cmpi .ne v114 c0_i32_67
  v115

def k0_mult12 (i : grid0.Coords) : BitVec 32 :=
  let arg2 : BitVec 32 := BitVec.ofNat 32 (i 2).val
  let c256_i32_94 : BitVec 32 := 256#32
  let v152 : BitVec 32 := Scalar.muli arg2 c256_i32_94
  v152
def k0_off29 (i : grid0.Coords) : Fin 2 → Nat :=
  let arg2 : BitVec 32 := BitVec.ofNat 32 (i 2).val
  let c256_i32_94 : BitVec 32 := 256#32
  let v152 : BitVec 32 := Scalar.muli arg2 c256_i32_94
  let v153 : BitVec 32 := v152
  let v154 : Index := Scalar.indexCast v153
  let c0_95 : Index := 0#32
  ![v154.toNat, 0]
def k0_mult13 : BitVec 32 :=
  let c1792_i32 : BitVec 32 := 1792#32
  c1792_i32
def k0_mult14 (i : grid0.Coords) : BitVec 32 :=
  let arg2 : BitVec 32 := BitVec.ofNat 32 (i 2).val
  let c256_i32_191 : BitVec 32 := 256#32
  let v307 : BitVec 32 := Scalar.muli arg2 c256_i32_191
  v307
def k0_off30 (i : grid0.Coords) : Fin 3 → Nat :=
  let c0_208 : Index := 0#32
  let arg2 : BitVec 32 := BitVec.ofNat 32 (i 2).val
  let c256_i32_191 : BitVec 32 := 256#32
  let v307 : BitVec 32 := Scalar.muli arg2 c256_i32_191
  let v308 : BitVec 32 := v307
  let v344 : Index := Scalar.indexCast v308
  let c0_209 : Index := 0#32
  ![0, v344.toNat, 0]
def k0_off31 (i : grid0.Coords) : Fin 4 → Nat :=
  let c0_215 : Index := 0#32
  let arg2 : BitVec 32 := BitVec.ofNat 32 (i 2).val
  let v357 : Index := Scalar.indexCast arg2
  let c0_216 : Index := 0#32
  let c0_217 : Index := 0#32
  ![0, v357.toNat, 0, 0]
def k0_off32 (i : grid0.Coords) : Fin 3 → Nat :=
  let c1_246 : Index := 1#32
  let arg2 : BitVec 32 := BitVec.ofNat 32 (i 2).val
  let c256_i32_191 : BitVec 32 := 256#32
  let v307 : BitVec 32 := Scalar.muli arg2 c256_i32_191
  let v308 : BitVec 32 := v307
  let v411 : Index := Scalar.indexCast v308
  let c0_247 : Index := 0#32
  ![1, v411.toNat, 0]
def k0_off33 (i : grid0.Coords) : Fin 4 → Nat :=
  let c0_253 : Index := 0#32
  let arg2 : BitVec 32 := BitVec.ofNat 32 (i 2).val
  let v424 : Index := Scalar.indexCast arg2
  let c64_254 : Index := 64#32
  let c0_255 : Index := 0#32
  ![0, v424.toNat, 64, 0]
def k0_cond4 (i : grid0.Coords) : BitVec 1 :=
  let arg2 : BitVec 32 := BitVec.ofNat 32 (i 2).val
  let c7_i32_92 : BitVec 32 := 7#32
  let v149 : BitVec 1 := Scalar.cmpi .eq arg2 c7_i32_92
  let v150 : BitVec 32 := Scalar.extui v149
  let c0_i32_93 : BitVec 32 := 0#32
  let v151 : BitVec 1 := Scalar.cmpi .ne v150 c0_i32_93
  v151

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x8x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x8x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== KernelFmid.lean ====
abbrev S2x2048x1024 : Shape := ⟨3, ![2, 2048, 1024]⟩
abbrev S2x2048x512 : Shape := ⟨3, ![2, 2048, 512]⟩
abbrev S1x1024 : Shape := ⟨2, ![1, 1024]⟩
abbrev S1x1024x1024 : Shape := ⟨3, ![1, 1024, 1024]⟩
abbrev S2x256x1024 : Shape := ⟨3, ![2, 256, 1024]⟩
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 29
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S1x1024, .f32⟩
  | .hbm, ⟨4, _⟩ => ⟨S1x1024x1024, .f32⟩
  | .hbm, ⟨5, _⟩ => ⟨S1x1024x1024, .f32⟩
  | .hbm, ⟨6, _⟩ => ⟨S2x256x1024, .f32⟩
  | .hbm, ⟨7, _⟩ => ⟨S2x256x1024, .f32⟩
  | .hbm, ⟨8, _⟩ => ⟨S1x1024x1024, .f32⟩
  | .hbm, ⟨9, _⟩ => ⟨S4096x1024, .f32⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S4096x1024, .f32⟩
  | .hbm, ⟨24, _⟩ => ⟨S4096x1024, .bf16⟩
  | .hbm, ⟨25, _⟩ => ⟨S4096x1024, .bf16⟩
  | .hbm, ⟨26, _⟩ => ⟨S4096x1024, .bf16⟩
  | .hbm, ⟨27, _⟩ => ⟨S4096x1024, .f32⟩
  | .hbm, ⟨28, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceFmidIdeal.lean ====
abbrev S2x2048x1024 : Shape := ⟨3, ![2, 2048, 1024]⟩
abbrev S2x2048x512 : Shape := ⟨3, ![2, 2048, 512]⟩
abbrev S1x1024 : Shape := ⟨2, ![1, 1024]⟩
abbrev S1x1024x1024 : Shape := ⟨3, ![1, 1024, 1024]⟩
abbrev S2x256x1024 : Shape := ⟨3, ![2, 256, 1024]⟩
abbrev S1024x1024 : Shape := ⟨2, ![1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S4096x1024 : Shape := ⟨2, ![4096, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S1x1024, .f32⟩
  | .hbm, ⟨4, _⟩ => ⟨S1x1024x1024, .f32⟩
  | .hbm, ⟨5, _⟩ => ⟨S1x1024x1024, .f32⟩
  | .hbm, ⟨6, _⟩ => ⟨S2x256x1024, .f32⟩
  | .hbm, ⟨7, _⟩ => ⟨S2x256x1024, .f32⟩
  | .hbm, ⟨8, _⟩ => ⟨S1x1024x1024, .f32⟩
  | .hbm, ⟨9, _⟩ => ⟨S2x2048x1024, .f32⟩
  | .hbm, ⟨10, _⟩ => ⟨S1024x1024, .f32⟩
  | .hbm, ⟨11, _⟩ => ⟨S2x2048x1024, .f32⟩
  | .hbm, ⟨12, _⟩ => ⟨S2x2048x1024, .f32⟩
  | .hbm, ⟨13, _⟩ => ⟨S1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S1024x1024, .f32⟩
  | .hbm, ⟨31, _⟩ => ⟨S2x2048x1024, .f32⟩
  | .hbm, ⟨32, _⟩ => ⟨S2x2048x4x256, .f32⟩
  | .hbm, ⟨33, _⟩ => ⟨S2x256x4x256, .f32⟩
  | .hbm, ⟨34, _⟩ => ⟨S2x256x4x256, .f32⟩
  | .hbm, ⟨35, _⟩ => ⟨S2x4x2048x256, .f32⟩
  | .hbm, ⟨36, _⟩ => ⟨S_, .f32⟩
  | .hbm, ⟨37, _⟩ => ⟨S2x4x2048x256, .f32⟩
  | .hbm, ⟨38, _⟩ => ⟨S2x4x2048x256, .f32⟩
  | .hbm, ⟨39, _⟩ => ⟨S_, .f32⟩
  | .hbm, ⟨40, _⟩ => ⟨S2x4x2048, .f32⟩
  | .hbm, ⟨41, _⟩ => ⟨S_, .f32⟩
  | .hbm, ⟨42, _⟩ => ⟨S2x4x2048, .f32⟩
  | .hbm, ⟨43, _⟩ => ⟨S2x4x2048, .f32⟩
  | .hbm, ⟨44, _⟩ => ⟨S2x4x2048x1, .f32⟩
  | .hbm, ⟨45, _⟩ => ⟨S2x4x2048x256, .f32⟩
  | .hbm, ⟨46, _⟩ => ⟨S2x4x2048x256, .f32⟩
  | .hbm, ⟨47, _⟩ => ⟨S2x4x2048x256, .f32⟩
  | .hbm, ⟨48, _⟩ => ⟨S_, .f32⟩
  | .hbm, ⟨49, _⟩ => ⟨S2x4x2048, .f32⟩
  | .hbm, ⟨50, _⟩ => ⟨S2x4x2048x1, .f32⟩
  | .hbm, ⟨51, _⟩ => ⟨S2x4x2048x256, .f32⟩
  | .hbm, ⟨52, _⟩ => ⟨S2x4x2048x256, .f32⟩
  | .hbm, ⟨53, _⟩ => ⟨S2x4x256x2048, .f32⟩
  | .hbm, ⟨54, _⟩ => ⟨S2x2048x4x256, .f32⟩
  | .hbm, ⟨55, _⟩ => ⟨S2x2048x1024, .f32⟩
  | .hbm, ⟨56, _⟩ => ⟨S1024x1024, .f32⟩
  | .hbm, ⟨57, _⟩ => ⟨S2x2048x1024, .f32⟩
  | .hbm, ⟨58, _⟩ => ⟨S2x2048x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S4096x1024, .f32⟩
  | .hbm, ⟨63, _⟩ => ⟨S4096x1024, .bf16⟩
  | .hbm, ⟨64, _⟩ => ⟨S4096x1024, .f32⟩
  | .hbm, ⟨65, _⟩ => ⟨S4096x1024, .bf16⟩
  | .hbm, ⟨66, _⟩ => ⟨S4096x1024, .f32⟩
  | .hbm, ⟨67, _⟩ => ⟨S4096x1024, .f32⟩
  | .hbm, ⟨68, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== KernelKv.lean ====
abbrev S2x256x1024 : Shape := ⟨3, ![2, 256, 1024]⟩
abbrev S1024 : Shape := ⟨1, ![1024]⟩
abbrev S1x1024x2048 : Shape := ⟨3, ![1, 1024, 2048]⟩
abbrev S512x1024 : Shape := ⟨2, ![512, 1024]⟩
abbrev S1x1024 : Shape := ⟨2, ![1, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩

abbrev nBuf : Space → Nat
  | .hbm => 12
  | .vmem => 10
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1x1024x2048, .f32⟩
  | .hbm, ⟨3, _⟩ => ⟨S512x1024, .f32⟩
  | .hbm, ⟨4, _⟩ => ⟨S1x1024, .f32⟩
  | .hbm, ⟨5, _⟩ => ⟨S1024x2048, .f32⟩
  | .hbm, ⟨6, _⟩ => ⟨S1024x4x512, .f32⟩
  | .hbm, ⟨7, _⟩ => ⟨S4x1024x512, .f32⟩
  | .hbm, ⟨8, _⟩ => ⟨S4x1024x512, .bf16⟩
  | .hbm, ⟨9, _⟩ => ⟨S512x1024, .bf16⟩
  | .hbm, ⟨10, _⟩ => ⟨S512x1024, .bf16⟩
  | .hbm, ⟨11, _⟩ => ⟨S512x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceKvIdeal.lean ====
abbrev S2x256x1024 : Shape := ⟨3, ![2, 256, 1024]⟩
abbrev S1024 : Shape := ⟨1, ![1024]⟩
abbrev S1x1024x2048 : Shape := ⟨3, ![1, 1024, 2048]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x2048 : Shape := ⟨2, ![1024, 2048]⟩
abbrev S2x256x2048 : Shape := ⟨3, ![2, 256, 2048]⟩
abbrev S512x1024 : Shape := ⟨2, ![512, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1x1024x2048, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S1024x2048, .f32⟩
  | .hbm, ⟨20, _⟩ => ⟨S2x256x2048, .f32⟩
  | .hbm, ⟨21, _⟩ => ⟨S512x1024, .f32⟩
  | .hbm, ⟨22, _⟩ => ⟨S512x1024, .bf16⟩
  | .hbm, ⟨23, _⟩ => ⟨S2x256x1024, .f32⟩
  | .hbm, ⟨24, _⟩ => ⟨S512x1024, .f32⟩
  | .hbm, ⟨25, _⟩ => ⟨S512x1024, .bf16⟩
  | .hbm, ⟨26, _⟩ => ⟨S2x256x1024, .f32⟩
  | .hbm, ⟨27, _⟩ => ⟨S512x1024, .f32⟩
  | .hbm, ⟨28, _⟩ => ⟨S512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== KernelFin.lean ====
abbrev S2x2048x1024 : Shape := ⟨3, ![2, 2048, 1024]⟩
abbrev S1x1024 : Shape := ⟨2, ![1, 1024]⟩
abbrev S1x1024x2568 : Shape := ⟨3, ![1, 1024, 2568]⟩
abbrev S1x8 : Shape := ⟨2, ![1, 8]⟩
abbrev S1024x2568 : Shape := ⟨2, ![1024, 2568]⟩
abbrev S2568x1024 : Shape := ⟨2, ![2568, 1024]⟩
abbrev S8x1024 : Shape := ⟨2, ![8, 1024]⟩
abbrev S_ : Shape := ⟨0, ![]⟩
abbrev S128x1024 : Shape := ⟨2, ![128, 1024]⟩
abbrev S1x128 : Shape := ⟨2, ![1, 128]⟩
abbrev S4096x1024 : Shape := ⟨2, ![4096, 1024]⟩
abbrev S4096x512 : Shape := ⟨2, ![4096, 512]⟩
abbrev S4096x128 : Shape := ⟨2, ![4096, 128]⟩
abbrev S2x8x512x256 : Shape := ⟨4, ![2, 8, 512, 256]⟩
abbrev S512x1024 : Shape := ⟨2, ![512, 1024]⟩
abbrev S512x512 : Shape := ⟨2, ![512, 512]⟩
abbrev S512x128 : Shape := ⟨2, ![512, 128]⟩
abbrev S1x2x512x256 : Shape := ⟨4, ![1, 2, 512, 256]⟩
abbrev S8x128 : Shape := ⟨2, ![8, 128]⟩
abbrev S512 : Shape := ⟨1, ![512]⟩
abbrev S512x1 : Shape := ⟨2, ![512, 1]⟩
abbrev S256x512 : Shape := ⟨2, ![256, 512]⟩
abbrev S512x256 : Shape := ⟨2, ![512, 256]⟩
abbrev S1x1x512x256 : Shape := ⟨4, ![1, 1, 512, 256]⟩
abbrev S128x512 : Shape := ⟨2, ![128, 512]⟩

abbrev nBuf : Space → Nat
  | .hbm => 27
  | .vmem => 31
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2568, .f32⟩
  | .hbm, ⟨3, _⟩ => ⟨S1x8, .f32⟩
  | .hbm, ⟨4, _⟩ => ⟨S1024x2568, .f32⟩
  | .hbm, ⟨5, _⟩ => ⟨S2568x1024, .f32⟩
  | .hbm, ⟨6, _⟩ => ⟨S2568x1024, .bf16⟩
  | .hbm, ⟨7, _⟩ => ⟨S8x1024, .bf16⟩
  | .hbm, ⟨8, _⟩ => ⟨S_, .i32⟩
  | .hbm, ⟨9, _⟩ => ⟨S_, .bf16⟩
  | .hbm, ⟨10, _⟩ => ⟨S128x1024, .bf16⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S4096x1024, .f32⟩
  | .hbm, ⟨15, _⟩ => ⟨S4096x1024, .bf16⟩
  | .hbm, ⟨16, _⟩ => ⟨S4096x512, .f32⟩
  | .hbm, ⟨17, _⟩ => ⟨S4096x512, .f32⟩
  | .hbm, ⟨18, _⟩ => ⟨S4096x512, .bf16⟩
  | .hbm, ⟨19, _⟩ => ⟨S4096x512, .bf16⟩
  | .hbm, ⟨20, _⟩ => ⟨S4096x512, .bf16⟩
  | .hbm, ⟨21, _⟩ => ⟨S4096x128, .f32⟩
  | .hbm, ⟨22, _⟩ => ⟨S4096x128, .f32⟩
  | .hbm, ⟨23, _⟩ => ⟨S4096x512, .f32⟩
  | .hbm, ⟨24, _⟩ => ⟨S4096x1024, .bf16⟩
  | .hbm, ⟨25, _⟩ => ⟨S4096x1024, .bf16⟩
  | .hbm, ⟨26, _⟩ => ⟨S2x8x512x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2568x1024, .bf16⟩
  | .local _ .vmem, ⟨4, _⟩ => ⟨S128x1024, .bf16⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x512, .f32⟩
  | .local _ .vmem, ⟨23, _⟩ => ⟨S512x512, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S1x2x512x256, .bf16⟩
  | .local _ .vmem, ⟨29, _⟩ => ⟨S1x2x512x256, .bf16⟩
  | .local _ .vmem, ⟨30, _⟩ => ⟨S8x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_v7_7 : Ref sig .tc := ⟨.hbm, 22, rfl⟩
abbrev main_v7_8 : Ref sig .tc := ⟨.hbm, 23, rfl⟩
abbrev main_v7_9 : Ref sig .tc := ⟨.hbm, 24, rfl⟩
abbrev main_v7_10 : Ref sig .tc := ⟨.hbm, 25, rfl⟩
abbrev main_v7_11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2568x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceFinIdeal.lean ====
abbrev S2x2048x1024 : Shape := ⟨3, ![2, 2048, 1024]⟩
abbrev S1x1024 : Shape := ⟨2, ![1, 1024]⟩
abbrev S1x1024x2568 : Shape := ⟨3, ![1, 1024, 2568]⟩
abbrev S1x8 : Shape := ⟨2, ![1, 8]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2568 : Shape := ⟨2, ![1024, 2568]⟩
abbrev S2x2048x2568 : Shape := ⟨3, ![2, 2048, 2568]⟩
abbrev S2x2048x512 : Shape := ⟨3, ![2, 2048, 512]⟩
abbrev S2x2048x8 : Shape := ⟨3, ![2, 2048, 8]⟩
abbrev S8 : Shape := ⟨1, ![8]⟩
abbrev S1x1x8 : Shape := ⟨3, ![1, 1, 8]⟩
abbrev S4096x1024 : Shape := ⟨2, ![4096, 1024]⟩
abbrev S4096x512 : Shape := ⟨2, ![4096, 512]⟩
abbrev S4096x8 : Shape := ⟨2, ![4096, 8]⟩
abbrev S4096x128 : Shape := ⟨2, ![4096, 128]⟩
abbrev S4096x8x64 : Shape := ⟨3, ![4096, 8, 64]⟩
abbrev S2x8x256x512 : Shape := ⟨4, ![2, 8, 256, 512]⟩
abbrev S2x8x512x256 : Shape := ⟨4, ![2, 8, 512, 256]⟩

abbrev nBuf : Space → Nat
  | .hbm => 76
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2568, .f32⟩
  | .hbm, ⟨3, _⟩ => ⟨S1x8, .f32⟩
  | .hbm, ⟨4, _⟩ => ⟨S1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S1024x2568, .f32⟩
  | .hbm, ⟨22, _⟩ => ⟨S2x2048x2568, .f32⟩
  | .hbm, ⟨23, _⟩ => ⟨S2x2048x512, .f32⟩
  | .hbm, ⟨24, _⟩ => ⟨S2x2048x512, .f32⟩
  | .hbm, ⟨25, _⟩ => ⟨S2x2048x512, .f32⟩
  | .hbm, ⟨26, _⟩ => ⟨S2x2048x512, .f32⟩
  | .hbm, ⟨27, _⟩ => ⟨S2x2048x512, .f32⟩
  | .hbm, ⟨28, _⟩ => ⟨S2x2048x8, .f32⟩
  | .hbm, ⟨29, _⟩ => ⟨S8, .f32⟩
  | .hbm, ⟨30, _⟩ => ⟨S1x1x8, .f32⟩
  | .hbm, ⟨31, _⟩ => ⟨S2x2048x8, .f32⟩
  | .hbm, ⟨32, _⟩ => ⟨S2x2048x8, .f32⟩
  | .hbm, ⟨33, _⟩ => ⟨S2x2048x8, .f32⟩
  | .hbm, ⟨34, _⟩ => ⟨S_, .f32⟩
  | .hbm, ⟨35, _⟩ => ⟨S2x2048x8, .f32⟩
  | .hbm, ⟨36, _⟩ => ⟨S2x2048x8, .f32⟩
  | .hbm, ⟨37, _⟩ => ⟨S2x2048x8, .f32⟩
  | .hbm, ⟨38, _⟩ => ⟨S2x2048x8, .f32⟩
  | .hbm, ⟨39, _⟩ => ⟨S2x2048x8, .i1⟩
  | .hbm, ⟨40, _⟩ => ⟨S2x2048x8, .f32⟩
  | .hbm, ⟨41, _⟩ => ⟨S2x2048x8, .f32⟩
  | .hbm, ⟨42, _⟩ => ⟨S2x2048x8, .f32⟩
  | .hbm, ⟨43, _⟩ => ⟨S2x2048x8, .f32⟩
  | .hbm, ⟨44, _⟩ => ⟨S2x2048x8, .f32⟩
  | .hbm, ⟨45, _⟩ => ⟨S2x2048x8, .f32⟩
  | .hbm, ⟨46, _⟩ => ⟨S2x2048x8, .f32⟩
  | .hbm, ⟨47, _⟩ => ⟨S2x2048x8, .f32⟩
  | .hbm, ⟨48, _⟩ => ⟨S2x2048x8, .f32⟩
  | .hbm, ⟨49, _⟩ => ⟨S_, .f32⟩
  | .hbm, ⟨50, _⟩ => ⟨S_, .f32⟩
  | .hbm, ⟨51, _⟩ => ⟨S2x2048x8, .f32⟩
  | .hbm, ⟨52, _⟩ => ⟨S4096x1024, .f32⟩
  | .hbm, ⟨53, _⟩ => ⟨S4096x1024, .bf16⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .bf16⟩
  | .hbm, ⟨58, _⟩ => ⟨S4096x512, .f32⟩
  | .hbm, ⟨59, _⟩ => ⟨S4096x512, .bf16⟩
  | .hbm, ⟨60, _⟩ => ⟨S4096x512, .f32⟩
  | .hbm, ⟨61, _⟩ => ⟨S4096x512, .bf16⟩
  | .hbm, ⟨62, _⟩ => ⟨S4096x8, .f32⟩
  | .hbm, ⟨63, _⟩ => ⟨S_, .i32⟩
  | .hbm, ⟨64, _⟩ => ⟨S_, .f32⟩
  | .hbm, ⟨65, _⟩ => ⟨S4096x128, .f32⟩
  | .hbm, ⟨66, _⟩ => ⟨S4096x8, .f32⟩
  | .hbm, ⟨67, _⟩ => ⟨S_, .i32⟩
  | .hbm, ⟨68, _⟩ => ⟨S_, .f32⟩
  | .hbm, ⟨69, _⟩ => ⟨S4096x128, .f32⟩
  | .hbm, ⟨70, _⟩ => ⟨S4096x8, .f32⟩
  | .hbm, ⟨71, _⟩ => ⟨S4096x8x64, .f32⟩
  | .hbm, ⟨72, _⟩ => ⟨S4096x512, .f32⟩
  | .hbm, ⟨73, _⟩ => ⟨S2x8x256x512, .f32⟩
  | .hbm, ⟨74, _⟩ => ⟨S2x8x512x256, .f32⟩
  | .hbm, ⟨75, _⟩ => ⟨S2x8x512x256, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v26 : Ref sig .tc := ⟨.hbm, 48, rfl⟩
abbrev main_call1_call0_cst : Ref sig .tc := ⟨.hbm, 49, rfl⟩
abbrev main_call1_call0_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c : Ref sig .tc := ⟨.hbm, 63, rfl⟩
abbrev main_call2_v0 : Ref sig .tc := ⟨.hbm, 64, rfl⟩
abbrev main_v39 : Ref sig .tc := ⟨.hbm, 65, rfl⟩
abbrev main_v40 : Ref sig .tc := ⟨.hbm, 66, rfl⟩
abbrev main_c_2 : Ref sig .tc := ⟨.hbm, 67, rfl⟩
abbrev main_call3_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== KernelCfwd.lean ====
abbrev S2x2048x512 : Shape := ⟨3, ![2, 2048, 512]⟩
abbrev S1x31x512 : Shape := ⟨3, ![1, 31, 512]⟩
abbrev S1x512 : Shape := ⟨2, ![1, 512]⟩
abbrev S31x512 : Shape := ⟨2, ![31, 512]⟩
abbrev S_ : Shape := ⟨0, ![]⟩
abbrev S32x512 : Shape := ⟨2, ![32, 512]⟩
abbrev S4096x512 : Shape := ⟨2, ![4096, 512]⟩
abbrev S256x512 : Shape := ⟨2, ![256, 512]⟩
abbrev S288x512 : Shape := ⟨2, ![288, 512]⟩
abbrev S8x280x512 : Shape := ⟨3, ![8, 280, 512]⟩
abbrev S280x512 : Shape := ⟨2, ![280, 512]⟩
abbrev S1x280x512 : Shape := ⟨3, ![1, 280, 512]⟩
abbrev S128x128 : Shape := ⟨2, ![128, 128]⟩
abbrev S1x128 : Shape := ⟨2, ![1, 128]⟩
abbrev S1x128x128 : Shape := ⟨3, ![1, 128, 128]⟩
abbrev S256 : Shape := ⟨1, ![256]⟩
abbrev S256x1 : Shape := ⟨2, ![256, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x31x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S31x512, .f32⟩
  | .hbm, ⟨7, _⟩ => ⟨S_, .i32⟩
  | .hbm, ⟨8, _⟩ => ⟨S_, .f32⟩
  | .hbm, ⟨9, _⟩ => ⟨S32x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S288x512, .f32⟩
  | .local _ .vmem, ⟨13, _⟩ => ⟨S8x280x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceCfwdIdeal.lean ====
abbrev S2x2048x512 : Shape := ⟨3, ![2, 2048, 512]⟩
abbrev S1x31x512 : Shape := ⟨3, ![1, 31, 512]⟩
abbrev S1x512 : Shape := ⟨2, ![1, 512]⟩
abbrev S_ : Shape := ⟨0, ![]⟩
abbrev S31x512 : Shape := ⟨2, ![31, 512]⟩
abbrev S31x1x1x512 : Shape := ⟨4, ![31, 1, 1, 512]⟩
abbrev S31x2048x2048 : Shape := ⟨3, ![31, 2048, 2048]⟩
abbrev S31x1x2048x2048x1 : Shape := ⟨5, ![31, 1, 2048, 2048, 1]⟩
abbrev S1x2x1x2048x512 : Shape := ⟨5, ![1, 2, 1, 2048, 512]⟩
abbrev S31x2x2048x2048x512 : Shape := ⟨5, ![31, 2, 2048, 2048, 512]⟩
abbrev S31x2x2048x512 : Shape := ⟨4, ![31, 2, 2048, 512]⟩
abbrev S512 : Shape := ⟨1, ![512]⟩
abbrev S1x1x512 : Shape := ⟨3, ![1, 1, 512]⟩
abbrev S2x2048 : Shape := ⟨2, ![2, 2048]⟩
abbrev S2x2048x1 : Shape := ⟨3, ![2, 2048, 1]⟩
abbrev S4096x512 : Shape := ⟨2, ![4096, 512]⟩

abbrev nBuf : Space → Nat
  | .hbm => 84
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x31x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S2x2048x512, .f32⟩
  | .hbm, ⟨7, _⟩ => ⟨S2x2048x512, .f32⟩
  | .hbm, ⟨8, _⟩ => ⟨S_, .f32⟩
  | .hbm, ⟨9, _⟩ => ⟨S2x2048x512, .f32⟩
  | .hbm, ⟨10, _⟩ => ⟨S2x2048x512, .f32⟩
  | .hbm, ⟨11, _⟩ => ⟨S_, .f32⟩
  | .hbm, ⟨12, _⟩ => ⟨S2x2048x512, .f32⟩
  | .hbm, ⟨13, _⟩ => ⟨S2x2048x512, .f32⟩
  | .hbm, ⟨14, _⟩ => ⟨S2x2048x512, .f32⟩
  | .hbm, ⟨15, _⟩ => ⟨S31x512, .f32⟩
  | .hbm, ⟨16, _⟩ => ⟨S31x1x1x512, .f32⟩
  | .hbm, ⟨17, _⟩ => ⟨S31x2048x2048, .i32⟩
  | .hbm, ⟨18, _⟩ => ⟨S31x2048x2048, .i32⟩
  | .hbm, ⟨19, _⟩ => ⟨S31x2048x2048, .i32⟩
  | .hbm, ⟨20, _⟩ => ⟨S_, .i32⟩
  | .hbm, ⟨21, _⟩ => ⟨S31x2048x2048, .i32⟩
  | .hbm, ⟨22, _⟩ => ⟨S31x2048x2048, .i32⟩
  | .hbm, ⟨23, _⟩ => ⟨S31x2048x2048, .i32⟩
  | .hbm, ⟨24, _⟩ => ⟨S31x2048x2048, .i1⟩
  | .hbm, ⟨25, _⟩ => ⟨S31x1x2048x2048x1, .i1⟩
  | .hbm, ⟨26, _⟩ => ⟨S1x2x1x2048x512, .f32⟩
  | .hbm, ⟨27, _⟩ => ⟨S_, .f32⟩
  | .hbm, ⟨28, _⟩ => ⟨S_, .f32⟩
  | .hbm, ⟨29, _⟩ => ⟨S31x2x2048x2048x512, .i1⟩
  | .hbm, ⟨30, _⟩ => ⟨S31x2x2048x2048x512, .f32⟩
  | .hbm, ⟨31, _⟩ => ⟨S31x2x2048x2048x512, .f32⟩
  | .hbm, ⟨32, _⟩ => ⟨S31x2x2048x2048x512, .f32⟩
  | .hbm, ⟨33, _⟩ => ⟨S_, .f32⟩
  | .hbm, ⟨34, _⟩ => ⟨S31x2x2048x512, .f32⟩
  | .hbm, ⟨35, _⟩ => ⟨S31x2x2048x512, .f32⟩
  | .hbm, ⟨36, _⟩ => ⟨S31x2x2048x512, .f32⟩
  | .hbm, ⟨37, _⟩ => ⟨S_, .f32⟩
  | .hbm, ⟨38, _⟩ => ⟨S2x2048x512, .f32⟩
  | .hbm, ⟨39, _⟩ => ⟨S512, .f32⟩
  | .hbm, ⟨40, _⟩ => ⟨S1x1x512, .f32⟩
  | .hbm, ⟨41, _⟩ => ⟨S2x2048x512, .f32⟩
  | .hbm, ⟨42, _⟩ => ⟨S2x2048x512, .f32⟩
  | .hbm, ⟨43, _⟩ => ⟨S512, .f32⟩
  | .hbm, ⟨44, _⟩ => ⟨S512, .f32⟩
  | .hbm, ⟨45, _⟩ => ⟨S_, .f32⟩
  | .hbm, ⟨46, _⟩ => ⟨S2x2048, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S2x2048x512, .f32⟩
  | .hbm, ⟨52, _⟩ => ⟨S2x2048x512, .f32⟩
  | .hbm, ⟨53, _⟩ => ⟨S2x2048x512, .f32⟩
  | .hbm, ⟨54, _⟩ => ⟨S_, .f32⟩
  | .hbm, ⟨55, _⟩ => ⟨S2x2048, .f32⟩
  | .hbm, ⟨56, _⟩ => ⟨S2x2048x1, .f32⟩
  | .hbm, ⟨57, _⟩ => ⟨S_, .f32⟩
  | .hbm, ⟨58, _⟩ => ⟨S2x2048x1, .f32⟩
  | .hbm, ⟨59, _⟩ => ⟨S2x2048x1, .f32⟩
  | .hbm, ⟨60, _⟩ => ⟨S_, .f32⟩
  | .hbm, ⟨61, _⟩ => ⟨S2x2048x1, .f32⟩
  | .hbm, ⟨62, _⟩ => ⟨S2x2048x1, .f32⟩
  | .hbm, ⟨63, _⟩ => ⟨S2x2048x1, .f32⟩
  | .hbm, ⟨64, _⟩ => ⟨S2x2048x512, .f32⟩
  | .hbm, ⟨65, _⟩ => ⟨S2x2048x512, .f32⟩
  | .hbm, ⟨66, _⟩ => ⟨S1x1x512, .f32⟩
  | .hbm, ⟨67, _⟩ => ⟨S2x2048x512, .f32⟩
  | .hbm, ⟨68, _⟩ => ⟨S2x2048x512, .f32⟩
  | .hbm, ⟨69, _⟩ => ⟨S1x1x512, .f32⟩
  | .hbm, ⟨70, _⟩ => ⟨S2x2048x512, .f32⟩
  | .hbm, ⟨71, _⟩ => ⟨S2x2048x512, .f32⟩
  | .hbm, ⟨72, _⟩ => ⟨S2x2048x512, .f32⟩
  | .hbm, ⟨73, _⟩ => ⟨S2x2048x512, .f32⟩
  | .hbm, ⟨74, _⟩ => ⟨S_, .f32⟩
  | .hbm, ⟨75, _⟩ => ⟨S2x2048x512, .f32⟩
  | .hbm, ⟨76, _⟩ => ⟨S2x2048x512, .f32⟩
  | .hbm, ⟨77, _⟩ => ⟨S_, .f32⟩
  | .hbm, ⟨78, _⟩ => ⟨S2x2048x512, .f32⟩
  | .hbm, ⟨79, _⟩ => ⟨S2x2048x512, .f32⟩
  | .hbm, ⟨80, _⟩ => ⟨S2x2048x512, .f32⟩
  | .hbm, ⟨81, _⟩ => ⟨S4096x512, .f32⟩
  | .hbm, ⟨82, _⟩ => ⟨S4096x512, .f32⟩
  | .hbm, ⟨83, _⟩ => ⟨S4096x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== Proof.Sums.lean ====
/- Sums over several axes read as iterated sums, and the few facts about finite numbers every gradient needs. -/
module

public import Idealize.ShloMosaic.Lib.Pipeline.ValueKit
public import Idealize.ShloMosaic.Lib.Pointwise
public import Idealize.ShloMosaic.Lib.Claim

@[expose] public section

noncomputable section

open Idealize.ShloMosaic Idealize.ShloMosaic.TcCoe
open scoped BigOperators Classical

namespace Cert.Sums

variable {n0 n1 n2 n3 n4 : Nat} {t : Shape}

/-- Where the axes an index of the result came from are known, the sum of a reduction is a sum over the axes left out. -/
theorem reduced {s : Shape} {axes : List (Fin s.rank)} {κ : Type} [Fintype κ] (h : s.ReducesTo axes t) (g : κ → s.Idx) (back : s.Idx → κ)
    (v : s.Idx → EReal) (init : EReal) (j : t.Idx) (hb : ∀ k, back (g k) = k) (hd : ∀ k, h.drop (g k) = j)
    (hg : ∀ i, h.drop i = j → g (back i) = i) : Ideal.hostReduceAdd h v init j = init + ∑ k, v (g k) :=
  congrArg (init + ·) (Finset.sum_filter_eq_sum_of_fiber (fun i => h.drop i = j) g (fun a b e => by rw [← hb a, e, hb b])
    (fun i => ⟨fun e => ⟨back i, hg i e⟩, by rintro ⟨k, rfl⟩; exact hd k⟩) v)

/-- A sum over the first two of three axes. -/
theorem front_two (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  rw [reduced h (fun k : Fin n0 × Fin n1 => ix3 k.1 k.2 (j 0)) (fun i => (i 0, i 1)) v init j (fun _ => rfl)
    (fun k => funext fun b => Fin.ext (by match b with | ⟨0, _⟩ => rfl))
    (fun i e => funext fun a => Fin.ext (by
      match a with
      | ⟨0, _⟩ => rfl
      | ⟨1, _⟩ => rfl
      | ⟨2, _⟩ => exact (congrArg Fin.val (congrFun e 0)).symm)), Fintype.sum_prod_type]

/-- A sum over 2048 terms by its four quarters. -/
theorem quarters {M : Type} [AddCommMonoid M] (f : Fin 2048 → M) : ∑ x, f x
    = (((∑ i : Fin 512, f ⟨i.val, by omega⟩) + ∑ i : Fin 512, f ⟨512 + i.val, by omega⟩)
      + ∑ i : Fin 512, f ⟨1024 + i.val, by omega⟩) + ∑ i : Fin 512, f ⟨1536 + i.val, by omega⟩ := by
  have e := Fin.sum_univ_add (a := 512 + 512 + 512) (b := 512) f
  rw [Fin.sum_univ_add (a := 512 + 512) (b := 512), Fin.sum_univ_add (a := 512) (b := 512)] at e
  exact e

/-- Rows of two axes, numbered through and summed tile by tile. -/
theorem tiles {M : Type} [AddCommMonoid M] {a b n p : Nat} (e : n * p = a * b) (f : Fin a → Fin b → M)
    (h1 : ∀ (t : Fin n) (r : Fin p), (t.val * p + r.val) / b < a) (h2 : ∀ (t : Fin n) (r : Fin p), (t.val * p + r.val) % b < b) :
    ∑ i, ∑ j, f i j = ∑ t : Fin n, ∑ r : Fin p, f ⟨(t.val * p + r.val) / b, h1 t r⟩ ⟨(t.val * p + r.val) % b, h2 t r⟩ := by
  have l : ∑ i, ∑ j, f i j = ∑ x : Fin (a * b), f x.divNat x.modNat := by
    rw [← Fintype.sum_prod_type (f := fun x : Fin a × Fin b => f x.1 x.2)]
    exact Fintype.sum_equiv finProdFinEquiv _ _ fun x => by
      have h := finProdFinEquiv.symm_apply_apply x
      rw [show (finProdFinEquiv x).divNat = x.1 from congrArg Prod.fst h, show (finProdFinEquiv x).modNat = x.2 from congrArg Prod.snd h]
  rw [l, ← (finCongr e).sum_comp, ← (finProdFinEquiv (m := n) (n := p)).sum_comp, Fintype.sum_prod_type]
  refine Finset.sum_congr rfl fun t _ => Finset.sum_congr rfl fun r _ => ?_
  have v : ((finCongr e) (finProdFinEquiv (t, r))).val = t.val * p + r.val := by simp [finProdFinEquiv, Nat.mul_comm, Nat.add_comm]
  exact congrArg₂ f (Fin.ext (congrArg (· / b) v)) (Fin.ext (congrArg (· % b) v))

/-- A sum over one group of equal ones, by a mask. -/
theorem group {M : Type} [AddCommMonoid M] (f : Fin 512 → M) (g : ℕ) (hg : g < 8) :
    (∑ k : Fin 512, if k.val / 64 = g then f k else 0) = ∑ x : Fin 64, f ⟨g * 64 + x.val, by omega⟩ := by
  have e : (∑ k : Fin 512, if k.val / 64 = g then f k else 0) = ∑ i : Fin 8, ∑ j : Fin 64, if i = ⟨g, hg⟩ then f ⟨i.val * 64 + j.val, by omega⟩ else 0 := by
    rw [← Fintype.sum_prod_type']
    refine (Fintype.sum_equiv (finProdFinEquiv (m := 8) (n := 64)) _ _ fun x => ?_).symm
    have v : (finProdFinEquiv (m := 8) (n := 64) x).val = x.2.val + 64 * x.1.val := rfl
    refine if_congr ?_ (congrArg f (Fin.ext (by rw [v]; simp only; omega))) rfl
    rw [v, Fin.ext_iff]
    simp only
    omega
  rw [e]
  refine (Finset.sum_eq_single (⟨g, hg⟩ : Fin 8) (fun i _ hi => by simp only [hi, if_false, Finset.sum_const_zero]) (fun h => absurd (Finset.mem_univ _) h)).trans ?_
  simp only [if_true]

end Cert.Sums

end
-- ==== Proof.MemValue.lean ====
/- The two results of the memory norm's gradient: the keys' and values' cotangents side by side, and the gain's gradient. -/
module

public import proofs.«01_k».proof.Proof.Gen.KernelMemIdeal.Value
public import proofs.«01_k».proof.Proof.Gen.ReferenceMemIdeal.Read
public import proofs.«01_k».proof.Proof.Sums
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MemValue

open Cert.KernelMemIdeal Cert.KernelMemIdeal.Gen Cert.ReferenceMemIdeal.Read

variable (m : (ℓ : Loc nD τ sig) → Buf (Elt Ideal) ℓ)

/-- Where each window's block lies at grid point `t`. -/
theorem place : ∀ t : Fin cfg0.N, win0_0.index t = ![t.val, 0] ∧ win0_1.index t = ![t.val, 0]
    ∧ win0_2.index t = ![t.val, 0] ∧ win0_3.index t = ![0, 0, 0] ∧ win0_4.index t = ![0, 0]
    ∧ win0_5.index t = ![t.val, 0] ∧ win0_6.index t = ![0, 0] :=
  (by decide +kernel : ∀ t : Fin grid0.N, _)

/-- The running sum starts at zero. -/
theorem start (j : S1x1024.Idx) : k0_pay2 (F := Ideal) j = 0 := by
  pointwise! [k0_pay2]

/-- One batch element adds its part to the running sum. -/
theorem step (d : FVec Ideal S256x1024 .f32) (a : FVec Ideal S256x512 .bf16) (w : FVec Ideal S1024x512 .bf16)
    (x : Vec Ideal S256x1024 .f32) (acc : Vec Ideal S1x1024 .f32) (j : S1x1024.Idx) :
    k0_pay1 d a w x acc j = acc j + k0_pay1 d a w x (fun _ => 0) j := by
  pointwise [k0_pay1]

/-- The block of the keys' cotangent at a grid point is that batch element's. -/
theorem keys (c : Dev nD) (t : Fin cfg0.N) (p : Fin 256) (q : Fin 1024) :
    iblk m c 0 t (ix2 p q) = m ((c : Thread nD τ).loc main_arg3) (ix3 (Fin.cast N_0 t) p q) := by
  blk_simp [iblk, place t]; entry_read; pointwise; blk_ext [place t]

theorem values (c : Dev nD) (t : Fin cfg0.N) (p : Fin 256) (q : Fin 1024) :
    iblk m c 1 t (ix2 p q) = m ((c : Thread nD τ).loc main_arg4) (ix3 (Fin.cast N_0 t) p q) := by
  blk_simp [iblk, place t]; entry_read; pointwise; blk_ext [place t]

theorem memory (c : Dev nD) (t : Fin cfg0.N) (p : Fin 256) (q : Fin 1024) :
    iblk m c 2 t (ix2 p q) = m ((c : Thread nD τ).loc main_arg0) (ix3 (Fin.cast N_0 t) p q) := by
  blk_simp [iblk, place t]; entry_read; pointwise; blk_ext [place t]

/-- Slab `s` of the projection holds its columns `512 * s + q`. -/
theorem slab (c : Dev nD) (t : Fin cfg0.N) (s : Fin 4) (p : Fin 1024) (q : Fin 512) :
    iblk m c 3 t (ix3 s p q) = m ((c : Thread nD τ).loc main_arg2) (ix3 0 p ⟨512 * s.val + q.val, by omega⟩) := by
  blk_simp [iblk, place t]; entry_read; pointwise; blk_ext [place t]

/-- The contraction over keys and values together is the four slabs' products. -/
theorem joined (k v : Fin 1024 → EReal) (w : Fin 2048 → EReal) :
    ∑ x : Fin 2048, ((if h : 1024 ≤ x.val ∧ x.val - 1024 < 1024 then v ⟨x.val - 1024, h.2⟩ else 0)
        + (if h : x.val < 1024 then k ⟨x.val, h⟩ else 0)) * w x
      = (((∑ i : Fin 512, k ⟨i.val, by omega⟩ * w ⟨512 * 0 + i.val, by omega⟩)
        + ∑ i : Fin 512, v ⟨i.val, by omega⟩ * w ⟨512 * 2 + i.val, by omega⟩)
        + ∑ i : Fin 512, k ⟨512 + i.val, by omega⟩ * w ⟨512 * 1 + i.val, by omega⟩)
        + ∑ i : Fin 512, v ⟨512 + i.val, by omega⟩ * w ⟨512 * 3 + i.val, by omega⟩ := by
  rw [Cert.Sums.quarters, add_right_comm (∑ i : Fin 512, k ⟨i.val, _⟩ * _)]
  refine congrArg₂ (· + ·) (congrArg₂ (· + ·) (congrArg₂ (· + ·) ?_ ?_) ?_) ?_ <;>
    refine Finset.sum_congr rfl fun i _ => ?_
  · rw [dif_neg (by simp only; omega), dif_pos (by simp only; omega), zero_add]; simp
  · rw [dif_neg (by simp only; omega), dif_pos (by simp only; omega), zero_add]
  · rw [dif_pos (by simp only; omega), dif_neg (by simp only; omega), add_zero]; congr 3; simp
  · rw [dif_pos (by simp only; omega), dif_neg (by simp only; omega), add_zero]; congr 3; simp only [Fin.mk.injEq]; omega

theorem gain (c : Dev nD) : (dats m 0 c).arrAt 6 (cfgs 0).N
    = val_main_v42 (F := Ideal) (m ((c : Thread nD τ).loc main_arg0)) (m ((c : Thread nD τ).loc main_arg2))
        (m ((c : Thread nD τ).loc main_arg3)) (m ((c : Thread nD τ).loc main_arg4)) := by
  refine (dats m 0 c).arrAt_eq_of_after_last 6 t0_1 (by decide +kernel) _ fun j => ?_
  obtain ⟨z, q, rfl⟩ : ∃ (z : Fin 1) (q : Fin 1024), j = ix2 z q := ⟨j 0, j 1, (ix2_eta j).symm⟩
  blk_simp
  rw [after0_6, Pipeline.eq_sum_fin_of_reset_step_apply_last (fun n h => (outsAt0 m c n h).2) 2 (fun _ => 0) _
    (fun t h j => by rw [outsAt0_A m c t h]; frame_out; rw [step, start])
    (fun t h j => by rw [outsAt0_B m c t h]; frame_out; rw [step])
    (le_of_eq N_0) t0_1 rfl (ix2 z q), zero_add]
  pointwise [k0_pay1, k0_pay5, k0_pay6, k0_pay7, Cert.Sums.front_two,
    val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_2, val_main_cst_3, val_main_cst_4, val_main_cst_5, val_main_cst_6, val_main_cst_7, val_main_cst_8]
  simp only [Fin.sum_univ_one, Fin.isValue]
  refine Fintype.sum_equiv (M := EReal) (finCongr N_0) _ _ fun t => Finset.sum_congr (M := EReal) rfl fun p _ => ?_
  simp only [k0_pay3, k0_pay4]
  pointwise
  simp only [keys, values, memory, slab]
  refine (mul_comm _ _).trans (congrArg₂ (· * ·) rfl ?_)
  exact (joined (fun x => m ((c : Thread nD τ).loc main_arg3) (ix3 (Fin.cast N_0 t) p x))
    (fun x => m ((c : Thread nD τ).loc main_arg4) (ix3 (Fin.cast N_0 t) p x)) (fun x => m ((c : Thread nD τ).loc main_arg2) (ix3 0 q x))).symm

section
variable (A B : (⟨3, ![2, 256, 1024]⟩ : Shape).Idx → EReal)

/-- The keys' half of the joined cotangent. -/
theorem left (b : Fin 2) (p : Fin 256) (q : Fin 1024) :
    val_main_v41 (F := Ideal) A B (ix2 ⟨b.val * 256 + p.val, by omega⟩ ⟨q.val, by omega⟩) = A (ix3 b p q) := by
  pointwise [val_main_v41, val_main_v40, val_main_v19, val_main_v18, val_main_v17, val_main_cst_2, val_main_cst_3]
  exact zero_add _

/-- The values' half. -/
theorem right (b : Fin 2) (p : Fin 256) (q : Fin 1024) :
    val_main_v41 (F := Ideal) A B (ix2 ⟨b.val * 256 + p.val, by omega⟩ ⟨1024 + q.val, by omega⟩) = B (ix3 b p q) := by
  pointwise [val_main_v41, val_main_v40, val_main_v19, val_main_v18, val_main_v17, val_main_cst_2, val_main_cst_3]
end

/-- The cotangents of the keys and the values, side by side. -/
theorem side (c : Dev nD) : (dats m 0 c).arrAt 5 (cfgs 0).N
    = val_main_v41 (F := Ideal) (m ((c : Thread nD τ).loc main_arg3)) (m ((c : Thread nD τ).loc main_arg4)) := by
  refine (dats m 0 c).arrAt_eq_of_covers 5 _ (by decide +kernel) fun t hf y => ?_
  blk_simp
  rw [after0_5]
  by_cases u : t.val % 2 = 0
  on_goal 1 => rw [outsAt0_A m c t u]
  on_goal 2 => rw [outsAt0_B m c t u]
  all_goals
    frame_out
    canon_tiles x h
    · obtain ⟨p, q, rfl⟩ : ∃ (p : Fin 256) (q : Fin 1024), x = ix2 p q := ⟨x 0, x 1, eq_ix2 x⟩
      pointwise [k0_pay4]
      rw [values]
      refine (right _ _ _ _ _).symm.trans (congrArg _ ?_)
      blk_ext [place t, h0, h1]
      rfl
    · obtain ⟨p, q, rfl⟩ : ∃ (p : Fin 256) (q : Fin 1024), x = ix2 p q := ⟨x 0, x 1, eq_ix2 x⟩
      pointwise [k0_pay3]
      rw [keys]
      refine (left _ _ _ _ _).symm.trans (congrArg _ ?_)
      blk_ext [place t, h0, h1]
      rfl

end Cert.MemValue

end
-- ==== Proof.MemEnd.lean ====
/- What is claimed of the memory norm's gradient. -/
module

public import proofs.«01_k».proof.Defs
public import proofs.«01_k».proof.Proof.Gen.KernelMem.Frame
public import proofs.«01_k».proof.Proof.Gen.ReferenceMemIdeal.Run
public import proofs.«01_k».proof.Proof.MemValue
public import Idealize.ShloMosaic.Adequacy
public import Idealize.ShloMosaic.Init

@[expose] public section

set_option maxRecDepth 16384

noncomputable section

namespace Cert.MemEnd

open Idealize.ShloMosaic Idealize.SL.Sem

theorem frame_kernel : Cert.quiescent_KernelMem := fun m g _ => Cert.KernelMem.Gen.frame m g

theorem frame_ideal : Cert.quiescent_KernelMemIdeal := fun m g _ => Cert.KernelMemIdeal.Gen.frame m g

theorem frame_reference : Cert.quiescent_ReferenceMemIdeal := fun m g _ =>
  (θ_run Cert.ReferenceMemIdeal.defs _ _).mono (fun r h => ⟨fun c => (h c).2.2, sem_eq_zero_of_no_sems (by decide) r.2⟩)
    (Cert.ReferenceMemIdeal.Value.run (F := Ideal) m g)

theorem algebraic : Cert.algebraic_KernelMemIdeal_ReferenceMemIdeal := by
  pair_intro
  · run_from Cert.KernelMemIdeal.Value.run_blocks m g
  · run_from Cert.ReferenceMemIdeal.Value.run m' g'
    · exact (Cert.MemValue.side m c).symm
    · exact (Cert.MemValue.gain m c).symm

end Cert.MemEnd

end
-- ==== Proof.Reals.lean ====
/- Finite extended reals: the operations of the gradients keep them finite, and the norm's gradient is one identity of reals. -/
module

public import Idealize.ShloMosaic.Lib.Pipeline.ValueKit
public import Idealize.ShloMosaic.Lib.Pointwise
public import Idealize.ShloMosaic.Lib.Claim

@[expose] public section

noncomputable section

open Idealize.ShloMosaic Idealize.ShloMosaic.TcCoe
open scoped BigOperators

namespace Cert.Reals

/-- A number that is neither of the two infinities. -/
def Is (v : EReal) : Prop := ∃ a : ℝ, v = (a : EReal)

theorem is (a : ℝ) : Is (a : EReal) := ⟨a, rfl⟩

theorem Is.add {u v : EReal} : Is u → Is v → Is (u + v) := by rintro ⟨a, rfl⟩ ⟨b, rfl⟩; exact ⟨a + b, (EReal.coe_add a b).symm⟩
theorem Is.sub {u v : EReal} : Is u → Is v → Is (u - v) := by rintro ⟨a, rfl⟩ ⟨b, rfl⟩; exact ⟨a - b, (EReal.coe_sub a b).symm⟩
theorem Is.mul {u v : EReal} : Is u → Is v → Is (u * v) := by rintro ⟨a, rfl⟩ ⟨b, rfl⟩; exact ⟨a * b, (EReal.coe_mul a b).symm⟩
theorem Is.neg {u : EReal} : Is u → Is (-u) := by rintro ⟨a, rfl⟩; exact ⟨-a, (EReal.coe_neg a).symm⟩
theorem Is.zero : Is 0 := ⟨0, EReal.coe_zero.symm⟩
theorem Is.one : Is 1 := ⟨1, EReal.coe_one.symm⟩
theorem Is.exp {u : EReal} : Is u → Is (Ideal.exp u) := by rintro ⟨a, rfl⟩; exact ⟨Real.exp a, rfl⟩

/-- A sum of reals, taken among the extended reals. -/
theorem sum {κ : Type} [Fintype κ] (f : κ → ℝ) : ∑ k, ((f k : ℝ) : EReal) = ((∑ k, f k : ℝ) : EReal) :=
  (map_sum (⟨⟨fun a : ℝ => (a : EReal), EReal.coe_zero⟩, EReal.coe_add⟩ : ℝ →+ EReal) f Finset.univ).symm

theorem Is.sum {κ : Type} [Fintype κ] {f : κ → EReal} (h : ∀ k, Is (f k)) : Is (∑ k, f k) := by
  choose g e using h
  simp only [e, Cert.Reals.sum]; exact is _

/-- A family of finite numbers is a family of reals. -/
theorem lift {κ : Type} {f : κ → EReal} (h : ∀ k, Is (f k)) : ∃ g : κ → ℝ, f = fun k => ((g k : ℝ) : EReal) := by
  choose g e using h
  exact ⟨g, funext e⟩

/-- What a precondition says of one element. -/
theorem of_lt (v : EReal) (h : Ideal.cmp .olt (max v (-v)) (Ideal.ofBits .f32 0x7F800000#32) = 1#1) : Is v := by
  have e : Ideal.ofBits .f32 0x7F800000#32 = ⊤ := by simp [Ideal.ofBits, Ideal.ieee]
  rw [e] at h
  induction v with
  | bot => simp [Ideal.cmp] at h
  | top => simp [Ideal.cmp] at h
  | coe a => exact is a

theorem quot (a b : ℝ) (h : b ≠ 0) : Ideal.div (a : EReal) (b : EReal) = ((a / b : ℝ) : EReal) := by
  rw [Ideal.div_coe h, ← EReal.coe_mul, mul_one_div]

theorem width : Ideal.ofBits .f32 1149239296#32 = ((1024 : ℝ) : EReal) := by
  simp [Ideal.ofBits, Ideal.ieee, -EReal.coe_mul]; norm_num
theorem minus_half : Ideal.ofBits .f32 3204448256#32 = ((-(1 / 2) : ℝ) : EReal) := by
  simp [Ideal.ofBits, Ideal.ieee, -EReal.coe_mul, -EReal.coe_neg]; norm_num

/-- The mean over a row is a real. -/
theorem Is.mean {u : EReal} : Is u → Is (Ideal.div u (Ideal.ofBits .f32 1149239296#32)) := by
  rintro ⟨a, rfl⟩
  rw [width, quot _ _ (by norm_num)]
  exact is _

/-- The small number under the root. -/
theorem small : ∃ e : ℝ, 0 < e ∧ Ideal.ofBits .f32 897988541#32 = (e : EReal) := by
  refine ⟨_, ?_, by simp [Ideal.ofBits, Ideal.ieee]; norm_num; rfl⟩
  positivity

/-- The mean square of a row, with the small number added. -/
def meansq (x : Fin 1024 → EReal) : EReal :=
  Ideal.div (∑ k, x k * x k) (Ideal.ofBits .f32 1149239296#32) + Ideal.ofBits .f32 897988541#32

/-- It is a positive real, and its reciprocal root is one whose square is its reciprocal. -/
theorem root (x : Fin 1024 → ℝ) : ∃ s r : ℝ, 0 < s ∧ 0 < r ∧ r * r = 1 / s ∧ meansq (fun k => ((x k : ℝ) : EReal)) = (s : EReal)
    ∧ Ideal.rsqrt (meansq fun k => ((x k : ℝ) : EReal)) = (r : EReal) := by
  obtain ⟨e, he, h⟩ := small
  have hs : 0 < (∑ k, x k * x k) / 1024 + e := by
    have : 0 ≤ ∑ k, x k * x k := Finset.sum_nonneg fun k _ => mul_self_nonneg (x k)
    positivity
  have hm : meansq (fun k => ((x k : ℝ) : EReal)) = (((∑ k, x k * x k) / 1024 + e : ℝ) : EReal) := by
    rw [meansq, h, width]
    simp only [← EReal.coe_mul, sum]
    rw [quot _ _ (by norm_num), EReal.coe_add]
  refine ⟨_, (Real.sqrt ((∑ k, x k * x k) / 1024 + e))⁻¹, hs, inv_pos.mpr (Real.sqrt_pos.mpr hs), ?_, hm, ?_⟩
  · rw [← mul_inv, Real.mul_self_sqrt hs.le, one_div]
  · rw [hm, Ideal.rsqrt_coe, if_neg (not_lt.mpr hs.le), if_neg hs.ne']

theorem Is.rsqrt {x : Fin 1024 → EReal} (h : ∀ k, Is (x k)) : Is (Ideal.rsqrt (meansq x)) := by
  obtain ⟨x, rfl⟩ := lift h
  obtain ⟨_, r, _, _, _, _, e⟩ := root x
  exact ⟨r, e⟩

/-- The gradient of a row through the norm: the kernel's form, and the chain rule's. -/
theorem norm (x y g : Fin 1024 → EReal) (hx : ∀ k, Is (x k)) (hy : ∀ k, Is (y k)) (hg : ∀ k, Is (g k)) (d : EReal) (q : Fin 1024) :
    d + Ideal.rsqrt (meansq x) * (y q * g q - x q * Ideal.rsqrt (meansq x) * Ideal.div
        (∑ k, y k * g k * (x k * Ideal.rsqrt (meansq x))) (Ideal.ofBits .f32 1149239296#32))
      = d + y q * g q * Ideal.rsqrt (meansq x)
        + x q * (Ideal.div ((∑ k, x k * (y k * g k)) * (Ideal.ofBits .f32 3204448256#32 * Ideal.div (Ideal.rsqrt (meansq x)) (meansq x)))
            (Ideal.ofBits .f32 1149239296#32))
        + (Ideal.div ((∑ k, x k * (y k * g k)) * (Ideal.ofBits .f32 3204448256#32 * Ideal.div (Ideal.rsqrt (meansq x)) (meansq x)))
            (Ideal.ofBits .f32 1149239296#32)) * x q := by
  obtain ⟨x, rfl⟩ := lift hx
  obtain ⟨y, rfl⟩ := lift hy
  obtain ⟨g, rfl⟩ := lift hg
  obtain ⟨s, r, hs, hr, e, es, er⟩ := root x
  rw [er, es, width, minus_half, quot _ _ hs.ne']
  simp only [← EReal.coe_mul, sum]
  rw [quot _ _ (by norm_num), quot _ _ (by norm_num), add_assoc, add_assoc]
  refine congrArg (d + ·) ?_
  simp only [← EReal.coe_mul, ← EReal.coe_add, ← EReal.coe_sub]
  refine congrArg _ ?_
  have e1 : ∑ k, y k * g k * (x k * r) = r * ∑ k, x k * (y k * g k) := by
    rw [Finset.mul_sum]; exact Finset.sum_congr rfl fun k _ => by ring
  have e2 : r / s = r * (r * r) := by rw [e]; ring
  rw [e1, e2]; ring

end Cert.Reals

end
-- ==== Proof.InValue.lean ====
/- The gradient of the first norm, behind the product with the input projection: what the kernel's blocks hold is the chain rule's. -/
module

public import proofs.«01_k».proof.Proof.Gen.KernelInIdeal.Value
public import proofs.«01_k».proof.Proof.Gen.ReferenceInIdeal.Read
public import proofs.«01_k».proof.Proof.Sums
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.InValue
open Cert.KernelInIdeal Cert.KernelInIdeal.Gen
variable (m : (ℓ : Loc nD τ sig) → Buf (Elt Ideal) ℓ)

/-- Where each window's block lies at grid point `t`. -/
theorem place : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![0, 0] ∧ win0_6.index t = ![t.val, 0] ∧ win0_7.index t = ![0, 0] :=
  (by decide +kernel : ∀ t : Fin grid0.N, _)

/-- The running sum starts at zero. -/
theorem start (j : S1x1024.Idx) : k0_pay3 (F := Ideal) j = 0 := by
  pointwise! [k0_pay3]

/-- One tile of rows adds its part to the running sum. -/
theorem step (a x : FVec Ideal S512x1024 .f32) (acc : Vec Ideal S1x1024 .f32) (j : S1x1024.Idx) :
    k0_pay2 a x acc j = acc j + k0_pay2 a x (fun _ => 0) j := by
  pointwise [k0_pay2]

/-- The block of the norm's argument: row `p` of tile `t`. -/
theorem rows (c : Dev nD) (t : Fin cfg0.N) (p : Fin 512) (q : Fin 1024) :
    iblk m c 3 t (ix2 p q) = m ((c : Thread nD τ).loc main_arg0) (ix3 ⟨((Fin.cast N_0 t).val * 512 + p.val) / 2048, by omega⟩ ⟨((Fin.cast N_0 t).val * 512 + p.val) % 2048, by omega⟩ q) := by
  blk_simp [iblk, place t]; simp only [V, hostOps0, hostOps0_1, hostOps0_2, hostOps0_3, hostOps0_4, List.flatten_cons, List.flatten_nil, List.cons_append, List.nil_append, List.append_nil]; entry_read; pointwise; blk_ext [place t]

/-- The block of the cotangent that passes the norm by. -/
theorem residual (c : Dev nD) (t : Fin cfg0.N) (p : Fin 512) (q : Fin 1024) :
    iblk m c 4 t (ix2 p q) = m ((c : Thread nD τ).loc main_arg4) (ix3 ⟨((Fin.cast N_0 t).val * 512 + p.val) / 2048, by omega⟩ ⟨((Fin.cast N_0 t).val * 512 + p.val) % 2048, by omega⟩ q) := by
  blk_simp [iblk, place t]; simp only [V, hostOps0, hostOps0_1, hostOps0_2, hostOps0_3, hostOps0_4, List.flatten_cons, List.flatten_nil, List.cons_append, List.nil_append, List.append_nil]; entry_read; pointwise; blk_ext [place t]

/-- The transposed projection. -/
theorem weight (c : Dev nD) (t : Fin cfg0.N) (p : Fin 2568) (q : Fin 1024) :
    iblk m c 1 t (ix2 p q) = m ((c : Thread nD τ).loc main_arg2) (ix3 0 q p) := by
  blk_simp [iblk, place t]; simp only [V, hostOps0, hostOps0_1, hostOps0_2, hostOps0_3, hostOps0_4, List.flatten_cons, List.flatten_nil, List.cons_append, List.nil_append, List.append_nil]; entry_read; pointwise; blk_ext [place t]

/-- The norm's gain. -/
theorem gain (c : Dev nD) (t : Fin cfg0.N)  (q : Fin 1024) :
    iblk m c 5 t (ix2 0 q) = m ((c : Thread nD τ).loc main_arg1) (ix2 0 q) := by
  blk_simp [iblk, place t]; simp only [V, hostOps0, hostOps0_1, hostOps0_2, hostOps0_3, hostOps0_4, List.flatten_cons, List.flatten_nil, List.cons_append, List.nil_append, List.append_nil]; entry_read; pointwise; blk_ext [place t]

/-- A padding's integer zero is zero. -/
theorem nil (φ : FTy) : FloatOps.sitofp (F := Ideal) φ 0#32 = (0 : EReal) := by
  show (((0#32).toInt : ℝ) : EReal) = 0
  simp

/-- The projection's last eight rows, padded with zeros. -/
theorem weight2 (c : Dev nD) (t : Fin cfg0.N) (p : Fin 128) (q : Fin 1024) :
    iblk m c 2 t (ix2 p q) = if h : p.val < 8 then m ((c : Thread nD τ).loc main_arg2) (ix3 0 q ⟨2560 + p.val, by omega⟩) else (0 : EReal) := by
  have e : ((View.whole main_v4).slice (win0_2.rect t)).emb (ix2 p q) = ix2 p q := by blk_ext [place t]
  blk_simp [iblk]
  rw [e]; simp only [V, hostOps0, hostOps0_1, hostOps0_2, hostOps0_3, hostOps0_4, List.flatten_cons, List.flatten_nil, List.cons_append, List.nil_append, List.append_nil]; entry_read; simp only [StableHlo.TRef.ofBuf, StableHlo.TRef.toBuf, cast_cast, cast_eq]; pointwise [nil]

/-- The block of the projection's cotangent, padded with zeros. -/
theorem cotangent (c : Dev nD) (t : Fin cfg0.N) (p : Fin 512) (q : Fin 2688) :
    iblk m c 0 t (ix2 p q) = if h : q.val < 2568 then m ((c : Thread nD τ).loc main_arg3) (ix3 ⟨((Fin.cast N_0 t).val * 512 + p.val) / 2048, by omega⟩ ⟨((Fin.cast N_0 t).val * 512 + p.val) % 2048, by omega⟩ ⟨q.val, h⟩) else (0 : EReal)  := by
  have b : t.val * 512 + p.val < 4096 := by have := (Fin.cast N_0 t).isLt; simp only [Fin.val_cast] at this; omega
  have e : ((View.whole main_v7).slice (win0_0.rect t)).emb (ix2 p q) = ix2 ⟨t.val * 512 + p.val, b⟩ q := by blk_ext [place t]
  blk_simp [iblk]
  rw [e]; simp only [V, hostOps0, hostOps0_1, hostOps0_2, hostOps0_3, hostOps0_4, List.flatten_cons, List.flatten_nil, List.cons_append, List.nil_append, List.append_nil]; entry_read; simp only [StableHlo.TRef.ofBuf, StableHlo.TRef.toBuf, cast_cast, cast_eq]; pointwise [nil]
  simp only [b, true_and]

section
open Cert.ReferenceInIdeal.Read
variable (x : (⟨3, ![2, 2048, 1024]⟩ : Shape).Idx → EReal) (g : (⟨2, ![1, 1024]⟩ : Shape).Idx → EReal)
  (w : (⟨3, ![1, 1024, 2568]⟩ : Shape).Idx → EReal) (dz : (⟨3, ![2, 2048, 2568]⟩ : Shape).Idx → EReal)
  (d1 : (⟨3, ![2, 2048, 1024]⟩ : Shape).Idx → EReal)

/-- The chain rule's gradient, in the kernel's form: the arguments are finite. -/
theorem chain (hx : ∀ i, Cert.Reals.Is (x i)) (hg : ∀ i, Cert.Reals.Is (g i)) (hw : ∀ i, Cert.Reals.Is (w i)) (hz : ∀ i, Cert.Reals.Is (dz i))
    (i : Fin 4096) (q : Fin 1024) (hb : i.val / 2048 < 2) (hs : i.val % 2048 < 2048) :
    val_main_v42 (F := Ideal) x g w dz d1 (ix2 i q)
      = d1 (ix3 ⟨i.val / 2048, hb⟩ ⟨i.val % 2048, hs⟩ q) + Ideal.rsqrt (Cert.Reals.meansq fun k => x (ix3 ⟨i.val / 2048, hb⟩ ⟨i.val % 2048, hs⟩ k)) * ((∑ k, dz (ix3 ⟨i.val / 2048, hb⟩ ⟨i.val % 2048, hs⟩ k) * w (ix3 0 q k)) * g (ix2 0 q)
        - x (ix3 ⟨i.val / 2048, hb⟩ ⟨i.val % 2048, hs⟩ q) * Ideal.rsqrt (Cert.Reals.meansq fun k => x (ix3 ⟨i.val / 2048, hb⟩ ⟨i.val % 2048, hs⟩ k)) * Ideal.div (∑ j, (∑ k, dz (ix3 ⟨i.val / 2048, hb⟩ ⟨i.val % 2048, hs⟩ k) * w (ix3 0 j k)) * g (ix2 0 j)
          * (x (ix3 ⟨i.val / 2048, hb⟩ ⟨i.val % 2048, hs⟩ j) * Ideal.rsqrt (Cert.Reals.meansq fun k => x (ix3 ⟨i.val / 2048, hb⟩ ⟨i.val % 2048, hs⟩ k)))) (Ideal.ofBits .f32 1149239296#32)) := by
  rw [Cert.Reals.norm (fun k => x (ix3 ⟨i.val / 2048, hb⟩ ⟨i.val % 2048, hs⟩ k))
    (fun j => ∑ k, dz (ix3 ⟨i.val / 2048, hb⟩ ⟨i.val % 2048, hs⟩ k) * w (ix3 0 j k)) (fun j => g (ix2 0 j))
    (fun _ => hx _) (fun _ => Cert.Reals.Is.sum fun _ => (hz _).mul (hw _)) (fun _ => hg _)]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_cst_3, val_main_v21, val_main_v22, val_main_v23, val_main_v24, val_main_cst_4, val_main_v25, val_main_v26, val_main_cst_5, val_main_v27, val_main_v28, val_main_v29, val_main_v30, val_main_v31, val_main_v32, val_main_cst_6, val_main_v33, val_main_v34, val_main_cst_7, val_main_v35, val_main_v36, val_main_v37, val_main_v38, val_main_v39, val_main_v40, val_main_v41, val_main_v42]
  simp only [Fin.sum_univ_one, Fin.isValue, Cert.Reals.meansq]

/-- The chain rule's gradient of the gain. -/
theorem summed (q : Fin 1024) : val_main_v41 (F := Ideal) x w dz (ix2 0 q)
    = ∑ b : Fin 2, ∑ s : Fin 2048, (∑ k, dz (ix3 b s k) * w (ix3 0 q k)) * (x (ix3 b s q) * Ideal.rsqrt (Cert.Reals.meansq fun k => x (ix3 b s k))) := by
  pointwise [Cert.Sums.front_two, val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_cst_3, val_main_v21, val_main_v22, val_main_v23, val_main_v24, val_main_cst_4, val_main_v25, val_main_v26, val_main_cst_5, val_main_v27, val_main_v28, val_main_v29, val_main_v30, val_main_v31, val_main_v32, val_main_cst_6, val_main_v33, val_main_v34, val_main_cst_7, val_main_v35, val_main_v36, val_main_v37, val_main_v38, val_main_v39, val_main_v40, val_main_v41, val_main_v42]
  simp only [Fin.sum_univ_one, Fin.isValue, Cert.Reals.meansq]
  exact Finset.sum_congr (M := EReal) rfl fun b _ => Finset.sum_congr (M := EReal) rfl fun s _ => mul_comm _ _
end

/-- The two contractions are the contraction over all columns. -/
theorem joined (d w : Fin 2568 → EReal) : (∑ k : Fin 2560, (if h : k.val < 2568 then d ⟨k.val, h⟩ else 0) * w ⟨k.val, by omega⟩)
    + ∑ k : Fin 128, (if h : 2560 + k.val < 2568 then d ⟨2560 + k.val, h⟩ else 0) * (if h : k.val < 8 then w ⟨2560 + k.val, by omega⟩ else 0)
      = ∑ k, d k * w k := by
  rw [Fin.sum_univ_add (a := 8) (b := 120) (fun k : Fin 128 => (if h : 2560 + k.val < 2568 then d ⟨2560 + k.val, h⟩ else 0) * (if h : k.val < 8 then w ⟨2560 + k.val, by omega⟩ else 0)),
    Fin.sum_univ_add (a := 2560) (b := 8) (fun k : Fin 2568 => d k * w k)]
  refine congrArg₂ (· + ·) (Finset.sum_congr rfl fun k _ => by rw [dif_pos (by omega)]; rfl) ?_
  rw [Finset.sum_eq_zero (s := (Finset.univ : Finset (Fin 120))) (fun k _ => by rw [dif_neg (by simp only [Fin.val_natAdd]; omega), zero_mul]), add_zero]
  refine Finset.sum_congr rfl fun k _ => ?_
  rw [dif_pos (by simp only [Fin.val_castAdd]; omega), dif_pos (by simp only [Fin.val_castAdd]; omega)]
  rfl

/-- The arguments hold no infinity. -/
def fin (c : Dev nD) : Prop := (∀ i, Cert.Reals.Is (m ((c : Thread nD τ).loc main_arg0) i)) ∧ (∀ i, Cert.Reals.Is (m ((c : Thread nD τ).loc main_arg1) i))
  ∧ (∀ i, Cert.Reals.Is (m ((c : Thread nD τ).loc main_arg2) i)) ∧ (∀ i, Cert.Reals.Is (m ((c : Thread nD τ).loc main_arg3) i))

/-- The gradient of the norm's argument, with the cotangent that passes it by. -/
theorem input (c : Dev nD) (h : fin m c) : (dats m 0 c).arrAt 6 (cfgs 0).N = Cert.ReferenceInIdeal.Read.val_main_v42 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  have b (p : Fin 512) : t.val * 512 + p.val < 4096 := by have := (Fin.cast N_0 t).isLt; simp only [Fin.val_cast] at this; omega
  obtain ⟨p, q, rfl⟩ : ∃ (p : Fin 512) (q : Fin 1024), y = ix2 p q := ⟨y 0, y 1, eq_ix2 y⟩
  have e : ((View.whole main_v10_0).slice (win0_6.rect t)).emb (ix2 p q) = ix2 ⟨t.val * 512 + p.val, b p⟩ q := by blk_ext [place t]
  blk_simp
  rw [e, after0_6, chain _ _ _ _ _ h.1 h.2.1 h.2.2.1 h.2.2.2 _ _ (by simp only; have := b p; omega) (by simp only; omega)]
  have l (t : Fin 8) (p : Fin 512) (q : Fin 1024) := joined (fun k => m ((c : Thread nD τ).loc main_arg3) (ix3 ⟨(t.val * 512 + p.val) / 2048, by omega⟩ ⟨(t.val * 512 + p.val) % 2048, by omega⟩ k))
    (fun k => m ((c : Thread nD τ).loc main_arg2) (ix3 0 q k))
  by_cases u : t.val % 8 = 0
  on_goal 1 => rw [outsAt0_A m c t u]
  on_goal 2 => rw [outsAt0_B m c t u]
  all_goals
    frame_out
    pointwise [k0_pay1, k0_pay8, k0_pay7, k0_pay6, k0_pay5, k0_pay4]
    simp only [rows, weight, weight2, cotangent, residual, gain, l]
    rfl

/-- The gain's gradient, summed over the grid. -/
theorem gains (c : Dev nD) (_ : fin m c) : (dats m 0 c).arrAt 7 (cfgs 0).N = Cert.ReferenceInIdeal.Read.val_main_v41 (F := Ideal) (m ((c : Thread nD τ).loc main_arg0))
        (m ((c : Thread nD τ).loc main_arg2)) (m ((c : Thread nD τ).loc main_arg3)) := by
  refine (dats m 0 c).arrAt_eq_of_after_last 7 t0_7 (by decide +kernel) _ fun j => ?_
  obtain ⟨z, q, rfl⟩ : ∃ (z : Fin 1) (q : Fin 1024), j = ix2 z q := ⟨j 0, j 1, (ix2_eta j).symm⟩
  blk_simp
  obtain rfl : z = 0 := Subsingleton.elim _ _
  rw [after0_7, Pipeline.eq_sum_fin_of_reset_step_apply_last (fun n h => (outsAt0 m c n h).2) 8 (fun _ => 0) _
    (fun t h j => by rw [outsAt0_A m c t h]; frame_out; rw [step, start])
    (fun t h j => by rw [outsAt0_B m c t h]; frame_out; rw [step])
    (le_of_eq N_0) t0_7 rfl (ix2 0 q), zero_add, summed]
  rw [Cert.Sums.tiles (n := 8) (p := 512) (by norm_num) _ (fun t r => by omega) (fun t r => by omega)]
  have l (t : Fin 8) (p : Fin 512) (q : Fin 1024) := joined (fun k => m ((c : Thread nD τ).loc main_arg3) (ix3 ⟨(t.val * 512 + p.val) / 2048, by omega⟩ ⟨(t.val * 512 + p.val) % 2048, by omega⟩ k))
    (fun k => m ((c : Thread nD τ).loc main_arg2) (ix3 0 q k))
  pointwise [k0_pay2, k0_pay7, k0_pay6, k0_pay5, k0_pay4]
  refine Fintype.sum_equiv (M := EReal) (finCongr N_0) _ _ fun t => Finset.sum_congr (M := EReal) rfl fun p _ => ?_
  simp only [rows, weight, weight2, cotangent, residual, gain, l]
  rfl
end Cert.InValue

end
-- ==== Proof.InEnd.lean ====
/- What is claimed of the first norm's gradient. -/
module

public import proofs.«01_k».proof.Defs
public import proofs.«01_k».proof.Proof.Gen.KernelIn.Frame
public import proofs.«01_k».proof.Proof.Gen.ReferenceInIdeal.Run
public import proofs.«01_k».proof.Proof.Gen.Pre_finite_in
public import proofs.«01_k».proof.Proof.InValue
public import Idealize.ShloMosaic.Adequacy
public import Idealize.ShloMosaic.Init

@[expose] public section

set_option maxRecDepth 16384

noncomputable section

namespace Cert.InEnd

open Idealize.ShloMosaic Idealize.SL.Sem

theorem frame_kernel : Cert.quiescent_KernelIn := fun m g _ => Cert.KernelIn.Gen.frame m g

theorem frame_ideal : Cert.quiescent_KernelInIdeal := fun m g _ => Cert.KernelInIdeal.Gen.frame m g

theorem frame_reference : Cert.quiescent_ReferenceInIdeal := fun m g _ =>
  (θ_run Cert.ReferenceInIdeal.defs _ _).mono (fun r h => ⟨fun c => (h c).2.2, sem_eq_zero_of_no_sems (by decide) r.2⟩)
    (Cert.ReferenceInIdeal.Value.run (F := Ideal) m g)

/-- The precondition says that the arguments it reads hold no infinity. -/
theorem finite (m : (ℓ : Loc Cert.KernelInIdeal.nD Cert.KernelInIdeal.τ Cert.KernelInIdeal.sig) → Buf (Elt Ideal) ℓ)
    (h : Cert.Pre_KernelInIdeal_finite_in m) (c : Dev Cert.KernelInIdeal.nD) : Cert.InValue.fin m c :=
  ⟨fun i => Cert.Reals.of_lt _ (congrFun (h c).1 i), fun i => Cert.Reals.of_lt _ (congrFun (h c).2.1 i), fun i => Cert.Reals.of_lt _ (congrFun (h c).2.2.1 i), fun i => Cert.Reals.of_lt _ (congrFun (h c).2.2.2 i)⟩

theorem algebraic : Cert.algebraic_KernelInIdeal_ReferenceInIdeal_pre_finite_in := by
  pair_intro
  · run_from Cert.KernelInIdeal.Value.run_blocks m g
  · run_from Cert.ReferenceInIdeal.Value.run m' g'
    · rw [Cert.ReferenceInIdeal.Read.val_main_v42_eq m' c]
      simp only [hagree c]
      exact (Cert.InValue.input m c (finite m hpre c)).symm
    · exact (Cert.InValue.gains m c (finite m hpre c)).symm

end Cert.InEnd

end
-- ==== Proof.GateValue.lean ====
/- The gradient of the forget gate, through the cumulative sum of its logarithm. -/
module

public import proofs.«01_k».proof.Proof.Gen.KernelGateIdeal.Value
public import proofs.«01_k».proof.Proof.Gen.ReferenceGateIdeal.Read
public import proofs.«01_k».proof.Proof.Sums
public import proofs.«01_k».proof.Proof.Reals
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GateValue
open Cert.KernelGateIdeal Cert.KernelGateIdeal.Gen Cert.ReferenceGateIdeal.Read
variable (m : (ℓ : Loc nD τ sig) → Buf (Elt Ideal) ℓ)

/-- Where each window's block lies at grid point `t`: the blocks of a sequence are visited from its end. -/
theorem place : ∀ t : Fin cfg0.N, win0_0.index t = ![t.val / 4 * 4 + (3 - t.val % 4), 0] ∧ win0_1.index t = ![t.val / 4 * 4 + (3 - t.val % 4), 0]
    ∧ win0_2.index t = ![t.val / 4 * 4 + (3 - t.val % 4), 0] ∧ win0_3.index t = ![0, 0] :=
  (by decide +kernel : ∀ t : Fin grid0.N, _)

/-- A padding's integer zero is zero. -/
theorem nil (φ : FTy) : FloatOps.sitofp (F := Ideal) φ 0#32 = (0 : EReal) := by
  show (((0#32).toInt : ℝ) : EReal) = 0
  simp

/-- The row of block `p` of a point, in the flattened array. -/
theorem bound (t : Fin cfg0.N) (p : Fin 512) : (t.val / 4 * 4 + (3 - t.val % 4)) * 512 + p.val < 4096 := by
  have := (Fin.cast N_0 t).isLt; simp only [Fin.val_cast] at this; omega

/-- The block of the cotangent, padded with zeros. -/
theorem cotangent (c : Dev nD) (t : Fin cfg0.N) (p : Fin 512) (q : Fin 128) :
    iblk m c 0 t (ix2 p q) = if h : q.val < 8 then m ((c : Thread nD τ).loc main_arg2) (ix3 ⟨((t.val / 4 * 4 + (3 - t.val % 4)) * 512 + p.val) / 2048, by have := bound t p; omega⟩
      ⟨((t.val / 4 * 4 + (3 - t.val % 4)) * 512 + p.val) % 2048, by omega⟩ ⟨q.val, h⟩) else (0 : EReal)  := by
  have e : ((View.whole main_v6).slice (win0_0.rect t)).emb (ix2 p q) = ix2 ⟨(t.val / 4 * 4 + (3 - t.val % 4)) * 512 + p.val, bound t p⟩ q := by blk_ext [place t]
  blk_simp [iblk]
  rw [e]; simp only [V, hostOps0, hostOps0_1, hostOps0_2, hostOps0_3, hostOps0_4, hostOps0_5, List.flatten_cons, List.flatten_nil, List.cons_append, List.nil_append, List.append_nil]; entry_read; simp only [StableHlo.TRef.ofBuf, StableHlo.TRef.toBuf, cast_cast, cast_eq]; pointwise [nil]
  simp only [bound t p, true_and]

/-- The block of the gates before the logistic function. -/
theorem gates (c : Dev nD) (t : Fin cfg0.N) (p : Fin 512) (q : Fin 128) (h : q.val < 8) :
    iblk m c 1 t (ix2 p q) = (show EReal from m ((c : Thread nD τ).loc main_arg0) (ix3 ⟨((t.val / 4 * 4 + (3 - t.val % 4)) * 512 + p.val) / 2048, by have := bound t p; omega⟩
      ⟨((t.val / 4 * 4 + (3 - t.val % 4)) * 512 + p.val) % 2048, by omega⟩ ⟨q.val, h⟩)) + (show EReal from m ((c : Thread nD τ).loc main_arg1) (ix2 0 ⟨q.val, h⟩)) := by
  have e : ((View.whole main_v4).slice (win0_1.rect t)).emb (ix2 p q) = ix2 ⟨(t.val / 4 * 4 + (3 - t.val % 4)) * 512 + p.val, bound t p⟩ q := by blk_ext [place t]
  blk_simp [iblk]
  rw [e]; simp only [V, hostOps0, hostOps0_1, hostOps0_2, hostOps0_3, hostOps0_4, hostOps0_5, List.flatten_cons, List.flatten_nil, List.cons_append, List.nil_append, List.append_nil]; entry_read; simp only [StableHlo.TRef.ofBuf, StableHlo.TRef.toBuf, cast_cast, cast_eq]; pointwise [nil]
  simp only [h, dif_pos, and_true, bound t p]

/-- The triangle of ones on and above the diagonal. -/
theorem triangle (φ : FTy) (k p : Fin 512) : FloatOps.sitofp (F := Ideal) φ (BitVec.setWidth 32 (IntOp.cmpi CmpIPredicate.sge (BitVec.ofNat 32 k.val) (BitVec.ofNat 32 p.val)))
    = if p.val ≤ k.val then (1 : EReal) else 0 := by
  have e (n : Fin 512) : (BitVec.ofNat 32 n.val).toInt = (n.val : Int) := by
    rw [BitVec.toInt_eq_toNat_of_lt (by rw [BitVec.toNat_ofNat, Nat.mod_eq_of_lt (by omega)]; omega), BitVec.toNat_ofNat, Nat.mod_eq_of_lt (by omega)]
  show (((BitVec.setWidth 32 _).toInt : ℝ) : EReal) = _
  simp only [IntOp.cmpi, BitVec.sle, e]
  by_cases h : p.val ≤ k.val
  · have h' : ((p.val : Int) ≤ k.val) := by exact_mod_cast h
    simp [h, h']
  · have h' : ¬ ((p.val : Int) ≤ k.val) := by exact_mod_cast h
    simp only [h, h', decide_false, if_false]; simp

/-- What a point adds up: the suffix sums of its rows, over the row carried from the rows behind. -/
theorem suffix (d : FVec Ideal S512x128 .f32) (r : Vec Ideal S1x128 .f32) (hd : ∀ i, Cert.Reals.Is (d i)) (p : Fin 512) (q : Fin 128) :
    k0_pay7 d r (ix2 p q) = (∑ k : Fin 512, if p.val ≤ k.val then d (ix2 k q) else 0) + r (ix2 0 q) := by
  have z (i) : (d i : EReal) - d i = 0 := by obtain ⟨a, h⟩ := hd i; rw [h, ← EReal.coe_sub, sub_self]; rfl
  pointwise [k0_pay7, triangle]
  simp only [z, sub_zero, mul_zero, Finset.sum_const_zero, add_zero, ite_mul, one_mul, zero_mul]

/-- A sum over the places from `u` on. -/
theorem from_on (n u : ℕ) (g : ℕ → EReal) : (∑ s : Fin n, if u ≤ s.val then g s.val else 0) = ∑ s ∈ Finset.Ico u n, g s := by
  rw [Fin.sum_univ_eq_sum_range (fun s => if u ≤ s then g s else 0) n, ← Finset.sum_filter]
  exact Finset.sum_congr (Finset.ext fun x => by simp only [Finset.mem_filter, Finset.mem_range, Finset.mem_Ico]; exact and_comm) fun _ _ => rfl

/-- The suffix sums of a block over the suffix sum behind it. -/
theorem behind (f : Fin 2048 → EReal) (j : ℕ) (h : j < 4) (p : Fin 512) :
    (∑ k : Fin 512, if p.val ≤ k.val then f ⟨j * 512 + k.val, by omega⟩ else 0) + (∑ s : Fin 2048, if (j + 1) * 512 ≤ s.val then f s else 0)
      = ∑ s : Fin 2048, if j * 512 + p.val ≤ s.val then f s else 0 := by
  let g (s : ℕ) : EReal := if h : s < 2048 then f ⟨s, h⟩ else 0
  have e (s : Fin 2048) : f s = g s.val := by simp only [g, s.isLt, dif_pos]
  have e' (k : Fin 512) : f ⟨j * 512 + k.val, by omega⟩ = g (j * 512 + k.val) := e _
  simp only [e', e]
  rw [from_on 2048 _ g, from_on 2048 _ g, from_on 512 p.val (fun k => g (j * 512 + k)), Finset.sum_Ico_add, ← Finset.sum_Ico_consecutive g (m := j * 512 + p.val) (n := (j + 1) * 512) (k := 2048) (by omega) (by omega)]
  congr 3 <;> omega

/-- The newest store of a scratch's first row, read back there. -/
theorem top (w : S1x128.Idx → Elt Ideal .f32) (L : List (View.Piece (Elt Ideal) S8x128 .f32)) (q : Fin 128) :
    View.canon ((⟨Rect.unit (s := S8x128) ![0, 0] ![1, 128] inb_S8x128_S1x128_0_0, w⟩ : View.Piece (Elt Ideal) S8x128 .f32) :: L) (ix2 0 q) = w (ix2 0 q) := by
  have e : (Rect.unit (s := S8x128) ![0, 0] ![1, 128] inb_S8x128_S1x128_0_0).emb (ix2 0 q : S1x128.Idx) = ix2 0 q :=
    funext fun a => Fin.ext (by match a with | ⟨0, _⟩ => rfl | ⟨1, _⟩ => exact (Nat.zero_add _).trans (Nat.one_mul _))
  rw [← e]
  exact View.canon_cons_emb _ _ _ _

/-- The row carried into a point, and what the point leaves: its block of gradients, the running sum and the row it carries on. -/
theorem point (c : Dev nD) (t : Fin cfg0.N) : ∃ r : Vec Ideal S1x128 .f32,
    (∀ q : Fin 128, r (ix2 0 q) = if h : t.val % 4 = 0 then (0 : EReal) else (outsAt0 m c (t.val - 1) (by have := t.isLt; omega)).2.2 (ix2 0 q))
    ∧ (outsAt0 m c t.val t.isLt).1 = k0_pay3 (k0_pay7 (iblk m c 0 t) r) (iblk m c 1 t)
    ∧ (∀ q : Fin 128, (outsAt0 m c t.val t.isLt).2.2 (ix2 0 q) = k0_pay7 (iblk m c 0 t) r (ix2 0 q))
    ∧ (outsAt0 m c t.val t.isLt).2.1 = k0_pay4 (k0_pay7 (iblk m c 0 t) r) (iblk m c 1 t) (if h : t.val % 8 = 0 then k0_pay5 (F := Ideal) else (outsAt0 m c (t.val - 1) (by have := t.isLt; omega)).2.1) := by
  by_cases u : t.val % 8 = 0
  · have u' : t.val % 4 = 0 := by omega
    rw [outsAt0_A m c t u u']
    refine ⟨_, fun q => ?_, funext fun j => by frame_out; rfl, fun q => ?_, funext fun j => by frame_out; rw [dif_pos u]⟩
    · rw [dif_pos u', View.readCov_fill]
      pointwise! [k0_pay6]
    · frame_out
      rw [top]
      pointwise [k0_pay1, k0_pay8]
  · by_cases u' : t.val % 4 = 0
    · rw [outsAt0_C m c t u u']
      refine ⟨_, fun q => ?_, funext fun j => by frame_out; rfl, fun q => ?_, funext fun j => by frame_out; rw [dif_neg u]⟩
      · rw [dif_pos u', View.readCov_fill]
        pointwise! [k0_pay6]
      · frame_out
        rw [top]
        pointwise [k0_pay1, k0_pay8]
    · rw [outsAt0_B m c t u u']
      refine ⟨_, fun q => ?_, funext fun j => by frame_out; rfl, fun q => ?_, funext fun j => by frame_out; rw [dif_neg u]⟩
      · rw [dif_neg u', (Memref.isWhole_whole _).read_unread]
        pointwise
      · frame_out
        rw [View.read_writes_cons_hit_of_coords _ _ _ _ _ (ix2 0 q : S1x128.Idx) _ (by intro a; match a with | ⟨0, _⟩ => rfl | ⟨1, _⟩ => simp)]
        pointwise [k0_pay1, k0_pay8]

/-- The cotangent at a place of a sequence, zero in the columns of the padding. -/
def dc (c : Dev nD) (b : Fin 2) (q : Fin 128) (s : Fin 2048) : EReal :=
  if h : q.val < 8 then m ((c : Thread nD τ).loc main_arg2) (ix3 b s ⟨q.val, h⟩) else 0

/-- What the proof asks of the arguments: every element is a real number. -/
def fin (c : Dev nD) : Prop := (∀ i, Cert.Reals.Is (m ((c : Thread nD τ).loc main_arg0) i)) ∧ (∀ i, Cert.Reals.Is (m ((c : Thread nD τ).loc main_arg1) i))
  ∧ (∀ i, Cert.Reals.Is (m ((c : Thread nD τ).loc main_arg2) i))

theorem dc_is (c : Dev nD) (h : fin m c) (b : Fin 2) (q : Fin 128) (s : Fin 2048) : Cert.Reals.Is (dc m c b q s) := by
  unfold dc; split
  · exact h.2.2 _
  · exact Cert.Reals.Is.zero

/-- A point's block of the cotangent, by the sequence and the place in it. -/
theorem part (c : Dev nD) (t : Fin cfg0.N) (p : Fin 512) (q : Fin 128) (hb : t.val / 4 < 2) :
    iblk m c 0 t (ix2 p q) = dc m c ⟨t.val / 4, hb⟩ q ⟨(3 - t.val % 4) * 512 + p.val, by omega⟩ := by
  rw [cotangent, dc]
  refine dite_congr rfl (fun h => ?_) fun _ => rfl
  congr 1
  have e1 : ((t.val / 4 * 4 + (3 - t.val % 4)) * 512 + p.val) / 2048 = t.val / 4 := by omega
  have e2 : ((t.val / 4 * 4 + (3 - t.val % 4)) * 512 + p.val) % 2048 = (3 - t.val % 4) * 512 + p.val := by omega
  simp only [e1, e2]

/-- The sums a point takes up, given the row behind it. -/
theorem summed (c : Dev nD) (h : fin m c) (t : Fin cfg0.N) (r : Vec Ideal S1x128 .f32) (hb : t.val / 4 < 2) (q : Fin 128)
    (e : r (ix2 0 q) = ∑ s : Fin 2048, if (3 - t.val % 4 + 1) * 512 ≤ s.val then dc m c ⟨t.val / 4, hb⟩ q s else 0) (p : Fin 512) :
    k0_pay7 (iblk m c 0 t) r (ix2 p q) = ∑ s : Fin 2048, if (3 - t.val % 4) * 512 + p.val ≤ s.val then dc m c ⟨t.val / 4, hb⟩ q s else 0 := by
  have f (i) : Cert.Reals.Is (iblk m c 0 t i) := by
    obtain ⟨a, b, rfl⟩ : ∃ (a : Fin 512) (b : Fin 128), i = ix2 a b := ⟨i 0, i 1, eq_ix2 i⟩
    rw [part m c t a b hb]; exact dc_is m c h _ _ _
  rw [suffix _ _ f, e]
  simp only [part m c t _ q hb]
  exact behind (dc m c ⟨t.val / 4, hb⟩ q) (3 - t.val % 4) (by omega) p

/-- The row carried on: the sum of the rows from the point's block on. -/
theorem carried (c : Dev nD) (h : fin m c) (q : Fin 128) : ∀ (n : ℕ) (hn : n < cfg0.N) (hb : n / 4 < 2),
    (outsAt0 m c n hn).2.2 (ix2 0 q) = ∑ s : Fin 2048, if (3 - n % 4) * 512 ≤ s.val then dc m c ⟨n / 4, hb⟩ q s else 0 := by
  intro n
  induction n using Nat.strong_induction_on with
  | _ n ih =>
    intro hn hb
    obtain ⟨r, hr, -, h2, -⟩ := point m c ⟨n, hn⟩
    rw [h2 q, summed m c h ⟨n, hn⟩ r hb q ?_ 0]
    · simp
    · rw [hr q]
      split
      · rename_i u
        exact (Finset.sum_eq_zero fun s _ => if_neg (by simp only at u ⊢; omega)).symm
      · rename_i u
        simp only at u
        rw [ih (n - 1) (by omega) _ (by omega)]
        have e1 : 3 - (n - 1) % 4 = 3 - n % 4 + 1 := by omega
        have e2 : (n - 1) / 4 = n / 4 := by omega
        simp only [e1, e2]

/-- The sums a point takes up. -/
theorem taken (c : Dev nD) (h : fin m c) (t : Fin cfg0.N) (hb : t.val / 4 < 2) : ∃ r : Vec Ideal S1x128 .f32,
    (∀ p q, k0_pay7 (iblk m c 0 t) r (ix2 p q) = ∑ s : Fin 2048, if (3 - t.val % 4) * 512 + p.val ≤ s.val then dc m c ⟨t.val / 4, hb⟩ q s else 0)
    ∧ (outsAt0 m c t.val t.isLt).1 = k0_pay3 (k0_pay7 (iblk m c 0 t) r) (iblk m c 1 t)
    ∧ (outsAt0 m c t.val t.isLt).2.1 = k0_pay4 (k0_pay7 (iblk m c 0 t) r) (iblk m c 1 t) (if h : t.val % 8 = 0 then k0_pay5 (F := Ideal) else (outsAt0 m c (t.val - 1) (by have := t.isLt; omega)).2.1) := by
  obtain ⟨r, hr, h1, -, h3⟩ := point m c t
  refine ⟨r, fun p q => summed m c h t r hb q ?_ p, h1, h3⟩
  rw [hr q]
  split
  · exact (Finset.sum_eq_zero fun s _ => if_neg (by omega)).symm
  · rw [carried m c h q _ _ (by omega)]
    have e1 : 3 - (t.val - 1) % 4 = 3 - t.val % 4 + 1 := by omega
    have e2 : (t.val - 1) / 4 = t.val / 4 := by omega
    simp only [e1, e2]

/-- Adding up along a list. -/
theorem folded {κ : Type} (g : κ → EReal) (l : List κ) (v : EReal) : l.foldl (fun r n => r + g n) v = v + (l.map g).sum := by
  induction l generalizing v with
  | nil => simp
  | cons a l ih => rw [List.foldl_cons, ih, List.map_cons, List.sum_cons, add_assoc]

/-- The cumulative sum from the end. -/
theorem tail (x : (⟨Cert.ReferenceGateIdeal.S2x2048x8, .f32⟩ : BufTy).Contents (Elt Ideal)) (b : Fin 2) (s : Fin 2048) (q : Fin 8) :
    val_main_v6 (F := Ideal) x (ix3 b s q) = ∑ k : Fin 2048, if s.val ≤ k.val then (x (ix3 b k q) : EReal) else 0 := by
  have z : val_main_call2_call0_v0 (F := Ideal) (Shape.Idx.first Cert.ReferenceGateIdeal.Gen.h_S_) = (0 : EReal) := by
    pointwise [val_main_call2_call0_v0, val_main_call2_call0_cst]
  let g (n : ℕ) : EReal := if h : n < 2048 then x (ix3 b ⟨n, h⟩ q) else 0
  let G (w : (⟨3, ![1, 2048, 1]⟩ : Shape).Idx) : EReal := if hin : ∀ a : Fin 3, (![0, 0, 0] : Fin 3 → ℕ) a ≤ (ix3 b s q a).val * (![1, 1, 1] : Fin 3 → ℕ) a + (w a).val
      ∧ (ix3 b s q a).val * (![1, 1, 1] : Fin 3 → ℕ) a + (w a).val - (![0, 0, 0] : Fin 3 → ℕ) a < Cert.ReferenceGateIdeal.S2x2048x8.size a then
    x (fun a => ⟨(ix3 b s q a).val * (![1, 1, 1] : Fin 3 → ℕ) a + (w a).val - (![0, 0, 0] : Fin 3 → ℕ) a, (hin a).2⟩) else val_main_call2_call0_v0 (F := Ideal) (Shape.Idx.first Cert.ReferenceGateIdeal.Gen.h_S_)
  have hG (k : Fin 2048) : G (ix3 0 k 0) = g (s.val + k.val) := by
    by_cases u : s.val + k.val < 2048
    · rw [show g (s.val + k.val) = x (ix3 b ⟨s.val + k.val, u⟩ q) from dif_pos u]
      refine (dif_pos fun a => ?_).trans (congrArg x (funext fun a => ?_))
      · match a with
        | ⟨0, _⟩ => exact ⟨Nat.zero_le _, by show b.val * 1 + 0 - 0 < 2; omega⟩
        | ⟨1, _⟩ => exact ⟨Nat.zero_le _, by show s.val * 1 + k.val - 0 < 2048; omega⟩
        | ⟨2, _⟩ => exact ⟨Nat.zero_le _, by show q.val * 1 + 0 - 0 < 8; omega⟩
      · match a with
        | ⟨0, _⟩ => exact Fin.ext (by show b.val * 1 + 0 - 0 = b.val; omega)
        | ⟨1, _⟩ => exact Fin.ext (by show s.val * 1 + k.val - 0 = s.val + k.val; omega)
        | ⟨2, _⟩ => exact Fin.ext (by show q.val * 1 + 0 - 0 = q.val; omega)
    · rw [show g (s.val + k.val) = 0 from dif_neg u]
      refine (dif_neg fun hin => u ?_).trans z
      have := (hin 1).2
      change s.val * 1 + k.val - 0 < 2048 at this
      omega
  show List.foldl _ _ _ = _
  refine (folded _ _ _).trans ?_
  rw [← Fin.sum_univ_def]
  refine (congrArg _ (Finset.sum_congr (M := EReal) rfl fun i _ => (show _ = G ((Shape.rowMajor (⟨3, ![1, 2048, 1]⟩ : Shape)).symm i) from dite_congr rfl (fun _ => rfl) fun _ => rfl))).trans ?_
  change val_main_call2_call0_v0 (F := Ideal) (Shape.Idx.first Cert.ReferenceGateIdeal.Gen.h_S_) + ∑ i, G ((Shape.rowMajor (⟨3, ![1, 2048, 1]⟩ : Shape)).symm i) = _
  rw [Equiv.sum_comp (Shape.rowMajor (⟨3, ![1, 2048, 1]⟩ : Shape)).symm G, z, zero_add]
  rw [Idealize.ShloMosaic.sum_idx3]
  simp only [Fin.sum_univ_one, Fin.isValue, hG]
  have e (k : Fin 2048) : (x (ix3 b k q) : EReal) = g k.val := by simp only [g, k.isLt, dif_pos]
  simp only [e]
  rw [from_on, Fin.sum_univ_eq_sum_range (fun k => g (s.val + k)), Finset.sum_Ico_eq_sum_range]
  refine (Finset.sum_subset (fun k hk => ?_) fun k hk hk' => ?_).symm
  · simp only [Finset.mem_range] at hk ⊢; omega
  · simp only [Finset.mem_range] at hk hk'; exact dif_neg (by omega)

theorem inf : Ideal.ofBits .f32 2139095040#32 = ⊤ := by
  simp [Ideal.ofBits, Ideal.ieee]

/-- The derivative of the logarithm of the logistic function, as the derivative of the rules gives it. -/
theorem slope (a : ℝ) : Real.exp (-a - (max (-a) 0 + Real.log (1 + Real.exp (-max (-a) a)))) = 1 / (1 + Real.exp a) := by
  rw [Real.exp_sub, Real.exp_add, Real.exp_log (by positivity)]
  rcases le_total 0 a with h | h
  · rw [max_eq_right (by linarith : -a ≤ 0), max_eq_right (by linarith : -a ≤ a), Real.exp_zero, one_mul, Real.exp_neg]
    have := Real.exp_pos a
    field_simp
    ring
  · rw [max_eq_left (by linarith : (0:ℝ) ≤ -a), max_eq_left (by linarith : a ≤ -a), Real.exp_neg]
    have := Real.exp_pos a
    field_simp

/-- The gradient before the bias, in the reference's own form. -/
theorem ref (x0 x1 x2) (h0 : ∀ i, Cert.Reals.Is (x0 i)) (h1 : ∀ i, Cert.Reals.Is (x1 i)) (b : Fin 2) (s : Fin 2048) (q : Fin 8) :
    val_main_v7 (F := Ideal) x0 x1 x2 (ix3 b s q)
      = (∑ k : Fin 2048, if s.val ≤ k.val then (x2 (ix3 b k q) : EReal) else 0) * Ideal.div 1 (1 + Ideal.exp (0 - (0 - ((x0 (ix3 b s q) : EReal) + (x1 (ix2 0 q) : EReal))))) := by
  rw [← tail]
  pointwise [val_main_v0, val_main_v1, val_main_v2, val_main_v3, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21, val_main_v4_1, val_main_call0_call0_cst_4, val_main_call0_call0_cst_5, val_main_call0_call0_v23, val_main_call0_call0_cst_6, val_main_call0_call0_cst_7, val_main_call0_call0_v24, val_main_call0_call0_cst_8, val_main_call0_call0_v25, val_main_call0_call0_v26, val_main_call0_call0_cst_9, val_main_call0_call0_v27, val_main_call0_call0_v28, val_main_call0_call0_v29, val_main_call0_call0_v30, val_main_call0_call0_v31, val_main_call0_call0_cst_10, val_main_call0_call0_v32, val_main_v4_2, val_main_v4_0, val_main_call1_call0_cst, val_main_call1_call0_v0, val_main_v5, val_main_call2_call0_cst, val_main_call2_call0_v0, val_main_call3_v0, val_main_call3_v1, val_main_v7, val_main_cst, val_main_v8, val_main_v9, val_main_cst_0, val_main_v10, val_main_v11, val_main_v12, val_main_c, val_main_call4_v0, val_main_v13, val_main_v14, val_main_c_1, val_main_call5_v0, val_main_v15]
  obtain ⟨u, hu⟩ := h0 (ix3 b s q)
  obtain ⟨v, hv⟩ := h1 (ix2 0 q)
  rw [neg_mul, neg_neg, hu, hv, ← EReal.coe_add]
  generalize u + v = a
  have f0 : FloatOps.absf (F := Ideal) (φ := .f32) (-((a : ℝ) : EReal)) = ((max (-a) a : ℝ) : EReal) := by
    show max (-((a : ℝ) : EReal)) (- -((a : ℝ) : EReal)) = _
    rw [neg_neg, ← EReal.coe_neg, EReal.coe_strictMono.monotone.map_max]
  have f1 : Ideal.log1p (Ideal.exp (-((max (-a) a : ℝ) : EReal))) = ((Real.log (1 + Real.exp (-max (-a) a)) : ℝ) : EReal) := by
    rw [← EReal.coe_neg]
    show Ideal.log (1 + ((Real.exp _ : ℝ) : EReal)) = _
    rw [← EReal.coe_one, ← EReal.coe_add, Ideal.log_coe, if_neg (not_le.mpr (by positivity))]
  have f2 : max (-((a : ℝ) : EReal)) 0 = ((max (-a) 0 : ℝ) : EReal) := by
    rw [← EReal.coe_neg, ← EReal.coe_zero, EReal.coe_strictMono.monotone.map_max]
  have f3 : -((a : ℝ) : EReal) ≠ ⊤ := by rw [← EReal.coe_neg]; exact EReal.coe_ne_top _
  simp only [f0, f1, f2, f3, inf, ne_eq, not_true_eq_false, if_false, ← EReal.coe_add, EReal.coe_ne_top, zero_sub, neg_neg]
  rw [← EReal.coe_neg, ← EReal.coe_sub]
  show _ * ((Real.exp _ : ℝ) : EReal) = _ * Ideal.div 1 (1 + ((Real.exp _ : ℝ) : EReal))
  rw [slope, ← EReal.coe_one, ← EReal.coe_add, Cert.Reals.quot _ _ (by positivity)]

/-- The columns that are not padding. -/
theorem column (q : Fin 128) : IntOp.cmpi CmpIPredicate.slt (BitVec.ofNat 32 q.val) 8#32 = if q.val < 8 then 1#1 else 0#1 := by
  revert q; decide +kernel

/-- A point's block of gradients. -/
theorem block (c : Dev nD) (h : fin m c) (t : Fin cfg0.N) (hb : t.val / 4 < 2) (d : FVec Ideal S512x128 .f32)
    (hd : ∀ p q, d (ix2 p q) = ∑ s : Fin 2048, if (3 - t.val % 4) * 512 + p.val ≤ s.val then dc m c ⟨t.val / 4, hb⟩ q s else 0) (p : Fin 512) (q : Fin 128) :
    k0_pay2 d (iblk m c 1 t) (ix2 p q) = if u : q.val < 8 then val_main_v7 (F := Ideal) (m ((c : Thread nD τ).loc main_arg0)) (m ((c : Thread nD τ).loc main_arg1)) (m ((c : Thread nD τ).loc main_arg2))
      (ix3 ⟨t.val / 4, hb⟩ ⟨(3 - t.val % 4) * 512 + p.val, by omega⟩ ⟨q.val, u⟩) else (0 : EReal) := by
  by_cases u : q.val < 8
  · have e1 : ((t.val / 4 * 4 + (3 - t.val % 4)) * 512 + p.val) / 2048 = t.val / 4 := by omega
    have e2 : ((t.val / 4 * 4 + (3 - t.val % 4)) * 512 + p.val) % 2048 = (3 - t.val % 4) * 512 + p.val := by omega
    rw [dif_pos u, ref _ _ _ h.1 h.2.1]
    pointwise [k0_pay2]
    simp only [hd, gates m c t p q u, e1, e2, dc, u, dif_pos, column, if_true]
    rfl
  · rw [dif_neg u]
    pointwise [k0_pay2]
    simp only [column, u, if_false]
    rfl

/-- The gradient of the gates before the logistic function. -/
theorem gradient (c : Dev nD) (h : fin m c) : (dats m 0 c).arrAt 2 (cfgs 0).N = val_main_v14 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  have hb : t.val / 4 < 2 := by have := (Fin.cast N_0 t).isLt; simp only [Fin.val_cast] at this; omega
  obtain ⟨p, q, rfl⟩ : ∃ (p : Fin 512) (q : Fin 128), y = ix2 p q := ⟨y 0, y 1, eq_ix2 y⟩
  have e : ((View.whole main_v7_0).slice (win0_2.rect t)).emb (ix2 p q) = ix2 ⟨(t.val / 4 * 4 + (3 - t.val % 4)) * 512 + p.val, bound t p⟩ q := by blk_ext [place t]
  blk_simp
  obtain ⟨r, hr, h1, -⟩ := taken m c h t hb
  rw [e, after0_2, h1]
  have e1 : ((t.val / 4 * 4 + (3 - t.val % 4)) * 512 + p.val) / 2048 = t.val / 4 := by omega
  have e2 : ((t.val / 4 * 4 + (3 - t.val % 4)) * 512 + p.val) % 2048 = (3 - t.val % 4) * 512 + p.val := by omega
  pointwise [k0_pay3, val_main_v14, val_main_v13, val_main_v12, val_main_call4_v0, val_main_c, nil]
  rw [block m c h t hb _ hr]
  simp only [e1, e2, bound t p, true_and]

/-- The gradient of the bias, summed over the grid. -/
theorem bias (c : Dev nD) (h : fin m c) : (dats m 0 c).arrAt 3 (cfgs 0).N = val_main_v15 (F := Ideal) (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  obtain ⟨z, q, rfl⟩ : ∃ (z : Fin 1) (q : Fin 128), j = ix2 z q := ⟨j 0, j 1, (ix2_eta j).symm⟩
  blk_simp
  obtain rfl : z = 0 := Subsingleton.elim _ _
  have lt (t : Fin cfg0.N) : t.val / 4 < 2 := by have := (Fin.cast N_0 t).isLt; simp only [Fin.val_cast] at this; omega
  let v (b : Fin 2) (q : Fin 128) (s : Fin 2048) : EReal := if u : q.val < 8 then val_main_v7 (F := Ideal) (m ((c : Thread nD τ).loc main_arg0)) (m ((c : Thread nD τ).loc main_arg1)) (m ((c : Thread nD τ).loc main_arg2)) (ix3 b s ⟨q.val, u⟩) else (0 : EReal)
  let G (t : Fin cfg0.N) (j : S1x128.Idx) : EReal := ∑ p : Fin 512, v ⟨t.val / 4, lt t⟩ (j 1) ⟨(3 - t.val % 4) * 512 + p.val, by omega⟩
  have step (t : Fin cfg0.N) (q : Fin 128) : (outsAt0 m c t.val t.isLt).2.1 (ix2 0 q) = (if h : t.val % 8 = 0 then (0 : EReal) else (outsAt0 m c (t.val - 1) (by have := t.isLt; omega)).2.1 (ix2 0 q)) + G t (ix2 0 q) := by
    obtain ⟨r, hr, -, h3⟩ := taken m c h t (lt t)
    rw [h3]
    have w (p : Fin 512) (q : Fin 128) := block m c h t (lt t) _ hr p q
    by_cases u : t.val % 8 = 0
    · simp only [u, dif_pos]
      pointwise [k0_pay4, k0_pay5]
      simp only [w]
      rfl
    · simp only [u, dif_neg, not_false_eq_true]
      pointwise [k0_pay4]
      simp only [w]
      rfl
  rw [after0_3, Pipeline.eq_sum_fin_of_reset_step_apply_last (fun n h => (outsAt0 m c n h).2.1) 8 (fun _ => (0 : EReal)) G
    (fun t u j => by
      obtain ⟨z, q, rfl⟩ : ∃ (z : Fin 1) (q : Fin 128), j = ix2 z q := ⟨j 0, j 1, eq_ix2 j⟩
      obtain rfl : z = 0 := Subsingleton.elim _ _
      rw [step, dif_pos u])
    (fun t u j => by
      obtain ⟨z, q, rfl⟩ : ∃ (z : Fin 1) (q : Fin 128), j = ix2 z q := ⟨j 0, j 1, eq_ix2 j⟩
      obtain rfl : z = 0 := Subsingleton.elim _ _
      rw [step, dif_neg u])
    (le_of_eq N_0) t0_7 rfl (ix2 0 q), zero_add]
  pointwise [val_main_v15, val_main_v11, val_main_v10, val_main_v9, val_main_v8, val_main_cst, val_main_cst_0, val_main_call5_v0, val_main_c_1, nil, Cert.Sums.front_two]
  refine (Fintype.sum_equiv (M := EReal) (finCongr N_0) _ (fun t : Fin 8 => G (Fin.cast N_0.symm t) (ix2 0 q)) fun t => rfl).trans ?_
  rw [Fin.sum_univ_eight]
  show (∑ p : Fin 512, v 0 q ⟨1536 + p.val, by omega⟩) + (∑ p : Fin 512, v 0 q ⟨1024 + p.val, by omega⟩) + (∑ p : Fin 512, v 0 q ⟨512 + p.val, by omega⟩) + (∑ p : Fin 512, v 0 q ⟨0 + p.val, by omega⟩) + (∑ p : Fin 512, v 1 q ⟨1536 + p.val, by omega⟩) + (∑ p : Fin 512, v 1 q ⟨1024 + p.val, by omega⟩) + (∑ p : Fin 512, v 1 q ⟨512 + p.val, by omega⟩) + (∑ p : Fin 512, v 1 q ⟨0 + p.val, by omega⟩) = _
  refine Eq.trans (b := (∑ s, v 0 q s) + ∑ s, v 1 q s) ?_ ?_
  · rw [Cert.Sums.quarters (v 0 q), Cert.Sums.quarters (v 1 q)]
    simp only [zero_add]
    abel
  · by_cases u : q.val < 8
    · simp only [v, u, dif_pos, Fin.sum_univ_one, Fin.sum_univ_two]
    · simp only [v, u, dif_neg, not_false_eq_true, Finset.sum_const_zero, add_zero]
end Cert.GateValue

end
-- ==== Proof.GateEnd.lean ====
/- What is claimed of the forget gate's gradient. -/
module

public import proofs.«01_k».proof.Defs
public import proofs.«01_k».proof.Proof.Gen.KernelGate.Frame
public import proofs.«01_k».proof.Proof.Gen.ReferenceGateIdeal.Run
public import proofs.«01_k».proof.Proof.Gen.Pre_finite_gate
public import proofs.«01_k».proof.Proof.GateValue
public import Idealize.ShloMosaic.Adequacy
public import Idealize.ShloMosaic.Init

@[expose] public section

set_option maxRecDepth 16384

noncomputable section

namespace Cert.GateEnd

open Idealize.ShloMosaic Idealize.SL.Sem

theorem frame_kernel : Cert.quiescent_KernelGate := fun m g _ => Cert.KernelGate.Gen.frame m g

theorem frame_ideal : Cert.quiescent_KernelGateIdeal := fun m g _ => Cert.KernelGateIdeal.Gen.frame m g

theorem frame_reference : Cert.quiescent_ReferenceGateIdeal := fun m g _ =>
  (θ_run Cert.ReferenceGateIdeal.defs _ _).mono (fun r h => ⟨fun c => (h c).2.2, sem_eq_zero_of_no_sems (by decide) r.2⟩)
    (Cert.ReferenceGateIdeal.Value.run (F := Ideal) m g)

/-- The precondition says that the arguments it reads hold no infinity. -/
theorem finite (m : (ℓ : Loc Cert.KernelGateIdeal.nD Cert.KernelGateIdeal.τ Cert.KernelGateIdeal.sig) → Buf (Elt Ideal) ℓ)
    (h : Cert.Pre_KernelGateIdeal_finite_gate m) (c : Dev Cert.KernelGateIdeal.nD) : Cert.GateValue.fin m c :=
  ⟨fun i => Cert.Reals.of_lt _ (congrFun (h c).1 i), fun i => Cert.Reals.of_lt _ (congrFun (h c).2.1 i), fun i => Cert.Reals.of_lt _ (congrFun (h c).2.2 i)⟩

theorem algebraic : Cert.algebraic_KernelGateIdeal_ReferenceGateIdeal_pre_finite_gate := by
  pair_intro
  · run_from Cert.KernelGateIdeal.Value.run_blocks m g
  · run_from Cert.ReferenceGateIdeal.Value.run m' g'
    · rw [Cert.ReferenceGateIdeal.Read.val_main_v14_eq m' c]
      simp only [hagree c]
      exact (Cert.GateValue.gradient m c (finite m hpre c)).symm
    · rw [Cert.ReferenceGateIdeal.Read.val_main_v15_eq m' c]
      simp only [hagree c]
      exact (Cert.GateValue.bias m c (finite m hpre c)).symm

end Cert.GateEnd

end
-- ==== Proof.Soft.lean ====
/- The normalised exponential and the derivative through it, over the extended reals where every argument is a real number. -/
module

public import proofs.«01_k».proof.Proof.Reals
public import Idealize.ShloMosaic.Lib.Pointwise

@[expose] public section

noncomputable section

open Idealize.ShloMosaic
open scoped BigOperators

namespace Cert.Soft
open Cert.Reals

variable {n : ℕ}

/-- The greatest of a family. -/
def peak (L : Fin n → EReal) : EReal := Finset.fold max (Ideal.ofBits .f32 4286578688#32) L Finset.univ
/-- The exponential of a term over the greatest. -/
def weight (L : Fin n → EReal) (j : Fin n) : EReal := Ideal.exp (L j - peak L)
/-- The sum of the exponentials. -/
def total (L : Fin n → EReal) : EReal := ∑ j, weight L j
/-- The normalised exponential. -/
def prob (L : Fin n → EReal) (j : Fin n) : EReal := Ideal.div (weight L j) (total L)
/-- Its derivative, applied to a cotangent. -/
def slope (L P : Fin n → EReal) (j : Fin n) : EReal := prob L j * (P j - ∑ i, prob L i * P i)

theorem bottom : Ideal.ofBits .f32 4286578688#32 = ⊥ := by simp [Ideal.ofBits, Ideal.ieee]

theorem floor (x : EReal) : max (Ideal.ofBits .f32 4286578688#32) x = x := by
  rw [bottom]; exact max_eq_right bot_le

theorem sixteenth : Ideal.ofBits .f32 1031798784#32 = ((1 / 16 : ℝ) : EReal) := by
  simp [Ideal.ofBits, Ideal.ieee, -EReal.coe_mul]; norm_num
theorem sixteen : Ideal.ofBits .f32 1098907648#32 = ((16 : ℝ) : EReal) := by
  simp [Ideal.ofBits, Ideal.ieee, -EReal.coe_mul]; norm_num

/-- Dividing by sixteen is multiplying by a sixteenth. -/
theorem by_sixteen (x : EReal) : Ideal.div x (Ideal.ofBits .f32 1098907648#32) = x * Ideal.ofBits .f32 1031798784#32 := by
  rw [sixteen, sixteenth, Ideal.div_coe (by norm_num)]

theorem peak_real [NeZero n] {L : Fin n → ℝ} : ∃ r : ℝ, peak (fun j => ((L j : ℝ) : EReal)) = (r : EReal) := by
  have e : peak (fun j => ((L j : ℝ) : EReal)) = Finset.univ.sup (fun j => ((L j : ℝ) : EReal)) := by
    unfold peak; rw [bottom]; rfl
  obtain ⟨i, -, h⟩ := Finset.exists_mem_eq_sup Finset.univ ⟨0, Finset.mem_univ _⟩ (fun j => ((L j : ℝ) : EReal))
  exact ⟨L i, e.trans h⟩

/-- Over real arguments the weights are positive reals. -/
theorem weights [NeZero n] {L : Fin n → EReal} (h : ∀ j, Is (L j)) : ∃ (w : Fin n → ℝ) (s : ℝ), (∀ j, 0 < w j) ∧ 0 < s ∧ s = ∑ j, w j ∧ (∀ j, weight L j = ((w j : ℝ) : EReal)) ∧ total L = (s : EReal) := by
  obtain ⟨l, rfl⟩ := lift h
  obtain ⟨r, hr⟩ := peak_real (L := l)
  have e (j) : weight (fun k => ((l k : ℝ) : EReal)) j = ((Real.exp (l j - r) : ℝ) : EReal) := by
    unfold weight; rw [hr, ← EReal.coe_sub]; rfl
  refine ⟨fun j => Real.exp (l j - r), ∑ j, Real.exp (l j - r), fun j => Real.exp_pos _, ?_, rfl, e, ?_⟩
  · exact Finset.sum_pos (fun j _ => Real.exp_pos _) ⟨0, Finset.mem_univ _⟩
  · unfold total; simp only [e]; exact sum _

theorem prob_is [NeZero n] {L : Fin n → EReal} (h : ∀ j, Is (L j)) (j : Fin n) : Is (prob L j) := by
  obtain ⟨w, s, -, hs, -, hw, ht⟩ := weights h
  exact ⟨w j / s, by unfold prob; rw [hw, ht, quot _ _ hs.ne']⟩

theorem slope_is [NeZero n] {L P : Fin n → EReal} (h : ∀ j, Is (L j)) (hP : ∀ j, Is (P j)) (j : Fin n) : Is (slope L P j) :=
  (prob_is h j).mul ((hP j).sub (Is.sum fun i => (prob_is h i).mul (hP i)))

/-- The chain rule's form of the derivative. -/
theorem back [NeZero n] {L P : Fin n → EReal} (h : ∀ j, Is (L j)) (hP : ∀ j, Is (P j)) (j : Fin n) :
    (Ideal.div (P j) (total L) + -∑ i, P i * Ideal.div 1 (total L * total L) * weight L i) * weight L j = slope L P j := by
  obtain ⟨w, s, -, hs, -, hw, ht⟩ := weights h
  obtain ⟨p, rfl⟩ := lift hP
  unfold slope prob
  simp only [hw, ht, quot _ _ hs.ne']
  rw [← EReal.coe_mul, ← EReal.coe_one, quot _ _ (by positivity)]
  simp only [← EReal.coe_mul, sum, ← EReal.coe_neg, ← EReal.coe_add, ← EReal.coe_sub]
  congr 1
  have e1 : ∑ k, p k * (1 / (s * s)) * w k = (1 / (s * s)) * ∑ k, w k * p k := by
    rw [Finset.mul_sum]; exact Finset.sum_congr rfl fun k _ => by ring
  have e2 : ∑ k, w k / s * p k = (1 / s) * ∑ k, w k * p k := by
    rw [Finset.mul_sum]; exact Finset.sum_congr rfl fun k _ => by ring
  rw [e1, e2]
  field_simp
  ring

section
variable {n0 n1 n2 n3 : ℕ}
/-- The greatest along the last of four axes. -/
theorem greatest (h : (⟨4, ![n0, n1, n2, n3]⟩ : Shape).ReducesTo [3] ⟨3, ![n0, n1, n2]⟩) {u : Shape} (v : (⟨4, ![n0, n1, n2, n3]⟩ : Shape).Idx → EReal)
    (c : u.Idx → EReal) (hu : 0 < u.numel) (a : Fin n0) (b : Fin n1) (s : Fin n2) :
    Host.reduce (max : EReal → EReal → EReal) v c h hu (ix3 a b s) = Finset.fold max (c (Shape.Idx.first hu)) (fun k => v (ix4 a b s k)) Finset.univ := by
  rw [Host.reduce_eq_fold]
  have e : (Finset.univ.filter fun i => h.drop i = ix3 a b s) = Finset.univ.image (fun k : Fin n3 => ix4 a b s k) := by
    ext i
    simp only [Finset.mem_filter, Finset.mem_univ, true_and, Finset.mem_image]
    exact h.fiber_r4_a3 _ i
  rw [e, Finset.fold_image (fun x _ y _ q => congrFun q 3)]
  rfl
end

/-- A factor common to every term of a sum of products comes out, over the reals. -/
theorem scaled {κ : Type} [Fintype κ] {D k : κ → EReal} {c : EReal} (hD : ∀ j, Is (D j)) (hk : ∀ j, Is (k j)) (hc : Is c) :
    ∑ j, D j * c * k j = (∑ j, D j * k j) * c := by
  obtain ⟨D, rfl⟩ := lift hD
  obtain ⟨k, rfl⟩ := lift hk
  obtain ⟨c, rfl⟩ := hc
  simp only [← EReal.coe_mul, Cert.Reals.sum]
  rw [Finset.sum_mul]
  exact congrArg _ (Finset.sum_congr rfl fun j _ => by ring)

end Cert.Soft

end
-- ==== Proof.MidBlocks.lean ====
/- The gradient of the attention over the memory, of its norm, and of the two head groups' outputs. -/
module

public import proofs.«01_k».proof.Proof.Gen.KernelMidIdeal.Value
public import proofs.«01_k».proof.Proof.Gen.ReferenceMidIdeal.Read
public import proofs.«01_k».proof.Proof.Sums
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MidValue
open Cert.KernelMidIdeal Cert.KernelMidIdeal.Gen
variable (m : (ℓ : Loc nD τ sig) → Buf (Elt Ideal) ℓ)

/-- Where each window's block lies at grid point `t`. -/
theorem place : ∀ t : Fin cfg0.N, win0_0.index t = ![t.val, 0] ∧ win0_1.index t = ![t.val, 0] ∧ win0_2.index t = ![t.val, 0]
    ∧ win0_3.index t = ![t.val / 4, 0] ∧ win0_4.index t = ![t.val / 4, 0] ∧ win0_5.index t = ![t.val, 0] ∧ win0_6.index t = ![0, 0] ∧ win0_7.index t = ![0, 0]
    ∧ win0_8.index t = ![0, 0] ∧ win0_9.index t = ![0, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val / 4, 0] ∧ win0_16.index t = ![t.val / 4, 0]
    ∧ win0_17.index t = ![0, 0] ∧ win0_18.index t = ![t.val / 4, t.val % 4, 0, 0] :=
  (by decide +kernel : ∀ t : Fin grid0.N, _)

/-- A point's sequence. -/
def seq (t : Fin cfg0.N) : Fin 2 := ⟨t.val / 4, by have := (Fin.cast N_0 t).isLt; simp only [Fin.val_cast] at this; omega⟩

/-- The place in its sequence of a point's row. -/
def pos (t : Fin cfg0.N) (p : Fin 512) : Fin 2048 := ⟨t.val % 4 * 512 + p.val, by omega⟩

theorem seq_eq (t : Fin cfg0.N) (p : Fin 512) (h : ((Fin.cast N_0 t).val * 512 + p.val) / 2048 < 2) : (⟨((Fin.cast N_0 t).val * 512 + p.val) / 2048, h⟩ : Fin 2) = seq t :=
  Fin.ext (by simp only [seq, Fin.val_cast]; omega)
theorem pos_eq (t : Fin cfg0.N) (p : Fin 512) (h : ((Fin.cast N_0 t).val * 512 + p.val) % 2048 < 2048) : (⟨((Fin.cast N_0 t).val * 512 + p.val) % 2048, h⟩ : Fin 2048) = pos t p :=
  Fin.ext (by simp only [pos, Fin.val_cast]; omega)

/-- The block of the cotangent. -/
theorem cotangent (c : Dev nD) (t : Fin cfg0.N) (p : Fin 512) (q : Fin 1024) :
    iblk m c 0 t (ix2 p q) = m ((c : Thread nD τ).loc main_arg8) (ix3 (seq t) (pos t p) q) := by
  rw [← seq_eq t p (by omega), ← pos_eq t p (by omega)]
  blk_simp [iblk, place t]; entry_read; pointwise; blk_ext [place t]

/-- The block of the norm's argument. -/
theorem rows (c : Dev nD) (t : Fin cfg0.N) (p : Fin 512) (q : Fin 1024) :
    iblk m c 1 t (ix2 p q) = m ((c : Thread nD τ).loc main_arg0) (ix3 (seq t) (pos t p) q) := by
  rw [← seq_eq t p (by omega), ← pos_eq t p (by omega)]
  blk_simp [iblk, place t]; entry_read; pointwise; blk_ext [place t]

/-- The block of queries, as the forward lines leave them. -/
theorem queries (c : Dev nD) (t : Fin cfg0.N) (p : Fin 512) (q : Fin 1024) :
    iblk m c 2 t (ix2 p q) = Cert.ReferenceMidIdeal.Read.val_main_v18 (F := Ideal) (m ((c : Thread nD τ).loc main_arg0)) (m ((c : Thread nD τ).loc main_arg1)) (m ((c : Thread nD τ).loc main_arg2))
      (ix3 (seq t) (pos t p) q) := by
  rw [← seq_eq t p (by omega), ← pos_eq t p (by omega)]
  have b : t.val * 512 + p.val < 4096 := by have := (Fin.cast N_0 t).isLt; simp only [Fin.val_cast] at this; omega
  have e : (win0_2.blk t).view.emb (ix2 p q) = ix2 ⟨t.val * 512 + p.val, b⟩ q := by blk_ext [place t]
  blk_simp [iblk]
  rw [e]; simp only [V]; entry_read
  pointwise [Cert.ReferenceMidIdeal.Read.val_main_v0, Cert.ReferenceMidIdeal.Read.val_main_v1, Cert.ReferenceMidIdeal.Read.val_main_cst, Cert.ReferenceMidIdeal.Read.val_main_v2, Cert.ReferenceMidIdeal.Read.val_main_v3, Cert.ReferenceMidIdeal.Read.val_main_cst_0, Cert.ReferenceMidIdeal.Read.val_main_v4, Cert.ReferenceMidIdeal.Read.val_main_v5, Cert.ReferenceMidIdeal.Read.val_main_cst_1, Cert.ReferenceMidIdeal.Read.val_main_v6, Cert.ReferenceMidIdeal.Read.val_main_v7, Cert.ReferenceMidIdeal.Read.val_main_v8, Cert.ReferenceMidIdeal.Read.val_main_v12, Cert.ReferenceMidIdeal.Read.val_main_v13, Cert.ReferenceMidIdeal.Read.val_main_v14, Cert.ReferenceMidIdeal.Read.val_main_v15, Cert.ReferenceMidIdeal.Read.val_main_v16, Cert.ReferenceMidIdeal.Read.val_main_v17, Cert.ReferenceMidIdeal.Read.val_main_v18]

/-- The memory's keys. -/
theorem keys (c : Dev nD) (t : Fin cfg0.N) (p : Fin 256) (q : Fin 1024) :
    iblk m c 3 t (ix2 p q) = m ((c : Thread nD τ).loc main_arg3) (ix3 (seq t) p q) := by
  have h : (t.val / 4 * 256 + p.val) / 256 < 2 := by have := (seq t).isLt; simp only [seq] at this; omega
  have e : (⟨(t.val / 4 * 256 + p.val) / 256, h⟩ : Fin 2) = seq t := Fin.ext (by simp only [seq]; omega)
  rw [← e]
  blk_simp [iblk, place t]; entry_read; pointwise; blk_ext [place t]

/-- The memory's values. -/
theorem values (c : Dev nD) (t : Fin cfg0.N) (p : Fin 256) (q : Fin 1024) :
    iblk m c 4 t (ix2 p q) = m ((c : Thread nD τ).loc main_arg4) (ix3 (seq t) p q) := by
  have h : (t.val / 4 * 256 + p.val) / 256 < 2 := by have := (seq t).isLt; simp only [seq] at this; omega
  have e : (⟨(t.val / 4 * 256 + p.val) / 256, h⟩ : Fin 2) = seq t := Fin.ext (by simp only [seq]; omega)
  rw [← e]
  blk_simp [iblk, place t]; entry_read; pointwise; blk_ext [place t]

/-- The block of the heads' outputs. -/
theorem heads (c : Dev nD) (t : Fin cfg0.N) (p : Fin 512) (q : Fin 512) :
    iblk m c 5 t (ix2 p q) = m ((c : Thread nD τ).loc main_arg7) (ix3 (seq t) (pos t p) q) := by
  rw [← seq_eq t p (by omega), ← pos_eq t p (by omega)]
  blk_simp [iblk, place t]; entry_read; pointwise; blk_ext [place t]

/-- The memory's last projection. -/
theorem last (c : Dev nD) (t : Fin cfg0.N) (p : Fin 1024) (q : Fin 1024) :
    iblk m c 6 t (ix2 p q) = m ((c : Thread nD τ).loc main_arg5) (ix3 0 p q) := by
  blk_simp [iblk, place t]; entry_read; pointwise; blk_ext [place t]

/-- The queries' projection. -/
theorem first (c : Dev nD) (t : Fin cfg0.N) (p : Fin 1024) (q : Fin 1024) :
    iblk m c 7 t (ix2 p q) = m ((c : Thread nD τ).loc main_arg2) (ix3 0 p q) := by
  blk_simp [iblk, place t]; entry_read; pointwise; blk_ext [place t]

/-- The mixing projection. -/
theorem mix (c : Dev nD) (t : Fin cfg0.N) (p : Fin 1024) (q : Fin 1024) :
    iblk m c 8 t (ix2 p q) = m ((c : Thread nD τ).loc main_arg6) (ix3 0 p q) := by
  blk_simp [iblk, place t]; entry_read; pointwise; blk_ext [place t]

/-- The norm's gain. -/
theorem gain (c : Dev nD) (t : Fin cfg0.N) (q : Fin 1024) :
    iblk m c 9 t (ix2 0 q) = m ((c : Thread nD τ).loc main_arg1) (ix2 0 q) := by
  blk_simp [iblk, place t]; entry_read; pointwise; blk_ext [place t]

end Cert.MidValue

end
-- ==== Proof.Columns.lean ====
/- Arrays stored as four column blocks. -/
module

public import Idealize.ShloMosaic.Lib.Pipeline.ReadBack
public import Idealize.ShloMosaic.Lib.Pipeline.ValueKit
public import Idealize.ShloMosaic.Lib.Pointwise

@[expose] public section

set_option maxRecDepth 16384

open Idealize.ShloMosaic Idealize.ShloMosaic.TcCoe Idealize.SL.Sem

namespace Cert.Columns
section
variable {V : EltTy → Type} [∀ e, Nonempty (V e)] {e : EltTy} {n : ℕ}

/-- Four column blocks that are blocks of one function leave that function. -/
theorem four (G : (⟨2, ![n, 1024]⟩ : Shape).Idx → V e) (w0 w1 w2 w3 : (⟨2, ![n, 256]⟩ : Shape).Idx → V e)
    (i0 : ∀ a, (![0, 0] : Fin 2 → ℕ) a + (![n, 256] : Fin 2 → ℕ) a ≤ (⟨2, ![n, 1024]⟩ : Shape).size a)
    (i1 : ∀ a, (![0, 256] : Fin 2 → ℕ) a + (![n, 256] : Fin 2 → ℕ) a ≤ (⟨2, ![n, 1024]⟩ : Shape).size a)
    (i2 : ∀ a, (![0, 512] : Fin 2 → ℕ) a + (![n, 256] : Fin 2 → ℕ) a ≤ (⟨2, ![n, 1024]⟩ : Shape).size a)
    (i3 : ∀ a, (![0, 768] : Fin 2 → ℕ) a + (![n, 256] : Fin 2 → ℕ) a ≤ (⟨2, ![n, 1024]⟩ : Shape).size a)
    (h0 : ∀ p (d : Fin 256), w0 (ix2 p d) = G (ix2 p ⟨d.val, by omega⟩)) (h1 : ∀ p (d : Fin 256), w1 (ix2 p d) = G (ix2 p ⟨256 + d.val, by omega⟩))
    (h2 : ∀ p (d : Fin 256), w2 (ix2 p d) = G (ix2 p ⟨512 + d.val, by omega⟩)) (h3 : ∀ p (d : Fin 256), w3 (ix2 p d) = G (ix2 p ⟨768 + d.val, by omega⟩))
    (L : List (View.Piece V ⟨2, ![n, 1024]⟩ e)) :
    View.canon (⟨Rect.unit ![0, 768] ![n, 256] i3, w3⟩ :: ⟨Rect.unit ![0, 512] ![n, 256] i2, w2⟩ :: ⟨Rect.unit ![0, 256] ![n, 256] i1, w1⟩ :: ⟨Rect.unit ![0, 0] ![n, 256] i0, w0⟩ :: L) = G := by
  have g (o : ℕ) (i : ∀ a, (![0, o] : Fin 2 → ℕ) a + (![n, 256] : Fin 2 → ℕ) a ≤ (⟨2, ![n, 1024]⟩ : Shape).size a) (w : (⟨2, ![n, 256]⟩ : Shape).Idx → V e)
      (ho : o + 256 ≤ 1024) (h : ∀ p (d : Fin 256), w (ix2 p d) = G (ix2 p ⟨o + d.val, by omega⟩)) (x : (⟨2, ![n, 256]⟩ : Shape).Idx) : w x = G ((Rect.unit (s := ⟨2, ![n, 1024]⟩) ![0, o] ![n, 256] i).emb x) := by
    obtain ⟨p, d, rfl⟩ : ∃ (p : Fin n) (d : Fin 256), x = ix2 p d := ⟨x 0, x 1, eq_ix2 x⟩
    rw [h]
    refine congrArg G (funext fun a => Fin.ext ?_)
    match a with
    | ⟨0, _⟩ => exact ((Nat.zero_add _).trans (Nat.one_mul _)).symm
    | ⟨1, _⟩ => exact congrArg (o + ·) (Nat.one_mul _).symm
  funext y
  obtain ⟨p, q, rfl⟩ : ∃ (p : Fin n) (q : Fin 1024), y = ix2 p q := ⟨y 0, y 1, eq_ix2 y⟩
  refine View.canon_append_of_piecesOf G L [⟨Rect.unit ![0, 768] ![n, 256] i3, w3⟩, ⟨Rect.unit ![0, 512] ![n, 256] i2, w2⟩, ⟨Rect.unit ![0, 256] ![n, 256] i1, w1⟩, ⟨Rect.unit ![0, 0] ![n, 256] i0, w0⟩]
    ⟨g 768 i3 w3 (by norm_num) h3, g 512 i2 w2 (by norm_num) h2, g 256 i1 w1 (by norm_num) h1, g 0 i0 w0 (by norm_num) (fun p d => by rw [h0]; exact congrArg (fun r => G (ix2 p r)) (Fin.ext (Nat.zero_add _).symm)), trivial⟩ _ ?_
  have c (o : ℕ) (i : ∀ a, (![0, o] : Fin 2 → ℕ) a + (![n, 256] : Fin 2 → ℕ) a ≤ (⟨2, ![n, 1024]⟩ : Shape).size a) (h : o ≤ q.val) (h' : q.val < o + 256) : ix2 p q ∈ (Rect.unit (s := ⟨2, ![n, 1024]⟩) ![0, o] ![n, 256] i).set :=
    Rect.mem_set_unit.mpr fun a => by
      match a with
      | ⟨0, _⟩ => exact ⟨Nat.zero_le _, (Nat.zero_add n).symm ▸ p.isLt⟩
      | ⟨1, _⟩ => exact ⟨h, h'⟩
  by_cases u : q.val < 256
  · exact ⟨_, .tail _ (.tail _ (.tail _ (.head _))), c 0 i0 (Nat.zero_le _) (by omega)⟩
  by_cases u' : q.val < 512
  · exact ⟨_, .tail _ (.tail _ (.head _)), c 256 i1 (by omega) (by omega)⟩
  by_cases u'' : q.val < 768
  · exact ⟨_, .tail _ (.head _), c 512 i2 (by omega) (by omega)⟩
  · exact ⟨_, .head _, c 768 i3 (by omega) (by omega)⟩
end

end Cert.Columns

end
-- ==== Proof.MidProb.lean ====
/- The probabilities of the attention over the memory and their gradient: the reference and the blocks. -/
module

public import proofs.«01_k».proof.Proof.Gen.KernelMidIdeal.Value
public import proofs.«01_k».proof.Proof.Gen.ReferenceMidIdeal.Read
public import proofs.«01_k».proof.Proof.Sums
public import proofs.«01_k».proof.Proof.Reals
public import proofs.«01_k».proof.Proof.Soft
public import proofs.«01_k».proof.Proof.MidBlocks
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceMidIdeal.Read Cert.Soft

namespace Cert.MidValue
open Cert.KernelMidIdeal Cert.KernelMidIdeal.Gen
variable (m : (ℓ : Loc nD τ sig) → Buf (Elt Ideal) ℓ)

section Reference
variable (x0 : (⟨Cert.ReferenceMidIdeal.S2x2048x1024, .f32⟩ : BufTy).Contents (Elt Ideal)) (x1 : (⟨Cert.ReferenceMidIdeal.S1x1024, .f32⟩ : BufTy).Contents (Elt Ideal)) (x2 : (⟨Cert.ReferenceMidIdeal.S1x1024x1024, .f32⟩ : BufTy).Contents (Elt Ideal)) (x3 : (⟨Cert.ReferenceMidIdeal.S2x256x1024, .f32⟩ : BufTy).Contents (Elt Ideal)) (x4 : (⟨Cert.ReferenceMidIdeal.S2x256x1024, .f32⟩ : BufTy).Contents (Elt Ideal)) (x5 : (⟨Cert.ReferenceMidIdeal.S1x1024x1024, .f32⟩ : BufTy).Contents (Elt Ideal)) (x8 : (⟨Cert.ReferenceMidIdeal.S2x2048x1024, .f32⟩ : BufTy).Contents (Elt Ideal)) (b : Fin 2) (h : Fin 4) (s : Fin 2048)

/-- A head's scores against every slot of the memory. -/
def score : Fin 256 → EReal := fun j => val_main_v24 (F := Ideal) x0 x1 x2 x3 (ix4 b h s j)
/-- The cotangents of a head's probabilities. -/
def cot : Fin 256 → EReal := fun j => val_main_v61 (F := Ideal) x4 x5 x8 (ix4 b h s j)

theorem ref_score (j : Fin 256) (o : ℕ) (ho : o = h.val * 256) : (∑ d : Fin 256, (val_main_v18 (F := Ideal) x0 x1 x2 (ix3 b s ⟨o + d.val, by omega⟩) : EReal) * x3 (ix3 b j ⟨o + d.val, by omega⟩)) * Ideal.ofBits .f32 1031798784#32
    = score x0 x1 x2 x3 b h s j := by
  subst ho
  unfold score
  pointwise [val_main_v24, val_main_v23, val_main_cst_3, val_main_v22, val_main_v20, val_main_v19]
  rw [by_sixteen]

theorem ref_start : val_main_cst_4 (F := Ideal) (Shape.Idx.first (by decide)) = Ideal.ofBits .f32 4286578688#32 := by
  pointwise [val_main_cst_4]

theorem ref_peakA : val_main_v25 (F := Ideal) x0 x1 x2 x3 (ix3 b h s) = Finset.fold max (val_main_cst_4 (F := Ideal) (Shape.Idx.first (by decide))) (fun j => val_main_v24 (F := Ideal) x0 x1 x2 x3 (ix4 b h s j)) Finset.univ :=
  by
  unfold val_main_v25
  exact greatest _ _ _ _ b h s

theorem ref_peak : val_main_v25 (F := Ideal) x0 x1 x2 x3 (ix3 b h s) = peak (score x0 x1 x2 x3 b h s) := by
  rw [ref_peakA, ref_start]
  rfl

theorem ref_low (i) : val_main_v31 (F := Ideal) i = Ideal.ofBits .f32 4286578688#32 := by
  pointwise [val_main_v31, val_main_cst_6]

theorem above {s : Shape} (a b : FVec Ideal s .f32) (i : s.Idx) (ha : a i = Ideal.ofBits .f32 4286578688#32) : maximumf a b i = b i := by
  show max (a i) (b i) = b i
  rw [ha, floor]

theorem ref_floor : val_main_v32 (F := Ideal) x0 x1 x2 x3 (ix3 b h s) = peak (score x0 x1 x2 x3 b h s) :=
  (above _ _ _ (ref_low _)).trans (ref_peak ..)

theorem ref_spread (j : Fin 256) : val_main_v43 (F := Ideal) x0 x1 x2 x3 (ix4 b h s j) = peak (score x0 x1 x2 x3 b h s) := by
  pointwise [val_main_v43, val_main_v42]
  exact ref_floor ..

theorem ref_weight (j : Fin 256) : val_main_v45 (F := Ideal) x0 x1 x2 x3 (ix4 b h s j) = weight (score x0 x1 x2 x3 b h s) j := by
  pointwise [val_main_v45, val_main_v44]
  rw [ref_spread]
  unfold weight
  congr 1

theorem ref_total : val_main_v46 (F := Ideal) x0 x1 x2 x3 (ix3 b h s) = total (score x0 x1 x2 x3 b h s) := by
  pointwise [val_main_v46, val_main_cst_12]
  simp only [ref_weight]
  rfl

theorem ref_prob (j : Fin 256) : val_main_v49 (F := Ideal) x0 x1 x2 x3 (ix4 b h s j) = prob (score x0 x1 x2 x3 b h s) j := by
  pointwise [val_main_v49, val_main_v48, val_main_v47]
  simp only [ref_weight, ref_total]
  rfl

theorem ref_cot (j : Fin 256) (o : ℕ) (ho : o = h.val * 256) : (∑ d : Fin 256, (val_main_v58 (F := Ideal) x5 x8 (ix3 b s ⟨o + d.val, by omega⟩) : EReal) * x4 (ix3 b j ⟨o + d.val, by omega⟩))
    = cot x4 x5 x8 b h s j := by
  subst ho
  unfold cot
  pointwise [val_main_v61, val_main_v60, val_main_v59, val_main_v21]

theorem ref_slope (hs : ∀ j, Cert.Reals.Is (score x0 x1 x2 x3 b h s j)) (hc : ∀ j, Cert.Reals.Is (cot x4 x5 x8 b h s j)) (j : Fin 256) :
    val_main_v77 (F := Ideal) x0 x1 x2 x3 x4 x5 x8 (ix4 b h s j) = slope (score x0 x1 x2 x3 b h s) (cot x4 x5 x8 b h s) j * Ideal.ofBits .f32 1031798784#32 := by
  have e (i) : val_main_v61 (F := Ideal) x4 x5 x8 (ix4 b h s i) = cot x4 x5 x8 b h s i := rfl
  pointwise [val_main_v77, val_main_cst_16, val_main_v76, val_main_v75, val_main_v74, val_main_v73, val_main_v72, val_main_cst_15, val_main_v71, val_main_v70, val_main_v69, val_main_v68, val_main_v67, val_main_cst_14,
    val_main_v66, val_main_v65, val_main_v64, val_main_v52, val_main_v51, val_main_cst_13, val_main_v50, val_main_v47]
  simp only [e, ref_weight, ref_total, Fin.sum_univ_one]
  rw [by_sixteen, back hs hc]

end Reference

/-- The scores of a point's row. -/
abbrev sc (c : Dev nD) (b : Fin 2) (h : Fin 4) (s : Fin 2048) : Fin 256 → EReal :=
  score (m ((c : Thread nD τ).loc main_arg0)) (m ((c : Thread nD τ).loc main_arg1)) (m ((c : Thread nD τ).loc main_arg2)) (m ((c : Thread nD τ).loc main_arg3)) b h s
/-- The cotangents of the probabilities of a point's row. -/
abbrev ct (c : Dev nD) (b : Fin 2) (h : Fin 4) (s : Fin 2048) : Fin 256 → EReal :=
  cot (m ((c : Thread nD τ).loc main_arg4)) (m ((c : Thread nD τ).loc main_arg5)) (m ((c : Thread nD τ).loc main_arg8)) b h s

theorem prob0 (c : Dev nD) (t : Fin cfg0.N) (p : Fin 512) (j : Fin 256) : k0_pay10 (iblk m c 2 t) (iblk m c 3 t) (ix2 p j) = prob (sc m c (seq t) 0 (pos t p)) j := by
  have l (j : Fin 256) := ref_score (m ((c : Thread nD τ).loc main_arg0)) (m ((c : Thread nD τ).loc main_arg1)) (m ((c : Thread nD τ).loc main_arg2)) (m ((c : Thread nD τ).loc main_arg3)) (seq t) 0 (pos t p) j 0 rfl
  simp only [zero_add] at l
  pointwise [k0_pay10, k0_pay7, k0_pay8]
  simp only [queries, keys, l]
  rfl
theorem prob1 (c : Dev nD) (t : Fin cfg0.N) (p : Fin 512) (j : Fin 256) : k0_pay12 (k0_pay8 (iblk m c 3 t)) (k0_pay11 (iblk m c 2 t)) (ix2 p j) = prob (sc m c (seq t) 1 (pos t p)) j := by
  have l (j : Fin 256) := ref_score (m ((c : Thread nD τ).loc main_arg0)) (m ((c : Thread nD τ).loc main_arg1)) (m ((c : Thread nD τ).loc main_arg2)) (m ((c : Thread nD τ).loc main_arg3)) (seq t) 1 (pos t p) j 256 rfl
  simp only [zero_add] at l
  pointwise [k0_pay12, k0_pay11, k0_pay8, k0_pay7]
  simp only [queries, keys, l]
  rfl
theorem prob2 (c : Dev nD) (t : Fin cfg0.N) (p : Fin 512) (j : Fin 256) : k0_pay13 (k0_pay7 (iblk m c 2 t)) (k0_pay8 (iblk m c 3 t)) (ix2 p j) = prob (sc m c (seq t) 2 (pos t p)) j := by
  have l (j : Fin 256) := ref_score (m ((c : Thread nD τ).loc main_arg0)) (m ((c : Thread nD τ).loc main_arg1)) (m ((c : Thread nD τ).loc main_arg2)) (m ((c : Thread nD τ).loc main_arg3)) (seq t) 2 (pos t p) j 512 rfl
  simp only [zero_add] at l
  pointwise [k0_pay13, k0_pay7, k0_pay8]
  simp only [queries, keys, l]
  rfl
theorem prob3 (c : Dev nD) (t : Fin cfg0.N) (p : Fin 512) (j : Fin 256) : k0_pay14 (k0_pay7 (iblk m c 2 t)) (k0_pay8 (iblk m c 3 t)) (ix2 p j) = prob (sc m c (seq t) 3 (pos t p)) j := by
  have l (j : Fin 256) := ref_score (m ((c : Thread nD τ).loc main_arg0)) (m ((c : Thread nD τ).loc main_arg1)) (m ((c : Thread nD τ).loc main_arg2)) (m ((c : Thread nD τ).loc main_arg3)) (seq t) 3 (pos t p) j 768 rfl
  simp only [zero_add] at l
  pointwise [k0_pay14, k0_pay7, k0_pay8]
  simp only [queries, keys, l]
  rfl

/-- The block of the cotangents of the heads' outputs. -/
theorem outs (c : Dev nD) (t : Fin cfg0.N) (p : Fin 512) (q : Fin 1024) : k0_pay6 (iblk m c 0 t) (iblk m c 6 t) (ix2 p q) = val_main_v58 (F := Ideal) (m ((c : Thread nD τ).loc main_arg5)) (m ((c : Thread nD τ).loc main_arg8)) (ix3 (seq t) (pos t p) q) := by
  pointwise [k0_pay6, k0_pay5, val_main_v58, val_main_v56]
  simp only [cotangent, last]

theorem slope0 (c : Dev nD) (t : Fin cfg0.N) (p : Fin 512) (j : Fin 256) : k0_pay17 (k0_pay10 (iblk m c 2 t) (iblk m c 3 t)) (k0_pay15 (k0_pay6 (iblk m c 0 t) (iblk m c 6 t)) (k0_pay9 (iblk m c 4 t)))
    (k0_pay16 (k0_pay6 (iblk m c 0 t) (iblk m c 6 t)) (k0_pay9 (iblk m c 4 t)) (k0_pay10 (iblk m c 2 t) (iblk m c 3 t))) (ix2 p j) = slope (sc m c (seq t) 0 (pos t p)) (ct m c (seq t) 0 (pos t p)) j := by
  have l (j : Fin 256) := ref_cot (m ((c : Thread nD τ).loc main_arg4)) (m ((c : Thread nD τ).loc main_arg5)) (m ((c : Thread nD τ).loc main_arg8)) (seq t) 0 (pos t p) j 0 rfl
  simp only [zero_add] at l
  pointwise [k0_pay17, k0_pay16, k0_pay15, k0_pay9]
  simp only [prob0, outs, values, l]
  rfl
theorem slope1 (c : Dev nD) (t : Fin cfg0.N) (p : Fin 512) (j : Fin 256) : k0_pay21 (k0_pay6 (iblk m c 0 t) (iblk m c 6 t)) (k0_pay9 (iblk m c 4 t)) (k0_pay12 (k0_pay8 (iblk m c 3 t)) (k0_pay11 (iblk m c 2 t))) (ix2 p j)
    = slope (sc m c (seq t) 1 (pos t p)) (ct m c (seq t) 1 (pos t p)) j := by
  have l (j : Fin 256) := ref_cot (m ((c : Thread nD τ).loc main_arg4)) (m ((c : Thread nD τ).loc main_arg5)) (m ((c : Thread nD τ).loc main_arg8)) (seq t) 1 (pos t p) j 256 rfl
  pointwise [k0_pay21, k0_pay9]
  simp only [prob1, outs, values, l]
  rfl
theorem slope2 (c : Dev nD) (t : Fin cfg0.N) (p : Fin 512) (j : Fin 256) : k0_pay26 (k0_pay6 (iblk m c 0 t) (iblk m c 6 t)) (k0_pay9 (iblk m c 4 t)) (k0_pay13 (k0_pay7 (iblk m c 2 t)) (k0_pay8 (iblk m c 3 t))) (ix2 p j)
    = slope (sc m c (seq t) 2 (pos t p)) (ct m c (seq t) 2 (pos t p)) j := by
  have l (j : Fin 256) := ref_cot (m ((c : Thread nD τ).loc main_arg4)) (m ((c : Thread nD τ).loc main_arg5)) (m ((c : Thread nD τ).loc main_arg8)) (seq t) 2 (pos t p) j 512 rfl
  pointwise [k0_pay26, k0_pay9]
  simp only [prob2, outs, values, l]
  rfl
theorem slope3 (c : Dev nD) (t : Fin cfg0.N) (p : Fin 512) (j : Fin 256) : k0_pay30 (k0_pay6 (iblk m c 0 t) (iblk m c 6 t)) (k0_pay9 (iblk m c 4 t)) (k0_pay14 (k0_pay7 (iblk m c 2 t)) (k0_pay8 (iblk m c 3 t))) (ix2 p j)
    = slope (sc m c (seq t) 3 (pos t p)) (ct m c (seq t) 3 (pos t p)) j := by
  have l (j : Fin 256) := ref_cot (m ((c : Thread nD τ).loc main_arg4)) (m ((c : Thread nD τ).loc main_arg5)) (m ((c : Thread nD τ).loc main_arg8)) (seq t) 3 (pos t p) j 768 rfl
  pointwise [k0_pay30, k0_pay9]
  simp only [prob3, outs, values, l]
  rfl

end Cert.MidValue

end
-- ==== Proof.MidHeads.lean ====
/- The gradients of the heads: queries, keys and values. -/
module

public import proofs.«01_k».proof.Proof.Gen.KernelMidIdeal.Value
public import proofs.«01_k».proof.Proof.Gen.ReferenceMidIdeal.Read
public import proofs.«01_k».proof.Proof.Sums
public import proofs.«01_k».proof.Proof.Reals
public import proofs.«01_k».proof.Proof.Soft
public import proofs.«01_k».proof.Proof.MidBlocks
public import proofs.«01_k».proof.Proof.MidProb
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceMidIdeal.Read Cert.Soft

namespace Cert.MidValue
open Cert.KernelMidIdeal Cert.KernelMidIdeal.Gen
variable (m : (ℓ : Loc nD τ sig) → Buf (Elt Ideal) ℓ)
open Cert.Reals
/-- The arguments hold no infinity. -/
def fin (c : Dev nD) : Prop := (∀ i, Is (m ((c : Thread nD τ).loc main_arg0) i)) ∧ (∀ i, Is (m ((c : Thread nD τ).loc main_arg1) i)) ∧ (∀ i, Is (m ((c : Thread nD τ).loc main_arg2) i))
  ∧ (∀ i, Is (m ((c : Thread nD τ).loc main_arg3) i)) ∧ (∀ i, Is (m ((c : Thread nD τ).loc main_arg4) i)) ∧ (∀ i, Is (m ((c : Thread nD τ).loc main_arg5) i))
  ∧ (∀ i, Is (m ((c : Thread nD τ).loc main_arg6) i)) ∧ (∀ i, Is (m ((c : Thread nD τ).loc main_arg7) i)) ∧ (∀ i, Is (m ((c : Thread nD τ).loc main_arg8) i))

/-- The queries of a row. -/
abbrev qs (c : Dev nD) (b : Fin 2) (s : Fin 2048) (q : Fin 1024) : EReal :=
  val_main_v18 (F := Ideal) (m ((c : Thread nD τ).loc main_arg0)) (m ((c : Thread nD τ).loc main_arg1)) (m ((c : Thread nD τ).loc main_arg2)) (ix3 b s q)
/-- The cotangents of the heads' outputs of a row. -/
abbrev os (c : Dev nD) (b : Fin 2) (s : Fin 2048) (q : Fin 1024) : EReal :=
  val_main_v58 (F := Ideal) (m ((c : Thread nD τ).loc main_arg5)) (m ((c : Thread nD τ).loc main_arg8)) (ix3 b s q)

theorem sixteenth_is : Is (Ideal.ofBits .f32 1031798784#32) := ⟨_, sixteenth⟩

theorem qs_is (c : Dev nD) (h : fin m c) (b : Fin 2) (s : Fin 2048) (q : Fin 1024) : Is (qs m c b s q) := by
  unfold qs
  pointwise [val_main_v18, val_main_v17, val_main_v16, val_main_v15, val_main_v14, val_main_v13, val_main_v12, val_main_v8, val_main_v7, val_main_v6, val_main_cst_1, val_main_v5, val_main_v4, val_main_cst_0, val_main_v3, val_main_v2, val_main_cst, val_main_v1, val_main_v0]
  exact Is.sum fun k => (((h.1 _).mul (Is.rsqrt fun _ => h.1 _)).mul (h.2.1 _)).mul (h.2.2.1 _)

theorem os_is (c : Dev nD) (h : fin m c) (b : Fin 2) (s : Fin 2048) (q : Fin 1024) : Is (os m c b s q) := by
  unfold os
  pointwise [val_main_v58, val_main_v56]
  exact Is.sum fun k => (h.2.2.2.2.2.2.2.2 _).mul (h.2.2.2.2.2.1 _)

theorem sc_is (c : Dev nD) (h : fin m c) (b : Fin 2) (k : Fin 4) (s : Fin 2048) (j : Fin 256) : Is (sc m c b k s j) := by
  rw [sc, ← ref_score (m ((c : Thread nD τ).loc main_arg0)) (m ((c : Thread nD τ).loc main_arg1)) (m ((c : Thread nD τ).loc main_arg2)) (m ((c : Thread nD τ).loc main_arg3)) b k s j _ rfl]
  exact (Is.sum fun _ => (qs_is m c h _ _ _).mul (h.2.2.2.1 _)).mul sixteenth_is

theorem ct_is (c : Dev nD) (h : fin m c) (b : Fin 2) (k : Fin 4) (s : Fin 2048) (j : Fin 256) : Is (ct m c b k s j) := by
  rw [ct, ← ref_cot (m ((c : Thread nD τ).loc main_arg4)) (m ((c : Thread nD τ).loc main_arg5)) (m ((c : Thread nD τ).loc main_arg8)) b k s j _ rfl]
  exact Is.sum fun _ => (os_is m c h _ _ _).mul (h.2.2.2.2.1 _)

/-- The slope of a row's score. -/
abbrev sl (c : Dev nD) (b : Fin 2) (k : Fin 4) (s : Fin 2048) (j : Fin 256) : EReal := slope (sc m c b k s) (ct m c b k s) j

theorem sl_is (c : Dev nD) (h : fin m c) (b : Fin 2) (k : Fin 4) (s : Fin 2048) (j : Fin 256) : Is (sl m c b k s j) :=
  slope_is (fun j => sc_is m c h b k s j) (fun j => ct_is m c h b k s j) j

/-- The queries' gradient. -/
abbrev dq (c : Dev nD) (b : Fin 2) (s : Fin 2048) (q : Fin 1024) : EReal :=
  val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (ix3 b s q)

theorem dq_eq (c : Dev nD) (h : fin m c) (b : Fin 2) (s : Fin 2048) (k : Fin 4) (d : Fin 256) (q : Fin 1024) (hq : q.val = k.val * 256 + d.val) :
    dq m c b s q = (∑ j, sl m c b k s j * m ((c : Thread nD τ).loc main_arg3) (ix3 b j q)) * Ideal.ofBits .f32 1031798784#32 := by
  have e1 : q.val / 256 = k.val := by omega
  have l (j) := ref_slope (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) b k s (fun j => sc_is m c h b k s j) (fun j => ct_is m c h b k s j) j
  unfold dq
  pointwise [val_main_v84, val_main_v81, val_main_v80, val_main_v20]
  simp only [show (⟨q.val / 256, by omega⟩ : Fin 4) = k from Fin.ext e1, l]
  exact scaled (fun j => sl_is m c h b k s j) (fun j => h.2.2.2.1 _) sixteenth_is

theorem keys8 (c : Dev nD) (t : Fin cfg0.N) (j : Fin 256) (q : Fin 1024) : k0_pay8 (iblk m c 3 t) (ix2 j q) = m ((c : Thread nD τ).loc main_arg3) (ix3 (seq t) j q) := by
  pointwise [k0_pay8]
  exact keys m c t j q

theorem dq0 (c : Dev nD) (h : fin m c) (t : Fin cfg0.N) (p : Fin 512) (d : Fin 256) : k0_pay18 (k0_pay8 (iblk m c 3 t)) (k0_pay10 (iblk m c 2 t) (iblk m c 3 t)) (k0_pay15 (k0_pay6 (iblk m c 0 t) (iblk m c 6 t)) (k0_pay9 (iblk m c 4 t)))
    (k0_pay16 (k0_pay6 (iblk m c 0 t) (iblk m c 6 t)) (k0_pay9 (iblk m c 4 t)) (k0_pay10 (iblk m c 2 t) (iblk m c 3 t))) (ix2 p d) = dq m c (seq t) (pos t p) ⟨d.val, by omega⟩ := by
  rw [dq_eq m c h _ _ 0 d _ (by simp)]
  pointwise [k0_pay18]
  simp only [slope0, keys8]
theorem dq1 (c : Dev nD) (h : fin m c) (t : Fin cfg0.N) (p : Fin 512) (d : Fin 256) : k0_pay23 (k0_pay22 (k0_pay6 (iblk m c 0 t) (iblk m c 6 t)) (k0_pay8 (iblk m c 3 t)) (k0_pay9 (iblk m c 4 t)) (k0_pay12 (k0_pay8 (iblk m c 3 t)) (k0_pay11 (iblk m c 2 t)))) (FloatOps.ofBits FTy.f32 1031798784#32) (ix2 p d)
    = dq m c (seq t) (pos t p) ⟨256 + d.val, by omega⟩ := by
  rw [dq_eq m c h _ _ 1 d _ (by simp)]
  pointwise [k0_pay23, k0_pay22]
  simp only [slope1, keys8]
theorem dq2 (c : Dev nD) (h : fin m c) (t : Fin cfg0.N) (p : Fin 512) (d : Fin 256) : k0_pay27 (k0_pay6 (iblk m c 0 t) (iblk m c 6 t)) (k0_pay8 (iblk m c 3 t)) (k0_pay9 (iblk m c 4 t)) (k0_pay13 (k0_pay7 (iblk m c 2 t)) (k0_pay8 (iblk m c 3 t))) (ix2 p d)
    = dq m c (seq t) (pos t p) ⟨512 + d.val, by omega⟩ := by
  rw [dq_eq m c h _ _ 2 d _ (by simp)]
  pointwise [k0_pay27]
  simp only [slope2, keys8]
theorem dq3 (c : Dev nD) (h : fin m c) (t : Fin cfg0.N) (p : Fin 512) (d : Fin 256) : k0_pay31 (k0_pay6 (iblk m c 0 t) (iblk m c 6 t)) (k0_pay8 (iblk m c 3 t)) (k0_pay9 (iblk m c 4 t)) (k0_pay14 (k0_pay7 (iblk m c 2 t)) (k0_pay8 (iblk m c 3 t))) (ix2 p d)
    = dq m c (seq t) (pos t p) ⟨768 + d.val, by omega⟩ := by
  rw [dq_eq m c h _ _ 3 d _ (by simp)]
  pointwise [k0_pay31]
  simp only [slope3, keys8]

/-- The head a column belongs to. -/
def head (q : Fin 1024) : Fin 4 := ⟨q.val / 256, by omega⟩

/-- A point's part of the keys' gradient. -/
def dkPart (c : Dev nD) (t : Fin cfg0.N) : (⟨2, ![256, 1024]⟩ : Shape).Idx → EReal :=
  fun i => (∑ p : Fin 512, sl m c (seq t) (head (i 1)) (pos t p) (i 0) * qs m c (seq t) (pos t p) (i 1)) * Ideal.ofBits .f32 1031798784#32
/-- A point's part of the values' gradient. -/
def dvPart (c : Dev nD) (t : Fin cfg0.N) : (⟨2, ![256, 1024]⟩ : Shape).Idx → EReal :=
  fun i => ∑ p : Fin 512, prob (sc m c (seq t) (head (i 1)) (pos t p)) (i 0) * os m c (seq t) (pos t p) (i 1)

theorem queries7 (c : Dev nD) (t : Fin cfg0.N) (p : Fin 512) (q : Fin 1024) : k0_pay7 (iblk m c 2 t) (ix2 p q) = qs m c (seq t) (pos t p) q := by
  pointwise [k0_pay7]
  exact queries m c t p q

variable (a : (⟨2, ![256, 256]⟩ : Shape).Idx → EReal)
theorem dk0 (c : Dev nD) (t : Fin cfg0.N) (j d : Fin 256) : k0_pay19 (k0_pay7 (iblk m c 2 t)) (k0_pay10 (iblk m c 2 t) (iblk m c 3 t)) (k0_pay15 (k0_pay6 (iblk m c 0 t) (iblk m c 6 t)) (k0_pay9 (iblk m c 4 t))) (k0_pay16 (k0_pay6 (iblk m c 0 t) (iblk m c 6 t)) (k0_pay9 (iblk m c 4 t)) (k0_pay10 (iblk m c 2 t) (iblk m c 3 t))) a (ix2 j d)
    = a (ix2 j d) + dkPart m c t (ix2 j ⟨d.val, by omega⟩) := by
  have e : head ⟨d.val, by omega⟩ = 0 := Fin.ext (show (d.val) / 256 = 0 by omega)
  pointwise [k0_pay19, dkPart]
  simp only [slope0, queries7, e]
theorem dk1 (c : Dev nD) (t : Fin cfg0.N) (j d : Fin 256) : k0_pay24 (k0_pay7 (iblk m c 2 t)) (k0_pay21 (k0_pay6 (iblk m c 0 t) (iblk m c 6 t)) (k0_pay9 (iblk m c 4 t)) (k0_pay12 (k0_pay8 (iblk m c 3 t)) (k0_pay11 (iblk m c 2 t)))) a (ix2 j d)
    = a (ix2 j d) + dkPart m c t (ix2 j ⟨256 + d.val, by omega⟩) := by
  have e : head ⟨256 + d.val, by omega⟩ = 1 := Fin.ext (show (256 + d.val) / 256 = 1 by omega)
  pointwise [k0_pay24, dkPart]
  simp only [slope1, queries7, e]
theorem dk2 (c : Dev nD) (t : Fin cfg0.N) (j d : Fin 256) : k0_pay28 (k0_pay7 (iblk m c 2 t)) (k0_pay26 (k0_pay6 (iblk m c 0 t) (iblk m c 6 t)) (k0_pay9 (iblk m c 4 t)) (k0_pay13 (k0_pay7 (iblk m c 2 t)) (k0_pay8 (iblk m c 3 t)))) a (ix2 j d)
    = a (ix2 j d) + dkPart m c t (ix2 j ⟨512 + d.val, by omega⟩) := by
  have e : head ⟨512 + d.val, by omega⟩ = 2 := Fin.ext (show (512 + d.val) / 256 = 2 by omega)
  pointwise [k0_pay28, dkPart]
  simp only [slope2, queries7, e]
theorem dk3 (c : Dev nD) (t : Fin cfg0.N) (j d : Fin 256) : k0_pay32 (k0_pay6 (iblk m c 0 t) (iblk m c 6 t)) (k0_pay7 (iblk m c 2 t)) (k0_pay9 (iblk m c 4 t)) (k0_pay14 (k0_pay7 (iblk m c 2 t)) (k0_pay8 (iblk m c 3 t))) a (ix2 j d)
    = a (ix2 j d) + dkPart m c t (ix2 j ⟨768 + d.val, by omega⟩) := by
  have e : head ⟨768 + d.val, by omega⟩ = 3 := Fin.ext (show (768 + d.val) / 256 = 3 by omega)
  pointwise [k0_pay32, dkPart]
  simp only [slope3, queries7, e]
theorem dv0 (c : Dev nD) (t : Fin cfg0.N) (j d : Fin 256) : k0_pay20 (k0_pay6 (iblk m c 0 t) (iblk m c 6 t)) (k0_pay10 (iblk m c 2 t) (iblk m c 3 t)) a (ix2 j d) = a (ix2 j d) + dvPart m c t (ix2 j ⟨d.val, by omega⟩) := by
  have e : head ⟨d.val, by omega⟩ = 0 := Fin.ext (show (d.val) / 256 = 0 by omega)
  pointwise [k0_pay20, dvPart]
  simp only [prob0, outs, e]
theorem dv1 (c : Dev nD) (t : Fin cfg0.N) (j d : Fin 256) : k0_pay25 (k0_pay6 (iblk m c 0 t) (iblk m c 6 t)) (k0_pay12 (k0_pay8 (iblk m c 3 t)) (k0_pay11 (iblk m c 2 t))) a (ix2 j d) = a (ix2 j d) + dvPart m c t (ix2 j ⟨256 + d.val, by omega⟩) := by
  have e : head ⟨256 + d.val, by omega⟩ = 1 := Fin.ext (show (256 + d.val) / 256 = 1 by omega)
  pointwise [k0_pay25, dvPart]
  simp only [prob1, outs, e]
theorem dv2 (c : Dev nD) (t : Fin cfg0.N) (j d : Fin 256) : k0_pay29 (k0_pay6 (iblk m c 0 t) (iblk m c 6 t)) (k0_pay13 (k0_pay7 (iblk m c 2 t)) (k0_pay8 (iblk m c 3 t))) a (ix2 j d) = a (ix2 j d) + dvPart m c t (ix2 j ⟨512 + d.val, by omega⟩) := by
  have e : head ⟨512 + d.val, by omega⟩ = 2 := Fin.ext (show (512 + d.val) / 256 = 2 by omega)
  pointwise [k0_pay29, dvPart]
  simp only [prob2, outs, e]
theorem dv3 (c : Dev nD) (t : Fin cfg0.N) (j d : Fin 256) : k0_pay33 (k0_pay6 (iblk m c 0 t) (iblk m c 6 t)) (k0_pay14 (k0_pay7 (iblk m c 2 t)) (k0_pay8 (iblk m c 3 t))) a (ix2 j d) = a (ix2 j d) + dvPart m c t (ix2 j ⟨768 + d.val, by omega⟩) := by
  have e : head ⟨768 + d.val, by omega⟩ = 3 := Fin.ext (show (768 + d.val) / 256 = 3 by omega)
  pointwise [k0_pay33, dvPart]
  simp only [prob3, outs, e]

end Cert.MidValue

end
-- ==== Proof.MidCols.lean ====
/- The gradients of the heads, gathered from their column blocks. -/
module

public import proofs.«01_k».proof.Proof.Gen.KernelMidIdeal.Value
public import proofs.«01_k».proof.Proof.Gen.ReferenceMidIdeal.Read
public import proofs.«01_k».proof.Proof.Sums
public import proofs.«01_k».proof.Proof.Reals
public import proofs.«01_k».proof.Proof.Soft
public import proofs.«01_k».proof.Proof.Columns
public import proofs.«01_k».proof.Proof.MidBlocks
public import proofs.«01_k».proof.Proof.MidHeads
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceMidIdeal.Read Cert.Soft Cert.Columns

namespace Cert.MidValue
open Cert.KernelMidIdeal Cert.KernelMidIdeal.Gen
variable (m : (ℓ : Loc nD τ sig) → Buf (Elt Ideal) ℓ)
/-- A block of the queries' gradient. -/
def dqB (c : Dev nD) (t : Fin cfg0.N) : (⟨2, ![512, 1024]⟩ : Shape).Idx → EReal := fun i => dq m c (seq t) (pos t (i 0)) (i 1)

theorem dq_stored (c : Dev nD) (h : fin m c) (t : Fin cfg0.N) : View.canon (Val := Elt Ideal) (e := .bf16) [⟨Rect.unit ![0, 768] ![512, 256] inb_S512x1024_S512x256_0_768, k0_pay31 (k0_pay6 (iblk m c 0 t) (iblk m c 6 t)) (k0_pay8 (iblk m c 3 t)) (k0_pay9 (iblk m c 4 t)) (k0_pay14 (k0_pay7 (iblk m c 2 t)) (k0_pay8 (iblk m c 3 t)))⟩,
    ⟨Rect.unit ![0, 512] ![512, 256] inb_S512x1024_S512x256_0_512, k0_pay27 (k0_pay6 (iblk m c 0 t) (iblk m c 6 t)) (k0_pay8 (iblk m c 3 t)) (k0_pay9 (iblk m c 4 t)) (k0_pay13 (k0_pay7 (iblk m c 2 t)) (k0_pay8 (iblk m c 3 t)))⟩,
    ⟨Rect.unit ![0, 256] ![512, 256] inb_S512x1024_S512x256_0_256, k0_pay23 (k0_pay22 (k0_pay6 (iblk m c 0 t) (iblk m c 6 t)) (k0_pay8 (iblk m c 3 t)) (k0_pay9 (iblk m c 4 t)) (k0_pay12 (k0_pay8 (iblk m c 3 t)) (k0_pay11 (iblk m c 2 t)))) (FloatOps.ofBits FTy.f32 1031798784#32)⟩,
    ⟨Rect.unit ![0, 0] ![512, 256] inb_S512x1024_S512x256_0_0, k0_pay18 (k0_pay8 (iblk m c 3 t)) (k0_pay10 (iblk m c 2 t) (iblk m c 3 t)) (k0_pay15 (k0_pay6 (iblk m c 0 t) (iblk m c 6 t)) (k0_pay9 (iblk m c 4 t)))
      (k0_pay16 (k0_pay6 (iblk m c 0 t) (iblk m c 6 t)) (k0_pay9 (iblk m c 4 t)) (k0_pay10 (iblk m c 2 t) (iblk m c 3 t)))⟩] = dqB m c t :=
  four (V := Elt Ideal) (e := .bf16) (n := 512) (dqB m c t) _ _ _ _ _ _ _ _ (fun p d => dq0 m c h t p d) (fun p d => dq1 m c h t p d) (fun p d => dq2 m c h t p d) (fun p d => dq3 m c h t p d) []

theorem dq_read (c : Dev nD) (h : fin m c) (t : Fin cfg0.N) : (ms0_11 t).view.readCov (Val := Elt Ideal) [⟨Rect.unit ![0, 768] ![512, 256] inb_S512x1024_S512x256_0_768, k0_pay31 (k0_pay6 (iblk m c 0 t) (iblk m c 6 t)) (k0_pay8 (iblk m c 3 t)) (k0_pay9 (iblk m c 4 t)) (k0_pay14 (k0_pay7 (iblk m c 2 t)) (k0_pay8 (iblk m c 3 t)))⟩,
    ⟨Rect.unit ![0, 512] ![512, 256] inb_S512x1024_S512x256_0_512, k0_pay27 (k0_pay6 (iblk m c 0 t) (iblk m c 6 t)) (k0_pay8 (iblk m c 3 t)) (k0_pay9 (iblk m c 4 t)) (k0_pay13 (k0_pay7 (iblk m c 2 t)) (k0_pay8 (iblk m c 3 t)))⟩,
    ⟨Rect.unit ![0, 256] ![512, 256] inb_S512x1024_S512x256_0_256, k0_pay23 (k0_pay22 (k0_pay6 (iblk m c 0 t) (iblk m c 6 t)) (k0_pay8 (iblk m c 3 t)) (k0_pay9 (iblk m c 4 t)) (k0_pay12 (k0_pay8 (iblk m c 3 t)) (k0_pay11 (iblk m c 2 t)))) (FloatOps.ofBits FTy.f32 1031798784#32)⟩,
    ⟨Rect.unit ![0, 0] ![512, 256] inb_S512x1024_S512x256_0_0, k0_pay18 (k0_pay8 (iblk m c 3 t)) (k0_pay10 (iblk m c 2 t) (iblk m c 3 t)) (k0_pay15 (k0_pay6 (iblk m c 0 t) (iblk m c 6 t)) (k0_pay9 (iblk m c 4 t)))
      (k0_pay16 (k0_pay6 (iblk m c 0 t) (iblk m c 6 t)) (k0_pay9 (iblk m c 4 t)) (k0_pay10 (iblk m c 2 t) (iblk m c 3 t)))⟩] (Rect.unit ![0, 0] ![512, 1024] inb_S512x1024_S512x1024_0_0).toLoadRect = dqB m c t := by
  rw [View.readCov_eq_canon', dq_stored m c h t]
  funext j
  refine congrArg (dqB m c t) (funext fun a => Fin.ext ?_)
  match a with
  | ⟨0, _⟩ => exact (Nat.zero_add _).trans (Nat.one_mul _)
  | ⟨1, _⟩ => exact (Nat.zero_add _).trans (Nat.one_mul _)

/-- What every point leaves of the queries' gradient. -/
theorem dq_left (c : Dev nD) (h : fin m c) (t : Fin cfg0.N) : (outsAt0 m c t.val t.isLt).2.1 = dqB m c t := by
  by_cases h0 : t.val % 8 = 0
  · rw [outsAt0_A m c t h0 (by omega)]; frame_out; exact dq_stored m c h t
  by_cases h1 : t.val % 4 = 0
  · rw [outsAt0_C m c t h0 h1]; frame_out; exact dq_stored m c h t
  · rw [outsAt0_B m c t h0 h1]; frame_out; exact dq_stored m c h t

theorem zero3 (i) : k0_pay3 (F := Ideal) i = 0 := by
  pointwise [k0_pay3]
theorem zero4 (i) : k0_pay4 (F := Ideal) i = 0 := by
  pointwise [k0_pay4]

/-- A column block of an array, read. -/
theorem column (G : (⟨2, ![256, 1024]⟩ : Shape).Idx → EReal) (o : ℕ) (i : ∀ a, (![0, o] : Fin 2 → ℕ) a + (![256, 256] : Fin 2 → ℕ) a ≤ (⟨2, ![256, 1024]⟩ : Shape).size a)
    (ho : o + 256 ≤ 1024) (p d : Fin 256) : View.ld (Val := Elt Ideal) (e' := .f32) G (Rect.unit (s := ⟨2, ![256, 1024]⟩) ![0, o] ![256, 256] i) (ix2 p d) = G (ix2 p ⟨o + d.val, by omega⟩) := by
  refine congrArg G (funext fun a => Fin.ext ?_)
  match a with
  | ⟨0, _⟩ => exact (Nat.zero_add _).trans (Nat.one_mul _)
  | ⟨1, _⟩ => exact congrArg (o + ·) (Nat.one_mul _)

theorem dk_first (c : Dev nD) (t : Fin cfg0.N) (h1 : t.val % 4 = 0) : (outsAt0 m c t.val t.isLt).2.2.2.2.2.1 = fun i => 0 + dkPart m c t i := by
  by_cases h0 : t.val % 8 = 0
  on_goal 1 => rw [outsAt0_A m c t h0 h1]
  on_goal 2 => rw [outsAt0_C m c t h0 h1]
  all_goals
    frame_out
    refine four _ _ _ _ _ _ _ _ _ (fun p d => ?_) (fun p d => ?_) (fun p d => ?_) (fun p d => ?_) _
    · rw [dk0, View.readCov_fill _ _ _ _ _ (by decide)]; exact congrArg (· + dkPart m c t (ix2 p ⟨d.val, by omega⟩)) (zero3 _)
    · rw [dk1, View.readCov_skip _ _ _ _ _ rfl, View.readCov_fill _ _ _ _ _ (by decide)]; exact congrArg (· + dkPart m c t (ix2 p ⟨256 + d.val, by omega⟩)) (zero3 _)
    · rw [dk2, View.readCov_skip _ _ _ _ _ rfl, View.readCov_skip _ _ _ _ _ rfl, View.readCov_fill _ _ _ _ _ (by decide)]; exact congrArg (· + dkPart m c t (ix2 p ⟨512 + d.val, by omega⟩)) (zero3 _)
    · rw [dk3, View.readCov_skip _ _ _ _ _ rfl, View.readCov_skip _ _ _ _ _ rfl, View.readCov_skip _ _ _ _ _ rfl, View.readCov_fill _ _ _ _ _ (by decide)]; exact congrArg (· + dkPart m c t (ix2 p ⟨768 + d.val, by omega⟩)) (zero3 _)

theorem dk_next (c : Dev nD) (t : Fin cfg0.N) (h1 : ¬t.val % 4 = 0) :
    (outsAt0 m c t.val t.isLt).2.2.2.2.2.1 = fun i => (outsAt0 m c (t.val - 1) (Nat.lt_of_le_of_lt (Nat.sub_le _ _) t.isLt)).2.2.2.2.2.1 i + dkPart m c t i := by
  rw [outsAt0_B m c t (by omega) h1]
  frame_out
  refine four _ _ _ _ _ _ _ _ _ (fun p d => ?_) (fun p d => ?_) (fun p d => ?_) (fun p d => ?_) []
  · rw [dk0, column _ 0 _ (by norm_num)]; simp only [zero_add]
  · rw [dk1, column _ 256 _ (by norm_num)]
  · rw [dk2, column _ 512 _ (by norm_num)]
  · rw [dk3, column _ 768 _ (by norm_num)]

theorem dv_first (c : Dev nD) (t : Fin cfg0.N) (h1 : t.val % 4 = 0) : (outsAt0 m c t.val t.isLt).2.2.2.2.2.2.1 = fun i => 0 + dvPart m c t i := by
  by_cases h0 : t.val % 8 = 0
  on_goal 1 => rw [outsAt0_A m c t h0 h1]
  on_goal 2 => rw [outsAt0_C m c t h0 h1]
  all_goals
    frame_out
    refine four _ _ _ _ _ _ _ _ _ (fun p d => ?_) (fun p d => ?_) (fun p d => ?_) (fun p d => ?_) _
    · rw [dv0, View.readCov_fill _ _ _ _ _ (by decide)]; exact congrArg (· + dvPart m c t (ix2 p ⟨d.val, by omega⟩)) (zero4 _)
    · rw [dv1, View.readCov_skip _ _ _ _ _ rfl, View.readCov_fill _ _ _ _ _ (by decide)]; exact congrArg (· + dvPart m c t (ix2 p ⟨256 + d.val, by omega⟩)) (zero4 _)
    · rw [dv2, View.readCov_skip _ _ _ _ _ rfl, View.readCov_skip _ _ _ _ _ rfl, View.readCov_fill _ _ _ _ _ (by decide)]; exact congrArg (· + dvPart m c t (ix2 p ⟨512 + d.val, by omega⟩)) (zero4 _)
    · rw [dv3, View.readCov_skip _ _ _ _ _ rfl, View.readCov_skip _ _ _ _ _ rfl, View.readCov_skip _ _ _ _ _ rfl, View.readCov_fill _ _ _ _ _ (by decide)]; exact congrArg (· + dvPart m c t (ix2 p ⟨768 + d.val, by omega⟩)) (zero4 _)

theorem dv_next (c : Dev nD) (t : Fin cfg0.N) (h1 : ¬t.val % 4 = 0) :
    (outsAt0 m c t.val t.isLt).2.2.2.2.2.2.1 = fun i => (outsAt0 m c (t.val - 1) (Nat.lt_of_le_of_lt (Nat.sub_le _ _) t.isLt)).2.2.2.2.2.2.1 i + dvPart m c t i := by
  rw [outsAt0_B m c t (by omega) h1]
  frame_out
  refine four _ _ _ _ _ _ _ _ _ (fun p d => ?_) (fun p d => ?_) (fun p d => ?_) (fun p d => ?_) []
  · rw [dv0, column _ 0 _ (by norm_num)]; simp only [zero_add]
  · rw [dv1, column _ 256 _ (by norm_num)]
  · rw [dv2, column _ 512 _ (by norm_num)]
  · rw [dv3, column _ 768 _ (by norm_num)]

end Cert.MidValue

end
-- ==== Proof.MidNorm.lean ====
/- The norm's gradient and the products after it. -/
module

public import proofs.«01_k».proof.Proof.Gen.KernelMidIdeal.Value
public import proofs.«01_k».proof.Proof.Gen.ReferenceMidIdeal.Read
public import proofs.«01_k».proof.Proof.Sums
public import proofs.«01_k».proof.Proof.Reals
public import proofs.«01_k».proof.Proof.Soft
public import proofs.«01_k».proof.Proof.MidBlocks
public import proofs.«01_k».proof.Proof.MidCols
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceMidIdeal.Read Cert.Soft

namespace Cert.MidValue
open Cert.KernelMidIdeal Cert.KernelMidIdeal.Gen
variable (m : (ℓ : Loc nD τ sig) → Buf (Elt Ideal) ℓ)
open Cert.Reals

/-- The cotangent of the norm's result. -/
abbrev dy (c : Dev nD) (b : Fin 2) (s : Fin 2048) (q : Fin 1024) : EReal :=
  val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (ix3 b s q)
/-- The gradient of the norm's argument, with the cotangent that passes it by. -/
abbrev dx (c : Dev nD) (b : Fin 2) (s : Fin 2048) (q : Fin 1024) : EReal :=
  val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (ix3 b s q)

theorem dq_is (c : Dev nD) (h : fin m c) (b : Fin 2) (s : Fin 2048) (q : Fin 1024) : Is (dq m c b s q) := by
  rw [dq_eq m c h b s ⟨q.val / 256, by omega⟩ ⟨q.val % 256, by omega⟩ q (by simp only; omega)]
  exact (Is.sum fun j => (sl_is m c h _ _ _ _).mul (h.2.2.2.1 _)).mul sixteenth_is

theorem dy_is (c : Dev nD) (h : fin m c) (b : Fin 2) (s : Fin 2048) (q : Fin 1024) : Is (dy m c b s q) := by
  unfold dy
  pointwise [val_main_v85, val_main_v17]
  exact Is.sum fun j => (dq_is m c h _ _ _).mul (h.2.2.1 _)

theorem dy_block (c : Dev nD) (t : Fin cfg0.N) (p : Fin 512) (q : Fin 1024) : k0_pay34 (dqB m c t) (iblk m c 7 t) (ix2 p q) = dy m c (seq t) (pos t p) q := by
  unfold dy
  pointwise [k0_pay34, val_main_v85, val_main_v17]
  simp only [first]
  rfl

theorem dx_block (c : Dev nD) (h : fin m c) (t : Fin cfg0.N) (p : Fin 512) (q : Fin 1024) :
    k0_pay40 (k0_pay5 (iblk m c 0 t)) (k0_pay38 (dqB m c t) (iblk m c 7 t) (iblk m c 1 t) (iblk m c 9 t)) (k0_pay39 (iblk m c 1 t)) (ix2 p q) = dx m c (seq t) (pos t p) q := by
  have n := norm (fun k => m ((c : Thread nD τ).loc main_arg0) (ix3 (seq t) (pos t p) k)) (fun k => dy m c (seq t) (pos t p) k) (fun k => m ((c : Thread nD τ).loc main_arg1) (ix2 0 k))
    (fun _ => h.1 _) (fun _ => dy_is m c h _ _ _) (fun _ => h.2.1 _) (m ((c : Thread nD τ).loc main_arg8) (ix3 (seq t) (pos t p) q)) q
  unfold dx
  pointwise [k0_pay40, k0_pay5, k0_pay38, k0_pay39, k0_pay37, k0_pay36, k0_pay35]
  simp only [cotangent, rows, gain, dy_block]
  refine n.trans ?_
  pointwise [val_main_v107, val_main_v105, val_main_v104, val_main_v103, val_main_v102, val_main_v101, val_main_v100, val_main_cst_21, val_main_v99, val_main_v98, val_main_cst_20, val_main_v97, val_main_v96, val_main_v95, val_main_v94, val_main_v93, val_main_cst_19, val_main_v92, val_main_v90, val_main_v89,
    val_main_v14, val_main_v0, val_main_v11, val_main_v10, val_main_cst_2, val_main_v9, val_main_v8, val_main_v7, val_main_v6, val_main_cst_1, val_main_v5, val_main_v4, val_main_cst_0, val_main_v3, val_main_v2, val_main_cst, val_main_v1]
  simp only [Fin.sum_univ_one, Fin.isValue, meansq, add_assoc]

/-- A block of the gradient of the norm's argument. -/
def dxB (c : Dev nD) (t : Fin cfg0.N) : (⟨2, ![512, 1024]⟩ : Shape).Idx → EReal := fun i => dx m c (seq t) (pos t (i 0)) (i 1)

theorem dx_stored (c : Dev nD) (h : fin m c) (t : Fin cfg0.N) : k0_pay40 (k0_pay5 (iblk m c 0 t)) (k0_pay38 (dqB m c t) (iblk m c 7 t) (iblk m c 1 t) (iblk m c 9 t)) (k0_pay39 (iblk m c 1 t)) = dxB m c t := by
  funext y
  obtain ⟨p, q, rfl⟩ : ∃ (p : Fin 512) (q : Fin 1024), y = ix2 p q := ⟨y 0, y 1, eq_ix2 y⟩
  exact dx_block m c h t p q

theorem dx_left (c : Dev nD) (h : fin m c) (t : Fin cfg0.N) : (outsAt0 m c t.val t.isLt).1 = dxB m c t := by
  by_cases h0 : t.val % 8 = 0
  · rw [outsAt0_A m c t h0 (by omega)]; frame_out; rw [dq_read m c h t, dx_stored m c h t]
  by_cases h1 : t.val % 4 = 0
  · rw [outsAt0_C m c t h0 h1]; frame_out; rw [dq_read m c h t, dx_stored m c h t]
  · rw [outsAt0_B m c t h0 h1]; frame_out; rw [dq_read m c h t, dx_stored m c h t]

theorem bound (t : Fin cfg0.N) (p : Fin 512) : t.val * 512 + p.val < 4096 := by
  have := (Fin.cast N_0 t).isLt; simp only [Fin.val_cast] at this; omega
theorem seq_of (t : Fin cfg0.N) (p : Fin 512) (h : (t.val * 512 + p.val) / 2048 < 2) : (⟨(t.val * 512 + p.val) / 2048, h⟩ : Fin 2) = seq t := seq_eq t p h
theorem pos_of (t : Fin cfg0.N) (p : Fin 512) (h : (t.val * 512 + p.val) % 2048 < 2048) : (⟨(t.val * 512 + p.val) % 2048, h⟩ : Fin 2048) = pos t p := pos_eq t p h

/-- The gradient of the norm's argument, with the cotangent that passes it by. -/
theorem input (c : Dev nD) (h : fin m c) : (dats m 0 c).arrAt 10 (cfgs 0).N = val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  refine (dats m 0 c).arrAt_eq_of_covers 10 _ (by decide +kernel) fun t hf y => ?_
  obtain ⟨p, q, rfl⟩ : ∃ (p : Fin 512) (q : Fin 1024), y = ix2 p q := ⟨y 0, y 1, eq_ix2 y⟩
  have e : ((View.whole main_v31_0).slice (win0_10.rect t)).emb (ix2 p q) = ix2 ⟨t.val * 512 + p.val, bound t p⟩ q := by blk_ext [place t]
  blk_simp
  rw [e, after0_10, dx_left m c h t]
  pointwise [val_main_v120]
  simp only [seq_of, pos_of]
  rfl

/-- The gradient of the queries. -/
theorem query (c : Dev nD) (h : fin m c) : (dats m 0 c).arrAt 11 (cfgs 0).N = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  refine (dats m 0 c).arrAt_eq_of_covers 11 _ (by decide +kernel) fun t hf y => ?_
  obtain ⟨p, q, rfl⟩ : ∃ (p : Fin 512) (q : Fin 1024), y = ix2 p q := ⟨y 0, y 1, eq_ix2 y⟩
  have e : ((View.whole main_v31_1).slice (win0_11.rect t)).emb (ix2 p q) = ix2 ⟨t.val * 512 + p.val, bound t p⟩ q := by blk_ext [place t]
  blk_simp
  rw [e, after0_11, dq_left m c h t]
  pointwise [val_main_v122, val_main_v121]
  simp only [seq_of, pos_of]
  rfl

/-- The cotangent of the concatenation before the mixing projection. -/
abbrev dm (c : Dev nD) (b : Fin 2) (s : Fin 2048) (q : Fin 1024) : EReal :=
  val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (ix3 b s q)

theorem mix_block (c : Dev nD) (h : fin m c) (t : Fin cfg0.N) (p q : Fin 512) :
    k0_pay43 (k0_pay5 (iblk m c 0 t)) (k0_pay38 (dqB m c t) (iblk m c 7 t) (iblk m c 1 t) (iblk m c 9 t)) (k0_pay39 (iblk m c 1 t)) (View.ld (Val := Elt Ideal) (e' := .bf16) (iblk m c 8 t) (Rect.unit ![0, 0] ![512, 1024] inb_S1024x1024_S512x1024_0_0)) (ix2 p q)
      = dm m c (seq t) (pos t p) ⟨q.val, by omega⟩ := by
  unfold dm
  pointwise [k0_pay43, k0_pay42, val_main_v109, val_main_v108]
  rw [dx_stored m c h t]
  simp only [mix]
  rfl

theorem mix_left (c : Dev nD) (h : fin m c) (t : Fin cfg0.N) (p q : Fin 512) : (outsAt0 m c t.val t.isLt).2.2.1 (ix2 p q) = dm m c (seq t) (pos t p) ⟨q.val, by omega⟩ := by
  by_cases h0 : t.val % 8 = 0
  · rw [outsAt0_A m c t h0 (by omega)]; frame_out; rw [dq_read m c h t]; exact mix_block m c h t p q
  by_cases h1 : t.val % 4 = 0
  · rw [outsAt0_C m c t h0 h1]; frame_out; rw [dq_read m c h t]; exact mix_block m c h t p q
  · rw [outsAt0_B m c t h0 h1]; frame_out; rw [dq_read m c h t]; exact mix_block m c h t p q

end Cert.MidValue

end
-- ==== Proof.MidSum.lean ====
/- The sums over a head of the elementwise products. -/
module

public import proofs.«01_k».proof.Proof.Gen.KernelMidIdeal.Value
public import proofs.«01_k».proof.Proof.Gen.ReferenceMidIdeal.Read
public import proofs.«01_k».proof.Proof.Sums
public import proofs.«01_k».proof.Proof.Reals
public import proofs.«01_k».proof.Proof.Soft
public import proofs.«01_k».proof.Proof.MidBlocks
public import proofs.«01_k».proof.Proof.MidCols
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceMidIdeal.Read Cert.Soft

namespace Cert.MidValue
open Cert.KernelMidIdeal Cert.KernelMidIdeal.Gen
variable (m : (ℓ : Loc nD τ sig) → Buf (Elt Ideal) ℓ)
open Cert.Reals

theorem column_head (k q : Fin 512) : k0_pay50 (ix2 k q) = BitVec.ofNat 32 (q.val / 64) := by
  pointwise [k0_pay50]
  revert q
  decide +kernel

theorem row_quot (k q : Fin 512) : k0_pay51 (ix2 k q) = BitVec.ofNat 32 (k.val / 64) := by
  pointwise [k0_pay51]
  revert k
  decide +kernel

theorem row_sign (k q : Fin 512) : k0_pay52 (ix2 k q) = if k.val = 0 then 0#32 else 1#32 := by
  pointwise [k0_pay52]
  revert k
  decide +kernel

theorem row_head (k : Fin 512) : Scalar.select (IntOp.andi (IntOp.cmpi CmpIPredicate.ne (if k.val = 0 then 0#32 else 1#32) (Scalar.subi 1#32 0#32))
    (IntOp.cmpi CmpIPredicate.ne (IntOp.remsi ArithUnit.vector (BitVec.ofNat 32 k.val) 64#32) 0#32)) (IntOp.subi (BitVec.ofNat 32 (k.val / 64)) 1#32) (BitVec.ofNat 32 (k.val / 64)) = BitVec.ofNat 32 (k.val / 64) := by
  revert k
  decide +kernel

theorem same : ∀ a b : Fin 8, BitVec.setWidth 32 (IntOp.cmpi CmpIPredicate.eq (BitVec.ofNat 32 a.val) (BitVec.ofNat 32 b.val)) = if b = a then 1#32 else 0#32 := by
  decide +kernel

/-- The mask of a head, as a number. -/
theorem mask (k q : Fin 512) : (FloatOps.sitofp (F := Ideal) FTy.f32 (BitVec.setWidth 32 (IntOp.cmpi CmpIPredicate.eq (BitVec.ofNat 32 (q.val / 64)) (BitVec.ofNat 32 (k.val / 64)))) : EReal)
    = if k.val / 64 = q.val / 64 then 1 else 0 := by
  have e := same ⟨q.val / 64, by omega⟩ ⟨k.val / 64, by omega⟩
  simp only [Fin.mk.injEq] at e
  rw [e]
  split
  · show (((1#32).toInt : ℝ) : EReal) = 1
    simp
  · show (((0#32).toInt : ℝ) : EReal) = 0
    simp

theorem summed (v : (⟨2, ![512, 512]⟩ : Shape).Idx → EReal) (p q : Fin 512) (hv : ∀ k, Is (v (ix2 p k))) :
    k0_pay1 (F := Ideal) v k0_pay50 (iota Kind.tc S512x512 32 [0] iota_S512x512_d0_w32) (64#32) k0_pay51 k0_pay52 (1#32) (0#32) (ix2 p q) = ∑ k : Fin 512, if k.val / 64 = q.val / 64 then v (ix2 p k) else 0 := by
  pointwise [k0_pay1]
  simp only [column_head, row_quot, row_sign, row_head, mask]
  have z (k) : v (ix2 p k) - v (ix2 p k) = 0 := by
    obtain ⟨a, e⟩ := hv k
    rw [e, ← EReal.coe_sub, sub_self]; rfl
  simp only [z, sub_zero, zero_mul, Finset.sum_const_zero, add_zero, mul_ite, mul_one, mul_zero, ite_self]
end Cert.MidValue

end
-- ==== Proof.MidTail.lean ====
/- The gradients before the mixing projection. -/
module

public import proofs.«01_k».proof.Proof.Gen.KernelMidIdeal.Value
public import proofs.«01_k».proof.Proof.Gen.ReferenceMidIdeal.Read
public import proofs.«01_k».proof.Proof.Sums
public import proofs.«01_k».proof.Proof.Reals
public import proofs.«01_k».proof.Proof.Soft
public import proofs.«01_k».proof.Proof.MidBlocks
public import proofs.«01_k».proof.Proof.MidNorm
public import proofs.«01_k».proof.Proof.MidSum
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceMidIdeal.Read Cert.Soft Cert.Reals

namespace Cert.MidValue
open Cert.KernelMidIdeal Cert.KernelMidIdeal.Gen
variable (m : (ℓ : Loc nD τ sig) → Buf (Elt Ideal) ℓ)

theorem dx_is (c : Dev nD) (h : fin m c) (t : Fin cfg0.N) (p : Fin 512) (q : Fin 1024) : Is (dx m c (seq t) (pos t p) q) := by
  let X : Fin 1024 → EReal := fun k => m ((c : Thread nD τ).loc main_arg0) (ix3 (seq t) (pos t p) k)
  let G : Fin 1024 → EReal := fun k => m ((c : Thread nD τ).loc main_arg1) (ix2 0 k)
  have r : Is (Ideal.rsqrt (meansq X)) := Is.rsqrt fun _ => h.1 _
  have s : Is (∑ k, dy m c (seq t) (pos t p) k * G k * (X k * Ideal.rsqrt (meansq X))) :=
    Is.sum fun k => ((dy_is m c h _ _ _).mul (h.2.1 _)).mul ((h.1 _ : Is (X k)).mul r)
  have d := (h.2.2.2.2.2.2.2.2 (ix3 (seq t) (pos t p) q)).add (r.mul (((dy_is m c h (seq t) (pos t p) q).mul (h.2.1 (ix2 0 q))).sub (((h.1 (ix3 (seq t) (pos t p) q)).mul r).mul (s.mean))))
  rw [← dx_block m c h t p q]
  pointwise [k0_pay40, k0_pay5, k0_pay38, k0_pay39, k0_pay37, k0_pay36, k0_pay35]
  simp only [cotangent, rows, gain, dy_block]
  exact d

theorem tail_block (c : Dev nD) (h : fin m c) (t : Fin cfg0.N) (p q : Fin 512) :
    k0_pay44 (k0_pay5 (iblk m c 0 t)) (k0_pay38 (dqB m c t) (iblk m c 7 t) (iblk m c 1 t) (iblk m c 9 t)) (k0_pay39 (iblk m c 1 t)) (View.ld (Val := Elt Ideal) (e' := .bf16) (iblk m c 8 t) (Rect.unit ![512, 0] ![512, 1024] inb_S1024x1024_S512x1024_512_0)) (ix2 p q) = dm m c (seq t) (pos t p) ⟨512 + q.val, by omega⟩ := by
  unfold dm
  pointwise [k0_pay44, k0_pay42, val_main_v109, val_main_v108]
  rw [dx_stored m c h t]
  simp only [mix]
  rfl

theorem tail_block' (c : Dev nD) (h : fin m c) (t : Fin cfg0.N) (p q : Fin 512) :
    k0_pay45 (k0_pay5 (iblk m c 0 t)) (k0_pay38 (dqB m c t) (iblk m c 7 t) (iblk m c 1 t) (iblk m c 9 t)) (k0_pay39 (iblk m c 1 t)) (View.ld (Val := Elt Ideal) (e' := .bf16) (iblk m c 8 t) (Rect.unit ![512, 0] ![512, 1024] inb_S1024x1024_S512x1024_512_0)) (ix2 p q) = dm m c (seq t) (pos t p) ⟨512 + q.val, by omega⟩ := by
  pointwise [k0_pay45]
  exact tail_block m c h t p q

theorem tail_left (c : Dev nD) (h : fin m c) (t : Fin cfg0.N) (p q : Fin 512) : (outsAt0 m c t.val t.isLt).2.2.2.1 (ix2 p q) = dm m c (seq t) (pos t p) ⟨512 + q.val, by omega⟩ := by
  by_cases h0 : t.val % 8 = 0
  · rw [outsAt0_A m c t h0 (by omega)]; frame_out; rw [dq_read m c h t]; exact tail_block' m c h t p q
  by_cases h1 : t.val % 4 = 0
  · rw [outsAt0_C m c t h0 h1]; frame_out; rw [dq_read m c h t]; exact tail_block' m c h t p q
  · rw [outsAt0_B m c t h0 h1]; frame_out; rw [dq_read m c h t]; exact tail_block' m c h t p q

/-- The gradient of the first half of the concatenation. -/
theorem carried (c : Dev nD) (h : fin m c) : (dats m 0 c).arrAt 12 (cfgs 0).N = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  refine (dats m 0 c).arrAt_eq_of_covers 12 _ (by decide +kernel) fun t hf y => ?_
  obtain ⟨p, q, rfl⟩ : ∃ (p : Fin 512) (q : Fin 512), y = ix2 p q := ⟨y 0, y 1, eq_ix2 y⟩
  have e : ((View.whole main_v31_2).slice (win0_12.rect t)).emb (ix2 p q) = ix2 ⟨t.val * 512 + p.val, bound t p⟩ q := by blk_ext [place t]
  blk_simp
  rw [e, after0_12, mix_left m c h t]
  pointwise [val_main_v111, val_main_v110]
  simp only [seq_of, pos_of]

/-- The gradient of the second half of the concatenation. -/
theorem attended (c : Dev nD) (h : fin m c) : (dats m 0 c).arrAt 13 (cfgs 0).N = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  refine (dats m 0 c).arrAt_eq_of_covers 13 _ (by decide +kernel) fun t hf y => ?_
  obtain ⟨p, q, rfl⟩ : ∃ (p : Fin 512) (q : Fin 512), y = ix2 p q := ⟨y 0, y 1, eq_ix2 y⟩
  have e : ((View.whole main_v31_3).slice (win0_13.rect t)).emb (ix2 p q) = ix2 ⟨t.val * 512 + p.val, bound t p⟩ q := by blk_ext [place t]
  blk_simp
  rw [e, after0_13, tail_left m c h t]
  pointwise [val_main_v123, val_main_v113, val_main_v112]
  simp only [seq_of, pos_of]

theorem dm_is (c : Dev nD) (h : fin m c) (t : Fin cfg0.N) (p : Fin 512) (q : Fin 1024) : Is (dm m c (seq t) (pos t p) q) := by
  unfold dm
  pointwise [val_main_v109, val_main_v108]
  exact Is.sum fun k => (dx_is m c h t p k).mul (h.2.2.2.2.2.2.1 _)

/-- The sums over a head of the products with the saved output. -/
def rowsum (c : Dev nD) (t : Fin cfg0.N) (p q : Fin 512) : EReal :=
  ∑ k : Fin 512, if k.val / 64 = q.val / 64 then dm m c (seq t) (pos t p) ⟨512 + k.val, by omega⟩ * m ((c : Thread nD τ).loc main_arg7) (ix3 (seq t) (pos t p) k) else 0

theorem sum_block (c : Dev nD) (h : fin m c) (t : Fin cfg0.N) (p q : Fin 512) :
    k0_pay1 (F := Ideal) (k0_pay49 (k0_pay45 (k0_pay5 (iblk m c 0 t)) (k0_pay38 (dqB m c t) (iblk m c 7 t) (iblk m c 1 t) (iblk m c 9 t)) (k0_pay39 (iblk m c 1 t)) (View.ld (Val := Elt Ideal) (e' := .bf16) (iblk m c 8 t) (Rect.unit ![512, 0] ![512, 1024] inb_S1024x1024_S512x1024_512_0))) (iblk m c 5 t)) k0_pay50 (iota Kind.tc S512x512 32 [0] iota_S512x512_d0_w32) (64#32) k0_pay51 k0_pay52 (1#32) (0#32) (ix2 p q) = rowsum m c t p q := by
  have e (k : Fin 512) : k0_pay49 (F := Ideal) (k0_pay45 (k0_pay5 (iblk m c 0 t)) (k0_pay38 (dqB m c t) (iblk m c 7 t) (iblk m c 1 t) (iblk m c 9 t)) (k0_pay39 (iblk m c 1 t)) (View.ld (Val := Elt Ideal) (e' := .bf16) (iblk m c 8 t) (Rect.unit ![512, 0] ![512, 1024] inb_S1024x1024_S512x1024_512_0))) (iblk m c 5 t) (ix2 p k) = dm m c (seq t) (pos t p) ⟨512 + k.val, by omega⟩ * m ((c : Thread nD τ).loc main_arg7) (ix3 (seq t) (pos t p) k) := by
    pointwise [k0_pay49]
    rw [heads]
    exact congrArg (· * _) (tail_block' m c h t p k)
  refine (summed _ p q fun k => (e k).symm ▸ (dm_is m c h _ _ _).mul (h.2.2.2.2.2.2.2.1 _)).trans ?_
  simp only [e, rowsum]

theorem sum_left (c : Dev nD) (h : fin m c) (t : Fin cfg0.N) (p q : Fin 512) : (outsAt0 m c t.val t.isLt).2.2.2.2.1 (ix2 p q) = rowsum m c t p q := by
  by_cases h0 : t.val % 8 = 0
  · rw [outsAt0_A m c t h0 (by omega)]; frame_out; rw [dq_read m c h t]; exact sum_block m c h t p q
  by_cases h1 : t.val % 4 = 0
  · rw [outsAt0_C m c t h0 h1]; frame_out; rw [dq_read m c h t]; exact sum_block m c h t p q
  · rw [outsAt0_B m c t h0 h1]; frame_out; rw [dq_read m c h t]; exact sum_block m c h t p q

/-- The sums of the products with the saved output, one for each head, in all its columns. -/
theorem sums (c : Dev nD) (h : fin m c) : (dats m 0 c).arrAt 14 (cfgs 0).N = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  obtain ⟨p, q, rfl⟩ : ∃ (p : Fin 512) (q : Fin 512), y = ix2 p q := ⟨y 0, y 1, eq_ix2 y⟩
  have e : ((View.whole main_v31_4).slice (win0_14.rect t)).emb (ix2 p q) = ix2 ⟨t.val * 512 + p.val, bound t p⟩ q := by blk_ext [place t]
  blk_simp
  rw [e, after0_14, sum_left m c h t]
  pointwise [val_main_v126, val_main_v125, val_main_v124, val_main_v117, val_main_cst_22, val_main_v116, val_main_v115, val_main_v114, val_main_v113, val_main_v112]
  simp only [seq_of, pos_of]
  exact Cert.Sums.group (M := EReal) _ _ (by omega)

end Cert.MidValue

end
-- ==== Proof.MidTurn.lean ====
/- The transposed copy of the gradient of the attention's output. -/
module

public import proofs.«01_k».proof.Proof.Gen.KernelMidIdeal.Value
public import proofs.«01_k».proof.Proof.Gen.ReferenceMidIdeal.Read
public import proofs.«01_k».proof.Proof.Sums
public import proofs.«01_k».proof.Proof.Reals
public import proofs.«01_k».proof.Proof.Soft
public import proofs.«01_k».proof.Proof.MidBlocks
public import proofs.«01_k».proof.Proof.MidTail
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceMidIdeal.Read Cert.Soft Cert.Reals

namespace Cert.MidValue
open Cert.KernelMidIdeal Cert.KernelMidIdeal.Gen
variable (m : (ℓ : Loc nD τ sig) → Buf (Elt Ideal) ℓ)

theorem pair (G : (⟨4, ![1, 2, 512, 256]⟩ : Shape).Idx → EReal) (w0 w1 : (⟨4, ![1, 1, 512, 256]⟩ : Shape).Idx → EReal)
    (i0 : ∀ a, (![0, 0, 0, 0] : Fin 4 → ℕ) a + (![1, 1, 512, 256] : Fin 4 → ℕ) a ≤ (⟨4, ![1, 2, 512, 256]⟩ : Shape).size a)
    (i1 : ∀ a, (![0, 1, 0, 0] : Fin 4 → ℕ) a + (![1, 1, 512, 256] : Fin 4 → ℕ) a ≤ (⟨4, ![1, 2, 512, 256]⟩ : Shape).size a)
    (h0 : ∀ p q, w0 (ix4 0 0 p q) = G (ix4 0 0 p q)) (h1 : ∀ p q, w1 (ix4 0 0 p q) = G (ix4 0 1 p q)) :
    View.canon (Val := Elt Ideal) (e := .bf16) [⟨Rect.unit (s := ⟨4, ![1, 2, 512, 256]⟩) ![0, 1, 0, 0] ![1, 1, 512, 256] i1, w1⟩, ⟨Rect.unit (s := ⟨4, ![1, 2, 512, 256]⟩) ![0, 0, 0, 0] ![1, 1, 512, 256] i0, w0⟩] = G := by
  have g (o : Fin 2) (i : ∀ a, (![0, o.val, 0, 0] : Fin 4 → ℕ) a + (![1, 1, 512, 256] : Fin 4 → ℕ) a ≤ (⟨4, ![1, 2, 512, 256]⟩ : Shape).size a) (w : (⟨4, ![1, 1, 512, 256]⟩ : Shape).Idx → EReal)
      (h : ∀ p q, w (ix4 0 0 p q) = G (ix4 0 o p q)) (x : (⟨4, ![1, 1, 512, 256]⟩ : Shape).Idx) : w x = G ((Rect.unit (s := ⟨4, ![1, 2, 512, 256]⟩) ![0, o.val, 0, 0] ![1, 1, 512, 256] i).emb x) := by
    obtain ⟨a, b, p, q, rfl⟩ : ∃ (a b : Fin 1) (p : Fin 512) (q : Fin 256), x = ix4 a b p q := ⟨x 0, x 1, x 2, x 3, eq_ix4 x⟩
    obtain rfl : a = 0 := Subsingleton.elim _ _
    obtain rfl : b = 0 := Subsingleton.elim _ _
    rw [h]
    refine congrArg G (funext fun a => Fin.ext ?_)
    match a with
    | ⟨0, _⟩ => rfl
    | ⟨1, _⟩ => exact (Nat.add_zero _).symm
    | ⟨2, _⟩ => exact ((Nat.zero_add _).trans (Nat.one_mul _)).symm
    | ⟨3, _⟩ => exact ((Nat.zero_add _).trans (Nat.one_mul _)).symm
  funext y
  obtain ⟨a, b, p, q, rfl⟩ : ∃ (a : Fin 1) (b : Fin 2) (p : Fin 512) (q : Fin 256), y = ix4 a b p q := ⟨y 0, y 1, y 2, y 3, eq_ix4 y⟩
  obtain rfl : a = 0 := Subsingleton.elim _ _
  refine View.canon_append_of_piecesOf (Val := Elt Ideal) (e := .bf16) G [] [⟨Rect.unit (s := ⟨4, ![1, 2, 512, 256]⟩) ![0, 1, 0, 0] ![1, 1, 512, 256] i1, w1⟩, ⟨Rect.unit (s := ⟨4, ![1, 2, 512, 256]⟩) ![0, 0, 0, 0] ![1, 1, 512, 256] i0, w0⟩] ⟨g 1 i1 w1 h1, g 0 i0 w0 h0, trivial⟩ _ ?_
  have c (i : ∀ a, (![0, b.val, 0, 0] : Fin 4 → ℕ) a + (![1, 1, 512, 256] : Fin 4 → ℕ) a ≤ (⟨4, ![1, 2, 512, 256]⟩ : Shape).size a) : ix4 0 b p q ∈ (Rect.unit (s := ⟨4, ![1, 2, 512, 256]⟩) ![0, b.val, 0, 0] ![1, 1, 512, 256] i).set :=
    Rect.mem_set_unit.mpr fun a => by
      match a with
      | ⟨0, _⟩ => exact ⟨Nat.zero_le _, Nat.one_pos⟩
      | ⟨1, _⟩ => exact ⟨le_refl _, Nat.lt_succ_self _⟩
      | ⟨2, _⟩ => exact ⟨Nat.zero_le _, (Nat.zero_add 512).symm ▸ p.isLt⟩
      | ⟨3, _⟩ => exact ⟨Nat.zero_le _, (Nat.zero_add 256).symm ▸ q.isLt⟩
  match b with
  | ⟨0, _⟩ => exact ⟨_, .tail _ (.head _), c i0⟩
  | ⟨1, _⟩ => exact ⟨_, .head _, c i1⟩

/-- An element of a block of the transposed copy. -/
def turnAt (c : Dev nD) (t : Fin cfg0.N) (b : Fin 2) (p : Fin 512) (q : Fin 256) : EReal :=
  dm m c (seq t) (pos t ⟨b.val * 256 + q.val, by omega⟩) ⟨512 + p.val, by omega⟩
/-- A block of the transposed copy. -/
def turn (c : Dev nD) (t : Fin cfg0.N) : (⟨4, ![1, 2, 512, 256]⟩ : Shape).Idx → EReal :=
  fun i => turnAt m c t (i 1) (i 2) (i 3)

theorem turn_stored (c : Dev nD) (h : fin m c) (t : Fin cfg0.N) : View.canon (Val := Elt Ideal) (e := .bf16) [⟨Rect.unit ![0, 1, 0, 0] ![1, 1, 512, 256] inb_S1x2x512x256_S1x1x512x256_0_1_0_0, k0_pay48 (k0_pay47 (k0_pay5 (iblk m c 0 t)) (k0_pay38 (dqB m c t) (iblk m c 7 t) (iblk m c 1 t) (iblk m c 9 t)) (k0_pay39 (iblk m c 1 t)) (View.ld (Val := Elt Ideal) (e' := .bf16) (iblk m c 8 t) (Rect.unit ![512, 0] ![512, 1024] inb_S1024x1024_S512x1024_512_0)))⟩,
    ⟨Rect.unit ![0, 0, 0, 0] ![1, 1, 512, 256] inb_S1x2x512x256_S1x1x512x256_0_0_0_0, k0_pay46 (k0_pay5 (iblk m c 0 t)) (k0_pay38 (dqB m c t) (iblk m c 7 t) (iblk m c 1 t) (iblk m c 9 t)) (k0_pay39 (iblk m c 1 t)) (View.ld (Val := Elt Ideal) (e' := .bf16) (iblk m c 8 t) (Rect.unit ![512, 0] ![512, 1024] inb_S1024x1024_S512x1024_512_0))⟩] = turn m c t := by
  refine pair (turn m c t) _ _ _ _ (fun p q => ?_) (fun p q => ?_)
  · pointwise [k0_pay46]
    rw [tail_block m c h t]
    exact congrArg (fun z => dm m c (seq t) (pos t z) ⟨512 + p.val, by omega⟩) (Fin.ext (by simp))
  · pointwise [k0_pay48, k0_pay47]
    rw [tail_block m c h t]
    exact congrArg (fun z => dm m c (seq t) (pos t z) ⟨512 + p.val, by omega⟩) (Fin.ext (by simp))

theorem turn_left (c : Dev nD) (h : fin m c) (t : Fin cfg0.N) : (outsAt0 m c t.val t.isLt).2.2.2.2.2.2.2.2 = turn m c t := by
  by_cases h0 : t.val % 8 = 0
  · rw [outsAt0_A m c t h0 (by omega)]; frame_out; rw [dq_read m c h t]; exact turn_stored m c h t
  by_cases h1 : t.val % 4 = 0
  · rw [outsAt0_C m c t h0 h1]; frame_out; rw [dq_read m c h t]; exact turn_stored m c h t
  · rw [outsAt0_B m c t h0 h1]; frame_out; rw [dq_read m c h t]; exact turn_stored m c h t

/-- The transposed copy. -/
theorem turned (c : Dev nD) (h : fin m c) : (dats m 0 c).arrAt 18 (cfgs 0).N = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  refine (dats m 0 c).arrAt_eq_of_covers 18 _ (by decide +kernel) fun t hf y => ?_
  obtain ⟨a, b, p, q, rfl⟩ : ∃ (a : Fin 1) (b : Fin 2) (p : Fin 512) (q : Fin 256), y = ix4 a b p q := ⟨y 0, y 1, y 2, y 3, eq_ix4 y⟩
  obtain rfl : a = 0 := Subsingleton.elim _ _
  have e : ((View.whole main_v31_8).slice (win0_18.rect t)).emb (ix4 0 b p q) = ix4 (seq t) ⟨t.val % 4 * 2 + b.val, by omega⟩ p q := by blk_ext [place t, seq]
  blk_simp
  rw [e, after0_18, turn_left m c h t]
  pointwise [val_main_v129, val_main_v119, val_main_v118, val_main_v113, val_main_v112]
  exact congrArg (fun z => dm m c (seq t) z ⟨512 + p.val, by omega⟩) (Fin.ext (show t.val % 4 * 512 + (b.val * 256 + q.val) = (t.val % 4 * 2 + b.val) * 256 + q.val by omega))

end Cert.MidValue

end
-- ==== Proof.MidRuns.lean ====
/- The gradients summed over the rows: keys, values and gain. -/
module

public import proofs.«01_k».proof.Proof.Gen.KernelMidIdeal.Value
public import proofs.«01_k».proof.Proof.Gen.ReferenceMidIdeal.Read
public import proofs.«01_k».proof.Proof.Sums
public import proofs.«01_k».proof.Proof.Reals
public import proofs.«01_k».proof.Proof.Soft
public import proofs.«01_k».proof.Proof.MidBlocks
public import proofs.«01_k».proof.Proof.MidNorm
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceMidIdeal.Read Cert.Soft Cert.Reals

namespace Cert.MidValue
open Cert.KernelMidIdeal Cert.KernelMidIdeal.Gen
variable (m : (ℓ : Loc nD τ sig) → Buf (Elt Ideal) ℓ)

theorem zero2 (i) : k0_pay2 (F := Ideal) i = 0 := by
  pointwise [k0_pay2]

theorem parts {M : Type} [AddCommMonoid M] (f : Fin 2048 → M) : ∑ n : Fin 4, ∑ p : Fin 512, f ⟨n.val * 512 + p.val, by omega⟩ = ∑ s, f s := by
  rw [Cert.Sums.quarters, Fin.sum_univ_four]
  refine congrArg₂ (· + ·) (congrArg₂ (· + ·) (congrArg₂ (· + ·) ?_ rfl) rfl) rfl
  exact Finset.sum_congr rfl fun p _ => congrArg f (Fin.ext (by simp))

/-- The gradient of the values. -/
theorem valueGrad (c : Dev nD) (h : fin m c) : (dats m 0 c).arrAt 16 (cfgs 0).N = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg8)) := by
  refine (dats m 0 c).arrAt_eq_of_covers 16 _ (by decide +kernel) fun t hf y => ?_
  obtain ⟨j, q, rfl⟩ : ∃ (j : Fin 256) (q : Fin 1024), y = ix2 j q := ⟨y 0, y 1, eq_ix2 y⟩
  have e : ((View.whole main_v31_6).slice (win0_16.rect t)).emb (ix2 j q) = ix2 ⟨(seq t).val * 256 + j.val, by omega⟩ q := by blk_ext [place t, seq]
  blk_simp
  rw [e, after0_16, Pipeline.eq_sum_fin_of_reset_step_apply_of_flush (fun n h => (outsAt0 m c n h).2.2.2.2.2.2.1) 4 (fun _ => (0 : EReal)) (dvPart m c)
    (fun t u i => by rw [dv_first m c t u]) (fun t u i => by rw [dv_next m c t u]) t ((flush0_16 t).mp hf) (ix2 j q), zero_add]
  pointwise [val_main_v128, val_main_v82, val_main_v63, val_main_v62, val_main_v60, val_main_v59]
  have s (n : Fin 4) (b) : seq (⟨4 * (t.val / 4) + n.val, b⟩ : Fin cfg0.N) = seq t := Fin.ext (by simp only [seq]; omega)
  have s' (b) : (⟨((seq t).val * 256 + j.val) / 256, b⟩ : Fin 2) = seq t := Fin.ext (by simp only; omega)
  have j' (b) : (⟨((seq t).val * 256 + j.val) % 256, b⟩ : Fin 256) = j := Fin.ext (by simp only; omega)
  have r (n : Fin 4) (b) (p) : pos (⟨4 * (t.val / 4) + n.val, b⟩ : Fin cfg0.N) p = ⟨n.val * 512 + p.val, by omega⟩ := Fin.ext (by simp only [pos]; omega)
  simp only [dvPart, s, s', j', r]
  refine (parts (M := EReal) (fun S => prob (sc m c (seq t) (head q) S) j * os m c (seq t) S q)).trans (Finset.sum_congr (M := EReal) rfl fun S _ => ?_)
  have l := ref_prob (m ((c : Thread nD τ).loc main_arg0)) (m ((c : Thread nD τ).loc main_arg1)) (m ((c : Thread nD τ).loc main_arg2)) (m ((c : Thread nD τ).loc main_arg3)) (seq t) (head q) S j
  exact (mul_comm (G := EReal) _ _).trans (congrArg (HMul.hMul (α := EReal) (os m c (seq t) S q)) l.symm)

theorem keySum (c : Dev nD) (h : fin m c) (b : Fin 2) (q : Fin 1024) (j : Fin 256) :
    (∑ n : Fin 4, (∑ p : Fin 512, sl m c b (head q) ⟨n.val * 512 + p.val, by omega⟩ j * qs m c b ⟨n.val * 512 + p.val, by omega⟩ q) * Ideal.ofBits .f32 1031798784#32)
      = ∑ S, val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (ix4 b (head q) S j) * qs m c b S q := by
  have k (n : Fin 4) : (∑ p : Fin 512, sl m c b (head q) ⟨n.val * 512 + p.val, by omega⟩ j * qs m c b ⟨n.val * 512 + p.val, by omega⟩ q) * Ideal.ofBits .f32 1031798784#32
      = ∑ p : Fin 512, sl m c b (head q) ⟨n.val * 512 + p.val, by omega⟩ j * Ideal.ofBits .f32 1031798784#32 * qs m c b ⟨n.val * 512 + p.val, by omega⟩ q :=
    (scaled (D := fun p : Fin 512 => sl m c b (head q) ⟨n.val * 512 + p.val, by omega⟩ j) (k := fun p : Fin 512 => qs m c b ⟨n.val * 512 + p.val, by omega⟩ q) (fun p => sl_is m c h b (head q) _ j) (fun p => qs_is m c h b _ q) sixteenth_is).symm
  have l (S : Fin 2048) : val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (ix4 b (head q) S j) = sl m c b (head q) S j * Ideal.ofBits .f32 1031798784#32 :=
    ref_slope (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) b (head q) S (fun j => sc_is m c h _ _ _ j) (fun j => ct_is m c h _ _ _ j) j
  simp only [k, l]
  exact parts (M := EReal) (fun S => sl m c b (head q) S j * Ideal.ofBits .f32 1031798784#32 * qs m c b S q)

/-- The gradient of the keys. -/
theorem keyGrad (c : Dev nD) (h : fin m c) : (dats m 0 c).arrAt 15 (cfgs 0).N = val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  refine (dats m 0 c).arrAt_eq_of_covers 15 _ (by decide +kernel) fun t hf y => ?_
  obtain ⟨j, q, rfl⟩ : ∃ (j : Fin 256) (q : Fin 1024), y = ix2 j q := ⟨y 0, y 1, eq_ix2 y⟩
  have e : ((View.whole main_v31_5).slice (win0_15.rect t)).emb (ix2 j q) = ix2 ⟨(seq t).val * 256 + j.val, by omega⟩ q := by blk_ext [place t, seq]
  blk_simp
  rw [e, after0_15, Pipeline.eq_sum_fin_of_reset_step_apply_of_flush (fun n h => (outsAt0 m c n h).2.2.2.2.2.1) 4 (fun _ => (0 : EReal)) (dkPart m c)
    (fun t u i => by rw [dk_first m c t u]) (fun t u i => by rw [dk_next m c t u]) t ((flush0_15 t).mp hf) (ix2 j q), zero_add]
  pointwise [val_main_v127, val_main_v83, val_main_v79, val_main_v78, val_main_v19]
  have s (n : Fin 4) (b) : seq (⟨4 * (t.val / 4) + n.val, b⟩ : Fin cfg0.N) = seq t := Fin.ext (by simp only [seq]; omega)
  have s' (b) : (⟨((seq t).val * 256 + j.val) / 256, b⟩ : Fin 2) = seq t := Fin.ext (by simp only; omega)
  have j' (b) : (⟨((seq t).val * 256 + j.val) % 256, b⟩ : Fin 256) = j := Fin.ext (by simp only; omega)
  have r (n : Fin 4) (b) (p) : pos (⟨4 * (t.val / 4) + n.val, b⟩ : Fin cfg0.N) p = ⟨n.val * 512 + p.val, by omega⟩ := Fin.ext (by simp only [pos]; omega)
  simp only [dkPart, s, s', j', r]
  exact keySum m c h (seq t) q j

/-- The gradient of the gain. -/
theorem gains (c : Dev nD) (h : fin m c) : (dats m 0 c).arrAt 17 (cfgs 0).N = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  refine (dats m 0 c).arrAt_eq_of_after_last 17 t0_7 (by decide +kernel) _ fun j => ?_
  obtain ⟨z, q, rfl⟩ : ∃ (z : Fin 1) (q : Fin 1024), j = ix2 z q := ⟨j 0, j 1, (ix2_eta j).symm⟩
  blk_simp
  obtain rfl : z = 0 := Subsingleton.elim _ _
  let X (b : Fin 2) (s : Fin 2048) : Fin 1024 → EReal := fun k => m ((c : Thread nD τ).loc main_arg0) (ix3 b s k)
  let G (t : Fin cfg0.N) (i : (⟨2, ![1, 1024]⟩ : Shape).Idx) : EReal := ∑ p : Fin 512, dy m c (seq t) (pos t p) (i 1) * (X (seq t) (pos t p) (i 1) * Ideal.rsqrt (meansq (X (seq t) (pos t p))))
  have step (t : Fin cfg0.N) (a : (⟨2, ![1, 1024]⟩ : Shape).Idx → EReal) (i) : k0_pay41 (F := Ideal) (k0_pay34 (dqB m c t) (iblk m c 7 t)) (k0_pay37 (iblk m c 1 t)) a i = a i + G t i := by
    obtain ⟨z, q, rfl⟩ : ∃ (z : Fin 1) (q : Fin 1024), i = ix2 z q := ⟨i 0, i 1, (ix2_eta i).symm⟩
    obtain rfl : z = 0 := Subsingleton.elim _ _
    pointwise [k0_pay41, k0_pay37, k0_pay36, k0_pay35]
    simp only [rows, dy_block]
    rfl
  rw [after0_17, Pipeline.eq_sum_fin_of_reset_step_apply_last (fun n h => (outsAt0 m c n h).2.2.2.2.2.2.2.1) 8 (fun _ => (0 : EReal)) G
    (fun t u i => by
      rw [outsAt0_A m c t u (by omega)]; frame_out; rw [dq_read m c h t]
      exact (step t _ i).trans (congrArg (fun z : EReal => z + G t i) (zero2 i)))
    (fun t u i => by
      by_cases w : t.val % 4 = 0
      · rw [outsAt0_C m c t u w]; frame_out; rw [dq_read m c h t]; exact step t _ i
      · rw [outsAt0_B m c t u w]; frame_out; rw [dq_read m c h t]; exact step t _ i)
    (le_of_eq N_0) t0_7 rfl (ix2 0 q), zero_add]
  pointwise [Cert.Sums.front_two, val_main_v106, val_main_v91, val_main_cst_18, val_main_v88, val_main_v87, val_main_cst_17, val_main_v86,
    val_main_v13, val_main_v12, val_main_v0, val_main_v11, val_main_v10, val_main_cst_2, val_main_v9, val_main_v8, val_main_v7, val_main_v6, val_main_cst_1, val_main_v5, val_main_v4, val_main_cst_0, val_main_v3, val_main_v2, val_main_cst, val_main_v1]
  simp only [Fin.sum_univ_one, Fin.isValue]
  refine (Fintype.sum_equiv (M := EReal) (finCongr N_0) _ (fun t : Fin 8 => G (Fin.cast N_0.symm t) (ix2 0 q)) fun t => rfl).trans ?_
  refine Eq.trans ?_ (Cert.Sums.tiles (M := EReal) (n := 8) (p := 512) (by norm_num) (fun b s => X b s q * Ideal.rsqrt (meansq (X b s)) * dy m c b s q) (fun t r => by omega) (fun t r => by omega)).symm
  refine Finset.sum_congr (M := EReal) rfl fun t _ => Finset.sum_congr (M := EReal) rfl fun p _ => ?_
  exact (mul_comm (G := EReal) _ _).trans (congrArg₂ (fun b s => X b s q * Ideal.rsqrt (meansq (X b s)) * dy m c b s q) (seq_of (Fin.cast N_0.symm t) p (by simp only [Fin.val_cast]; omega)).symm (pos_of (Fin.cast N_0.symm t) p (by simp only [Fin.val_cast]; omega)).symm)

end Cert.MidValue

end
-- ==== Proof.MidEnd.lean ====
/- What is claimed of the gradient of the middle of the block. -/
module

public import proofs.«01_k».proof.Defs
public import proofs.«01_k».proof.Proof.Gen.KernelMid.Frame
public import proofs.«01_k».proof.Proof.Gen.ReferenceMidIdeal.Run
public import proofs.«01_k».proof.Proof.Gen.Pre_finite_mid
public import proofs.«01_k».proof.Proof.MidTurn
public import proofs.«01_k».proof.Proof.MidRuns
public import Idealize.ShloMosaic.Adequacy
public import Idealize.ShloMosaic.Init

@[expose] public section

set_option maxRecDepth 16384
set_option maxHeartbeats 4000000

noncomputable section

namespace Cert.MidEnd

open Idealize.ShloMosaic Idealize.SL.Sem

theorem frame_kernel : Cert.quiescent_KernelMid := fun m g _ => Cert.KernelMid.Gen.frame m g

theorem frame_ideal : Cert.quiescent_KernelMidIdeal := fun m g _ => Cert.KernelMidIdeal.Gen.frame m g

theorem frame_reference : Cert.quiescent_ReferenceMidIdeal := fun m g _ =>
  (θ_run Cert.ReferenceMidIdeal.defs _ _).mono (fun r h => ⟨fun c => (h c).2.2.2.2.2.2.2.2.2, sem_eq_zero_of_no_sems (by decide) r.2⟩)
    (Cert.ReferenceMidIdeal.Value.run (F := Ideal) m g)

/-- The precondition says that the arguments it reads hold no infinity. -/
theorem finite (m : (ℓ : Loc Cert.KernelMidIdeal.nD Cert.KernelMidIdeal.τ Cert.KernelMidIdeal.sig) → Buf (Elt Ideal) ℓ)
    (h : Cert.Pre_KernelMidIdeal_finite_mid m) (c : Dev Cert.KernelMidIdeal.nD) : Cert.MidValue.fin m c :=
  ⟨fun i => Cert.Reals.of_lt _ (congrFun (h c).1 i), fun i => Cert.Reals.of_lt _ (congrFun (h c).2.1 i), fun i => Cert.Reals.of_lt _ (congrFun (h c).2.2.1 i), fun i => Cert.Reals.of_lt _ (congrFun (h c).2.2.2.1 i), fun i => Cert.Reals.of_lt _ (congrFun (h c).2.2.2.2.1 i), fun i => Cert.Reals.of_lt _ (congrFun (h c).2.2.2.2.2.1 i), fun i => Cert.Reals.of_lt _ (congrFun (h c).2.2.2.2.2.2.1 i), fun i => Cert.Reals.of_lt _ (congrFun (h c).2.2.2.2.2.2.2.1 i), fun i => Cert.Reals.of_lt _ (congrFun (h c).2.2.2.2.2.2.2.2 i)⟩

theorem algebraic : Cert.algebraic_KernelMidIdeal_ReferenceMidIdeal_pre_finite_mid := by
  pair_intro
  · run_from Cert.KernelMidIdeal.Value.run_blocks m g
  · run_from Cert.ReferenceMidIdeal.Value.run m' g'
    · rw [Cert.ReferenceMidIdeal.Read.val_main_v120_eq m' c]
      simp only [hagree c]
      exact (Cert.MidValue.input m c (finite m hpre c)).symm
    · rw [Cert.ReferenceMidIdeal.Read.val_main_v122_eq m' c]
      simp only [hagree c]
      exact (Cert.MidValue.query m c (finite m hpre c)).symm
    · rw [Cert.ReferenceMidIdeal.Read.val_main_v111_eq m' c]
      simp only [hagree c]
      exact (Cert.MidValue.carried m c (finite m hpre c)).symm
    · rw [Cert.ReferenceMidIdeal.Read.val_main_v123_eq m' c]
      simp only [hagree c]
      exact (Cert.MidValue.attended m c (finite m hpre c)).symm
    · rw [Cert.ReferenceMidIdeal.Read.val_main_v126_eq m' c]
      simp only [hagree c]
      exact (Cert.MidValue.sums m c (finite m hpre c)).symm
    · rw [Cert.ReferenceMidIdeal.Read.val_main_v127_eq m' c]
      simp only [hagree c]
      exact (Cert.MidValue.keyGrad m c (finite m hpre c)).symm
    · rw [Cert.ReferenceMidIdeal.Read.val_main_v128_eq m' c]
      simp only [hagree c]
      exact (Cert.MidValue.valueGrad m c (finite m hpre c)).symm
    · rw [Cert.ReferenceMidIdeal.Read.val_main_v106_eq m' c]
      simp only [hagree c]
      exact (Cert.MidValue.gains m c (finite m hpre c)).symm
    · rw [Cert.ReferenceMidIdeal.Read.val_main_v129_eq m' c]
      simp only [hagree c]
      exact (Cert.MidValue.turned m c (finite m hpre c)).symm

end Cert.MidEnd

end
-- ==== Proof.FfnRunA.lean ====
/- The body's run in case A. -/
module

public import proofs.«01_k».proof.Proof.Gen.KernelFfnIdeal.Frame.Runs

@[expose] public section

set_option maxRecDepth 16384

noncomputable section

namespace Cert.FfnRun

open Cert.KernelFfnIdeal Cert.KernelFfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
set_option maxHeartbeats 1000000 in
set_option sl_exec.dmaWindow true in
set_option sl_exec.dmaWindowSet true in
noncomputable def kernelRun0_A (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0) :
    Σ' (L5 : List (View.Piece (Elt F) S256x5632 .bf16)), Σ' (L6 : List (View.Piece (Elt F) S256x1024 .f32)), Σ' (L7 : List (View.Piece (Elt F) S1x1024 .f32)), Σ' (LS0 : List (View.Piece (Elt F) S1024x2816 .bf16)), { LS1 : List (View.Piece (Elt F) S1024x2816 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (cc0_bwd_ffn i arg1 harg1 arg2 harg2 arg3 harg3 (Memref.whole main_v22) (Memref.isWhole_whole _) arg5 harg5 arg6 harg6 arg7 harg7 arg8 harg8 arg9 harg9 arg10 harg10 arg11 harg11 cc0_scratch2) K } := by
  refine ⟨?_, ?_, ?_, ?_, ?_, fun W K => ?run⟩
  case run =>
    simp only [cc0_bwd_ffn_eq_skeleton]; unfold cc0_bwd_ffn_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hq0, Hq1, Hq2, Hq3, Hh0, HW, Hk⟩
    obtain rfl := harg1.eq_unread hf0; obtain rfl := harg2.eq_unread hf1; obtain rfl := harg3.eq_unread hf2; obtain rfl := harg5.eq_unread hf3; obtain rfl := harg6.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hh0]; · iexact Hh0
    iexists _; iexact HW

end Cert.FfnRun

end
-- ==== Proof.FfnRunB.lean ====
/- The body's run in case B. -/
module

public import proofs.«01_k».proof.Proof.FfnRunA

@[expose] public section

set_option maxRecDepth 16384

noncomputable section

namespace Cert.FfnRun

open Cert.KernelFfnIdeal Cert.KernelFfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
set_option maxHeartbeats 1000000 in
set_option sl_exec.dmaWindow true in
set_option sl_exec.dmaWindowSet true in
noncomputable def kernelRun0_B (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : ¬cond0_0 i)
    (x0 : Vec F S256x1024 .f32) (x1 : Vec F S256x5632 .f32) (x2 : Vec F S256x1024 .f32) (x3 : Vec F S2816x1024 .bf16) (x4 : Vec F S1x1024 .f32) (xo7 : Vec F S1x1024 .f32) (xs0 : Vec F S1024x2816 .bf16) (xs1 : Vec F S1024x2816 .bf16) (fh0 : HbBuf0 (F := F) c hbM0_0) :
    Σ' (L5 : List (View.Piece (Elt F) S256x5632 .bf16)), Σ' (L6 : List (View.Piece (Elt F) S256x1024 .f32)), Σ' (L7 : List (View.Piece (Elt F) S1x1024 .f32)), Σ' (LS0 : List (View.Piece (Elt F) S1024x2816 .bf16)), { LS1 : List (View.Piece (Elt F) S1024x2816 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xo7 ∗ owns (c : Thread nD τ) arg10 fullShare xs0 ∗ owns (c : Thread nD τ) arg11 fullShare xs1 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ owns (c : Thread nD τ) arg11 fullShare xs1 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (cc0_bwd_ffn i arg1 harg1 arg2 harg2 arg3 harg3 (Memref.whole main_v22) (Memref.isWhole_whole _) arg5 harg5 arg6 harg6 arg7 harg7 arg8 harg8 arg9 harg9 arg10 harg10 arg11 harg11 cc0_scratch2) K } := by
  refine ⟨?_, ?_, ?_, [], [], fun W K => ?run⟩
  case run =>
    simp only [cc0_bwd_ffn_eq_skeleton]; unfold cc0_bwd_ffn_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%fs1, %hfs1, HS1⟩, Hq0, Hq1, Hq2, Hq3, Hh0, HW, Hk⟩
    obtain rfl := harg1.eq_unread hf0; obtain rfl := harg2.eq_unread hf1; obtain rfl := harg3.eq_unread hf2; obtain rfl := harg5.eq_unread hf3; obtain rfl := harg6.eq_unread hf4; obtain rfl := harg9.eq_unread hf7; obtain rfl := harg10.eq_unread hfs0; obtain rfl := harg11.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]
    · iexists _; isplitr; · ipureintro; exact harg10.read_unread _
      iexact HS0
    isplitl [HS1]
    · iexists _; isplitr; · ipureintro; exact harg11.read_unread _
      iexact HS1
    isplitl [Hq0]; · iexact Hq0
    isplitl [Hq1]; · iexact Hq1
    isplitl [Hq2]; · iexact Hq2
    isplitl [Hq3]; · iexact Hq3
    isplitl [Hh0]; · iexact Hh0
    iexists _; iexact HW

end Cert.FfnRun

end
-- ==== Proof.FfnFrame.lean ====
/- What the outputs hold point by point, and the frame of the launch. -/
module

public import proofs.«01_k».proof.Proof.FfnRunB
public import Idealize.ShloMosaic.Lib.Claim

@[expose] public section

set_option maxRecDepth 16384

noncomputable section

namespace Cert.FfnRun

open Cert.KernelFfnIdeal Cert.KernelFfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Blocks

variable (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole)

section CaseA

variable (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0)

theorem cover0_A_5 (y : S256x5632.Idx) :
    ∃ pc ∈ (kernelRun0_A c i arg1 harg1 arg2 harg2 arg3 harg3 arg5 harg5 arg6 harg6 arg7 harg7 arg8 harg8 arg9 harg9 arg10 harg10 arg11 harg11 hc0 x0 x1 x2 x3 x4 fh0).1, y ∈ pc.1.set :=
  View.cover_of_tiledL (s := S256x5632) _ S256x2816.size (by sl_kernel_rfl) y

def out0_A_5 : Vec F S256x5632 .bf16 :=
  VO0_5.read (Elt F) (VO0_5.writes (Elt F) VO0_5.junk (kernelRun0_A c i arg1 harg1 arg2 harg2 arg3 harg3 arg5 harg5 arg6 harg6 arg7 harg7 arg8 harg8 arg9 harg9 arg10 harg10 arg11 harg11 hc0 x0 x1 x2 x3 x4 fh0).1)

theorem cover0_A_6 (y : S256x1024.Idx) :
    ∃ pc ∈ (kernelRun0_A c i arg1 harg1 arg2 harg2 arg3 harg3 arg5 harg5 arg6 harg6 arg7 harg7 arg8 harg8 arg9 harg9 arg10 harg10 arg11 harg11 hc0 x0 x1 x2 x3 x4 fh0).2.1, y ∈ pc.1.set :=
  View.cover_of_tiledL _ S256x1024.size (by sl_kernel_rfl) y

def out0_A_6 : Vec F S256x1024 .f32 :=
  VO0_6.read (Elt F) (VO0_6.writes (Elt F) VO0_6.junk (kernelRun0_A c i arg1 harg1 arg2 harg2 arg3 harg3 arg5 harg5 arg6 harg6 arg7 harg7 arg8 harg8 arg9 harg9 arg10 harg10 arg11 harg11 hc0 x0 x1 x2 x3 x4 fh0).2.1)

theorem cover0_A_7 (y : S1x1024.Idx) :
    ∃ pc ∈ (kernelRun0_A c i arg1 harg1 arg2 harg2 arg3 harg3 arg5 harg5 arg6 harg6 arg7 harg7 arg8 harg8 arg9 harg9 arg10 harg10 arg11 harg11 hc0 x0 x1 x2 x3 x4 fh0).2.2.1, y ∈ pc.1.set :=
  View.cover_of_tiledL _ S1x1024.size (by sl_kernel_rfl) y

def out0_A_7 : Vec F S1x1024 .f32 :=
  VO0_7.read (Elt F) (VO0_7.writes (Elt F) VO0_7.junk (kernelRun0_A c i arg1 harg1 arg2 harg2 arg3 harg3 arg5 harg5 arg6 harg6 arg7 harg7 arg8 harg8 arg9 harg9 arg10 harg10 arg11 harg11 hc0 x0 x1 x2 x3 x4 fh0).2.2.1)

theorem scover0_A_0 (y : S1024x2816.Idx) :
    ∃ pc ∈ (kernelRun0_A c i arg1 harg1 arg2 harg2 arg3 harg3 arg5 harg5 arg6 harg6 arg7 harg7 arg8 harg8 arg9 harg9 arg10 harg10 arg11 harg11 hc0 x0 x1 x2 x3 x4 fh0).2.2.2.1, y ∈ pc.1.set :=
  View.cover_of_tiledL (s := S1024x2816) _ S1024x1408.size (by sl_kernel_rfl) y

def sout0_A_0 : Vec F S1024x2816 .bf16 :=
  VS0_0.read (Elt F) (VS0_0.writes (Elt F) VS0_0.junk (kernelRun0_A c i arg1 harg1 arg2 harg2 arg3 harg3 arg5 harg5 arg6 harg6 arg7 harg7 arg8 harg8 arg9 harg9 arg10 harg10 arg11 harg11 hc0 x0 x1 x2 x3 x4 fh0).2.2.2.1)

theorem scover0_A_1 (y : S1024x2816.Idx) :
    ∃ pc ∈ (kernelRun0_A c i arg1 harg1 arg2 harg2 arg3 harg3 arg5 harg5 arg6 harg6 arg7 harg7 arg8 harg8 arg9 harg9 arg10 harg10 arg11 harg11 hc0 x0 x1 x2 x3 x4 fh0).2.2.2.2.1, y ∈ pc.1.set :=
  View.cover_of_tiledL (s := S1024x2816) _ S1024x1408.size (by sl_kernel_rfl) y

def sout0_A_1 : Vec F S1024x2816 .bf16 :=
  VS0_1.read (Elt F) (VS0_1.writes (Elt F) VS0_1.junk (kernelRun0_A c i arg1 harg1 arg2 harg2 arg3 harg3 arg5 harg5 arg6 harg6 arg7 harg7 arg8 harg8 arg9 harg9 arg10 harg10 arg11 harg11 hc0 x0 x1 x2 x3 x4 fh0).2.2.2.2.1)

end CaseA

section CaseB

variable (hc0 : ¬cond0_0 i)
    (x0 : Vec F S256x1024 .f32) (x1 : Vec F S256x5632 .f32) (x2 : Vec F S256x1024 .f32) (x3 : Vec F S2816x1024 .bf16) (x4 : Vec F S1x1024 .f32) (xo7 : Vec F S1x1024 .f32) (xs0 : Vec F S1024x2816 .bf16) (xs1 : Vec F S1024x2816 .bf16) (fh0 : HbBuf0 (F := F) c hbM0_0)

theorem cover0_B_5 (y : S256x5632.Idx) :
    ∃ pc ∈ (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).1, y ∈ pc.1.set :=
  View.cover_of_tiledL (s := S256x5632) _ S256x2816.size (by sl_kernel_rfl) y

def out0_B_5 : Vec F S256x5632 .bf16 :=
  VO0_5.read (Elt F) (VO0_5.writes (Elt F) VO0_5.junk (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).1)

theorem cover0_B_6 (y : S256x1024.Idx) :
    ∃ pc ∈ (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).2.1, y ∈ pc.1.set :=
  View.cover_of_tiledL _ S256x1024.size (by sl_kernel_rfl) y

def out0_B_6 : Vec F S256x1024 .f32 :=
  VO0_6.read (Elt F) (VO0_6.writes (Elt F) VO0_6.junk (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).2.1)

theorem cover0_B_7 (y : S1x1024.Idx) :
    ∃ pc ∈ (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).2.2.1, y ∈ pc.1.set :=
  View.cover_of_tiledL _ S1x1024.size (by sl_kernel_rfl) y

def out0_B_7 : Vec F S1x1024 .f32 :=
  VO0_7.read (Elt F) (VO0_7.writes (Elt F) VO0_7.junk (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).2.2.1)

end CaseB

end Blocks

abbrev Left : Type := Vec F S256x5632 .bf16 × Vec F S256x1024 .f32 × Vec F S1x1024 .f32 × Vec F S1024x2816 .bf16 × Vec F S1024x2816 .bf16

/-- What a first point of the grid leaves. -/
def startLeft (c : Dev nD) (t : Fin cfg0.N) (h0 : t.val % 16 = 0) : Left (F := F) :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v22), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v22), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v22), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v22), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v22))

/-- What a later point leaves, after one that left `r`. -/
def laterLeft (c : Dev nD) (t : Fin cfg0.N) (h0 : ¬t.val % 16 = 0) (r : Left (F := F)) : Left (F := F) :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) r.2.2.1 r.2.2.2.1 r.2.2.2.2 (V m c main_v22), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) r.2.2.1 r.2.2.2.1 r.2.2.2.2 (V m c main_v22), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) r.2.2.1 r.2.2.2.1 r.2.2.2.2 (V m c main_v22), r.2.2.2.1, r.2.2.2.2)

def outsAt0 (c : Dev nD) : (n : ℕ) → n < cfg0.N → Left (F := F)
  | 0, hn => startLeft m c ⟨0, hn⟩ (Nat.zero_mod _)
  | n + 1, hn =>
    if h0 : (n + 1) % 16 = 0 then startLeft m c ⟨n + 1, hn⟩ h0
    else laterLeft m c ⟨n + 1, hn⟩ h0 (outsAt0 c n (Nat.lt_of_succ_lt hn))

theorem outsAt0_A (c : Dev nD) (t : Fin cfg0.N) (h0 : t.val % 16 = 0) :
    outsAt0 m c t.val t.isLt = startLeft m c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = laterLeft m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp (MT nD τ sig Unit (Elt F) ℕ (Pipeline.UD sig nD τ) ℕ)
  | 0, _ => Pipeline.ΦD osem0 spec0 H0 (V m) c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v22)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v22))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v22))) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem before0_7_B (c : Dev nD) (t : Fin cfg0.N) (h0 : ¬t.val % 16 = 0) (d) :
    (dats m 0 c).before 7 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0, startLeft]
      unfold out0_A_5 out0_A_6 out0_A_7 sout0_A_0 sout0_A_1; (try dsimp only)
      iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (V m c main_v22)).2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hh0]; · iexact Hh0
      isplitl [HW]; · iexact HW
      iintro ⟨H0, H1, H2, H3, H4, ⟨%e5, H5⟩, ⟨%e6, H6⟩, ⟨%e7, H7⟩, ⟨%es0, HS0⟩, ⟨%es1, HS1⟩, Hq0, Hq1, Hq2, Hq3, Hh0, ⟨%W', HW'⟩⟩
      isplitl [HS0 HS1 Hg Hq0 Hq1 Hq2 Hq3 Hh0]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _)
        isplitl [Hg]
        · iexact Hg
        isplitl [Hq0 Hq1 Hq2 Hq3]
        · isplitl [Hq0]; · iexact Hq0
          isplitl [Hq1]; · iexact Hq1
          isplitl [Hq2]; · iexact Hq2
          iexact Hq3
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0, laterLeft]
      simp only [before0_7_B m c t h0]
      unfold out0_B_5 out0_B_6 out0_B_7; (try dsimp only)
      iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ (V m c main_v22)).2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hh0]; · iexact Hh0
      isplitl [HW]; · iexact HW
      iintro ⟨H0, H1, H2, H3, H4, ⟨%e5, H5⟩, ⟨%e6, H6⟩, ⟨%e7, H7⟩, HS0, HS1, Hq0, Hq1, Hq2, Hq3, Hh0, ⟨%W', HW'⟩⟩
      isplitl [HS0 HS1 Hg Hq0 Hq1 Hq2 Hq3 Hh0]
      · isplitl [HS0 HS1]
        · isplitl [HS0]; · iexact HS0
          iexact HS1
        isplitl [Hg]
        · iexact Hg
        isplitl [Hq0 Hq1 Hq2 Hq3]
        · isplitl [Hq0]; · iexact Hq0
          isplitl [Hq1]; · iexact Hq1
          isplitl [Hq2]; · iexact Hq2
          iexact Hq3
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3⟩, Hh0⟩
  isplitl [HS0 HS1]
  · isplitl [HS0]
    · iexists _; iexact HS0
    iexists _; iexact HS1
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0

theorem hout (c : Dev nD) : (dats m 0 c).Φ (Fin.last cfg0.N) ⊢ Pipeline.ΦD osem0 spec0 H0 (V m) c :=
  Phi_out m c _ (by rw [Fin.val_last]; have : cfg0.N = 16 := N_0; omega)
set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnRun

end
-- ==== Proof.FfnFacts.lean ====
/- What the launch writes to each array. -/
module

public import proofs.«01_k».proof.Proof.FfnFrame
public import Idealize.ShloMosaic.Lib.Pipeline.Value

@[expose] public section

noncomputable section

namespace Cert.FfnRun

open Cert.KernelFfnIdeal Cert.KernelFfnIdeal.Gen

open Cert.KernelFfnIdeal Cert.KernelFfnIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post5 (r : PUnit × MemSt nD τ sig (Elt F)) (h : Pipeline.FramePost cfgs (dats m) 0 (V m) r) (c : Dev nD) :
    r.2.mem ((c : Thread nD τ).loc main_v25_0) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v25_1) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v25_2) = (dats m 0 c).arrAt 7 cfg0.N :=
  (h c).1 7

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem run_blocks : θ_run defs (onTc (τ := τ) (main (F := F))) ⟨m, fun _ => 0, ρ⟩ fun r => ∀ c : Dev nD,
      r.2.mem ((c : Thread nD τ).loc main_v25_0) = (dats m 0 c).arrAt 5 cfg0.N
      ∧ r.2.mem ((c : Thread nD τ).loc main_v25_1) = (dats m 0 c).arrAt 6 cfg0.N
      ∧ r.2.mem ((c : Thread nD τ).loc main_v25_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

end Cert.FfnRun

end
-- ==== Proof.Halves.lean ====
/- Arrays stored as two column halves, and the gate's gradient among finite numbers. -/
module

public import Idealize.ShloMosaic.Lib.Pipeline.ReadBack
public import proofs.«01_k».proof.Proof.Reals
public import Idealize.ShloMosaic.Lib.Pipeline.ValueKit
public import Idealize.ShloMosaic.Lib.Pointwise

@[expose] public section

set_option maxRecDepth 16384

noncomputable section

open Idealize.ShloMosaic

namespace Cert.Halves
section
variable {V : EltTy → Type} [∀ e, Nonempty (V e)] {e : EltTy} {n a w : ℕ}

/-- Two column halves that are halves of one function leave that function. -/
theorem halves (hw : w = a + a) (G : (⟨2, ![n, w]⟩ : Shape).Idx → V e) (w0 w1 : (⟨2, ![n, a]⟩ : Shape).Idx → V e)
    (i0 : ∀ k, (![0, 0] : Fin 2 → ℕ) k + (![n, a] : Fin 2 → ℕ) k ≤ (⟨2, ![n, w]⟩ : Shape).size k)
    (i1 : ∀ k, (![0, a] : Fin 2 → ℕ) k + (![n, a] : Fin 2 → ℕ) k ≤ (⟨2, ![n, w]⟩ : Shape).size k)
    (h0 : ∀ p (d : Fin a), w0 (ix2 p d) = G (ix2 p ⟨d.val, by omega⟩)) (h1 : ∀ p (d : Fin a), w1 (ix2 p d) = G (ix2 p ⟨a + d.val, by omega⟩)) :
    View.canon [(⟨Rect.unit ![0, a] ![n, a] i1, w1⟩ : View.Piece V ⟨2, ![n, w]⟩ e), ⟨Rect.unit ![0, 0] ![n, a] i0, w0⟩] = G := by
  have g (o : ℕ) (i : ∀ k, (![0, o] : Fin 2 → ℕ) k + (![n, a] : Fin 2 → ℕ) k ≤ (⟨2, ![n, w]⟩ : Shape).size k) (f : (⟨2, ![n, a]⟩ : Shape).Idx → V e)
      (ho : o + a ≤ w) (h : ∀ p (d : Fin a), f (ix2 p d) = G (ix2 p ⟨o + d.val, by omega⟩)) (x : (⟨2, ![n, a]⟩ : Shape).Idx) : f x = G ((Rect.unit (s := ⟨2, ![n, w]⟩) ![0, o] ![n, a] i).emb x) := by
    obtain ⟨p, d, rfl⟩ : ∃ (p : Fin n) (d : Fin a), x = ix2 p d := ⟨x 0, x 1, eq_ix2 x⟩
    rw [h]
    refine congrArg G (funext fun k => Fin.ext ?_)
    match k with
    | ⟨0, _⟩ => exact ((Nat.zero_add _).trans (Nat.one_mul _)).symm
    | ⟨1, _⟩ => exact congrArg (o + ·) (Nat.one_mul _).symm
  funext y
  obtain ⟨p, q, rfl⟩ : ∃ (p : Fin n) (q : Fin w), y = ix2 p q := ⟨y 0, y 1, eq_ix2 y⟩
  refine View.canon_append_of_piecesOf G [] [⟨Rect.unit ![0, a] ![n, a] i1, w1⟩, ⟨Rect.unit ![0, 0] ![n, a] i0, w0⟩]
    ⟨g a i1 w1 (by omega) h1, g 0 i0 w0 (by omega) (fun p d => by rw [h0]; exact congrArg (fun r => G (ix2 p r)) (Fin.ext (Nat.zero_add _).symm)), trivial⟩ _ ?_
  have c (o : ℕ) (i : ∀ k, (![0, o] : Fin 2 → ℕ) k + (![n, a] : Fin 2 → ℕ) k ≤ (⟨2, ![n, w]⟩ : Shape).size k) (h : o ≤ q.val) (h' : q.val < o + a) : ix2 p q ∈ (Rect.unit (s := ⟨2, ![n, w]⟩) ![0, o] ![n, a] i).set :=
    Rect.mem_set_unit.mpr fun k => by
      match k with
      | ⟨0, _⟩ => exact ⟨Nat.zero_le _, (Nat.zero_add n).symm ▸ p.isLt⟩
      | ⟨1, _⟩ => exact ⟨h, h'⟩
  by_cases u : q.val < a
  · exact ⟨_, .tail _ (.head _), c 0 i0 (Nat.zero_le _) (by omega)⟩
  · exact ⟨_, .head _, c a i1 (by omega) (by have := q.isLt; omega)⟩

/-- A half of an array, read. -/
theorem half (G : (⟨2, ![n, w]⟩ : Shape).Idx → V e) (o : ℕ) (i : ∀ k, (![0, o] : Fin 2 → ℕ) k + (![n, a] : Fin 2 → ℕ) k ≤ (⟨2, ![n, w]⟩ : Shape).size k)
    (ho : o + a ≤ w) (p : Fin n) (d : Fin a) : View.ld (Val := V) (e' := e) G (Rect.unit (s := ⟨2, ![n, w]⟩) ![0, o] ![n, a] i) (ix2 p d) = G (ix2 p ⟨o + d.val, by omega⟩) := by
  refine congrArg G (funext fun k => Fin.ext ?_)
  match k with
  | ⟨0, _⟩ => exact (Nat.zero_add _).trans (Nat.one_mul _)
  | ⟨1, _⟩ => exact congrArg (o + ·) (Nat.one_mul _)
end

open Cert.Reals
/-- The gate's sigmoid is a real. -/
theorem Is.sig {u : EReal} : Is u → Is (Ideal.div 1 (1 + Ideal.exp (-u))) := by
  rintro ⟨a, rfl⟩
  have e : (1 : EReal) + Ideal.exp (-(a : EReal)) = ((1 + Real.exp (-a) : ℝ) : EReal) := by
    rw [EReal.coe_add, EReal.coe_one, ← EReal.coe_neg]; rfl
  rw [e, ← EReal.coe_one, quot _ _ (by positivity)]
  exact is _

/-- The derivative of `g ↦ g · s`, where `s` is the sigmoid of `g`: the kernel's form, and the chain rule's. -/
theorem silu {y u g s : EReal} (hy : Is y) (hu : Is u) (hg : Is g) (hs : Is s) : y * u * s * (1 + g * (1 - s)) = y * u * s + g * (y * u) * (s * (1 - s)) := by
  obtain ⟨y, rfl⟩ := hy; obtain ⟨u, rfl⟩ := hu; obtain ⟨g, rfl⟩ := hg; obtain ⟨s, rfl⟩ := hs
  rw [← EReal.coe_one]
  simp only [← EReal.coe_mul, ← EReal.coe_add, ← EReal.coe_sub]
  exact congrArg _ (by ring)
end Cert.Halves

end
-- ==== Proof.FfnValue.lean ====
/- The gradient of the gated channel mixer and of its norm: what the kernel's blocks hold is the chain rule's. -/
module

public import proofs.«01_k».proof.Proof.FfnFacts
public import Idealize.ShloMosaic.Lib.Pipeline.ReadBack
public import proofs.«01_k».proof.Proof.Gen.ReferenceFfnIdeal.Read
public import proofs.«01_k».proof.Proof.Sums
public import proofs.«01_k».proof.Proof.Halves
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfnValue
open Cert.KernelFfnIdeal Cert.KernelFfnIdeal.Gen Cert.FfnRun Cert.ReferenceFfnIdeal.Read
variable (m : (ℓ : Loc nD τ sig) → Buf (Elt Ideal) ℓ)

/-- Where each window's block lies at grid point `t`. -/
theorem place : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![t.val, 0] ∧ win0_6.index t = ![t.val, 0] ∧ win0_7.index t = ![0, 0] :=
  (by decide +kernel : ∀ t : Fin grid0.N, _)

/-- The running sum starts at zero. -/
theorem start (j : S1x1024.Idx) : k0_pay1 (F := Ideal) j = 0 := by
  pointwise! [k0_pay1]

/-- The block of the cotangent: row `p` of tile `t`. -/
theorem cotangent (c : Dev nD) (t : Fin cfg0.N) (p : Fin 256) (q : Fin 1024) :
    iblk m c 0 t (ix2 p q) = m ((c : Thread nD τ).loc main_arg4) (ix3 ⟨((Fin.cast N_0 t).val * 256 + p.val) / 2048, by omega⟩ ⟨((Fin.cast N_0 t).val * 256 + p.val) % 2048, by omega⟩ q) := by
  blk_simp [iblk, place t]; entry_read; pointwise; blk_ext [place t]

/-- The block of the norm's argument. -/
theorem rows (c : Dev nD) (t : Fin cfg0.N) (p : Fin 256) (q : Fin 1024) :
    iblk m c 2 t (ix2 p q) = m ((c : Thread nD τ).loc main_arg0) (ix3 ⟨((Fin.cast N_0 t).val * 256 + p.val) / 2048, by omega⟩ ⟨((Fin.cast N_0 t).val * 256 + p.val) % 2048, by omega⟩ q) := by
  blk_simp [iblk, place t]; entry_read; pointwise; blk_ext [place t]

/-- The block of the gates and their partners, as the forward lines leave them. -/
theorem gates (c : Dev nD) (t : Fin cfg0.N) (p : Fin 256) (q : Fin 5632) :
    iblk m c 1 t (ix2 p q) = Cert.ReferenceFfnIdeal.Read.val_main_v18 (F := Ideal) (m ((c : Thread nD τ).loc main_arg0)) (m ((c : Thread nD τ).loc main_arg1)) (m ((c : Thread nD τ).loc main_arg2))
      (ix3 ⟨((Fin.cast N_0 t).val * 256 + p.val) / 2048, by omega⟩ ⟨((Fin.cast N_0 t).val * 256 + p.val) % 2048, by omega⟩ q) := by
  have b : t.val * 256 + p.val < 4096 := by have := (Fin.cast N_0 t).isLt; simp only [Fin.val_cast] at this; omega
  have e : (win0_1.blk t).view.emb (ix2 p q) = ix2 ⟨t.val * 256 + p.val, b⟩ q := by blk_ext [place t]
  blk_simp [iblk]
  rw [e]; simp only [V]; entry_read; pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18]

/-- The second projection. -/
theorem down (c : Dev nD) (t : Fin cfg0.N) (p : Fin 2816) (q : Fin 1024) :
    iblk m c 3 t (ix2 p q) = m ((c : Thread nD τ).loc main_arg3) (ix3 0 p q) := by
  blk_simp [iblk, place t]; entry_read; pointwise; blk_ext [place t]

/-- The norm's gain. -/
theorem gain (c : Dev nD) (t : Fin cfg0.N)  (q : Fin 1024) :
    iblk m c 4 t (ix2 0 q) = m ((c : Thread nD τ).loc main_arg1) (ix2 0 q) := by
  blk_simp [iblk, place t]; entry_read; pointwise; blk_ext [place t]

/-- The first projection, in slabs of columns. -/
theorem slab (c : Dev nD) (a : Fin 4) (p : Fin 1024) (q : Fin 1408) :
    V m c main_v22 (ix3 a p q) = m ((c : Thread nD τ).loc main_arg2) (ix3 0 p ⟨a.val * 1408 + q.val, by omega⟩) := by
  simp only [V]; entry_read; pointwise; blk_ext [a]

/-- The first projection's columns, from `o` on. -/
def proj (c : Dev nD) (o : ℕ) (ho : o + 2816 ≤ 5632) : S1024x2816.Idx → EReal := fun i => m ((c : Thread nD τ).loc main_arg2) (ix3 0 (i 0) ⟨o + (i 1).val, by have : (i 1).val < 2816 := (i 1).isLt; omega⟩)

/-- What a copied slab holds. -/
theorem copied (c : Dev nD) (a : Fin 4) (o : ℕ) (e : a.val * 1408 = o) (i : ∀ k, (![a.val, 0, 0] : Fin 3 → ℕ) k + (![1, 1024, 1408] : Fin 3 → ℕ) k ≤ S4x1024x1408.size k)
    (h : S1024x1408.numel = S1x1024x1408.numel) (p : Fin 1024) (d : Fin 1408) :
    ReadAs.same.apply (View.read (Elt Ideal) (((View.whole main_v22).slice (Rect.unit (s := S4x1024x1408) ![a.val, 0, 0] ![1, 1024, 1408] i)).reshape S1024x1408 h) (V m c main_v22)) (ix2 p d)
      = m ((c : Thread nD τ).loc main_arg2) (ix3 0 p ⟨o + d.val, by omega⟩) := by
  have f : (((View.whole main_v22).slice (Rect.unit (s := S4x1024x1408) ![a.val, 0, 0] ![1, 1024, 1408] i)).reshape S1024x1408 h).emb (ix2 p d) = ix3 a p d := by
    show (Rect.unit (s := S4x1024x1408) ![a.val, 0, 0] ![1, 1024, 1408] i).emb (Shape.reshapeEquiv h (ix2 p d)) = _
    rw [Shape.reshapeEquiv_cons_one (d := ![1024, 1408]) h (ix2 p d)]
    refine funext fun k => Fin.ext ?_
    match k with
    | ⟨0, _⟩ => rfl
    | ⟨1, _⟩ => exact (Nat.zero_add _).trans (Nat.one_mul _)
    | ⟨2, _⟩ => exact (Nat.zero_add _).trans (Nat.one_mul _)
  show V m c main_v22 ((((View.whole main_v22).slice (Rect.unit (s := S4x1024x1408) ![a.val, 0, 0] ![1, 1024, 1408] i)).reshape S1024x1408 h).emb (ix2 p d)) = _
  rw [f, slab]
  exact congrArg (fun x => m ((c : Thread nD τ).loc main_arg2) (ix3 0 p x)) (Fin.ext (by simp only; omega))

theorem first0 (c : Dev nD) (h : S1024x1408.numel = S1x1024x1408.numel) : View.canon (Val := Elt Ideal) (e := .bf16) [⟨Rect.unit ![0, 1408] ![1024, 1408] inb_S1024x2816_S1024x1408_0_1408,
      ReadAs.same.apply (View.read (Elt Ideal) (((View.whole main_v22).slice (Rect.unit (s := S4x1024x1408) ![1, 0, 0] ![1, 1024, 1408] inb_S4x1024x1408_S1x1024x1408_1_0_0)).reshape S1024x1408 h) (V m c main_v22))⟩,
    ⟨Rect.unit ![0, 0] ![1024, 1408] inb_S1024x2816_S1024x1408_0_0,
      ReadAs.same.apply (View.read (Elt Ideal) (((View.whole main_v22).slice (Rect.unit (s := S4x1024x1408) ![0, 0, 0] ![1, 1024, 1408] inb_S4x1024x1408_S1x1024x1408_0_0_0)).reshape S1024x1408 h) (V m c main_v22))⟩] = proj m c 0 (by norm_num) :=
  Cert.Halves.halves (V := Elt Ideal) (e := .bf16) (n := 1024) (a := 1408) (by norm_num) (proj m c 0 (by norm_num)) _ _ _ _
    (fun p d => (copied m c 0 0 rfl _ _ p d).trans (congrArg (fun x => m ((c : Thread nD τ).loc main_arg2) (ix3 0 p x)) (Fin.ext (by simp only [ix2]))))
    (fun p d => (copied m c 1 1408 rfl _ _ p d).trans (congrArg (fun x => m ((c : Thread nD τ).loc main_arg2) (ix3 0 p x)) (Fin.ext (Nat.zero_add _).symm)))

theorem first1 (c : Dev nD) (h : S1024x1408.numel = S1x1024x1408.numel) : View.canon (Val := Elt Ideal) (e := .bf16) [⟨Rect.unit ![0, 1408] ![1024, 1408] inb_S1024x2816_S1024x1408_0_1408,
      ReadAs.same.apply (View.read (Elt Ideal) (((View.whole main_v22).slice (Rect.unit (s := S4x1024x1408) ![3, 0, 0] ![1, 1024, 1408] inb_S4x1024x1408_S1x1024x1408_3_0_0)).reshape S1024x1408 h) (V m c main_v22))⟩,
    ⟨Rect.unit ![0, 0] ![1024, 1408] inb_S1024x2816_S1024x1408_0_0,
      ReadAs.same.apply (View.read (Elt Ideal) (((View.whole main_v22).slice (Rect.unit (s := S4x1024x1408) ![2, 0, 0] ![1, 1024, 1408] inb_S4x1024x1408_S1x1024x1408_2_0_0)).reshape S1024x1408 h) (V m c main_v22))⟩] = proj m c 2816 (by norm_num) :=
  Cert.Halves.halves (V := Elt Ideal) (e := .bf16) (n := 1024) (a := 1408) (by norm_num) (proj m c 2816 (by norm_num)) _ _ _ _
    (fun p d => copied m c 2 2816 rfl _ _ p d)
    (fun p d => (copied m c 3 4224 rfl _ _ p d).trans (congrArg (fun x => m ((c : Thread nD τ).loc main_arg2) (ix3 0 p x)) (Fin.ext (by simp only [ix2]; show 4224 + d.val = 2816 + (1408 + d.val); omega))))

theorem keep0 (c : Dev nD) (t : Fin cfg0.N) (u : ¬t.val % 16 = 0) : (outsAt0 m c t.val t.isLt).2.2.2.1 = (outsAt0 m c (t.val - 1) (Nat.lt_of_le_of_lt (Nat.sub_le _ _) t.isLt)).2.2.2.1 := by
  rw [outsAt0_B m c t u, laterLeft]

/-- The first scratch holds the gates' half of the projection from the first point on. -/
theorem held0 (c : Dev nD) : ∀ (k : ℕ) (h : k < cfg0.N), (outsAt0 m c k h).2.2.2.1 = proj m c 0 (by norm_num)
  | 0, h => by
    rw [outsAt0_A m c ⟨0, h⟩ rfl]
    unfold startLeft
    frame_out
    exact first0 m c _
  | k + 1, h => by
    by_cases u : (k + 1) % 16 = 0
    · rw [outsAt0_A m c ⟨k + 1, h⟩ u, startLeft]
      frame_out
      exact first0 m c _
    · exact (keep0 m c ⟨k + 1, h⟩ u).trans (held0 c k _)

theorem keep1 (c : Dev nD) (t : Fin cfg0.N) (u : ¬t.val % 16 = 0) : (outsAt0 m c t.val t.isLt).2.2.2.2 = (outsAt0 m c (t.val - 1) (Nat.lt_of_le_of_lt (Nat.sub_le _ _) t.isLt)).2.2.2.2 := by
  rw [outsAt0_B m c t u, laterLeft]

/-- The second scratch holds the partners' half. -/
theorem held1 (c : Dev nD) : ∀ (k : ℕ) (h : k < cfg0.N), (outsAt0 m c k h).2.2.2.2 = proj m c 2816 (by norm_num)
  | 0, h => by
    rw [outsAt0_A m c ⟨0, h⟩ rfl]
    unfold startLeft
    frame_out
    exact first1 m c _
  | k + 1, h => by
    by_cases u : (k + 1) % 16 = 0
    · rw [outsAt0_A m c ⟨k + 1, h⟩ u, startLeft]
      frame_out
      exact first1 m c _
    · exact (keep1 m c ⟨k + 1, h⟩ u).trans (held1 c k _)

end Cert.FfnValue

end
-- ==== Proof.FfnRef.lean ====
/- The gated mixer's gradient: the reference's, in the kernel's form. -/
module

public import proofs.«01_k».proof.Proof.FfnValue
public import proofs.«01_k».proof.Proof.Gen.ReferenceFfnIdeal.Read
public import proofs.«01_k».proof.Proof.Sums
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfnValue

section
open Cert.ReferenceFfnIdeal.Read
variable (x : (⟨3, ![2, 2048, 1024]⟩ : Shape).Idx → EReal) (g : (⟨2, ![1, 1024]⟩ : Shape).Idx → EReal)
  (w : (⟨3, ![1, 1024, 5632]⟩ : Shape).Idx → EReal) (w' : (⟨3, ![1, 2816, 1024]⟩ : Shape).Idx → EReal)
  (d : (⟨3, ![2, 2048, 1024]⟩ : Shape).Idx → EReal)

/-- The forward lines' gates and partners. -/
def gu (b : Fin 2) (s : Fin 2048) (q : Fin 5632) : EReal := val_main_v18 (F := Ideal) x g w (ix3 b s q)
/-- The cotangent of the product of gate and partner. -/
def dact (b : Fin 2) (s : Fin 2048) (q : Fin 2816) : EReal := ∑ k : Fin 1024, d (ix3 b s k) * w' (ix3 0 q k)
/-- The sigmoid of a number. -/
def sigmoid (u : EReal) : EReal := Ideal.div 1 (1 + Ideal.exp (-u))

theorem gu_is (hx : ∀ i, Cert.Reals.Is (x i)) (hg : ∀ i, Cert.Reals.Is (g i)) (hw : ∀ i, Cert.Reals.Is (w i)) (b : Fin 2) (s : Fin 2048) (q : Fin 5632) : Cert.Reals.Is (gu x g w b s q) := by
  unfold gu
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18]
  exact Cert.Reals.Is.sum fun _ => (((hx _).mul (Cert.Reals.Is.rsqrt (x := fun k => x (ix3 b s k)) fun _ => hx _)).mul (hg _)).mul (hw _)

theorem dact_is (hw : ∀ i, Cert.Reals.Is (w' i)) (hd : ∀ i, Cert.Reals.Is (d i)) (b : Fin 2) (s : Fin 2048) (q : Fin 2816) : Cert.Reals.Is (dact w' d b s q) :=
  Cert.Reals.Is.sum fun _ => (hd _).mul (hw _)

/-- The gradient of gates and partners, in the kernel's form. -/
def dgu (b : Fin 2) (s : Fin 2048) (q : Fin 5632) : EReal := val_main_v31 (F := Ideal) x g w w' d (ix3 b s q)

theorem low' (b : Fin 2) (s : Fin 2048) (q : Fin 2816) : val_main_v31 (F := Ideal) x g w w' d (ix3 b s ⟨q.val, by omega⟩)
    = dact w' d b s q * gu x g w b s ⟨2816 + q.val, by omega⟩ * sigmoid (gu x g w b s ⟨q.val, by omega⟩)
      + gu x g w b s ⟨q.val, by omega⟩ * (dact w' d b s q * gu x g w b s ⟨2816 + q.val, by omega⟩)
        * (sigmoid (gu x g w b s ⟨q.val, by omega⟩) * (1 - sigmoid (gu x g w b s ⟨q.val, by omega⟩))) := by
  pointwise [val_main_v19, val_main_call0_v0, val_main_call0_v1, val_main_call0_cst, val_main_call0_v2, val_main_call0_v3, val_main_call0_cst_0, val_main_call0_v4, val_main_v20_2, val_main_call0_cst_1, val_main_call0_v6, val_main_call0_v7, val_main_v20_1, val_main_v20_0, val_main_v21, val_main_v22, val_main_v23, val_main_v24, val_main_v25, val_main_v26, val_main_v27, val_main_cst_3, val_main_v28, val_main_call1_v0, val_main_call1_v1, val_main_call1_v2, val_main_v29, val_main_cst_4, val_main_v30, val_main_v31]
  rw [dif_neg (fun h => h.1), zero_add]
  rfl
/-- Its first half: the gates'. -/
theorem low (hx : ∀ i, Cert.Reals.Is (x i)) (hg : ∀ i, Cert.Reals.Is (g i)) (hw : ∀ i, Cert.Reals.Is (w i)) (hw' : ∀ i, Cert.Reals.Is (w' i)) (hd : ∀ i, Cert.Reals.Is (d i))
    (b : Fin 2) (s : Fin 2048) (q : Fin 2816) : dgu x g w w' d b s ⟨q.val, by omega⟩
    = dact w' d b s q * gu x g w b s ⟨2816 + q.val, by omega⟩ * sigmoid (gu x g w b s ⟨q.val, by omega⟩)
      * (1 + gu x g w b s ⟨q.val, by omega⟩ * (1 - sigmoid (gu x g w b s ⟨q.val, by omega⟩))) :=
  (low' x g w w' d b s q).trans (Cert.Halves.silu (dact_is w' d hw' hd b s q) (gu_is x g w hx hg hw b s _) (gu_is x g w hx hg hw b s _) (Cert.Halves.Is.sig (gu_is x g w hx hg hw b s _))).symm

/-- Its second half: the partners'. -/
theorem high (b : Fin 2) (s : Fin 2048) (q : Fin 2816) : dgu x g w w' d b s ⟨2816 + q.val, by omega⟩
    = dact w' d b s q * gu x g w b s ⟨q.val, by omega⟩ * sigmoid (gu x g w b s ⟨q.val, by omega⟩) := by
  unfold dgu
  pointwise [val_main_v19, val_main_call0_v0, val_main_call0_v1, val_main_call0_cst, val_main_call0_v2, val_main_call0_v3, val_main_call0_cst_0, val_main_call0_v4, val_main_v20_2, val_main_call0_cst_1, val_main_call0_v6, val_main_call0_v7, val_main_v20_1, val_main_v20_0, val_main_v21, val_main_v22, val_main_v23, val_main_v24, val_main_v25, val_main_v26, val_main_v27, val_main_cst_3, val_main_v28, val_main_call1_v0, val_main_call1_v1, val_main_call1_v2, val_main_v29, val_main_cst_4, val_main_v30, val_main_v31]
  exact (mul_comm (G := EReal) _ _).trans (mul_assoc (G := EReal) _ _ _).symm

theorem dgu_is (hx : ∀ i, Cert.Reals.Is (x i)) (hg : ∀ i, Cert.Reals.Is (g i)) (hw : ∀ i, Cert.Reals.Is (w i)) (hw' : ∀ i, Cert.Reals.Is (w' i)) (hd : ∀ i, Cert.Reals.Is (d i))
    (b : Fin 2) (s : Fin 2048) (q : Fin 5632) : Cert.Reals.Is (dgu x g w w' d b s q) := by
  have a := gu_is x g w hx hg hw b s
  have y := dact_is w' d hw' hd b s
  by_cases u : q.val < 2816
  · rw [show q = ⟨(⟨q.val, u⟩ : Fin 2816).val, q.isLt⟩ from rfl, low x g w w' d hx hg hw hw' hd b s ⟨q.val, u⟩]
    exact (((y _).mul (a _)).mul (Cert.Halves.Is.sig (a _))).mul (Cert.Reals.Is.one.add ((a _).mul (Cert.Reals.Is.one.sub (Cert.Halves.Is.sig (a _)))))
  · rw [show q = ⟨2816 + (⟨q.val - 2816, by omega⟩ : Fin 2816).val, by have := q.isLt; simp only; omega⟩ from Fin.ext (by simp only; omega), high x g w w' d b s _]
    exact ((y _).mul (a _)).mul (Cert.Halves.Is.sig (a _))

/-- The gradient of the norm's result. -/
def dhf (b : Fin 2) (s : Fin 2048) (j : Fin 1024) : EReal := ∑ k : Fin 5632, dgu x g w w' d b s k * w (ix3 0 j k)

/-- The chain rule's gradient, in the kernel's form: the arguments are finite. -/
theorem chain (hx : ∀ i, Cert.Reals.Is (x i)) (hg : ∀ i, Cert.Reals.Is (g i)) (hw : ∀ i, Cert.Reals.Is (w i)) (hw' : ∀ i, Cert.Reals.Is (w' i)) (hd : ∀ i, Cert.Reals.Is (d i))
    (i : Fin 4096) (q : Fin 1024) (hb : i.val / 2048 < 2) (hs : i.val % 2048 < 2048) :
    val_main_v57 (F := Ideal) x g w w' d (ix2 i q)
      = d (ix3 ⟨i.val / 2048, hb⟩ ⟨i.val % 2048, hs⟩ q) + Ideal.rsqrt (Cert.Reals.meansq fun k => x (ix3 ⟨i.val / 2048, hb⟩ ⟨i.val % 2048, hs⟩ k)) * (dhf x g w w' d ⟨i.val / 2048, hb⟩ ⟨i.val % 2048, hs⟩ q * g (ix2 0 q)
        - x (ix3 ⟨i.val / 2048, hb⟩ ⟨i.val % 2048, hs⟩ q) * Ideal.rsqrt (Cert.Reals.meansq fun k => x (ix3 ⟨i.val / 2048, hb⟩ ⟨i.val % 2048, hs⟩ k)) * Ideal.div (∑ j, dhf x g w w' d ⟨i.val / 2048, hb⟩ ⟨i.val % 2048, hs⟩ j * g (ix2 0 j)
          * (x (ix3 ⟨i.val / 2048, hb⟩ ⟨i.val % 2048, hs⟩ j) * Ideal.rsqrt (Cert.Reals.meansq fun k => x (ix3 ⟨i.val / 2048, hb⟩ ⟨i.val % 2048, hs⟩ k)))) (Ideal.ofBits .f32 1149239296#32)) := by
  rw [Cert.Reals.norm (fun k => x (ix3 ⟨i.val / 2048, hb⟩ ⟨i.val % 2048, hs⟩ k)) (fun j => dhf x g w w' d ⟨i.val / 2048, hb⟩ ⟨i.val % 2048, hs⟩ j) (fun j => g (ix2 0 j))
    (fun _ => hx _) (fun _ => Cert.Reals.Is.sum fun _ => (dgu_is x g w w' d hx hg hw hw' hd _ _ _).mul (hw _)) (fun _ => hg _)]
  pointwise [val_main_v17, val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v32, val_main_v33, val_main_cst_5, val_main_v34, val_main_v35, val_main_v36, val_main_v37, val_main_cst_6, val_main_v38, val_main_v39, val_main_cst_7, val_main_v40, val_main_v41, val_main_v42, val_main_v43, val_main_v44, val_main_cst_8, val_main_v45, val_main_v46, val_main_cst_9, val_main_v47, val_main_v48, val_main_v49, val_main_v50, val_main_v51, val_main_v52, val_main_v53, val_main_v54, val_main_v55, val_main_v56, val_main_v57]
  simp only [Fin.sum_univ_one, Fin.isValue, Cert.Reals.meansq, dhf, dgu, add_assoc]

/-- The chain rule's gradient of the gain. -/
theorem summed (q : Fin 1024) : val_main_v53 (F := Ideal) x g w w' d (ix2 0 q)
    = ∑ b : Fin 2, ∑ s : Fin 2048, dhf x g w w' d b s q * (x (ix3 b s q) * Ideal.rsqrt (Cert.Reals.meansq fun k => x (ix3 b s k))) := by
  pointwise [Cert.Sums.front_two, val_main_v17, val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v32, val_main_v33, val_main_cst_5, val_main_v34, val_main_v35, val_main_v36, val_main_v37, val_main_cst_6, val_main_v38, val_main_v39, val_main_cst_7, val_main_v40, val_main_v41, val_main_v42, val_main_v43, val_main_v44, val_main_cst_8, val_main_v45, val_main_v46, val_main_cst_9, val_main_v47, val_main_v48, val_main_v49, val_main_v50, val_main_v51, val_main_v52, val_main_v53, val_main_v54, val_main_v55, val_main_v56, val_main_v57]
  simp only [Fin.sum_univ_one, Fin.isValue, Cert.Reals.meansq]
  exact Finset.sum_congr (M := EReal) rfl fun b _ => Finset.sum_congr (M := EReal) rfl fun s _ => mul_comm (G := EReal) _ _
end
end Cert.FfnValue

end
-- ==== Proof.FfnEnds.lean ====
/- The gated mixer's gradient: what the kernel leaves is the reference's. -/
module

public import proofs.«01_k».proof.Proof.FfnRef
public import proofs.«01_k».proof.Proof.Gen.ReferenceFfnIdeal.Read
public import proofs.«01_k».proof.Proof.Sums
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FfnValue
open Cert.KernelFfnIdeal Cert.KernelFfnIdeal.Gen Cert.FfnRun
variable (m : (ℓ : Loc nD τ sig) → Buf (Elt Ideal) ℓ)

/-- The arguments hold no infinity. -/
def fin (c : Dev nD) : Prop := (∀ i, Cert.Reals.Is (m ((c : Thread nD τ).loc main_arg0) i)) ∧ (∀ i, Cert.Reals.Is (m ((c : Thread nD τ).loc main_arg1) i))
  ∧ (∀ i, Cert.Reals.Is (m ((c : Thread nD τ).loc main_arg2) i)) ∧ (∀ i, Cert.Reals.Is (m ((c : Thread nD τ).loc main_arg3) i)) ∧ (∀ i, Cert.Reals.Is (m ((c : Thread nD τ).loc main_arg4) i))

/-- The sequence and the position of row `p` of tile `t`. -/
def seq (t : Fin cfg0.N) (p : Fin 256) : Fin 2 := ⟨((Fin.cast N_0 t).val * 256 + p.val) / 2048, by omega⟩
def pos (t : Fin cfg0.N) (p : Fin 256) : Fin 2048 := ⟨((Fin.cast N_0 t).val * 256 + p.val) % 2048, by omega⟩

/-- The gradients of gates and partners, and of the norm's result, of these arguments. -/
def dgus (c : Dev nD) := dgu (m ((c : Thread nD τ).loc main_arg0)) (m ((c : Thread nD τ).loc main_arg1)) (m ((c : Thread nD τ).loc main_arg2)) (m ((c : Thread nD τ).loc main_arg3)) (m ((c : Thread nD τ).loc main_arg4))
def dhfs (c : Dev nD) := dhf (m ((c : Thread nD τ).loc main_arg0)) (m ((c : Thread nD τ).loc main_arg1)) (m ((c : Thread nD τ).loc main_arg2)) (m ((c : Thread nD τ).loc main_arg3)) (m ((c : Thread nD τ).loc main_arg4))

/-- The stored half of the gates. -/
def lo (c : Dev nD) (t : Fin cfg0.N) : FVec Ideal S256x2816 .bf16 :=
  k0_pay6 (iblk m c 0 t) (iblk m c 3 t) (View.ld (Val := Elt Ideal) (e' := .f32) (iblk m c 1 t) (Rect.unit ![0, 0] ![256, 2816] inb_S256x5632_S256x2816_0_0))
    (View.ld (Val := Elt Ideal) (e' := .f32) (iblk m c 1 t) (Rect.unit ![0, 2816] ![256, 2816] inb_S256x5632_S256x2816_0_2816))
/-- The stored half of the partners. -/
def hi (c : Dev nD) (t : Fin cfg0.N) : FVec Ideal S256x2816 .bf16 :=
  k0_pay7 (iblk m c 0 t) (iblk m c 3 t) (View.ld (Val := Elt Ideal) (e' := .f32) (iblk m c 1 t) (Rect.unit ![0, 0] ![256, 2816] inb_S256x5632_S256x2816_0_0))

theorem lo_eq (c : Dev nD) (h : fin m c) (t : Fin cfg0.N) (p : Fin 256) (d : Fin 2816) : lo m c t (ix2 p d) = dgus m c (seq t p) (pos t p) ⟨d.val, by omega⟩ := by
  unfold dgus
  rw [low _ _ _ _ _ h.1 h.2.1 h.2.2.1 h.2.2.2.1 h.2.2.2.2]
  unfold lo
  pointwise [k0_pay6, k0_pay5, k0_pay4, k0_pay3, k0_pay2]
  simp only [cotangent, down, gates, zero_sub]
  rfl

theorem hi_eq (c : Dev nD) (h : fin m c) (t : Fin cfg0.N) (p : Fin 256) (d : Fin 2816) : hi m c t (ix2 p d) = dgus m c (seq t p) (pos t p) ⟨2816 + d.val, by omega⟩ := by
  unfold dgus
  rw [high]
  unfold hi
  pointwise [k0_pay7, k0_pay5, k0_pay4, k0_pay3, k0_pay2]
  simp only [cotangent, down, gates, zero_sub]
  rfl

/-- The product with the projection's halves is the product with the projection. -/
theorem back (c : Dev nD) (h : fin m c) (t : Fin cfg0.N) (p : Fin 256) (j : Fin 1024) :
    k0_pay8 (lo m c t) (hi m c t) (proj m c 0 (by norm_num)) (proj m c 2816 (by norm_num)) (ix2 p j) = dhfs m c (seq t p) (pos t p) j := by
  pointwise [k0_pay8]
  simp only [lo_eq m c h, hi_eq m c h]
  unfold dhfs dhf
  rw [Fin.sum_univ_add (M := EReal) (a := 2816) (b := 2816)]
  refine congrArg₂ (fun u v : EReal => u + v) (Finset.sum_congr (M := EReal) rfl fun k _ => ?_) rfl
  exact congrArg (fun r => dgus m c (seq t p) (pos t p) ⟨k.val, by omega⟩ * m ((c : Thread nD τ).loc main_arg2) (ix3 0 j r)) (Fin.ext (Nat.zero_add _))

/-- A block of the gradient of gates and partners. -/
def dguB (c : Dev nD) (t : Fin cfg0.N) : (⟨2, ![256, 5632]⟩ : Shape).Idx → EReal := fun i => dgus m c (seq t (i 0)) (pos t (i 0)) (i 1)

/-- Every point stores its block of the gradient of gates and partners. -/
theorem dgu_left (c : Dev nD) (h : fin m c) (t : Fin cfg0.N) : (outsAt0 m c t.val t.isLt).1 = dguB m c t := by
  by_cases u : t.val % 16 = 0
  on_goal 1 => rw [outsAt0_A m c t u, startLeft]
  on_goal 2 => rw [outsAt0_B m c t u, laterLeft]
  all_goals
    frame_out
    exact Cert.Halves.halves (V := Elt Ideal) (e := .bf16) (n := 256) (a := 2816) (by norm_num) (dguB m c t) _ _ _ _ (fun p d => lo_eq m c h t p d) (fun p d => hi_eq m c h t p d)

theorem whole (G : (⟨2, ![1024, 2816]⟩ : Shape).Idx → EReal) (i) : View.ld (Val := Elt Ideal) (e' := .bf16) G (Rect.unit (s := ⟨2, ![1024, 2816]⟩) ![0, 0] ![1024, 2816] i) = G := by
  funext y
  refine congrArg G (funext fun k => Fin.ext ?_)
  match k with
  | ⟨0, _⟩ => exact (Nat.zero_add _).trans (Nat.one_mul _)
  | ⟨1, _⟩ => exact (Nat.zero_add _).trans (Nat.one_mul _)

/-- Reading a scratch back, where it was just filled and where it was kept. -/
theorem filled0 (c : Dev nD) (i) : (fun j => proj m c 0 (by norm_num) ((Rect.unit (s := S1024x2816) ![0, 0] ![1024, 2816] i).toLoadRect.idx j)) = proj m c 0 (by norm_num) := whole _ _
theorem filled1 (c : Dev nD) (i) : (fun j => proj m c 2816 (by norm_num) ((Rect.unit (s := S1024x2816) ![0, 0] ![1024, 2816] i).toLoadRect.idx j)) = proj m c 2816 (by norm_num) := whole _ _

/-- Every point's block of the gradient of the norm's argument. -/
theorem dx_left (c : Dev nD) (t : Fin cfg0.N) : (outsAt0 m c t.val t.isLt).2.1
    = k0_pay12 (k0_pay2 (iblk m c 0 t)) (lo m c t) (hi m c t) (proj m c 0 (by norm_num)) (proj m c 2816 (by norm_num)) (iblk m c 2 t) (iblk m c 4 t) := by
  by_cases u : t.val % 16 = 0
  · rw [outsAt0_A m c t u, startLeft]
    frame_out
    rw [View.readCov_eq_canon', View.readCov_eq_canon', first0, first1]
    exact congrArg₂ (fun S0 S1 => k0_pay12 (k0_pay2 (iblk m c 0 t)) (lo m c t) (hi m c t) S0 S1 (iblk m c 2 t) (iblk m c 4 t)) (filled0 m c _) (filled1 m c _)
  · rw [outsAt0_B m c t u, laterLeft]
    frame_out
    rw [held0, held1, read_unread_whole, read_unread_whole]
    rfl

/-- What every point adds to the gain's gradient. -/
theorem gain_first (c : Dev nD) (t : Fin cfg0.N) (u : t.val % 16 = 0) : (outsAt0 m c t.val t.isLt).2.2.1
    = k0_pay13 (lo m c t) (hi m c t) (proj m c 0 (by norm_num)) (proj m c 2816 (by norm_num)) (iblk m c 2 t) (k0_pay1 (F := Ideal)) := by
  rw [outsAt0_A m c t u, startLeft]
  frame_out
  rw [View.readCov_eq_canon', View.readCov_eq_canon', first0, first1]
  exact congrArg₂ (fun S0 S1 => k0_pay13 (lo m c t) (hi m c t) S0 S1 (iblk m c 2 t) (k0_pay1 (F := Ideal))) (filled0 m c _) (filled1 m c _)
theorem gain_next (c : Dev nD) (t : Fin cfg0.N) (u : ¬t.val % 16 = 0) : (outsAt0 m c t.val t.isLt).2.2.1
    = k0_pay13 (lo m c t) (hi m c t) (proj m c 0 (by norm_num)) (proj m c 2816 (by norm_num)) (iblk m c 2 t) (outsAt0 m c (t.val - 1) (Nat.lt_of_le_of_lt (Nat.sub_le _ _) t.isLt)).2.2.1 := by
  rw [outsAt0_B m c t u, laterLeft]
  frame_out
  rw [held0, held1, read_unread_whole, read_unread_whole]
  rfl

/-- What tile `t` adds to the gain's gradient. -/
def part (c : Dev nD) (t : Fin cfg0.N) (q : Fin 1024) : EReal :=
  let X : Fin 2 → Fin 2048 → Fin 1024 → EReal := fun b s k => m ((c : Thread nD τ).loc main_arg0) (ix3 b s k)
  ∑ p : Fin 256, dhfs m c (seq t p) (pos t p) q * (X (seq t p) (pos t p) q * Ideal.rsqrt (Cert.Reals.meansq (X (seq t p) (pos t p))))

theorem step (c : Dev nD) (h : fin m c) (t : Fin cfg0.N) (acc : FVec Ideal S1x1024 .f32) (j : S1x1024.Idx) :
    k0_pay13 (lo m c t) (hi m c t) (proj m c 0 (by norm_num)) (proj m c 2816 (by norm_num)) (iblk m c 2 t) acc j = acc j + part m c t (j 1) := by
  obtain ⟨z, q, rfl⟩ : ∃ (z : Fin 1) (q : Fin 1024), j = ix2 z q := ⟨j 0, j 1, (ix2_eta j).symm⟩
  obtain rfl : z = 0 := Subsingleton.elim _ _
  pointwise [k0_pay13, k0_pay11, k0_pay10, k0_pay9]
  simp only [rows, back m c h]
  rfl

section
open Cert.ReferenceFfnIdeal.Read
/-- The gradient of gates and partners. -/
theorem gated (c : Dev nD) (h : fin m c) : (dats m 0 c).arrAt 5 (cfgs 0).N = val_main_v55 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have b (p : Fin 256) : t.val * 256 + p.val < 4096 := by have := (Fin.cast N_0 t).isLt; simp only [Fin.val_cast] at this; omega
  obtain ⟨p, q, rfl⟩ : ∃ (p : Fin 256) (q : Fin 5632), y = ix2 p q := ⟨y 0, y 1, eq_ix2 y⟩
  have e : ((View.whole main_v25_0).slice (win0_5.rect t)).emb (ix2 p q) = ix2 ⟨t.val * 256 + p.val, b p⟩ q := by blk_ext [place t]
  blk_simp
  rw [e, after0_5, dgu_left m c h]
  pointwise [val_main_v55, val_main_v54]
  rfl

/-- The gradient of the norm's argument, with the cotangent that passes it by. -/
theorem input (c : Dev nD) (h : fin m c) : (dats m 0 c).arrAt 6 (cfgs 0).N = val_main_v57 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  have b (p : Fin 256) : t.val * 256 + p.val < 4096 := by have := (Fin.cast N_0 t).isLt; simp only [Fin.val_cast] at this; omega
  obtain ⟨p, q, rfl⟩ : ∃ (p : Fin 256) (q : Fin 1024), y = ix2 p q := ⟨y 0, y 1, eq_ix2 y⟩
  have e : ((View.whole main_v25_1).slice (win0_6.rect t)).emb (ix2 p q) = ix2 ⟨t.val * 256 + p.val, b p⟩ q := by blk_ext [place t]
  blk_simp
  rw [e, after0_6, chain _ _ _ _ _ h.1 h.2.1 h.2.2.1 h.2.2.2.1 h.2.2.2.2 _ _ (by simp only; have := b p; omega) (by simp only; omega), dx_left]
  pointwise [k0_pay12, k0_pay11, k0_pay10, k0_pay9, k0_pay2]
  simp only [rows, gain, cotangent, back m c h]
  rfl

/-- The gain's gradient, summed over the grid. -/
theorem gains (c : Dev nD) (h : fin m c) : (dats m 0 c).arrAt 7 (cfgs 0).N = val_main_v53 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 7 t0_15 (by decide +kernel) _ fun j => ?_
  obtain ⟨z, q, rfl⟩ : ∃ (z : Fin 1) (q : Fin 1024), j = ix2 z q := ⟨j 0, j 1, (ix2_eta j).symm⟩
  blk_simp
  obtain rfl : z = 0 := Subsingleton.elim _ _
  rw [after0_7, Pipeline.eq_sum_fin_of_reset_step_apply_last (fun n h => (outsAt0 m c n h).2.2.1) 16 (fun _ => 0) (fun t i => part m c t (i 1))
    (fun t u j => by simp only [gain_first m c t u]; rw [step m c h, start])
    (fun t u j => by simp only [gain_next m c t u]; rw [step m c h])
    (le_of_eq N_0) t0_15 rfl (ix2 0 q), zero_add, summed]
  rw [Cert.Sums.tiles (M := EReal) (n := 16) (p := 256) (by norm_num) _ (fun t r => by omega) (fun t r => by omega)]
  exact Fintype.sum_equiv (M := EReal) (finCongr N_0) _ _ fun t => rfl
end
end Cert.FfnValue

end
-- ==== Proof.FfnEnd.lean ====
/- What is claimed of the gated channel mixer's gradient. -/
module

public import proofs.«01_k».proof.Defs
public import proofs.«01_k».proof.Proof.Gen.ReferenceFfnIdeal.Run
public import proofs.«01_k».proof.Proof.Gen.Pre_finite_ffn
public import proofs.«01_k».proof.Proof.Gen.KernelFfn
public import proofs.«01_k».proof.Proof.FfnEnds
public import Idealize.ShloMosaic.Adequacy
public import Idealize.ShloMosaic.Init

@[expose] public section

set_option maxRecDepth 16384
set_option maxHeartbeats 4000000

noncomputable section

namespace Cert.FfnEnd

open Idealize.ShloMosaic Idealize.SL.Sem

theorem frame_kernel : Cert.quiescent_KernelFfn := fun m g _ =>
  Eq.mp (by sl_kernel_rfl) (Cert.FfnRun.frame (F := Bits) m g)

theorem frame_ideal : Cert.quiescent_KernelFfnIdeal := fun m g _ => Cert.FfnRun.frame (F := Ideal) m g

theorem frame_reference : Cert.quiescent_ReferenceFfnIdeal := fun m g _ =>
  (θ_run Cert.ReferenceFfnIdeal.defs _ _).mono (fun r h => ⟨fun c => (h c).2.2.2, sem_eq_zero_of_no_sems (by decide) r.2⟩)
    (Cert.ReferenceFfnIdeal.Value.run (F := Ideal) m g)

/-- The precondition says that the arguments it reads hold no infinity. -/
theorem finite (m : (ℓ : Loc Cert.KernelFfnIdeal.nD Cert.KernelFfnIdeal.τ Cert.KernelFfnIdeal.sig) → Buf (Elt Ideal) ℓ)
    (h : Cert.Pre_KernelFfnIdeal_finite_ffn m) (c : Dev Cert.KernelFfnIdeal.nD) : Cert.FfnValue.fin m c :=
  ⟨fun i => Cert.Reals.of_lt _ (congrFun (h c).1 i), fun i => Cert.Reals.of_lt _ (congrFun (h c).2.1 i), fun i => Cert.Reals.of_lt _ (congrFun (h c).2.2.1 i), fun i => Cert.Reals.of_lt _ (congrFun (h c).2.2.2.1 i), fun i => Cert.Reals.of_lt _ (congrFun (h c).2.2.2.2 i)⟩

theorem algebraic : Cert.algebraic_KernelFfnIdeal_ReferenceFfnIdeal_pre_finite_ffn := by
  pair_intro
  · run_from Cert.FfnRun.run_blocks m g
  · run_from Cert.ReferenceFfnIdeal.Value.run m' g'
    · rw [Cert.ReferenceFfnIdeal.Read.val_main_v55_eq m' c]
      simp only [hagree c]
      exact (Cert.FfnValue.gated m c (finite m hpre c)).symm
    · rw [Cert.ReferenceFfnIdeal.Read.val_main_v57_eq m' c]
      simp only [hagree c]
      exact (Cert.FfnValue.input m c (finite m hpre c)).symm
    · rw [Cert.ReferenceFfnIdeal.Read.val_main_v53_eq m' c]
      simp only [hagree c]
      exact (Cert.FfnValue.gains m c (finite m hpre c)).symm

end Cert.FfnEnd

end
-- ==== Proof.LossRunA.lean ====
/- The body's run in case A. -/
module

public import proofs.«01_k».proof.Proof.Gen.KernelLossIdeal.Frame.Runs

@[expose] public section

set_option maxRecDepth 16384

noncomputable section

namespace Cert.LossRun

open Cert.KernelLossIdeal Cert.KernelLossIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
set_option maxHeartbeats 1000000 in
set_option sl_exec.dmaWindow true in
set_option sl_exec.dmaWindowSet true in
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) :
    Σ' (L5 : List (View.Piece (Elt F) S256x1024 .bf16)), Σ' (L6 : List (View.Piece (Elt F) S256x5632 .f32)), Σ' (L7 : List (View.Piece (Elt F) S256x2816 .bf16)), Σ' (L8 : List (View.Piece (Elt F) S256x1024 .f32)), Σ' (L9 : List (View.Piece (Elt F) S1x128 .f32)), Σ' (L10 : List (View.Piece (Elt F) S1x1024 .f32)), Σ' (LS0 : List (View.Piece (Elt F) S1024x2816 .bf16)), { LS1 : List (View.Piece (Elt F) S1024x2816 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_fwd_ffn i arg1 harg1 arg2 harg2 (Memref.whole main_v5) (Memref.isWhole_whole _) arg4 harg4 arg5 harg5 arg6 harg6 arg7 harg7 arg8 harg8 arg9 harg9 arg10 harg10 arg11 harg11 arg12 harg12 arg13 harg13 arg14 harg14 cc0_scratch2) K } := by
  refine ⟨?_, ?_, ?_, ?_, ?_, ?_, ?_, ?_, fun W K => ?run⟩
  case run =>
    simp only [cc0_fwd_ffn_eq_skeleton]; unfold cc0_fwd_ffn_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hq0, Hq1, Hq2, Hq3, Hh0, HW, Hk⟩
    obtain rfl := harg1.eq_unread hf0; obtain rfl := harg2.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hh0]; · iexact Hh0
    iexists _; iexact HW

end Cert.LossRun

end
-- ==== Proof.LossRunB.lean ====
/- The body's run in case B. -/
module

public import proofs.«01_k».proof.Proof.LossRunA

@[expose] public section

set_option maxRecDepth 16384

noncomputable section

namespace Cert.LossRun

open Cert.KernelLossIdeal Cert.KernelLossIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
set_option maxHeartbeats 1000000 in
set_option sl_exec.dmaWindow true in
set_option sl_exec.dmaWindowSet true in
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) :
    Σ' (L5 : List (View.Piece (Elt F) S256x1024 .bf16)), Σ' (L6 : List (View.Piece (Elt F) S256x5632 .f32)), Σ' (L7 : List (View.Piece (Elt F) S256x2816 .bf16)), Σ' (L8 : List (View.Piece (Elt F) S256x1024 .f32)), Σ' (L9 : List (View.Piece (Elt F) S1x128 .f32)), Σ' (L10 : List (View.Piece (Elt F) S1x1024 .f32)), Σ' (LS0 : List (View.Piece (Elt F) S1024x2816 .bf16)), { LS1 : List (View.Piece (Elt F) S1024x2816 .bf16) //
      ∀ (W : Waits sig Unit) (K : PUnit → sProp (MT nD τ sig Unit (Elt F) ℕ (Pipeline.UD sig nD τ) ℕ)),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo9 ∗ owns (c : Thread nD τ) arg12 fullShare xo10 ∗ owns (c : Thread nD τ) arg13 fullShare xs0 ∗ owns (c : Thread nD τ) arg14 fullShare xs1 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ owns (c : Thread nD τ) arg13 fullShare xs0 ∗ owns (c : Thread nD τ) arg14 fullShare xs1 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_fwd_ffn i arg1 harg1 arg2 harg2 (Memref.whole main_v5) (Memref.isWhole_whole _) arg4 harg4 arg5 harg5 arg6 harg6 arg7 harg7 arg8 harg8 arg9 harg9 arg10 harg10 arg11 harg11 arg12 harg12 arg13 harg13 arg14 harg14 cc0_scratch2) K } := by
  refine ⟨?_, ?_, ?_, ?_, ?_, ?_, [], [], fun W K => ?run⟩
  case run =>
    simp only [cc0_fwd_ffn_eq_skeleton]; unfold cc0_fwd_ffn_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨%fs0, %hfs0, HS0⟩, ⟨%fs1, %hfs1, HS1⟩, Hq0, Hq1, Hq2, Hq3, Hh0, HW, Hk⟩
    obtain rfl := harg1.eq_unread hf0; obtain rfl := harg2.eq_unread hf1; obtain rfl := harg4.eq_unread hf2; obtain rfl := harg5.eq_unread hf3; obtain rfl := harg6.eq_unread hf4; obtain rfl := harg11.eq_unread hf9; obtain rfl := harg12.eq_unread hf10; obtain rfl := harg13.eq_unread hfs0; obtain rfl := harg14.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]
    · iexists _; isplitr; · ipureintro; exact harg13.read_unread _
      iexact HS0
    isplitl [HS1]
    · iexists _; isplitr; · ipureintro; exact harg14.read_unread _
      iexact HS1
    isplitl [Hq0]; · iexact Hq0
    isplitl [Hq1]; · iexact Hq1
    isplitl [Hq2]; · iexact Hq2
    isplitl [Hq3]; · iexact Hq3
    isplitl [Hh0]; · iexact Hh0
    iexists _; iexact HW

end Cert.LossRun

end
-- ==== Proof.LossFrame.lean ====
/- What the outputs hold point by point, and the frame of the launch. -/
module

public import proofs.«01_k».proof.Proof.LossRunB
public import Idealize.ShloMosaic.Lib.Claim

@[expose] public section

set_option maxRecDepth 16384

noncomputable section

namespace Cert.LossRun

open Cert.KernelLossIdeal Cert.KernelLossIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Blocks

variable (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole)

section CaseA

variable (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0)

theorem cover0_A_5 (y : S256x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).1, y ∈ pc.1.set :=
  View.cover_of_tiledL _ S256x1024.size (by sl_kernel_rfl) y

def out0_A_5 : Vec F S256x1024 .bf16 :=
  VO0_5.read (Elt F) (VO0_5.writes (Elt F) VO0_5.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).1)

theorem cover0_A_6 (y : S256x5632.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.1, y ∈ pc.1.set :=
  View.cover_of_tiledL (s := S256x5632) _ S256x2816.size (by sl_kernel_rfl) y

def out0_A_6 : Vec F S256x5632 .f32 :=
  VO0_6.read (Elt F) (VO0_6.writes (Elt F) VO0_6.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.1)

theorem cover0_A_7 (y : S256x2816.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.1, y ∈ pc.1.set :=
  View.cover_of_tiledL _ S256x2816.size (by sl_kernel_rfl) y

def out0_A_7 : Vec F S256x2816 .bf16 :=
  VO0_7.read (Elt F) (VO0_7.writes (Elt F) VO0_7.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.1)

theorem cover0_A_8 (y : S256x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.1, y ∈ pc.1.set :=
  View.cover_of_tiledL _ S256x1024.size (by sl_kernel_rfl) y

def out0_A_8 : Vec F S256x1024 .f32 :=
  VO0_8.read (Elt F) (VO0_8.writes (Elt F) VO0_8.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.1)

theorem cover0_A_9 (y : S1x128.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.1, y ∈ pc.1.set :=
  View.cover_of_tiledL _ S1x128.size (by sl_kernel_rfl) y

def out0_A_9 : Vec F S1x128 .f32 :=
  VO0_9.read (Elt F) (VO0_9.writes (Elt F) VO0_9.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.1)

theorem cover0_A_10 (y : S1x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.1, y ∈ pc.1.set :=
  View.cover_of_tiledL _ S1x1024.size (by sl_kernel_rfl) y

def out0_A_10 : Vec F S1x1024 .f32 :=
  VO0_10.read (Elt F) (VO0_10.writes (Elt F) VO0_10.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.1)

theorem scover0_A_0 (y : S1024x2816.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.2.1, y ∈ pc.1.set :=
  View.cover_of_tiledL (s := S1024x2816) _ S1024x1408.size (by sl_kernel_rfl) y

def sout0_A_0 : Vec F S1024x2816 .bf16 :=
  VS0_0.read (Elt F) (VS0_0.writes (Elt F) VS0_0.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.2.1)

theorem scover0_A_1 (y : S1024x2816.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.2.2.1, y ∈ pc.1.set :=
  View.cover_of_tiledL (s := S1024x2816) _ S1024x1408.size (by sl_kernel_rfl) y

def sout0_A_1 : Vec F S1024x2816 .bf16 :=
  VS0_1.read (Elt F) (VS0_1.writes (Elt F) VS0_1.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.2.2.1)

end CaseA

section CaseB

variable (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0)

theorem cover0_B_5 (y : S256x1024.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).1, y ∈ pc.1.set :=
  View.cover_of_tiledL _ S256x1024.size (by sl_kernel_rfl) y

def out0_B_5 : Vec F S256x1024 .bf16 :=
  VO0_5.read (Elt F) (VO0_5.writes (Elt F) VO0_5.junk (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).1)

theorem cover0_B_6 (y : S256x5632.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.1, y ∈ pc.1.set :=
  View.cover_of_tiledL (s := S256x5632) _ S256x2816.size (by sl_kernel_rfl) y

def out0_B_6 : Vec F S256x5632 .f32 :=
  VO0_6.read (Elt F) (VO0_6.writes (Elt F) VO0_6.junk (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.1)

theorem cover0_B_7 (y : S256x2816.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.1, y ∈ pc.1.set :=
  View.cover_of_tiledL _ S256x2816.size (by sl_kernel_rfl) y

def out0_B_7 : Vec F S256x2816 .bf16 :=
  VO0_7.read (Elt F) (VO0_7.writes (Elt F) VO0_7.junk (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.1)

theorem cover0_B_8 (y : S256x1024.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.1, y ∈ pc.1.set :=
  View.cover_of_tiledL _ S256x1024.size (by sl_kernel_rfl) y

def out0_B_8 : Vec F S256x1024 .f32 :=
  VO0_8.read (Elt F) (VO0_8.writes (Elt F) VO0_8.junk (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.1)

theorem cover0_B_9 (y : S1x128.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.2.1, y ∈ pc.1.set :=
  View.cover_of_tiledL _ S1x128.size (by sl_kernel_rfl) y

def out0_B_9 : Vec F S1x128 .f32 :=
  VO0_9.read (Elt F) (VO0_9.writes (Elt F) VO0_9.junk (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.2.1)

theorem cover0_B_10 (y : S1x1024.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.2.2.1, y ∈ pc.1.set :=
  View.cover_of_tiledL _ S1x1024.size (by sl_kernel_rfl) y

def out0_B_10 : Vec F S1x1024 .f32 :=
  VO0_10.read (Elt F) (VO0_10.writes (Elt F) VO0_10.junk (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.2.2.1)

end CaseB

end Blocks

abbrev Left : Type := Vec F S256x1024 .bf16 × Vec F S256x5632 .f32 × Vec F S256x2816 .bf16 × Vec F S256x1024 .f32 × Vec F S1x128 .f32 × Vec F S1x1024 .f32 × Vec F S1024x2816 .bf16 × Vec F S1024x2816 .bf16

/-- What a first point of the grid leaves. -/
def startLeft (c : Dev nD) (t : Fin cfg0.N) (h0 : t.val % 16 = 0) : Left (F := F) :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v5), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v5), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v5), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v5), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v5), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v5), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v5), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v5))

/-- What a later point leaves, after one that left `r`. -/
def laterLeft (c : Dev nD) (t : Fin cfg0.N) (h0 : ¬t.val % 16 = 0) (r : Left (F := F)) : Left (F := F) :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) r.2.2.2.2.1 r.2.2.2.2.2.1 r.2.2.2.2.2.2.1 r.2.2.2.2.2.2.2 (V m c main_v5), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) r.2.2.2.2.1 r.2.2.2.2.2.1 r.2.2.2.2.2.2.1 r.2.2.2.2.2.2.2 (V m c main_v5), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) r.2.2.2.2.1 r.2.2.2.2.2.1 r.2.2.2.2.2.2.1 r.2.2.2.2.2.2.2 (V m c main_v5), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) r.2.2.2.2.1 r.2.2.2.2.2.1 r.2.2.2.2.2.2.1 r.2.2.2.2.2.2.2 (V m c main_v5), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) r.2.2.2.2.1 r.2.2.2.2.2.1 r.2.2.2.2.2.2.1 r.2.2.2.2.2.2.2 (V m c main_v5), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) r.2.2.2.2.1 r.2.2.2.2.2.1 r.2.2.2.2.2.2.1 r.2.2.2.2.2.2.2 (V m c main_v5), r.2.2.2.2.2.2.1, r.2.2.2.2.2.2.2)

def outsAt0 (c : Dev nD) : (n : ℕ) → n < cfg0.N → Left (F := F)
  | 0, hn => startLeft m c ⟨0, hn⟩ (Nat.zero_mod _)
  | n + 1, hn =>
    if h0 : (n + 1) % 16 = 0 then startLeft m c ⟨n + 1, hn⟩ h0
    else laterLeft m c ⟨n + 1, hn⟩ h0 (outsAt0 c n (Nat.lt_of_succ_lt hn))

theorem outsAt0_A (c : Dev nD) (t : Fin cfg0.N) (h0 : t.val % 16 = 0) :
    outsAt0 m c t.val t.isLt = startLeft m c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = laterLeft m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp (MT nD τ sig Unit (Elt F) ℕ (Pipeline.UD sig nD τ) ℕ)
  | 0, _ => Pipeline.ΦD osem0 spec0 H0 (V m) c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v5)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v5))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v5))) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
    | ⟨10, _⟩ => (outsAt0 m c t.val t.isLt).2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]
theorem after0_10 (c : Dev nD) (t : Fin cfg0.N) : (dats m 0 c).after 10 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem before0_9_B (c : Dev nD) (t : Fin cfg0.N) (h0 : ¬t.val % 16 = 0) (d) :
    (dats m 0 c).before 9 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]

theorem before0_10_B (c : Dev nD) (t : Fin cfg0.N) (h0 : ¬t.val % 16 = 0) (d) :
    (dats m 0 c).before 10 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]

def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7, after0_8, after0_9, after0_10]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0, startLeft]
      unfold out0_A_5 out0_A_6 out0_A_7 out0_A_8 out0_A_9 out0_A_10 sout0_A_0 sout0_A_1; (try dsimp only)
      iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (V m c main_v5)).2.2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hh0]; · iexact Hh0
      isplitl [HW]; · iexact HW
      iintro ⟨H0, H1, H2, H3, H4, ⟨%e5, H5⟩, ⟨%e6, H6⟩, ⟨%e7, H7⟩, ⟨%e8, H8⟩, ⟨%e9, H9⟩, ⟨%e10, H10⟩, ⟨%es0, HS0⟩, ⟨%es1, HS1⟩, Hq0, Hq1, Hq2, Hq3, Hh0, ⟨%W', HW'⟩⟩
      isplitl [HS0 HS1 Hg Hq0 Hq1 Hq2 Hq3 Hh0]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _)
        isplitl [Hg]
        · iexact Hg
        isplitl [Hq0 Hq1 Hq2 Hq3]
        · isplitl [Hq0]; · iexact Hq0
          isplitl [Hq1]; · iexact Hq1
          isplitl [Hq2]; · iexact Hq2
          iexact Hq3
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0, laterLeft]
      simp only [before0_9_B m c t h0, before0_10_B m c t h0]
      unfold out0_B_5 out0_B_6 out0_B_7 out0_B_8 out0_B_9 out0_B_10; (try dsimp only)
      iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ _ (V m c main_v5)).2.2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexact H9
      isplitl [H10]; · iexact H10
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hh0]; · iexact Hh0
      isplitl [HW]; · iexact HW
      iintro ⟨H0, H1, H2, H3, H4, ⟨%e5, H5⟩, ⟨%e6, H6⟩, ⟨%e7, H7⟩, ⟨%e8, H8⟩, ⟨%e9, H9⟩, ⟨%e10, H10⟩, HS0, HS1, Hq0, Hq1, Hq2, Hq3, Hh0, ⟨%W', HW'⟩⟩
      isplitl [HS0 HS1 Hg Hq0 Hq1 Hq2 Hq3 Hh0]
      · isplitl [HS0 HS1]
        · isplitl [HS0]; · iexact HS0
          iexact HS1
        isplitl [Hg]
        · iexact Hg
        isplitl [Hq0 Hq1 Hq2 Hq3]
        · isplitl [Hq0]; · iexact Hq0
          isplitl [Hq1]; · iexact Hq1
          isplitl [Hq2]; · iexact Hq2
          iexact Hq3
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3⟩, Hh0⟩
  isplitl [HS0 HS1]
  · isplitl [HS0]
    · iexists _; iexact HS0
    iexists _; iexact HS1
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0

theorem hout (c : Dev nD) : (dats m 0 c).Φ (Fin.last cfg0.N) ⊢ Pipeline.ΦD osem0 spec0 H0 (V m) c :=
  Phi_out m c _ (by rw [Fin.val_last]; have : cfg0.N = 16 := N_0; omega)
set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.LossRun

end
-- ==== Proof.LossFacts.lean ====
/- What the launch writes to each array. -/
module

public import proofs.«01_k».proof.Proof.LossFrame
public import Idealize.ShloMosaic.Lib.Pipeline.Value

@[expose] public section

noncomputable section

namespace Cert.LossRun

open Cert.KernelLossIdeal Cert.KernelLossIdeal.Gen

open Cert.KernelLossIdeal Cert.KernelLossIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post5 (r : PUnit × MemSt nD τ sig (Elt F)) (h : Pipeline.FramePost cfgs (dats m) 0 (V m) r) (c : Dev nD) :
    r.2.mem ((c : Thread nD τ).loc main_v9_0) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v9_1) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v9_2) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v9_3) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v9_4) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v9_5) = (dats m 0 c).arrAt 10 cfg0.N :=
  (h c).1 10

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem run_blocks : θ_run defs (onTc (τ := τ) (main (F := F))) ⟨m, fun _ => 0, ρ⟩ fun r => ∀ c : Dev nD,
      r.2.mem ((c : Thread nD τ).loc main_v9_0) = (dats m 0 c).arrAt 5 cfg0.N
      ∧ r.2.mem ((c : Thread nD τ).loc main_v9_1) = (dats m 0 c).arrAt 6 cfg0.N
      ∧ r.2.mem ((c : Thread nD τ).loc main_v9_2) = (dats m 0 c).arrAt 7 cfg0.N
      ∧ r.2.mem ((c : Thread nD τ).loc main_v9_3) = (dats m 0 c).arrAt 8 cfg0.N
      ∧ r.2.mem ((c : Thread nD τ).loc main_v9_4) = (dats m 0 c).arrAt 9 cfg0.N
      ∧ r.2.mem ((c : Thread nD τ).loc main_v9_5) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post5 m r h c,
      post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c⟩)
    (run_main m ρ)

end Cert.LossRun

end
-- ==== Proof.LossValue.lean ====
/- The blocks that the channel mixer and the loss read. -/
module

public import proofs.«01_k».proof.Proof.LossFacts
public import Idealize.ShloMosaic.Lib.Pipeline.ReadBack
public import proofs.«01_k».proof.Proof.Gen.ReferenceLossIdeal.Read
public import proofs.«01_k».proof.Proof.Sums
public import proofs.«01_k».proof.Proof.Halves
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.LossValue
open Cert.KernelLossIdeal Cert.KernelLossIdeal.Gen Cert.LossRun Cert.ReferenceLossIdeal.Read
variable (m : (ℓ : Loc nD τ sig) → Buf (Elt Ideal) ℓ)

/-- Where each window's block lies at grid point `t`. -/
theorem place : ∀ t : Fin cfg0.N, win0_0.index t = ![t.val, 0] ∧ win0_1.index t = ![t.val, 0]
    ∧ win0_2.index t = ![0, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] ∧ win0_9.index t = ![0, 0] ∧ win0_10.index t = ![0, 0] :=
  (by decide +kernel : ∀ t : Fin grid0.N, _)

/-- The running sums start at zero. -/
theorem start4 (j : S1x128.Idx) : k0_pay4 (F := Ideal) j = 0 := by
  pointwise! [k0_pay4]
theorem start5 (j : S1x1024.Idx) : k0_pay5 (F := Ideal) j = 0 := by
  pointwise! [k0_pay5]

theorem rows (c : Dev nD) (t : Fin cfg0.N) (p : Fin 256) (q : Fin 1024) :
    iblk m c 0 t (ix2 p q) = m ((c : Thread nD τ).loc main_arg0) (ix3 ⟨((Fin.cast N_0 t).val * 256 + p.val) / 2048, by omega⟩ ⟨((Fin.cast N_0 t).val * 256 + p.val) % 2048, by omega⟩ q) := by
  blk_simp [iblk, place t]; entry_read; pointwise; blk_ext [place t]

theorem target (c : Dev nD) (t : Fin cfg0.N) (p : Fin 256) (q : Fin 1024) :
    iblk m c 1 t (ix2 p q) = m ((c : Thread nD τ).loc main_arg1) (ix3 ⟨((Fin.cast N_0 t).val * 256 + p.val) / 2048, by omega⟩ ⟨((Fin.cast N_0 t).val * 256 + p.val) % 2048, by omega⟩ q) := by
  blk_simp [iblk, place t]; entry_read; pointwise; blk_ext [place t]

theorem down (c : Dev nD) (t : Fin cfg0.N) (p : Fin 2816) (q : Fin 1024) :
    iblk m c 2 t (ix2 p q) = m ((c : Thread nD τ).loc main_arg4) (ix3 0 p q) := by
  blk_simp [iblk, place t]; entry_read; pointwise; blk_ext [place t]

theorem gain (c : Dev nD) (t : Fin cfg0.N) (q : Fin 1024) :
    iblk m c 3 t (ix2 0 q) = m ((c : Thread nD τ).loc main_arg2) (ix2 0 q) := by
  blk_simp [iblk, place t]; entry_read; pointwise; blk_ext [place t]

theorem final (c : Dev nD) (t : Fin cfg0.N) (q : Fin 1024) :
    iblk m c 4 t (ix2 0 q) = m ((c : Thread nD τ).loc main_arg5) (ix1 q) := by
  blk_simp [iblk, place t]; entry_read; pointwise; blk_ext [place t]

/-- The first projection, in slabs of columns. -/
theorem slab (c : Dev nD) (a : Fin 4) (p : Fin 1024) (q : Fin 1408) :
    V m c main_v5 (ix3 a p q) = m ((c : Thread nD τ).loc main_arg3) (ix3 0 p ⟨a.val * 1408 + q.val, by omega⟩) := by
  simp only [V]; entry_read; pointwise; blk_ext [a]

/-- The first projection's columns, from `o` on. -/
def proj (c : Dev nD) (o : ℕ) (ho : o + 2816 ≤ 5632) : S1024x2816.Idx → EReal := fun i => m ((c : Thread nD τ).loc main_arg3) (ix3 0 (i 0) ⟨o + (i 1).val, by have : (i 1).val < 2816 := (i 1).isLt; omega⟩)

/-- What a copied slab holds. -/
theorem copied (c : Dev nD) (a : Fin 4) (o : ℕ) (e : a.val * 1408 = o) (i : ∀ k, (![a.val, 0, 0] : Fin 3 → ℕ) k + (![1, 1024, 1408] : Fin 3 → ℕ) k ≤ S4x1024x1408.size k)
    (h : S1024x1408.numel = S1x1024x1408.numel) (p : Fin 1024) (d : Fin 1408) :
    ReadAs.same.apply (View.read (Elt Ideal) (((View.whole main_v5).slice (Rect.unit (s := S4x1024x1408) ![a.val, 0, 0] ![1, 1024, 1408] i)).reshape S1024x1408 h) (V m c main_v5)) (ix2 p d)
      = m ((c : Thread nD τ).loc main_arg3) (ix3 0 p ⟨o + d.val, by omega⟩) := by
  have f : (((View.whole main_v5).slice (Rect.unit (s := S4x1024x1408) ![a.val, 0, 0] ![1, 1024, 1408] i)).reshape S1024x1408 h).emb (ix2 p d) = ix3 a p d := by
    show (Rect.unit (s := S4x1024x1408) ![a.val, 0, 0] ![1, 1024, 1408] i).emb (Shape.reshapeEquiv h (ix2 p d)) = _
    rw [Shape.reshapeEquiv_cons_one (d := ![1024, 1408]) h (ix2 p d)]
    refine funext fun k => Fin.ext ?_
    match k with
    | ⟨0, _⟩ => rfl
    | ⟨1, _⟩ => exact (Nat.zero_add _).trans (Nat.one_mul _)
    | ⟨2, _⟩ => exact (Nat.zero_add _).trans (Nat.one_mul _)
  show V m c main_v5 ((((View.whole main_v5).slice (Rect.unit (s := S4x1024x1408) ![a.val, 0, 0] ![1, 1024, 1408] i)).reshape S1024x1408 h).emb (ix2 p d)) = _
  rw [f, slab]
  exact congrArg (fun x => m ((c : Thread nD τ).loc main_arg3) (ix3 0 p x)) (Fin.ext (by simp only; omega))

theorem first0 (c : Dev nD) (h : S1024x1408.numel = S1x1024x1408.numel) : View.canon (Val := Elt Ideal) (e := .bf16) [⟨Rect.unit ![0, 1408] ![1024, 1408] inb_S1024x2816_S1024x1408_0_1408,
      ReadAs.same.apply (View.read (Elt Ideal) (((View.whole main_v5).slice (Rect.unit (s := S4x1024x1408) ![1, 0, 0] ![1, 1024, 1408] inb_S4x1024x1408_S1x1024x1408_1_0_0)).reshape S1024x1408 h) (V m c main_v5))⟩,
    ⟨Rect.unit ![0, 0] ![1024, 1408] inb_S1024x2816_S1024x1408_0_0,
      ReadAs.same.apply (View.read (Elt Ideal) (((View.whole main_v5).slice (Rect.unit (s := S4x1024x1408) ![0, 0, 0] ![1, 1024, 1408] inb_S4x1024x1408_S1x1024x1408_0_0_0)).reshape S1024x1408 h) (V m c main_v5))⟩] = proj m c 0 (by norm_num) :=
  Cert.Halves.halves (V := Elt Ideal) (e := .bf16) (n := 1024) (a := 1408) (by norm_num) (proj m c 0 (by norm_num)) _ _ _ _
    (fun p d => (copied m c 0 0 rfl _ _ p d).trans (congrArg (fun x => m ((c : Thread nD τ).loc main_arg3) (ix3 0 p x)) (Fin.ext (by simp only [ix2]))))
    (fun p d => (copied m c 1 1408 rfl _ _ p d).trans (congrArg (fun x => m ((c : Thread nD τ).loc main_arg3) (ix3 0 p x)) (Fin.ext (Nat.zero_add _).symm)))

theorem first1 (c : Dev nD) (h : S1024x1408.numel = S1x1024x1408.numel) : View.canon (Val := Elt Ideal) (e := .bf16) [⟨Rect.unit ![0, 1408] ![1024, 1408] inb_S1024x2816_S1024x1408_0_1408,
      ReadAs.same.apply (View.read (Elt Ideal) (((View.whole main_v5).slice (Rect.unit (s := S4x1024x1408) ![3, 0, 0] ![1, 1024, 1408] inb_S4x1024x1408_S1x1024x1408_3_0_0)).reshape S1024x1408 h) (V m c main_v5))⟩,
    ⟨Rect.unit ![0, 0] ![1024, 1408] inb_S1024x2816_S1024x1408_0_0,
      ReadAs.same.apply (View.read (Elt Ideal) (((View.whole main_v5).slice (Rect.unit (s := S4x1024x1408) ![2, 0, 0] ![1, 1024, 1408] inb_S4x1024x1408_S1x1024x1408_2_0_0)).reshape S1024x1408 h) (V m c main_v5))⟩] = proj m c 2816 (by norm_num) :=
  Cert.Halves.halves (V := Elt Ideal) (e := .bf16) (n := 1024) (a := 1408) (by norm_num) (proj m c 2816 (by norm_num)) _ _ _ _
    (fun p d => copied m c 2 2816 rfl _ _ p d)
    (fun p d => (copied m c 3 4224 rfl _ _ p d).trans (congrArg (fun x => m ((c : Thread nD τ).loc main_arg3) (ix3 0 p x)) (Fin.ext (by simp only [ix2]; show 4224 + d.val = 2816 + (1408 + d.val); omega))))

theorem keep0 (c : Dev nD) (t : Fin cfg0.N) (u : ¬t.val % 16 = 0) : (outsAt0 m c t.val t.isLt).2.2.2.2.2.2.1 = (outsAt0 m c (t.val - 1) (Nat.lt_of_le_of_lt (Nat.sub_le _ _) t.isLt)).2.2.2.2.2.2.1 := by
  rw [outsAt0_B m c t u, laterLeft]

/-- The first scratch holds the gates' half of the projection from the first point on. -/
theorem held0 (c : Dev nD) : ∀ (k : ℕ) (h : k < cfg0.N), (outsAt0 m c k h).2.2.2.2.2.2.1 = proj m c 0 (by norm_num)
  | 0, h => by
    rw [outsAt0_A m c ⟨0, h⟩ rfl]
    unfold startLeft
    frame_out
    exact first0 m c _
  | k + 1, h => by
    by_cases u : (k + 1) % 16 = 0
    · rw [outsAt0_A m c ⟨k + 1, h⟩ u, startLeft]
      frame_out
      exact first0 m c _
    · exact (keep0 m c ⟨k + 1, h⟩ u).trans (held0 c k _)

theorem keep1 (c : Dev nD) (t : Fin cfg0.N) (u : ¬t.val % 16 = 0) : (outsAt0 m c t.val t.isLt).2.2.2.2.2.2.2 = (outsAt0 m c (t.val - 1) (Nat.lt_of_le_of_lt (Nat.sub_le _ _) t.isLt)).2.2.2.2.2.2.2 := by
  rw [outsAt0_B m c t u, laterLeft]

/-- The second scratch holds the partners' half. -/
theorem held1 (c : Dev nD) : ∀ (k : ℕ) (h : k < cfg0.N), (outsAt0 m c k h).2.2.2.2.2.2.2 = proj m c 2816 (by norm_num)
  | 0, h => by
    rw [outsAt0_A m c ⟨0, h⟩ rfl]
    unfold startLeft
    frame_out
    exact first1 m c _
  | k + 1, h => by
    by_cases u : (k + 1) % 16 = 0
    · rw [outsAt0_A m c ⟨k + 1, h⟩ u, startLeft]
      frame_out
      exact first1 m c _
    · exact (keep1 m c ⟨k + 1, h⟩ u).trans (held1 c k _)

end Cert.LossValue

end
-- ==== Proof.LossRef.lean ====
/- The channel mixer, the loss and the gradient of the loss: the reference's, in the kernel's form. -/
module

public import proofs.«01_k».proof.Proof.LossValue
public import proofs.«01_k».proof.Proof.Gen.ReferenceLossIdeal.Read
public import proofs.«01_k».proof.Proof.Sums
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.LossValue

section
open Cert.ReferenceLossIdeal.Read
variable (x : (⟨3, ![2, 2048, 1024]⟩ : Shape).Idx → EReal) (y : (⟨3, ![2, 2048, 1024]⟩ : Shape).Idx → EReal) (g : (⟨2, ![1, 1024]⟩ : Shape).Idx → EReal)
  (w : (⟨3, ![1, 1024, 5632]⟩ : Shape).Idx → EReal) (w' : (⟨3, ![1, 2816, 1024]⟩ : Shape).Idx → EReal) (f : (⟨1, ![1024]⟩ : Shape).Idx → EReal)

/-- The sigmoid of a number. -/
def sigmoid (u : EReal) : EReal := Ideal.div 1 (1 + Ideal.exp (-u))
/-- A row of the norm's result. -/
def hf (b : Fin 2) (s : Fin 2048) (k : Fin 1024) : EReal := x (ix3 b s k) * Ideal.rsqrt (Cert.Reals.meansq fun k => x (ix3 b s k)) * g (ix2 0 k)
/-- Gates and partners. -/
def gu (b : Fin 2) (s : Fin 2048) (q : Fin 5632) : EReal := ∑ k : Fin 1024, hf x g b s k * w (ix3 0 k q)
/-- Their products. -/
def act (b : Fin 2) (s : Fin 2048) (q : Fin 2816) : EReal :=
  gu x g w b s ⟨q.val, by omega⟩ * sigmoid (gu x g w b s ⟨q.val, by omega⟩) * gu x g w b s ⟨2816 + q.val, by omega⟩
/-- The residual after the mixer. -/
def x3 (b : Fin 2) (s : Fin 2048) (k : Fin 1024) : EReal := x (ix3 b s k) + ∑ q : Fin 2816, act x g w b s q * w' (ix3 0 q k)
/-- The error. -/
def err (b : Fin 2) (s : Fin 2048) (k : Fin 1024) : EReal := x3 x g w w' b s k * Ideal.rsqrt (Cert.Reals.meansq (x3 x g w w' b s)) * f (ix1 k) - y (ix3 b s k)

theorem v13_eq (b : Fin 2) (s : Fin 2048) (k : Fin 1024) : val_main_v13 (F := Ideal) x g (ix3 b s k) = hf x g b s k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  rfl
theorem v15_eq (b : Fin 2) (s : Fin 2048) (q : Fin 5632) : val_main_v15 (F := Ideal) x g w (ix3 b s q) = gu x g w b s q := by
  pointwise [val_main_v14, val_main_v15]
  simp only [v13_eq]
  rfl
theorem v19_eq (b : Fin 2) (s : Fin 2048) (q : Fin 2816) : val_main_v19 (F := Ideal) x g w (ix3 b s q) = act x g w b s q := by
  pointwise [val_main_v16, val_main_call0_v0, val_main_call0_v1, val_main_call0_cst, val_main_call0_v2, val_main_call0_v3, val_main_call0_cst_0, val_main_call0_v4, val_main_call0_v5, val_main_v17, val_main_v18, val_main_v19]
  simp only [v15_eq]
  rfl
theorem v22_eq (b : Fin 2) (s : Fin 2048) (k : Fin 1024) : val_main_v22 (F := Ideal) x g w w' (ix3 b s k) = x3 x g w w' b s k := by
  pointwise [val_main_v20, val_main_v21, val_main_v22]
  simp only [v19_eq]
  rfl
theorem v39_eq (b : Fin 2) (s : Fin 2048) (k : Fin 1024) : val_main_v39 (F := Ideal) x y g w w' f (ix3 b s k) = err x y g w w' f b s k := by
  pointwise [val_main_v23, val_main_cst_2, val_main_v24, val_main_v25, val_main_cst_3, val_main_v26, val_main_v27, val_main_cst_4, val_main_v28, val_main_v29, val_main_v30, val_main_v31, val_main_cst_5, val_main_v32, val_main_v33, val_main_v34, val_main_v35, val_main_v36, val_main_v37, val_main_v38, val_main_v39]
  simp only [v22_eq]
  rfl
/-- The step of the mean, half of it, and the small constants. -/
theorem step_eq : Ideal.ofBits .f32 981467136#32 = ((1 / 1024 : ℝ) : EReal) := by
  simp [Ideal.ofBits, Ideal.ieee, -EReal.coe_mul]; norm_num
theorem step_half : Ideal.ofBits .f32 973078528#32 = ((1 / 2048 : ℝ) : EReal) := by
  simp [Ideal.ofBits, Ideal.ieee, -EReal.coe_mul]; norm_num
theorem half_eq : Ideal.ofBits .f32 1056964608#32 = ((1 / 2 : ℝ) : EReal) := by
  simp [Ideal.ofBits, Ideal.ieee, -EReal.coe_mul]; norm_num
theorem two_eq : Ideal.ofBits .f32 1073741824#32 = ((2 : ℝ) : EReal) := by
  simp [Ideal.ofBits, Ideal.ieee, -EReal.coe_mul]; norm_num

/-- The scaled error, in either form. -/
theorem scaled_err {e : EReal} (h : Cert.Reals.Is e) : Ideal.div (Ideal.ofBits .f32 1056964608#32) (Ideal.ofBits .f32 1149239296#32) * (Ideal.ofBits .f32 1073741824#32 * e)
    = e * Ideal.ofBits .f32 981467136#32 := by
  obtain ⟨e, rfl⟩ := h
  rw [half_eq, Cert.Reals.width, two_eq, step_eq, Cert.Reals.quot _ _ (by norm_num)]
  simp only [← EReal.coe_mul]
  exact congrArg _ (by ring)

/-- Half the sum of the rows' means, tile by tile. -/
theorem mean_tiles (E : Fin 2 → Fin 2048 → EReal) (h : ∀ b s, Cert.Reals.Is (E b s)) : Ideal.ofBits .f32 1056964608#32 * (∑ b, ∑ s, Ideal.div (E b s) (Ideal.ofBits .f32 1149239296#32))
    = ∑ t : Fin 16, (∑ r : Fin 256, E ⟨(t.val * 256 + r.val) / 2048, by omega⟩ ⟨(t.val * 256 + r.val) % 2048, by omega⟩) * Ideal.ofBits .f32 973078528#32 := by
  choose e he using h
  have q (b : Fin 2) (s : Fin 2048) : Ideal.div (E b s) (Ideal.ofBits .f32 1149239296#32) = ((e b s / 1024 : ℝ) : EReal) := by
    rw [he, Cert.Reals.width, Cert.Reals.quot _ _ (by norm_num)]
  simp only [q]
  simp only [he, half_eq, step_half, Cert.Reals.sum, ← EReal.coe_mul]
  refine congrArg _ ?_
  rw [Cert.Sums.tiles (n := 16) (p := 256) (by norm_num) (fun b s => e b s / 1024) (fun t r => by omega) (fun t r => by omega), Finset.mul_sum]
  refine Finset.sum_congr rfl fun t _ => ?_
  rw [← Finset.sum_div]
  ring

section
variable (hx : ∀ i, Cert.Reals.Is (x i)) (hy : ∀ i, Cert.Reals.Is (y i)) (hg : ∀ i, Cert.Reals.Is (g i)) (hw : ∀ i, Cert.Reals.Is (w i)) (hw' : ∀ i, Cert.Reals.Is (w' i)) (hf' : ∀ i, Cert.Reals.Is (f i))
include hx hg hw in
theorem gu_is (b : Fin 2) (s : Fin 2048) (q : Fin 5632) : Cert.Reals.Is (gu x g w b s q) :=
  Cert.Reals.Is.sum fun _ => (((hx _).mul (Cert.Reals.Is.rsqrt (x := fun k => x (ix3 b s k)) fun _ => hx _)).mul (hg _)).mul (hw _)
include hx hg hw hw' in
theorem x3_is (b : Fin 2) (s : Fin 2048) (k : Fin 1024) : Cert.Reals.Is (x3 x g w w' b s k) :=
  (hx _).add (Cert.Reals.Is.sum fun _ => (((gu_is x g w hx hg hw b s _).mul (Cert.Halves.Is.sig (gu_is x g w hx hg hw b s _))).mul (gu_is x g w hx hg hw b s _)).mul (hw' _))
include hx hy hg hw hw' hf' in
theorem err_is (b : Fin 2) (s : Fin 2048) (k : Fin 1024) : Cert.Reals.Is (err x y g w w' f b s k) :=
  (((x3_is x g w w' hx hg hw hw' b s k).mul (Cert.Reals.Is.rsqrt fun _ => x3_is x g w w' hx hg hw hw' b s _)).mul (hf' _)).sub (hy _)

/-- The scaled error. -/
def dy (b : Fin 2) (s : Fin 2048) (k : Fin 1024) : EReal := err x y g w w' f b s k * Ideal.ofBits .f32 981467136#32

include hx hy hg hw hw' hf' in
theorem dy_is (b : Fin 2) (s : Fin 2048) (k : Fin 1024) : Cert.Reals.Is (dy x y g w w' f b s k) := by
  unfold dy; rw [step_eq]; exact (err_is x y g w w' f hx hy hg hw hw' hf' b s k).mul (Cert.Reals.is _)

include hx hy hg hw hw' hf' in
theorem v53_eq (b : Fin 2) (s : Fin 2048) (k : Fin 1024) : val_main_v53 (F := Ideal) x y g w w' f (ix3 b s k) = dy x y g w w' f b s k := by
  pointwise [val_main_cst_6, val_main_v41, val_main_v42, val_main_cst_7, val_main_v43, val_main_cst_8, val_main_v44, val_main_v45, val_main_cst_9, val_main_v46, val_main_cst_10, val_main_v47, val_main_cst_11, val_main_cst_12, val_main_v48, val_main_v49, val_main_cst_13, val_main_v50, val_main_v51, val_main_v52, val_main_v53]
  simp only [v39_eq]
  exact scaled_err (err_is x y g w w' f hx hy hg hw hw' hf' b s k)

include hx hy hg hw hw' hf' in
/-- The chain rule's gradient of the residual, in the kernel's form. -/
theorem chain (i : Fin 4096) (q : Fin 1024) (hb : i.val / 2048 < 2) (hs : i.val % 2048 < 2048) : val_main_v79 (F := Ideal) x y g w w' f (ix2 i q)
    = Ideal.rsqrt (Cert.Reals.meansq (x3 x g w w' ⟨i.val / 2048, hb⟩ ⟨i.val % 2048, hs⟩)) * (dy x y g w w' f ⟨i.val / 2048, hb⟩ ⟨i.val % 2048, hs⟩ q * f (ix1 q)
        - x3 x g w w' ⟨i.val / 2048, hb⟩ ⟨i.val % 2048, hs⟩ q * Ideal.rsqrt (Cert.Reals.meansq (x3 x g w w' ⟨i.val / 2048, hb⟩ ⟨i.val % 2048, hs⟩))
          * Ideal.div (∑ j, dy x y g w w' f ⟨i.val / 2048, hb⟩ ⟨i.val % 2048, hs⟩ j * f (ix1 j)
            * (x3 x g w w' ⟨i.val / 2048, hb⟩ ⟨i.val % 2048, hs⟩ j * Ideal.rsqrt (Cert.Reals.meansq (x3 x g w w' ⟨i.val / 2048, hb⟩ ⟨i.val % 2048, hs⟩)))) (Ideal.ofBits .f32 1149239296#32)) := by
  have n := Cert.Reals.norm (x3 x g w w' ⟨i.val / 2048, hb⟩ ⟨i.val % 2048, hs⟩) (dy x y g w w' f ⟨i.val / 2048, hb⟩ ⟨i.val % 2048, hs⟩) (fun j => f (ix1 j))
    (x3_is x g w w' hx hg hw hw' _ _) (dy_is x y g w w' f hx hy hg hw hw' hf' _ _) (fun _ => hf' _) 0 q
  rw [zero_add, zero_add] at n
  rw [n]
  pointwise [val_main_v23, val_main_cst_2, val_main_v24, val_main_v25, val_main_cst_3, val_main_v26, val_main_v27, val_main_cst_4, val_main_v28, val_main_v29, val_main_v30, val_main_v31, val_main_cst_5, val_main_v32, val_main_v33, val_main_v34, val_main_v35, val_main_v36, val_main_v37, val_main_v38, val_main_cst_14, val_main_v55, val_main_v56, val_main_v57, val_main_v58, val_main_cst_15, val_main_v59, val_main_v60, val_main_cst_16, val_main_v61, val_main_v62, val_main_v63, val_main_v64, val_main_v65, val_main_cst_17, val_main_v66, val_main_v67, val_main_cst_18, val_main_v68, val_main_v69, val_main_v70, val_main_v71, val_main_v72, val_main_v73, val_main_v79]
  simp only [v22_eq, v53_eq x y g w w' f hx hy hg hw hw' hf', Fin.sum_univ_one, Fin.isValue, Cert.Reals.meansq]

include hx hy hg hw hw' hf' in
/-- The loss, tile by tile. -/
theorem loss_eq (q : Fin 128) : val_main_v81 (F := Ideal) x y g w w' f (ix2 0 q)
    = ∑ t : Fin 16, (∑ r : Fin 256, ∑ k : Fin 1024, err x y g w w' f ⟨(t.val * 256 + r.val) / 2048, by omega⟩ ⟨(t.val * 256 + r.val) % 2048, by omega⟩ k
      * err x y g w w' f ⟨(t.val * 256 + r.val) / 2048, by omega⟩ ⟨(t.val * 256 + r.val) % 2048, by omega⟩ k) * Ideal.ofBits .f32 973078528#32 := by
  pointwise [val_main_v40, val_main_cst_6, val_main_v41, val_main_v42, val_main_cst_7, val_main_v43, val_main_cst_8, val_main_v44, val_main_v45, val_main_cst_9, val_main_v46, val_main_cst_10, val_main_v47, val_main_v80, val_main_v81]
  simp only [v39_eq]
  exact mean_tiles (fun b s => ∑ k : Fin 1024, err x y g w w' f b s k * err x y g w w' f b s k)
    (fun b s => Cert.Reals.Is.sum fun k => (err_is x y g w w' f hx hy hg hw hw' hf' b s k).mul (err_is x y g w w' f hx hy hg hw hw' hf' b s k))

include hx hy hg hw hw' hf' in
/-- The chain rule's gradient of the last gain. -/
theorem summed (q : Fin 1024) : val_main_v82 (F := Ideal) x y g w w' f (ix2 0 q)
    = ∑ b : Fin 2, ∑ s : Fin 2048, dy x y g w w' f b s q * (x3 x g w w' b s q * Ideal.rsqrt (Cert.Reals.meansq (x3 x g w w' b s))) := by
  pointwise [Cert.Sums.front_two, val_main_v23, val_main_cst_2, val_main_v24, val_main_v25, val_main_cst_3, val_main_v26, val_main_v27, val_main_cst_4, val_main_v28, val_main_v29, val_main_v30, val_main_v31, val_main_cst_5, val_main_v32, val_main_v33, val_main_v34, val_main_v35, val_main_v36, val_main_v37, val_main_v38, val_main_v54, val_main_cst_14, val_main_v55, val_main_v56, val_main_v57, val_main_v58, val_main_cst_15, val_main_v59, val_main_v82]
  simp only [v22_eq, v53_eq x y g w w' f hx hy hg hw hw' hf', Fin.sum_univ_one, Fin.isValue, Cert.Reals.meansq]
  exact Finset.sum_congr (M := EReal) rfl fun b _ => Finset.sum_congr (M := EReal) rfl fun s _ => mul_comm (G := EReal) _ _
end
end
end Cert.LossValue

end
-- ==== Proof.LossEnds.lean ====
/- The channel mixer and the loss: what the kernel leaves is the reference's. -/
module

public import proofs.«01_k».proof.Proof.LossRef
public import proofs.«01_k».proof.Proof.Gen.ReferenceLossIdeal.Read
public import proofs.«01_k».proof.Proof.Sums
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.LossValue
open Cert.KernelLossIdeal Cert.KernelLossIdeal.Gen Cert.LossRun
variable (m : (ℓ : Loc nD τ sig) → Buf (Elt Ideal) ℓ)

/-- The arguments hold no infinity. -/
def fin (c : Dev nD) : Prop := (∀ i, Cert.Reals.Is (m ((c : Thread nD τ).loc main_arg0) i)) ∧ (∀ i, Cert.Reals.Is (m ((c : Thread nD τ).loc main_arg1) i)) ∧ (∀ i, Cert.Reals.Is (m ((c : Thread nD τ).loc main_arg2) i)) ∧ (∀ i, Cert.Reals.Is (m ((c : Thread nD τ).loc main_arg3) i)) ∧ (∀ i, Cert.Reals.Is (m ((c : Thread nD τ).loc main_arg4) i)) ∧ (∀ i, Cert.Reals.Is (m ((c : Thread nD τ).loc main_arg5) i))

/-- The sequence and the position of row `p` of tile `t`. -/
def seq (t : Fin cfg0.N) (p : Fin 256) : Fin 2 := ⟨((Fin.cast N_0 t).val * 256 + p.val) / 2048, by omega⟩
def pos (t : Fin cfg0.N) (p : Fin 256) : Fin 2048 := ⟨((Fin.cast N_0 t).val * 256 + p.val) % 2048, by omega⟩

/-- The stages of these arguments. -/
def gus (c : Dev nD) := gu (m ((c : Thread nD τ).loc main_arg0)) (m ((c : Thread nD τ).loc main_arg2)) (m ((c : Thread nD τ).loc main_arg3))
def acts (c : Dev nD) := act (m ((c : Thread nD τ).loc main_arg0)) (m ((c : Thread nD τ).loc main_arg2)) (m ((c : Thread nD τ).loc main_arg3))
def x3s (c : Dev nD) := x3 (m ((c : Thread nD τ).loc main_arg0)) (m ((c : Thread nD τ).loc main_arg2)) (m ((c : Thread nD τ).loc main_arg3)) (m ((c : Thread nD τ).loc main_arg4))
def errs (c : Dev nD) := err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def dys (c : Dev nD) := dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The kernel's gates, partners and sigmoids' denominators of a tile. -/
def gate (c : Dev nD) (t : Fin cfg0.N) : FVec Ideal S256x2816 .f32 := k0_pay8 (iblk m c 0 t) (iblk m c 3 t) (proj m c 0 (by norm_num))
def partner (c : Dev nD) (t : Fin cfg0.N) : FVec Ideal S256x2816 .f32 := k0_pay9 (iblk m c 0 t) (iblk m c 3 t) (proj m c 2816 (by norm_num))
def denom (c : Dev nD) (t : Fin cfg0.N) : FVec Ideal S256x2816 .f32 := k0_pay10 (iblk m c 0 t) (iblk m c 3 t) (proj m c 0 (by norm_num))

theorem normed (c : Dev nD) (t : Fin cfg0.N) (p : Fin 256) (k : Fin 1024) : k0_pay7 (iblk m c 0 t) (iblk m c 3 t) (ix2 p k)
    = hf (m ((c : Thread nD τ).loc main_arg0)) (m ((c : Thread nD τ).loc main_arg2)) (seq t p) (pos t p) k := by
  pointwise [k0_pay7, k0_pay6]
  simp only [rows, gain]
  rfl

theorem gate_eq (c : Dev nD) (t : Fin cfg0.N) (p : Fin 256) (d : Fin 2816) : gate m c t (ix2 p d) = gus m c (seq t p) (pos t p) ⟨d.val, by omega⟩ := by
  unfold gate
  pointwise [k0_pay8]
  simp only [normed]
  exact Finset.sum_congr (M := EReal) rfl fun k _ => congrArg (fun r => hf (m ((c : Thread nD τ).loc main_arg0)) (m ((c : Thread nD τ).loc main_arg2)) (seq t p) (pos t p) k * m ((c : Thread nD τ).loc main_arg3) (ix3 0 k r)) (Fin.ext (Nat.zero_add _))

theorem partner_eq (c : Dev nD) (t : Fin cfg0.N) (p : Fin 256) (d : Fin 2816) : partner m c t (ix2 p d) = gus m c (seq t p) (pos t p) ⟨2816 + d.val, by omega⟩ := by
  unfold partner
  pointwise [k0_pay9]
  simp only [normed]
  rfl

theorem denom_eq (c : Dev nD) (t : Fin cfg0.N) (p : Fin 256) (d : Fin 2816) : denom m c t (ix2 p d) = 1 + Ideal.exp (-gus m c (seq t p) (pos t p) ⟨d.val, by omega⟩) := by
  have e := gate_eq m c t p d
  unfold gate at e
  unfold denom
  pointwise [k0_pay10]
  simp only [e, zero_sub]

/-- The kernel's products of gates and partners. -/
def prods (c : Dev nD) (t : Fin cfg0.N) : FVec Ideal S256x2816 .bf16 := k0_pay11 (gate m c t) (partner m c t) (denom m c t) (FloatOps.ofBits FTy.f32 1065353216#32)
theorem prods_eq (c : Dev nD) (t : Fin cfg0.N) (p : Fin 256) (d : Fin 2816) : prods m c t (ix2 p d) = acts m c (seq t p) (pos t p) d := by
  unfold prods
  pointwise [k0_pay11]
  simp only [gate_eq, partner_eq, denom_eq]
  rfl

theorem one_eq : (FloatOps.ofBits FTy.f32 1065353216#32 : Ideal .f32) = (1 : EReal) := by
  show Ideal.ofBits .f32 1065353216#32 = 1
  simp [Ideal.ofBits, Ideal.ieee, -EReal.coe_mul]; norm_num

/-- The kernel's residual, its row scale, its norm, and the error. -/
def res (c : Dev nD) (t : Fin cfg0.N) : FVec Ideal S256x1024 .f32 := k0_pay12 (k0_pay6 (iblk m c 0 t)) (gate m c t) (partner m c t) (denom m c t) (FloatOps.ofBits FTy.f32 1065353216#32) (iblk m c 2 t)
def scale (c : Dev nD) (t : Fin cfg0.N) : FVec Ideal S256x1 .f32 := k0_pay13 (k0_pay6 (iblk m c 0 t)) (gate m c t) (partner m c t) (denom m c t) (FloatOps.ofBits FTy.f32 1065353216#32) (iblk m c 2 t)
def unit (c : Dev nD) (t : Fin cfg0.N) : FVec Ideal S256x1024 .f32 := k0_pay14 (k0_pay6 (iblk m c 0 t)) (gate m c t) (partner m c t) (denom m c t) (FloatOps.ofBits FTy.f32 1065353216#32) (iblk m c 2 t)
def miss (c : Dev nD) (t : Fin cfg0.N) : FVec Ideal S256x1024 .f32 := k0_pay16 (k0_pay6 (iblk m c 0 t)) (gate m c t) (partner m c t) (denom m c t) (FloatOps.ofBits FTy.f32 1065353216#32) (iblk m c 2 t) (iblk m c 4 t) (iblk m c 1 t)

theorem res_eq (c : Dev nD) (t : Fin cfg0.N) (p : Fin 256) (k : Fin 1024) : res m c t (ix2 p k) = x3s m c (seq t p) (pos t p) k := by
  have e (d : Fin 2816) := prods_eq m c t p d
  unfold prods at e
  simp only [one_eq] at e
  unfold res
  pointwise [k0_pay12, k0_pay6]
  simp only [rows, down, e]
  rfl

theorem scale_eq (c : Dev nD) (t : Fin cfg0.N) (p : Fin 256) (z : Fin 1) : scale m c t (ix2 p z) = Ideal.rsqrt (Cert.Reals.meansq (x3s m c (seq t p) (pos t p))) := by
  have e (d : Fin 1024) := res_eq m c t p d
  unfold res at e
  simp only [one_eq] at e
  unfold scale
  pointwise [k0_pay13]
  simp only [e]
  rfl

theorem unit_eq (c : Dev nD) (t : Fin cfg0.N) (p : Fin 256) (k : Fin 1024) : unit m c t (ix2 p k)
    = x3s m c (seq t p) (pos t p) k * Ideal.rsqrt (Cert.Reals.meansq (x3s m c (seq t p) (pos t p))) := by
  have e := res_eq m c t p k
  have s := scale_eq m c t p 0
  unfold res at e
  simp only [one_eq] at e
  unfold scale at s
  simp only [one_eq] at s
  unfold unit
  pointwise [k0_pay14]
  simp only [e, s]

theorem miss_eq (c : Dev nD) (t : Fin cfg0.N) (p : Fin 256) (k : Fin 1024) : miss m c t (ix2 p k) = errs m c (seq t p) (pos t p) k := by
  have e := unit_eq m c t p k
  unfold unit at e
  simp only [one_eq] at e
  unfold miss
  pointwise [k0_pay16, k0_pay15]
  simp only [e, final, target]
  rfl

theorem whole (G : (⟨2, ![1024, 2816]⟩ : Shape).Idx → EReal) (i) : View.ld (Val := Elt Ideal) (e' := .bf16) G (Rect.unit (s := ⟨2, ![1024, 2816]⟩) ![0, 0] ![1024, 2816] i) = G := by
  funext y
  refine congrArg G (funext fun k => Fin.ext ?_)
  match k with
  | ⟨0, _⟩ => exact (Nat.zero_add _).trans (Nat.one_mul _)
  | ⟨1, _⟩ => exact (Nat.zero_add _).trans (Nat.one_mul _)

/-- Reading a scratch back where it was just filled. -/
theorem filled0 (c : Dev nD) (i) : (fun j => proj m c 0 (by norm_num) ((Rect.unit (s := S1024x2816) ![0, 0] ![1024, 2816] i).toLoadRect.idx j)) = proj m c 0 (by norm_num) := whole _ _
theorem filled1 (c : Dev nD) (i) : (fun j => proj m c 2816 (by norm_num) ((Rect.unit (s := S1024x2816) ![0, 0] ![1024, 2816] i).toLoadRect.idx j)) = proj m c 2816 (by norm_num) := whole _ _

/-- A block of gates and partners. -/
def guB (c : Dev nD) (t : Fin cfg0.N) : (⟨2, ![256, 5632]⟩ : Shape).Idx → EReal := fun i => gus m c (seq t (i 0)) (pos t (i 0)) (i 1)

/-- What every point stores, in terms of the two halves of the projection. -/
def hfP (c : Dev nD) (t : Fin cfg0.N) : FVec Ideal S256x1024 .bf16 := k0_pay7 (iblk m c 0 t) (iblk m c 3 t)
def actP (c : Dev nD) (t : Fin cfg0.N) (S0 S1 : FVec Ideal S1024x2816 .bf16) : FVec Ideal S256x2816 .bf16 :=
  k0_pay11 (k0_pay8 (iblk m c 0 t) (iblk m c 3 t) S0) (k0_pay9 (iblk m c 0 t) (iblk m c 3 t) S1) (k0_pay10 (iblk m c 0 t) (iblk m c 3 t) S0) (FloatOps.ofBits FTy.f32 1065353216#32)
def dxP (c : Dev nD) (t : Fin cfg0.N) (S0 S1 : FVec Ideal S1024x2816 .bf16) : FVec Ideal S256x1024 .f32 :=
  k0_pay2 (k0_pay13 (k0_pay6 (iblk m c 0 t)) (k0_pay8 (iblk m c 0 t) (iblk m c 3 t) S0) (k0_pay9 (iblk m c 0 t) (iblk m c 3 t) S1) (k0_pay10 (iblk m c 0 t) (iblk m c 3 t) S0) (FloatOps.ofBits FTy.f32 1065353216#32) (iblk m c 2 t)) (k0_pay14 (k0_pay6 (iblk m c 0 t)) (k0_pay8 (iblk m c 0 t) (iblk m c 3 t) S0) (k0_pay9 (iblk m c 0 t) (iblk m c 3 t) S1) (k0_pay10 (iblk m c 0 t) (iblk m c 3 t) S0) (FloatOps.ofBits FTy.f32 1065353216#32) (iblk m c 2 t)) (k0_pay15 (iblk m c 4 t)) (k0_pay16 (k0_pay6 (iblk m c 0 t)) (k0_pay8 (iblk m c 0 t) (iblk m c 3 t) S0) (k0_pay9 (iblk m c 0 t) (iblk m c 3 t) S1) (k0_pay10 (iblk m c 0 t) (iblk m c 3 t) S0) (FloatOps.ofBits FTy.f32 1065353216#32) (iblk m c 2 t) (iblk m c 4 t) (iblk m c 1 t)) (k0_pay18 (F := Ideal))
def lossP (c : Dev nD) (t : Fin cfg0.N) (S0 S1 : FVec Ideal S1024x2816 .bf16) (acc : FVec Ideal S1x128 .f32) : FVec Ideal S1x128 .f32 :=
  k0_pay17 (k0_pay6 (iblk m c 0 t)) (k0_pay8 (iblk m c 0 t) (iblk m c 3 t) S0) (k0_pay9 (iblk m c 0 t) (iblk m c 3 t) S1) (k0_pay10 (iblk m c 0 t) (iblk m c 3 t) S0) (FloatOps.ofBits FTy.f32 1065353216#32) (iblk m c 2 t) (iblk m c 4 t) (iblk m c 1 t) acc
def gainP (c : Dev nD) (t : Fin cfg0.N) (S0 S1 : FVec Ideal S1024x2816 .bf16) (acc : FVec Ideal S1x1024 .f32) : FVec Ideal S1x1024 .f32 :=
  k0_pay3 (k0_pay14 (k0_pay6 (iblk m c 0 t)) (k0_pay8 (iblk m c 0 t) (iblk m c 3 t) S0) (k0_pay9 (iblk m c 0 t) (iblk m c 3 t) S1) (k0_pay10 (iblk m c 0 t) (iblk m c 3 t) S0) (FloatOps.ofBits FTy.f32 1065353216#32) (iblk m c 2 t)) (k0_pay16 (k0_pay6 (iblk m c 0 t)) (k0_pay8 (iblk m c 0 t) (iblk m c 3 t) S0) (k0_pay9 (iblk m c 0 t) (iblk m c 3 t) S1) (k0_pay10 (iblk m c 0 t) (iblk m c 3 t) S0) (FloatOps.ofBits FTy.f32 1065353216#32) (iblk m c 2 t) (iblk m c 4 t) (iblk m c 1 t)) (k0_pay18 (F := Ideal)) acc

theorem hf_left (c : Dev nD) (t : Fin cfg0.N) : (outsAt0 m c t.val t.isLt).1 = hfP m c t := by
  by_cases u : t.val % 16 = 0
  on_goal 1 => rw [outsAt0_A m c t u, startLeft]
  on_goal 2 => rw [outsAt0_B m c t u, laterLeft]
  all_goals
    frame_out
    rfl

theorem gu_left (c : Dev nD) (t : Fin cfg0.N) : (outsAt0 m c t.val t.isLt).2.1 = guB m c t := by
  by_cases u : t.val % 16 = 0
  · rw [outsAt0_A m c t u, startLeft]
    frame_out
    rw [View.readCov_eq_canon', View.readCov_eq_canon', first0, first1]
    refine Cert.Halves.halves (V := Elt Ideal) (e := .f32) (n := 256) (a := 2816) (by norm_num) (guB m c t) _ _ _ _ (fun p d => ?_) (fun p d => ?_)
    · exact (congrFun (congrArg (fun S0 => k0_pay8 (iblk m c 0 t) (iblk m c 3 t) S0) (filled0 m c _)) _).trans (gate_eq m c t p d)
    · exact (congrFun (congrArg (fun S1 => k0_pay9 (iblk m c 0 t) (iblk m c 3 t) S1) (filled1 m c _)) _).trans (partner_eq m c t p d)
  · rw [outsAt0_B m c t u, laterLeft]
    frame_out
    rw [held0, held1, read_unread_whole, read_unread_whole]
    exact Cert.Halves.halves (V := Elt Ideal) (e := .f32) (n := 256) (a := 2816) (by norm_num) (guB m c t) _ _ _ _ (fun p d => gate_eq m c t p d) (fun p d => partner_eq m c t p d)

theorem act_left (c : Dev nD) (t : Fin cfg0.N) : (outsAt0 m c t.val t.isLt).2.2.1 = prods m c t := by
  by_cases u : t.val % 16 = 0
  · rw [outsAt0_A m c t u, startLeft]
    frame_out
    rw [View.readCov_eq_canon', View.readCov_eq_canon', first0, first1]
    exact congrArg₂ (fun S0 S1 => actP m c t S0 S1) (filled0 m c _) (filled1 m c _)
  · rw [outsAt0_B m c t u, laterLeft]
    frame_out
    rw [held0, held1, read_unread_whole, read_unread_whole]
    rfl

theorem dx_left (c : Dev nD) (t : Fin cfg0.N) : (outsAt0 m c t.val t.isLt).2.2.2.1 = k0_pay2 (scale m c t) (unit m c t) (k0_pay15 (iblk m c 4 t)) (miss m c t) (k0_pay18 (F := Ideal)) := by
  by_cases u : t.val % 16 = 0
  · rw [outsAt0_A m c t u, startLeft]
    frame_out
    rw [View.readCov_eq_canon', View.readCov_eq_canon', first0, first1]
    exact congrArg₂ (fun S0 S1 => dxP m c t S0 S1) (filled0 m c _) (filled1 m c _)
  · rw [outsAt0_B m c t u, laterLeft]
    frame_out
    rw [held0, held1, read_unread_whole, read_unread_whole]
    rfl

/-- What every point adds to the loss. -/
theorem loss_first (c : Dev nD) (t : Fin cfg0.N) (u : t.val % 16 = 0) : (outsAt0 m c t.val t.isLt).2.2.2.2.1 = lossP m c t (proj m c 0 (by norm_num)) (proj m c 2816 (by norm_num)) (k0_pay4 (F := Ideal)) := by
  rw [outsAt0_A m c t u, startLeft]
  frame_out
  rw [View.readCov_eq_canon', View.readCov_eq_canon', first0, first1]
  exact congrArg₂ (fun S0 S1 => lossP m c t S0 S1 (k0_pay4 (F := Ideal))) (filled0 m c _) (filled1 m c _)
theorem loss_next (c : Dev nD) (t : Fin cfg0.N) (u : ¬t.val % 16 = 0) : (outsAt0 m c t.val t.isLt).2.2.2.2.1
    = lossP m c t (proj m c 0 (by norm_num)) (proj m c 2816 (by norm_num)) (outsAt0 m c (t.val - 1) (Nat.lt_of_le_of_lt (Nat.sub_le _ _) t.isLt)).2.2.2.2.1 := by
  rw [outsAt0_B m c t u, laterLeft]
  frame_out
  rw [held0, held1, read_unread_whole, read_unread_whole]
  rfl

/-- What every point adds to the last gain's gradient. -/
theorem gain_first (c : Dev nD) (t : Fin cfg0.N) (u : t.val % 16 = 0) : (outsAt0 m c t.val t.isLt).2.2.2.2.2.1 = gainP m c t (proj m c 0 (by norm_num)) (proj m c 2816 (by norm_num)) (k0_pay5 (F := Ideal)) := by
  rw [outsAt0_A m c t u, startLeft]
  frame_out
  rw [View.readCov_eq_canon', View.readCov_eq_canon', first0, first1]
  exact congrArg₂ (fun S0 S1 => gainP m c t S0 S1 (k0_pay5 (F := Ideal))) (filled0 m c _) (filled1 m c _)
theorem gain_next (c : Dev nD) (t : Fin cfg0.N) (u : ¬t.val % 16 = 0) : (outsAt0 m c t.val t.isLt).2.2.2.2.2.1
    = gainP m c t (proj m c 0 (by norm_num)) (proj m c 2816 (by norm_num)) (outsAt0 m c (t.val - 1) (Nat.lt_of_le_of_lt (Nat.sub_le _ _) t.isLt)).2.2.2.2.2.1 := by
  rw [outsAt0_B m c t u, laterLeft]
  frame_out
  rw [held0, held1, read_unread_whole, read_unread_whole]
  rfl

/-- What tile `t` adds to the loss and to the last gain's gradient. -/
def bit (c : Dev nD) (t : Fin cfg0.N) : EReal := (∑ p : Fin 256, ∑ k : Fin 1024, errs m c (seq t p) (pos t p) k * errs m c (seq t p) (pos t p) k) * Ideal.ofBits .f32 973078528#32
def part (c : Dev nD) (t : Fin cfg0.N) (q : Fin 1024) : EReal :=
  ∑ p : Fin 256, dys m c (seq t p) (pos t p) q * (x3s m c (seq t p) (pos t p) q * Ideal.rsqrt (Cert.Reals.meansq (x3s m c (seq t p) (pos t p))))

theorem loss_step (c : Dev nD) (t : Fin cfg0.N) (acc : FVec Ideal S1x128 .f32) (j : S1x128.Idx) :
    lossP m c t (proj m c 0 (by norm_num)) (proj m c 2816 (by norm_num)) acc j = acc j + bit m c t := by
  obtain ⟨z, q, rfl⟩ : ∃ (z : Fin 1) (q : Fin 128), j = ix2 z q := ⟨j 0, j 1, (ix2_eta j).symm⟩
  obtain rfl : z = 0 := Subsingleton.elim _ _
  have e (p : Fin 256) (k : Fin 1024) := miss_eq m c t p k
  unfold miss gate partner denom at e
  simp only [one_eq] at e
  unfold lossP
  pointwise [k0_pay17]
  simp only [e, Fin.sum_univ_one, Fin.isValue]
  rfl

theorem step (c : Dev nD) (t : Fin cfg0.N) (acc : FVec Ideal S1x1024 .f32) (j : S1x1024.Idx) :
    gainP m c t (proj m c 0 (by norm_num)) (proj m c 2816 (by norm_num)) acc j = acc j + part m c t (j 1) := by
  obtain ⟨z, q, rfl⟩ : ∃ (z : Fin 1) (q : Fin 1024), j = ix2 z q := ⟨j 0, j 1, (ix2_eta j).symm⟩
  obtain rfl : z = 0 := Subsingleton.elim _ _
  have e (p : Fin 256) (k : Fin 1024) := miss_eq m c t p k
  have s (p : Fin 256) (k : Fin 1024) := unit_eq m c t p k
  unfold miss gate partner denom at e
  simp only [one_eq] at e
  unfold unit gate partner denom at s
  simp only [one_eq] at s
  unfold gainP
  pointwise [k0_pay3, k0_pay1, k0_pay18]
  simp only [e, s]
  rfl

section
open Cert.ReferenceLossIdeal.Read

/-- The norm's result. -/
theorem out_hf (c : Dev nD) : (dats m 0 c).arrAt 5 (cfgs 0).N = val_main_v75 (F := Ideal) (m ((c : Thread nD τ).loc main_arg0)) (m ((c : Thread nD τ).loc main_arg2)) := by
  refine (dats m 0 c).arrAt_eq_of_covers 5 _ (by decide +kernel) fun t hf y => ?_
  have b (p : Fin 256) : t.val * 256 + p.val < 4096 := by have := (Fin.cast N_0 t).isLt; simp only [Fin.val_cast] at this; omega
  obtain ⟨p, q, rfl⟩ : ∃ (p : Fin 256) (q : Fin 1024), y = ix2 p q := ⟨y 0, y 1, eq_ix2 y⟩
  have e : ((View.whole main_v9_0).slice (win0_5.rect t)).emb (ix2 p q) = ix2 ⟨t.val * 256 + p.val, b p⟩ q := by blk_ext [place t]
  blk_simp
  rw [e, after0_5, hf_left]
  refine (normed m c t p q).trans ?_
  pointwise [val_main_v75, val_main_v74]
  rw [v13_eq]
  rfl

/-- Gates and partners. -/
theorem out_gu (c : Dev nD) : (dats m 0 c).arrAt 6 (cfgs 0).N = val_main_v76 (F := Ideal) (m ((c : Thread nD τ).loc main_arg0)) (m ((c : Thread nD τ).loc main_arg2)) (m ((c : Thread nD τ).loc main_arg3)) := by
  refine (dats m 0 c).arrAt_eq_of_covers 6 _ (by decide +kernel) fun t hf y => ?_
  have b (p : Fin 256) : t.val * 256 + p.val < 4096 := by have := (Fin.cast N_0 t).isLt; simp only [Fin.val_cast] at this; omega
  obtain ⟨p, q, rfl⟩ : ∃ (p : Fin 256) (q : Fin 5632), y = ix2 p q := ⟨y 0, y 1, eq_ix2 y⟩
  have e : ((View.whole main_v9_1).slice (win0_6.rect t)).emb (ix2 p q) = ix2 ⟨t.val * 256 + p.val, b p⟩ q := by blk_ext [place t]
  blk_simp
  rw [e, after0_6, gu_left]
  pointwise [val_main_v76]
  rw [v15_eq]
  rfl

/-- Their products. -/
theorem out_act (c : Dev nD) : (dats m 0 c).arrAt 7 (cfgs 0).N = val_main_v78 (F := Ideal) (m ((c : Thread nD τ).loc main_arg0)) (m ((c : Thread nD τ).loc main_arg2)) (m ((c : Thread nD τ).loc main_arg3)) := by
  refine (dats m 0 c).arrAt_eq_of_covers 7 _ (by decide +kernel) fun t hf y => ?_
  have b (p : Fin 256) : t.val * 256 + p.val < 4096 := by have := (Fin.cast N_0 t).isLt; simp only [Fin.val_cast] at this; omega
  obtain ⟨p, q, rfl⟩ : ∃ (p : Fin 256) (q : Fin 2816), y = ix2 p q := ⟨y 0, y 1, eq_ix2 y⟩
  have e : ((View.whole main_v9_2).slice (win0_7.rect t)).emb (ix2 p q) = ix2 ⟨t.val * 256 + p.val, b p⟩ q := by blk_ext [place t]
  blk_simp
  rw [e, after0_7, act_left, prods_eq]
  pointwise [val_main_v78, val_main_v77]
  rw [v19_eq]
  rfl

/-- The gradient of the residual. -/
theorem out_dx (c : Dev nD) (h : fin m c) : (dats m 0 c).arrAt 8 (cfgs 0).N = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have b (p : Fin 256) : t.val * 256 + p.val < 4096 := by have := (Fin.cast N_0 t).isLt; simp only [Fin.val_cast] at this; omega
  obtain ⟨p, q, rfl⟩ : ∃ (p : Fin 256) (q : Fin 1024), y = ix2 p q := ⟨y 0, y 1, eq_ix2 y⟩
  have e : ((View.whole main_v9_3).slice (win0_8.rect t)).emb (ix2 p q) = ix2 ⟨t.val * 256 + p.val, b p⟩ q := by blk_ext [place t]
  blk_simp
  rw [e, after0_8, chain _ _ _ _ _ _ h.1 h.2.1 h.2.2.1 h.2.2.2.1 h.2.2.2.2.1 h.2.2.2.2.2 _ _ (by simp only; have := b p; omega) (by simp only; omega), dx_left]
  pointwise [k0_pay2, k0_pay1, k0_pay15, k0_pay18]
  simp only [scale_eq, unit_eq, miss_eq, final]
  rfl

/-- The loss, summed over the grid. -/
theorem out_loss (c : Dev nD) (h : fin m c) : (dats m 0 c).arrAt 9 (cfgs 0).N = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_15 (by decide +kernel) _ fun j => ?_
  obtain ⟨z, q, rfl⟩ : ∃ (z : Fin 1) (q : Fin 128), j = ix2 z q := ⟨j 0, j 1, (ix2_eta j).symm⟩
  blk_simp
  obtain rfl : z = 0 := Subsingleton.elim _ _
  rw [after0_9, Pipeline.eq_sum_fin_of_reset_step_apply_last (fun n h => (outsAt0 m c n h).2.2.2.2.1) 16 (fun _ => 0) (fun t i => bit m c t)
    (fun t u j => by simp only [loss_first m c t u]; rw [loss_step m c, start4])
    (fun t u j => by simp only [loss_next m c t u]; rw [loss_step m c])
    (le_of_eq N_0) t0_15 rfl (ix2 0 q), zero_add, loss_eq _ _ _ _ _ _ h.1 h.2.1 h.2.2.1 h.2.2.2.1 h.2.2.2.2.1 h.2.2.2.2.2]
  exact Fintype.sum_equiv (M := EReal) (finCongr N_0) _ _ fun t => rfl

/-- The last gain's gradient, summed over the grid. -/
theorem out_gain (c : Dev nD) (h : fin m c) : (dats m 0 c).arrAt 10 (cfgs 0).N = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_15 (by decide +kernel) _ fun j => ?_
  obtain ⟨z, q, rfl⟩ : ∃ (z : Fin 1) (q : Fin 1024), j = ix2 z q := ⟨j 0, j 1, (ix2_eta j).symm⟩
  blk_simp
  obtain rfl : z = 0 := Subsingleton.elim _ _
  rw [after0_10, Pipeline.eq_sum_fin_of_reset_step_apply_last (fun n h => (outsAt0 m c n h).2.2.2.2.2.1) 16 (fun _ => 0) (fun t i => part m c t (i 1))
    (fun t u j => by simp only [gain_first m c t u]; rw [step m c, start5])
    (fun t u j => by simp only [gain_next m c t u]; rw [step m c])
    (le_of_eq N_0) t0_15 rfl (ix2 0 q), zero_add, summed _ _ _ _ _ _ h.1 h.2.1 h.2.2.1 h.2.2.2.1 h.2.2.2.2.1 h.2.2.2.2.2]
  rw [Cert.Sums.tiles (M := EReal) (n := 16) (p := 256) (by norm_num) _ (fun t r => by omega) (fun t r => by omega)]
  exact Fintype.sum_equiv (M := EReal) (finCongr N_0) _ _ fun t => rfl
end
end Cert.LossValue

end
-- ==== Proof.LossEnd.lean ====
/- What is claimed of the channel mixer and the loss. -/
module

public import proofs.«01_k».proof.Defs
public import proofs.«01_k».proof.Proof.Gen.KernelLoss
public import proofs.«01_k».proof.Proof.Gen.ReferenceLossIdeal.Run
public import proofs.«01_k».proof.Proof.Gen.Pre_finite_loss
public import proofs.«01_k».proof.Proof.LossEnds
public import Idealize.ShloMosaic.Adequacy
public import Idealize.ShloMosaic.Init

@[expose] public section

set_option maxRecDepth 16384
set_option maxHeartbeats 4000000

noncomputable section

namespace Cert.LossEnd

open Idealize.ShloMosaic Idealize.SL.Sem

theorem frame_kernel : Cert.quiescent_KernelLoss := fun m g _ => Eq.mp (by sl_kernel_rfl) (Cert.LossRun.frame (F := Bits) m g)

theorem frame_ideal : Cert.quiescent_KernelLossIdeal := fun m g _ => Cert.LossRun.frame (F := Ideal) m g

theorem frame_reference : Cert.quiescent_ReferenceLossIdeal := fun m g _ =>
  (θ_run Cert.ReferenceLossIdeal.defs _ _).mono (fun r h => ⟨fun c => (h c).2.2.2.2.2.2, sem_eq_zero_of_no_sems (by decide) r.2⟩)
    (Cert.ReferenceLossIdeal.Value.run (F := Ideal) m g)

/-- The precondition says that the arguments it reads hold no infinity. -/
theorem finite (m : (ℓ : Loc Cert.KernelLossIdeal.nD Cert.KernelLossIdeal.τ Cert.KernelLossIdeal.sig) → Buf (Elt Ideal) ℓ)
    (h : Cert.Pre_KernelLossIdeal_finite_loss m) (c : Dev Cert.KernelLossIdeal.nD) : Cert.LossValue.fin m c :=
  ⟨fun i => Cert.Reals.of_lt _ (congrFun (h c).1 i), fun i => Cert.Reals.of_lt _ (congrFun (h c).2.1 i), fun i => Cert.Reals.of_lt _ (congrFun (h c).2.2.1 i), fun i => Cert.Reals.of_lt _ (congrFun (h c).2.2.2.1 i), fun i => Cert.Reals.of_lt _ (congrFun (h c).2.2.2.2.1 i), fun i => Cert.Reals.of_lt _ (congrFun (h c).2.2.2.2.2 i)⟩

theorem algebraic : Cert.algebraic_KernelLossIdeal_ReferenceLossIdeal_pre_finite_loss := by
  pair_intro
  · run_from Cert.LossRun.run_blocks m g
  · run_from Cert.ReferenceLossIdeal.Value.run m' g'
    · exact (Cert.LossValue.out_hf m c).symm
    · exact (Cert.LossValue.out_gu m c).symm
    · exact (Cert.LossValue.out_act m c).symm
    · rw [Cert.ReferenceLossIdeal.Read.val_main_v79_eq m' c]
      simp only [hagree c]
      exact (Cert.LossValue.out_dx m c (finite m hpre c)).symm
    · rw [Cert.ReferenceLossIdeal.Read.val_main_v81_eq m' c]
      simp only [hagree c]
      exact (Cert.LossValue.out_loss m c (finite m hpre c)).symm
    · rw [Cert.ReferenceLossIdeal.Read.val_main_v82_eq m' c]
      simp only [hagree c]
      exact (Cert.LossValue.out_gain m c (finite m hpre c)).symm

end Cert.LossEnd

end
-- ==== Proof.FoxOffs.lean ====
/- The loop of `fox_bwd` over the pairs of query blocks: what one trip leaves in the scratches, and its invariant. -/
module

public import proofs.«01_k».proof.Proof.Gen.KernelFoxIdeal.Frame
public import proofs.«01_k».proof.Proof.Gen.KernelFoxIdeal.Loops

@[expose] public section

set_option maxRecDepth 16384

noncomputable section

namespace Cert.FoxRun

open Cert.KernelFoxIdeal Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem k0_off4_eq : ∀ (i : grid0.Coords) (k : Fin (k0_t1_loop i).trips), k0_off4 i k 1#32 = ![256 * ((i 2).val + 2 + 2 * k.val), 0] := by decide +kernel
theorem k0_off4_eq2 : ∀ (i : grid0.Coords) (k : Fin (k0_t1_loop i).trips), k0_off4 i k 2#32 = ![if (i 2).val + 3 + 2 * k.val < 8 then 256 * ((i 2).val + 3 + 2 * k.val) else 256 * (i 2).val, 0] := by decide +kernel
theorem k0_off5_eq : ∀ (i : grid0.Coords) (k : Fin (k0_t1_loop i).trips), k0_off5 i k = ![256 * ((i 2).val + 1 + 2 * k.val), 0] := by decide +kernel
theorem k0_off6_eq : ∀ (i : grid0.Coords) (k : Fin (k0_t1_loop i).trips), k0_off6 i k = ![0, 256 * ((i 2).val + 1 + 2 * k.val), 0] := by decide +kernel
theorem k0_off7_eq : ∀ (i : grid0.Coords) (k : Fin (k0_t1_loop i).trips), k0_off7 i k = ![0, (i 2).val + 1 + 2 * k.val, 0, 0] := by decide +kernel
theorem k0_off8_eq : ∀ (i : grid0.Coords) (k : Fin (k0_t1_loop i).trips), k0_off8 i k = ![1, 256 * ((i 2).val + 1 + 2 * k.val), 0] := by decide +kernel
theorem k0_off9_eq : ∀ (i : grid0.Coords) (k : Fin (k0_t1_loop i).trips), k0_off9 i k = ![0, (i 2).val + 1 + 2 * k.val, 64, 0] := by decide +kernel
theorem k0_off10_eq : ∀ (i : grid0.Coords) (k : Fin (k0_t1_loop i).trips), k0_off10 i k = ![0, 256 * ((i 2).val + 2 + 2 * k.val), 0] := by decide +kernel
theorem k0_off11_eq : ∀ (i : grid0.Coords) (k : Fin (k0_t1_loop i).trips), k0_off11 i k = ![0, (i 2).val + 2 + 2 * k.val, 0, 0] := by decide +kernel
theorem k0_off12_eq : ∀ (i : grid0.Coords) (k : Fin (k0_t1_loop i).trips), k0_off12 i k = ![1, 256 * ((i 2).val + 2 + 2 * k.val), 0] := by decide +kernel
theorem k0_off13_eq : ∀ (i : grid0.Coords) (k : Fin (k0_t1_loop i).trips), k0_off13 i k = ![0, (i 2).val + 2 + 2 * k.val, 64, 0] := by decide +kernel
instance (i : grid0.Coords) (k : Fin (k0_t1_loop i).trips) : ClosedOff (k0_off4 i k 1#32) := ⟨_, k0_off4_eq i k⟩
instance (i : grid0.Coords) (k : Fin (k0_t1_loop i).trips) : ClosedOff (k0_off5 i k) := ⟨_, k0_off5_eq i k⟩
instance (i : grid0.Coords) (k : Fin (k0_t1_loop i).trips) : ClosedOff (k0_off6 i k) := ⟨_, k0_off6_eq i k⟩
instance (i : grid0.Coords) (k : Fin (k0_t1_loop i).trips) : ClosedOff (k0_off7 i k) := ⟨_, k0_off7_eq i k⟩
instance (i : grid0.Coords) (k : Fin (k0_t1_loop i).trips) : ClosedOff (k0_off8 i k) := ⟨_, k0_off8_eq i k⟩
instance (i : grid0.Coords) (k : Fin (k0_t1_loop i).trips) : ClosedOff (k0_off9 i k) := ⟨_, k0_off9_eq i k⟩
instance (i : grid0.Coords) (k : Fin (k0_t1_loop i).trips) : ClosedOff (k0_off10 i k) := ⟨_, k0_off10_eq i k⟩
instance (i : grid0.Coords) (k : Fin (k0_t1_loop i).trips) : ClosedOff (k0_off11 i k) := ⟨_, k0_off11_eq i k⟩
instance (i : grid0.Coords) (k : Fin (k0_t1_loop i).trips) : ClosedOff (k0_off12 i k) := ⟨_, k0_off12_eq i k⟩
instance (i : grid0.Coords) (k : Fin (k0_t1_loop i).trips) : ClosedOff (k0_off13 i k) := ⟨_, k0_off13_eq i k⟩
instance (i : grid0.Coords) (k : Fin (k0_t1_loop i).trips) : ClosedOff (k0_off4 i k 2#32) := ⟨_, k0_off4_eq2 i k⟩

end Cert.FoxRun

end
-- ==== Proof.FoxTrip.lean ====
/- The loop of `fox_bwd` over the pairs of query blocks: what one trip leaves in the scratches, and its invariant. -/
module

public import proofs.«01_k».proof.Proof.FoxOffs
public import proofs.«01_k».proof.Proof.Gen.KernelFoxIdeal.Loops

@[expose] public section

set_option maxRecDepth 16384

noncomputable section

namespace Cert.FoxRun

open Cert.KernelFoxIdeal Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Loop

variable (c : Dev nD) (i : grid0.Coords)
  (arg3 : Memref sig .tc .vmem S2048x128 .bf16) (harg3 : arg3.IsWhole)
  (arg4 : Memref sig .tc .vmem S256x128 .bf16) (harg4 : arg4.IsWhole)
  (arg5 : Memref sig .tc .vmem S256x128 .bf16) (harg5 : arg5.IsWhole)
  (arg6 : Memref sig .tc .vmem S2048x128 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S1x1x8x2048 .f32) (harg9 : arg9.IsWhole)
  (arg10 : Memref sig .tc .vmem S1x8x128x256 .bf16) (harg10 : arg10.IsWhole)
  (arg11 : Memref sig .tc .vmem S1x8x128x256 .bf16) (harg11 : arg11.IsWhole)
  (arg12 : Memref sig .tc .vmem S2048x128 .bf16) (harg12 : arg12.IsWhole)
  (arg13 : Memref sig .tc .vmem S256x128 .bf16) (harg13 : arg13.IsWhole)
  (arg14 : Memref sig .tc .vmem S256x128 .bf16) (harg14 : arg14.IsWhole)
  (arg15 : Memref sig .tc .vmem S1x1x8x256 .f32) (harg15 : arg15.IsWhole)
  (arg16 : Memref sig .tc .vmem S2048x128 .f32) (harg16 : arg16.IsWhole)
  (arg17 : Memref sig .tc .vmem S2048x128 .f32) (harg17 : arg17.IsWhole)
  (arg18 : Memref sig .tc .vmem S2x2048x1 .f32) (harg18 : arg18.IsWhole)
  (arg19 : Memref sig .tc .vmem S2x256x256 .f32) (harg19 : arg19.IsWhole)
  (arg20 : Memref sig .tc .vmem S2x256x256 .f32) (harg20 : arg20.IsWhole)
  (arg21 : Memref sig .tc .vmem S2x256x256 .f32) (harg21 : arg21.IsWhole)
  (arg22 : Memref sig .tc .vmem S2x256x256 .f32) (harg22 : arg22.IsWhole)
  (arg23 : Memref sig .tc .vmem S128x256 .f32) (harg23 : arg23.IsWhole)
  (arg24 : Memref sig .tc .vmem S128x256 .f32) (harg24 : arg24.IsWhole)
  (arg25 : Memref sig .tc .vmem S2x8x256 .f32) (harg25 : arg25.IsWhole)
  (arg2 v39 : BitVec 32) (v25 v26 v27 v28 : FVec F S256x128 .bf16) (v33 v36 : FVec F S1x256 .f32) (v51 : FVec F S256x128 .bf16) (z : FVec F S256x256 .f32)
  (X3 : Buf (Elt F) (arg3.view.loc (c : Thread nD τ))) (X6 : Buf (Elt F) (arg6.view.loc (c : Thread nD τ))) (X7 : Buf (Elt F) (arg7.view.loc (c : Thread nD τ))) (X8 : Buf (Elt F) (arg8.view.loc (c : Thread nD τ))) (X10 : Buf (Elt F) (arg10.view.loc (c : Thread nD τ))) (X11 : Buf (Elt F) (arg11.view.loc (c : Thread nD τ)))

/-- What the loop holds: the windows it reads and the scratches; of the two that hold the odd block's scores no more is said than that they are there. -/
abbrev Trip (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f23 : Buf (Elt F) (arg23.view.loc (c : Thread nD τ))) (f24 : Buf (Elt F) (arg24.view.loc (c : Thread nD τ))) (f25 : Buf (Elt F) (arg25.view.loc (c : Thread nD τ))) : sProp (MT nD τ sig Unit (Elt F) ℕ (UR sig nD τ) ℕ) :=
  iprop((arg3.view.loc (c : Thread nD τ) ↦[arg3.view.set]{fullShare} X3)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg10.view.loc (c : Thread nD τ) ↦[arg10.view.set]{fullShare} X10)
    ∗ (arg11.view.loc (c : Thread nD τ) ↦[arg11.view.set]{fullShare} X11)
    ∗ (arg17.view.loc (c : Thread nD τ) ↦[arg17.view.set]{fullShare} f17)
    ∗ (arg18.view.loc (c : Thread nD τ) ↦[arg18.view.set]{fullShare} f18)
    ∗ (arg19.view.loc (c : Thread nD τ) ↦[arg19.view.set]{fullShare} f19)
    ∗ (arg20.view.loc (c : Thread nD τ) ↦[arg20.view.set]{fullShare} f20)
    ∗ (arg23.view.loc (c : Thread nD τ) ↦[arg23.view.set]{fullShare} f23)
    ∗ (arg24.view.loc (c : Thread nD τ) ↦[arg24.view.set]{fullShare} f24)
    ∗ (arg25.view.loc (c : Thread nD τ) ↦[arg25.view.set]{fullShare} f25)
    ∗ (∃ f, (arg21.view.loc (c : Thread nD τ) ↦[arg21.view.set]{fullShare} f))
    ∗ (∃ f, (arg22.view.loc (c : Thread nD τ) ↦[arg22.view.set]{fullShare} f)))

set_option backward.proofsInPublic true in
set_option maxHeartbeats 4000000 in
/-- One trip: two blocks of queries, the scores of the next one made on the way. -/
@[irreducible] def trip (k : Fin (k0_t1_loop i).trips) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f23 : Buf (Elt F) (arg23.view.loc (c : Thread nD τ))) (f24 : Buf (Elt F) (arg24.view.loc (c : Thread nD τ))) (f25 : Buf (Elt F) (arg25.view.loc (c : Thread nD τ))) :
    Σ' (L17 : List (View.Piece (Elt F) S2048x128 .f32)), Σ' (L18 : List (View.Piece (Elt F) S2x2048x1 .f32)), Σ' (L19 : List (View.Piece (Elt F) S2x256x256 .f32)), Σ' (L20 : List (View.Piece (Elt F) S2x256x256 .f32)), Σ' (L23 : List (View.Piece (Elt F) S128x256 .f32)), Σ' (L24 : List (View.Piece (Elt F) S128x256 .f32)), { L25 : List (View.Piece (Elt F) S2x8x256 .f32) //
      Trip c arg3 arg6 arg7 arg8 arg10 arg11 arg17 arg18 arg19 arg20 arg21 arg22 arg23 arg24 arg25 X3 X6 X7 X8 X10 X11 f17 f18 f19 f20 f23 f24 f25 ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 z k ())
        (fun _ => Trip c arg3 arg6 arg7 arg8 arg10 arg11 arg17 arg18 arg19 arg20 arg21 arg22 arg23 arg24 arg25 X3 X6 X7 X8 X10 X11 (arg17.view.writes (Elt F) f17 L17) (arg18.view.writes (Elt F) f18 L18) (arg19.view.writes (Elt F) f19 L19) (arg20.view.writes (Elt F) f20 L20) (arg23.view.writes (Elt F) f23 L23) (arg24.view.writes (Elt F) f24 L24) (arg25.view.writes (Elt F) f25 L25)) } := by
  refine ⟨?_, ?_, ?_, ?_, ?_, ?_, ?_, ?run⟩
  case run =>
    sl_unfold [k0_t1_body]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    iintro ⟨H3, H6, H7, H8, H10, H11, H17, H18, H19, H20, H23, H24, H25, ⟨%f21, H21⟩, ⟨%f22, H22⟩⟩
    sl_exec
    sl_step
    isplitl [H3]; · iexact H3
    isplitl [H6]; · iexact H6
    isplitl [H7]; · iexact H7
    isplitl [H8]; · iexact H8
    isplitl [H10]; · iexact H10
    isplitl [H11]; · iexact H11
    isplitl [H17]; · iexact H17
    isplitl [H18]; · iexact H18
    isplitl [H19]; · iexact H19
    isplitl [H20]; · iexact H20
    isplitl [H23]; · iexact H23
    isplitl [H24]; · iexact H24
    isplitl [H25]; · iexact H25
    isplitl [H21]; · iexists _; iexact H21
    iexists _; iexact H22

end Loop

end Cert.FoxRun

end
-- ==== Proof.FoxLoop.lean ====
/- The loop of `fox_bwd` over the pairs of query blocks: what one trip leaves in the scratches, and its invariant. -/
module

public import proofs.«01_k».proof.Proof.FoxTrip
public import proofs.«01_k».proof.Proof.Gen.KernelFoxIdeal.Loops

@[expose] public section

set_option maxRecDepth 16384

noncomputable section

namespace Cert.FoxRun

open Cert.KernelFoxIdeal Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Loop

variable (c : Dev nD) (i : grid0.Coords)
  (arg3 : Memref sig .tc .vmem S2048x128 .bf16) (harg3 : arg3.IsWhole)
  (arg4 : Memref sig .tc .vmem S256x128 .bf16) (harg4 : arg4.IsWhole)
  (arg5 : Memref sig .tc .vmem S256x128 .bf16) (harg5 : arg5.IsWhole)
  (arg6 : Memref sig .tc .vmem S2048x128 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S1x1x8x2048 .f32) (harg9 : arg9.IsWhole)
  (arg10 : Memref sig .tc .vmem S1x8x128x256 .bf16) (harg10 : arg10.IsWhole)
  (arg11 : Memref sig .tc .vmem S1x8x128x256 .bf16) (harg11 : arg11.IsWhole)
  (arg12 : Memref sig .tc .vmem S2048x128 .bf16) (harg12 : arg12.IsWhole)
  (arg13 : Memref sig .tc .vmem S256x128 .bf16) (harg13 : arg13.IsWhole)
  (arg14 : Memref sig .tc .vmem S256x128 .bf16) (harg14 : arg14.IsWhole)
  (arg15 : Memref sig .tc .vmem S1x1x8x256 .f32) (harg15 : arg15.IsWhole)
  (arg16 : Memref sig .tc .vmem S2048x128 .f32) (harg16 : arg16.IsWhole)
  (arg17 : Memref sig .tc .vmem S2048x128 .f32) (harg17 : arg17.IsWhole)
  (arg18 : Memref sig .tc .vmem S2x2048x1 .f32) (harg18 : arg18.IsWhole)
  (arg19 : Memref sig .tc .vmem S2x256x256 .f32) (harg19 : arg19.IsWhole)
  (arg20 : Memref sig .tc .vmem S2x256x256 .f32) (harg20 : arg20.IsWhole)
  (arg21 : Memref sig .tc .vmem S2x256x256 .f32) (harg21 : arg21.IsWhole)
  (arg22 : Memref sig .tc .vmem S2x256x256 .f32) (harg22 : arg22.IsWhole)
  (arg23 : Memref sig .tc .vmem S128x256 .f32) (harg23 : arg23.IsWhole)
  (arg24 : Memref sig .tc .vmem S128x256 .f32) (harg24 : arg24.IsWhole)
  (arg25 : Memref sig .tc .vmem S2x8x256 .f32) (harg25 : arg25.IsWhole)
  (arg2 v39 : BitVec 32) (v25 v26 v27 v28 : FVec F S256x128 .bf16) (v33 v36 : FVec F S1x256 .f32) (v51 : FVec F S256x128 .bf16) (z : FVec F S256x256 .f32)
  (X3 : Buf (Elt F) (arg3.view.loc (c : Thread nD τ))) (X6 : Buf (Elt F) (arg6.view.loc (c : Thread nD τ))) (X7 : Buf (Elt F) (arg7.view.loc (c : Thread nD τ))) (X8 : Buf (Elt F) (arg8.view.loc (c : Thread nD τ))) (X10 : Buf (Elt F) (arg10.view.loc (c : Thread nD τ))) (X11 : Buf (Elt F) (arg11.view.loc (c : Thread nD τ)))

/-- The scratches' contents. -/
structure St where
  s17 : Buf (Elt F) (arg17.view.loc (c : Thread nD τ))
  s18 : Buf (Elt F) (arg18.view.loc (c : Thread nD τ))
  s19 : Buf (Elt F) (arg19.view.loc (c : Thread nD τ))
  s20 : Buf (Elt F) (arg20.view.loc (c : Thread nD τ))
  s23 : Buf (Elt F) (arg23.view.loc (c : Thread nD τ))
  s24 : Buf (Elt F) (arg24.view.loc (c : Thread nD τ))
  s25 : Buf (Elt F) (arg25.view.loc (c : Thread nD τ))

/-- The resources at a state. -/
abbrev At (S : St (F := F) c arg17 arg18 arg19 arg20 arg23 arg24 arg25) : sProp (MT nD τ sig Unit (Elt F) ℕ (UR sig nD τ) ℕ) :=
  Trip c arg3 arg6 arg7 arg8 arg10 arg11 arg17 arg18 arg19 arg20 arg21 arg22 arg23 arg24 arg25 X3 X6 X7 X8 X10 X11 S.s17 S.s18 S.s19 S.s20 S.s23 S.s24 S.s25

/-- Writes to the scratches. -/
structure Ls (F : FTy → Type) where
  l17 : List (View.Piece (Elt F) S2048x128 .f32)
  l18 : List (View.Piece (Elt F) S2x2048x1 .f32)
  l19 : List (View.Piece (Elt F) S2x256x256 .f32)
  l20 : List (View.Piece (Elt F) S2x256x256 .f32)
  l23 : List (View.Piece (Elt F) S128x256 .f32)
  l24 : List (View.Piece (Elt F) S128x256 .f32)
  l25 : List (View.Piece (Elt F) S2x8x256 .f32)

/-- Later writes over earlier ones. -/
abbrev Ls.over (L P : Ls F) : Ls F := ⟨L.l17 ++ P.l17, L.l18 ++ P.l18, L.l19 ++ P.l19, L.l20 ++ P.l20, L.l23 ++ P.l23, L.l24 ++ P.l24, L.l25 ++ P.l25⟩

/-- A state written over. -/
abbrev put (S : St (F := F) c arg17 arg18 arg19 arg20 arg23 arg24 arg25) (P : Ls F) : St (F := F) c arg17 arg18 arg19 arg20 arg23 arg24 arg25 := ⟨arg17.view.writes (Elt F) S.s17 P.l17, arg18.view.writes (Elt F) S.s18 P.l18, arg19.view.writes (Elt F) S.s19 P.l19, arg20.view.writes (Elt F) S.s20 P.l20, arg23.view.writes (Elt F) S.s23 P.l23, arg24.view.writes (Elt F) S.s24 P.l24, arg25.view.writes (Elt F) S.s25 P.l25⟩

theorem put_over (S : St (F := F) c arg17 arg18 arg19 arg20 arg23 arg24 arg25) (L P : Ls F) : put c arg17 arg18 arg19 arg20 arg23 arg24 arg25 S (L.over P) = put c arg17 arg18 arg19 arg20 arg23 arg24 arg25 (put c arg17 arg18 arg19 arg20 arg23 arg24 arg25 S P) L := by
  simp only [put, View.writes_append]

/-- What a trip writes. -/
def made (k : Fin (k0_t1_loop i).trips) (S : St (F := F) c arg17 arg18 arg19 arg20 arg23 arg24 arg25) : Ls F :=
  ⟨(trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 k S.s17 S.s18 S.s19 S.s20 S.s23 S.s24 S.s25).1,
    (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 k S.s17 S.s18 S.s19 S.s20 S.s23 S.s24 S.s25).2.1,
    (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 k S.s17 S.s18 S.s19 S.s20 S.s23 S.s24 S.s25).2.2.1,
    (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 k S.s17 S.s18 S.s19 S.s20 S.s23 S.s24 S.s25).2.2.2.1,
    (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 k S.s17 S.s18 S.s19 S.s20 S.s23 S.s24 S.s25).2.2.2.2.1,
    (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 k S.s17 S.s18 S.s19 S.s20 S.s23 S.s24 S.s25).2.2.2.2.2.1,
    (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 k S.s17 S.s18 S.s19 S.s20 S.s23 S.s24 S.s25).2.2.2.2.2.2.1⟩

/-- The scratches after a trip. -/
abbrev next (k : Fin (k0_t1_loop i).trips) (S : St (F := F) c arg17 arg18 arg19 arg20 arg23 arg24 arg25) : St (F := F) c arg17 arg18 arg19 arg20 arg23 arg24 arg25 := put c arg17 arg18 arg19 arg20 arg23 arg24 arg25 S (made c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 k S)

set_option maxHeartbeats 4000000 in
theorem next_run (k : Fin (k0_t1_loop i).trips) (S : St (F := F) c arg17 arg18 arg19 arg20 arg23 arg24 arg25) :
    At c arg3 arg6 arg7 arg8 arg10 arg11 arg17 arg18 arg19 arg20 arg21 arg22 arg23 arg24 arg25 X3 X6 X7 X8 X10 X11 S ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 z k ())
      (fun _ => At c arg3 arg6 arg7 arg8 arg10 arg11 arg17 arg18 arg19 arg20 arg21 arg22 arg23 arg24 arg25 X3 X6 X7 X8 X10 X11 (next c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 k S)) := by
  unfold next made
  exact (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 k S.s17 S.s18 S.s19 S.s20 S.s23 S.s24 S.s25).2.2.2.2.2.2.2

/-- What the trips before `k` write. -/
def pb (S : St (F := F) c arg17 arg18 arg19 arg20 arg23 arg24 arg25) : ℕ → Ls F
  | 0 => ⟨[], [], [], [], [], [], []⟩
  | k + 1 => if h : k < (k0_t1_loop i).trips then
      (made c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 ⟨k, h⟩ (put c arg17 arg18 arg19 arg20 arg23 arg24 arg25 S (pb S k))).over (pb S k)
    else pb S k

/-- The scratches before trip `k`. -/
abbrev st (S : St (F := F) c arg17 arg18 arg19 arg20 arg23 arg24 arg25) (k : ℕ) : St (F := F) c arg17 arg18 arg19 arg20 arg23 arg24 arg25 := put c arg17 arg18 arg19 arg20 arg23 arg24 arg25 S (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 S k)

theorem st_succ (S : St (F := F) c arg17 arg18 arg19 arg20 arg23 arg24 arg25) (k : Fin (k0_t1_loop i).trips) :
    st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 S (k.val + 1) = next c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 k (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 S k.val) := by
  rw [st, pb, dif_pos k.isLt, put_over]

/-- The resources at a state written over, its contents named. -/
abbrev Inv (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f23 : Buf (Elt F) (arg23.view.loc (c : Thread nD τ))) (f24 : Buf (Elt F) (arg24.view.loc (c : Thread nD τ))) (f25 : Buf (Elt F) (arg25.view.loc (c : Thread nD τ))) (P : Ls F) : sProp (MT nD τ sig Unit (Elt F) ℕ (UR sig nD τ) ℕ) :=
  iprop(∃ g17 : Buf (Elt F) (arg17.view.loc (c : Thread nD τ)), ∃ g18 : Buf (Elt F) (arg18.view.loc (c : Thread nD τ)), ∃ g19 : Buf (Elt F) (arg19.view.loc (c : Thread nD τ)), ∃ g20 : Buf (Elt F) (arg20.view.loc (c : Thread nD τ)), ∃ g23 : Buf (Elt F) (arg23.view.loc (c : Thread nD τ)), ∃ g24 : Buf (Elt F) (arg24.view.loc (c : Thread nD τ)), ∃ g25 : Buf (Elt F) (arg25.view.loc (c : Thread nD τ)), Trip c arg3 arg6 arg7 arg8 arg10 arg11 arg17 arg18 arg19 arg20 arg21 arg22 arg23 arg24 arg25 X3 X6 X7 X8 X10 X11 g17 g18 g19 g20 g23 g24 g25 ∗ ⌜g17 = arg17.view.writes (Elt F) f17 P.l17⌝ ∗ ⌜g18 = arg18.view.writes (Elt F) f18 P.l18⌝ ∗ ⌜g19 = arg19.view.writes (Elt F) f19 P.l19⌝ ∗ ⌜g20 = arg20.view.writes (Elt F) f20 P.l20⌝ ∗ ⌜g23 = arg23.view.writes (Elt F) f23 P.l23⌝ ∗ ⌜g24 = arg24.view.writes (Elt F) f24 P.l24⌝ ∗ ⌜g25 = arg25.view.writes (Elt F) f25 P.l25⌝)

theorem at_inv (S : St (F := F) c arg17 arg18 arg19 arg20 arg23 arg24 arg25) (P : Ls F) : At c arg3 arg6 arg7 arg8 arg10 arg11 arg17 arg18 arg19 arg20 arg21 arg22 arg23 arg24 arg25 X3 X6 X7 X8 X10 X11 (put c arg17 arg18 arg19 arg20 arg23 arg24 arg25 S P) ⊢ Inv c arg3 arg6 arg7 arg8 arg10 arg11 arg17 arg18 arg19 arg20 arg21 arg22 arg23 arg24 arg25 X3 X6 X7 X8 X10 X11 S.s17 S.s18 S.s19 S.s20 S.s23 S.s24 S.s25 P := by
  iintro H
  iexists _; iexists _; iexists _; iexists _; iexists _; iexists _; iexists _
  isplitl [H]; · iexact H
  isplitr; · ipureintro; rfl
  isplitr; · ipureintro; rfl
  isplitr; · ipureintro; rfl
  isplitr; · ipureintro; rfl
  isplitr; · ipureintro; rfl
  isplitr; · ipureintro; rfl
  ipureintro; rfl

theorem inv_at (S : St (F := F) c arg17 arg18 arg19 arg20 arg23 arg24 arg25) (P : Ls F) : Inv c arg3 arg6 arg7 arg8 arg10 arg11 arg17 arg18 arg19 arg20 arg21 arg22 arg23 arg24 arg25 X3 X6 X7 X8 X10 X11 S.s17 S.s18 S.s19 S.s20 S.s23 S.s24 S.s25 P ⊢ At c arg3 arg6 arg7 arg8 arg10 arg11 arg17 arg18 arg19 arg20 arg21 arg22 arg23 arg24 arg25 X3 X6 X7 X8 X10 X11 (put c arg17 arg18 arg19 arg20 arg23 arg24 arg25 S P) := by
  iintro ⟨%g17, %g18, %g19, %g20, %g23, %g24, %g25, H, %h17, %h18, %h19, %h20, %h23, %h24, %h25⟩
  subst h17; subst h18; subst h19; subst h20; subst h23; subst h24; subst h25
  iexact H

set_option maxHeartbeats 4000000
set_option warn.classDefReducibility false in
/-- The loop's invariant: the windows it reads, and the scratches as the trips before left them. -/
@[sl_loop] def loopInv1 (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f23 : Buf (Elt F) (arg23.view.loc (c : Thread nD τ))) (f24 : Buf (Elt F) (arg24.view.loc (c : Thread nD τ))) (f25 : Buf (Elt F) (arg25.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 z where
  inv k _ := Inv c arg3 arg6 arg7 arg8 arg10 arg11 arg17 arg18 arg19 arg20 arg21 arg22 arg23 arg24 arg25 X3 X6 X7 X8 X10 X11 f17 f18 f19 f20 f23 f24 f25 (pb c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 ⟨f17, f18, f19, f20, f23, f24, f25⟩ k)
  step k _ := by
    refine (inv_at c arg3 arg6 arg7 arg8 arg10 arg11 arg17 arg18 arg19 arg20 arg21 arg22 arg23 arg24 arg25 X3 X6 X7 X8 X10 X11 ⟨f17, f18, f19, f20, f23, f24, f25⟩ _).trans ((next_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 k _).trans ?_)
    have e := st_succ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v39 v25 v26 v27 v28 v33 v36 v51 z X3 X6 X7 X8 X10 X11 ⟨f17, f18, f19, f20, f23, f24, f25⟩ k
    rw [← e]
    apply wp_mono
    intro _
    exact at_inv c arg3 arg6 arg7 arg8 arg10 arg11 arg17 arg18 arg19 arg20 arg21 arg22 arg23 arg24 arg25 X3 X6 X7 X8 X10 X11 ⟨f17, f18, f19, f20, f23, f24, f25⟩ _

theorem trips2_eq : ∀ i : grid0.Coords, (k0_t2_loop i).trips = 0 := by decide +kernel

set_option warn.classDefReducibility false in
/-- The loop over the remainder has no trip. -/
@[sl_loop] def loopInv2 (v89 : BitVec 32) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f23 : Buf (Elt F) (arg23.view.loc (c : Thread nD τ))) (f24 : Buf (Elt F) (arg24.view.loc (c : Thread nD τ))) (f25 : Buf (Elt F) (arg25.view.loc (c : Thread nD τ))) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 z v89 where
  inv _ _ := Trip c arg3 arg6 arg7 arg8 arg10 arg11 arg17 arg18 arg19 arg20 arg21 arg22 arg23 arg24 arg25 X3 X6 X7 X8 X10 X11 f17 f18 f19 f20 f23 f24 f25
  step k _ := (Nat.not_lt_zero _ (Nat.lt_of_lt_of_eq k.isLt (trips2_eq i))).elim

end Loop

end Cert.FoxRun

end
-- ==== Proof.FoxRunA.lean ====
/- The body at the first key block. -/
module

public import proofs.«01_k».proof.Proof.Gen.KernelFoxIdeal.Frame
public import proofs.«01_k».proof.Proof.Gen.KernelFoxIdeal.Loops
public import proofs.«01_k».proof.Proof.FoxLoop

@[expose] public section

set_option maxRecDepth 16384

noncomputable section

namespace Cert.FoxRun

open Cert.KernelFoxIdeal Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option backward.proofsInPublic true in
set_option maxHeartbeats 8000000 in
/-- What it leaves, from what it is handed. -/
def runA (c : Dev nD) (i : grid0.Coords)
  {arg3 : Memref sig .tc .vmem S2048x128 .bf16} (harg3 : arg3.IsWhole)
  {arg4 : Memref sig .tc .vmem S256x128 .bf16} (harg4 : arg4.IsWhole)
  {arg5 : Memref sig .tc .vmem S256x128 .bf16} (harg5 : arg5.IsWhole)
  {arg6 : Memref sig .tc .vmem S2048x128 .bf16} (harg6 : arg6.IsWhole)
  {arg7 : Memref sig .tc .vmem S2048x128 .f32} (harg7 : arg7.IsWhole)
  {arg8 : Memref sig .tc .vmem S2048x128 .f32} (harg8 : arg8.IsWhole)
  {arg9 : Memref sig .tc .vmem S1x1x8x2048 .f32} (harg9 : arg9.IsWhole)
  {arg10 : Memref sig .tc .vmem S1x8x128x256 .bf16} (harg10 : arg10.IsWhole)
  {arg11 : Memref sig .tc .vmem S1x8x128x256 .bf16} (harg11 : arg11.IsWhole)
  {arg12 : Memref sig .tc .vmem S2048x128 .bf16} (harg12 : arg12.IsWhole)
  {arg13 : Memref sig .tc .vmem S256x128 .bf16} (harg13 : arg13.IsWhole)
  {arg14 : Memref sig .tc .vmem S256x128 .bf16} (harg14 : arg14.IsWhole)
  {arg15 : Memref sig .tc .vmem S1x1x8x256 .f32} (harg15 : arg15.IsWhole)
  {arg16 : Memref sig .tc .vmem S2048x128 .f32} (harg16 : arg16.IsWhole)
  {arg17 : Memref sig .tc .vmem S2048x128 .f32} (harg17 : arg17.IsWhole)
  {arg18 : Memref sig .tc .vmem S2x2048x1 .f32} (harg18 : arg18.IsWhole)
  {arg19 : Memref sig .tc .vmem S2x256x256 .f32} (harg19 : arg19.IsWhole)
  {arg20 : Memref sig .tc .vmem S2x256x256 .f32} (harg20 : arg20.IsWhole)
  {arg21 : Memref sig .tc .vmem S2x256x256 .f32} (harg21 : arg21.IsWhole)
  {arg22 : Memref sig .tc .vmem S2x256x256 .f32} (harg22 : arg22.IsWhole)
  {arg23 : Memref sig .tc .vmem S128x256 .f32} (harg23 : arg23.IsWhole)
  {arg24 : Memref sig .tc .vmem S128x256 .f32} (harg24 : arg24.IsWhole)
  {arg25 : Memref sig .tc .vmem S2x8x256 .f32} (harg25 : arg25.IsWhole)
  (hc1 : (Scalar.cmpi .ne (Scalar.extui (Scalar.cmpi .eq (BitVec.ofNat 32 (i 2).val) 0#32)) 0#32 = 1#1)) (hc2 : ¬ (k0_cond2 i = 1#1)) (hc3 : (k0_cond3 i = 1#1)) (hc4 : ¬ (k0_cond4 i = 1#1))
  (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) :
    Σ' (L13 : List (View.Piece (Elt F) S256x128 .bf16)), Σ' (L14 : List (View.Piece (Elt F) S256x128 .bf16)), Σ' (L15 : List (View.Piece (Elt F) S1x1x8x256 .f32)), Σ' (W17 : Vec F S2048x128 .f32), { W18 : Vec F S2x2048x1 .f32 //
      ∀ K : PUnit → sProp (MT nD τ sig Unit (Elt F) ℕ (UR sig nD τ) ℕ),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg17 fullShare W17 ∗ owns (c : Thread nD τ) arg18 fullShare W18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none (c : Thread nD τ) none) Set.univ (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, fun K => ?run⟩
  case run =>
    simp only [cc0_fox_bwd_eq_skeleton]; unfold cc0_fox_bwd_skel
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d13, %f13, -, H13⟩, ⟨%d14, %f14, -, H14⟩, ⟨%d15, %f15, -, H15⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H13]
    · iexists _; iexact H13
    isplitl [H14]
    · iexists _; iexact H14
    isplitl [H15]
    · iexists _; iexact H15
    isplitl [H17]
    · iexists _; isplitr; swap; · iexact H17
      ipureintro; rfl
    isplitl [H18]
    · iexists _; isplitr; swap; · iexact H18
      ipureintro; rfl
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    isplitl [H23]
    · iexists _; iexists _; isplitr; swap; · iexact H23
      ipureintro; rfl
    isplitl [H24]
    · iexists _; iexists _; isplitr; swap; · iexact H24
      ipureintro; rfl
    iexists _; iexists _; isplitr; swap; · iexact H25
    ipureintro; rfl

end Cert.FoxRun

end
-- ==== Proof.FoxRunB.lean ====
/- The body at an odd number of later query blocks. -/
module

public import proofs.«01_k».proof.Proof.Gen.KernelFoxIdeal.Frame
public import proofs.«01_k».proof.Proof.Gen.KernelFoxIdeal.Loops
public import proofs.«01_k».proof.Proof.FoxLoop

@[expose] public section

set_option maxRecDepth 16384

noncomputable section

namespace Cert.FoxRun

open Cert.KernelFoxIdeal Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option backward.proofsInPublic true in
set_option maxHeartbeats 8000000 in
/-- What it leaves, from what it is handed. -/
def runB (c : Dev nD) (i : grid0.Coords)
  {arg3 : Memref sig .tc .vmem S2048x128 .bf16} (harg3 : arg3.IsWhole)
  {arg4 : Memref sig .tc .vmem S256x128 .bf16} (harg4 : arg4.IsWhole)
  {arg5 : Memref sig .tc .vmem S256x128 .bf16} (harg5 : arg5.IsWhole)
  {arg6 : Memref sig .tc .vmem S2048x128 .bf16} (harg6 : arg6.IsWhole)
  {arg7 : Memref sig .tc .vmem S2048x128 .f32} (harg7 : arg7.IsWhole)
  {arg8 : Memref sig .tc .vmem S2048x128 .f32} (harg8 : arg8.IsWhole)
  {arg9 : Memref sig .tc .vmem S1x1x8x2048 .f32} (harg9 : arg9.IsWhole)
  {arg10 : Memref sig .tc .vmem S1x8x128x256 .bf16} (harg10 : arg10.IsWhole)
  {arg11 : Memref sig .tc .vmem S1x8x128x256 .bf16} (harg11 : arg11.IsWhole)
  {arg12 : Memref sig .tc .vmem S2048x128 .bf16} (harg12 : arg12.IsWhole)
  {arg13 : Memref sig .tc .vmem S256x128 .bf16} (harg13 : arg13.IsWhole)
  {arg14 : Memref sig .tc .vmem S256x128 .bf16} (harg14 : arg14.IsWhole)
  {arg15 : Memref sig .tc .vmem S1x1x8x256 .f32} (harg15 : arg15.IsWhole)
  {arg16 : Memref sig .tc .vmem S2048x128 .f32} (harg16 : arg16.IsWhole)
  {arg17 : Memref sig .tc .vmem S2048x128 .f32} (harg17 : arg17.IsWhole)
  {arg18 : Memref sig .tc .vmem S2x2048x1 .f32} (harg18 : arg18.IsWhole)
  {arg19 : Memref sig .tc .vmem S2x256x256 .f32} (harg19 : arg19.IsWhole)
  {arg20 : Memref sig .tc .vmem S2x256x256 .f32} (harg20 : arg20.IsWhole)
  {arg21 : Memref sig .tc .vmem S2x256x256 .f32} (harg21 : arg21.IsWhole)
  {arg22 : Memref sig .tc .vmem S2x256x256 .f32} (harg22 : arg22.IsWhole)
  {arg23 : Memref sig .tc .vmem S128x256 .f32} (harg23 : arg23.IsWhole)
  {arg24 : Memref sig .tc .vmem S128x256 .f32} (harg24 : arg24.IsWhole)
  {arg25 : Memref sig .tc .vmem S2x8x256 .f32} (harg25 : arg25.IsWhole)
  (hc1 : ¬ (Scalar.cmpi .ne (Scalar.extui (Scalar.cmpi .eq (BitVec.ofNat 32 (i 2).val) 0#32)) 0#32 = 1#1)) (hc2 : ¬ (k0_cond2 i = 1#1)) (hc3 : (k0_cond3 i = 1#1)) (hc4 : ¬ (k0_cond4 i = 1#1))
  (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (s17 : Vec F S2048x128 .f32) (s18 : Vec F S2x2048x1 .f32) :
    Σ' (L13 : List (View.Piece (Elt F) S256x128 .bf16)), Σ' (L14 : List (View.Piece (Elt F) S256x128 .bf16)), Σ' (L15 : List (View.Piece (Elt F) S1x1x8x256 .f32)), Σ' (W17 : Vec F S2048x128 .f32), { W18 : Vec F S2x2048x1 .f32 //
      ∀ K : PUnit → sProp (MT nD τ sig Unit (Elt F) ℕ (UR sig nD τ) ℕ),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg17 fullShare s17 ∗ owns (c : Thread nD τ) arg18 fullShare s18 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg17 fullShare W17 ∗ owns (c : Thread nD τ) arg18 fullShare W18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none (c : Thread nD τ) none) Set.univ (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, fun K => ?run⟩
  case run =>
    simp only [cc0_fox_bwd_eq_skeleton]; unfold cc0_fox_bwd_skel
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f17, %hf17, H17⟩, ⟨%f18, %hf18, H18⟩, ⟨%d13, %f13, -, H13⟩, ⟨%d14, %f14, -, H14⟩, ⟨%d15, %f15, -, H15⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg17.eq_unread hf17; obtain rfl := harg18.eq_unread hf18
    sl_exec (disch := first | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H13]
    · iexists _; iexact H13
    isplitl [H14]
    · iexists _; iexact H14
    isplitl [H15]
    · iexists _; iexact H15
    isplitl [H17]
    · iexists _; isplitr; swap; · iexact H17
      ipureintro; rfl
    isplitl [H18]
    · iexists _; isplitr; swap; · iexact H18
      ipureintro; rfl
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    isplitl [H23]
    · iexists _; iexists _; isplitr; swap; · iexact H23
      ipureintro; rfl
    isplitl [H24]
    · iexists _; iexists _; isplitr; swap; · iexact H24
      ipureintro; rfl
    iexists _; iexists _; isplitr; swap; · iexact H25
    ipureintro; rfl

end Cert.FoxRun

end
-- ==== Proof.FoxRunC.lean ====
/- The body at an even number of later query blocks. -/
module

public import proofs.«01_k».proof.Proof.Gen.KernelFoxIdeal.Frame
public import proofs.«01_k».proof.Proof.Gen.KernelFoxIdeal.Loops
public import proofs.«01_k».proof.Proof.FoxLoop

@[expose] public section

set_option maxRecDepth 16384

noncomputable section

namespace Cert.FoxRun

open Cert.KernelFoxIdeal Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option backward.proofsInPublic true in
set_option maxHeartbeats 8000000 in
/-- What it leaves, from what it is handed. -/
def runC (c : Dev nD) (i : grid0.Coords)
  {arg3 : Memref sig .tc .vmem S2048x128 .bf16} (harg3 : arg3.IsWhole)
  {arg4 : Memref sig .tc .vmem S256x128 .bf16} (harg4 : arg4.IsWhole)
  {arg5 : Memref sig .tc .vmem S256x128 .bf16} (harg5 : arg5.IsWhole)
  {arg6 : Memref sig .tc .vmem S2048x128 .bf16} (harg6 : arg6.IsWhole)
  {arg7 : Memref sig .tc .vmem S2048x128 .f32} (harg7 : arg7.IsWhole)
  {arg8 : Memref sig .tc .vmem S2048x128 .f32} (harg8 : arg8.IsWhole)
  {arg9 : Memref sig .tc .vmem S1x1x8x2048 .f32} (harg9 : arg9.IsWhole)
  {arg10 : Memref sig .tc .vmem S1x8x128x256 .bf16} (harg10 : arg10.IsWhole)
  {arg11 : Memref sig .tc .vmem S1x8x128x256 .bf16} (harg11 : arg11.IsWhole)
  {arg12 : Memref sig .tc .vmem S2048x128 .bf16} (harg12 : arg12.IsWhole)
  {arg13 : Memref sig .tc .vmem S256x128 .bf16} (harg13 : arg13.IsWhole)
  {arg14 : Memref sig .tc .vmem S256x128 .bf16} (harg14 : arg14.IsWhole)
  {arg15 : Memref sig .tc .vmem S1x1x8x256 .f32} (harg15 : arg15.IsWhole)
  {arg16 : Memref sig .tc .vmem S2048x128 .f32} (harg16 : arg16.IsWhole)
  {arg17 : Memref sig .tc .vmem S2048x128 .f32} (harg17 : arg17.IsWhole)
  {arg18 : Memref sig .tc .vmem S2x2048x1 .f32} (harg18 : arg18.IsWhole)
  {arg19 : Memref sig .tc .vmem S2x256x256 .f32} (harg19 : arg19.IsWhole)
  {arg20 : Memref sig .tc .vmem S2x256x256 .f32} (harg20 : arg20.IsWhole)
  {arg21 : Memref sig .tc .vmem S2x256x256 .f32} (harg21 : arg21.IsWhole)
  {arg22 : Memref sig .tc .vmem S2x256x256 .f32} (harg22 : arg22.IsWhole)
  {arg23 : Memref sig .tc .vmem S128x256 .f32} (harg23 : arg23.IsWhole)
  {arg24 : Memref sig .tc .vmem S128x256 .f32} (harg24 : arg24.IsWhole)
  {arg25 : Memref sig .tc .vmem S2x8x256 .f32} (harg25 : arg25.IsWhole)
  (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : ¬ (k0_cond4 i = 1#1))
  (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (s17 : Vec F S2048x128 .f32) (s18 : Vec F S2x2048x1 .f32) :
    Σ' (L13 : List (View.Piece (Elt F) S256x128 .bf16)), Σ' (L14 : List (View.Piece (Elt F) S256x128 .bf16)), Σ' (L15 : List (View.Piece (Elt F) S1x1x8x256 .f32)), Σ' (W17 : Vec F S2048x128 .f32), { W18 : Vec F S2x2048x1 .f32 //
      ∀ K : PUnit → sProp (MT nD τ sig Unit (Elt F) ℕ (UR sig nD τ) ℕ),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg17 fullShare s17 ∗ owns (c : Thread nD τ) arg18 fullShare s18 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg17 fullShare W17 ∗ owns (c : Thread nD τ) arg18 fullShare W18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none (c : Thread nD τ) none) Set.univ (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, fun K => ?run⟩
  case run =>
    simp only [cc0_fox_bwd_eq_skeleton]; unfold cc0_fox_bwd_skel
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f17, %hf17, H17⟩, ⟨%f18, %hf18, H18⟩, ⟨%d13, %f13, -, H13⟩, ⟨%d14, %f14, -, H14⟩, ⟨%d15, %f15, -, H15⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg17.eq_unread hf17; obtain rfl := harg18.eq_unread hf18
    sl_exec (disch := first | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H13]
    · iexists _; iexact H13
    isplitl [H14]
    · iexists _; iexact H14
    isplitl [H15]
    · iexists _; iexact H15
    isplitl [H17]
    · iexists _; isplitr; swap; · iexact H17
      ipureintro; rfl
    isplitl [H18]
    · iexists _; isplitr; swap; · iexact H18
      ipureintro; rfl
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    isplitl [H23]
    · iexists _; iexists _; isplitr; swap; · iexact H23
      ipureintro; rfl
    isplitl [H24]
    · iexists _; iexists _; isplitr; swap; · iexact H24
      ipureintro; rfl
    iexists _; iexists _; isplitr; swap; · iexact H25
    ipureintro; rfl

end Cert.FoxRun

end
-- ==== Proof.FoxRunD.lean ====
/- The body at the last key block. -/
module

public import proofs.«01_k».proof.Proof.Gen.KernelFoxIdeal.Frame
public import proofs.«01_k».proof.Proof.Gen.KernelFoxIdeal.Loops
public import proofs.«01_k».proof.Proof.FoxLoop

@[expose] public section

set_option maxRecDepth 16384

noncomputable section

namespace Cert.FoxRun

open Cert.KernelFoxIdeal Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option backward.proofsInPublic true in
set_option maxHeartbeats 8000000 in
/-- What it leaves, from what it is handed. -/
def runD (c : Dev nD) (i : grid0.Coords)
  {arg3 : Memref sig .tc .vmem S2048x128 .bf16} (harg3 : arg3.IsWhole)
  {arg4 : Memref sig .tc .vmem S256x128 .bf16} (harg4 : arg4.IsWhole)
  {arg5 : Memref sig .tc .vmem S256x128 .bf16} (harg5 : arg5.IsWhole)
  {arg6 : Memref sig .tc .vmem S2048x128 .bf16} (harg6 : arg6.IsWhole)
  {arg7 : Memref sig .tc .vmem S2048x128 .f32} (harg7 : arg7.IsWhole)
  {arg8 : Memref sig .tc .vmem S2048x128 .f32} (harg8 : arg8.IsWhole)
  {arg9 : Memref sig .tc .vmem S1x1x8x2048 .f32} (harg9 : arg9.IsWhole)
  {arg10 : Memref sig .tc .vmem S1x8x128x256 .bf16} (harg10 : arg10.IsWhole)
  {arg11 : Memref sig .tc .vmem S1x8x128x256 .bf16} (harg11 : arg11.IsWhole)
  {arg12 : Memref sig .tc .vmem S2048x128 .bf16} (harg12 : arg12.IsWhole)
  {arg13 : Memref sig .tc .vmem S256x128 .bf16} (harg13 : arg13.IsWhole)
  {arg14 : Memref sig .tc .vmem S256x128 .bf16} (harg14 : arg14.IsWhole)
  {arg15 : Memref sig .tc .vmem S1x1x8x256 .f32} (harg15 : arg15.IsWhole)
  {arg16 : Memref sig .tc .vmem S2048x128 .f32} (harg16 : arg16.IsWhole)
  {arg17 : Memref sig .tc .vmem S2048x128 .f32} (harg17 : arg17.IsWhole)
  {arg18 : Memref sig .tc .vmem S2x2048x1 .f32} (harg18 : arg18.IsWhole)
  {arg19 : Memref sig .tc .vmem S2x256x256 .f32} (harg19 : arg19.IsWhole)
  {arg20 : Memref sig .tc .vmem S2x256x256 .f32} (harg20 : arg20.IsWhole)
  {arg21 : Memref sig .tc .vmem S2x256x256 .f32} (harg21 : arg21.IsWhole)
  {arg22 : Memref sig .tc .vmem S2x256x256 .f32} (harg22 : arg22.IsWhole)
  {arg23 : Memref sig .tc .vmem S128x256 .f32} (harg23 : arg23.IsWhole)
  {arg24 : Memref sig .tc .vmem S128x256 .f32} (harg24 : arg24.IsWhole)
  {arg25 : Memref sig .tc .vmem S2x8x256 .f32} (harg25 : arg25.IsWhole)
  (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : (k0_cond4 i = 1#1))
  (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (s17 : Vec F S2048x128 .f32) (s18 : Vec F S2x2048x1 .f32) :
    Σ' (L13 : List (View.Piece (Elt F) S256x128 .bf16)), Σ' (L14 : List (View.Piece (Elt F) S256x128 .bf16)), Σ' (L15 : List (View.Piece (Elt F) S1x1x8x256 .f32)), Σ' (L12 : List (View.Piece (Elt F) S2048x128 .bf16)), Σ' (L16 : List (View.Piece (Elt F) S2048x128 .f32)), Σ' (W17 : Vec F S2048x128 .f32), { W18 : Vec F S2x2048x1 .f32 //
      ∀ K : PUnit → sProp (MT nD τ sig Unit (Elt F) ℕ (UR sig nD τ) ℕ),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg17 fullShare s17 ∗ owns (c : Thread nD τ) arg18 fullShare s18 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg12 fullShare d) ∗ (∃ d, owns (c : Thread nD τ) arg16 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg12.view.loc (c : Thread nD τ) ↦[arg12.view.set]{fullShare} arg12.view.writes (Elt F) f L12) ∗ (∃ f, arg16.view.loc (c : Thread nD τ) ↦[arg16.view.set]{fullShare} arg16.view.writes (Elt F) f L16) ∗ owns (c : Thread nD τ) arg17 fullShare W17 ∗ owns (c : Thread nD τ) arg18 fullShare W18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none (c : Thread nD τ) none) Set.univ (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, fun K => ?run⟩
  case run =>
    simp only [cc0_fox_bwd_eq_skeleton]; unfold cc0_fox_bwd_skel
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f17, %hf17, H17⟩, ⟨%f18, %hf18, H18⟩, ⟨%d13, %f13, -, H13⟩, ⟨%d14, %f14, -, H14⟩, ⟨%d15, %f15, -, H15⟩, ⟨%d12, %f12, -, H12⟩, ⟨%d16, %f16, -, H16⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg17.eq_unread hf17; obtain rfl := harg18.eq_unread hf18
    sl_exec (disch := first | sl_exact hc1 | sl_exact hc2 | sl_exact hc3 | sl_exact hc4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H13]
    · iexists _; iexact H13
    isplitl [H14]
    · iexists _; iexact H14
    isplitl [H15]
    · iexists _; iexact H15
    isplitl [H12]
    · iexists _; iexact H12
    isplitl [H16]
    · iexists _; iexact H16
    isplitl [H17]
    · iexists _; isplitr; swap; · iexact H17
      ipureintro; rfl
    isplitl [H18]
    · iexists _; isplitr; swap; · iexact H18
      ipureintro; rfl
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    isplitl [H23]
    · iexists _; iexists _; isplitr; swap; · iexact H23
      ipureintro; rfl
    isplitl [H24]
    · iexists _; iexists _; isplitr; swap; · iexact H24
      ipureintro; rfl
    iexists _; iexists _; isplitr; swap; · iexact H25
    ipureintro; rfl

end Cert.FoxRun

end
-- ==== Proof.FoxBody.lean ====
/- The body at any point, its four cases together. -/
module

public import proofs.«01_k».proof.Proof.Gen.KernelFoxIdeal.Frame
public import proofs.«01_k».proof.Proof.Gen.KernelFoxIdeal.Loops
public import proofs.«01_k».proof.Proof.FoxRunA
public import proofs.«01_k».proof.Proof.FoxRunB
public import proofs.«01_k».proof.Proof.FoxRunC
public import proofs.«01_k».proof.Proof.FoxRunD

@[expose] public section

set_option maxRecDepth 16384

noncomputable section

namespace Cert.FoxRun

open Cert.KernelFoxIdeal Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) {arg3 : Memref sig .tc .vmem S2048x128 .bf16} (harg3 : arg3.IsWhole)
  {arg4 : Memref sig .tc .vmem S256x128 .bf16} (harg4 : arg4.IsWhole)
  {arg5 : Memref sig .tc .vmem S256x128 .bf16} (harg5 : arg5.IsWhole)
  {arg6 : Memref sig .tc .vmem S2048x128 .bf16} (harg6 : arg6.IsWhole)
  {arg7 : Memref sig .tc .vmem S2048x128 .f32} (harg7 : arg7.IsWhole)
  {arg8 : Memref sig .tc .vmem S2048x128 .f32} (harg8 : arg8.IsWhole)
  {arg9 : Memref sig .tc .vmem S1x1x8x2048 .f32} (harg9 : arg9.IsWhole)
  {arg10 : Memref sig .tc .vmem S1x8x128x256 .bf16} (harg10 : arg10.IsWhole)
  {arg11 : Memref sig .tc .vmem S1x8x128x256 .bf16} (harg11 : arg11.IsWhole)
  {arg12 : Memref sig .tc .vmem S2048x128 .bf16} (harg12 : arg12.IsWhole)
  {arg13 : Memref sig .tc .vmem S256x128 .bf16} (harg13 : arg13.IsWhole)
  {arg14 : Memref sig .tc .vmem S256x128 .bf16} (harg14 : arg14.IsWhole)
  {arg15 : Memref sig .tc .vmem S1x1x8x256 .f32} (harg15 : arg15.IsWhole)
  {arg16 : Memref sig .tc .vmem S2048x128 .f32} (harg16 : arg16.IsWhole)
  {arg17 : Memref sig .tc .vmem S2048x128 .f32} (harg17 : arg17.IsWhole)
  {arg18 : Memref sig .tc .vmem S2x2048x1 .f32} (harg18 : arg18.IsWhole)
  {arg19 : Memref sig .tc .vmem S2x256x256 .f32} (harg19 : arg19.IsWhole)
  {arg20 : Memref sig .tc .vmem S2x256x256 .f32} (harg20 : arg20.IsWhole)
  {arg21 : Memref sig .tc .vmem S2x256x256 .f32} (harg21 : arg21.IsWhole)
  {arg22 : Memref sig .tc .vmem S2x256x256 .f32} (harg22 : arg22.IsWhole)
  {arg23 : Memref sig .tc .vmem S128x256 .f32} (harg23 : arg23.IsWhole)
  {arg24 : Memref sig .tc .vmem S128x256 .f32} (harg24 : arg24.IsWhole)
  {arg25 : Memref sig .tc .vmem S2x8x256 .f32} (harg25 : arg25.IsWhole) (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (s17 : Vec F S2048x128 .f32) (s18 : Vec F S2x2048x1 .f32)

/-- What is written over all of a block is the block's contents. -/
theorem owns_canon {sh : Shape} {e : EltTy} (r : Memref sig .tc .vmem sh e) (L : List (View.Piece (Elt F) sh e))
    (h : ∀ y, ∃ p ∈ L, y ∈ p.1.set) :
    (iprop(∃ f, r.view.loc (c : Thread nD τ) ↦[r.view.set]{fullShare} r.view.writes (Elt F) f L) : sProp (MT nD τ sig Unit (Elt F) ℕ (UR sig nD τ) ℕ))
      ⊢ owns (c : Thread nD τ) r fullShare (View.canon L) := by
  unfold owns
  iintro ⟨%f, H⟩
  iexists _; isplitr; swap; · iexact H
  ipureintro; exact View.read_writes_eq_canon _ _ _ h

/-- What a point leaves: the blocks it writes, and the two accumulators it carries on. -/
structure Pt (F : FTy → Type) where
  o12 : Vec F S2048x128 .bf16
  o13 : Vec F S256x128 .bf16
  o14 : Vec F S256x128 .bf16
  o15 : Vec F S1x1x8x256 .f32
  o16 : Vec F S2048x128 .f32
  w17 : Vec F S2048x128 .f32
  w18 : Vec F S2x2048x1 .f32

/-- The first key block clears the accumulators and has an odd number of later query blocks. -/
theorem first_odd (h : Scalar.cmpi .ne (Scalar.extui (Scalar.cmpi .eq (BitVec.ofNat 32 (i 2).val) 0#32)) 0#32 = 1#1) : ¬ (k0_cond2 i = 1#1) ∧ k0_cond3 i = 1#1 ∧ ¬ (k0_cond4 i = 1#1) := by
  revert h; unfold k0_cond2 k0_cond3 k0_cond4; generalize i 2 = j; revert j; decide +kernel
/-- The number of later query blocks is even or odd, and is even at the last. -/
theorem odd_of_not_even (h : ¬ (k0_cond2 i = 1#1)) : k0_cond3 i = 1#1 ∧ ¬ (k0_cond4 i = 1#1) := by
  revert h; unfold k0_cond2 k0_cond3 k0_cond4; generalize i 2 = j; revert j; decide +kernel
theorem not_odd_of_even (h : k0_cond2 i = 1#1) : ¬ (k0_cond3 i = 1#1) := by
  revert h; unfold k0_cond2 k0_cond3; generalize i 2 = j; revert j; decide +kernel
/-- The last key block is not the first, and has no later query block. -/
theorem last_even (h : k0_cond4 i = 1#1) : ¬ (Scalar.cmpi .ne (Scalar.extui (Scalar.cmpi .eq (BitVec.ofNat 32 (i 2).val) 0#32)) 0#32 = 1#1) ∧ k0_cond2 i = 1#1 := by
  revert h; unfold k0_cond2 k0_cond4; generalize i 2 = j; revert j; decide +kernel

theorem coverA13 (hc1 : (Scalar.cmpi .ne (Scalar.extui (Scalar.cmpi .eq (BitVec.ofNat 32 (i 2).val) 0#32)) 0#32 = 1#1)) (hc2 : ¬ (k0_cond2 i = 1#1)) (hc3 : (k0_cond3 i = 1#1)) (hc4 : ¬ (k0_cond4 i = 1#1)) (y) :
    ∃ p ∈ (runA c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11).1, y ∈ p.1.set :=
  View.cover_of_tiledL _ S256x128.size (by sl_kernel_rfl) y

theorem coverA14 (hc1 : (Scalar.cmpi .ne (Scalar.extui (Scalar.cmpi .eq (BitVec.ofNat 32 (i 2).val) 0#32)) 0#32 = 1#1)) (hc2 : ¬ (k0_cond2 i = 1#1)) (hc3 : (k0_cond3 i = 1#1)) (hc4 : ¬ (k0_cond4 i = 1#1)) (y) :
    ∃ p ∈ (runA c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11).2.1, y ∈ p.1.set :=
  View.cover_of_tiledL _ S256x128.size (by sl_kernel_rfl) y

theorem coverA15 (hc1 : (Scalar.cmpi .ne (Scalar.extui (Scalar.cmpi .eq (BitVec.ofNat 32 (i 2).val) 0#32)) 0#32 = 1#1)) (hc2 : ¬ (k0_cond2 i = 1#1)) (hc3 : (k0_cond3 i = 1#1)) (hc4 : ¬ (k0_cond4 i = 1#1)) (y) :
    ∃ p ∈ (runA c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11).2.2.1, y ∈ p.1.set :=
  View.cover_of_tiledL _ S1x1x8x256.size (by sl_kernel_rfl) y

/-- What it leaves. -/
def ptA (hc1 : (Scalar.cmpi .ne (Scalar.extui (Scalar.cmpi .eq (BitVec.ofNat 32 (i 2).val) 0#32)) 0#32 = 1#1)) (hc2 : ¬ (k0_cond2 i = 1#1)) (hc3 : (k0_cond3 i = 1#1)) (hc4 : ¬ (k0_cond4 i = 1#1)) : Pt F :=
  let r := runA c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11
  ⟨View.canon [], View.canon r.1, View.canon r.2.1, View.canon r.2.2.1, View.canon [], r.2.2.2.1, r.2.2.2.2.1⟩

theorem coverB13 (hc1 : ¬ (Scalar.cmpi .ne (Scalar.extui (Scalar.cmpi .eq (BitVec.ofNat 32 (i 2).val) 0#32)) 0#32 = 1#1)) (hc2 : ¬ (k0_cond2 i = 1#1)) (hc3 : (k0_cond3 i = 1#1)) (hc4 : ¬ (k0_cond4 i = 1#1)) (y) :
    ∃ p ∈ (runB c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).1, y ∈ p.1.set :=
  View.cover_of_tiledL _ S256x128.size (by sl_kernel_rfl) y

theorem coverB14 (hc1 : ¬ (Scalar.cmpi .ne (Scalar.extui (Scalar.cmpi .eq (BitVec.ofNat 32 (i 2).val) 0#32)) 0#32 = 1#1)) (hc2 : ¬ (k0_cond2 i = 1#1)) (hc3 : (k0_cond3 i = 1#1)) (hc4 : ¬ (k0_cond4 i = 1#1)) (y) :
    ∃ p ∈ (runB c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).2.1, y ∈ p.1.set :=
  View.cover_of_tiledL _ S256x128.size (by sl_kernel_rfl) y

theorem coverB15 (hc1 : ¬ (Scalar.cmpi .ne (Scalar.extui (Scalar.cmpi .eq (BitVec.ofNat 32 (i 2).val) 0#32)) 0#32 = 1#1)) (hc2 : ¬ (k0_cond2 i = 1#1)) (hc3 : (k0_cond3 i = 1#1)) (hc4 : ¬ (k0_cond4 i = 1#1)) (y) :
    ∃ p ∈ (runB c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).2.2.1, y ∈ p.1.set :=
  View.cover_of_tiledL _ S1x1x8x256.size (by sl_kernel_rfl) y

/-- What it leaves. -/
def ptB (hc1 : ¬ (Scalar.cmpi .ne (Scalar.extui (Scalar.cmpi .eq (BitVec.ofNat 32 (i 2).val) 0#32)) 0#32 = 1#1)) (hc2 : ¬ (k0_cond2 i = 1#1)) (hc3 : (k0_cond3 i = 1#1)) (hc4 : ¬ (k0_cond4 i = 1#1)) : Pt F :=
  let r := runB c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18
  ⟨View.canon [], View.canon r.1, View.canon r.2.1, View.canon r.2.2.1, View.canon [], r.2.2.2.1, r.2.2.2.2.1⟩

theorem coverC13 (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : ¬ (k0_cond4 i = 1#1)) (y) :
    ∃ p ∈ (runC c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).1, y ∈ p.1.set :=
  View.cover_of_tiledL _ S256x128.size (by sl_kernel_rfl) y

theorem coverC14 (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : ¬ (k0_cond4 i = 1#1)) (y) :
    ∃ p ∈ (runC c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).2.1, y ∈ p.1.set :=
  View.cover_of_tiledL _ S256x128.size (by sl_kernel_rfl) y

theorem coverC15 (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : ¬ (k0_cond4 i = 1#1)) (y) :
    ∃ p ∈ (runC c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).2.2.1, y ∈ p.1.set :=
  View.cover_of_tiledL _ S1x1x8x256.size (by sl_kernel_rfl) y

/-- What it leaves. -/
def ptC (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : ¬ (k0_cond4 i = 1#1)) : Pt F :=
  let r := runC c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18
  ⟨View.canon [], View.canon r.1, View.canon r.2.1, View.canon r.2.2.1, View.canon [], r.2.2.2.1, r.2.2.2.2.1⟩

theorem coverD13 (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : (k0_cond4 i = 1#1)) (y) :
    ∃ p ∈ (runD c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).1, y ∈ p.1.set :=
  View.cover_of_tiledL _ S256x128.size (by sl_kernel_rfl) y

theorem coverD14 (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : (k0_cond4 i = 1#1)) (y) :
    ∃ p ∈ (runD c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).2.1, y ∈ p.1.set :=
  View.cover_of_tiledL _ S256x128.size (by sl_kernel_rfl) y

theorem coverD15 (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : (k0_cond4 i = 1#1)) (y) :
    ∃ p ∈ (runD c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).2.2.1, y ∈ p.1.set :=
  View.cover_of_tiledL _ S1x1x8x256.size (by sl_kernel_rfl) y

theorem coverD12 (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : (k0_cond4 i = 1#1)) (y) :
    ∃ p ∈ (runD c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).2.2.2.1, y ∈ p.1.set :=
  View.cover_of_tiledL _ S2048x128.size (by sl_kernel_rfl) y

theorem coverD16 (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : (k0_cond4 i = 1#1)) (y) :
    ∃ p ∈ (runD c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).2.2.2.2.1, y ∈ p.1.set :=
  View.cover_of_tiledL _ S2048x128.size (by sl_kernel_rfl) y

/-- What it leaves. -/
def ptD (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : (k0_cond4 i = 1#1)) : Pt F :=
  let r := runD c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18
  ⟨View.canon r.2.2.2.1, View.canon r.1, View.canon r.2.1, View.canon r.2.2.1, View.canon r.2.2.2.2.1, r.2.2.2.2.2.1, r.2.2.2.2.2.2.1⟩

/-- What a point leaves, in each of the four cases. -/
def res : Pt F :=
  if h1 : Scalar.cmpi .ne (Scalar.extui (Scalar.cmpi .eq (BitVec.ofNat 32 (i 2).val) 0#32)) 0#32 = 1#1 then ptA c i harg3 harg4 harg5 harg6 harg7 harg8 harg9 harg10 harg11 harg12 harg13 harg14 harg15 harg16 harg17 harg18 harg19 harg20 harg21 harg22 harg23 harg24 harg25 x3 x4 x5 x6 x7 x8 x9 x10 x11 h1 (first_odd i h1).1 (first_odd i h1).2.1 (first_odd i h1).2.2
  else if h2 : k0_cond2 i = 1#1 then
    if h4 : k0_cond4 i = 1#1 then ptD c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 h1 h2 (not_odd_of_even i h2) h4
    else ptC c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 h1 h2 (not_odd_of_even i h2) h4
  else ptB c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 h1 h2 (odd_of_not_even i h2).1 (odd_of_not_even i h2).2

/-- At the first key block nothing of what the accumulators held is left. -/
theorem res_first (r17 : Vec F S2048x128 .f32) (r18 : Vec F S2x2048x1 .f32) (h1 : Scalar.cmpi .ne (Scalar.extui (Scalar.cmpi .eq (BitVec.ofNat 32 (i 2).val) 0#32)) 0#32 = 1#1) :
    res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 = res c i harg3 harg4 harg5 harg6 harg7 harg8 harg9 harg10 harg11 harg12 harg13 harg14 harg15 harg16 harg17 harg18 harg19 harg20 harg21 harg22 harg23 harg24 harg25 x3 x4 x5 x6 x7 x8 x9 x10 x11 r17 r18 := by
  unfold res; rw [dif_pos h1, dif_pos h1]

set_option maxHeartbeats 4000000 in
/-- The body in one case. -/
theorem bodyA (hc1 : (Scalar.cmpi .ne (Scalar.extui (Scalar.cmpi .eq (BitVec.ofNat 32 (i 2).val) 0#32)) 0#32 = 1#1)) (hc2 : ¬ (k0_cond2 i = 1#1)) (hc3 : (k0_cond3 i = 1#1)) (hc4 : ¬ (k0_cond4 i = 1#1)) :
    ∀ K : PUnit → sProp (MT nD τ sig Unit (Elt F) ℕ (UR sig nD τ) ℕ),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg17 fullShare s17 ∗ owns (c : Thread nD τ) arg18 fullShare s18 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
          ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg13 fullShare (ptA c i harg3 harg4 harg5 harg6 harg7 harg8 harg9 harg10 harg11 harg12 harg13 harg14 harg15 harg16 harg17 harg18 harg19 harg20 harg21 harg22 harg23 harg24 harg25 x3 x4 x5 x6 x7 x8 x9 x10 x11 hc1 hc2 hc3 hc4).o13 ∗ owns (c : Thread nD τ) arg14 fullShare (ptA c i harg3 harg4 harg5 harg6 harg7 harg8 harg9 harg10 harg11 harg12 harg13 harg14 harg15 harg16 harg17 harg18 harg19 harg20 harg21 harg22 harg23 harg24 harg25 x3 x4 x5 x6 x7 x8 x9 x10 x11 hc1 hc2 hc3 hc4).o14 ∗ owns (c : Thread nD τ) arg15 fullShare (ptA c i harg3 harg4 harg5 harg6 harg7 harg8 harg9 harg10 harg11 harg12 harg13 harg14 harg15 harg16 harg17 harg18 harg19 harg20 harg21 harg22 harg23 harg24 harg25 x3 x4 x5 x6 x7 x8 x9 x10 x11 hc1 hc2 hc3 hc4).o15 ∗ owns (c : Thread nD τ) arg17 fullShare (ptA c i harg3 harg4 harg5 harg6 harg7 harg8 harg9 harg10 harg11 harg12 harg13 harg14 harg15 harg16 harg17 harg18 harg19 harg20 harg21 harg22 harg23 harg24 harg25 x3 x4 x5 x6 x7 x8 x9 x10 x11 hc1 hc2 hc3 hc4).w17 ∗ owns (c : Thread nD τ) arg18 fullShare (ptA c i harg3 harg4 harg5 harg6 harg7 harg8 harg9 harg10 harg11 harg12 harg13 harg14 harg15 harg16 harg17 harg18 harg19 harg20 harg21 harg22 harg23 harg24 harg25 x3 x4 x5 x6 x7 x8 x9 x10 x11 hc1 hc2 hc3 hc4).w18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
        ⊢ wp frame (wpE (defs₀ (F := F)) Variants.none (c : Thread nD τ) none) Set.univ (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  intro K
  iintro ⟨H3, H4, H5, H6, H7, H8, H9, H10, H11, H17, H18, H13, H14, H15, H19, H20, H21, H22, H23, H24, H25, Hk⟩
  iapply ((runA c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11).2.2.2.2.2 K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [H14]; · iexact H14
  isplitl [H15]; · iexact H15
  isplitl [H17]; · iexists _; iexact H17
  isplitl [H18]; · iexists _; iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H3, H4, H5, H6, H7, H8, H9, H10, H11, H13, H14, H15, H17, H18, H19, H20, H21, H22, H23, H24, H25⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iapply (owns_canon c arg13 _ (coverA13 c i harg3 harg4 harg5 harg6 harg7 harg8 harg9 harg10 harg11 harg12 harg13 harg14 harg15 harg16 harg17 harg18 harg19 harg20 harg21 harg22 harg23 harg24 harg25 x3 x4 x5 x6 x7 x8 x9 x10 x11 hc1 hc2 hc3 hc4)); iexact H13
  isplitl [H14]; · iapply (owns_canon c arg14 _ (coverA14 c i harg3 harg4 harg5 harg6 harg7 harg8 harg9 harg10 harg11 harg12 harg13 harg14 harg15 harg16 harg17 harg18 harg19 harg20 harg21 harg22 harg23 harg24 harg25 x3 x4 x5 x6 x7 x8 x9 x10 x11 hc1 hc2 hc3 hc4)); iexact H14
  isplitl [H15]; · iapply (owns_canon c arg15 _ (coverA15 c i harg3 harg4 harg5 harg6 harg7 harg8 harg9 harg10 harg11 harg12 harg13 harg14 harg15 harg16 harg17 harg18 harg19 harg20 harg21 harg22 harg23 harg24 harg25 x3 x4 x5 x6 x7 x8 x9 x10 x11 hc1 hc2 hc3 hc4)); iexact H15
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

set_option maxHeartbeats 4000000 in
/-- The body in one case. -/
theorem bodyB (hc1 : ¬ (Scalar.cmpi .ne (Scalar.extui (Scalar.cmpi .eq (BitVec.ofNat 32 (i 2).val) 0#32)) 0#32 = 1#1)) (hc2 : ¬ (k0_cond2 i = 1#1)) (hc3 : (k0_cond3 i = 1#1)) (hc4 : ¬ (k0_cond4 i = 1#1)) :
    ∀ K : PUnit → sProp (MT nD τ sig Unit (Elt F) ℕ (UR sig nD τ) ℕ),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg17 fullShare s17 ∗ owns (c : Thread nD τ) arg18 fullShare s18 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
          ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg13 fullShare (ptB c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).o13 ∗ owns (c : Thread nD τ) arg14 fullShare (ptB c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).o14 ∗ owns (c : Thread nD τ) arg15 fullShare (ptB c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).o15 ∗ owns (c : Thread nD τ) arg17 fullShare (ptB c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).w17 ∗ owns (c : Thread nD τ) arg18 fullShare (ptB c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).w18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
        ⊢ wp frame (wpE (defs₀ (F := F)) Variants.none (c : Thread nD τ) none) Set.univ (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  intro K
  iintro ⟨H3, H4, H5, H6, H7, H8, H9, H10, H11, H17, H18, H13, H14, H15, H19, H20, H21, H22, H23, H24, H25, Hk⟩
  iapply ((runB c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).2.2.2.2.2 K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H17]; · iexact H17
  isplitl [H18]; · iexact H18
  isplitl [H13]; · iexact H13
  isplitl [H14]; · iexact H14
  isplitl [H15]; · iexact H15
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H3, H4, H5, H6, H7, H8, H9, H10, H11, H13, H14, H15, H17, H18, H19, H20, H21, H22, H23, H24, H25⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iapply (owns_canon c arg13 _ (coverB13 c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4)); iexact H13
  isplitl [H14]; · iapply (owns_canon c arg14 _ (coverB14 c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4)); iexact H14
  isplitl [H15]; · iapply (owns_canon c arg15 _ (coverB15 c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4)); iexact H15
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

set_option maxHeartbeats 4000000 in
/-- The body in one case. -/
theorem bodyC (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : ¬ (k0_cond4 i = 1#1)) :
    ∀ K : PUnit → sProp (MT nD τ sig Unit (Elt F) ℕ (UR sig nD τ) ℕ),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg17 fullShare s17 ∗ owns (c : Thread nD τ) arg18 fullShare s18 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
          ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg13 fullShare (ptC c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).o13 ∗ owns (c : Thread nD τ) arg14 fullShare (ptC c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).o14 ∗ owns (c : Thread nD τ) arg15 fullShare (ptC c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).o15 ∗ owns (c : Thread nD τ) arg17 fullShare (ptC c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).w17 ∗ owns (c : Thread nD τ) arg18 fullShare (ptC c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).w18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
        ⊢ wp frame (wpE (defs₀ (F := F)) Variants.none (c : Thread nD τ) none) Set.univ (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  intro K
  iintro ⟨H3, H4, H5, H6, H7, H8, H9, H10, H11, H17, H18, H13, H14, H15, H19, H20, H21, H22, H23, H24, H25, Hk⟩
  iapply ((runC c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).2.2.2.2.2 K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H17]; · iexact H17
  isplitl [H18]; · iexact H18
  isplitl [H13]; · iexact H13
  isplitl [H14]; · iexact H14
  isplitl [H15]; · iexact H15
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H3, H4, H5, H6, H7, H8, H9, H10, H11, H13, H14, H15, H17, H18, H19, H20, H21, H22, H23, H24, H25⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iapply (owns_canon c arg13 _ (coverC13 c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4)); iexact H13
  isplitl [H14]; · iapply (owns_canon c arg14 _ (coverC14 c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4)); iexact H14
  isplitl [H15]; · iapply (owns_canon c arg15 _ (coverC15 c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4)); iexact H15
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

set_option maxHeartbeats 4000000 in
/-- The body before the last key block. -/
theorem body_more (h4 : ¬ (k0_cond4 i = 1#1)) :
    ∀ K : PUnit → sProp (MT nD τ sig Unit (Elt F) ℕ (UR sig nD τ) ℕ),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg17 fullShare s17 ∗ owns (c : Thread nD τ) arg18 fullShare s18 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
          ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg13 fullShare (res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18).o13 ∗ owns (c : Thread nD τ) arg14 fullShare (res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18).o14 ∗ owns (c : Thread nD τ) arg15 fullShare (res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18).o15 ∗ owns (c : Thread nD τ) arg17 fullShare (res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18).w17 ∗ owns (c : Thread nD τ) arg18 fullShare (res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18).w18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
        ⊢ wp frame (wpE (defs₀ (F := F)) Variants.none (c : Thread nD τ) none) Set.univ (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  intro K
  unfold res
  split_ifs with h1 h2
  · exact bodyA c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 _ _ _ _ K
  · exact bodyC c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 _ _ _ _ K
  · exact bodyB c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 _ _ _ _ K

set_option maxHeartbeats 4000000 in
/-- The body in one case. -/
theorem bodyD (hc1 : ¬ (Scalar.cmpi .ne (Scalar.extui (Scalar.cmpi .eq (BitVec.ofNat 32 (i 2).val) 0#32)) 0#32 = 1#1)) (hc2 : (k0_cond2 i = 1#1)) (hc3 : ¬ (k0_cond3 i = 1#1)) (hc4 : (k0_cond4 i = 1#1)) :
    ∀ K : PUnit → sProp (MT nD τ sig Unit (Elt F) ℕ (UR sig nD τ) ℕ),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg17 fullShare s17 ∗ owns (c : Thread nD τ) arg18 fullShare s18 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg12 fullShare d) ∗ (∃ d, owns (c : Thread nD τ) arg16 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
          ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg13 fullShare (ptD c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).o13 ∗ owns (c : Thread nD τ) arg14 fullShare (ptD c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).o14 ∗ owns (c : Thread nD τ) arg15 fullShare (ptD c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).o15 ∗ owns (c : Thread nD τ) arg12 fullShare (ptD c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).o12 ∗ owns (c : Thread nD τ) arg16 fullShare (ptD c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).o16 ∗ owns (c : Thread nD τ) arg17 fullShare (ptD c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).w17 ∗ owns (c : Thread nD τ) arg18 fullShare (ptD c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4).w18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
        ⊢ wp frame (wpE (defs₀ (F := F)) Variants.none (c : Thread nD τ) none) Set.univ (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  intro K
  iintro ⟨H3, H4, H5, H6, H7, H8, H9, H10, H11, H17, H18, H13, H14, H15, H12, H16, H19, H20, H21, H22, H23, H24, H25, Hk⟩
  iapply ((runD c i harg3 harg4 harg5 harg6 harg7 harg8 harg9 harg10 harg11 harg12 harg13 harg14 harg15 harg16 harg17 harg18 harg19 harg20 harg21 harg22 harg23 harg24 harg25 hc1 hc2 hc3 hc4 x3 x4 x5 x6 x7 x8 x9 x10 x11 s17 s18).2.2.2.2.2.2.2 K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H17]; · iexact H17
  isplitl [H18]; · iexact H18
  isplitl [H13]; · iexact H13
  isplitl [H14]; · iexact H14
  isplitl [H15]; · iexact H15
  isplitl [H12]; · iexact H12
  isplitl [H16]; · iexact H16
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H3, H4, H5, H6, H7, H8, H9, H10, H11, H13, H14, H15, H12, H16, H17, H18, H19, H20, H21, H22, H23, H24, H25⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iapply (owns_canon c arg13 _ (coverD13 c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4)); iexact H13
  isplitl [H14]; · iapply (owns_canon c arg14 _ (coverD14 c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4)); iexact H14
  isplitl [H15]; · iapply (owns_canon c arg15 _ (coverD15 c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4)); iexact H15
  isplitl [H12]; · iapply (owns_canon c arg12 _ (coverD12 c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4)); iexact H12
  isplitl [H16]; · iapply (owns_canon c arg16 _ (coverD16 c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 hc1 hc2 hc3 hc4)); iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

set_option maxHeartbeats 4000000 in
/-- The body at the last key block. -/
theorem body_last (h4 : k0_cond4 i = 1#1) :
    ∀ K : PUnit → sProp (MT nD τ sig Unit (Elt F) ℕ (UR sig nD τ) ℕ),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg17 fullShare s17 ∗ owns (c : Thread nD τ) arg18 fullShare s18 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg12 fullShare d) ∗ (∃ d, owns (c : Thread nD τ) arg16 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
          ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg13 fullShare (res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18).o13 ∗ owns (c : Thread nD τ) arg14 fullShare (res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18).o14 ∗ owns (c : Thread nD τ) arg15 fullShare (res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18).o15 ∗ owns (c : Thread nD τ) arg12 fullShare (res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18).o12 ∗ owns (c : Thread nD τ) arg16 fullShare (res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18).o16 ∗ owns (c : Thread nD τ) arg17 fullShare (res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18).w17 ∗ owns (c : Thread nD τ) arg18 fullShare (res c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18).w18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
        ⊢ wp frame (wpE (defs₀ (F := F)) Variants.none (c : Thread nD τ) none) Set.univ (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  intro K
  unfold res
  rw [dif_neg (last_even i h4).1, dif_pos (last_even i h4).2, dif_pos h4]
  exact bodyD c i harg3 harg4 harg5 harg6 harg7 harg8 harg9 harg10 harg11 harg12 harg13 harg14 harg15 harg16 harg17 harg18 harg19 harg20 harg21 harg22 harg23 harg24 harg25 x3 x4 x5 x6 x7 x8 x9 x10 x11 s17 s18 _ _ _ _ K

end Cert.FoxRun

end
-- ==== Proof.FoxFrame.lean ====
/- The launch of `fox_bwd`: what every grid point leaves, and that it leaves its inputs as they were. -/
module

public import proofs.«01_k».proof.Proof.Gen.KernelFoxIdeal.Frame
public import proofs.«01_k».proof.Proof.Gen.KernelFoxIdeal.Loops
public import Idealize.ShloMosaic.Lib.Claim
public import proofs.«01_k».proof.Proof.FoxBody

@[expose] public section

set_option maxRecDepth 16384

noncomputable section

namespace Cert.FoxRun

open Cert.KernelFoxIdeal Cert.KernelFoxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem hs0 (t : Fin cfg0.N) : (st0_0 t).IsWhole := hstage0_0 ((cfg0.slots t 0).cast nbuf0_0)
theorem hs1 (t : Fin cfg0.N) : (st0_1 t).IsWhole := hstage0_1 ((cfg0.slots t 1).cast nbuf0_1)
theorem hs2 (t : Fin cfg0.N) : (st0_2 t).IsWhole := hstage0_2 ((cfg0.slots t 2).cast nbuf0_2)
theorem hs3 (t : Fin cfg0.N) : (st0_3 t).IsWhole := hstage0_3 ((cfg0.slots t 3).cast nbuf0_3)
theorem hs4 (t : Fin cfg0.N) : (st0_4 t).IsWhole := hstage0_4 ((cfg0.slots t 4).cast nbuf0_4)
theorem hs5 (t : Fin cfg0.N) : (st0_5 t).IsWhole := hstage0_5 ((cfg0.slots t 5).cast nbuf0_5)
theorem hs6 (t : Fin cfg0.N) : (st0_6 t).IsWhole := hstage0_6 ((cfg0.slots t 6).cast nbuf0_6)
theorem hs7 (t : Fin cfg0.N) : (st0_7 t).IsWhole := hstage0_7 ((cfg0.slots t 7).cast nbuf0_7)
theorem hs8 (t : Fin cfg0.N) : (st0_8 t).IsWhole := hstage0_8 ((cfg0.slots t 8).cast nbuf0_8)
theorem hs9 (t : Fin cfg0.N) : (st0_9 t).IsWhole := hstage0_9 ((cfg0.slots t 9).cast nbuf0_9)
theorem hs10 (t : Fin cfg0.N) : (st0_10 t).IsWhole := hstage0_10 ((cfg0.slots t 10).cast nbuf0_10)
theorem hs11 (t : Fin cfg0.N) : (st0_11 t).IsWhole := hstage0_11 ((cfg0.slots t 11).cast nbuf0_11)
theorem hs12 (t : Fin cfg0.N) : (st0_12 t).IsWhole := hstage0_12 ((cfg0.slots t 12).cast nbuf0_12)
theorem hs13 (t : Fin cfg0.N) : (st0_13 t).IsWhole := hstage0_13 ((cfg0.slots t 13).cast nbuf0_13)

/-- What point `t` leaves when the accumulators hold `s17` and `s18`. -/
def here (c : Dev nD) (t : Fin cfg0.N) (s17 : Vec F S2048x128 .f32) (s18 : Vec F S2x2048x1 .f32) : Pt F :=
  res c (grid0.coords t) (hs0 t) (hs1 t) (hs2 t) (hs3 t) (hs4 t) (hs5 t) (hs6 t) (hs7 t) (hs8 t) (hs9 t) (hs10 t) (hs11 t) (hs12 t) (hs13 t) (Memref.isWhole_whole cc0_scratch0) (Memref.isWhole_whole cc0_scratch1) (Memref.isWhole_whole cc0_scratch2) (Memref.isWhole_whole cc0_scratch3) (Memref.isWhole_whole cc0_scratch4) (Memref.isWhole_whole cc0_scratch5) (Memref.isWhole_whole cc0_scratch6) (Memref.isWhole_whole cc0_scratch7) (Memref.isWhole_whole cc0_scratch8) (iblk m c 0 t) (iblk m c 1 t) (iblk m c 2 t) (iblk m c 3 t) (iblk m c 4 t) (iblk m c 5 t) (iblk m c 6 t) (iblk m c 7 t) (iblk m c 8 t) s17 s18

/-- What point `n` leaves, the accumulators as the points before it left them. -/
def pts (c : Dev nD) : (n : ℕ) → n < cfg0.N → Pt F
  | 0, hn => here m c ⟨0, hn⟩ (View.canon []) (View.canon [])
  | n + 1, hn => here m c ⟨n + 1, hn⟩ (pts c n (Nat.lt_of_succ_lt hn)).w17 (pts c n (Nat.lt_of_succ_lt hn)).w18

/-- What the body carries in its scratches before point `n`. -/
def PhiS (c : Dev nD) : (n : ℕ) → n ≤ cfg0.N → sProp (MT nD τ sig Unit (Elt F) ℕ (UR sig nD τ) ℕ)
  | 0, _ => Pipeline.ΦA spec0 c
  | n + 1, hn => iprop(owns (c : Thread nD τ) (Memref.whole cc0_scratch0) fullShare (pts m c n hn).w17 ∗ owns (c : Thread nD τ) (Memref.whole cc0_scratch1) fullShare (pts m c n hn).w18 ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ ∃ r, prngReg c r)

/-- The launch's scratches, each owned at some contents. -/
theorem entry (c : Dev nD) : (Pipeline.ΦA spec0 c : sProp (MT nD τ sig Unit (Elt F) ℕ (UR sig nD τ) ℕ))
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ ∃ r, prngReg c r) := by
  unfold Pipeline.ΦA
  rw [scopedRest0_eq]
  simp only [owns_whole]

theorem first_point : (0 : ℕ) < cfg0.N := by rw [show cfg0.N = 64 from N_0]; decide

theorem first_clears {h : 0 < cfg0.N} : Scalar.cmpi .ne (Scalar.extui (Scalar.cmpi .eq (BitVec.ofNat 32 (grid0.coords (⟨0, h⟩ : Fin cfg0.N) 2).val) 0#32)) 0#32 = 1#1 := by
  rw [show grid0.coords (⟨0, h⟩ : Fin cfg0.N) = grid0.coords (⟨0, first_point⟩ : Fin cfg0.N) from rfl]; decide +kernel

/-- Before a point the scratches hold something from which the point leaves what `pts` says. -/
theorem held (c : Dev nD) (t : Fin cfg0.N) : PhiS m c t.val (Nat.le_of_lt t.isLt)
    ⊢ iprop(∃ s17 s18, ⌜here m c t s17 s18 = pts m c t.val t.isLt⌝ ∗ owns (c : Thread nD τ) (Memref.whole cc0_scratch0) fullShare s17 ∗ owns (c : Thread nD τ) (Memref.whole cc0_scratch1) fullShare s18 ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ ∃ r, prngReg c r) := by
  obtain ⟨n, hn⟩ := t
  cases n with
  | zero =>
    rw [show PhiS m c (Fin.mk (n := cfg0.N) 0 hn).val (Nat.le_of_lt hn) = Pipeline.ΦA spec0 c from rfl, entry]
    iintro ⟨⟨⟨%s17, H0⟩, ⟨%s18, H1⟩, H2, H3, H4, H5, H6, H7, H8⟩, Hg⟩
    iexists s17; iexists s18
    isplitr
    · ipureintro
      exact res_first _ _ _ _ _ _ _ _ _ _ _ _ _ _ _ _ _ _ _ _ _ _ _ _ _ _ _ _ _ _ _ _ _ _ _ _ _ _ first_clears
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hg
  | succ n =>
    rw [show PhiS m c (Fin.mk (n := cfg0.N) (n + 1) hn).val (Nat.le_of_lt hn) = iprop(owns (c : Thread nD τ) (Memref.whole cc0_scratch0) fullShare (pts m c n (Nat.lt_of_succ_lt hn)).w17 ∗ owns (c : Thread nD τ) (Memref.whole cc0_scratch1) fullShare (pts m c n (Nat.lt_of_succ_lt hn)).w18 ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ ∃ r, prngReg c r) from rfl]
    iintro H
    iexists _; iexists _
    isplitr
    · ipureintro; rfl
    iexact H

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (pts m c t.val t.isLt).o12
    | ⟨10, _⟩ => (pts m c t.val t.isLt).o13
    | ⟨11, _⟩ => (pts m c t.val t.isLt).o14
    | ⟨12, _⟩ => (pts m c t.val t.isLt).o15
    | ⟨13, _⟩ => (pts m c t.val t.isLt).o16
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (pts m c t.val t.isLt).o12 := by dsimp only [dats]
theorem after0_10 (c : Dev nD) (t : Fin cfg0.N) : (dats m 0 c).after 10 t = (pts m c t.val t.isLt).o13 := by dsimp only [dats]
theorem after0_11 (c : Dev nD) (t : Fin cfg0.N) : (dats m 0 c).after 11 t = (pts m c t.val t.isLt).o14 := by dsimp only [dats]
theorem after0_12 (c : Dev nD) (t : Fin cfg0.N) : (dats m 0 c).after 12 t = (pts m c t.val t.isLt).o15 := by dsimp only [dats]
theorem after0_13 (c : Dev nD) (t : Fin cfg0.N) : (dats m 0 c).after 13 t = (pts m c t.val t.isLt).o16 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What a block that may be left alone is left at. -/
def left {P : Type} (idle flush : Bool) (kept given : P) : P :=
  match idle with
  | true => match flush with
    | false => kept
    | true => given
  | false => given

theorem left_kept {P : Type} (k g : P) : left true false k g = k := rfl
theorem left_given {P : Type} (f : Bool) (k g : P) : left false f k g = g := rfl

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ left (idle0 9 (grid0.coords t)) ((win0 9).flush t) iprop(∃ d, owns (c : Thread nD τ) (st0_9 t) fullShare ((dats m 0 c).before 9 t d)) (owns (c : Thread nD τ) (st0_9 t) fullShare ((dats m 0 c).after 9 t))
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ left (idle0 13 (grid0.coords t)) ((win0 13).flush t) iprop(∃ d, owns (c : Thread nD τ) (st0_13 t) fullShare ((dats m 0 c).before 13 t d)) (owns (c : Thread nD τ) (st0_13 t) fullShare ((dats m 0 c).after 13 t)))

/-- The two blocks written at the last key block alone. -/
theorem kept (t : Fin cfg0.N) (h : ¬ (k0_cond4 (grid0.coords t) = 1#1)) :
    idle0 9 (grid0.coords t) = true ∧ (win0 9).flush t = false ∧ idle0 13 (grid0.coords t) = true ∧ (win0 13).flush t = false := by
  have e : idle0 9 (grid0.coords t) = true := by
    show (!(k0_cond4 (grid0.coords t) == 1#1)) = true
    simpa using h
  have k : t.val % 8 ≠ 7 := fun e => h ((by decide +kernel : ∀ t : Fin grid0.N, t.val % 8 = 7 → k0_cond4 (grid0.coords t) = 1#1) t e)
  exact ⟨e, Bool.eq_false_iff.mpr fun h => k ((flush0_9 t).mp h), e, Bool.eq_false_iff.mpr fun h => k ((flush0_13 t).mp h)⟩

theorem given (t : Fin cfg0.N) (h : k0_cond4 (grid0.coords t) = 1#1) :
    idle0 9 (grid0.coords t) = false ∧ idle0 13 (grid0.coords t) = false := by
  have e : idle0 9 (grid0.coords t) = false := by
    show (!(k0_cond4 (grid0.coords t) == 1#1)) = false
    simpa using h
  exact ⟨e, e⟩

set_option maxHeartbeats 6400000 in
/-- The body at a point takes what the points before it left to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = iprop(owns (c : Thread nD τ) (Memref.whole cc0_scratch0) fullShare (pts m c t.val t.isLt).w17 ∗ owns (c : Thread nD τ) (Memref.whole cc0_scratch1) fullShare (pts m c t.val t.isLt).w18 ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ ∃ r, prngReg c r) from rfl, PhiS_castSucc m c t,
    after0_0, after0_1, after0_2, after0_3, after0_4, after0_5, after0_6, after0_7, after0_8, after0_10, after0_11, after0_12]
  unfold Dat.owesAt Pipeline.owesWithin
  rw [show (dats m 0 c).owed t.castSucc = 0 from rfl, show (dats m 0 c).owed t.succ = 0 from rfl]
  refine (sep_mono_left (held m c t)).trans ?_
  by_cases h4 : k0_cond4 (grid0.coords t) = 1#1
  · simp only [(given t h4).1, (given t h4).2, left_given]
    simp only [after0_9, after0_13]
    iintro ⟨⟨%s17, %s18, %e, HS0, HS1, HS2, HS3, HS4, HS5, HS6, HS7, HS8, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    rw [← e]
    iapply (body_last c (grid0.coords t) (hs0 t) (hs1 t) (hs2 t) (hs3 t) (hs4 t) (hs5 t) (hs6 t) (hs7 t) (hs8 t) (hs9 t) (hs10 t) (hs11 t) (hs12 t) (hs13 t) (Memref.isWhole_whole cc0_scratch0) (Memref.isWhole_whole cc0_scratch1) (Memref.isWhole_whole cc0_scratch2) (Memref.isWhole_whole cc0_scratch3) (Memref.isWhole_whole cc0_scratch4) (Memref.isWhole_whole cc0_scratch5) (Memref.isWhole_whole cc0_scratch6) (Memref.isWhole_whole cc0_scratch7) (Memref.isWhole_whole cc0_scratch8) (iblk m c 0 t) (iblk m c 1 t) (iblk m c 2 t) (iblk m c 3 t) (iblk m c 4 t) (iblk m c 5 t) (iblk m c 6 t) (iblk m c 7 t) (iblk m c 8 t) s17 s18 h4 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [H10]; · iexists _; iexact H10
    isplitl [H11]; · iexists _; iexact H11
    isplitl [H12]; · iexists _; iexact H12
    isplitl [H9]; · iexists _; iexact H9
    isplitl [H13]; · iexists _; iexact H13
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H10, H11, H12, H9, H13, HS0, HS1, HS2, HS3, HS4, HS5, HS6, HS7, HS8⟩
    isplitl [HS0 HS1 HS2 HS3 HS4 HS5 HS6 HS7 HS8 Hg]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · simp only [(kept t h4).1, (kept t h4).2.1, (kept t h4).2.2.1, (kept t h4).2.2.2, left_kept]
    iintro ⟨⟨%s17, %s18, %e, HS0, HS1, HS2, HS3, HS4, HS5, HS6, HS7, HS8, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    rw [← e]
    iapply (body_more c (grid0.coords t) (hs0 t) (hs1 t) (hs2 t) (hs3 t) (hs4 t) (hs5 t) (hs6 t) (hs7 t) (hs8 t) (hs9 t) (hs10 t) (hs11 t) (hs12 t) (hs13 t) (Memref.isWhole_whole cc0_scratch0) (Memref.isWhole_whole cc0_scratch1) (Memref.isWhole_whole cc0_scratch2) (Memref.isWhole_whole cc0_scratch3) (Memref.isWhole_whole cc0_scratch4) (Memref.isWhole_whole cc0_scratch5) (Memref.isWhole_whole cc0_scratch6) (Memref.isWhole_whole cc0_scratch7) (Memref.isWhole_whole cc0_scratch8) (iblk m c 0 t) (iblk m c 1 t) (iblk m c 2 t) (iblk m c 3 t) (iblk m c 4 t) (iblk m c 5 t) (iblk m c 6 t) (iblk m c 7 t) (iblk m c 8 t) s17 s18 h4 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [H10]; · iexists _; iexact H10
    isplitl [H11]; · iexists _; iexact H11
    isplitl [H12]; · iexists _; iexact H12
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H10, H11, H12, HS0, HS1, HS2, HS3, HS4, HS5, HS6, HS7, HS8⟩
    isplitl [HS0 HS1 HS2 HS3 HS4 HS5 HS6 HS7 HS8 Hg]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    iexists _; iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = PhiS m c 64 (le_of_eq N_0.symm) from rfl, entry]
  unfold PhiS
  iintro ⟨H0, H1, H2, H3, H4, H5, H6, H7, H8, Hg⟩
  isplitr [Hg]; swap; · iexact Hg
  isplitl [H0]; · iexists _; iexact H0
  isplitl [H1]; · iexists _; iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FoxRun

end
-- ==== Proof.FoxEnd.lean ====
/- What is claimed of the gradient of the forgetting attention. -/
module

public import proofs.«01_k».proof.Defs
public import proofs.«01_k».proof.Proof.Gen.KernelFox
public import proofs.«01_k».proof.Proof.FoxFrame
public import Idealize.ShloMosaic.Adequacy
public import Idealize.ShloMosaic.Init

@[expose] public section

set_option maxRecDepth 16384
set_option maxHeartbeats 4000000

noncomputable section

namespace Cert.FoxEnd

open Idealize.ShloMosaic Idealize.SL.Sem

theorem frame_kernel : Cert.quiescent_KernelFox := fun m g _ => Eq.mp (by sl_kernel_rfl) (Cert.FoxRun.frame (F := Bits) m g)

theorem frame_ideal : Cert.quiescent_KernelFoxIdeal := fun m g _ => Cert.FoxRun.frame (F := Ideal) m g

end Cert.FoxEnd

end
-- ==== Proof.FmidBlocks.lean ====
/- The joining of the two head groups, the norm, and the attention over the memory: where the blocks lie. -/
module

public import proofs.«01_k».proof.Proof.Gen.KernelFmidIdeal.Value
public import proofs.«01_k».proof.Proof.Gen.ReferenceFmidIdeal.Read
public import proofs.«01_k».proof.Proof.Sums
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.FmidValue
open Cert.KernelFmidIdeal Cert.KernelFmidIdeal.Gen
variable (m : (ℓ : Loc nD τ sig) → Buf (Elt Ideal) ℓ)

/-- Where each window's block lies at grid point `t`. -/
theorem place : ∀ t : Fin cfg0.N, win0_0.index t = ![t.val, 0] ∧ win0_1.index t = ![t.val, 0] ∧ win0_2.index t = ![t.val, 0]
    ∧ win0_3.index t = ![t.val / 4, 0] ∧ win0_4.index t = ![t.val / 4, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

/-- A point's sequence. -/
def seq (t : Fin cfg0.N) : Fin 2 := ⟨t.val / 4, by have := (Fin.cast N_0 t).isLt; simp only [Fin.val_cast] at this; omega⟩

/-- The place in its sequence of a point's row. -/
def pos (t : Fin cfg0.N) (p : Fin 512) : Fin 2048 := ⟨t.val % 4 * 512 + p.val, by omega⟩

theorem bound (t : Fin cfg0.N) (p : Fin 512) : t.val * 512 + p.val < 4096 := by
  have := (Fin.cast N_0 t).isLt; simp only [Fin.val_cast] at this; omega
theorem seq_of (t : Fin cfg0.N) (p : Fin 512) (h : (t.val * 512 + p.val) / 2048 < 2) : (⟨(t.val * 512 + p.val) / 2048, h⟩ : Fin 2) = seq t :=
  Fin.ext (by simp only [seq]; omega)
theorem pos_of (t : Fin cfg0.N) (p : Fin 512) (h : (t.val * 512 + p.val) % 2048 < 2048) : (⟨(t.val * 512 + p.val) % 2048, h⟩ : Fin 2048) = pos t p :=
  Fin.ext (by simp only [pos]; omega)

/-- The block of the residual stream. -/
theorem stream (c : Dev nD) (t : Fin cfg0.N) (p : Fin 512) (q : Fin 1024) : iblk m c 0 t (ix2 p q) = m ((c : Thread nD τ).loc main_arg0) (ix3 (seq t) (pos t p) q) := by
  rw [← seq_of t p (by have := bound t p; omega), ← pos_of t p (by omega)]
  blk_simp [iblk, place t]; entry_read; pointwise; blk_ext [place t]

/-- The block of the convolution's outputs. -/
theorem convs (c : Dev nD) (t : Fin cfg0.N) (p : Fin 512) (q : Fin 512) : iblk m c 1 t (ix2 p q) = m ((c : Thread nD τ).loc main_arg1) (ix3 (seq t) (pos t p) q) := by
  rw [← seq_of t p (by have := bound t p; omega), ← pos_of t p (by omega)]
  blk_simp [iblk, place t]; entry_read; pointwise; blk_ext [place t]

/-- The block of the forgetting heads' outputs. -/
theorem heads (c : Dev nD) (t : Fin cfg0.N) (p : Fin 512) (q : Fin 512) : iblk m c 2 t (ix2 p q) = m ((c : Thread nD τ).loc main_arg2) (ix3 (seq t) (pos t p) q) := by
  rw [← seq_of t p (by have := bound t p; omega), ← pos_of t p (by omega)]
  blk_simp [iblk, place t]; entry_read; pointwise; blk_ext [place t]

/-- The memory's keys. -/
theorem keys (c : Dev nD) (t : Fin cfg0.N) (p : Fin 256) (q : Fin 1024) : iblk m c 3 t (ix2 p q) = m ((c : Thread nD τ).loc main_arg6) (ix3 (seq t) p q) := by
  have h : (t.val / 4 * 256 + p.val) / 256 < 2 := by have := (seq t).isLt; simp only [seq] at this; omega
  have e : (⟨(t.val / 4 * 256 + p.val) / 256, h⟩ : Fin 2) = seq t := Fin.ext (by simp only [seq]; omega)
  rw [← e]
  blk_simp [iblk, place t]; entry_read; pointwise; blk_ext [place t]

/-- The memory's values. -/
theorem values (c : Dev nD) (t : Fin cfg0.N) (p : Fin 256) (q : Fin 1024) : iblk m c 4 t (ix2 p q) = m ((c : Thread nD τ).loc main_arg7) (ix3 (seq t) p q) := by
  have h : (t.val / 4 * 256 + p.val) / 256 < 2 := by have := (seq t).isLt; simp only [seq] at this; omega
  have e : (⟨(t.val / 4 * 256 + p.val) / 256, h⟩ : Fin 2) = seq t := Fin.ext (by simp only [seq]; omega)
  rw [← e]
  blk_simp [iblk, place t]; entry_read; pointwise; blk_ext [place t]

/-- The mixing projection. -/
theorem mix (c : Dev nD) (t : Fin cfg0.N) (p : Fin 1024) (q : Fin 1024) : iblk m c 5 t (ix2 p q) = m ((c : Thread nD τ).loc main_arg4) (ix3 0 p q) := by
  blk_simp [iblk, place t]; entry_read; pointwise; blk_ext [place t]

/-- The queries' projection. -/
theorem first (c : Dev nD) (t : Fin cfg0.N) (p : Fin 1024) (q : Fin 1024) : iblk m c 6 t (ix2 p q) = m ((c : Thread nD τ).loc main_arg5) (ix3 0 p q) := by
  blk_simp [iblk, place t]; entry_read; pointwise; blk_ext [place t]

/-- The memory's last projection. -/
theorem last (c : Dev nD) (t : Fin cfg0.N) (p : Fin 1024) (q : Fin 1024) : iblk m c 7 t (ix2 p q) = m ((c : Thread nD τ).loc main_arg8) (ix3 0 p q) := by
  blk_simp [iblk, place t]; entry_read; pointwise; blk_ext [place t]

/-- The norm's gain. -/
theorem gain (c : Dev nD) (t : Fin cfg0.N) (q : Fin 1024) : iblk m c 8 t (ix2 0 q) = m ((c : Thread nD τ).loc main_arg3) (ix2 0 q) := by
  blk_simp [iblk, place t]; entry_read; pointwise; blk_ext [place t]

end Cert.FmidValue

end
-- ==== Proof.FmidJoin.lean ====
/- The two head groups joined, their mixing added to the stream, the norm, and the memory's queries. -/
module

public import proofs.«01_k».proof.Proof.Gen.KernelFmidIdeal.Value
public import proofs.«01_k».proof.Proof.Gen.ReferenceFmidIdeal.Read
public import proofs.«01_k».proof.Proof.Sums
public import proofs.«01_k».proof.Proof.Reals
public import proofs.«01_k».proof.Proof.Halves
public import proofs.«01_k».proof.Proof.FmidBlocks
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceFmidIdeal.Read

namespace Cert.FmidValue
open Cert.KernelFmidIdeal Cert.KernelFmidIdeal.Gen
variable (m : (ℓ : Loc nD τ sig) → Buf (Elt Ideal) ℓ)

/-- The two head groups side by side. -/
abbrev joined (c : Dev nD) (b : Fin 2) (s : Fin 2048) (q : Fin 1024) : EReal :=
  val_main_v0 (F := Ideal) (m ((c : Thread nD τ).loc main_arg1)) (m ((c : Thread nD τ).loc main_arg2)) (ix3 b s q)
/-- The stream with their mixing added. -/
abbrev mixed (c : Dev nD) (b : Fin 2) (s : Fin 2048) (q : Fin 1024) : EReal :=
  val_main_v3 (F := Ideal) (m ((c : Thread nD τ).loc main_arg0)) (m ((c : Thread nD τ).loc main_arg1)) (m ((c : Thread nD τ).loc main_arg2)) (m ((c : Thread nD τ).loc main_arg4)) (ix3 b s q)
/-- The norm of that. -/
abbrev normed (c : Dev nD) (b : Fin 2) (s : Fin 2048) (q : Fin 1024) : EReal :=
  val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 b s q)
/-- The memory's queries. -/
abbrev query (c : Dev nD) (b : Fin 2) (s : Fin 2048) (q : Fin 1024) : EReal :=
  val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b s q)
/-- A point's block of the two head groups. -/
def joinedB (c : Dev nD) (t : Fin cfg0.N) : (⟨2, ![512, 1024]⟩ : Shape).Idx → EReal := fun i => joined m c (seq t) (pos t (i 0)) (i 1)
/-- A point's block of the stream. -/
def mixedB (c : Dev nD) (t : Fin cfg0.N) : (⟨2, ![512, 1024]⟩ : Shape).Idx → EReal := fun i => mixed m c (seq t) (pos t (i 0)) (i 1)
/-- A point's block of the norm. -/
def normedB (c : Dev nD) (t : Fin cfg0.N) : (⟨2, ![512, 1024]⟩ : Shape).Idx → EReal := fun i => normed m c (seq t) (pos t (i 0)) (i 1)
/-- A point's block of the queries. -/
def queryB (c : Dev nD) (t : Fin cfg0.N) : (⟨2, ![512, 1024]⟩ : Shape).Idx → EReal := fun i => query m c (seq t) (pos t (i 0)) (i 1)

theorem left_half (c : Dev nD) (t : Fin cfg0.N) (p d : Fin 512) : k0_pay3 (iblk m c 1 t) (ix2 p d) = joinedB m c t (ix2 p ⟨d.val, by omega⟩) := by
  unfold joinedB joined
  pointwise [k0_pay3, val_main_v0]
  simp only [convs]

theorem right_half (c : Dev nD) (t : Fin cfg0.N) (p d : Fin 512) : k0_pay4 (iblk m c 2 t) (ix2 p d) = joinedB m c t (ix2 p ⟨512 + d.val, by omega⟩) := by
  unfold joinedB joined
  pointwise [k0_pay4, val_main_v0]
  simp only [heads]

theorem mixed_block (c : Dev nD) (t : Fin cfg0.N) : k0_pay5 (iblk m c 0 t) (joinedB m c t) (iblk m c 5 t) = mixedB m c t := by
  funext y
  obtain ⟨p, q, rfl⟩ : ∃ (p : Fin 512) (q : Fin 1024), y = ix2 p q := ⟨y 0, y 1, eq_ix2 y⟩
  unfold mixedB mixed
  pointwise [k0_pay5, val_main_v3, val_main_v2, val_main_v1]
  simp only [stream, mix]
  rfl

theorem normed_block (c : Dev nD) (t : Fin cfg0.N) : k0_pay6 (iblk m c 0 t) (joinedB m c t) (iblk m c 5 t) (iblk m c 8 t) = normedB m c t := by
  funext y
  obtain ⟨p, q, rfl⟩ : ∃ (p : Fin 512) (q : Fin 1024), y = ix2 p q := ⟨y 0, y 1, eq_ix2 y⟩
  unfold normedB normed
  pointwise [k0_pay6, val_main_v17, val_main_v16, val_main_v15, val_main_v14, val_main_v13, val_main_v12, val_main_v11, val_main_v10, val_main_cst_1, val_main_v9, val_main_v8, val_main_cst_0, val_main_v7, val_main_v6, val_main_cst, val_main_v5, val_main_v4]
  simp only [mixed_block, gain]
  rfl

theorem query_block (c : Dev nD) (t : Fin cfg0.N) : k0_pay7 (normedB m c t) (iblk m c 6 t) = queryB m c t := by
  funext y
  obtain ⟨p, q, rfl⟩ : ∃ (p : Fin 512) (q : Fin 1024), y = ix2 p q := ⟨y 0, y 1, eq_ix2 y⟩
  unfold queryB query
  pointwise [k0_pay7, val_main_v19, val_main_v18]
  simp only [first]
  rfl

theorem cat_left (c : Dev nD) (t : Fin cfg0.N) : (outsAt0 m c t).2.2.2.2.2 = joinedB m c t := by
  unfold outsAt0
  frame_out
  exact Cert.Halves.halves (V := Elt Ideal) (e := .bf16) (by norm_num) _ _ _ _ _ (left_half m c t) (right_half m c t)

/-- The joined block, read back whole. -/
theorem joined_read (c : Dev nD) (t : Fin cfg0.N) : (ms0_14 t).view.readCov (Val := Elt Ideal)
    [⟨Rect.unit ![0, 512] ![512, 512] inb_S512x1024_S512x512_0_512, k0_pay4 (iblk m c 2 t)⟩, ⟨Rect.unit ![0, 0] ![512, 512] inb_S512x1024_S512x512_0_0, k0_pay3 (iblk m c 1 t)⟩]
    (Rect.unit ![0, 0] ![512, 1024] inb_S512x1024_S512x1024_0_0).toLoadRect = joinedB m c t := by
  have e := Cert.Halves.halves (V := Elt Ideal) (e := .bf16) (by norm_num) (joinedB m c t) _ _ inb_S512x1024_S512x512_0_0 inb_S512x1024_S512x512_0_512 (left_half m c t) (right_half m c t)
  rw [View.readCov_eq_canon', e]
  funext j
  refine congrArg (joinedB m c t) (funext fun a => Fin.ext ?_)
  match a with
  | ⟨0, _⟩ => exact (Nat.zero_add _).trans (Nat.one_mul _)
  | ⟨1, _⟩ => exact (Nat.zero_add _).trans (Nat.one_mul _)

theorem mixed_left (c : Dev nD) (t : Fin cfg0.N) : (outsAt0 m c t).1 = mixedB m c t := by
  unfold outsAt0
  frame_out
  rw [joined_read, mixed_block]

theorem normed_left (c : Dev nD) (t : Fin cfg0.N) : (outsAt0 m c t).2.1 = normedB m c t := by
  unfold outsAt0
  frame_out
  rw [joined_read, normed_block]

theorem query_left (c : Dev nD) (t : Fin cfg0.N) : (outsAt0 m c t).2.2.1 = queryB m c t := by
  unfold outsAt0
  frame_out
  rw [joined_read, normed_block, query_block]

end Cert.FmidValue

end
-- ==== Proof.FmidHeads.lean ====
/- The attention over the memory: a row's probabilities and the heads' outputs. -/
module

public import proofs.«01_k».proof.Proof.Gen.KernelFmidIdeal.Value
public import proofs.«01_k».proof.Proof.Gen.ReferenceFmidIdeal.Read
public import proofs.«01_k».proof.Proof.Sums
public import proofs.«01_k».proof.Proof.Reals
public import proofs.«01_k».proof.Proof.Soft
public import proofs.«01_k».proof.Proof.FmidJoin
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceFmidIdeal.Read Cert.Soft

namespace Cert.FmidValue
open Cert.KernelFmidIdeal Cert.KernelFmidIdeal.Gen
variable (m : (ℓ : Loc nD τ sig) → Buf (Elt Ideal) ℓ)

section Reference
variable (x0 : (⟨Cert.ReferenceFmidIdeal.S2x2048x1024, .f32⟩ : BufTy).Contents (Elt Ideal)) (x1 x2 : (⟨Cert.ReferenceFmidIdeal.S2x2048x512, .f32⟩ : BufTy).Contents (Elt Ideal)) (x3 : (⟨Cert.ReferenceFmidIdeal.S1x1024, .f32⟩ : BufTy).Contents (Elt Ideal)) (x4 x5 : (⟨Cert.ReferenceFmidIdeal.S1x1024x1024, .f32⟩ : BufTy).Contents (Elt Ideal)) (x6 x7 : (⟨Cert.ReferenceFmidIdeal.S2x256x1024, .f32⟩ : BufTy).Contents (Elt Ideal))
  (b : Fin 2) (h : Fin 4) (s : Fin 2048)

/-- A head's scores against every slot of the memory. -/
def score : Fin 256 → EReal := fun j => val_main_v25 (F := Ideal) x0 x1 x2 x3 x4 x5 x6 (ix4 b h s j)

theorem score_eq (j : Fin 256) (o : ℕ) (ho : o = h.val * 256) : (∑ d : Fin 256, (val_main_v19 (F := Ideal) x0 x1 x2 x3 x4 x5 (ix3 b s ⟨o + d.val, by omega⟩) : EReal) * x6 (ix3 b j ⟨o + d.val, by omega⟩)) * Ideal.ofBits .f32 1031798784#32
    = score x0 x1 x2 x3 x4 x5 x6 b h s j := by
  subst ho
  unfold score
  pointwise [val_main_v25, val_main_v24, val_main_cst_2, val_main_v23, val_main_v21, val_main_v20]
  rw [by_sixteen]

theorem lowest (i) : val_main_v27 (F := Ideal) i = Ideal.ofBits .f32 4286578688#32 := by
  pointwise [val_main_v27, val_main_cst_4]

theorem start : val_main_cst_3 (F := Ideal) (Shape.Idx.first (by decide)) = Ideal.ofBits .f32 4286578688#32 := by
  pointwise [val_main_cst_3]

theorem greatest_at : val_main_v26 (F := Ideal) x0 x1 x2 x3 x4 x5 x6 (ix3 b h s) = Finset.fold max (val_main_cst_3 (F := Ideal) (Shape.Idx.first (by decide))) (fun j => val_main_v25 (F := Ideal) x0 x1 x2 x3 x4 x5 x6 (ix4 b h s j)) Finset.univ := by
  unfold val_main_v26
  exact greatest _ _ _ _ b h s

theorem greatest_eq : val_main_v26 (F := Ideal) x0 x1 x2 x3 x4 x5 x6 (ix3 b h s) = peak (score x0 x1 x2 x3 x4 x5 x6 b h s) := by
  rw [greatest_at, start]
  rfl

/-- The greater of two arrays, where the first is below everything. -/
theorem upper {r : Shape} (f g : FVec Ideal r .f32) (i : r.Idx) (hf : f i = Ideal.ofBits .f32 4286578688#32) : maximumf f g i = g i := by
  show max (f i) (g i) = g i
  rw [hf, floor]

theorem floored_eq : val_main_v28 (F := Ideal) x0 x1 x2 x3 x4 x5 x6 (ix3 b h s) = peak (score x0 x1 x2 x3 x4 x5 x6 b h s) :=
  (upper _ _ _ (lowest _)).trans (greatest_eq ..)

theorem spread_eq (j : Fin 256) : val_main_v30 (F := Ideal) x0 x1 x2 x3 x4 x5 x6 (ix4 b h s j) = peak (score x0 x1 x2 x3 x4 x5 x6 b h s) := by
  pointwise [val_main_v30, val_main_v29]
  exact floored_eq ..

theorem weight_eq (j : Fin 256) : val_main_v32 (F := Ideal) x0 x1 x2 x3 x4 x5 x6 (ix4 b h s j) = weight (score x0 x1 x2 x3 x4 x5 x6 b h s) j := by
  pointwise [val_main_v32, val_main_v31]
  rw [spread_eq]
  unfold weight
  congr 1

theorem prob_eq (j : Fin 256) : val_main_v36 (F := Ideal) x0 x1 x2 x3 x4 x5 x6 (ix4 b h s j) = prob (score x0 x1 x2 x3 x4 x5 x6 b h s) j := by
  pointwise [val_main_v36, val_main_v35, val_main_v34, val_main_v33, val_main_cst_5]
  simp only [weight_eq]
  rfl

theorem attended_eq (d : Fin 256) (q : Fin 1024) (hq : q.val = h.val * 256 + d.val) : val_main_v39 (F := Ideal) x0 x1 x2 x3 x4 x5 x6 x7 (ix3 b s q)
    = ∑ j, prob (score x0 x1 x2 x3 x4 x5 x6 b h s) j * x7 (ix3 b j q) := by
  have e : q.val / 256 = h.val := by omega
  pointwise [val_main_v39, val_main_v38, val_main_v37, val_main_v22]
  simp only [show (⟨q.val / 256, by omega⟩ : Fin 4) = h from Fin.ext e, prob_eq]
  exact Finset.sum_congr (M := EReal) rfl fun j _ => mul_comm (G := EReal) _ _

end Reference

/-- The scores of a row. -/
abbrev sc (c : Dev nD) (b : Fin 2) (h : Fin 4) (s : Fin 2048) : Fin 256 → EReal :=
  score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b h s

/-- The heads' outputs. -/
abbrev attended (c : Dev nD) (b : Fin 2) (s : Fin 2048) (q : Fin 1024) : EReal :=
  val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 b s q)
/-- A point's block of the heads' outputs. -/
def attendedB (c : Dev nD) (t : Fin cfg0.N) : (⟨2, ![512, 1024]⟩ : Shape).Idx → EReal := fun i => attended m c (seq t) (pos t (i 0)) (i 1)

theorem query_at (c : Dev nD) (t : Fin cfg0.N) (p : Fin 512) (q : Fin 1024) : queryB m c t (ix2 p q) = query m c (seq t) (pos t p) q := rfl

theorem sc_eq (c : Dev nD) (t : Fin cfg0.N) (p : Fin 512) (h : Fin 4) (o : ℕ) (ho : o = h.val * 256) (j : Fin 256) :
    (∑ d : Fin 256, (query m c (seq t) (pos t p) ⟨o + d.val, by omega⟩ : EReal) * m ((c : Thread nD τ).loc main_arg6) (ix3 (seq t) j ⟨o + d.val, by omega⟩)) * Ideal.ofBits .f32 1031798784#32 = sc m c (seq t) h (pos t p) j :=
  score_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (seq t) h (pos t p) j o ho

theorem prob0 (c : Dev nD) (t : Fin cfg0.N) (p : Fin 512) (j : Fin 256) : k0_pay9 (normedB m c t) (iblk m c 6 t) (iblk m c 3 t) (ix2 p j) = prob (sc m c (seq t) 0 (pos t p)) j := by
  have l (j : Fin 256) := sc_eq m c t p 0 0 rfl j
  simp only [zero_add] at l
  pointwise [k0_pay9, k0_pay8]
  simp only [query_block, query_at, keys, l]
  rfl

theorem out0 (c : Dev nD) (t : Fin cfg0.N) (p : Fin 512) (d : Fin 256) : k0_pay13 (k0_pay9 (normedB m c t) (iblk m c 6 t) (iblk m c 3 t)) (iblk m c 4 t) (ix2 p d) = attendedB m c t (ix2 p ⟨d.val, by omega⟩) := by
  refine Eq.trans ?_ (attended_eq _ _ _ _ _ _ _ _ (seq t) 0 (pos t p) d ⟨d.val, by omega⟩ (by simp)).symm
  pointwise [k0_pay13, k0_pay12]
  simp only [prob0, values]

theorem prob1 (c : Dev nD) (t : Fin cfg0.N) (p : Fin 512) (j : Fin 256) : k0_pay10 (normedB m c t) (iblk m c 6 t) (iblk m c 3 t) (ix2 p j) = prob (sc m c (seq t) 1 (pos t p)) j := by
  have l (j : Fin 256) := sc_eq m c t p 1 256 rfl j
  pointwise [k0_pay10, k0_pay8]
  simp only [query_block, query_at, keys, l]
  rfl

theorem out1 (c : Dev nD) (t : Fin cfg0.N) (p : Fin 512) (d : Fin 256) : k0_pay14 (k0_pay10 (normedB m c t) (iblk m c 6 t) (iblk m c 3 t)) (iblk m c 4 t) (ix2 p d) = attendedB m c t (ix2 p ⟨256 + d.val, by omega⟩) := by
  refine Eq.trans ?_ (attended_eq _ _ _ _ _ _ _ _ (seq t) 1 (pos t p) d ⟨256 + d.val, by omega⟩ (by simp)).symm
  pointwise [k0_pay14, k0_pay12]
  simp only [prob1, values]

theorem out2 (c : Dev nD) (t : Fin cfg0.N) (p : Fin 512) (d : Fin 256) : k0_pay15 (k0_pay11 (normedB m c t) (iblk m c 6 t) (iblk m c 3 t)) (iblk m c 4 t) (ix2 p d) = attendedB m c t (ix2 p ⟨512 + d.val, by omega⟩) := by
  have l (j : Fin 256) := sc_eq m c t p 2 512 rfl j
  refine Eq.trans ?_ (attended_eq _ _ _ _ _ _ _ _ (seq t) 2 (pos t p) d ⟨512 + d.val, by omega⟩ (by simp)).symm
  pointwise [k0_pay15, k0_pay12, k0_pay11, k0_pay8]
  simp only [query_block, query_at, keys, l, values]
  rfl

theorem prob3 (c : Dev nD) (t : Fin cfg0.N) (p : Fin 512) (j : Fin 256) : k0_pay16 (queryB m c t) (k0_pay8 (iblk m c 3 t)) (ix2 p j) = prob (sc m c (seq t) 3 (pos t p)) j := by
  have l (j : Fin 256) := sc_eq m c t p 3 768 rfl j
  pointwise [k0_pay16, k0_pay8]
  simp only [query_at, keys, l]
  rfl

theorem out3 (c : Dev nD) (t : Fin cfg0.N) (p : Fin 512) (d : Fin 256) : k0_pay1 (k0_pay12 (iblk m c 4 t)) (k0_pay16 (queryB m c t) (k0_pay8 (iblk m c 3 t))) (ix2 p d) = attendedB m c t (ix2 p ⟨768 + d.val, by omega⟩) := by
  refine Eq.trans ?_ (attended_eq _ _ _ _ _ _ _ _ (seq t) 3 (pos t p) d ⟨768 + d.val, by omega⟩ (by simp)).symm
  pointwise [k0_pay1, k0_pay12]
  simp only [prob3, values]

end Cert.FmidValue

end
-- ==== Proof.FmidWhole.lean ====
/- The six results of the attention over the memory, as whole arrays. -/
module

public import proofs.«01_k».proof.Proof.Gen.KernelFmidIdeal.Value
public import proofs.«01_k».proof.Proof.Gen.ReferenceFmidIdeal.Read
public import proofs.«01_k».proof.Proof.Sums
public import proofs.«01_k».proof.Proof.Reals
public import proofs.«01_k».proof.Proof.Columns
public import proofs.«01_k».proof.Proof.FmidHeads
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceFmidIdeal.Read

namespace Cert.FmidValue
open Cert.KernelFmidIdeal Cert.KernelFmidIdeal.Gen
variable (m : (ℓ : Loc nD τ sig) → Buf (Elt Ideal) ℓ)

theorem attended_stored (c : Dev nD) (t : Fin cfg0.N) : View.canon (Val := Elt Ideal) (e := .bf16) [⟨Rect.unit ![0, 768] ![512, 256] inb_S512x1024_S512x256_0_768, k0_pay1 (k0_pay12 (iblk m c 4 t)) (k0_pay16 (queryB m c t) (k0_pay8 (iblk m c 3 t)))⟩,
    ⟨Rect.unit ![0, 512] ![512, 256] inb_S512x1024_S512x256_0_512, k0_pay15 (k0_pay11 (normedB m c t) (iblk m c 6 t) (iblk m c 3 t)) (iblk m c 4 t)⟩,
    ⟨Rect.unit ![0, 256] ![512, 256] inb_S512x1024_S512x256_0_256, k0_pay14 (k0_pay10 (normedB m c t) (iblk m c 6 t) (iblk m c 3 t)) (iblk m c 4 t)⟩,
    ⟨Rect.unit ![0, 0] ![512, 256] inb_S512x1024_S512x256_0_0, k0_pay13 (k0_pay9 (normedB m c t) (iblk m c 6 t) (iblk m c 3 t)) (iblk m c 4 t)⟩] = attendedB m c t :=
  Cert.Columns.four (V := Elt Ideal) (e := .bf16) (n := 512) (attendedB m c t) _ _ _ _ _ _ _ _ (out0 m c t) (out1 m c t) (out2 m c t) (out3 m c t) []

/-- The heads' outputs, read back whole. -/
theorem attended_read (c : Dev nD) (t : Fin cfg0.N) : (ms0_12 t).view.readCov (Val := Elt Ideal) [⟨Rect.unit ![0, 768] ![512, 256] inb_S512x1024_S512x256_0_768, k0_pay1 (k0_pay12 (iblk m c 4 t)) (k0_pay16 (queryB m c t) (k0_pay8 (iblk m c 3 t)))⟩,
    ⟨Rect.unit ![0, 512] ![512, 256] inb_S512x1024_S512x256_0_512, k0_pay15 (k0_pay11 (normedB m c t) (iblk m c 6 t) (iblk m c 3 t)) (iblk m c 4 t)⟩,
    ⟨Rect.unit ![0, 256] ![512, 256] inb_S512x1024_S512x256_0_256, k0_pay14 (k0_pay10 (normedB m c t) (iblk m c 6 t) (iblk m c 3 t)) (iblk m c 4 t)⟩,
    ⟨Rect.unit ![0, 0] ![512, 256] inb_S512x1024_S512x256_0_0, k0_pay13 (k0_pay9 (normedB m c t) (iblk m c 6 t) (iblk m c 3 t)) (iblk m c 4 t)⟩]
    (Rect.unit ![0, 0] ![512, 1024] inb_S512x1024_S512x1024_0_0).toLoadRect = attendedB m c t := by
  rw [View.readCov_eq_canon', attended_stored]
  funext j
  refine congrArg (attendedB m c t) (funext fun a => Fin.ext ?_)
  match a with
  | ⟨0, _⟩ => exact (Nat.zero_add _).trans (Nat.one_mul _)
  | ⟨1, _⟩ => exact (Nat.zero_add _).trans (Nat.one_mul _)

theorem attended_left (c : Dev nD) (t : Fin cfg0.N) : (outsAt0 m c t).2.2.2.1 = attendedB m c t := by
  unfold outsAt0
  frame_out
  rw [joined_read, normed_block, query_block]
  exact attended_stored m c t

/-- The stream after the memory. -/
abbrev after (c : Dev nD) (b : Fin 2) (s : Fin 2048) (q : Fin 1024) : EReal :=
  val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 b s q)
/-- A point's block of the stream after the memory. -/
def afterB (c : Dev nD) (t : Fin cfg0.N) : (⟨2, ![512, 1024]⟩ : Shape).Idx → EReal := fun i => after m c (seq t) (pos t (i 0)) (i 1)

theorem after_block (c : Dev nD) (t : Fin cfg0.N) : k0_pay2 (mixedB m c t) (attendedB m c t) (iblk m c 7 t) = afterB m c t := by
  funext y
  obtain ⟨p, q, rfl⟩ : ∃ (p : Fin 512) (q : Fin 1024), y = ix2 p q := ⟨y 0, y 1, eq_ix2 y⟩
  unfold afterB after
  pointwise [k0_pay2, val_main_v42, val_main_v41, val_main_v40]
  simp only [last]
  rfl

theorem after_left (c : Dev nD) (t : Fin cfg0.N) : (outsAt0 m c t).2.2.2.2.1 = afterB m c t := by
  unfold outsAt0
  frame_out
  rw [joined_read, normed_block, query_block, mixed_block, attended_read, after_block]

/-- The stream with the two head groups' mixing added. -/
theorem mixedOut (c : Dev nD) : (dats m 0 c).arrAt 9 (cfgs 0).N = val_main_v43 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  obtain ⟨p, q, rfl⟩ : ∃ (p : Fin 512) (q : Fin 1024), y = ix2 p q := ⟨y 0, y 1, eq_ix2 y⟩
  have e : ((View.whole main_v14_0).slice (win0_9.rect t)).emb (ix2 p q) = ix2 ⟨t.val * 512 + p.val, bound t p⟩ q := by blk_ext [place t]
  blk_simp
  rw [e, after0_9, mixed_left]
  pointwise [val_main_v43]
  simp only [seq_of, pos_of]
  rfl

/-- Its norm. -/
theorem normedOut (c : Dev nD) : (dats m 0 c).arrAt 10 (cfgs 0).N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  obtain ⟨p, q, rfl⟩ : ∃ (p : Fin 512) (q : Fin 1024), y = ix2 p q := ⟨y 0, y 1, eq_ix2 y⟩
  have e : ((View.whole main_v14_1).slice (win0_10.rect t)).emb (ix2 p q) = ix2 ⟨t.val * 512 + p.val, bound t p⟩ q := by blk_ext [place t]
  blk_simp
  rw [e, after0_10, normed_left]
  pointwise [val_main_v45, val_main_v44]
  simp only [seq_of, pos_of]
  rfl

/-- The memory's queries. -/
theorem queryOut (c : Dev nD) : (dats m 0 c).arrAt 11 (cfgs 0).N = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  obtain ⟨p, q, rfl⟩ : ∃ (p : Fin 512) (q : Fin 1024), y = ix2 p q := ⟨y 0, y 1, eq_ix2 y⟩
  have e : ((View.whole main_v14_2).slice (win0_11.rect t)).emb (ix2 p q) = ix2 ⟨t.val * 512 + p.val, bound t p⟩ q := by blk_ext [place t]
  blk_simp
  rw [e, after0_11, query_left]
  pointwise [val_main_v47, val_main_v46]
  simp only [seq_of, pos_of]
  rfl

/-- The heads' outputs. -/
theorem attendedOut (c : Dev nD) : (dats m 0 c).arrAt 12 (cfgs 0).N = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  obtain ⟨p, q, rfl⟩ : ∃ (p : Fin 512) (q : Fin 1024), y = ix2 p q := ⟨y 0, y 1, eq_ix2 y⟩
  have e : ((View.whole main_v14_3).slice (win0_12.rect t)).emb (ix2 p q) = ix2 ⟨t.val * 512 + p.val, bound t p⟩ q := by blk_ext [place t]
  blk_simp
  rw [e, after0_12, attended_left]
  pointwise [val_main_v49, val_main_v48]
  simp only [seq_of, pos_of]
  rfl

/-- The stream after the memory. -/
theorem afterOut (c : Dev nD) : (dats m 0 c).arrAt 13 (cfgs 0).N = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  obtain ⟨p, q, rfl⟩ : ∃ (p : Fin 512) (q : Fin 1024), y = ix2 p q := ⟨y 0, y 1, eq_ix2 y⟩
  have e : ((View.whole main_v14_4).slice (win0_13.rect t)).emb (ix2 p q) = ix2 ⟨t.val * 512 + p.val, bound t p⟩ q := by blk_ext [place t]
  blk_simp
  rw [e, after0_13, after_left]
  pointwise [val_main_v50]
  simp only [seq_of, pos_of]
  rfl

/-- The two head groups side by side. -/
theorem joinedOut (c : Dev nD) : (dats m 0 c).arrAt 14 (cfgs 0).N = val_main_v52 (F := Ideal) (m ((c : Thread nD τ).loc main_arg1)) (m ((c : Thread nD τ).loc main_arg2)) := by
  refine (dats m 0 c).arrAt_eq_of_covers 14 _ (by decide +kernel) fun t hf y => ?_
  obtain ⟨p, q, rfl⟩ : ∃ (p : Fin 512) (q : Fin 1024), y = ix2 p q := ⟨y 0, y 1, eq_ix2 y⟩
  have e : ((View.whole main_v14_5).slice (win0_14.rect t)).emb (ix2 p q) = ix2 ⟨t.val * 512 + p.val, bound t p⟩ q := by blk_ext [place t]
  blk_simp
  rw [e, after0_14, cat_left]
  pointwise [val_main_v52, val_main_v51]
  simp only [seq_of, pos_of]
  rfl

end Cert.FmidValue

end
-- ==== Proof.FmidEnd.lean ====
/- What is claimed of the joining of the two head groups and the attention over the memory. -/
module

public import proofs.«01_k».proof.Defs
public import proofs.«01_k».proof.Proof.Gen.KernelFmid.Frame
public import proofs.«01_k».proof.Proof.Gen.ReferenceFmidIdeal.Run
public import proofs.«01_k».proof.Proof.FmidWhole
public import Idealize.ShloMosaic.Adequacy
public import Idealize.ShloMosaic.Init

@[expose] public section

set_option maxRecDepth 16384
set_option maxHeartbeats 1000000

noncomputable section

namespace Cert.FmidEnd

open Idealize.ShloMosaic Idealize.SL.Sem

theorem frame_kernel : Cert.quiescent_KernelFmid := fun m g _ => Cert.KernelFmid.Gen.frame m g

theorem frame_ideal : Cert.quiescent_KernelFmidIdeal := fun m g _ => Cert.KernelFmidIdeal.Gen.frame m g

theorem frame_reference : Cert.quiescent_ReferenceFmidIdeal := fun m g _ =>
  (θ_run Cert.ReferenceFmidIdeal.defs _ _).mono (fun r h => ⟨fun c => (h c).2.2.2.2.2.2, sem_eq_zero_of_no_sems (by decide) r.2⟩)
    (Cert.ReferenceFmidIdeal.Value.run (F := Ideal) m g)

theorem algebraic : Cert.algebraic_KernelFmidIdeal_ReferenceFmidIdeal := by
  pair_intro
  · run_from Cert.KernelFmidIdeal.Value.run_blocks m g
  · run_from Cert.ReferenceFmidIdeal.Value.run m' g'
    · refine (Cert.ReferenceFmidIdeal.Read.val_main_v43_eq (F := Ideal) (m ((c.tc : Thread Cert.KernelFmidIdeal.nD Cert.KernelFmidIdeal.τ).loc Cert.KernelFmidIdeal.main_arg0)) (m' ((c.tc : Thread Cert.ReferenceFmidIdeal.nD Cert.ReferenceFmidIdeal.τ).loc Cert.ReferenceFmidIdeal.main_arg1)) (m' ((c.tc : Thread Cert.ReferenceFmidIdeal.nD Cert.ReferenceFmidIdeal.τ).loc Cert.ReferenceFmidIdeal.main_arg2)) (m ((c.tc : Thread Cert.KernelFmidIdeal.nD Cert.KernelFmidIdeal.τ).loc Cert.KernelFmidIdeal.main_arg4))).trans ?_
      simp only [hagree c]
      exact (Cert.FmidValue.mixedOut m c).symm
    · refine (Cert.ReferenceFmidIdeal.Read.val_main_v45_eq (F := Ideal) (m ((c.tc : Thread Cert.KernelFmidIdeal.nD Cert.KernelFmidIdeal.τ).loc Cert.KernelFmidIdeal.main_arg0)) (m' ((c.tc : Thread Cert.ReferenceFmidIdeal.nD Cert.ReferenceFmidIdeal.τ).loc Cert.ReferenceFmidIdeal.main_arg1)) (m' ((c.tc : Thread Cert.ReferenceFmidIdeal.nD Cert.ReferenceFmidIdeal.τ).loc Cert.ReferenceFmidIdeal.main_arg2)) (m ((c.tc : Thread Cert.KernelFmidIdeal.nD Cert.KernelFmidIdeal.τ).loc Cert.KernelFmidIdeal.main_arg3)) (m ((c.tc : Thread Cert.KernelFmidIdeal.nD Cert.KernelFmidIdeal.τ).loc Cert.KernelFmidIdeal.main_arg4))).trans ?_
      simp only [hagree c]
      exact (Cert.FmidValue.normedOut m c).symm
    · refine (Cert.ReferenceFmidIdeal.Read.val_main_v47_eq (F := Ideal) (m ((c.tc : Thread Cert.KernelFmidIdeal.nD Cert.KernelFmidIdeal.τ).loc Cert.KernelFmidIdeal.main_arg0)) (m' ((c.tc : Thread Cert.ReferenceFmidIdeal.nD Cert.ReferenceFmidIdeal.τ).loc Cert.ReferenceFmidIdeal.main_arg1)) (m' ((c.tc : Thread Cert.ReferenceFmidIdeal.nD Cert.ReferenceFmidIdeal.τ).loc Cert.ReferenceFmidIdeal.main_arg2)) (m ((c.tc : Thread Cert.KernelFmidIdeal.nD Cert.KernelFmidIdeal.τ).loc Cert.KernelFmidIdeal.main_arg3)) (m ((c.tc : Thread Cert.KernelFmidIdeal.nD Cert.KernelFmidIdeal.τ).loc Cert.KernelFmidIdeal.main_arg4)) (m ((c.tc : Thread Cert.KernelFmidIdeal.nD Cert.KernelFmidIdeal.τ).loc Cert.KernelFmidIdeal.main_arg5))).trans ?_
      simp only [hagree c]
      exact (Cert.FmidValue.queryOut m c).symm
    · rw [Cert.ReferenceFmidIdeal.Read.val_main_v49_eq m' c]
      simp only [hagree c]
      exact (Cert.FmidValue.attendedOut m c).symm
    · rw [Cert.ReferenceFmidIdeal.Read.val_main_v50_eq m' c]
      simp only [hagree c]
      exact (Cert.FmidValue.afterOut m c).symm
    · refine (Cert.ReferenceFmidIdeal.Read.val_main_v52_eq (F := Ideal) (m' ((c.tc : Thread Cert.ReferenceFmidIdeal.nD Cert.ReferenceFmidIdeal.τ).loc Cert.ReferenceFmidIdeal.main_arg1)) (m' ((c.tc : Thread Cert.ReferenceFmidIdeal.nD Cert.ReferenceFmidIdeal.τ).loc Cert.ReferenceFmidIdeal.main_arg2))).trans ?_
      simp only [hagree c]
      exact (Cert.FmidValue.joinedOut m c).symm

end Cert.FmidEnd

end
-- ==== Proof.KvValue.lean ====
/- The memory's norm, its keys and its values: every result of the call is the reference's. -/
module

public import proofs.«01_k».proof.Proof.Gen.KernelKvIdeal.Value
public import proofs.«01_k».proof.Proof.Gen.ReferenceKvIdeal.Read
public import proofs.«01_k».proof.Proof.Sums
public import proofs.«01_k».proof.Proof.Reals
public import proofs.«01_k».proof.Proof.Halves
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceKvIdeal.Read

namespace Cert.KvValue
open Cert.KernelKvIdeal Cert.KernelKvIdeal.Gen
variable (m : (ℓ : Loc nD τ sig) → Buf (Elt Ideal) ℓ)

/-- Where each window's block lies at grid point `t`. -/
theorem place : ∀ t : Fin cfg0.N, win0_0.index t = ![t.val, 0] ∧ win0_1.index t = ![0, 0] ∧ win0_2.index t = ![0, 0, 0] ∧ win0_3.index t = ![t.val, 0]
    ∧ win0_4.index t = ![t.val, 0] ∧ win0_5.index t = ![t.val, 0] :=
  (by decide +kernel : ∀ t : Fin grid0.N, _)

/-- The memory of a batch element. -/
theorem memory (c : Dev nD) (t : Fin cfg0.N) (p : Fin 256) (q : Fin 1024) : iblk m c 0 t (ix2 p q) = m ((c : Thread nD τ).loc main_arg0) (ix3 (Fin.cast N_0 t) p q) := by
  blk_simp [iblk, place t]; entry_read; pointwise; blk_ext [place t]

theorem gain (c : Dev nD) (t : Fin cfg0.N) (q : Fin 1024) : iblk m c 1 t (ix2 0 q) = m ((c : Thread nD τ).loc main_arg1) (ix1 q) := by
  blk_simp [iblk, place t]; entry_read; pointwise; blk_ext [place t]

/-- Slab `s` of the projection holds its columns `512 * s + q`. -/
theorem slab (c : Dev nD) (t : Fin cfg0.N) (s : Fin 4) (p : Fin 1024) (q : Fin 512) :
    iblk m c 2 t (ix3 s p q) = m ((c : Thread nD τ).loc main_arg2) (ix3 0 p ⟨512 * s.val + q.val, by omega⟩) := by
  blk_simp [iblk, place t]; entry_read; pointwise; blk_ext [place t]

/-- The norm's block at a point. -/
def normedB (c : Dev nD) (t : Fin cfg0.N) : (⟨2, ![256, 1024]⟩ : Shape).Idx → EReal := fun i =>
  val_main_v12 (F := Ideal) (m ((c : Thread nD τ).loc main_arg0)) (m ((c : Thread nD τ).loc main_arg1)) (ix3 (Fin.cast N_0 t) (i 0) (i 1))
/-- Column `q` of the keys and values in a point's block. -/
def joinedAt (c : Dev nD) (t : Fin cfg0.N) (p : Fin 256) (q : Fin 2048) : EReal :=
  val_main_v14 (F := Ideal) (m ((c : Thread nD τ).loc main_arg0)) (m ((c : Thread nD τ).loc main_arg1)) (m ((c : Thread nD τ).loc main_arg2)) (ix3 (Fin.cast N_0 t) p q)
/-- The keys' block at a point. -/
def keysB (c : Dev nD) (t : Fin cfg0.N) : (⟨2, ![256, 1024]⟩ : Shape).Idx → EReal := fun i => joinedAt m c t (i 0) ⟨(i 1).val, by have h : (i 1).val < 1024 := (i 1).isLt; omega⟩
/-- The values' block at a point. -/
def valuesB (c : Dev nD) (t : Fin cfg0.N) : (⟨2, ![256, 1024]⟩ : Shape).Idx → EReal := fun i => joinedAt m c t (i 0) ⟨1024 + (i 1).val, by have h : (i 1).val < 1024 := (i 1).isLt; omega⟩

theorem normed_block (c : Dev nD) (t : Fin cfg0.N) : k0_pay3 (iblk m c 0 t) (iblk m c 1 t) = normedB m c t := by
  funext y
  obtain ⟨p, q, rfl⟩ : ∃ (p : Fin 256) (q : Fin 1024), y = ix2 p q := ⟨y 0, y 1, eq_ix2 y⟩
  unfold normedB
  pointwise [k0_pay3, val_main_v12, val_main_v11, val_main_v10, val_main_v9, val_main_v8, val_main_v7, val_main_v6, val_main_v5, val_main_cst_1, val_main_v4, val_main_v3, val_main_cst_0, val_main_v2, val_main_v1, val_main_cst, val_main_v0]
  simp only [memory, gain]
  rfl

/-- A half of the keys: slab `s` of the projection gives columns `512 * s + d`. -/
theorem part (c : Dev nD) (t : Fin cfg0.N) (s : Fin 4) (i) (p : Fin 256) (d : Fin 512) :
    k0_pay4 (iblk m c 0 t) (iblk m c 1 t) (View.ld (Val := Elt Ideal) (iblk m c 2 t) (Rect.unit (s := S4x1024x512) ![s.val, 0, 0] S1x1024x512.size i)) (ix2 p d)
      = joinedAt m c t p ⟨512 * s.val + d.val, by omega⟩ := by
  have e (k : Fin 1024) : View.ld (Val := Elt Ideal) (iblk m c 2 t) (Rect.unit (s := S4x1024x512) ![s.val, 0, 0] S1x1024x512.size i) (ix3 0 k d) = iblk m c 2 t (ix3 s k d) := by
    refine congrArg (iblk m c 2 t) (funext fun a => Fin.ext ?_)
    match a with
    | ⟨0, _⟩ => exact Nat.add_zero _
    | ⟨1, _⟩ => exact (Nat.zero_add _).trans (Nat.one_mul _)
    | ⟨2, _⟩ => exact (Nat.zero_add _).trans (Nat.one_mul _)
  unfold joinedAt
  pointwise [k0_pay4, val_main_v14, val_main_v13]
  simp only [normed_block, e, slab]
  rfl

theorem keys_left (c : Dev nD) (t : Fin cfg0.N) : out0_4 (iblk m c 0 t) (iblk m c 1 t) (iblk m c 2 t) = keysB m c t := by
  unfold out0_4
  frame_out
  refine Cert.Halves.halves (V := Elt Ideal) (e := .bf16) (by norm_num) (keysB m c t) _ _ _ _ (fun p d => ?_) fun p d => ?_
  · exact (part m c t 0 _ p d).trans (congrArg _ (Fin.ext (Nat.zero_add _)))
  · exact part m c t 1 _ p d

theorem values_left (c : Dev nD) (t : Fin cfg0.N) : out0_5 (iblk m c 0 t) (iblk m c 1 t) (iblk m c 2 t) = valuesB m c t := by
  unfold out0_5
  frame_out
  refine Cert.Halves.halves (V := Elt Ideal) (e := .bf16) (by norm_num) (valuesB m c t) _ _ _ _ (fun p d => ?_) fun p d => ?_
  · exact part m c t 2 _ p d
  · exact (part m c t 3 _ p d).trans (congrArg _ (Fin.ext (Nat.add_assoc 1024 512 _)))

/-- The norm of the memory. -/
theorem normedOut (c : Dev nD) : (dats m 0 c).arrAt 3 (cfgs 0).N = val_main_v16 (F := Ideal) (m ((c : Thread nD τ).loc main_arg0)) (m ((c : Thread nD τ).loc main_arg1)) := by
  refine (dats m 0 c).arrAt_eq_of_covers 3 _ (by decide +kernel) fun t hf y => ?_
  obtain ⟨p, q, rfl⟩ : ∃ (p : Fin 256) (q : Fin 1024), y = ix2 p q := ⟨y 0, y 1, eq_ix2 y⟩
  have h : t.val < 2 := (Fin.cast N_0 t).isLt
  have e : ((View.whole main_v6_0).slice (win0_3.rect t)).emb (ix2 p q) = ix2 ⟨t.val * 256 + p.val, by omega⟩ q := by blk_ext [place t]
  blk_simp
  rw [e, after0_3]
  unfold out0_3
  frame_out
  rw [normed_block]
  pointwise [val_main_v16, val_main_v15]
  rfl

/-- The memory's keys. -/
theorem keysOut (c : Dev nD) : (dats m 0 c).arrAt 4 (cfgs 0).N = val_main_v19 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨p, q, rfl⟩ : ∃ (p : Fin 256) (q : Fin 1024), y = ix2 p q := ⟨y 0, y 1, eq_ix2 y⟩
  have h : t.val < 2 := (Fin.cast N_0 t).isLt
  have e : ((View.whole main_v6_1).slice (win0_4.rect t)).emb (ix2 p q) = ix2 ⟨t.val * 256 + p.val, by omega⟩ q := by blk_ext [place t]
  blk_simp
  rw [e, after0_4, keys_left]
  pointwise [val_main_v19, val_main_v18, val_main_v17]
  rfl

/-- The memory's values. -/
theorem valuesOut (c : Dev nD) : (dats m 0 c).arrAt 5 (cfgs 0).N = val_main_v22 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨p, q, rfl⟩ : ∃ (p : Fin 256) (q : Fin 1024), y = ix2 p q := ⟨y 0, y 1, eq_ix2 y⟩
  have h : t.val < 2 := (Fin.cast N_0 t).isLt
  have e : ((View.whole main_v6_2).slice (win0_5.rect t)).emb (ix2 p q) = ix2 ⟨t.val * 256 + p.val, by omega⟩ q := by blk_ext [place t]
  blk_simp
  rw [e, after0_5, values_left]
  pointwise [val_main_v22, val_main_v21, val_main_v20]
  rfl

end Cert.KvValue

end
-- ==== Proof.KvEnd.lean ====
/- What is claimed of the memory's norm, keys and values. -/
module

public import proofs.«01_k».proof.Defs
public import proofs.«01_k».proof.Proof.Gen.KernelKv.Frame
public import proofs.«01_k».proof.Proof.Gen.ReferenceKvIdeal.Run
public import proofs.«01_k».proof.Proof.KvValue
public import Idealize.ShloMosaic.Adequacy
public import Idealize.ShloMosaic.Init

@[expose] public section

set_option maxRecDepth 16384
set_option maxHeartbeats 1000000

noncomputable section

namespace Cert.KvEnd

open Idealize.ShloMosaic Idealize.SL.Sem

theorem frame_kernel : Cert.quiescent_KernelKv := fun m g _ => Cert.KernelKv.Gen.frame m g

theorem frame_ideal : Cert.quiescent_KernelKvIdeal := fun m g _ => Cert.KernelKvIdeal.Gen.frame m g

theorem frame_reference : Cert.quiescent_ReferenceKvIdeal := fun m g _ =>
  (θ_run Cert.ReferenceKvIdeal.defs _ _).mono (fun r h => ⟨fun c => (h c).2.2.2, sem_eq_zero_of_no_sems (by decide) r.2⟩)
    (Cert.ReferenceKvIdeal.Value.run (F := Ideal) m g)

theorem algebraic : Cert.algebraic_KernelKvIdeal_ReferenceKvIdeal := by
  pair_intro
  · run_from Cert.KernelKvIdeal.Value.run_blocks m g
  · run_from Cert.ReferenceKvIdeal.Value.run m' g'
    · refine (Cert.ReferenceKvIdeal.Read.val_main_v16_eq (F := Ideal) (m ((c.tc : Thread Cert.KernelKvIdeal.nD Cert.KernelKvIdeal.τ).loc Cert.KernelKvIdeal.main_arg0)) (m ((c.tc : Thread Cert.KernelKvIdeal.nD Cert.KernelKvIdeal.τ).loc Cert.KernelKvIdeal.main_arg1))).trans ?_
      exact (Cert.KvValue.normedOut m c).symm
    · refine (Cert.ReferenceKvIdeal.Read.val_main_v19_eq (F := Ideal) (m ((c.tc : Thread Cert.KernelKvIdeal.nD Cert.KernelKvIdeal.τ).loc Cert.KernelKvIdeal.main_arg0)) (m ((c.tc : Thread Cert.KernelKvIdeal.nD Cert.KernelKvIdeal.τ).loc Cert.KernelKvIdeal.main_arg1)) (m ((c.tc : Thread Cert.KernelKvIdeal.nD Cert.KernelKvIdeal.τ).loc Cert.KernelKvIdeal.main_arg2))).trans ?_
      exact (Cert.KvValue.keysOut m c).symm
    · refine (Cert.ReferenceKvIdeal.Read.val_main_v22_eq (F := Ideal) (m ((c.tc : Thread Cert.KernelKvIdeal.nD Cert.KernelKvIdeal.τ).loc Cert.KernelKvIdeal.main_arg0)) (m ((c.tc : Thread Cert.KernelKvIdeal.nD Cert.KernelKvIdeal.τ).loc Cert.KernelKvIdeal.main_arg1)) (m ((c.tc : Thread Cert.KernelKvIdeal.nD Cert.KernelKvIdeal.τ).loc Cert.KernelKvIdeal.main_arg2))).trans ?_
      exact (Cert.KvValue.valuesOut m c).symm

end Cert.KvEnd

end
-- ==== Proof.FinValue.lean ====
/- The first norm, the input projection, and the forget gate's logarithm summed along the sequence. -/
module

public import proofs.«01_k».proof.Proof.Gen.KernelFinIdeal.Value
public import proofs.«01_k».proof.Proof.Gen.ReferenceFinIdeal.Read
public import proofs.«01_k».proof.Proof.Sums
public import proofs.«01_k».proof.Proof.Reals
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceFinIdeal.Read

namespace Cert.FinValue
open Cert.KernelFinIdeal Cert.KernelFinIdeal.Gen
variable (m : (ℓ : Loc nD τ sig) → Buf (Elt Ideal) ℓ)

/-- Where each window's block lies at grid point `t`. -/
theorem place : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_16.index t = ![t.val / 4, t.val % 4, 0, 0] :=
  (by decide +kernel : ∀ t : Fin grid0.N, _)

theorem lt (t : Fin cfg0.N) : t.val < 8 := (Fin.cast N_0 t).isLt

/-- The sequence of a point. -/
def seq (t : Fin cfg0.N) : Fin 2 := ⟨t.val / 4, by have := lt t; omega⟩
/-- The place in its sequence of row `p` of a point's block. -/
def pos (t : Fin cfg0.N) (p : Fin 512) : Fin 2048 := ⟨t.val % 4 * 512 + p.val, by omega⟩
theorem seq_of (t : Fin cfg0.N) (p : Fin 512) (h) : (⟨(t.val * 512 + p.val) / 2048, h⟩ : Fin 2) = seq t := Fin.ext (by simp only [seq]; omega)
theorem pos_of (t : Fin cfg0.N) (p : Fin 512) (h) : (⟨(t.val * 512 + p.val) % 2048, h⟩ : Fin 2048) = pos t p := Fin.ext (by simp only [pos]; omega)
theorem bound (t : Fin cfg0.N) (p : Fin 512) : t.val * 512 + p.val < 4096 := by have := lt t; omega

/-- A padding's integer zero is zero. -/
theorem nil (φ : FTy) : FloatOps.sitofp (F := Ideal) φ 0#32 = (0 : EReal) := by
  show (((0#32).toInt : ℝ) : EReal) = 0
  simp

theorem rows (c : Dev nD) (t : Fin cfg0.N) (p : Fin 512) (q : Fin 1024) : iblk m c 0 t (ix2 p q) = m ((c : Thread nD τ).loc main_arg0) (ix3 (seq t) (pos t p) q) := by
  have e : ((View.whole main_v6).slice (win0_0.rect t)).emb (ix2 p q) = ix2 ⟨t.val * 512 + p.val, bound t p⟩ q := by blk_ext [place t]
  blk_simp [iblk]; rw [e]; simp only [V, hostOps0, hostOps0_1, hostOps0_2, hostOps0_3, hostOps0_4, List.flatten_cons, List.flatten_nil, List.cons_append, List.nil_append, List.append_nil]; entry_read; pointwise; simp only [seq_of, pos_of]

theorem gain (c : Dev nD) (t : Fin cfg0.N) (q : Fin 1024) : iblk m c 1 t (ix2 0 q) = m ((c : Thread nD τ).loc main_arg1) (ix2 0 q) := by
  blk_simp [iblk, place t]; entry_read; pointwise; blk_ext [place t]

theorem weight (c : Dev nD) (t : Fin cfg0.N) (r : Fin 2568) (k : Fin 1024) : iblk m c 2 t (ix2 r k) = m ((c : Thread nD τ).loc main_arg2) (ix3 0 k r) := by
  have e : ((View.whole main_v2).slice (win0_2.rect t)).emb (ix2 r k) = ix2 r k := by blk_ext [place t]
  blk_simp [iblk]; rw [e]; simp only [V, hostOps0, hostOps0_1, hostOps0_2, hostOps0_3, hostOps0_4, List.flatten_cons, List.flatten_nil, List.cons_append, List.nil_append, List.append_nil]; entry_read; pointwise

/-- The forget gate's rows of the projection, padded with zeros. -/
theorem gateweight (c : Dev nD) (t : Fin cfg0.N) (r : Fin 128) (k : Fin 1024) :
    iblk m c 3 t (ix2 r k) = if h : r.val < 8 then m ((c : Thread nD τ).loc main_arg2) (ix3 0 k ⟨2560 + r.val, by omega⟩) else (0 : EReal) := by
  have e : ((View.whole main_v4).slice (win0_3.rect t)).emb (ix2 r k) = ix2 r k := by blk_ext [place t]
  blk_simp [iblk]
  rw [e]; simp only [V, hostOps0, hostOps0_1, hostOps0_2, hostOps0_3, hostOps0_4, List.flatten_cons, List.flatten_nil, List.cons_append, List.nil_append, List.append_nil]; entry_read; simp only [StableHlo.TRef.ofBuf, StableHlo.TRef.toBuf, cast_cast, cast_eq]; pointwise [nil]

/-- The forget gate's bias, padded with zeros. -/
theorem gatebias (c : Dev nD) (t : Fin cfg0.N) (r : Fin 128) :
    iblk m c 4 t (ix2 0 r) = if h : r.val < 8 then m ((c : Thread nD τ).loc main_arg3) (ix2 0 ⟨r.val, h⟩) else (0 : EReal) := by
  have e : ((View.whole main_v5).slice (win0_4.rect t)).emb (ix2 0 r) = ix2 0 r := by blk_ext [place t]
  blk_simp [iblk]
  rw [e]; simp only [V, hostOps0, hostOps0_1, hostOps0_2, hostOps0_3, hostOps0_4, List.flatten_cons, List.flatten_nil, List.cons_append, List.nil_append, List.append_nil]; entry_read; simp only [StableHlo.TRef.ofBuf, StableHlo.TRef.toBuf, cast_cast, cast_eq]; pointwise [nil]

/-- The norm's block at a point. -/
def normedB (c : Dev nD) (t : Fin cfg0.N) : (⟨2, ![512, 1024]⟩ : Shape).Idx → EReal := fun i =>
  val_main_v13 (F := Ideal) (m ((c : Thread nD τ).loc main_arg0)) (m ((c : Thread nD τ).loc main_arg1)) (ix3 (seq t) (pos t (i 0)) (i 1))

theorem normed_block (c : Dev nD) (t : Fin cfg0.N) : k0_pay4 (iblk m c 0 t) (iblk m c 1 t) = normedB m c t := by
  funext y
  obtain ⟨p, q, rfl⟩ : ∃ (p : Fin 512) (q : Fin 1024), y = ix2 p q := ⟨y 0, y 1, eq_ix2 y⟩
  unfold normedB
  pointwise [k0_pay4, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  simp only [rows, gain]

/-- A column of the projection, at a row of a point's block. -/
def column (c : Dev nD) (t : Fin cfg0.N) (p : Fin 512) (r : Fin 2568) : EReal :=
  val_main_v15 (F := Ideal) (m ((c : Thread nD τ).loc main_arg0)) (m ((c : Thread nD τ).loc main_arg1)) (m ((c : Thread nD τ).loc main_arg2)) (ix3 (seq t) (pos t p) r)

theorem column_eq (c : Dev nD) (t : Fin cfg0.N) (p : Fin 512) (r : Fin 2568) :
    (∑ k : Fin 1024, (normedB m c t (ix2 p k) : EReal) * (m ((c : Thread nD τ).loc main_arg2) (ix3 0 k r) : EReal)) = column m c t p r := by
  unfold column normedB
  pointwise [val_main_v15, val_main_v14]

/-- 512 rows of the projection from row `o` on, as a point reads them. -/
abbrev slab (c : Dev nD) (t : Fin cfg0.N) (o : ℕ) (i : ∀ a, (![o, 0] : Fin 2 → ℕ) a + S512x1024.size a ≤ S2568x1024.size a) : Vec Ideal S512x1024 .bf16 := View.ld (Val := Elt Ideal) (iblk m c 2 t) (Rect.unit (s := S2568x1024) ![o, 0] S512x1024.size i)

theorem slab_eq (c : Dev nD) (t : Fin cfg0.N) (o : ℕ) (i) (ho : o + 512 ≤ 2568) (q : Fin 512) (k : Fin 1024) :
    slab m c t o i (ix2 q k) = m ((c : Thread nD τ).loc main_arg2) (ix3 0 k ⟨o + q.val, by omega⟩) := by
  rw [← weight m c t]
  refine congrArg (iblk m c 2 t) (funext fun a => Fin.ext ?_)
  match a with
  | ⟨0, _⟩ => exact congrArg (o + ·) (Nat.one_mul _)
  | ⟨1, _⟩ => exact (Nat.zero_add _).trans (Nat.one_mul _)

/-- A row of the products with the forget gate's weights, and what it is before and after the logarithm of the logistic function. -/
abbrev raw (c : Dev nD) (t : Fin cfg0.N) := k0_pay14 (F := Ideal) (k0_pay4 (iblk m c 0 t) (iblk m c 1 t)) (iblk m c 3 t)
abbrev sums (c : Dev nD) (t : Fin cfg0.N) := k0_pay17 (F := Ideal) (raw m c t) (k0_pay15 (iblk m c 4 t))
abbrev zeros : FVec Ideal S512x512 .f32 := constant S512x512 .f32 0x00000000#32
abbrev query (c : Dev nD) (t : Fin cfg0.N) := k0_pay7 (F := Ideal) (slab m c t 1024 inb_S2568x1024_S512x1024_1024_0)

/-- The newest store of a scratch's first row, read back there. -/
theorem top (w : S1x128.Idx → Elt Ideal .f32) (L : List (View.Piece (Elt Ideal) S8x128 .f32)) (q : Fin 128) :
    View.canon ((⟨Rect.unit (s := S8x128) ![0, 0] ![1, 128] inb_S8x128_S1x128_0_0, w⟩ : View.Piece (Elt Ideal) S8x128 .f32) :: L) (ix2 0 q) = w (ix2 0 q) := by
  have e : (Rect.unit (s := S8x128) ![0, 0] ![1, 128] inb_S8x128_S1x128_0_0).emb (ix2 0 q : S1x128.Idx) = ix2 0 q :=
    funext fun a => Fin.ext (by match a with | ⟨0, _⟩ => rfl | ⟨1, _⟩ => exact (Nat.zero_add _).trans (Nat.one_mul _))
  rw [← e]
  exact View.canon_cons_emb _ _ _ _

/-- What a point leaves, over the row `r` carried into it. -/
theorem point (c : Dev nD) (t : Fin cfg0.N) : ∃ r : Vec Ideal S1x128 .f32,
    (∀ q : Fin 128, r (ix2 0 q) = if t.val % 4 = 0 then (0 : EReal) else (outsAt0 m c (t.val - 1) (by have := t.isLt; omega)).2.2.2.2.2.2.2.2.2.2.2.2 (ix2 0 q))
    ∧ (outsAt0 m c t.val t.isLt).1 = k0_pay4 (iblk m c 0 t) (iblk m c 1 t)
    ∧ (outsAt0 m c t.val t.isLt).2.1 = k0_pay5 (iblk m c 0 t) (iblk m c 1 t) (slab m c t 0 inb_S2568x1024_S512x1024_0_0)
    ∧ (outsAt0 m c t.val t.isLt).2.2.1 = k0_pay6 (iblk m c 0 t) (iblk m c 1 t) (slab m c t 512 inb_S2568x1024_S512x1024_512_0)
    ∧ (outsAt0 m c t.val t.isLt).2.2.2.1 = k0_pay9 (k0_pay4 (iblk m c 0 t) (iblk m c 1 t)) (query m c t) zeros
    ∧ (outsAt0 m c t.val t.isLt).2.2.2.2.1 = k0_pay10 (k0_pay4 (iblk m c 0 t) (iblk m c 1 t)) (slab m c t 1536 inb_S2568x1024_S512x1024_1536_0)
    ∧ (outsAt0 m c t.val t.isLt).2.2.2.2.2.1 = k0_pay13 (k0_pay4 (iblk m c 0 t) (iblk m c 1 t)) (slab m c t 2048 inb_S2568x1024_S512x1024_2048_0)
    ∧ (outsAt0 m c t.val t.isLt).2.2.2.2.2.2.1 = k0_pay16 (raw m c t) (k0_pay15 (iblk m c 4 t))
    ∧ (outsAt0 m c t.val t.isLt).2.2.2.2.2.2.2.1 = k0_pay19 (sums m c t) (k0_pay18 r)
    ∧ (outsAt0 m c t.val t.isLt).2.2.2.2.2.2.2.2.1 = k0_pay28 k0_pay21 (k0_pay24 (sums m c t) (k0_pay18 r)) (k0_pay25 (sums m c t) (k0_pay18 r)) (k0_pay26 (sums m c t) (k0_pay18 r)) k0_pay27
    ∧ (outsAt0 m c t.val t.isLt).2.2.2.2.2.2.2.2.2.2.2.1 = View.canon [⟨Rect.unit (s := S1x2x512x256) ![0, 1, 0, 0] S1x1x512x256.size inb_S1x2x512x256_S1x1x512x256_0_1_0_0, k0_pay12 (k0_pay4 (iblk m c 0 t) (iblk m c 1 t)) (query m c t) zeros⟩,
      ⟨Rect.unit (s := S1x2x512x256) ![0, 0, 0, 0] S1x1x512x256.size inb_S1x2x512x256_S1x1x512x256_0_0_0_0, k0_pay11 (k0_pay4 (iblk m c 0 t) (iblk m c 1 t)) (query m c t) zeros⟩]
    ∧ ∀ q : Fin 128, (outsAt0 m c t.val t.isLt).2.2.2.2.2.2.2.2.2.2.2.2 (ix2 0 q) = k0_pay20 (sums m c t) (k0_pay18 r) (ix2 0 q) := by
  by_cases u : t.val % 4 = 0
  · rw [outsAt0_A m c t u]
    refine ⟨_, fun q => ?_, funext fun j => by frame_out, funext fun j => by frame_out <;> rfl, funext fun j => by frame_out <;> rfl, funext fun j => by frame_out <;> rfl, funext fun j => by frame_out <;> rfl, funext fun j => by frame_out <;> rfl, funext fun j => by frame_out <;> rfl, funext fun j => by frame_out <;> rfl, funext fun j => by frame_out <;> rfl, funext fun j => by frame_out <;> rfl, fun q => ?_⟩
    · rw [if_pos u, View.readCov_fill]
      pointwise! [k0_pay3]
    · frame_out
      rw [top]
  · rw [outsAt0_B m c t u]
    refine ⟨_, fun q => ?_, funext fun j => by frame_out, funext fun j => by frame_out <;> rfl, funext fun j => by frame_out <;> rfl, funext fun j => by frame_out <;> rfl, funext fun j => by frame_out <;> rfl, funext fun j => by frame_out <;> rfl, funext fun j => by frame_out <;> rfl, funext fun j => by frame_out <;> rfl, funext fun j => by frame_out <;> rfl, funext fun j => by frame_out <;> rfl, fun q => ?_⟩
    · rw [if_neg u, (Memref.isWhole_whole _).read_unread]
      pointwise
    · frame_out
      rw [View.read_writes_cons_hit_of_coords _ _ _ _ _ (ix2 0 q : S1x128.Idx) _ (by intro a; match a with | ⟨0, _⟩ => rfl | ⟨1, _⟩ => simp)]

/-- The norm. -/
theorem normedOut (c : Dev nD) : (dats m 0 c).arrAt 5 (cfgs 0).N = val_main_v29 (F := Ideal) (m ((c : Thread nD τ).loc main_arg0)) (m ((c : Thread nD τ).loc main_arg1)) := by
  refine (dats m 0 c).arrAt_eq_of_covers 5 _ (by decide +kernel) fun t hf y => ?_
  obtain ⟨p, q, rfl⟩ : ∃ (p : Fin 512) (q : Fin 1024), y = ix2 p q := ⟨y 0, y 1, eq_ix2 y⟩
  have e : ((View.whole main_v7_0).slice (win0_5.rect t)).emb (ix2 p q) = ix2 ⟨t.val * 512 + p.val, bound t p⟩ q := by blk_ext [place t]
  obtain ⟨r, -, h, -⟩ := point m c t
  blk_simp
  rw [e, after0_5, h, normed_block]
  pointwise [val_main_v29, val_main_v28]
  simp only [seq_of, pos_of]
  rfl

/-- The convolution's input. -/
theorem partOut (c : Dev nD) : (dats m 0 c).arrAt 6 (cfgs 0).N = val_main_v30 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨p, q, rfl⟩ : ∃ (p : Fin 512) (q : Fin 512), y = ix2 p q := ⟨y 0, y 1, eq_ix2 y⟩
  have e : ((View.whole main_v7_1).slice (win0_6.rect t)).emb (ix2 p q) = ix2 ⟨t.val * 512 + p.val, bound t p⟩ q := by blk_ext [place t]
  obtain ⟨r, -, -, h, -⟩ := point m c t
  blk_simp
  rw [e, after0_6, h]
  pointwise [k0_pay5, val_main_v30, val_main_v16]
  simp only [normed_block, slab_eq m c t 0 _ (by norm_num), column_eq, zero_add, seq_of, pos_of]
  rfl

/-- The convolution's gate. -/
theorem gateOut (c : Dev nD) : (dats m 0 c).arrAt 7 (cfgs 0).N = val_main_v31 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨p, q, rfl⟩ : ∃ (p : Fin 512) (q : Fin 512), y = ix2 p q := ⟨y 0, y 1, eq_ix2 y⟩
  have e : ((View.whole main_v7_2).slice (win0_7.rect t)).emb (ix2 p q) = ix2 ⟨t.val * 512 + p.val, bound t p⟩ q := by blk_ext [place t]
  obtain ⟨r, -, -, -, h, -⟩ := point m c t
  blk_simp
  rw [e, after0_7, h]
  pointwise [k0_pay6, val_main_v31, val_main_v17]
  simp only [normed_block, slab_eq m c t 512 _ (by norm_num), column_eq, seq_of, pos_of]
  rfl

/-- The queries. -/
theorem queryOut (c : Dev nD) : (dats m 0 c).arrAt 8 (cfgs 0).N = val_main_v33 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  obtain ⟨p, q, rfl⟩ : ∃ (p : Fin 512) (q : Fin 512), y = ix2 p q := ⟨y 0, y 1, eq_ix2 y⟩
  have e : ((View.whole main_v7_3).slice (win0_8.rect t)).emb (ix2 p q) = ix2 ⟨t.val * 512 + p.val, bound t p⟩ q := by blk_ext [place t]
  obtain ⟨r, -, -, -, -, h, -⟩ := point m c t
  blk_simp
  rw [e, after0_8, h]
  pointwise [k0_pay9, k0_pay8, k0_pay7, val_main_v33, val_main_v32, val_main_v18]
  simp only [normed_block, slab_eq m c t 1024 _ (by norm_num), column_eq, seq_of, pos_of]
  rfl

/-- The keys. -/
theorem keyOut (c : Dev nD) : (dats m 0 c).arrAt 9 (cfgs 0).N = val_main_v35 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  obtain ⟨p, q, rfl⟩ : ∃ (p : Fin 512) (q : Fin 512), y = ix2 p q := ⟨y 0, y 1, eq_ix2 y⟩
  have e : ((View.whole main_v7_4).slice (win0_9.rect t)).emb (ix2 p q) = ix2 ⟨t.val * 512 + p.val, bound t p⟩ q := by blk_ext [place t]
  obtain ⟨r, -, -, -, -, -, h, -⟩ := point m c t
  blk_simp
  rw [e, after0_9, h]
  pointwise [k0_pay10, val_main_v35, val_main_v34, val_main_v19]
  simp only [normed_block, slab_eq m c t 1536 _ (by norm_num), column_eq, seq_of, pos_of]
  rfl

/-- The values. -/
theorem valueOut (c : Dev nD) : (dats m 0 c).arrAt 10 (cfgs 0).N = val_main_v37 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  obtain ⟨p, q, rfl⟩ : ∃ (p : Fin 512) (q : Fin 512), y = ix2 p q := ⟨y 0, y 1, eq_ix2 y⟩
  have e : ((View.whole main_v7_5).slice (win0_10.rect t)).emb (ix2 p q) = ix2 ⟨t.val * 512 + p.val, bound t p⟩ q := by blk_ext [place t]
  obtain ⟨r, -, -, -, -, -, -, h, -⟩ := point m c t
  blk_simp
  rw [e, after0_10, h]
  pointwise [k0_pay13, val_main_v37, val_main_v36, val_main_v20]
  simp only [normed_block, slab_eq m c t 2048 _ (by norm_num), column_eq, seq_of, pos_of]
  rfl

theorem raw_eq (c : Dev nD) (t : Fin cfg0.N) (p : Fin 512) (q : Fin 128) : raw m c t (ix2 p q) = if h : q.val < 8 then column m c t p ⟨2560 + q.val, by omega⟩ else (0 : EReal) := by
  unfold raw
  pointwise [k0_pay14]
  simp only [normed_block, gateweight]
  by_cases u : q.val < 8
  · simp only [u, dif_pos, column_eq]
  · simp only [u, dif_neg, not_false_eq_true, mul_zero, Finset.sum_const_zero]

/-- The gate before its logistic function. -/
theorem before (c : Dev nD) (t : Fin cfg0.N) (p : Fin 512) (q : Fin 128) : k0_pay16 (raw m c t) (k0_pay15 (iblk m c 4 t)) (ix2 p q)
    = if h : q.val < 8 then val_main_v25 (F := Ideal) (m ((c : Thread nD τ).loc main_arg0)) (m ((c : Thread nD τ).loc main_arg1)) (m ((c : Thread nD τ).loc main_arg2)) (m ((c : Thread nD τ).loc main_arg3)) (ix3 (seq t) (pos t p) ⟨q.val, h⟩) else (0 : EReal) := by
  pointwise [k0_pay16, k0_pay15]
  rw [raw_eq, gatebias]
  by_cases u : q.val < 8
  · simp only [u, dif_pos, column]
    pointwise [val_main_v25, val_main_v24, val_main_v23, val_main_v22, val_main_v21]
  · simp only [u, dif_neg, not_false_eq_true, add_zero]

/-- The gate before its logistic function, padded. -/
theorem beforeOut (c : Dev nD) : (dats m 0 c).arrAt 11 (cfgs 0).N = val_main_v39 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  obtain ⟨p, q, rfl⟩ : ∃ (p : Fin 512) (q : Fin 128), y = ix2 p q := ⟨y 0, y 1, eq_ix2 y⟩
  have e : ((View.whole main_v7_6).slice (win0_11.rect t)).emb (ix2 p q) = ix2 ⟨t.val * 512 + p.val, bound t p⟩ q := by blk_ext [place t]
  obtain ⟨r, -, -, -, -, -, -, -, h, -⟩ := point m c t
  blk_simp
  rw [e, after0_11, h, before]
  pointwise [val_main_v39, val_main_v38, val_main_call2_v0, val_main_c, nil]
  simp only [bound t p, true_and, seq_of, pos_of]

/-- The logarithm of the gate at a place of a sequence, zero in the columns of the padding. -/
def logs (c : Dev nD) (b : Fin 2) (q : Fin 128) (s : Fin 2048) : EReal :=
  if h : q.val < 8 then val_main_v26 (F := Ideal) (m ((c : Thread nD τ).loc main_arg0)) (m ((c : Thread nD τ).loc main_arg1)) (m ((c : Thread nD τ).loc main_arg2)) (m ((c : Thread nD τ).loc main_arg3)) (ix3 b s ⟨q.val, h⟩) else 0

theorem narrow (q : Fin 128) : IntOp.cmpi CmpIPredicate.slt (BitVec.ofNat 32 q.val) 8#32 = if q.val < 8 then 1#1 else 0#1 := by
  revert q; decide +kernel

/-- What the proof asks of the arguments: every element is a real number. -/
def fin (c : Dev nD) : Prop := (∀ i, Cert.Reals.Is (m ((c : Thread nD τ).loc main_arg0) i)) ∧ (∀ i, Cert.Reals.Is (m ((c : Thread nD τ).loc main_arg1) i))
  ∧ (∀ i, Cert.Reals.Is (m ((c : Thread nD τ).loc main_arg2) i)) ∧ (∀ i, Cert.Reals.Is (m ((c : Thread nD τ).loc main_arg3) i))

theorem gate_is (c : Dev nD) (h : fin m c) (b : Fin 2) (s : Fin 2048) (q : Fin 8) : Cert.Reals.Is (val_main_v25 (F := Ideal) (m ((c : Thread nD τ).loc main_arg0)) (m ((c : Thread nD τ).loc main_arg1)) (m ((c : Thread nD τ).loc main_arg2)) (m ((c : Thread nD τ).loc main_arg3)) (ix3 b s q)) := by
  have f (k : Fin 1024) : Cert.Reals.Is (val_main_v13 (F := Ideal) (m ((c : Thread nD τ).loc main_arg0)) (m ((c : Thread nD τ).loc main_arg1)) (ix3 b s k)) := by
    pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
    exact ((h.1 _).mul (Cert.Reals.Is.rsqrt fun k => h.1 _)).mul (h.2.1 _)
  pointwise [val_main_v25, val_main_v24, val_main_v23, val_main_v22, val_main_v21, val_main_v15, val_main_v14]
  exact (Cert.Reals.Is.sum fun k => (f k).mul (h.2.2.1 _)).add (h.2.2.2 _)

/-- The logarithm of the logistic function, in the kernel's form and in the reference's. -/
theorem logistic {z : EReal} (h : Cert.Reals.Is z) : ∃ l : ℝ, min z 0 - Ideal.log (1 + Ideal.exp (0 - FloatOps.absf (F := Ideal) (φ := .f32) z)) = (l : EReal)
    ∧ -(max (-z) 0 + Ideal.log1p (Ideal.exp (-FloatOps.absf (F := Ideal) (φ := .f32) (-z)))) = (l : EReal) := by
  obtain ⟨a, rfl⟩ := h
  have f : FloatOps.absf (F := Ideal) (φ := .f32) (a : EReal) = ((max a (-a) : ℝ) : EReal) := by
    show max (a : EReal) (-(a : EReal)) = _
    rw [← EReal.coe_neg, EReal.coe_strictMono.monotone.map_max]
  have f' : FloatOps.absf (F := Ideal) (φ := .f32) (-(a : EReal)) = ((max a (-a) : ℝ) : EReal) := by
    show max (-(a : EReal)) (- -(a : EReal)) = _
    rw [neg_neg, max_comm]; exact f
  have g : Ideal.log (1 + Ideal.exp (-((max a (-a) : ℝ) : EReal))) = ((Real.log (1 + Real.exp (-max a (-a))) : ℝ) : EReal) := by
    rw [← EReal.coe_neg]
    show Ideal.log (1 + ((Real.exp _ : ℝ) : EReal)) = _
    rw [← EReal.coe_one, ← EReal.coe_add, Ideal.log_coe, if_neg (not_le.mpr (by positivity))]
  refine ⟨min a 0 - Real.log (1 + Real.exp (-max a (-a))), ?_, ?_⟩
  · rw [f, zero_sub, g, EReal.coe_sub, EReal.coe_strictMono.monotone.map_min, EReal.coe_zero]
  · rw [f']
    show -(_ + Ideal.log (1 + Ideal.exp (-((max a (-a) : ℝ) : EReal)))) = _
    rw [g, ← EReal.coe_neg, ← EReal.coe_zero, ← EReal.coe_strictMono.monotone.map_max, ← EReal.coe_add, ← EReal.coe_neg]
    congr 1
    rcases le_total a 0 with h | h
    · rw [max_eq_left (by linarith), min_eq_left h]; ring
    · rw [max_eq_right (by linarith), min_eq_right h]; ring

theorem log_eq (c : Dev nD) (b : Fin 2) (s : Fin 2048) (q : Fin 8) : val_main_v26 (F := Ideal) (m ((c : Thread nD τ).loc main_arg0)) (m ((c : Thread nD τ).loc main_arg1)) (m ((c : Thread nD τ).loc main_arg2)) (m ((c : Thread nD τ).loc main_arg3)) (ix3 b s q)
    = -(max (-(val_main_v25 (F := Ideal) (m ((c : Thread nD τ).loc main_arg0)) (m ((c : Thread nD τ).loc main_arg1)) (m ((c : Thread nD τ).loc main_arg2)) (m ((c : Thread nD τ).loc main_arg3)) (ix3 b s q) : EReal)) 0 + Ideal.log1p (Ideal.exp (-FloatOps.absf (F := Ideal) (φ := .f32) (-(val_main_v25 (F := Ideal) (m ((c : Thread nD τ).loc main_arg0)) (m ((c : Thread nD τ).loc main_arg1)) (m ((c : Thread nD τ).loc main_arg2)) (m ((c : Thread nD τ).loc main_arg3)) (ix3 b s q) : EReal))))) := by
  pointwise [val_main_v26, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1]
  rw [if_neg (not_not.mpr rfl)]

theorem logs_is (c : Dev nD) (h : fin m c) (b : Fin 2) (q : Fin 128) (s : Fin 2048) : Cert.Reals.Is (logs m c b q s) := by
  unfold logs; split
  · rw [log_eq]; exact let ⟨l, _, e⟩ := logistic (gate_is m c h b s _); ⟨l, e⟩
  · exact Cert.Reals.Is.zero

/-- The matrix of ones at and below its diagonal. -/
theorem triangle (φ : FTy) (p k : Fin 512) : FloatOps.sitofp (F := Ideal) φ (BitVec.setWidth 32 (IntOp.cmpi CmpIPredicate.sge (BitVec.ofNat 32 p.val) (BitVec.ofNat 32 k.val))) = if k.val < p.val + 1 then (1 : EReal) else 0 := by
  have e (n : Fin 512) : (BitVec.ofNat 32 n.val).toInt = (n.val : Int) := by revert n; decide +kernel
  show (((BitVec.setWidth 32 _).toInt : ℝ) : EReal) = _
  simp only [IntOp.cmpi, BitVec.sle, e, Nat.cast_le, ← Nat.lt_succ_iff, Nat.succ_eq_add_one]
  by_cases h : k.val < p.val + 1
  · simp [h]
  · simp only [h, decide_false, if_false]; simp

/-- The sums of the logarithms over the rows of a block, up to each row. -/
theorem sums_eq (c : Dev nD) (h : fin m c) (t : Fin cfg0.N) (p : Fin 512) (q : Fin 128) :
    sums m c t (ix2 p q) = ∑ k : Fin 512, if k.val < p.val + 1 then logs m c (seq t) q (pos t k) else 0 := by
  by_cases u : q.val < 8
  · have e (k : Fin 512) : min (k0_pay16 (raw m c t) (k0_pay15 (iblk m c 4 t)) (ix2 k q) : EReal) 0 - Ideal.log (1 + Ideal.exp (0 - FloatOps.absf (F := Ideal) (φ := .f32) (k0_pay16 (raw m c t) (k0_pay15 (iblk m c 4 t)) (ix2 k q)))) = logs m c (seq t) q (pos t k) := by
      rw [before, dif_pos u, logs, dif_pos u, log_eq]
      obtain ⟨l, e1, e2⟩ := logistic (gate_is m c h (seq t) (pos t k) ⟨q.val, u⟩)
      exact e1.trans e2.symm
    have z (k : Fin 512) : logs m c (seq t) q (pos t k) - logs m c (seq t) q (pos t k) = 0 := by
      obtain ⟨a, e⟩ := logs_is m c h (seq t) q (pos t k)
      rw [e, ← EReal.coe_sub, sub_self, EReal.coe_zero]
    pointwise [k0_pay17]
    have s1 (x y : EReal) : Scalar.select (α := EReal) 1#1 x y = x := rfl
    simp only [narrow, u, if_true, s1, e, z, triangle, sub_zero, mul_zero, Finset.sum_const_zero, add_zero, ite_mul, one_mul, zero_mul]
  · pointwise [k0_pay17]
    have s0 (x y : EReal) : Scalar.select (α := EReal) 0#1 x y = y := rfl
    simp only [narrow, u, if_false, s0, logs, dif_neg, not_false_eq_true, sub_zero, mul_zero, ite_self, Finset.sum_const_zero, add_zero]

/-- A sum up to a place, taken along the numbers. -/
theorem up_to (n u : ℕ) (hu : u ≤ n) (g : ℕ → EReal) : (∑ s : Fin n, if s.val < u then g s.val else 0) = ∑ s ∈ Finset.range u, g s := by
  rw [Fin.sum_univ_eq_sum_range (fun s => if s < u then g s else 0), ← Finset.sum_filter]
  congr 1
  ext k; simp only [Finset.mem_filter, Finset.mem_range]; omega

/-- The sum of the rows before a block and of the block's rows. -/
theorem ahead (f : Fin 2048 → EReal) (j : ℕ) (h : j < 4) (p : Fin 512) :
    (∑ k : Fin 512, if k.val < p.val + 1 then f ⟨j * 512 + k.val, by omega⟩ else 0) + (∑ s : Fin 2048, if s.val < j * 512 then f s else 0)
      = ∑ s : Fin 2048, if s.val < j * 512 + p.val + 1 then f s else 0 := by
  let g (s : ℕ) : EReal := if h : s < 2048 then f ⟨s, h⟩ else 0
  have e (s : Fin 2048) : f s = g s.val := by simp only [g, s.isLt, dif_pos]
  have e' (k : Fin 512) : f ⟨j * 512 + k.val, by omega⟩ = g (j * 512 + k.val) := e _
  simp only [e', e]
  rw [up_to 2048 _ (by omega) g, up_to 2048 _ (by omega) g, up_to 512 (p.val + 1) (by omega) (fun k => g (j * 512 + k)), add_comm, ← Finset.sum_range_add]
  rfl

/-- The row a point carries on: the sums up to the end of its block. -/
theorem carried (c : Dev nD) (h : fin m c) (q : Fin 128) : ∀ (n : ℕ) (hn : n < cfg0.N),
    (outsAt0 m c n hn).2.2.2.2.2.2.2.2.2.2.2.2 (ix2 0 q) = ∑ s : Fin 2048, if s.val < n % 4 * 512 + 511 + 1 then logs m c (seq ⟨n, hn⟩) q s else 0 := by
  intro n
  induction n using Nat.strong_induction_on with
  | _ n ih =>
    intro hn
    obtain ⟨r, hr, -, -, -, -, -, -, -, -, -, -, hs⟩ := point m c ⟨n, hn⟩
    rw [hs q]
    pointwise [k0_pay20]
    pointwise [k0_pay19]
    have e0 : k0_pay18 r (ix2 511 q) = r (ix2 0 q) := by pointwise [k0_pay18]
    rw [sums_eq m c h, e0, hr q]
    refine Eq.trans (congrArg (_ + ·) ?_) (ahead (logs m c (seq ⟨n, hn⟩) q) (n % 4) (by omega) 511)
    split
    · rename_i u
      exact (Finset.sum_eq_zero fun s _ => if_neg (by simp only at u; omega)).symm
    · rename_i u
      simp only at u
      rw [ih (n - 1) (by omega)]
      have e1 : (n - 1) % 4 * 512 + 511 + 1 = n % 4 * 512 := by omega
      have e2 : seq ⟨n - 1, by omega⟩ = seq ⟨n, hn⟩ := Fin.ext (by simp only [seq]; omega)
      simp only [e1, e2]

/-- Adding up along a list. -/
theorem folded {κ : Type} (g : κ → EReal) (l : List κ) (v : EReal) : l.foldl (fun r n => r + g n) v = v + (l.map g).sum := by
  induction l generalizing v with
  | nil => simp
  | cons a l ih => rw [List.foldl_cons, ih, List.map_cons, List.sum_cons, add_assoc]

/-- The cumulative sum, as a sum of the places up to each. -/
theorem cumulative (c : Dev nD) (b : Fin 2) (s : Fin 2048) (q : Fin 8) :
    val_main_v27 (F := Ideal) (m ((c : Thread nD τ).loc main_arg0)) (m ((c : Thread nD τ).loc main_arg1)) (m ((c : Thread nD τ).loc main_arg2)) (m ((c : Thread nD τ).loc main_arg3)) (ix3 b s q) = ∑ k : Fin 2048, if k.val < s.val + 1 then (val_main_v26 (F := Ideal) (m ((c : Thread nD τ).loc main_arg0)) (m ((c : Thread nD τ).loc main_arg1)) (m ((c : Thread nD τ).loc main_arg2)) (m ((c : Thread nD τ).loc main_arg3)) (ix3 b k q) : EReal) else 0 := by
  unfold val_main_v27
  generalize val_main_v26 (F := Ideal) (m ((c : Thread nD τ).loc main_arg0)) (m ((c : Thread nD τ).loc main_arg1)) (m ((c : Thread nD τ).loc main_arg2)) (m ((c : Thread nD τ).loc main_arg3)) = x
  have z : val_main_call1_call0_v0 (F := Ideal) (Shape.Idx.first Cert.ReferenceFinIdeal.Gen.h_S_) = (0 : EReal) := by
    pointwise [val_main_call1_call0_v0, val_main_call1_call0_cst]
  let g (n : ℕ) : EReal := if h : n < 2048 then x (ix3 b ⟨n, h⟩ q) else 0
  let G (w : (⟨3, ![1, 2048, 1]⟩ : Shape).Idx) : EReal := if hin : ∀ a : Fin 3, (![0, 2047, 0] : Fin 3 → ℕ) a ≤ (ix3 b s q a).val * (![1, 1, 1] : Fin 3 → ℕ) a + (w a).val
      ∧ (ix3 b s q a).val * (![1, 1, 1] : Fin 3 → ℕ) a + (w a).val - (![0, 2047, 0] : Fin 3 → ℕ) a < Cert.ReferenceFinIdeal.S2x2048x8.size a then
    x (fun a => ⟨(ix3 b s q a).val * (![1, 1, 1] : Fin 3 → ℕ) a + (w a).val - (![0, 2047, 0] : Fin 3 → ℕ) a, (hin a).2⟩) else val_main_call1_call0_v0 (F := Ideal) (Shape.Idx.first Cert.ReferenceFinIdeal.Gen.h_S_)
  have hG (k : Fin 2048) : G (ix3 0 k 0) = if 2047 ≤ s.val + k.val then g (s.val + k.val - 2047) else 0 := by
    by_cases u : 2047 ≤ s.val + k.val
    · have v : s.val + k.val - 2047 < 2048 := by omega
      rw [if_pos u, show g (s.val + k.val - 2047) = x (ix3 b ⟨s.val + k.val - 2047, v⟩ q) from dif_pos v]
      refine (dif_pos fun a => ?_).trans (congrArg x (funext fun a => ?_))
      · match a with
        | ⟨0, _⟩ => exact ⟨Nat.zero_le _, by show b.val * 1 + 0 - 0 < 2; omega⟩
        | ⟨1, _⟩ => exact ⟨by show 2047 ≤ s.val * 1 + k.val; omega, by show s.val * 1 + k.val - 2047 < 2048; omega⟩
        | ⟨2, _⟩ => exact ⟨Nat.zero_le _, by show q.val * 1 + 0 - 0 < 8; omega⟩
      · match a with
        | ⟨0, _⟩ => exact Fin.ext (by show b.val * 1 + 0 - 0 = b.val; omega)
        | ⟨1, _⟩ => exact Fin.ext (by show s.val * 1 + k.val - 2047 = s.val + k.val - 2047; omega)
        | ⟨2, _⟩ => exact Fin.ext (by show q.val * 1 + 0 - 0 = q.val; omega)
    · rw [if_neg u]
      refine (dif_neg fun hin => u ?_).trans z
      have := (hin 1).1
      change 2047 ≤ s.val * 1 + k.val at this
      omega
  show List.foldl _ _ _ = _
  refine (folded _ _ _).trans ?_
  rw [← Fin.sum_univ_def]
  refine (congrArg _ (Finset.sum_congr (M := EReal) rfl fun i _ => (show _ = G ((Shape.rowMajor (⟨3, ![1, 2048, 1]⟩ : Shape)).symm i) from dite_congr rfl (fun _ => rfl) fun _ => rfl))).trans ?_
  change val_main_call1_call0_v0 (F := Ideal) (Shape.Idx.first Cert.ReferenceFinIdeal.Gen.h_S_) + ∑ i, G ((Shape.rowMajor (⟨3, ![1, 2048, 1]⟩ : Shape)).symm i) = _
  rw [Equiv.sum_comp (Shape.rowMajor (⟨3, ![1, 2048, 1]⟩ : Shape)).symm G, z, zero_add, Idealize.ShloMosaic.sum_idx3]
  simp only [Fin.sum_univ_one, Fin.isValue, hG]
  have e (k : Fin 2048) : (x (ix3 b k q) : EReal) = g k.val := by simp only [g, k.isLt, dif_pos]
  simp only [e]
  rw [up_to 2048 _ (by omega) g]
  let f (k : ℕ) : EReal := if 2047 ≤ s.val + k then g (s.val + k - 2047) else 0
  refine (Fin.sum_univ_eq_sum_range f 2048).trans ((congrArg (fun n => ∑ k ∈ Finset.range n, f k) (by omega : 2048 = (2047 - s.val) + (s.val + 1))).trans ?_)
  rw [Finset.sum_range_add, Finset.sum_eq_zero fun k hk => if_neg (by simp only [Finset.mem_range] at hk; omega), zero_add]
  refine Finset.sum_congr (M := EReal) rfl fun k _ => (if_pos (by omega)).trans (congrArg g (by omega))

/-- What a point leaves of the cumulative sum: its block, the block by heads, over the row carried into it. -/
theorem total (c : Dev nD) (h : fin m c) (t : Fin cfg0.N) (r : Vec Ideal S1x128 .f32)
    (hr : ∀ q : Fin 128, r (ix2 0 q) = if t.val % 4 = 0 then (0 : EReal) else (outsAt0 m c (t.val - 1) (by have := t.isLt; omega)).2.2.2.2.2.2.2.2.2.2.2.2 (ix2 0 q)) (p : Fin 512) (q : Fin 128) :
    (sums m c t (ix2 p q) : EReal) + r (ix2 0 q) = if u : q.val < 8 then val_main_v27 (F := Ideal) (m ((c : Thread nD τ).loc main_arg0)) (m ((c : Thread nD τ).loc main_arg1)) (m ((c : Thread nD τ).loc main_arg2)) (m ((c : Thread nD τ).loc main_arg3)) (ix3 (seq t) (pos t p) ⟨q.val, u⟩) else (0 : EReal) := by
  have e : (sums m c t (ix2 p q) : EReal) + r (ix2 0 q) = ∑ s : Fin 2048, if s.val < t.val % 4 * 512 + p.val + 1 then logs m c (seq t) q s else 0 := by
    rw [sums_eq m c h, ← ahead (logs m c (seq t) q) (t.val % 4) (by omega) p, hr q]
    congr 1
    split
    · exact (Finset.sum_eq_zero fun s _ => if_neg (by omega)).symm
    · rw [carried m c h]
      have e1 : (t.val - 1) % 4 * 512 + 511 + 1 = t.val % 4 * 512 := by omega
      have e2 (hn) : seq ⟨t.val - 1, hn⟩ = seq t := Fin.ext (by simp only [seq]; omega)
      simp only [e1, e2]
  rw [e]
  by_cases u : q.val < 8
  · rw [dif_pos u, cumulative]
    simp only [logs, u, dif_pos, pos]
    rfl
  · simp only [logs, u, dif_neg, not_false_eq_true, ite_self, Finset.sum_const_zero]

/-- The cumulative sum of the logarithms, padded. -/
theorem sumsOut (c : Dev nD) (h : fin m c) : (dats m 0 c).arrAt 12 (cfgs 0).N = val_main_v41 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  obtain ⟨p, q, rfl⟩ : ∃ (p : Fin 512) (q : Fin 128), y = ix2 p q := ⟨y 0, y 1, eq_ix2 y⟩
  have e : ((View.whole main_v7_7).slice (win0_12.rect t)).emb (ix2 p q) = ix2 ⟨t.val * 512 + p.val, bound t p⟩ q := by blk_ext [place t]
  obtain ⟨r, hr, -, -, -, -, -, -, -, hc, -⟩ := point m c t
  blk_simp
  rw [e, after0_12, hc]
  pointwise [k0_pay19, k0_pay18, val_main_v41, val_main_v40, val_main_call3_v0, val_main_c_2, nil]
  rw [total m c h t r hr]
  simp only [bound t p, true_and, seq_of, pos_of]

/-- The matrix that repeats a column of gates along the head's 64 columns. -/
theorem head (φ : FTy) (q : Fin 512) (x : Fin 128) :
    FloatOps.sitofp (F := Ideal) φ (BitVec.setWidth 32 (IntOp.cmpi CmpIPredicate.eq (Scalar.select (IntOp.andi
      (IntOp.cmpi CmpIPredicate.ne (IntOp.subi (BitVec.setWidth 32 (IntOp.cmpi CmpIPredicate.sgt (BitVec.ofNat 32 q.val) 0#32)) (BitVec.setWidth 32 (IntOp.cmpi CmpIPredicate.slt (BitVec.ofNat 32 q.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 q.val) 64#32) 0#32))
      (IntOp.subi (IntOp.divsi ArithUnit.vector (BitVec.ofNat 32 q.val) 64#32) 1#32) (IntOp.divsi ArithUnit.vector (BitVec.ofNat 32 q.val) 64#32)) (BitVec.ofNat 32 x.val)))
      = if x = ⟨q.val / 64, by omega⟩ then (1 : EReal) else 0 := by
  have e : (Scalar.select (IntOp.andi
      (IntOp.cmpi CmpIPredicate.ne (IntOp.subi (BitVec.setWidth 32 (IntOp.cmpi CmpIPredicate.sgt (BitVec.ofNat 32 q.val) 0#32)) (BitVec.setWidth 32 (IntOp.cmpi CmpIPredicate.slt (BitVec.ofNat 32 q.val) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 q.val) 64#32) 0#32))
      (IntOp.subi (IntOp.divsi ArithUnit.vector (BitVec.ofNat 32 q.val) 64#32) 1#32) (IntOp.divsi ArithUnit.vector (BitVec.ofNat 32 q.val) 64#32)) = BitVec.ofNat 32 (q.val / 64) := by
    revert q; decide +kernel
  rw [e]
  have e' : ∀ (a : Fin 8) (x : Fin 128), BitVec.setWidth 32 (IntOp.cmpi CmpIPredicate.eq (BitVec.ofNat 32 a.val) (BitVec.ofNat 32 x.val)) = if x.val = a.val then 1#32 else 0#32 := by decide +kernel
  rw [e' ⟨q.val / 64, by omega⟩ x]
  simp only [Fin.ext_iff]
  split
  · show (((1#32).toInt : ℝ) : EReal) = 1
    simp
  · exact nil φ

/-- The cumulative sum, repeated along each head. -/
theorem headsOut (c : Dev nD) (h : fin m c) : (dats m 0 c).arrAt 13 (cfgs 0).N = val_main_v44 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t hf y => ?_
  obtain ⟨p, q, rfl⟩ : ∃ (p : Fin 512) (q : Fin 512), y = ix2 p q := ⟨y 0, y 1, eq_ix2 y⟩
  have e : ((View.whole main_v7_8).slice (win0_13.rect t)).emb (ix2 p q) = ix2 ⟨t.val * 512 + p.val, bound t p⟩ q := by blk_ext [place t]
  obtain ⟨r, hr, -, -, -, -, -, -, -, -, hc, -⟩ := point m c t
  blk_simp
  rw [e, after0_13, hc]
  have z (x : Fin 128) : (sums m c t (ix2 p x) + r (ix2 0 x) : EReal) - (sums m c t (ix2 p x) + r (ix2 0 x)) = 0 := by
    obtain ⟨a, ha⟩ : Cert.Reals.Is (sums m c t (ix2 p x) + r (ix2 0 x) : EReal) := by
      rw [total m c h t r hr]
      split
      · rw [cumulative]
        refine Cert.Reals.Is.sum fun k => ?_
        split
        · rw [log_eq]; exact let ⟨l, _, e⟩ := logistic (gate_is m c h (seq t) k _); ⟨l, e⟩
        · exact Cert.Reals.Is.zero
      · exact Cert.Reals.Is.zero
    rw [ha, ← EReal.coe_sub, sub_self, EReal.coe_zero]
  pointwise [k0_pay28, k0_pay27, k0_pay26, k0_pay25, k0_pay24, k0_pay23, k0_pay22, k0_pay21, k0_pay19, k0_pay18, val_main_v44, val_main_v43, val_main_v42, head]
  simp only [z, sub_zero, zero_mul, Finset.sum_const_zero, add_zero, mul_ite, mul_one, mul_zero, Finset.sum_ite_eq', Finset.mem_univ, if_true]
  rw [total m c h t r hr]
  have u : q.val / 64 < 8 := by omega
  simp only [u, dif_pos, seq_of, pos_of]

theorem turn (p : Fin 512) (q : Fin 256) (b : Fin 2) (i) : (Rect.unit (s := S1x2x512x256) ![0, b.val, 0, 0] S1x1x512x256.size i).emb (ix4 0 0 p q : S1x1x512x256.Idx) = ix4 0 b p q :=
  funext fun a => Fin.ext (by match a with | ⟨0, _⟩ => rfl | ⟨1, _⟩ => rfl | ⟨2, _⟩ => exact (Nat.zero_add _).trans (Nat.one_mul _) | ⟨3, _⟩ => exact (Nat.zero_add _).trans (Nat.one_mul _))

/-- The two halves of a point's queries, with rows and columns exchanged. -/
theorem turned (u v : S1x1x512x256.Idx → Elt Ideal .bf16) (p : Fin 512) (q : Fin 256) (a : Fin 2) :
    View.canon (Val := Elt Ideal) [⟨Rect.unit (s := S1x2x512x256) ![0, 1, 0, 0] S1x1x512x256.size inb_S1x2x512x256_S1x1x512x256_0_1_0_0, v⟩,
      ⟨Rect.unit (s := S1x2x512x256) ![0, 0, 0, 0] S1x1x512x256.size inb_S1x2x512x256_S1x1x512x256_0_0_0_0, u⟩] (ix4 0 a p q) = if a.val = 0 then u (ix4 0 0 p q) else v (ix4 0 0 p q) := by
  have n : (ix4 0 0 p q : S1x2x512x256.Idx) ∉ (Rect.unit (s := S1x2x512x256) ![0, 1, 0, 0] S1x1x512x256.size inb_S1x2x512x256_S1x1x512x256_0_1_0_0).set := by
    rw [Rect.mem_set_unit]
    intro h
    have h1 : (1 : ℕ) ≤ 0 := (h (1 : Fin 4)).1
    omega
  obtain rfl | rfl : a = 0 ∨ a = 1 := by omega
  · rw [View.canon_cons_of_not_mem _ _ (by exact n), ← turn p q 0 inb_S1x2x512x256_S1x1x512x256_0_0_0_0]
    exact View.canon_cons_emb _ _ _ _
  · rw [← turn p q 1 inb_S1x2x512x256_S1x1x512x256_0_1_0_0]
    exact View.canon_cons_emb _ _ _ _

/-- The queries with rows and columns exchanged, 256 rows to a block. -/
theorem turnedOut (c : Dev nD) : (dats m 0 c).arrAt 16 (cfgs 0).N = val_main_v47 (F := Ideal) (m ((c : Thread nD τ).loc main_arg0)) (m ((c : Thread nD τ).loc main_arg1)) (m ((c : Thread nD τ).loc main_arg2)) := by
  refine (dats m 0 c).arrAt_eq_of_covers 16 _ (by decide +kernel) fun t hf y => ?_
  obtain ⟨o, a, p, q, rfl⟩ : ∃ (o : Fin 1) (a : Fin 2) (p : Fin 512) (q : Fin 256), y = ix4 o a p q := ⟨y 0, y 1, y 2, y 3, eq_ix4 y⟩
  obtain rfl : o = 0 := Subsingleton.elim _ _
  have e : ((View.whole main_v7_11).slice (win0_16.rect t)).emb (ix4 0 a p q) = ix4 (seq t) ⟨t.val % 4 * 2 + a.val, by omega⟩ p q := by blk_ext [place t, seq]
  obtain ⟨r, -, -, -, -, -, -, -, -, -, -, hq, -⟩ := point m c t
  blk_simp
  rw [e, after0_16, hq, turned]
  pointwise [k0_pay11, k0_pay12, k0_pay8, k0_pay7, val_main_v47, val_main_v46, val_main_v45, val_main_v18]
  simp only [normed_block, slab_eq m c t 1024 _ (by norm_num), column_eq]
  have h0 (k : Fin 512) (k' : Fin 2048) (h : t.val % 4 * 512 + k.val = k'.val) (s : Fin 2568) : column m c t k s = val_main_v15 (F := Ideal) (m ((c : Thread nD τ).loc main_arg0)) (m ((c : Thread nD τ).loc main_arg1)) (m ((c : Thread nD τ).loc main_arg2)) (ix3 (seq t) k' s) := by
    obtain rfl : pos t k = k' := Fin.ext h
    rfl
  split
  · exact h0 _ _ (by simp only; omega) _
  · exact h0 _ _ (by simp only; omega) _

end Cert.FinValue

end
-- ==== Proof.FinEnd.lean ====
/- What is claimed of the input's projection and of the forget gate's cumulative sum. -/
module

public import proofs.«01_k».proof.Defs
public import proofs.«01_k».proof.Proof.Gen.KernelFin.Frame
public import proofs.«01_k».proof.Proof.Gen.ReferenceFinIdeal.Run
public import proofs.«01_k».proof.Proof.Gen.Pre_finite_fin
public import proofs.«01_k».proof.Proof.FinValue
public import Idealize.ShloMosaic.Adequacy
public import Idealize.ShloMosaic.Init

@[expose] public section

set_option maxRecDepth 131072
set_option maxHeartbeats 2000000

noncomputable section

namespace Cert.FinEnd

open Idealize.ShloMosaic Idealize.SL.Sem

theorem frame_kernel : Cert.quiescent_KernelFin := fun m g _ => Cert.KernelFin.Gen.frame m g

theorem frame_ideal : Cert.quiescent_KernelFinIdeal := fun m g _ => Cert.KernelFinIdeal.Gen.frame m g

theorem frame_reference : Cert.quiescent_ReferenceFinIdeal := fun m g _ =>
  (θ_run Cert.ReferenceFinIdeal.defs _ _).mono (fun r h => ⟨fun c => (h c).2.2.2.2.2.2.2.2.2.2, sem_eq_zero_of_no_sems (by decide) r.2⟩)
    (Cert.ReferenceFinIdeal.Value.run (F := Ideal) m g)

/-- The precondition says that the arguments hold no infinity. -/
theorem finite (m : (ℓ : Loc Cert.KernelFinIdeal.nD Cert.KernelFinIdeal.τ Cert.KernelFinIdeal.sig) → Buf (Elt Ideal) ℓ)
    (h : Cert.Pre_KernelFinIdeal_finite_fin m) (c : Dev Cert.KernelFinIdeal.nD) : Cert.FinValue.fin m c :=
  ⟨fun i => Cert.Reals.of_lt _ (congrFun (h c).1 i), fun i => Cert.Reals.of_lt _ (congrFun (h c).2.1 i), fun i => Cert.Reals.of_lt _ (congrFun (h c).2.2.1 i),
    fun i => Cert.Reals.of_lt _ (congrFun (h c).2.2.2 i)⟩

theorem algebraic : Cert.algebraic_KernelFinIdeal_ReferenceFinIdeal_pre_finite_fin := by
  pair_intro
  · run_from Cert.KernelFinIdeal.Value.run_blocks m g
  · run_from Cert.ReferenceFinIdeal.Value.run m' g'
    · exact (Cert.ReferenceFinIdeal.Read.val_main_v29_eq (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1))).trans (Cert.FinValue.normedOut m c).symm
    · exact (Cert.ReferenceFinIdeal.Read.val_main_v30_eq (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2))).trans (Cert.FinValue.partOut m c).symm
    · exact (Cert.ReferenceFinIdeal.Read.val_main_v31_eq (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2))).trans (Cert.FinValue.gateOut m c).symm
    · exact (Cert.ReferenceFinIdeal.Read.val_main_v33_eq (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2))).trans (Cert.FinValue.queryOut m c).symm
    · exact (Cert.ReferenceFinIdeal.Read.val_main_v35_eq (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2))).trans (Cert.FinValue.keyOut m c).symm
    · exact (Cert.ReferenceFinIdeal.Read.val_main_v37_eq (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2))).trans (Cert.FinValue.valueOut m c).symm
    · exact (Cert.ReferenceFinIdeal.Read.val_main_v39_eq (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3))).trans (Cert.FinValue.beforeOut m c).symm
    · rw [Cert.ReferenceFinIdeal.Read.val_main_v41_eq m' c]
      simp only [hagree c]
      exact (Cert.FinValue.sumsOut m c (finite m hpre c)).symm
    · rw [Cert.ReferenceFinIdeal.Read.val_main_v44_eq m' c]
      simp only [hagree c]
      exact (Cert.FinValue.headsOut m c (finite m hpre c)).symm
    · exact (Cert.ReferenceFinIdeal.Read.val_main_v47_eq (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2))).trans (Cert.FinValue.turnedOut m c).symm

end Cert.FinEnd

end
-- ==== Proof.CfwdRead.lean ====
/- The forward pass of the causal convolution, its norm and SiLU. -/
module

public import proofs.«01_k».proof.Proof.Gen.KernelCfwdIdeal.Value
public import proofs.«01_k».proof.Proof.Gen.ReferenceCfwdIdeal.Read
public import proofs.«01_k».proof.Proof.Sums
public import proofs.«01_k».proof.Proof.Reals
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
open Cert.ReferenceCfwdIdeal.Read

namespace Cert.CfwdValue
open Cert.KernelCfwdIdeal Cert.KernelCfwdIdeal.Gen
variable (m : (ℓ : Loc nD τ sig) → Buf (Elt Ideal) ℓ)

/-- An entry of a block at a row and a column, zero outside it. -/
def at2 {a b : ℕ} (x : (⟨2, ![a, b]⟩ : Shape).Idx → EReal) (r d : ℕ) : EReal := if h : r < a ∧ d < b then x (ix2 ⟨r, h.1⟩ ⟨d, h.2⟩) else 0

theorem at2_ix {a b : ℕ} (x : (⟨2, ![a, b]⟩ : Shape).Idx → EReal) (p : Fin a) (q : Fin b) : at2 x p.val q.val = x (ix2 p q) := dif_pos ⟨p.isLt, q.isLt⟩

theorem at2_of {a b : ℕ} (x : (⟨2, ![a, b]⟩ : Shape).Idx → EReal) (y : (⟨2, ![a, b]⟩ : Shape).Idx) (r d : ℕ) (h0 : (y 0).val = r) (h1 : (y 1).val = d) : at2 x r d = x y := by
  subst h0; subst h1; rw [eq_ix2 y]; exact at2_ix x _ _

/-- Row `r` of the block laid after the 32 rows before it. -/
def line (u : S256x512.Idx → EReal) (h : ℕ → ℕ → EReal) (r d : ℕ) : EReal := if r < 32 then h r d else at2 u (r - 32) d

/-- A load of part of a block that a whole buffer holds. -/
theorem part {a b : ℕ} (v : Memref sig .tc .vmem (⟨2, ![a, b]⟩ : Shape) .f32) (hv : v.IsWhole) (x : Vec Ideal (⟨2, ![a, b]⟩ : Shape) .f32) (o e : ℕ) (size : Fin 2 → ℕ) (inb) :
    View.readAt (Elt Ideal) v.view (Rect.unit (s := (⟨2, ![a, b]⟩ : Shape)) ![o, e] size inb).toLoadRect (hv.unread x) = fun y => at2 x (o + (y 0).val) (e + (y 1).val) := by
  funext y
  rw [View.readAt_apply, hv.read_unread]
  exact (at2_of x _ _ _ (congrArg (o + ·) (Nat.one_mul _)) (congrArg (e + ·) (Nat.one_mul _))).symm

theorem whole {a b : ℕ} (v : Memref sig .tc .vmem (⟨2, ![a, b]⟩ : Shape) .f32) (hv : v.IsWhole) (x : Vec Ideal (⟨2, ![a, b]⟩ : Shape) .f32) (inb) :
    View.readAt (Elt Ideal) v.view (Rect.unit (s := (⟨2, ![a, b]⟩ : Shape)) ![0, 0] ![a, b] inb).toLoadRect (hv.unread x) = x := by
  rw [part]; funext y; exact at2_of x y _ _ (Nat.zero_add _).symm (Nat.zero_add _).symm

section
variable (c : Dev nD) (arg2 arg3 : Memref sig .tc .vmem S256x512 .f32) (harg2 : arg2.IsWhole) (harg3 : arg3.IsWhole) (arg10 : Memref sig .tc .vmem S288x512 .f32) (harg10 : arg10.IsWhole)
  (x0 x1 : Vec Ideal S256x512 .f32) (xs : Vec Ideal S288x512 .f32)

theorem lower (f : arg10.view.ty.Contents (Elt Ideal)) (L) (i) (h : ℕ → ℕ → EReal) (y : S288x512.Idx) (hh : (y 0).val < 32 → arg10.view.read (Elt Ideal) (arg10.view.writes (Elt Ideal) f L) y = h (y 0).val (y 1).val) :
    arg10.view.read (Elt Ideal) (arg10.view.writes (Elt Ideal) f ((⟨Rect.unit (s := S288x512) ![32, 0] S256x512.size i, k0_pay3 x0 x1⟩ : View.Piece (Elt Ideal) S288x512 .f32) :: L)) y = line (k0_pay3 x0 x1) h (y 0).val (y 1).val := by
  unfold line
  by_cases u : (y 0).val < 32
  · rw [if_pos u, ← hh u]
    exact View.read_writes_cons_miss_of_axis _ _ _ _ _ 0 32 256 rfl rfl rfl (Or.inl u)
  · rw [if_neg u]
    have b : (y 0).val - 32 < 256 := by have : (y 0).val < 288 := (y 0).isLt; omega
    refine (View.read_writes_cons_hit_of_coords _ _ _ _ _ (ix2 ⟨(y 0).val - 32, b⟩ (y 1) : S256x512.Idx) _ ?_).trans (at2_of _ _ _ _ rfl rfl).symm
    intro a
    match a with
    | ⟨0, _⟩ => show (y 0).val = 32 + 1 * ((y 0).val - 32); omega
    | ⟨1, _⟩ => exact ((Nat.zero_add _).trans (Nat.one_mul _)).symm

theorem catA (f : arg10.view.ty.Contents (Elt Ideal)) (y : S288x512.Idx) : arg10.view.read (Elt Ideal) (arg10.view.writes (Elt Ideal) f (kernelRun0_A.sl.HS0_2 c arg2 harg2 arg3 harg3 x0 x1)) y = line (k0_pay3 x0 x1) (fun _ _ => 0) (y 0).val (y 1).val := by
  unfold kernelRun0_A.sl.HS0_2
  rw [whole, whole]
  refine lower _ _ _ _ _ _ _ _ fun u => ?_
  refine (View.read_writes_cons_hit_of_coords _ _ _ _ _ (ix2 ⟨(y 0).val, u⟩ (y 1) : S32x512.Idx) _ ?_).trans ?_
  · intro a
    match a with
    | ⟨0, _⟩ => exact ((Nat.zero_add _).trans (Nat.one_mul _)).symm
    | ⟨1, _⟩ => exact ((Nat.zero_add _).trans (Nat.one_mul _)).symm
  · pointwise! [k0_pay2]

theorem catB (f : arg10.view.ty.Contents (Elt Ideal)) (y : S288x512.Idx) : arg10.view.read (Elt Ideal) (arg10.view.writes (Elt Ideal) f (kernelRun0_B.sl.HS0_1 c arg2 harg2 arg3 harg3 x0 x1)) y = line (k0_pay3 x0 x1) (at2 (arg10.view.read (Elt Ideal) f)) (y 0).val (y 1).val := by
  unfold kernelRun0_B.sl.HS0_1
  rw [whole, whole]
  exact lower _ _ _ _ _ _ _ _ fun u => (at2_of _ _ _ _ rfl rfl).symm

theorem loadA (o e : ℕ) (size : Fin 2 → ℕ) (inb) : arg10.view.readCov (kernelRun0_A.sl.HS0_2 c arg2 harg2 arg3 harg3 x0 x1) (Rect.unit (s := S288x512) ![o, e] size inb).toLoadRect
    = fun y => line (k0_pay3 x0 x1) (fun _ _ => 0) (o + (y 0).val) (e + (y 1).val) := by
  funext y
  refine (View.readAt_apply _ _ _).trans ((catA c arg2 arg3 harg2 harg3 arg10 x0 x1 _ _).trans ?_)
  exact congrArg₂ _ (congrArg (o + ·) (Nat.one_mul _)) (congrArg (e + ·) (Nat.one_mul _))

theorem loadB (o e : ℕ) (size : Fin 2 → ℕ) (inb) : View.readAt (Elt Ideal) arg10.view (Rect.unit (s := S288x512) ![o, e] size inb).toLoadRect (arg10.view.writes (Elt Ideal) (harg10.unread xs) (kernelRun0_B.sl.HS0_1 c arg2 harg2 arg3 harg3 x0 x1))
    = fun y => line (k0_pay3 x0 x1) (at2 xs) (o + (y 0).val) (e + (y 1).val) := by
  funext y
  refine (View.readAt_apply _ _ _).trans ((catB c arg2 arg3 harg2 harg3 arg10 x0 x1 _ _).trans ?_)
  rw [harg10.read_unread]
  exact congrArg₂ _ (congrArg (o + ·) (Nat.one_mul _)) (congrArg (e + ·) (Nat.one_mul _))

/-- A load of the block alone does not see the rows before it. -/
theorem loadB' (o e : ℕ) (size : Fin 2 → ℕ) (inb) (h : ℕ → ℕ → EReal) (ho : 32 ≤ o) : arg10.view.readCov (kernelRun0_B.sl.HS0_1 c arg2 harg2 arg3 harg3 x0 x1) (Rect.unit (s := S288x512) ![o, e] size inb).toLoadRect
    = fun y => line (k0_pay3 x0 x1) h (o + (y 0).val) (e + (y 1).val) := by
  funext y
  refine (View.readAt_apply _ _ _).trans ((catB c arg2 arg3 harg2 harg3 arg10 x0 x1 _ _).trans ?_)
  refine (congrArg₂ _ (congrArg (o + ·) (Nat.one_mul _)) (congrArg (e + ·) (Nat.one_mul _))).trans ?_
  unfold line
  rw [if_neg (by omega), if_neg (by omega)]

variable (arg11 : Memref sig .tc .vmem S8x280x512 .f32)

/-- One shifted copy stored, over what is known of the copies before it. -/
theorem layer (f : arg11.view.ty.Contents (Elt Ideal)) (L) (g : ℕ → ℕ → EReal) (r : ℕ) (i) (w : S1x280x512.Idx → EReal) (hw : ∀ (p : Fin 280) (q : Fin 512), w (ix3 0 p q) = g (r + p.val) q.val) (y : S8x280x512.Idx)
    (n : (y 0).val ≠ r → arg11.view.read (Elt Ideal) (arg11.view.writes (Elt Ideal) f L) y = g ((y 0).val + (y 1).val) (y 2).val) :
    arg11.view.read (Elt Ideal) (arg11.view.writes (Elt Ideal) f ((⟨Rect.unit (s := S8x280x512) ![r, 0, 0] S1x280x512.size i, w⟩ : View.Piece (Elt Ideal) S8x280x512 .f32) :: L)) y = g ((y 0).val + (y 1).val) (y 2).val := by
  by_cases u : (y 0).val = r
  · refine (View.read_writes_cons_hit_of_coords _ _ _ _ _ (ix3 0 (y 1) (y 2) : S1x280x512.Idx) _ ?_).trans ((hw (y 1) (y 2)).trans (by rw [u]))
    intro a
    match a with
    | ⟨0, _⟩ => exact u
    | ⟨1, _⟩ => exact ((Nat.zero_add _).trans (Nat.one_mul _)).symm
    | ⟨2, _⟩ => exact ((Nat.zero_add _).trans (Nat.one_mul _)).symm
  · rw [← n u]
    exact View.read_writes_cons_miss_of_axis _ _ _ _ _ 0 r 1 rfl rfl rfl (by omega)

theorem copiesA (f : arg11.view.ty.Contents (Elt Ideal)) (y : S8x280x512.Idx) (h : 1 ≤ (y 0).val) : arg11.view.read (Elt Ideal) (arg11.view.writes (Elt Ideal) f (kernelRun0_A.sl.HS1_7 c arg2 harg2 arg3 harg3 arg10 x0 x1)) y
    = line (k0_pay3 x0 x1) (fun _ _ => 0) ((y 0).val + (y 1).val) (y 2).val := by
  have b : (y 0).val < 8 := (y 0).isLt
  simp only [kernelRun0_A.sl.HS1_7, kernelRun0_A.sl.v18, kernelRun0_A.sl.v22, kernelRun0_A.sl.v30, kernelRun0_A.sl.v34, kernelRun0_A.sl.v38, kernelRun0_A.sl.v42, kernelRun0_A.sl.r, kernelRun0_A.sl.v26, loadA]
  refine layer _ _ _ _ 7 _ _ (fun p q => ?_) y fun n7 => layer _ _ _ _ 6 _ _ (fun p q => ?_) y fun n6 => layer _ _ _ _ 5 _ _ (fun p q => ?_) y fun n5 => layer _ _ _ _ 4 _ _ (fun p q => ?_) y fun n4 =>
    layer _ _ _ _ 3 _ _ (fun p q => ?_) y fun n3 => layer _ _ _ _ 2 _ _ (fun p q => ?_) y fun n2 => layer _ _ _ _ 1 _ _ (fun p q => ?_) y fun n1 => by omega
  all_goals pointwise [k0_pay4, k0_pay5, k0_pay6, k0_pay7, k0_pay8, k0_pay9, k0_pay10]
  all_goals simp only [Nat.zero_add]

theorem copiesB (f : arg11.view.ty.Contents (Elt Ideal)) (y : S8x280x512.Idx) (h : 1 ≤ (y 0).val) : arg11.view.read (Elt Ideal) (arg11.view.writes (Elt Ideal) f (kernelRun0_B.sl.HS1_7 c arg2 harg2 arg3 harg3 arg10 harg10 x0 x1 xs)) y
    = line (k0_pay3 x0 x1) (at2 xs) ((y 0).val + (y 1).val) (y 2).val := by
  have b : (y 0).val < 8 := (y 0).isLt
  simp only [kernelRun0_B.sl.HS1_7, kernelRun0_B.sl.r, loadB]
  refine layer _ _ _ _ 7 _ _ (fun p q => ?_) y fun n7 => layer _ _ _ _ 6 _ _ (fun p q => ?_) y fun n6 => layer _ _ _ _ 5 _ _ (fun p q => ?_) y fun n5 => layer _ _ _ _ 4 _ _ (fun p q => ?_) y fun n4 =>
    layer _ _ _ _ 3 _ _ (fun p q => ?_) y fun n3 => layer _ _ _ _ 2 _ _ (fun p q => ?_) y fun n2 => layer _ _ _ _ 1 _ _ (fun p q => ?_) y fun n1 => by omega
  all_goals pointwise [k0_pay4, k0_pay5, k0_pay6, k0_pay7, k0_pay8, k0_pay9, k0_pay10]
  all_goals simp only [Nat.zero_add]

theorem tapA (r o e : ℕ) (inb) (h : 1 ≤ r) : arg11.view.readCov (kernelRun0_A.sl.HS1_7 c arg2 harg2 arg3 harg3 arg10 x0 x1) (Rect.unit (s := S8x280x512) ![r, o, e] ![1, 128, 128] inb).toLoadRect
    = fun y => line (k0_pay3 x0 x1) (fun _ _ => 0) (r + o + (y 1).val) (e + (y 2).val) := by
  funext y
  refine (View.readAt_apply _ _ _).trans ((copiesA c arg2 arg3 harg2 harg3 arg10 x0 x1 arg11 _ _ ?_).trans ?_)
  · exact le_trans h (Nat.le_add_right _ _)
  · refine congrArg₂ _ ?_ (congrArg (e + ·) (Nat.one_mul _))
    have : (y 0).val < 1 := (y 0).isLt
    show r + 1 * (y 0).val + (o + 1 * (y 1).val) = _
    omega

theorem tapB (r o e : ℕ) (inb) (h : 1 ≤ r) : arg11.view.readCov (kernelRun0_B.sl.HS1_7 c arg2 harg2 arg3 harg3 arg10 harg10 x0 x1 xs) (Rect.unit (s := S8x280x512) ![r, o, e] ![1, 128, 128] inb).toLoadRect
    = fun y => line (k0_pay3 x0 x1) (at2 xs) (r + o + (y 1).val) (e + (y 2).val) := by
  funext y
  refine (View.readAt_apply _ _ _).trans ((copiesB c arg2 arg3 harg2 harg3 arg10 harg10 x0 x1 xs arg11 _ _ ?_).trans ?_)
  · exact le_trans h (Nat.le_add_right _ _)
  · refine congrArg₂ _ ?_ (congrArg (e + ·) (Nat.one_mul _))
    have : (y 0).val < 1 := (y 0).isLt
    show r + 1 * (y 0).val + (o + 1 * (y 1).val) = _
    omega
end
end Cert.CfwdValue
end
-- ==== Proof.CfwdRows.lean ====
/- The forward pass of the causal convolution, its norm and SiLU. -/
module

public import proofs.«01_k».proof.Proof.Gen.KernelCfwdIdeal.Value
public import proofs.«01_k».proof.Proof.Gen.ReferenceCfwdIdeal.Read
public import proofs.«01_k».proof.Proof.Sums
public import proofs.«01_k».proof.Proof.Reals
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.CfwdRead

@[expose] public section

set_option maxRecDepth 16384

noncomputable section

open Idealize.ShloMosaic Idealize.ShloMosaic.TcCoe Idealize.SL.Sem
open Idealize.ShloMosaic.Pipeline (Dat)
open scoped BigOperators
open Cert.ReferenceCfwdIdeal.Read

namespace Cert.CfwdValue
open Cert.KernelCfwdIdeal Cert.KernelCfwdIdeal.Gen
variable (m : (ℓ : Loc nD τ sig) → Buf (Elt Ideal) ℓ)

/-- The convolution's row `p` of a block, over the 32 rows before it. -/
def conv (u : S256x512.Idx → EReal) (h : ℕ → ℕ → EReal) (w : S32x512.Idx → EReal) (b : S1x512.Idx → EReal) (p q : ℕ) : EReal :=
  at2 b 0 q + ∑ k ∈ Finset.range 31, at2 w k q * line u h (2 + k + p) q

variable (c : Dev nD) (arg2 arg3 : Memref sig .tc .vmem S256x512 .f32) (harg2 : arg2.IsWhole) (harg3 : arg3.IsWhole) (arg4 : Memref sig .tc .vmem S32x512 .f32) (harg4 : arg4.IsWhole)
  (arg5 : Memref sig .tc .vmem S1x512 .f32) (harg5 : arg5.IsWhole) (arg8 : Memref sig .tc .vmem S256x512 .f32) (arg10 : Memref sig .tc .vmem S288x512 .f32) (harg10 : arg10.IsWhole)
  (arg11 : Memref sig .tc .vmem S8x280x512 .f32) (x0 x1 : Vec Ideal S256x512 .f32) (x2 : Vec Ideal S32x512 .f32) (x3 : Vec Ideal S1x512 .f32) (xs : Vec Ideal S288x512 .f32)

/-- One tile stored, over what is known of the tiles before it. -/
theorem tile (f : arg8.view.ty.Contents (Elt Ideal)) (L) (g : ℕ → ℕ → EReal) (o e : ℕ) (i) (w : S128x128.Idx → EReal) (hw : ∀ p q : Fin 128, w (ix2 p q) = g (o + p.val) (e + q.val)) (y : S256x512.Idx)
    (n : ¬(o ≤ (y 0).val ∧ (y 0).val < o + 128 ∧ e ≤ (y 1).val ∧ (y 1).val < e + 128) → arg8.view.read (Elt Ideal) (arg8.view.writes (Elt Ideal) f L) y = g (y 0).val (y 1).val) :
    arg8.view.read (Elt Ideal) (arg8.view.writes (Elt Ideal) f ((⟨Rect.unit (s := S256x512) ![o, e] S128x128.size i, w⟩ : View.Piece (Elt Ideal) S256x512 .f32) :: L)) y = g (y 0).val (y 1).val := by
  by_cases u : o ≤ (y 0).val ∧ (y 0).val < o + 128 ∧ e ≤ (y 1).val ∧ (y 1).val < e + 128
  · refine (View.read_writes_cons_hit_of_coords _ _ _ _ _ (ix2 ⟨(y 0).val - o, by omega⟩ ⟨(y 1).val - e, by omega⟩ : S128x128.Idx) _ ?_).trans ((hw _ _).trans ?_)
    · intro a
      match a with
      | ⟨0, _⟩ => show (y 0).val = o + 1 * ((y 0).val - o); omega
      | ⟨1, _⟩ => show (y 1).val = e + 1 * ((y 1).val - e); omega
    · exact congrArg₂ g (by show o + ((y 0).val - o) = _; omega) (by show e + ((y 1).val - e) = _; omega)
  · rw [← n u]
    by_cases v : o ≤ (y 0).val ∧ (y 0).val < o + 128
    · exact View.read_writes_cons_miss_of_axis _ _ _ _ _ 1 e 128 rfl rfl rfl (by omega)
    · exact View.read_writes_cons_miss_of_axis _ _ _ _ _ 0 o 128 rfl rfl rfl (by omega)

open kernelRun0_A.sl in
theorem rowsA (f : arg8.view.ty.Contents (Elt Ideal)) (y : S256x512.Idx) : arg8.view.read (Elt Ideal) (arg8.view.writes (Elt Ideal) f (H6_8 c arg2 harg2 arg3 harg3 arg4 harg4 arg5 harg5 arg10 arg11 x0 x1 x2 x3)) y
    = conv (k0_pay3 x0 x1) (fun _ _ => 0) x2 x3 (y 0).val (y 1).val := by
  have b0 : (y 0).val < 256 := (y 0).isLt
  have b1 : (y 1).val < 512 := (y 1).isLt
  simp only [H6_8, r, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, v0, v1, v2, v18, v22, v26, v27, v30, v34, v38, v42, v52, v59, v66, v73, v80, v87, v94, v100, v107, v114, v121, v128, v135, v142, v149, v155, v162, v169, v176, v183, v190, v197, v204, v210, v217, v224, v231, v238, v245, v252, v259, v270, v277, v284, v291, v298, v305, v312, v318, v325, v332, v339, v346, v353, v360, v367, v373, v380, v387, v394, v401, v408, v415, v422, v428, v435, v442, v449, v456, v463, v470, v477, v488, v495, v502, v509, v516, v523, v530, v536, v543, v550, v557, v564, v571, v578, v585, v591, v598, v605, v612, v619, v626, v633, v640, v646, v653, v660, v667, v674, v681, v688, v695, v706, v713, v720, v727, v734, v741, v748, v754, v761, v768, v775, v782, v789, v796, v803, v809, v816, v823, v830, v837, v844, v851, v858, v864, v871, v878, v885, v892, v899, v906, v913, v924, v931, v938, v945, v952, v959, v966, v972, v979, v986, v993, v1000, v1007, v1014, v1021, v1027, v1034, v1041, v1048, v1055, v1062, v1069, v1076, v1082, v1089, v1096, v1103, v1110, v1117, v1124, v1131, v1142, v1149, v1156, v1163, v1170, v1177, v1184, v1190, v1197, v1204, v1211, v1218, v1225, v1232, v1239, v1245, v1252, v1259, v1266, v1273, v1280, v1287, v1294, v1300, v1307, v1314, v1321, v1328, v1335, v1342, v1349, v1360, v1367, v1374, v1381, v1388, v1395, v1402, v1408, v1415, v1422, v1429, v1436, v1443, v1450, v1457, v1463, v1470, v1477, v1484, v1491, v1498, v1505, v1512, v1518, v1525, v1532, v1539, v1546, v1553, v1560, v1567, v1578, v1585, v1592, v1599, v1606, v1613, v1620, v1626, v1633, v1640, v1647, v1654, v1661, v1668, v1675, v1681, v1688, v1695, v1702, v1709, v1716, v1723, v1730, v1736, v1743, v1750, v1757, v1764, v1771, v1778, v1785, tapA, loadA, part, le_refl, Nat.one_le_ofNat]
  refine tile _ _ _ _ 128 384 _ _ (fun i j => ?_) y fun n1 => tile _ _ _ _ 0 384 _ _ (fun i j => ?_) y fun n2 => tile _ _ _ _ 128 256 _ _ (fun i j => ?_) y fun n3 => tile _ _ _ _ 0 256 _ _ (fun i j => ?_) y fun n4 =>
    tile _ _ _ _ 128 128 _ _ (fun i j => ?_) y fun n5 => tile _ _ _ _ 0 128 _ _ (fun i j => ?_) y fun n6 => tile _ _ _ _ 128 0 _ _ (fun i j => ?_) y fun n7 => tile _ _ _ _ 0 0 _ _ (fun i j => ?_) y fun n8 => by omega
  all_goals pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]
  all_goals simp only [conv, Finset.sum_range_succ, Finset.sum_range_zero, zero_add, ← add_assoc, Nat.reduceAdd]

open kernelRun0_B.sl in
theorem rowsB (f : arg8.view.ty.Contents (Elt Ideal)) (y : S256x512.Idx) : arg8.view.read (Elt Ideal) (arg8.view.writes (Elt Ideal) f (H6_8 c arg2 harg2 arg3 harg3 arg4 harg4 arg5 harg5 arg10 harg10 arg11 x0 x1 x2 x3 xs)) y
    = conv (k0_pay3 x0 x1) (at2 xs) x2 x3 (y 0).val (y 1).val := by
  have b0 : (y 0).val < 256 := (y 0).isLt
  have b1 : (y 1).val < 512 := (y 1).isLt
  simp only [H6_8, r, r_1, r_2, r_3, r_4, r_5, r_6, r_7, r_8, r_9, r_10, r_11, r_12, r_13, r_14, r_15, r_16, r_17, r_18, r_19, r_20, r_21, r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56, r_57, r_58, r_59, r_60, r_61, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, v0, v1, v2, v27, v52, v59, v66, v73, v80, v87, v100, v107, v114, v121, v128, v135, v142, v155, v162, v169, v176, v183, v190, v197, v210, v217, v224, v231, v238, v245, v252, v259, v270, v277, v284, v291, v298, v305, v312, v318, v325, v332, v339, v346, v353, v360, v367, v373, v380, v387, v394, v401, v408, v415, v422, v428, v435, v442, v449, v456, v463, v470, v477, v488, v495, v502, v509, v516, v523, v536, v543, v550, v557, v564, v571, v578, v591, v598, v605, v612, v619, v626, v633, v646, v653, v660, v667, v674, v681, v688, v695, v706, v713, v720, v727, v734, v741, v748, v754, v761, v768, v775, v782, v789, v796, v803, v809, v816, v823, v830, v837, v844, v851, v858, v864, v871, v878, v885, v892, v899, v906, v913, v924, v931, v938, v945, v952, v959, v972, v979, v986, v993, v1000, v1007, v1014, v1027, v1034, v1041, v1048, v1055, v1062, v1069, v1082, v1089, v1096, v1103, v1110, v1117, v1124, v1131, v1142, v1149, v1156, v1163, v1170, v1177, v1184, v1190, v1197, v1204, v1211, v1218, v1225, v1232, v1239, v1245, v1252, v1259, v1266, v1273, v1280, v1287, v1294, v1300, v1307, v1314, v1321, v1328, v1335, v1342, v1349, v1360, v1367, v1374, v1381, v1388, v1395, v1408, v1415, v1422, v1429, v1436, v1443, v1450, v1463, v1470, v1477, v1484, v1491, v1498, v1505, v1518, v1525, v1532, v1539, v1546, v1553, v1560, v1567, v1578, v1585, v1592, v1599, v1606, v1613, v1620, v1626, v1633, v1640, v1647, v1654, v1661, v1668, v1675, v1681, v1688, v1695, v1702, v1709, v1716, v1723, v1730, v1736, v1743, v1750, v1757, v1764, v1771, v1778, v1785, tapB, loadB, loadB' (h := at2 xs), Nat.reduceLeDiff, part, le_refl, Nat.one_le_ofNat]
  refine tile _ _ _ _ 128 384 _ _ (fun i j => ?_) y fun n1 => tile _ _ _ _ 0 384 _ _ (fun i j => ?_) y fun n2 => tile _ _ _ _ 128 256 _ _ (fun i j => ?_) y fun n3 => tile _ _ _ _ 0 256 _ _ (fun i j => ?_) y fun n4 =>
    tile _ _ _ _ 128 128 _ _ (fun i j => ?_) y fun n5 => tile _ _ _ _ 0 128 _ _ (fun i j => ?_) y fun n6 => tile _ _ _ _ 128 0 _ _ (fun i j => ?_) y fun n7 => tile _ _ _ _ 0 0 _ _ (fun i j => ?_) y fun n8 => by omega
  all_goals pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]
  all_goals simp only [conv, Finset.sum_range_succ, Finset.sum_range_zero, zero_add, ← add_assoc, Nat.reduceAdd]

end Cert.CfwdValue

end
-- ==== Proof.CfwdValue.lean ====
/- The forward pass of the causal convolution, its norm and SiLU. -/
module

public import proofs.«01_k».proof.Proof.Gen.KernelCfwdIdeal.Value
public import proofs.«01_k».proof.Proof.Gen.ReferenceCfwdIdeal.Read
public import proofs.«01_k».proof.Proof.Sums
public import proofs.«01_k».proof.Proof.Reals
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.CfwdRows

@[expose] public section

set_option maxRecDepth 16384

noncomputable section

open Idealize.ShloMosaic Idealize.ShloMosaic.TcCoe Idealize.SL.Sem
open Idealize.ShloMosaic.Pipeline (Dat)
open scoped BigOperators
open Cert.ReferenceCfwdIdeal.Read

namespace Cert.CfwdValue
open Cert.KernelCfwdIdeal Cert.KernelCfwdIdeal.Gen
variable (m : (ℓ : Loc nD τ sig) → Buf (Elt Ideal) ℓ)

/-- Where each window's block lies at grid point `t`. -/
theorem place : ∀ t : Fin cfg0.N, win0_0.index t = ![t.val, 0] ∧ win0_1.index t = ![t.val, 0] ∧ win0_2.index t = ![0, 0] ∧ win0_3.index t = ![0, 0] ∧ win0_4.index t = ![0, 0]
    ∧ win0_5.index t = ![0, 0] ∧ win0_6.index t = ![t.val, 0] ∧ win0_7.index t = ![t.val, 0] :=
  (by decide +kernel : ∀ t : Fin grid0.N, _)

theorem lt (t : Fin cfg0.N) : t.val < 16 := (Fin.cast N_0 t).isLt

/-- The sequence of a point. -/
def seq (t : Fin cfg0.N) : Fin 2 := ⟨t.val / 8, by have := lt t; omega⟩
/-- The place in its sequence of row `p` of a point's block. -/
def pos (t : Fin cfg0.N) (p : Fin 256) : Fin 2048 := ⟨t.val % 8 * 256 + p.val, by omega⟩
theorem seq_of (t : Fin cfg0.N) (p : Fin 256) (h) : (⟨(t.val * 256 + p.val) / 2048, h⟩ : Fin 2) = seq t := Fin.ext (by simp only [seq]; omega)
theorem pos_of (t : Fin cfg0.N) (p : Fin 256) (h) : (⟨(t.val * 256 + p.val) % 2048, h⟩ : Fin 2048) = pos t p := Fin.ext (by simp only [pos]; omega)
theorem bound (t : Fin cfg0.N) (p : Fin 256) : t.val * 256 + p.val < 4096 := by have := lt t; omega

theorem inputs (c : Dev nD) (t : Fin cfg0.N) (p : Fin 256) (q : Fin 512) : iblk m c 0 t (ix2 p q) = m ((c : Thread nD τ).loc main_arg0) (ix3 (seq t) (pos t p) q) := by
  have e : ((View.whole main_v2).slice (win0_0.rect t)).emb (ix2 p q) = ix2 ⟨t.val * 256 + p.val, bound t p⟩ q := by blk_ext [place t]
  blk_simp [iblk]; rw [e]; simp only [V, hostOps0, hostOps0_1, hostOps0_2, List.flatten_cons, List.flatten_nil, List.cons_append, List.nil_append, List.append_nil]; entry_read; pointwise; simp only [seq_of, pos_of]

theorem gates (c : Dev nD) (t : Fin cfg0.N) (p : Fin 256) (q : Fin 512) : iblk m c 1 t (ix2 p q) = m ((c : Thread nD τ).loc main_arg1) (ix3 (seq t) (pos t p) q) := by
  have e : ((View.whole main_v3).slice (win0_1.rect t)).emb (ix2 p q) = ix2 ⟨t.val * 256 + p.val, bound t p⟩ q := by blk_ext [place t]
  blk_simp [iblk]; rw [e]; simp only [V, hostOps0, hostOps0_1, hostOps0_2, List.flatten_cons, List.flatten_nil, List.cons_append, List.nil_append, List.append_nil]; entry_read; pointwise; simp only [seq_of, pos_of]

theorem weights (c : Dev nD) (t : Fin cfg0.N) (k : Fin 31) (q : Fin 512) : iblk m c 2 t (ix2 ⟨k.val, by omega⟩ q) = m ((c : Thread nD τ).loc main_arg2) (ix3 0 k q) := by
  have e : ((View.whole main_v1).slice (win0_2.rect t)).emb (ix2 ⟨k.val, by omega⟩ q) = ix2 ⟨k.val, by omega⟩ q := by blk_ext [place t]
  blk_simp [iblk]
  rw [e]; simp only [V, hostOps0, hostOps0_1, hostOps0_2, List.flatten_cons, List.flatten_nil, List.cons_append, List.nil_append, List.append_nil]; entry_read; simp only [StableHlo.TRef.ofBuf, StableHlo.TRef.toBuf, cast_cast, cast_eq]; pointwise

theorem bias (c : Dev nD) (t : Fin cfg0.N) (q : Fin 512) : iblk m c 3 t (ix2 0 q) = m ((c : Thread nD τ).loc main_arg3) (ix2 0 q) := by
  blk_simp [iblk, place t]; entry_read; pointwise; blk_ext [place t]

theorem gain (c : Dev nD) (t : Fin cfg0.N) (q : Fin 512) : iblk m c 4 t (ix2 0 q) = m ((c : Thread nD τ).loc main_arg4) (ix2 0 q) := by
  blk_simp [iblk, place t]; entry_read; pointwise; blk_ext [place t]

theorem shift (c : Dev nD) (t : Fin cfg0.N) (q : Fin 512) : iblk m c 5 t (ix2 0 q) = m ((c : Thread nD τ).loc main_arg5) (ix2 0 q) := by
  blk_simp [iblk, place t]; entry_read; pointwise; blk_ext [place t]

/-- The convolution's gated input. -/
abbrev gated (c : Dev nD) := val_main_v6 (F := Ideal) (m ((c : Thread nD τ).loc main_arg0)) (m ((c : Thread nD τ).loc main_arg1))
/-- Its block at a point. -/
abbrev block (c : Dev nD) (t : Fin cfg0.N) : S256x512.Idx → EReal := k0_pay3 (F := Ideal) (iblk m c 0 t) (iblk m c 1 t)

theorem block_eq (c : Dev nD) (t : Fin cfg0.N) (p : Fin 256) (q : Fin 512) : block m c t (ix2 p q) = gated m c (ix3 (seq t) (pos t p) q) := by
  pointwise [k0_pay3, val_main_v6, val_main_v5, val_main_v4, val_main_v3, val_main_v2, val_main_v1, val_main_v0, val_main_cst, val_main_cst_0]
  simp only [inputs, gates, zero_sub]

/-- What the carried rows hold after a point: the last 32 rows of its block. -/
theorem carried (c : Dev nD) (t : Fin cfg0.N) (r : Fin 32) (q : Fin 512) : (outsAt0 m c t.val t.isLt).2.2 (ix2 ⟨r.val, by omega⟩ q) = block m c t (ix2 ⟨224 + r.val, by omega⟩ q) := by
  have e : (256 + r.val) - 32 = 224 + r.val := by omega
  by_cases u : t.val % 8 = 0
  · rw [outsAt0_A m c t u]
    dsimp only
    unfold sout0_A_0 kernelRun0_A
    dsimp only
    refine (View.read_writes_cons_hit_of_coords _ _ _ _ _ (ix2 r q : S32x512.Idx) _ (by intro a; match a with | ⟨0, _⟩ => simp | ⟨1, _⟩ => simp)).trans ?_
    simp only [kernelRun0_A.sl.v1790]
    pointwise [k0_pay111]
    refine (congrFun (loadA c _ _ _ _ scM0_0 _ _ 256 0 _ _) (ix2 r q)).trans ?_
    dsimp only [ix2]
    simp only [line, if_neg (show ¬ 256 + r.val < 32 by omega), e]
    exact at2_of _ (ix2 ⟨224 + r.val, by omega⟩ q) _ _ rfl (Nat.zero_add _).symm
  · rw [outsAt0_B m c t u]
    dsimp only
    unfold sout0_B_0 kernelRun0_B
    dsimp only
    refine (View.read_writes_cons_hit_of_coords _ _ _ _ _ (ix2 r q : S32x512.Idx) _ (by intro a; match a with | ⟨0, _⟩ => simp | ⟨1, _⟩ => simp)).trans ?_
    simp only [kernelRun0_B.sl.v1790]
    pointwise [k0_pay111]
    refine (congrFun (loadB' c _ _ _ _ scM0_0 _ _ 256 0 _ _ (fun _ _ => 0) (by omega)) (ix2 r q)).trans ?_
    dsimp only [ix2]
    simp only [line, if_neg (show ¬ 256 + r.val < 32 by omega), e]
    exact at2_of _ (ix2 ⟨224 + r.val, by omega⟩ q) _ _ rfl (Nat.zero_add _).symm

/-- The rows before a point's block, as it finds them. -/
def before (c : Dev nD) (t : Fin cfg0.N) : ℕ → ℕ → EReal := if t.val % 8 = 0 then fun _ _ => 0 else at2 (outsAt0 m c (t.val - 1) (by have := t.isLt; omega)).2.2

/-- What a point leaves in the convolution's block. -/
theorem left (c : Dev nD) (t : Fin cfg0.N) (y : S256x512.Idx) : (outsAt0 m c t.val t.isLt).1 y = conv (block m c t) (before m c t) (iblk m c 2 t) (iblk m c 3 t) (y 0).val (y 1).val := by
  by_cases u : t.val % 8 = 0
  · rw [outsAt0_A m c t u, before, if_pos u]
    dsimp only
    unfold out0_A_6 kernelRun0_A
    exact rowsA _ _ _ _ _ _ _ _ _ _ _ _ _ _ _ _ _ _
  · rw [outsAt0_B m c t u, before, if_neg u]
    dsimp only
    unfold out0_B_6 kernelRun0_B
    exact rowsB _ _ _ _ _ _ _ _ _ _ _ _ _ _ _ _ _ _ _ _

end Cert.CfwdValue

end
-- ==== Proof.CfwdOut.lean ====
/- The forward pass of the causal convolution, its norm and SiLU. -/
module

public import proofs.«01_k».proof.Proof.Gen.KernelCfwdIdeal.Value
public import proofs.«01_k».proof.Proof.Gen.ReferenceCfwdIdeal.Read
public import proofs.«01_k».proof.Proof.Sums
public import proofs.«01_k».proof.Proof.Reals
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.CfwdValue

@[expose] public section

set_option maxRecDepth 16384

noncomputable section

open Idealize.ShloMosaic Idealize.ShloMosaic.TcCoe Idealize.SL.Sem
open Idealize.ShloMosaic.Pipeline (Dat)
open scoped BigOperators
open Cert.ReferenceCfwdIdeal.Read

namespace Cert.CfwdValue
open Cert.KernelCfwdIdeal Cert.KernelCfwdIdeal.Gen
variable (m : (ℓ : Loc nD τ sig) → Buf (Elt Ideal) ℓ)

theorem mask (k : Fin 31) (t s : Fin 2048) : val_main_v15 (F := Ideal) (ix3 k t s) = if s.val + 30 = t.val + k.val then 1#1 else 0#1 := by
  pointwise [val_main_v15, val_main_v14, val_main_v13, val_main_v12, val_main_v11, val_main_v10, val_main_v9, val_main_c]
  have e : (IntOp.addi (BitVec.ofNat 32 s.val) 30#32 = IntOp.addi (BitVec.ofNat 32 t.val) (BitVec.ofNat 32 k.val)) ↔ s.val + 30 = t.val + k.val := by
    simp only [IntOp.addi, ← BitVec.toNat_inj, BitVec.toNat_add, BitVec.toNat_ofNat]
    omega
  by_cases h : s.val + 30 = t.val + k.val
  · rw [if_pos h, e.mpr h]
    simp [IntOp.cmpi]
  · rw [if_neg h]
    exact congrArg BitVec.ofBool (beq_false_of_ne fun x => h (e.mp x))

theorem tap (a b) (n : Fin 2) (k : Fin 31) (t : Fin 2048) (q : Fin 512) : val_main_v19 (F := Ideal) a b (ix4 k n t q)
    = if h : 30 ≤ t.val + k.val then val_main_v6 (F := Ideal) a b (ix3 n ⟨t.val + k.val - 30, by omega⟩ q) else (0 : EReal) := by
  pointwise [val_main_v19, val_main_v18, val_main_call0_v3, val_main_call0_v2, val_main_call0_v1, val_main_call0_v0, val_main_cst_1, val_main_cst_2, val_main_v17, val_main_v16]
  simp only [mask]
  by_cases h : 30 ≤ t.val + k.val
  · rw [dif_pos h]
    refine (Finset.sum_eq_single (⟨t.val + k.val - 30, by omega⟩ : Fin 2048) (fun x _ hx => ?_) (fun h => absurd (Finset.mem_univ _) h)).trans ?_
    · rw [if_neg (fun e => hx (Fin.ext (by simp only; omega)))]
      refine (if_neg (by decide)).trans ?_
      simp only [id_eq]
      pointwise
    · rw [if_pos (by simp only; omega)]
      exact if_pos rfl
  · rw [dif_neg h]
    refine Finset.sum_eq_zero fun x _ => ?_
    rw [if_neg (by omega)]
    refine (if_neg (by decide)).trans ?_
    simp only [id_eq]
    pointwise

theorem result (a b w d) (n : Fin 2) (t : Fin 2048) (q : Fin 512) : val_main_v26 (F := Ideal) a b w d (ix3 n t q) = d (ix2 0 q) + ∑ k : Fin 31, w (ix3 0 k q) * val_main_v19 (F := Ideal) a b (ix4 k n t q) := by
  pointwise [val_main_v26, val_main_v25, val_main_v24, val_main_v23, val_main_v22, val_main_v21, val_main_v20, val_main_v8, val_main_v7, val_main_cst_3]
  exact add_comm _ _

/-- The row a tap reads. -/
theorem row (c : Dev nD) (t : Fin cfg0.N) (p : Fin 256) (k : Fin 31) (q : Fin 512) : line (block m c t) (before m c t) (2 + k.val + p.val) q.val
    = if h : 30 ≤ (pos t p).val + k.val then gated m c (ix3 (seq t) ⟨(pos t p).val + k.val - 30, by omega⟩ q) else (0 : EReal) := by
  have l := lt t
  have hp : (pos t p).val = t.val % 8 * 256 + p.val := rfl
  simp only [line, before]
  by_cases h : 2 + k.val + p.val < 32
  · rw [if_pos h]
    by_cases u : t.val % 8 = 0
    · rw [if_pos u, dif_neg (by omega)]
    · rw [if_neg u, dif_pos (by omega)]
      have hs : t.val - 1 < cfg0.N := by have := t.isLt; omega
      refine (at2_ix _ (⟨2 + k.val + p.val, by omega⟩ : Fin 288) q).trans ((carried m c ⟨t.val - 1, hs⟩ ⟨2 + k.val + p.val, h⟩ q).trans ((block_eq m c _ _ q).trans ?_))
      refine congrArg (gated m c) (congrArg₂ (ix3 · · q) (Fin.ext ?_) (Fin.ext ?_))
      · simp only [seq]; omega
      · simp only [pos]; omega
  · rw [if_neg h, dif_pos (by omega)]
    refine (at2_ix _ (⟨2 + k.val + p.val - 32, by omega⟩ : Fin 256) q).trans ((block_eq m c _ _ q).trans ?_)
    refine congrArg (gated m c) (congrArg₂ (ix3 · · q) rfl (Fin.ext ?_))
    simp only [pos]; omega

/-- The convolution. -/
abbrev convolved (c : Dev nD) := val_main_v26 (F := Ideal) (m ((c : Thread nD τ).loc main_arg0)) (m ((c : Thread nD τ).loc main_arg1)) (m ((c : Thread nD τ).loc main_arg2)) (m ((c : Thread nD τ).loc main_arg3))

theorem point (c : Dev nD) (t : Fin cfg0.N) (p : Fin 256) (q : Fin 512) : (outsAt0 m c t.val t.isLt).1 (ix2 p q) = convolved m c (ix3 (seq t) (pos t p) q) := by
  refine (left m c t _).trans (Eq.trans ?_ (result _ _ _ _ _ _ _).symm)
  refine congrArg₂ (· + ·) ((at2_ix _ 0 q).trans (bias m c t q)) ((Finset.sum_range _).trans (Finset.sum_congr rfl fun k _ => congrArg₂ (· * ·) ?_ ?_))
  · exact (at2_ix _ (⟨k.val, by omega⟩ : Fin 32) q).trans (weights m c t k q)
  · exact (row m c t p k q).trans (tap _ _ _ _ _ _).symm

/-- The convolution's result. -/
theorem convOut (c : Dev nD) : (dats m 0 c).arrAt 6 (cfgs 0).N = val_main_v52 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨p, q, rfl⟩ : ∃ (p : Fin 256) (q : Fin 512), y = ix2 p q := ⟨y 0, y 1, eq_ix2 y⟩
  have e : ((View.whole main_v4_0).slice (win0_6.rect t)).emb (ix2 p q) = ix2 ⟨t.val * 256 + p.val, bound t p⟩ q := by blk_ext [place t]
  blk_simp
  rw [e, after0_6, point]
  pointwise [val_main_v52]
  simp only [seq_of, pos_of]

/-- The second result's block at a point, of the convolution's rows there. -/
abbrev ended (c : Dev nD) (t : Fin cfg0.N) (Y : Vec Ideal S256x512 .f32) := k0_pay1 (F := Ideal) (k0_pay112 Y) (iblk m c 4 t) (iblk m c 5 t) (k0_pay113 (k0_pay112 Y))

theorem last (c : Dev nD) (t : Fin cfg0.N) : (outsAt0 m c t.val t.isLt).2.1 = ended m c t (outsAt0 m c t.val t.isLt).1 := by
  by_cases u : t.val % 8 = 0
  · rw [outsAt0_A m c t u]
    dsimp only
    unfold out0_A_7 kernelRun0_A
    dsimp only
    funext j
    refine (View.read_writes_cons_hit_of_coords _ _ _ _ _ (j : S256x512.Idx) _ (by intro a; match a with | ⟨0, _⟩ => simp | ⟨1, _⟩ => simp)).trans ?_
    have g : kernelRun0_A.sl.r_95 c (ms0_4 t) (hs0_4 t) (iblk m c 4 t) = iblk m c 4 t := whole _ _ _ _
    have b : kernelRun0_A.sl.r_96 c (ms0_5 t) (hs0_5 t) (iblk m c 5 t) = iblk m c 5 t := whole _ _ _ _
    rw [g, b]
    refine congrFun (congrArg (ended m c t) (a₁ := kernelRun0_A.sl.v1794 c _ _ _ _ _ _ _ _ _ _ _ _ _ _ _) (funext fun y => ?_)) j
    refine (View.readAt_apply _ _ _).trans ((rowsA c _ _ _ _ _ _ _ _ _ _ _ _ _ _ _ _ _).trans ?_)
    unfold out0_A_6 kernelRun0_A
    refine Eq.trans ?_ (rowsA c _ _ _ _ _ _ _ _ _ _ _ _ _ _ _ _ _).symm
    exact congrArg₂ _ ((Nat.zero_add _).trans (Nat.one_mul _)) ((Nat.zero_add _).trans (Nat.one_mul _))
  · rw [outsAt0_B m c t u]
    dsimp only
    unfold out0_B_7 kernelRun0_B
    dsimp only
    funext j
    refine (View.read_writes_cons_hit_of_coords _ _ _ _ _ (j : S256x512.Idx) _ (by intro a; match a with | ⟨0, _⟩ => simp | ⟨1, _⟩ => simp)).trans ?_
    have g : kernelRun0_B.sl.r_96 c (ms0_4 t) (hs0_4 t) (iblk m c 4 t) = iblk m c 4 t := whole _ _ _ _
    have b : kernelRun0_B.sl.r_97 c (ms0_5 t) (hs0_5 t) (iblk m c 5 t) = iblk m c 5 t := whole _ _ _ _
    rw [g, b]
    refine congrFun (congrArg (ended m c t) (a₁ := kernelRun0_B.sl.v1794 c _ _ _ _ _ _ _ _ _ _ _ _ _ _ _ _ _) (funext fun y => ?_)) j
    refine (View.readAt_apply _ _ _).trans ((rowsB c _ _ _ _ _ _ _ _ _ _ _ _ _ _ _ _ _ _ _).trans ?_)
    unfold out0_B_6 kernelRun0_B
    refine Eq.trans ?_ (rowsB c _ _ _ _ _ _ _ _ _ _ _ _ _ _ _ _ _ _ _).symm
    exact congrArg₂ _ ((Nat.zero_add _).trans (Nat.one_mul _)) ((Nat.zero_add _).trans (Nat.one_mul _))

/-- The normed convolution times its sigmoid. -/
theorem mixOut (c : Dev nD) : (dats m 0 c).arrAt 7 (cfgs 0).N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨p, q, rfl⟩ : ∃ (p : Fin 256) (q : Fin 512), y = ix2 p q := ⟨y 0, y 1, eq_ix2 y⟩
  have e : ((View.whole main_v4_1).slice (win0_7.rect t)).emb (ix2 p q) = ix2 ⟨t.val * 256 + p.val, bound t p⟩ q := by blk_ext [place t]
  blk_simp
  rw [e, after0_7, last]
  unfold ended
  pointwise [k0_pay1, k0_pay112, k0_pay113, val_main_v54, val_main_v53, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_call1_v0, val_main_call1_v1, val_main_call1_v2, val_main_call1_v3, val_main_call1_v4, val_main_call1_v5, val_main_call1_cst, val_main_call1_cst_0, val_main_cst_4, val_main_cst_5, val_main_cst_6, val_main_cst_7, val_main_cst_8]
  simp only [point, gain, shift, seq_of, pos_of, zero_sub]

end Cert.CfwdValue

end
-- ==== Proof.CfwdEnd.lean ====
/- What is claimed of the forward convolution, its norm and its swish. -/
module

public import proofs.«01_k».proof.Defs
public import proofs.«01_k».proof.Proof.Gen.KernelCfwd.Frame
public import proofs.«01_k».proof.Proof.Gen.ReferenceCfwdIdeal.Run
public import proofs.«01_k».proof.Proof.CfwdOut
public import Idealize.ShloMosaic.Adequacy
public import Idealize.ShloMosaic.Init

@[expose] public section

set_option maxRecDepth 131072
set_option maxHeartbeats 2000000

noncomputable section

namespace Cert.CfwdEnd

open Idealize.ShloMosaic Idealize.SL.Sem

theorem frame_kernel : Cert.quiescent_KernelCfwd := fun m g _ => Cert.KernelCfwd.Gen.frame m g

theorem frame_ideal : Cert.quiescent_KernelCfwdIdeal := fun m g _ => Cert.KernelCfwdIdeal.Gen.frame m g

theorem frame_reference : Cert.quiescent_ReferenceCfwdIdeal := fun m g _ =>
  (θ_run Cert.ReferenceCfwdIdeal.defs _ _).mono (fun r h => ⟨fun c => (h c).2.2, sem_eq_zero_of_no_sems (by decide) r.2⟩)
    (Cert.ReferenceCfwdIdeal.Value.run (F := Ideal) m g)

theorem algebraic : Cert.algebraic_KernelCfwdIdeal_ReferenceCfwdIdeal := by
  pair_intro
  · run_from Cert.KernelCfwdIdeal.Value.run_blocks m g
  · run_from Cert.ReferenceCfwdIdeal.Value.run m' g'
    · refine (Cert.ReferenceCfwdIdeal.Read.val_main_v52_eq (F := Ideal) (m ((c.tc : Thread Cert.KernelCfwdIdeal.nD Cert.KernelCfwdIdeal.τ).loc Cert.KernelCfwdIdeal.main_arg0)) (m ((c.tc : Thread Cert.KernelCfwdIdeal.nD Cert.KernelCfwdIdeal.τ).loc Cert.KernelCfwdIdeal.main_arg1)) (m ((c.tc : Thread Cert.KernelCfwdIdeal.nD Cert.KernelCfwdIdeal.τ).loc Cert.KernelCfwdIdeal.main_arg2)) (m ((c.tc : Thread Cert.KernelCfwdIdeal.nD Cert.KernelCfwdIdeal.τ).loc Cert.KernelCfwdIdeal.main_arg3))).trans ?_
      exact (Cert.CfwdValue.convOut m c).symm
    · rw [Cert.ReferenceCfwdIdeal.Read.val_main_v54_eq m' c]
      simp only [hagree c]
      exact (Cert.CfwdValue.mixOut m c).symm

end Cert.CfwdEnd

end
-- ==== Proof.lean ====
/- Every claim of the certificate, from the modules that prove it. -/
module

public import proofs.«01_k».proof.Defs
public import proofs.«01_k».proof.Proof.Gen.KernelMem.Frame
public import proofs.«01_k».proof.Proof.Gen.KernelMemIdeal.Frame
public import proofs.«01_k».proof.Proof.Gen.KernelMemIdeal.Value
public import proofs.«01_k».proof.Proof.Gen.ReferenceMemIdeal.Run
public import proofs.«01_k».proof.Proof.Gen.ReferenceMemIdeal.Read
public import proofs.«01_k».proof.Proof.MemEnd
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.InEnd
public import proofs.«01_k».proof.Proof.Gen.Pre_finite_in
public import proofs.«01_k».proof.Proof.Gen.KernelGate.Frame
public import proofs.«01_k».proof.Proof.Gen.KernelGateIdeal.Frame
public import proofs.«01_k».proof.Proof.Gen.KernelGateIdeal.Value
public import proofs.«01_k».proof.Proof.Gen.ReferenceGateIdeal.Run
public import proofs.«01_k».proof.Proof.Gen.ReferenceGateIdeal.Read
public import proofs.«01_k».proof.Proof.GateEnd
public import proofs.«01_k».proof.Proof.Gen.Pre_finite_gate
public import proofs.«01_k».proof.Proof.Gen.KernelMid.Frame
public import proofs.«01_k».proof.Proof.Gen.KernelMidIdeal.Frame
public import proofs.«01_k».proof.Proof.Gen.KernelMidIdeal.Value
public import proofs.«01_k».proof.Proof.Gen.ReferenceMidIdeal.Run
public import proofs.«01_k».proof.Proof.Gen.ReferenceMidIdeal.Read
public import proofs.«01_k».proof.Proof.MidEnd
public import proofs.«01_k».proof.Proof.Gen.Pre_finite_mid
public import proofs.«01_k».proof.Proof.Gen.KernelFfn
public import proofs.«01_k».proof.Proof.Gen.KernelFfnIdeal
public import proofs.«01_k».proof.Proof.Gen.ReferenceFfnIdeal.Run
public import proofs.«01_k».proof.Proof.Gen.ReferenceFfnIdeal.Read
public import proofs.«01_k».proof.Proof.FfnEnd
public import proofs.«01_k».proof.Proof.Gen.Pre_finite_ffn
public import proofs.«01_k».proof.Proof.Gen.KernelLoss
public import proofs.«01_k».proof.Proof.Gen.KernelLossIdeal
public import proofs.«01_k».proof.Proof.Gen.ReferenceLossIdeal.Run
public import proofs.«01_k».proof.Proof.Gen.ReferenceLossIdeal.Read
public import proofs.«01_k».proof.Proof.LossEnd
public import proofs.«01_k».proof.Proof.Gen.Pre_finite_loss
public import proofs.«01_k».proof.Proof.Gen.KernelFox
public import proofs.«01_k».proof.Proof.Gen.KernelFoxIdeal
public import proofs.«01_k».proof.Proof.FoxEnd
public import proofs.«01_k».proof.Proof.Gen.KernelFmid.Frame
public import proofs.«01_k».proof.Proof.Gen.KernelFmidIdeal.Frame
public import proofs.«01_k».proof.Proof.Gen.KernelFmidIdeal.Value
public import proofs.«01_k».proof.Proof.Gen.ReferenceFmidIdeal.Run
public import proofs.«01_k».proof.Proof.Gen.ReferenceFmidIdeal.Read
public import proofs.«01_k».proof.Proof.FmidEnd
public import proofs.«01_k».proof.Proof.Gen.KernelKv.Frame
public import proofs.«01_k».proof.Proof.Gen.KernelKvIdeal.Frame
public import proofs.«01_k».proof.Proof.Gen.KernelKvIdeal.Value
public import proofs.«01_k».proof.Proof.Gen.ReferenceKvIdeal.Run
public import proofs.«01_k».proof.Proof.Gen.ReferenceKvIdeal.Read
public import proofs.«01_k».proof.Proof.KvEnd
public import proofs.«01_k».proof.Proof.Gen.KernelFin.Frame
public import proofs.«01_k».proof.Proof.Gen.KernelFinIdeal.Frame
public import proofs.«01_k».proof.Proof.Gen.KernelFinIdeal.Value
public import proofs.«01_k».proof.Proof.Gen.ReferenceFinIdeal.Run
public import proofs.«01_k».proof.Proof.Gen.ReferenceFinIdeal.Read
public import proofs.«01_k».proof.Proof.FinEnd
public import proofs.«01_k».proof.Proof.Gen.Pre_finite_fin
public import proofs.«01_k».proof.Proof.CfwdEnd
public import Idealize.ShloMosaic.Adequacy
public import Idealize.ShloMosaic.Init

@[expose] public section

noncomputable section

namespace Cert.Proof

theorem claim : Cert.Claim := ⟨Cert.KernelMem.Gen.facts,
  Cert.KernelMemIdeal.Gen.facts,
  Cert.ReferenceMemIdeal.Gen.facts,
  Cert.KernelIn.Gen.facts,
  Cert.KernelInIdeal.Gen.facts,
  Cert.ReferenceInIdeal.Gen.facts,
  Cert.KernelGate.Gen.facts,
  Cert.KernelGateIdeal.Gen.facts,
  Cert.ReferenceGateIdeal.Gen.facts,
  Cert.KernelMid.Gen.facts,
  Cert.KernelMidIdeal.Gen.facts,
  Cert.ReferenceMidIdeal.Gen.facts,
  Cert.KernelFfn.Gen.facts,
  Cert.KernelFfnIdeal.Gen.facts,
  Cert.ReferenceFfnIdeal.Gen.facts,
  Cert.KernelLoss.Gen.facts,
  Cert.KernelLossIdeal.Gen.facts,
  Cert.ReferenceLossIdeal.Gen.facts,
  Cert.KernelFox.Gen.facts,
  Cert.KernelFoxIdeal.Gen.facts,
  Cert.KernelFmid.Gen.facts,
  Cert.KernelFmidIdeal.Gen.facts,
  Cert.ReferenceFmidIdeal.Gen.facts,
  Cert.KernelKv.Gen.facts,
  Cert.KernelKvIdeal.Gen.facts,
  Cert.ReferenceKvIdeal.Gen.facts,
  Cert.KernelFin.Gen.facts,
  Cert.KernelFinIdeal.Gen.facts,
  Cert.ReferenceFinIdeal.Gen.facts,
  Cert.KernelCfwd.Gen.facts,
  Cert.KernelCfwdIdeal.Gen.facts,
  Cert.ReferenceCfwdIdeal.Gen.facts,
  Cert.Pre_finite_in.Gen.facts,
  Cert.Pre_finite_gate.Gen.facts,
  Cert.Pre_finite_mid.Gen.facts,
  Cert.Pre_finite_ffn.Gen.facts,
  Cert.Pre_finite_loss.Gen.facts,
  Cert.Pre_finite_fin.Gen.facts,
  Cert.MemEnd.frame_kernel,
  Cert.MemEnd.frame_ideal,
  Cert.MemEnd.frame_reference,
  Cert.InEnd.frame_kernel,
  Cert.InEnd.frame_ideal,
  fun m g _ => Cert.InEnd.frame_ideal m g trivial,
  Cert.InEnd.frame_reference,
  fun m g _ => Cert.InEnd.frame_reference m g trivial,
  Cert.GateEnd.frame_kernel,
  Cert.GateEnd.frame_ideal,
  fun m g _ => Cert.GateEnd.frame_ideal m g trivial,
  Cert.GateEnd.frame_reference,
  fun m g _ => Cert.GateEnd.frame_reference m g trivial,
  Cert.MidEnd.frame_kernel,
  Cert.MidEnd.frame_ideal,
  fun m g _ => Cert.MidEnd.frame_ideal m g trivial,
  Cert.MidEnd.frame_reference,
  fun m g _ => Cert.MidEnd.frame_reference m g trivial,
  Cert.FfnEnd.frame_kernel,
  Cert.FfnEnd.frame_ideal,
  fun m g _ => Cert.FfnEnd.frame_ideal m g trivial,
  Cert.FfnEnd.frame_reference,
  fun m g _ => Cert.FfnEnd.frame_reference m g trivial,
  Cert.LossEnd.frame_kernel,
  Cert.LossEnd.frame_ideal,
  fun m g _ => Cert.LossEnd.frame_ideal m g trivial,
  Cert.LossEnd.frame_reference,
  fun m g _ => Cert.LossEnd.frame_reference m g trivial,
  Cert.FoxEnd.frame_kernel,
  Cert.FoxEnd.frame_ideal,
  Cert.FmidEnd.frame_kernel,
  Cert.FmidEnd.frame_ideal,
  Cert.FmidEnd.frame_reference,
  Cert.KvEnd.frame_kernel,
  Cert.KvEnd.frame_ideal,
  Cert.KvEnd.frame_reference,
  Cert.FinEnd.frame_kernel,
  Cert.FinEnd.frame_ideal,
  fun m g _ => Cert.FinEnd.frame_ideal m g trivial,
  Cert.FinEnd.frame_reference,
  fun m g _ => Cert.FinEnd.frame_reference m g trivial,
  Cert.CfwdEnd.frame_kernel,
  Cert.CfwdEnd.frame_ideal,
  Cert.CfwdEnd.frame_reference,
  trivial,
  Cert.MemEnd.algebraic,
  trivial,
  Cert.InEnd.algebraic,
  trivial,
  Cert.GateEnd.algebraic,
  trivial,
  Cert.MidEnd.algebraic,
  trivial,
  Cert.FfnEnd.algebraic,
  trivial,
  Cert.LossEnd.algebraic,
  trivial,
  trivial,
  Cert.FmidEnd.algebraic,
  trivial,
  Cert.KvEnd.algebraic,
  trivial,
  Cert.FinEnd.algebraic,
  trivial,
  Cert.CfwdEnd.algebraic⟩

end Cert.Proof

end
